-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_DwUp (m : (ℓ : Loc Cert.DwUp.nD Cert.DwUp.τ Cert.DwUp.sig) → Buf (Elt Bits) ℓ) : Prop :=
  True

def Pre_DwUpIdeal (m : (ℓ : Loc Cert.DwUpIdeal.nD Cert.DwUpIdeal.τ Cert.DwUpIdeal.sig) → Buf (Elt Ideal) ℓ) : Prop :=
  True

def Pre_DwUpReferenceIdeal (m : (ℓ : Loc Cert.DwUpReferenceIdeal.nD Cert.DwUpReferenceIdeal.τ Cert.DwUpReferenceIdeal.sig) → Buf (Elt Ideal) ℓ) : Prop :=
  True

def Pre_DwDown (m : (ℓ : Loc Cert.DwDown.nD Cert.DwDown.τ Cert.DwDown.sig) → Buf (Elt Bits) ℓ) : Prop :=
  True

def Pre_DwDownIdeal (m : (ℓ : Loc Cert.DwDownIdeal.nD Cert.DwDownIdeal.τ Cert.DwDownIdeal.sig) → Buf (Elt Ideal) ℓ) : Prop :=
  True

def Pre_DwDownReferenceIdeal (m : (ℓ : Loc Cert.DwDownReferenceIdeal.nD Cert.DwDownReferenceIdeal.τ Cert.DwDownReferenceIdeal.sig) → Buf (Elt Ideal) ℓ) : Prop :=
  True

def Pre_MlpDown (m : (ℓ : Loc Cert.MlpDown.nD Cert.MlpDown.τ Cert.MlpDown.sig) → Buf (Elt Bits) ℓ) : Prop :=
  True

def Pre_MlpDownIdeal (m : (ℓ : Loc Cert.MlpDownIdeal.nD Cert.MlpDownIdeal.τ Cert.MlpDownIdeal.sig) → Buf (Elt Ideal) ℓ) : Prop :=
  True

def Pre_MlpDownReferenceIdeal (m : (ℓ : Loc Cert.MlpDownReferenceIdeal.nD Cert.MlpDownReferenceIdeal.τ Cert.MlpDownReferenceIdeal.sig) → Buf (Elt Ideal) ℓ) : Prop :=
  True

def Pre_MlpUp (m : (ℓ : Loc Cert.MlpUp.nD Cert.MlpUp.τ Cert.MlpUp.sig) → Buf (Elt Bits) ℓ) : Prop :=
  True

def Pre_MlpUpIdeal (m : (ℓ : Loc Cert.MlpUpIdeal.nD Cert.MlpUpIdeal.τ Cert.MlpUpIdeal.sig) → Buf (Elt Ideal) ℓ) : Prop :=
  True

def Pre_MlpUpReferenceIdeal (m : (ℓ : Loc Cert.MlpUpReferenceIdeal.nD Cert.MlpUpReferenceIdeal.τ Cert.MlpUpReferenceIdeal.sig) → Buf (Elt Ideal) ℓ) : Prop :=
  True

def Pre_MlpUpFwd (m : (ℓ : Loc Cert.MlpUpFwd.nD Cert.MlpUpFwd.τ Cert.MlpUpFwd.sig) → Buf (Elt Bits) ℓ) : Prop :=
  True

def Pre_MlpUpFwdIdeal (m : (ℓ : Loc Cert.MlpUpFwdIdeal.nD Cert.MlpUpFwdIdeal.τ Cert.MlpUpFwdIdeal.sig) → Buf (Elt Ideal) ℓ) : Prop :=
  True

def Pre_MlpUpFwdReferenceIdeal (m : (ℓ : Loc Cert.MlpUpFwdReferenceIdeal.nD Cert.MlpUpFwdReferenceIdeal.τ Cert.MlpUpFwdReferenceIdeal.sig) → Buf (Elt Ideal) ℓ) : Prop :=
  True

def Pre_MlpDownFwd (m : (ℓ : Loc Cert.MlpDownFwd.nD Cert.MlpDownFwd.τ Cert.MlpDownFwd.sig) → Buf (Elt Bits) ℓ) : Prop :=
  True

def Pre_MlpDownFwdIdeal (m : (ℓ : Loc Cert.MlpDownFwdIdeal.nD Cert.MlpDownFwdIdeal.τ Cert.MlpDownFwdIdeal.sig) → Buf (Elt Ideal) ℓ) : Prop :=
  True

def Pre_MlpDownFwdReferenceIdeal (m : (ℓ : Loc Cert.MlpDownFwdReferenceIdeal.nD Cert.MlpDownFwdReferenceIdeal.τ Cert.MlpDownFwdReferenceIdeal.sig) → Buf (Elt Ideal) ℓ) : Prop :=
  True

def Pre_PleBwd (m : (ℓ : Loc Cert.PleBwd.nD Cert.PleBwd.τ Cert.PleBwd.sig) → Buf (Elt Bits) ℓ) : Prop :=
  True

def Pre_PleBwdIdeal (m : (ℓ : Loc Cert.PleBwdIdeal.nD Cert.PleBwdIdeal.τ Cert.PleBwdIdeal.sig) → Buf (Elt Ideal) ℓ) : Prop :=
  True

def Pre_PleBwdReferenceIdeal (m : (ℓ : Loc Cert.PleBwdReferenceIdeal.nD Cert.PleBwdReferenceIdeal.τ Cert.PleBwdReferenceIdeal.sig) → Buf (Elt Ideal) ℓ) : Prop :=
  True

def Pre_PleFwd (m : (ℓ : Loc Cert.PleFwd.nD Cert.PleFwd.τ Cert.PleFwd.sig) → Buf (Elt Bits) ℓ) : Prop :=
  True

def Pre_PleFwdIdeal (m : (ℓ : Loc Cert.PleFwdIdeal.nD Cert.PleFwdIdeal.τ Cert.PleFwdIdeal.sig) → Buf (Elt Ideal) ℓ) : Prop :=
  True

def Pre_PleFwdReferenceIdeal (m : (ℓ : Loc Cert.PleFwdReferenceIdeal.nD Cert.PleFwdReferenceIdeal.τ Cert.PleFwdReferenceIdeal.sig) → Buf (Elt Ideal) ℓ) : Prop :=
  True

def Pre_DwIn (m : (ℓ : Loc Cert.DwIn.nD Cert.DwIn.τ Cert.DwIn.sig) → Buf (Elt Bits) ℓ) : Prop :=
  True

def Pre_DwInIdeal (m : (ℓ : Loc Cert.DwInIdeal.nD Cert.DwInIdeal.τ Cert.DwInIdeal.sig) → Buf (Elt Ideal) ℓ) : Prop :=
  True

def Pre_DwInReferenceIdeal (m : (ℓ : Loc Cert.DwInReferenceIdeal.nD Cert.DwInReferenceIdeal.τ Cert.DwInReferenceIdeal.sig) → Buf (Elt Ideal) ℓ) : Prop :=
  True

def Pre_MixIn (m : (ℓ : Loc Cert.MixIn.nD Cert.MixIn.τ Cert.MixIn.sig) → Buf (Elt Bits) ℓ) : Prop :=
  True

def Pre_MixInIdeal (m : (ℓ : Loc Cert.MixInIdeal.nD Cert.MixInIdeal.τ Cert.MixInIdeal.sig) → Buf (Elt Ideal) ℓ) : Prop :=
  True

def Pre_MixInReferenceIdeal (m : (ℓ : Loc Cert.MixInReferenceIdeal.nD Cert.MixInReferenceIdeal.τ Cert.MixInReferenceIdeal.sig) → Buf (Elt Ideal) ℓ) : Prop :=
  True

def Pre_MixInFwd (m : (ℓ : Loc Cert.MixInFwd.nD Cert.MixInFwd.τ Cert.MixInFwd.sig) → Buf (Elt Bits) ℓ) : Prop :=
  True

def Pre_MixInFwdIdeal (m : (ℓ : Loc Cert.MixInFwdIdeal.nD Cert.MixInFwdIdeal.τ Cert.MixInFwdIdeal.sig) → Buf (Elt Ideal) ℓ) : Prop :=
  True

def Pre_MixInFwdReferenceIdeal (m : (ℓ : Loc Cert.MixInFwdReferenceIdeal.nD Cert.MixInFwdReferenceIdeal.τ Cert.MixInFwdReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DwUp [hDwUp : Cert.DwUp.Facts] : Prop :=
  ∀ (m : (ℓ : Loc Cert.DwUp.nD Cert.DwUp.τ Cert.DwUp.sig) → Buf (Elt Bits) ℓ) (g : Dev Cert.DwUp.nD → PrngReg), Pre_DwUp m →
    θ_run (Cert.DwUp.defs (F := Bits)) (onTc (τ := Cert.DwUp.τ) (Cert.DwUp.main (F := Bits))) ⟨m, fun _ => 0, g⟩ (fun r => (∀ c : Dev Cert.DwUp.nD,
      r.2.mem ((c.tc : Thread Cert.DwUp.nD Cert.DwUp.τ).loc Cert.DwUp.main_arg0) = m ((c.tc : Thread Cert.DwUp.nD Cert.DwUp.τ).loc Cert.DwUp.main_arg0)
      ∧ r.2.mem ((c.tc : Thread Cert.DwUp.nD Cert.DwUp.τ).loc Cert.DwUp.main_arg1) = m ((c.tc : Thread Cert.DwUp.nD Cert.DwUp.τ).loc Cert.DwUp.main_arg1)
      ∧ r.2.mem ((c.tc : Thread Cert.DwUp.nD Cert.DwUp.τ).loc Cert.DwUp.main_arg2) = m ((c.tc : Thread Cert.DwUp.nD Cert.DwUp.τ).loc Cert.DwUp.main_arg2)
      ∧ r.2.mem ((c.tc : Thread Cert.DwUp.nD Cert.DwUp.τ).loc Cert.DwUp.main_arg3) = m ((c.tc : Thread Cert.DwUp.nD Cert.DwUp.τ).loc Cert.DwUp.main_arg3))
      ∧ r.2.sem = fun _ => 0)

def quiescent_DwUpIdeal [hDwUpIdeal : Cert.DwUpIdeal.Facts] : Prop :=
  ∀ (m : (ℓ : Loc Cert.DwUpIdeal.nD Cert.DwUpIdeal.τ Cert.DwUpIdeal.sig) → Buf (Elt Ideal) ℓ) (g : Dev Cert.DwUpIdeal.nD → PrngReg), Pre_DwUpIdeal m →
    θ_run (Cert.DwUpIdeal.defs (F := Ideal)) (onTc (τ := Cert.DwUpIdeal.τ) (Cert.DwUpIdeal.main (F := Ideal))) ⟨m, fun _ => 0, g⟩ (fun r => (∀ c : Dev Cert.DwUpIdeal.nD,
      r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
      ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
      ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
      ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ r.2.sem = fun _ => 0)

def quiescent_DwUpReferenceIdeal [hDwUpReferenceIdeal : Cert.DwUpReferenceIdeal.Facts] : Prop :=
  ∀ (m : (ℓ : Loc Cert.DwUpReferenceIdeal.nD Cert.DwUpReferenceIdeal.τ Cert.DwUpReferenceIdeal.sig) → Buf (Elt Ideal) ℓ) (g : Dev Cert.DwUpReferenceIdeal.nD → PrngReg), Pre_DwUpReferenceIdeal m →
    θ_run (Cert.DwUpReferenceIdeal.defs (F := Ideal)) (onTc (τ := Cert.DwUpReferenceIdeal.τ) (Cert.DwUpReferenceIdeal.main (F := Ideal))) ⟨m, fun _ => 0, g⟩ (fun r => (∀ c : Dev Cert.DwUpReferenceIdeal.nD,
      r.2.mem ((c.tc : Thread Cert.DwUpReferenceIdeal.nD Cert.DwUpReferenceIdeal.τ).loc Cert.DwUpReferenceIdeal.main_arg0) = m ((c.tc : Thread Cert.DwUpReferenceIdeal.nD Cert.DwUpReferenceIdeal.τ).loc Cert.DwUpReferenceIdeal.main_arg0)
      ∧ r.2.mem ((c.tc : Thread Cert.DwUpReferenceIdeal.nD Cert.DwUpReferenceIdeal.τ).loc Cert.DwUpReferenceIdeal.main_arg1) = m ((c.tc : Thread Cert.DwUpReferenceIdeal.nD Cert.DwUpReferenceIdeal.τ).loc Cert.DwUpReferenceIdeal.main_arg1)
      ∧ r.2.mem ((c.tc : Thread Cert.DwUpReferenceIdeal.nD Cert.DwUpReferenceIdeal.τ).loc Cert.DwUpReferenceIdeal.main_arg2) = m ((c.tc : Thread Cert.DwUpReferenceIdeal.nD Cert.DwUpReferenceIdeal.τ).loc Cert.DwUpReferenceIdeal.main_arg2)
      ∧ r.2.mem ((c.tc : Thread Cert.DwUpReferenceIdeal.nD Cert.DwUpReferenceIdeal.τ).loc Cert.DwUpReferenceIdeal.main_arg3) = m ((c.tc : Thread Cert.DwUpReferenceIdeal.nD Cert.DwUpReferenceIdeal.τ).loc Cert.DwUpReferenceIdeal.main_arg3))
      ∧ r.2.sem = fun _ => 0)

def quiescent_DwDown [hDwDown : Cert.DwDown.Facts] : Prop :=
  ∀ (m : (ℓ : Loc Cert.DwDown.nD Cert.DwDown.τ Cert.DwDown.sig) → Buf (Elt Bits) ℓ) (g : Dev Cert.DwDown.nD → PrngReg), Pre_DwDown m →
    θ_run (Cert.DwDown.defs (F := Bits)) (onTc (τ := Cert.DwDown.τ) (Cert.DwDown.main (F := Bits))) ⟨m, fun _ => 0, g⟩ (fun r => (∀ c : Dev Cert.DwDown.nD,
      r.2.mem ((c.tc : Thread Cert.DwDown.nD Cert.DwDown.τ).loc Cert.DwDown.main_arg0) = m ((c.tc : Thread Cert.DwDown.nD Cert.DwDown.τ).loc Cert.DwDown.main_arg0)
      ∧ r.2.mem ((c.tc : Thread Cert.DwDown.nD Cert.DwDown.τ).loc Cert.DwDown.main_arg1) = m ((c.tc : Thread Cert.DwDown.nD Cert.DwDown.τ).loc Cert.DwDown.main_arg1)
      ∧ r.2.mem ((c.tc : Thread Cert.DwDown.nD Cert.DwDown.τ).loc Cert.DwDown.main_arg2) = m ((c.tc : Thread Cert.DwDown.nD Cert.DwDown.τ).loc Cert.DwDown.main_arg2))
      ∧ r.2.sem = fun _ => 0)

def quiescent_DwDownIdeal [hDwDownIdeal : Cert.DwDownIdeal.Facts] : Prop :=
  ∀ (m : (ℓ : Loc Cert.DwDownIdeal.nD Cert.DwDownIdeal.τ Cert.DwDownIdeal.sig) → Buf (Elt Ideal) ℓ) (g : Dev Cert.DwDownIdeal.nD → PrngReg), Pre_DwDownIdeal m →
    θ_run (Cert.DwDownIdeal.defs (F := Ideal)) (onTc (τ := Cert.DwDownIdeal.τ) (Cert.DwDownIdeal.main (F := Ideal))) ⟨m, fun _ => 0, g⟩ (fun r => (∀ c : Dev Cert.DwDownIdeal.nD,
      r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
      ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
      ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ r.2.sem = fun _ => 0)

def quiescent_DwDownReferenceIdeal [hDwDownReferenceIdeal : Cert.DwDownReferenceIdeal.Facts] : Prop :=
  ∀ (m : (ℓ : Loc Cert.DwDownReferenceIdeal.nD Cert.DwDownReferenceIdeal.τ Cert.DwDownReferenceIdeal.sig) → Buf (Elt Ideal) ℓ) (g : Dev Cert.DwDownReferenceIdeal.nD → PrngReg), Pre_DwDownReferenceIdeal m →
    θ_run (Cert.DwDownReferenceIdeal.defs (F := Ideal)) (onTc (τ := Cert.DwDownReferenceIdeal.τ) (Cert.DwDownReferenceIdeal.main (F := Ideal))) ⟨m, fun _ => 0, g⟩ (fun r => (∀ c : Dev Cert.DwDownReferenceIdeal.nD,
      r.2.mem ((c.tc : Thread Cert.DwDownReferenceIdeal.nD Cert.DwDownReferenceIdeal.τ).loc Cert.DwDownReferenceIdeal.main_arg0) = m ((c.tc : Thread Cert.DwDownReferenceIdeal.nD Cert.DwDownReferenceIdeal.τ).loc Cert.DwDownReferenceIdeal.main_arg0)
      ∧ r.2.mem ((c.tc : Thread Cert.DwDownReferenceIdeal.nD Cert.DwDownReferenceIdeal.τ).loc Cert.DwDownReferenceIdeal.main_arg1) = m ((c.tc : Thread Cert.DwDownReferenceIdeal.nD Cert.DwDownReferenceIdeal.τ).loc Cert.DwDownReferenceIdeal.main_arg1)
      ∧ r.2.mem ((c.tc : Thread Cert.DwDownReferenceIdeal.nD Cert.DwDownReferenceIdeal.τ).loc Cert.DwDownReferenceIdeal.main_arg2) = m ((c.tc : Thread Cert.DwDownReferenceIdeal.nD Cert.DwDownReferenceIdeal.τ).loc Cert.DwDownReferenceIdeal.main_arg2))
      ∧ r.2.sem = fun _ => 0)

def quiescent_MlpDown [hMlpDown : Cert.MlpDown.Facts] : Prop :=
  ∀ (m : (ℓ : Loc Cert.MlpDown.nD Cert.MlpDown.τ Cert.MlpDown.sig) → Buf (Elt Bits) ℓ) (g : Dev Cert.MlpDown.nD → PrngReg), Pre_MlpDown m →
    θ_run (Cert.MlpDown.defs (F := Bits)) (onTc (τ := Cert.MlpDown.τ) (Cert.MlpDown.main (F := Bits))) ⟨m, fun _ => 0, g⟩ (fun r => (∀ c : Dev Cert.MlpDown.nD,
      r.2.mem ((c.tc : Thread Cert.MlpDown.nD Cert.MlpDown.τ).loc Cert.MlpDown.main_arg0) = m ((c.tc : Thread Cert.MlpDown.nD Cert.MlpDown.τ).loc Cert.MlpDown.main_arg0)
      ∧ r.2.mem ((c.tc : Thread Cert.MlpDown.nD Cert.MlpDown.τ).loc Cert.MlpDown.main_arg1) = m ((c.tc : Thread Cert.MlpDown.nD Cert.MlpDown.τ).loc Cert.MlpDown.main_arg1)
      ∧ r.2.mem ((c.tc : Thread Cert.MlpDown.nD Cert.MlpDown.τ).loc Cert.MlpDown.main_arg2) = m ((c.tc : Thread Cert.MlpDown.nD Cert.MlpDown.τ).loc Cert.MlpDown.main_arg2)
      ∧ r.2.mem ((c.tc : Thread Cert.MlpDown.nD Cert.MlpDown.τ).loc Cert.MlpDown.main_arg3) = m ((c.tc : Thread Cert.MlpDown.nD Cert.MlpDown.τ).loc Cert.MlpDown.main_arg3))
      ∧ r.2.sem = fun _ => 0)

def quiescent_MlpDownIdeal [hMlpDownIdeal : Cert.MlpDownIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg), Pre_MlpDownIdeal m →
    θ_run (Cert.MlpDownIdeal.defs (F := Ideal)) (onTc (τ := Cert.MlpDownIdeal.τ) (Cert.MlpDownIdeal.main (F := Ideal))) ⟨m, fun _ => 0, g⟩ (fun r => (∀ c : Dev Cert.MlpDownIdeal.nD,
      r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
      ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
      ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
      ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ r.2.sem = fun _ => 0)

def quiescent_MlpDownReferenceIdeal [hMlpDownReferenceIdeal : Cert.MlpDownReferenceIdeal.Facts] : Prop :=
  ∀ (m : (ℓ : Loc Cert.MlpDownReferenceIdeal.nD Cert.MlpDownReferenceIdeal.τ Cert.MlpDownReferenceIdeal.sig) → Buf (Elt Ideal) ℓ) (g : Dev Cert.MlpDownReferenceIdeal.nD → PrngReg), Pre_MlpDownReferenceIdeal m →
    θ_run (Cert.MlpDownReferenceIdeal.defs (F := Ideal)) (onTc (τ := Cert.MlpDownReferenceIdeal.τ) (Cert.MlpDownReferenceIdeal.main (F := Ideal))) ⟨m, fun _ => 0, g⟩ (fun r => (∀ c : Dev Cert.MlpDownReferenceIdeal.nD,
      r.2.mem ((c.tc : Thread Cert.MlpDownReferenceIdeal.nD Cert.MlpDownReferenceIdeal.τ).loc Cert.MlpDownReferenceIdeal.main_arg0) = m ((c.tc : Thread Cert.MlpDownReferenceIdeal.nD Cert.MlpDownReferenceIdeal.τ).loc Cert.MlpDownReferenceIdeal.main_arg0)
      ∧ r.2.mem ((c.tc : Thread Cert.MlpDownReferenceIdeal.nD Cert.MlpDownReferenceIdeal.τ).loc Cert.MlpDownReferenceIdeal.main_arg1) = m ((c.tc : Thread Cert.MlpDownReferenceIdeal.nD Cert.MlpDownReferenceIdeal.τ).loc Cert.MlpDownReferenceIdeal.main_arg1)
      ∧ r.2.mem ((c.tc : Thread Cert.MlpDownReferenceIdeal.nD Cert.MlpDownReferenceIdeal.τ).loc Cert.MlpDownReferenceIdeal.main_arg2) = m ((c.tc : Thread Cert.MlpDownReferenceIdeal.nD Cert.MlpDownReferenceIdeal.τ).loc Cert.MlpDownReferenceIdeal.main_arg2)
      ∧ r.2.mem ((c.tc : Thread Cert.MlpDownReferenceIdeal.nD Cert.MlpDownReferenceIdeal.τ).loc Cert.MlpDownReferenceIdeal.main_arg3) = m ((c.tc : Thread Cert.MlpDownReferenceIdeal.nD Cert.MlpDownReferenceIdeal.τ).loc Cert.MlpDownReferenceIdeal.main_arg3))
      ∧ r.2.sem = fun _ => 0)

def quiescent_MlpUp [hMlpUp : Cert.MlpUp.Facts] : Prop :=
  ∀ (m : (ℓ : Loc Cert.MlpUp.nD Cert.MlpUp.τ Cert.MlpUp.sig) → Buf (Elt Bits) ℓ) (g : Dev Cert.MlpUp.nD → PrngReg), Pre_MlpUp m →
    θ_run (Cert.MlpUp.defs (F := Bits)) (onTc (τ := Cert.MlpUp.τ) (Cert.MlpUp.main (F := Bits))) ⟨m, fun _ => 0, g⟩ (fun r => (∀ c : Dev Cert.MlpUp.nD,
      r.2.mem ((c.tc : Thread Cert.MlpUp.nD Cert.MlpUp.τ).loc Cert.MlpUp.main_arg0) = m ((c.tc : Thread Cert.MlpUp.nD Cert.MlpUp.τ).loc Cert.MlpUp.main_arg0)
      ∧ r.2.mem ((c.tc : Thread Cert.MlpUp.nD Cert.MlpUp.τ).loc Cert.MlpUp.main_arg1) = m ((c.tc : Thread Cert.MlpUp.nD Cert.MlpUp.τ).loc Cert.MlpUp.main_arg1)
      ∧ r.2.mem ((c.tc : Thread Cert.MlpUp.nD Cert.MlpUp.τ).loc Cert.MlpUp.main_arg2) = m ((c.tc : Thread Cert.MlpUp.nD Cert.MlpUp.τ).loc Cert.MlpUp.main_arg2)
      ∧ r.2.mem ((c.tc : Thread Cert.MlpUp.nD Cert.MlpUp.τ).loc Cert.MlpUp.main_arg3) = m ((c.tc : Thread Cert.MlpUp.nD Cert.MlpUp.τ).loc Cert.MlpUp.main_arg3)
      ∧ r.2.mem ((c.tc : Thread Cert.MlpUp.nD Cert.MlpUp.τ).loc Cert.MlpUp.main_arg4) = m ((c.tc : Thread Cert.MlpUp.nD Cert.MlpUp.τ).loc Cert.MlpUp.main_arg4))
      ∧ r.2.sem = fun _ => 0)

def quiescent_MlpUpIdeal [hMlpUpIdeal : Cert.MlpUpIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg), Pre_MlpUpIdeal m →
    θ_run (Cert.MlpUpIdeal.defs (F := Ideal)) (onTc (τ := Cert.MlpUpIdeal.τ) (Cert.MlpUpIdeal.main (F := Ideal))) ⟨m, fun _ => 0, g⟩ (fun r => (∀ c : Dev Cert.MlpUpIdeal.nD,
      r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
      ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
      ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
      ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
      ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ r.2.sem = fun _ => 0)

def quiescent_MlpUpReferenceIdeal [hMlpUpReferenceIdeal : Cert.MlpUpReferenceIdeal.Facts] : Prop :=
  ∀ (m : (ℓ : Loc Cert.MlpUpReferenceIdeal.nD Cert.MlpUpReferenceIdeal.τ Cert.MlpUpReferenceIdeal.sig) → Buf (Elt Ideal) ℓ) (g : Dev Cert.MlpUpReferenceIdeal.nD → PrngReg), Pre_MlpUpReferenceIdeal m →
    θ_run (Cert.MlpUpReferenceIdeal.defs (F := Ideal)) (onTc (τ := Cert.MlpUpReferenceIdeal.τ) (Cert.MlpUpReferenceIdeal.main (F := Ideal))) ⟨m, fun _ => 0, g⟩ (fun r => (∀ c : Dev Cert.MlpUpReferenceIdeal.nD,
      r.2.mem ((c.tc : Thread Cert.MlpUpReferenceIdeal.nD Cert.MlpUpReferenceIdeal.τ).loc Cert.MlpUpReferenceIdeal.main_arg0) = m ((c.tc : Thread Cert.MlpUpReferenceIdeal.nD Cert.MlpUpReferenceIdeal.τ).loc Cert.MlpUpReferenceIdeal.main_arg0)
      ∧ r.2.mem ((c.tc : Thread Cert.MlpUpReferenceIdeal.nD Cert.MlpUpReferenceIdeal.τ).loc Cert.MlpUpReferenceIdeal.main_arg1) = m ((c.tc : Thread Cert.MlpUpReferenceIdeal.nD Cert.MlpUpReferenceIdeal.τ).loc Cert.MlpUpReferenceIdeal.main_arg1)
      ∧ r.2.mem ((c.tc : Thread Cert.MlpUpReferenceIdeal.nD Cert.MlpUpReferenceIdeal.τ).loc Cert.MlpUpReferenceIdeal.main_arg2) = m ((c.tc : Thread Cert.MlpUpReferenceIdeal.nD Cert.MlpUpReferenceIdeal.τ).loc Cert.MlpUpReferenceIdeal.main_arg2)
      ∧ r.2.mem ((c.tc : Thread Cert.MlpUpReferenceIdeal.nD Cert.MlpUpReferenceIdeal.τ).loc Cert.MlpUpReferenceIdeal.main_arg3) = m ((c.tc : Thread Cert.MlpUpReferenceIdeal.nD Cert.MlpUpReferenceIdeal.τ).loc Cert.MlpUpReferenceIdeal.main_arg3)
      ∧ r.2.mem ((c.tc : Thread Cert.MlpUpReferenceIdeal.nD Cert.MlpUpReferenceIdeal.τ).loc Cert.MlpUpReferenceIdeal.main_arg4) = m ((c.tc : Thread Cert.MlpUpReferenceIdeal.nD Cert.MlpUpReferenceIdeal.τ).loc Cert.MlpUpReferenceIdeal.main_arg4))
      ∧ r.2.sem = fun _ => 0)

def quiescent_MlpUpFwd [hMlpUpFwd : Cert.MlpUpFwd.Facts] : Prop :=
  ∀ (m : (ℓ : Loc Cert.MlpUpFwd.nD Cert.MlpUpFwd.τ Cert.MlpUpFwd.sig) → Buf (Elt Bits) ℓ) (g : Dev Cert.MlpUpFwd.nD → PrngReg), Pre_MlpUpFwd m →
    θ_run (Cert.MlpUpFwd.defs (F := Bits)) (onTc (τ := Cert.MlpUpFwd.τ) (Cert.MlpUpFwd.main (F := Bits))) ⟨m, fun _ => 0, g⟩ (fun r => (∀ c : Dev Cert.MlpUpFwd.nD,
      r.2.mem ((c.tc : Thread Cert.MlpUpFwd.nD Cert.MlpUpFwd.τ).loc Cert.MlpUpFwd.main_arg0) = m ((c.tc : Thread Cert.MlpUpFwd.nD Cert.MlpUpFwd.τ).loc Cert.MlpUpFwd.main_arg0)
      ∧ r.2.mem ((c.tc : Thread Cert.MlpUpFwd.nD Cert.MlpUpFwd.τ).loc Cert.MlpUpFwd.main_arg1) = m ((c.tc : Thread Cert.MlpUpFwd.nD Cert.MlpUpFwd.τ).loc Cert.MlpUpFwd.main_arg1)
      ∧ r.2.mem ((c.tc : Thread Cert.MlpUpFwd.nD Cert.MlpUpFwd.τ).loc Cert.MlpUpFwd.main_arg2) = m ((c.tc : Thread Cert.MlpUpFwd.nD Cert.MlpUpFwd.τ).loc Cert.MlpUpFwd.main_arg2))
      ∧ r.2.sem = fun _ => 0)

def quiescent_MlpUpFwdIdeal [hMlpUpFwdIdeal : Cert.MlpUpFwdIdeal.Facts] : Prop :=
  ∀ (m : (ℓ : Loc Cert.MlpUpFwdIdeal.nD Cert.MlpUpFwdIdeal.τ Cert.MlpUpFwdIdeal.sig) → Buf (Elt Ideal) ℓ) (g : Dev Cert.MlpUpFwdIdeal.nD → PrngReg), Pre_MlpUpFwdIdeal m →
    θ_run (Cert.MlpUpFwdIdeal.defs (F := Ideal)) (onTc (τ := Cert.MlpUpFwdIdeal.τ) (Cert.MlpUpFwdIdeal.main (F := Ideal))) ⟨m, fun _ => 0, g⟩ (fun r => (∀ c : Dev Cert.MlpUpFwdIdeal.nD,
      r.2.mem ((c.tc : Thread Cert.MlpUpFwdIdeal.nD Cert.MlpUpFwdIdeal.τ).loc Cert.MlpUpFwdIdeal.main_arg0) = m ((c.tc : Thread Cert.MlpUpFwdIdeal.nD Cert.MlpUpFwdIdeal.τ).loc Cert.MlpUpFwdIdeal.main_arg0)
      ∧ r.2.mem ((c.tc : Thread Cert.MlpUpFwdIdeal.nD Cert.MlpUpFwdIdeal.τ).loc Cert.MlpUpFwdIdeal.main_arg1) = m ((c.tc : Thread Cert.MlpUpFwdIdeal.nD Cert.MlpUpFwdIdeal.τ).loc Cert.MlpUpFwdIdeal.main_arg1)
      ∧ r.2.mem ((c.tc : Thread Cert.MlpUpFwdIdeal.nD Cert.MlpUpFwdIdeal.τ).loc Cert.MlpUpFwdIdeal.main_arg2) = m ((c.tc : Thread Cert.MlpUpFwdIdeal.nD Cert.MlpUpFwdIdeal.τ).loc Cert.MlpUpFwdIdeal.main_arg2))
      ∧ r.2.sem = fun _ => 0)

def quiescent_MlpUpFwdReferenceIdeal [hMlpUpFwdReferenceIdeal : Cert.MlpUpFwdReferenceIdeal.Facts] : Prop :=
  ∀ (m : (ℓ : Loc Cert.MlpUpFwdReferenceIdeal.nD Cert.MlpUpFwdReferenceIdeal.τ Cert.MlpUpFwdReferenceIdeal.sig) → Buf (Elt Ideal) ℓ) (g : Dev Cert.MlpUpFwdReferenceIdeal.nD → PrngReg), Pre_MlpUpFwdReferenceIdeal m →
    θ_run (Cert.MlpUpFwdReferenceIdeal.defs (F := Ideal)) (onTc (τ := Cert.MlpUpFwdReferenceIdeal.τ) (Cert.MlpUpFwdReferenceIdeal.main (F := Ideal))) ⟨m, fun _ => 0, g⟩ (fun r => (∀ c : Dev Cert.MlpUpFwdReferenceIdeal.nD,
      r.2.mem ((c.tc : Thread Cert.MlpUpFwdReferenceIdeal.nD Cert.MlpUpFwdReferenceIdeal.τ).loc Cert.MlpUpFwdReferenceIdeal.main_arg0) = m ((c.tc : Thread Cert.MlpUpFwdReferenceIdeal.nD Cert.MlpUpFwdReferenceIdeal.τ).loc Cert.MlpUpFwdReferenceIdeal.main_arg0)
      ∧ r.2.mem ((c.tc : Thread Cert.MlpUpFwdReferenceIdeal.nD Cert.MlpUpFwdReferenceIdeal.τ).loc Cert.MlpUpFwdReferenceIdeal.main_arg1) = m ((c.tc : Thread Cert.MlpUpFwdReferenceIdeal.nD Cert.MlpUpFwdReferenceIdeal.τ).loc Cert.MlpUpFwdReferenceIdeal.main_arg1)
      ∧ r.2.mem ((c.tc : Thread Cert.MlpUpFwdReferenceIdeal.nD Cert.MlpUpFwdReferenceIdeal.τ).loc Cert.MlpUpFwdReferenceIdeal.main_arg2) = m ((c.tc : Thread Cert.MlpUpFwdReferenceIdeal.nD Cert.MlpUpFwdReferenceIdeal.τ).loc Cert.MlpUpFwdReferenceIdeal.main_arg2))
      ∧ r.2.sem = fun _ => 0)

def quiescent_MlpDownFwd [hMlpDownFwd : Cert.MlpDownFwd.Facts] : Prop :=
  ∀ (m : (ℓ : Loc Cert.MlpDownFwd.nD Cert.MlpDownFwd.τ Cert.MlpDownFwd.sig) → Buf (Elt Bits) ℓ) (g : Dev Cert.MlpDownFwd.nD → PrngReg), Pre_MlpDownFwd m →
    θ_run (Cert.MlpDownFwd.defs (F := Bits)) (onTc (τ := Cert.MlpDownFwd.τ) (Cert.MlpDownFwd.main (F := Bits))) ⟨m, fun _ => 0, g⟩ (fun r => (∀ c : Dev Cert.MlpDownFwd.nD,
      r.2.mem ((c.tc : Thread Cert.MlpDownFwd.nD Cert.MlpDownFwd.τ).loc Cert.MlpDownFwd.main_arg0) = m ((c.tc : Thread Cert.MlpDownFwd.nD Cert.MlpDownFwd.τ).loc Cert.MlpDownFwd.main_arg0)
      ∧ r.2.mem ((c.tc : Thread Cert.MlpDownFwd.nD Cert.MlpDownFwd.τ).loc Cert.MlpDownFwd.main_arg1) = m ((c.tc : Thread Cert.MlpDownFwd.nD Cert.MlpDownFwd.τ).loc Cert.MlpDownFwd.main_arg1)
      ∧ r.2.mem ((c.tc : Thread Cert.MlpDownFwd.nD Cert.MlpDownFwd.τ).loc Cert.MlpDownFwd.main_arg2) = m ((c.tc : Thread Cert.MlpDownFwd.nD Cert.MlpDownFwd.τ).loc Cert.MlpDownFwd.main_arg2)
      ∧ r.2.mem ((c.tc : Thread Cert.MlpDownFwd.nD Cert.MlpDownFwd.τ).loc Cert.MlpDownFwd.main_arg3) = m ((c.tc : Thread Cert.MlpDownFwd.nD Cert.MlpDownFwd.τ).loc Cert.MlpDownFwd.main_arg3))
      ∧ r.2.sem = fun _ => 0)

def quiescent_MlpDownFwdIdeal [hMlpDownFwdIdeal : Cert.MlpDownFwdIdeal.Facts] : Prop :=
  ∀ (m : (ℓ : Loc Cert.MlpDownFwdIdeal.nD Cert.MlpDownFwdIdeal.τ Cert.MlpDownFwdIdeal.sig) → Buf (Elt Ideal) ℓ) (g : Dev Cert.MlpDownFwdIdeal.nD → PrngReg), Pre_MlpDownFwdIdeal m →
    θ_run (Cert.MlpDownFwdIdeal.defs (F := Ideal)) (onTc (τ := Cert.MlpDownFwdIdeal.τ) (Cert.MlpDownFwdIdeal.main (F := Ideal))) ⟨m, fun _ => 0, g⟩ (fun r => (∀ c : Dev Cert.MlpDownFwdIdeal.nD,
      r.2.mem ((c.tc : Thread Cert.MlpDownFwdIdeal.nD Cert.MlpDownFwdIdeal.τ).loc Cert.MlpDownFwdIdeal.main_arg0) = m ((c.tc : Thread Cert.MlpDownFwdIdeal.nD Cert.MlpDownFwdIdeal.τ).loc Cert.MlpDownFwdIdeal.main_arg0)
      ∧ r.2.mem ((c.tc : Thread Cert.MlpDownFwdIdeal.nD Cert.MlpDownFwdIdeal.τ).loc Cert.MlpDownFwdIdeal.main_arg1) = m ((c.tc : Thread Cert.MlpDownFwdIdeal.nD Cert.MlpDownFwdIdeal.τ).loc Cert.MlpDownFwdIdeal.main_arg1)
      ∧ r.2.mem ((c.tc : Thread Cert.MlpDownFwdIdeal.nD Cert.MlpDownFwdIdeal.τ).loc Cert.MlpDownFwdIdeal.main_arg2) = m ((c.tc : Thread Cert.MlpDownFwdIdeal.nD Cert.MlpDownFwdIdeal.τ).loc Cert.MlpDownFwdIdeal.main_arg2)
      ∧ r.2.mem ((c.tc : Thread Cert.MlpDownFwdIdeal.nD Cert.MlpDownFwdIdeal.τ).loc Cert.MlpDownFwdIdeal.main_arg3) = m ((c.tc : Thread Cert.MlpDownFwdIdeal.nD Cert.MlpDownFwdIdeal.τ).loc Cert.MlpDownFwdIdeal.main_arg3))
      ∧ r.2.sem = fun _ => 0)

def quiescent_MlpDownFwdReferenceIdeal [hMlpDownFwdReferenceIdeal : Cert.MlpDownFwdReferenceIdeal.Facts] : Prop :=
  ∀ (m : (ℓ : Loc Cert.MlpDownFwdReferenceIdeal.nD Cert.MlpDownFwdReferenceIdeal.τ Cert.MlpDownFwdReferenceIdeal.sig) → Buf (Elt Ideal) ℓ) (g : Dev Cert.MlpDownFwdReferenceIdeal.nD → PrngReg), Pre_MlpDownFwdReferenceIdeal m →
    θ_run (Cert.MlpDownFwdReferenceIdeal.defs (F := Ideal)) (onTc (τ := Cert.MlpDownFwdReferenceIdeal.τ) (Cert.MlpDownFwdReferenceIdeal.main (F := Ideal))) ⟨m, fun _ => 0, g⟩ (fun r => (∀ c : Dev Cert.MlpDownFwdReferenceIdeal.nD,
      r.2.mem ((c.tc : Thread Cert.MlpDownFwdReferenceIdeal.nD Cert.MlpDownFwdReferenceIdeal.τ).loc Cert.MlpDownFwdReferenceIdeal.main_arg0) = m ((c.tc : Thread Cert.MlpDownFwdReferenceIdeal.nD Cert.MlpDownFwdReferenceIdeal.τ).loc Cert.MlpDownFwdReferenceIdeal.main_arg0)
      ∧ r.2.mem ((c.tc : Thread Cert.MlpDownFwdReferenceIdeal.nD Cert.MlpDownFwdReferenceIdeal.τ).loc Cert.MlpDownFwdReferenceIdeal.main_arg1) = m ((c.tc : Thread Cert.MlpDownFwdReferenceIdeal.nD Cert.MlpDownFwdReferenceIdeal.τ).loc Cert.MlpDownFwdReferenceIdeal.main_arg1)
      ∧ r.2.mem ((c.tc : Thread Cert.MlpDownFwdReferenceIdeal.nD Cert.MlpDownFwdReferenceIdeal.τ).loc Cert.MlpDownFwdReferenceIdeal.main_arg2) = m ((c.tc : Thread Cert.MlpDownFwdReferenceIdeal.nD Cert.MlpDownFwdReferenceIdeal.τ).loc Cert.MlpDownFwdReferenceIdeal.main_arg2)
      ∧ r.2.mem ((c.tc : Thread Cert.MlpDownFwdReferenceIdeal.nD Cert.MlpDownFwdReferenceIdeal.τ).loc Cert.MlpDownFwdReferenceIdeal.main_arg3) = m ((c.tc : Thread Cert.MlpDownFwdReferenceIdeal.nD Cert.MlpDownFwdReferenceIdeal.τ).loc Cert.MlpDownFwdReferenceIdeal.main_arg3))
      ∧ r.2.sem = fun _ => 0)

def quiescent_PleBwd [hPleBwd : Cert.PleBwd.Facts] : Prop :=
  ∀ (m : (ℓ : Loc Cert.PleBwd.nD Cert.PleBwd.τ Cert.PleBwd.sig) → Buf (Elt Bits) ℓ) (g : Dev Cert.PleBwd.nD → PrngReg), Pre_PleBwd m →
    θ_run (Cert.PleBwd.defs (F := Bits)) (onTc (τ := Cert.PleBwd.τ) (Cert.PleBwd.main (F := Bits))) ⟨m, fun _ => 0, g⟩ (fun r => (∀ c : Dev Cert.PleBwd.nD,
      r.2.mem ((c.tc : Thread Cert.PleBwd.nD Cert.PleBwd.τ).loc Cert.PleBwd.main_arg0) = m ((c.tc : Thread Cert.PleBwd.nD Cert.PleBwd.τ).loc Cert.PleBwd.main_arg0)
      ∧ r.2.mem ((c.tc : Thread Cert.PleBwd.nD Cert.PleBwd.τ).loc Cert.PleBwd.main_arg1) = m ((c.tc : Thread Cert.PleBwd.nD Cert.PleBwd.τ).loc Cert.PleBwd.main_arg1)
      ∧ r.2.mem ((c.tc : Thread Cert.PleBwd.nD Cert.PleBwd.τ).loc Cert.PleBwd.main_arg2) = m ((c.tc : Thread Cert.PleBwd.nD Cert.PleBwd.τ).loc Cert.PleBwd.main_arg2)
      ∧ r.2.mem ((c.tc : Thread Cert.PleBwd.nD Cert.PleBwd.τ).loc Cert.PleBwd.main_arg3) = m ((c.tc : Thread Cert.PleBwd.nD Cert.PleBwd.τ).loc Cert.PleBwd.main_arg3)
      ∧ r.2.mem ((c.tc : Thread Cert.PleBwd.nD Cert.PleBwd.τ).loc Cert.PleBwd.main_arg4) = m ((c.tc : Thread Cert.PleBwd.nD Cert.PleBwd.τ).loc Cert.PleBwd.main_arg4)
      ∧ r.2.mem ((c.tc : Thread Cert.PleBwd.nD Cert.PleBwd.τ).loc Cert.PleBwd.main_arg5) = m ((c.tc : Thread Cert.PleBwd.nD Cert.PleBwd.τ).loc Cert.PleBwd.main_arg5)
      ∧ r.2.mem ((c.tc : Thread Cert.PleBwd.nD Cert.PleBwd.τ).loc Cert.PleBwd.main_arg6) = m ((c.tc : Thread Cert.PleBwd.nD Cert.PleBwd.τ).loc Cert.PleBwd.main_arg6))
      ∧ r.2.sem = fun _ => 0)

def quiescent_PleBwdIdeal [hPleBwdIdeal : Cert.PleBwdIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg), Pre_PleBwdIdeal m →
    θ_run (Cert.PleBwdIdeal.defs (F := Ideal)) (onTc (τ := Cert.PleBwdIdeal.τ) (Cert.PleBwdIdeal.main (F := Ideal))) ⟨m, fun _ => 0, g⟩ (fun r => (∀ c : Dev Cert.PleBwdIdeal.nD,
      r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
      ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
      ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
      ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
      ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
      ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5)
      ∧ r.2.mem ((c.tc : Thread Cert.PleBwdIdeal.nD Cert.PleBwdIdeal.τ).loc Cert.PleBwdIdeal.main_arg6) = m ((c.tc : Thread Cert.PleBwdIdeal.nD Cert.PleBwdIdeal.τ).loc Cert.PleBwdIdeal.main_arg6))
      ∧ r.2.sem = fun _ => 0)

def quiescent_PleBwdReferenceIdeal [hPleBwdReferenceIdeal : Cert.PleBwdReferenceIdeal.Facts] : Prop :=
  ∀ (m : (ℓ : Loc Cert.PleBwdReferenceIdeal.nD Cert.PleBwdReferenceIdeal.τ Cert.PleBwdReferenceIdeal.sig) → Buf (Elt Ideal) ℓ) (g : Dev Cert.PleBwdReferenceIdeal.nD → PrngReg), Pre_PleBwdReferenceIdeal m →
    θ_run (Cert.PleBwdReferenceIdeal.defs (F := Ideal)) (onTc (τ := Cert.PleBwdReferenceIdeal.τ) (Cert.PleBwdReferenceIdeal.main (F := Ideal))) ⟨m, fun _ => 0, g⟩ (fun r => (∀ c : Dev Cert.PleBwdReferenceIdeal.nD,
      r.2.mem ((c.tc : Thread Cert.PleBwdReferenceIdeal.nD Cert.PleBwdReferenceIdeal.τ).loc Cert.PleBwdReferenceIdeal.main_arg0) = m ((c.tc : Thread Cert.PleBwdReferenceIdeal.nD Cert.PleBwdReferenceIdeal.τ).loc Cert.PleBwdReferenceIdeal.main_arg0)
      ∧ r.2.mem ((c.tc : Thread Cert.PleBwdReferenceIdeal.nD Cert.PleBwdReferenceIdeal.τ).loc Cert.PleBwdReferenceIdeal.main_arg1) = m ((c.tc : Thread Cert.PleBwdReferenceIdeal.nD Cert.PleBwdReferenceIdeal.τ).loc Cert.PleBwdReferenceIdeal.main_arg1)
      ∧ r.2.mem ((c.tc : Thread Cert.PleBwdReferenceIdeal.nD Cert.PleBwdReferenceIdeal.τ).loc Cert.PleBwdReferenceIdeal.main_arg2) = m ((c.tc : Thread Cert.PleBwdReferenceIdeal.nD Cert.PleBwdReferenceIdeal.τ).loc Cert.PleBwdReferenceIdeal.main_arg2)
      ∧ r.2.mem ((c.tc : Thread Cert.PleBwdReferenceIdeal.nD Cert.PleBwdReferenceIdeal.τ).loc Cert.PleBwdReferenceIdeal.main_arg3) = m ((c.tc : Thread Cert.PleBwdReferenceIdeal.nD Cert.PleBwdReferenceIdeal.τ).loc Cert.PleBwdReferenceIdeal.main_arg3)
      ∧ r.2.mem ((c.tc : Thread Cert.PleBwdReferenceIdeal.nD Cert.PleBwdReferenceIdeal.τ).loc Cert.PleBwdReferenceIdeal.main_arg4) = m ((c.tc : Thread Cert.PleBwdReferenceIdeal.nD Cert.PleBwdReferenceIdeal.τ).loc Cert.PleBwdReferenceIdeal.main_arg4)
      ∧ r.2.mem ((c.tc : Thread Cert.PleBwdReferenceIdeal.nD Cert.PleBwdReferenceIdeal.τ).loc Cert.PleBwdReferenceIdeal.main_arg5) = m ((c.tc : Thread Cert.PleBwdReferenceIdeal.nD Cert.PleBwdReferenceIdeal.τ).loc Cert.PleBwdReferenceIdeal.main_arg5)
      ∧ r.2.mem ((c.tc : Thread Cert.PleBwdReferenceIdeal.nD Cert.PleBwdReferenceIdeal.τ).loc Cert.PleBwdReferenceIdeal.main_arg6) = m ((c.tc : Thread Cert.PleBwdReferenceIdeal.nD Cert.PleBwdReferenceIdeal.τ).loc Cert.PleBwdReferenceIdeal.main_arg6))
      ∧ r.2.sem = fun _ => 0)

def quiescent_PleFwd [hPleFwd : Cert.PleFwd.Facts] : Prop :=
  ∀ (m : (ℓ : Loc Cert.PleFwd.nD Cert.PleFwd.τ Cert.PleFwd.sig) → Buf (Elt Bits) ℓ) (g : Dev Cert.PleFwd.nD → PrngReg), Pre_PleFwd m →
    θ_run (Cert.PleFwd.defs (F := Bits)) (onTc (τ := Cert.PleFwd.τ) (Cert.PleFwd.main (F := Bits))) ⟨m, fun _ => 0, g⟩ (fun r => (∀ c : Dev Cert.PleFwd.nD,
      r.2.mem ((c.tc : Thread Cert.PleFwd.nD Cert.PleFwd.τ).loc Cert.PleFwd.main_arg0) = m ((c.tc : Thread Cert.PleFwd.nD Cert.PleFwd.τ).loc Cert.PleFwd.main_arg0)
      ∧ r.2.mem ((c.tc : Thread Cert.PleFwd.nD Cert.PleFwd.τ).loc Cert.PleFwd.main_arg1) = m ((c.tc : Thread Cert.PleFwd.nD Cert.PleFwd.τ).loc Cert.PleFwd.main_arg1)
      ∧ r.2.mem ((c.tc : Thread Cert.PleFwd.nD Cert.PleFwd.τ).loc Cert.PleFwd.main_arg2) = m ((c.tc : Thread Cert.PleFwd.nD Cert.PleFwd.τ).loc Cert.PleFwd.main_arg2)
      ∧ r.2.mem ((c.tc : Thread Cert.PleFwd.nD Cert.PleFwd.τ).loc Cert.PleFwd.main_arg3) = m ((c.tc : Thread Cert.PleFwd.nD Cert.PleFwd.τ).loc Cert.PleFwd.main_arg3)
      ∧ r.2.mem ((c.tc : Thread Cert.PleFwd.nD Cert.PleFwd.τ).loc Cert.PleFwd.main_arg4) = m ((c.tc : Thread Cert.PleFwd.nD Cert.PleFwd.τ).loc Cert.PleFwd.main_arg4)
      ∧ r.2.mem ((c.tc : Thread Cert.PleFwd.nD Cert.PleFwd.τ).loc Cert.PleFwd.main_arg5) = m ((c.tc : Thread Cert.PleFwd.nD Cert.PleFwd.τ).loc Cert.PleFwd.main_arg5))
      ∧ r.2.sem = fun _ => 0)

def quiescent_PleFwdIdeal [hPleFwdIdeal : Cert.PleFwdIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg), Pre_PleFwdIdeal m →
    θ_run (Cert.PleFwdIdeal.defs (F := Ideal)) (onTc (τ := Cert.PleFwdIdeal.τ) (Cert.PleFwdIdeal.main (F := Ideal))) ⟨m, fun _ => 0, g⟩ (fun r => (∀ c : Dev Cert.PleFwdIdeal.nD,
      r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
      ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
      ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
      ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
      ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
      ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5))
      ∧ r.2.sem = fun _ => 0)

def quiescent_PleFwdReferenceIdeal [hPleFwdReferenceIdeal : Cert.PleFwdReferenceIdeal.Facts] : Prop :=
  ∀ (m : (ℓ : Loc Cert.PleFwdReferenceIdeal.nD Cert.PleFwdReferenceIdeal.τ Cert.PleFwdReferenceIdeal.sig) → Buf (Elt Ideal) ℓ) (g : Dev Cert.PleFwdReferenceIdeal.nD → PrngReg), Pre_PleFwdReferenceIdeal m →
    θ_run (Cert.PleFwdReferenceIdeal.defs (F := Ideal)) (onTc (τ := Cert.PleFwdReferenceIdeal.τ) (Cert.PleFwdReferenceIdeal.main (F := Ideal))) ⟨m, fun _ => 0, g⟩ (fun r => (∀ c : Dev Cert.PleFwdReferenceIdeal.nD,
      r.2.mem ((c.tc : Thread Cert.PleFwdReferenceIdeal.nD Cert.PleFwdReferenceIdeal.τ).loc Cert.PleFwdReferenceIdeal.main_arg0) = m ((c.tc : Thread Cert.PleFwdReferenceIdeal.nD Cert.PleFwdReferenceIdeal.τ).loc Cert.PleFwdReferenceIdeal.main_arg0)
      ∧ r.2.mem ((c.tc : Thread Cert.PleFwdReferenceIdeal.nD Cert.PleFwdReferenceIdeal.τ).loc Cert.PleFwdReferenceIdeal.main_arg1) = m ((c.tc : Thread Cert.PleFwdReferenceIdeal.nD Cert.PleFwdReferenceIdeal.τ).loc Cert.PleFwdReferenceIdeal.main_arg1)
      ∧ r.2.mem ((c.tc : Thread Cert.PleFwdReferenceIdeal.nD Cert.PleFwdReferenceIdeal.τ).loc Cert.PleFwdReferenceIdeal.main_arg2) = m ((c.tc : Thread Cert.PleFwdReferenceIdeal.nD Cert.PleFwdReferenceIdeal.τ).loc Cert.PleFwdReferenceIdeal.main_arg2)
      ∧ r.2.mem ((c.tc : Thread Cert.PleFwdReferenceIdeal.nD Cert.PleFwdReferenceIdeal.τ).loc Cert.PleFwdReferenceIdeal.main_arg3) = m ((c.tc : Thread Cert.PleFwdReferenceIdeal.nD Cert.PleFwdReferenceIdeal.τ).loc Cert.PleFwdReferenceIdeal.main_arg3)
      ∧ r.2.mem ((c.tc : Thread Cert.PleFwdReferenceIdeal.nD Cert.PleFwdReferenceIdeal.τ).loc Cert.PleFwdReferenceIdeal.main_arg4) = m ((c.tc : Thread Cert.PleFwdReferenceIdeal.nD Cert.PleFwdReferenceIdeal.τ).loc Cert.PleFwdReferenceIdeal.main_arg4)
      ∧ r.2.mem ((c.tc : Thread Cert.PleFwdReferenceIdeal.nD Cert.PleFwdReferenceIdeal.τ).loc Cert.PleFwdReferenceIdeal.main_arg5) = m ((c.tc : Thread Cert.PleFwdReferenceIdeal.nD Cert.PleFwdReferenceIdeal.τ).loc Cert.PleFwdReferenceIdeal.main_arg5))
      ∧ r.2.sem = fun _ => 0)

def quiescent_DwIn [hDwIn : Cert.DwIn.Facts] : Prop :=
  ∀ (m : (ℓ : Loc Cert.DwIn.nD Cert.DwIn.τ Cert.DwIn.sig) → Buf (Elt Bits) ℓ) (g : Dev Cert.DwIn.nD → PrngReg), Pre_DwIn m →
    θ_run (Cert.DwIn.defs (F := Bits)) (onTc (τ := Cert.DwIn.τ) (Cert.DwIn.main (F := Bits))) ⟨m, fun _ => 0, g⟩ (fun r => (∀ c : Dev Cert.DwIn.nD,
      r.2.mem ((c.tc : Thread Cert.DwIn.nD Cert.DwIn.τ).loc Cert.DwIn.main_arg0) = m ((c.tc : Thread Cert.DwIn.nD Cert.DwIn.τ).loc Cert.DwIn.main_arg0)
      ∧ r.2.mem ((c.tc : Thread Cert.DwIn.nD Cert.DwIn.τ).loc Cert.DwIn.main_arg1) = m ((c.tc : Thread Cert.DwIn.nD Cert.DwIn.τ).loc Cert.DwIn.main_arg1)
      ∧ r.2.mem ((c.tc : Thread Cert.DwIn.nD Cert.DwIn.τ).loc Cert.DwIn.main_arg2) = m ((c.tc : Thread Cert.DwIn.nD Cert.DwIn.τ).loc Cert.DwIn.main_arg2)
      ∧ r.2.mem ((c.tc : Thread Cert.DwIn.nD Cert.DwIn.τ).loc Cert.DwIn.main_arg3) = m ((c.tc : Thread Cert.DwIn.nD Cert.DwIn.τ).loc Cert.DwIn.main_arg3))
      ∧ r.2.sem = fun _ => 0)

def quiescent_DwInIdeal [hDwInIdeal : Cert.DwInIdeal.Facts] : Prop :=
  ∀ (m : (ℓ : Loc Cert.DwInIdeal.nD Cert.DwInIdeal.τ Cert.DwInIdeal.sig) → Buf (Elt Ideal) ℓ) (g : Dev Cert.DwInIdeal.nD → PrngReg), Pre_DwInIdeal m →
    θ_run (Cert.DwInIdeal.defs (F := Ideal)) (onTc (τ := Cert.DwInIdeal.τ) (Cert.DwInIdeal.main (F := Ideal))) ⟨m, fun _ => 0, g⟩ (fun r => (∀ c : Dev Cert.DwInIdeal.nD,
      r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
      ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
      ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
      ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ r.2.sem = fun _ => 0)

def quiescent_DwInReferenceIdeal [hDwInReferenceIdeal : Cert.DwInReferenceIdeal.Facts] : Prop :=
  ∀ (m : (ℓ : Loc Cert.DwInReferenceIdeal.nD Cert.DwInReferenceIdeal.τ Cert.DwInReferenceIdeal.sig) → Buf (Elt Ideal) ℓ) (g : Dev Cert.DwInReferenceIdeal.nD → PrngReg), Pre_DwInReferenceIdeal m →
    θ_run (Cert.DwInReferenceIdeal.defs (F := Ideal)) (onTc (τ := Cert.DwInReferenceIdeal.τ) (Cert.DwInReferenceIdeal.main (F := Ideal))) ⟨m, fun _ => 0, g⟩ (fun r => (∀ c : Dev Cert.DwInReferenceIdeal.nD,
      r.2.mem ((c.tc : Thread Cert.DwInReferenceIdeal.nD Cert.DwInReferenceIdeal.τ).loc Cert.DwInReferenceIdeal.main_arg0) = m ((c.tc : Thread Cert.DwInReferenceIdeal.nD Cert.DwInReferenceIdeal.τ).loc Cert.DwInReferenceIdeal.main_arg0)
      ∧ r.2.mem ((c.tc : Thread Cert.DwInReferenceIdeal.nD Cert.DwInReferenceIdeal.τ).loc Cert.DwInReferenceIdeal.main_arg1) = m ((c.tc : Thread Cert.DwInReferenceIdeal.nD Cert.DwInReferenceIdeal.τ).loc Cert.DwInReferenceIdeal.main_arg1)
      ∧ r.2.mem ((c.tc : Thread Cert.DwInReferenceIdeal.nD Cert.DwInReferenceIdeal.τ).loc Cert.DwInReferenceIdeal.main_arg2) = m ((c.tc : Thread Cert.DwInReferenceIdeal.nD Cert.DwInReferenceIdeal.τ).loc Cert.DwInReferenceIdeal.main_arg2)
      ∧ r.2.mem ((c.tc : Thread Cert.DwInReferenceIdeal.nD Cert.DwInReferenceIdeal.τ).loc Cert.DwInReferenceIdeal.main_arg3) = m ((c.tc : Thread Cert.DwInReferenceIdeal.nD Cert.DwInReferenceIdeal.τ).loc Cert.DwInReferenceIdeal.main_arg3))
      ∧ r.2.sem = fun _ => 0)

def quiescent_MixIn [hMixIn : Cert.MixIn.Facts] : Prop :=
  ∀ (m : (ℓ : Loc Cert.MixIn.nD Cert.MixIn.τ Cert.MixIn.sig) → Buf (Elt Bits) ℓ) (g : Dev Cert.MixIn.nD → PrngReg), Pre_MixIn m →
    θ_run (Cert.MixIn.defs (F := Bits)) (onTc (τ := Cert.MixIn.τ) (Cert.MixIn.main (F := Bits))) ⟨m, fun _ => 0, g⟩ (fun r => (∀ c : Dev Cert.MixIn.nD,
      r.2.mem ((c.tc : Thread Cert.MixIn.nD Cert.MixIn.τ).loc Cert.MixIn.main_arg0) = m ((c.tc : Thread Cert.MixIn.nD Cert.MixIn.τ).loc Cert.MixIn.main_arg0)
      ∧ r.2.mem ((c.tc : Thread Cert.MixIn.nD Cert.MixIn.τ).loc Cert.MixIn.main_arg1) = m ((c.tc : Thread Cert.MixIn.nD Cert.MixIn.τ).loc Cert.MixIn.main_arg1)
      ∧ r.2.mem ((c.tc : Thread Cert.MixIn.nD Cert.MixIn.τ).loc Cert.MixIn.main_arg2) = m ((c.tc : Thread Cert.MixIn.nD Cert.MixIn.τ).loc Cert.MixIn.main_arg2)
      ∧ r.2.mem ((c.tc : Thread Cert.MixIn.nD Cert.MixIn.τ).loc Cert.MixIn.main_arg3) = m ((c.tc : Thread Cert.MixIn.nD Cert.MixIn.τ).loc Cert.MixIn.main_arg3)
      ∧ r.2.mem ((c.tc : Thread Cert.MixIn.nD Cert.MixIn.τ).loc Cert.MixIn.main_arg4) = m ((c.tc : Thread Cert.MixIn.nD Cert.MixIn.τ).loc Cert.MixIn.main_arg4)
      ∧ r.2.mem ((c.tc : Thread Cert.MixIn.nD Cert.MixIn.τ).loc Cert.MixIn.main_arg5) = m ((c.tc : Thread Cert.MixIn.nD Cert.MixIn.τ).loc Cert.MixIn.main_arg5)
      ∧ r.2.mem ((c.tc : Thread Cert.MixIn.nD Cert.MixIn.τ).loc Cert.MixIn.main_arg6) = m ((c.tc : Thread Cert.MixIn.nD Cert.MixIn.τ).loc Cert.MixIn.main_arg6)
      ∧ r.2.mem ((c.tc : Thread Cert.MixIn.nD Cert.MixIn.τ).loc Cert.MixIn.main_arg7) = m ((c.tc : Thread Cert.MixIn.nD Cert.MixIn.τ).loc Cert.MixIn.main_arg7)
      ∧ r.2.mem ((c.tc : Thread Cert.MixIn.nD Cert.MixIn.τ).loc Cert.MixIn.main_arg8) = m ((c.tc : Thread Cert.MixIn.nD Cert.MixIn.τ).loc Cert.MixIn.main_arg8)
      ∧ r.2.mem ((c.tc : Thread Cert.MixIn.nD Cert.MixIn.τ).loc Cert.MixIn.main_arg9) = m ((c.tc : Thread Cert.MixIn.nD Cert.MixIn.τ).loc Cert.MixIn.main_arg9)
      ∧ r.2.mem ((c.tc : Thread Cert.MixIn.nD Cert.MixIn.τ).loc Cert.MixIn.main_arg10) = m ((c.tc : Thread Cert.MixIn.nD Cert.MixIn.τ).loc Cert.MixIn.main_arg10))
      ∧ r.2.sem = fun _ => 0)

def quiescent_MixInIdeal [hMixInIdeal : Cert.MixInIdeal.Facts] : Prop :=
  ∀ (m : (ℓ : Loc Cert.MixInIdeal.nD Cert.MixInIdeal.τ Cert.MixInIdeal.sig) → Buf (Elt Ideal) ℓ) (g : Dev Cert.MixInIdeal.nD → PrngReg), Pre_MixInIdeal m →
    θ_run (Cert.MixInIdeal.defs (F := Ideal)) (onTc (τ := Cert.MixInIdeal.τ) (Cert.MixInIdeal.main (F := Ideal))) ⟨m, fun _ => 0, g⟩ (fun r => (∀ c : Dev Cert.MixInIdeal.nD,
      r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
      ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
      ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
      ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
      ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
      ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
      ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
      ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
      ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
      ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
      ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10))
      ∧ r.2.sem = fun _ => 0)

def quiescent_MixInReferenceIdeal [hMixInReferenceIdeal : Cert.MixInReferenceIdeal.Facts] : Prop :=
  ∀ (m : (ℓ : Loc Cert.MixInReferenceIdeal.nD Cert.MixInReferenceIdeal.τ Cert.MixInReferenceIdeal.sig) → Buf (Elt Ideal) ℓ) (g : Dev Cert.MixInReferenceIdeal.nD → PrngReg), Pre_MixInReferenceIdeal m →
    θ_run (Cert.MixInReferenceIdeal.defs (F := Ideal)) (onTc (τ := Cert.MixInReferenceIdeal.τ) (Cert.MixInReferenceIdeal.main (F := Ideal))) ⟨m, fun _ => 0, g⟩ (fun r => (∀ c : Dev Cert.MixInReferenceIdeal.nD,
      r.2.mem ((c.tc : Thread Cert.MixInReferenceIdeal.nD Cert.MixInReferenceIdeal.τ).loc Cert.MixInReferenceIdeal.main_arg0) = m ((c.tc : Thread Cert.MixInReferenceIdeal.nD Cert.MixInReferenceIdeal.τ).loc Cert.MixInReferenceIdeal.main_arg0)
      ∧ r.2.mem ((c.tc : Thread Cert.MixInReferenceIdeal.nD Cert.MixInReferenceIdeal.τ).loc Cert.MixInReferenceIdeal.main_arg1) = m ((c.tc : Thread Cert.MixInReferenceIdeal.nD Cert.MixInReferenceIdeal.τ).loc Cert.MixInReferenceIdeal.main_arg1)
      ∧ r.2.mem ((c.tc : Thread Cert.MixInReferenceIdeal.nD Cert.MixInReferenceIdeal.τ).loc Cert.MixInReferenceIdeal.main_arg2) = m ((c.tc : Thread Cert.MixInReferenceIdeal.nD Cert.MixInReferenceIdeal.τ).loc Cert.MixInReferenceIdeal.main_arg2)
      ∧ r.2.mem ((c.tc : Thread Cert.MixInReferenceIdeal.nD Cert.MixInReferenceIdeal.τ).loc Cert.MixInReferenceIdeal.main_arg3) = m ((c.tc : Thread Cert.MixInReferenceIdeal.nD Cert.MixInReferenceIdeal.τ).loc Cert.MixInReferenceIdeal.main_arg3)
      ∧ r.2.mem ((c.tc : Thread Cert.MixInReferenceIdeal.nD Cert.MixInReferenceIdeal.τ).loc Cert.MixInReferenceIdeal.main_arg4) = m ((c.tc : Thread Cert.MixInReferenceIdeal.nD Cert.MixInReferenceIdeal.τ).loc Cert.MixInReferenceIdeal.main_arg4)
      ∧ r.2.mem ((c.tc : Thread Cert.MixInReferenceIdeal.nD Cert.MixInReferenceIdeal.τ).loc Cert.MixInReferenceIdeal.main_arg5) = m ((c.tc : Thread Cert.MixInReferenceIdeal.nD Cert.MixInReferenceIdeal.τ).loc Cert.MixInReferenceIdeal.main_arg5)
      ∧ r.2.mem ((c.tc : Thread Cert.MixInReferenceIdeal.nD Cert.MixInReferenceIdeal.τ).loc Cert.MixInReferenceIdeal.main_arg6) = m ((c.tc : Thread Cert.MixInReferenceIdeal.nD Cert.MixInReferenceIdeal.τ).loc Cert.MixInReferenceIdeal.main_arg6)
      ∧ r.2.mem ((c.tc : Thread Cert.MixInReferenceIdeal.nD Cert.MixInReferenceIdeal.τ).loc Cert.MixInReferenceIdeal.main_arg7) = m ((c.tc : Thread Cert.MixInReferenceIdeal.nD Cert.MixInReferenceIdeal.τ).loc Cert.MixInReferenceIdeal.main_arg7)
      ∧ r.2.mem ((c.tc : Thread Cert.MixInReferenceIdeal.nD Cert.MixInReferenceIdeal.τ).loc Cert.MixInReferenceIdeal.main_arg8) = m ((c.tc : Thread Cert.MixInReferenceIdeal.nD Cert.MixInReferenceIdeal.τ).loc Cert.MixInReferenceIdeal.main_arg8)
      ∧ r.2.mem ((c.tc : Thread Cert.MixInReferenceIdeal.nD Cert.MixInReferenceIdeal.τ).loc Cert.MixInReferenceIdeal.main_arg9) = m ((c.tc : Thread Cert.MixInReferenceIdeal.nD Cert.MixInReferenceIdeal.τ).loc Cert.MixInReferenceIdeal.main_arg9)
      ∧ r.2.mem ((c.tc : Thread Cert.MixInReferenceIdeal.nD Cert.MixInReferenceIdeal.τ).loc Cert.MixInReferenceIdeal.main_arg10) = m ((c.tc : Thread Cert.MixInReferenceIdeal.nD Cert.MixInReferenceIdeal.τ).loc Cert.MixInReferenceIdeal.main_arg10))
      ∧ r.2.sem = fun _ => 0)

def quiescent_MixInFwd [hMixInFwd : Cert.MixInFwd.Facts] : Prop :=
  ∀ (m : (ℓ : Loc Cert.MixInFwd.nD Cert.MixInFwd.τ Cert.MixInFwd.sig) → Buf (Elt Bits) ℓ) (g : Dev Cert.MixInFwd.nD → PrngReg), Pre_MixInFwd m →
    θ_run (Cert.MixInFwd.defs (F := Bits)) (onTc (τ := Cert.MixInFwd.τ) (Cert.MixInFwd.main (F := Bits))) ⟨m, fun _ => 0, g⟩ (fun r => (∀ c : Dev Cert.MixInFwd.nD,
      r.2.mem ((c.tc : Thread Cert.MixInFwd.nD Cert.MixInFwd.τ).loc Cert.MixInFwd.main_arg0) = m ((c.tc : Thread Cert.MixInFwd.nD Cert.MixInFwd.τ).loc Cert.MixInFwd.main_arg0)
      ∧ r.2.mem ((c.tc : Thread Cert.MixInFwd.nD Cert.MixInFwd.τ).loc Cert.MixInFwd.main_arg1) = m ((c.tc : Thread Cert.MixInFwd.nD Cert.MixInFwd.τ).loc Cert.MixInFwd.main_arg1)
      ∧ r.2.mem ((c.tc : Thread Cert.MixInFwd.nD Cert.MixInFwd.τ).loc Cert.MixInFwd.main_arg2) = m ((c.tc : Thread Cert.MixInFwd.nD Cert.MixInFwd.τ).loc Cert.MixInFwd.main_arg2))
      ∧ r.2.sem = fun _ => 0)

def quiescent_MixInFwdIdeal [hMixInFwdIdeal : Cert.MixInFwdIdeal.Facts] : Prop :=
  ∀ (m : (ℓ : Loc Cert.MixInFwdIdeal.nD Cert.MixInFwdIdeal.τ Cert.MixInFwdIdeal.sig) → Buf (Elt Ideal) ℓ) (g : Dev Cert.MixInFwdIdeal.nD → PrngReg), Pre_MixInFwdIdeal m →
    θ_run (Cert.MixInFwdIdeal.defs (F := Ideal)) (onTc (τ := Cert.MixInFwdIdeal.τ) (Cert.MixInFwdIdeal.main (F := Ideal))) ⟨m, fun _ => 0, g⟩ (fun r => (∀ c : Dev Cert.MixInFwdIdeal.nD,
      r.2.mem ((c.tc : Thread Cert.MixInFwdIdeal.nD Cert.MixInFwdIdeal.τ).loc Cert.MixInFwdIdeal.main_arg0) = m ((c.tc : Thread Cert.MixInFwdIdeal.nD Cert.MixInFwdIdeal.τ).loc Cert.MixInFwdIdeal.main_arg0)
      ∧ r.2.mem ((c.tc : Thread Cert.MixInFwdIdeal.nD Cert.MixInFwdIdeal.τ).loc Cert.MixInFwdIdeal.main_arg1) = m ((c.tc : Thread Cert.MixInFwdIdeal.nD Cert.MixInFwdIdeal.τ).loc Cert.MixInFwdIdeal.main_arg1)
      ∧ r.2.mem ((c.tc : Thread Cert.MixInFwdIdeal.nD Cert.MixInFwdIdeal.τ).loc Cert.MixInFwdIdeal.main_arg2) = m ((c.tc : Thread Cert.MixInFwdIdeal.nD Cert.MixInFwdIdeal.τ).loc Cert.MixInFwdIdeal.main_arg2))
      ∧ r.2.sem = fun _ => 0)

def quiescent_MixInFwdReferenceIdeal [hMixInFwdReferenceIdeal : Cert.MixInFwdReferenceIdeal.Facts] : Prop :=
  ∀ (m : (ℓ : Loc Cert.MixInFwdReferenceIdeal.nD Cert.MixInFwdReferenceIdeal.τ Cert.MixInFwdReferenceIdeal.sig) → Buf (Elt Ideal) ℓ) (g : Dev Cert.MixInFwdReferenceIdeal.nD → PrngReg), Pre_MixInFwdReferenceIdeal m →
    θ_run (Cert.MixInFwdReferenceIdeal.defs (F := Ideal)) (onTc (τ := Cert.MixInFwdReferenceIdeal.τ) (Cert.MixInFwdReferenceIdeal.main (F := Ideal))) ⟨m, fun _ => 0, g⟩ (fun r => (∀ c : Dev Cert.MixInFwdReferenceIdeal.nD,
      r.2.mem ((c.tc : Thread Cert.MixInFwdReferenceIdeal.nD Cert.MixInFwdReferenceIdeal.τ).loc Cert.MixInFwdReferenceIdeal.main_arg0) = m ((c.tc : Thread Cert.MixInFwdReferenceIdeal.nD Cert.MixInFwdReferenceIdeal.τ).loc Cert.MixInFwdReferenceIdeal.main_arg0)
      ∧ r.2.mem ((c.tc : Thread Cert.MixInFwdReferenceIdeal.nD Cert.MixInFwdReferenceIdeal.τ).loc Cert.MixInFwdReferenceIdeal.main_arg1) = m ((c.tc : Thread Cert.MixInFwdReferenceIdeal.nD Cert.MixInFwdReferenceIdeal.τ).loc Cert.MixInFwdReferenceIdeal.main_arg1)
      ∧ r.2.mem ((c.tc : Thread Cert.MixInFwdReferenceIdeal.nD Cert.MixInFwdReferenceIdeal.τ).loc Cert.MixInFwdReferenceIdeal.main_arg2) = m ((c.tc : Thread Cert.MixInFwdReferenceIdeal.nD Cert.MixInFwdReferenceIdeal.τ).loc Cert.MixInFwdReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v90)) (v1 : (c : Dev Cert.KernelIdeal.nD) → Buf (Elt Ideal) ((c.tc : Thread Cert.KernelIdeal.nD Cert.KernelIdeal.τ).loc Cert.KernelIdeal.main_v92)) (v2 : (c : Dev Cert.KernelIdeal.nD) → Buf (Elt Ideal) ((c.tc : Thread Cert.KernelIdeal.nD Cert.KernelIdeal.τ).loc Cert.KernelIdeal.main_v94)) (v3 : (c : Dev Cert.KernelIdeal.nD) → Buf (Elt Ideal) ((c.tc : Thread Cert.KernelIdeal.nD Cert.KernelIdeal.τ).loc Cert.KernelIdeal.main_v99)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_v92) = v1 c
          ∧ r.2.mem ((c.tc : Thread Cert.KernelIdeal.nD Cert.KernelIdeal.τ).loc Cert.KernelIdeal.main_v94) = v2 c
          ∧ r.2.mem ((c.tc : Thread Cert.KernelIdeal.nD Cert.KernelIdeal.τ).loc Cert.KernelIdeal.main_v99) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_v88) = v1 c
          ∧ r.2.mem ((c.tc : Thread Cert.ReferenceIdeal.nD Cert.ReferenceIdeal.τ).loc Cert.ReferenceIdeal.main_v60) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DwUp_DwUpIdeal : Prop :=
  True

def algebraic_DwUpIdeal_DwUpReferenceIdeal [hDwUpIdeal : Cert.DwUpIdeal.Facts] [hDwUpReferenceIdeal : Cert.DwUpReferenceIdeal.Facts] : Prop :=
  ∀ (m : (ℓ : Loc Cert.DwUpIdeal.nD Cert.DwUpIdeal.τ Cert.DwUpIdeal.sig) → Buf (Elt Ideal) ℓ) (g : Dev Cert.DwUpIdeal.nD → PrngReg)
    (m' : (ℓ : Loc Cert.DwUpReferenceIdeal.nD Cert.DwUpReferenceIdeal.τ Cert.DwUpReferenceIdeal.sig) → Buf (Elt Ideal) ℓ) (g' : Dev Cert.DwUpReferenceIdeal.nD → PrngReg), Pre_DwUpIdeal m →
    (∀ c : Dev Cert.DwUpIdeal.nD,
      m' ((c.tc : Thread Cert.DwUpReferenceIdeal.nD Cert.DwUpReferenceIdeal.τ).loc Cert.DwUpReferenceIdeal.main_arg0) = m ((c.tc : Thread Cert.DwUpIdeal.nD Cert.DwUpIdeal.τ).loc Cert.DwUpIdeal.main_arg0)
      ∧ m' ((c.tc : Thread Cert.DwUpReferenceIdeal.nD Cert.DwUpReferenceIdeal.τ).loc Cert.DwUpReferenceIdeal.main_arg1) = m ((c.tc : Thread Cert.DwUpIdeal.nD Cert.DwUpIdeal.τ).loc Cert.DwUpIdeal.main_arg1)
      ∧ m' ((c.tc : Thread Cert.DwUpReferenceIdeal.nD Cert.DwUpReferenceIdeal.τ).loc Cert.DwUpReferenceIdeal.main_arg2) = m ((c.tc : Thread Cert.DwUpIdeal.nD Cert.DwUpIdeal.τ).loc Cert.DwUpIdeal.main_arg2)
      ∧ m' ((c.tc : Thread Cert.DwUpReferenceIdeal.nD Cert.DwUpReferenceIdeal.τ).loc Cert.DwUpReferenceIdeal.main_arg3) = m ((c.tc : Thread Cert.DwUpIdeal.nD Cert.DwUpIdeal.τ).loc Cert.DwUpIdeal.main_arg3)) →
    ∃ (v0 : (c : Dev Cert.DwUpIdeal.nD) → Buf (Elt Ideal) ((c.tc : Thread Cert.DwUpIdeal.nD Cert.DwUpIdeal.τ).loc Cert.DwUpIdeal.main_v15)),
      θ_run (Cert.DwUpIdeal.defs (F := Ideal)) (onTc (τ := Cert.DwUpIdeal.τ) (Cert.DwUpIdeal.main (F := Ideal))) ⟨m, fun _ => 0, g⟩ (fun r => ∀ c : Dev Cert.DwUpIdeal.nD,
          r.2.mem ((c.tc : Thread Cert.DwUpIdeal.nD Cert.DwUpIdeal.τ).loc Cert.DwUpIdeal.main_v15) = v0 c
          ∧ r.2.mem ((c.tc : Thread Cert.DwUpIdeal.nD Cert.DwUpIdeal.τ).loc Cert.DwUpIdeal.main_arg0) = m ((c.tc : Thread Cert.DwUpIdeal.nD Cert.DwUpIdeal.τ).loc Cert.DwUpIdeal.main_arg0)
          ∧ r.2.mem ((c.tc : Thread Cert.DwUpIdeal.nD Cert.DwUpIdeal.τ).loc Cert.DwUpIdeal.main_arg1) = m ((c.tc : Thread Cert.DwUpIdeal.nD Cert.DwUpIdeal.τ).loc Cert.DwUpIdeal.main_arg1)
          ∧ r.2.mem ((c.tc : Thread Cert.DwUpIdeal.nD Cert.DwUpIdeal.τ).loc Cert.DwUpIdeal.main_arg2) = m ((c.tc : Thread Cert.DwUpIdeal.nD Cert.DwUpIdeal.τ).loc Cert.DwUpIdeal.main_arg2)
          ∧ r.2.mem ((c.tc : Thread Cert.DwUpIdeal.nD Cert.DwUpIdeal.τ).loc Cert.DwUpIdeal.main_arg3) = m ((c.tc : Thread Cert.DwUpIdeal.nD Cert.DwUpIdeal.τ).loc Cert.DwUpIdeal.main_arg3))
      ∧ θ_run (Cert.DwUpReferenceIdeal.defs (F := Ideal)) (onTc (τ := Cert.DwUpReferenceIdeal.τ) (Cert.DwUpReferenceIdeal.main (F := Ideal))) ⟨m', fun _ => 0, g'⟩ (fun r => ∀ c : Dev Cert.DwUpReferenceIdeal.nD,
          r.2.mem ((c.tc : Thread Cert.DwUpReferenceIdeal.nD Cert.DwUpReferenceIdeal.τ).loc Cert.DwUpReferenceIdeal.main_v15) = v0 c
          ∧ r.2.mem ((c.tc : Thread Cert.DwUpReferenceIdeal.nD Cert.DwUpReferenceIdeal.τ).loc Cert.DwUpReferenceIdeal.main_arg0) = m' ((c.tc : Thread Cert.DwUpReferenceIdeal.nD Cert.DwUpReferenceIdeal.τ).loc Cert.DwUpReferenceIdeal.main_arg0)
          ∧ r.2.mem ((c.tc : Thread Cert.DwUpReferenceIdeal.nD Cert.DwUpReferenceIdeal.τ).loc Cert.DwUpReferenceIdeal.main_arg1) = m' ((c.tc : Thread Cert.DwUpReferenceIdeal.nD Cert.DwUpReferenceIdeal.τ).loc Cert.DwUpReferenceIdeal.main_arg1)
          ∧ r.2.mem ((c.tc : Thread Cert.DwUpReferenceIdeal.nD Cert.DwUpReferenceIdeal.τ).loc Cert.DwUpReferenceIdeal.main_arg2) = m' ((c.tc : Thread Cert.DwUpReferenceIdeal.nD Cert.DwUpReferenceIdeal.τ).loc Cert.DwUpReferenceIdeal.main_arg2)
          ∧ r.2.mem ((c.tc : Thread Cert.DwUpReferenceIdeal.nD Cert.DwUpReferenceIdeal.τ).loc Cert.DwUpReferenceIdeal.main_arg3) = m' ((c.tc : Thread Cert.DwUpReferenceIdeal.nD Cert.DwUpReferenceIdeal.τ).loc Cert.DwUpReferenceIdeal.main_arg3))

def preserves_DwDown_DwDownIdeal : Prop :=
  True

def algebraic_DwDownIdeal_DwDownReferenceIdeal [hDwDownIdeal : Cert.DwDownIdeal.Facts] [hDwDownReferenceIdeal : Cert.DwDownReferenceIdeal.Facts] : Prop :=
  ∀ (m : (ℓ : Loc Cert.DwDownIdeal.nD Cert.DwDownIdeal.τ Cert.DwDownIdeal.sig) → Buf (Elt Ideal) ℓ) (g : Dev Cert.DwDownIdeal.nD → PrngReg)
    (m' : (ℓ : Loc Cert.DwDownReferenceIdeal.nD Cert.DwDownReferenceIdeal.τ Cert.DwDownReferenceIdeal.sig) → Buf (Elt Ideal) ℓ) (g' : Dev Cert.DwDownReferenceIdeal.nD → PrngReg), Pre_DwDownIdeal m →
    (∀ c : Dev Cert.DwDownIdeal.nD,
      m' ((c.tc : Thread Cert.DwDownReferenceIdeal.nD Cert.DwDownReferenceIdeal.τ).loc Cert.DwDownReferenceIdeal.main_arg0) = m ((c.tc : Thread Cert.DwDownIdeal.nD Cert.DwDownIdeal.τ).loc Cert.DwDownIdeal.main_arg0)
      ∧ m' ((c.tc : Thread Cert.DwDownReferenceIdeal.nD Cert.DwDownReferenceIdeal.τ).loc Cert.DwDownReferenceIdeal.main_arg1) = m ((c.tc : Thread Cert.DwDownIdeal.nD Cert.DwDownIdeal.τ).loc Cert.DwDownIdeal.main_arg1)
      ∧ m' ((c.tc : Thread Cert.DwDownReferenceIdeal.nD Cert.DwDownReferenceIdeal.τ).loc Cert.DwDownReferenceIdeal.main_arg2) = m ((c.tc : Thread Cert.DwDownIdeal.nD Cert.DwDownIdeal.τ).loc Cert.DwDownIdeal.main_arg2)) →
    ∃ (v0 : (c : Dev Cert.DwDownIdeal.nD) → Buf (Elt Ideal) ((c.tc : Thread Cert.DwDownIdeal.nD Cert.DwDownIdeal.τ).loc Cert.DwDownIdeal.main_v1)),
      θ_run (Cert.DwDownIdeal.defs (F := Ideal)) (onTc (τ := Cert.DwDownIdeal.τ) (Cert.DwDownIdeal.main (F := Ideal))) ⟨m, fun _ => 0, g⟩ (fun r => ∀ c : Dev Cert.DwDownIdeal.nD,
          r.2.mem ((c.tc : Thread Cert.DwDownIdeal.nD Cert.DwDownIdeal.τ).loc Cert.DwDownIdeal.main_v1) = v0 c
          ∧ r.2.mem ((c.tc : Thread Cert.DwDownIdeal.nD Cert.DwDownIdeal.τ).loc Cert.DwDownIdeal.main_arg0) = m ((c.tc : Thread Cert.DwDownIdeal.nD Cert.DwDownIdeal.τ).loc Cert.DwDownIdeal.main_arg0)
          ∧ r.2.mem ((c.tc : Thread Cert.DwDownIdeal.nD Cert.DwDownIdeal.τ).loc Cert.DwDownIdeal.main_arg1) = m ((c.tc : Thread Cert.DwDownIdeal.nD Cert.DwDownIdeal.τ).loc Cert.DwDownIdeal.main_arg1)
          ∧ r.2.mem ((c.tc : Thread Cert.DwDownIdeal.nD Cert.DwDownIdeal.τ).loc Cert.DwDownIdeal.main_arg2) = m ((c.tc : Thread Cert.DwDownIdeal.nD Cert.DwDownIdeal.τ).loc Cert.DwDownIdeal.main_arg2))
      ∧ θ_run (Cert.DwDownReferenceIdeal.defs (F := Ideal)) (onTc (τ := Cert.DwDownReferenceIdeal.τ) (Cert.DwDownReferenceIdeal.main (F := Ideal))) ⟨m', fun _ => 0, g'⟩ (fun r => ∀ c : Dev Cert.DwDownReferenceIdeal.nD,
          r.2.mem ((c.tc : Thread Cert.DwDownReferenceIdeal.nD Cert.DwDownReferenceIdeal.τ).loc Cert.DwDownReferenceIdeal.main_v4) = v0 c
          ∧ r.2.mem ((c.tc : Thread Cert.DwDownReferenceIdeal.nD Cert.DwDownReferenceIdeal.τ).loc Cert.DwDownReferenceIdeal.main_arg0) = m' ((c.tc : Thread Cert.DwDownReferenceIdeal.nD Cert.DwDownReferenceIdeal.τ).loc Cert.DwDownReferenceIdeal.main_arg0)
          ∧ r.2.mem ((c.tc : Thread Cert.DwDownReferenceIdeal.nD Cert.DwDownReferenceIdeal.τ).loc Cert.DwDownReferenceIdeal.main_arg1) = m' ((c.tc : Thread Cert.DwDownReferenceIdeal.nD Cert.DwDownReferenceIdeal.τ).loc Cert.DwDownReferenceIdeal.main_arg1)
          ∧ r.2.mem ((c.tc : Thread Cert.DwDownReferenceIdeal.nD Cert.DwDownReferenceIdeal.τ).loc Cert.DwDownReferenceIdeal.main_arg2) = m' ((c.tc : Thread Cert.DwDownReferenceIdeal.nD Cert.DwDownReferenceIdeal.τ).loc Cert.DwDownReferenceIdeal.main_arg2))

def preserves_MlpDown_MlpDownIdeal : Prop :=
  True

def algebraic_MlpDownIdeal_MlpDownReferenceIdeal [hMlpDownIdeal : Cert.MlpDownIdeal.Facts] [hMlpDownReferenceIdeal : Cert.MlpDownReferenceIdeal.Facts] : Prop :=
  ∀ (m : (ℓ : Loc Cert.MlpDownIdeal.nD Cert.MlpDownIdeal.τ Cert.MlpDownIdeal.sig) → Buf (Elt Ideal) ℓ) (g : Dev Cert.MlpDownIdeal.nD → PrngReg)
    (m' : (ℓ : Loc Cert.MlpDownReferenceIdeal.nD Cert.MlpDownReferenceIdeal.τ Cert.MlpDownReferenceIdeal.sig) → Buf (Elt Ideal) ℓ) (g' : Dev Cert.MlpDownReferenceIdeal.nD → PrngReg), Pre_MlpDownIdeal m →
    (∀ c : Dev Cert.MlpDownIdeal.nD,
      m' ((c.tc : Thread Cert.MlpDownReferenceIdeal.nD Cert.MlpDownReferenceIdeal.τ).loc Cert.MlpDownReferenceIdeal.main_arg0) = m ((c.tc : Thread Cert.MlpDownIdeal.nD Cert.MlpDownIdeal.τ).loc Cert.MlpDownIdeal.main_arg0)
      ∧ m' ((c.tc : Thread Cert.MlpDownReferenceIdeal.nD Cert.MlpDownReferenceIdeal.τ).loc Cert.MlpDownReferenceIdeal.main_arg1) = m ((c.tc : Thread Cert.MlpDownIdeal.nD Cert.MlpDownIdeal.τ).loc Cert.MlpDownIdeal.main_arg1)
      ∧ m' ((c.tc : Thread Cert.MlpDownReferenceIdeal.nD Cert.MlpDownReferenceIdeal.τ).loc Cert.MlpDownReferenceIdeal.main_arg2) = m ((c.tc : Thread Cert.MlpDownIdeal.nD Cert.MlpDownIdeal.τ).loc Cert.MlpDownIdeal.main_arg2)
      ∧ m' ((c.tc : Thread Cert.MlpDownReferenceIdeal.nD Cert.MlpDownReferenceIdeal.τ).loc Cert.MlpDownReferenceIdeal.main_arg3) = m ((c.tc : Thread Cert.MlpDownIdeal.nD Cert.MlpDownIdeal.τ).loc Cert.MlpDownIdeal.main_arg3)) →
    ∃ (v0 : (c : Dev Cert.MlpDownIdeal.nD) → Buf (Elt Ideal) ((c.tc : Thread Cert.MlpDownIdeal.nD Cert.MlpDownIdeal.τ).loc Cert.MlpDownIdeal.main_v5_0)) (v1 : (c : Dev Cert.MlpDownIdeal.nD) → Buf (Elt Ideal) ((c.tc : Thread Cert.MlpDownIdeal.nD Cert.MlpDownIdeal.τ).loc Cert.MlpDownIdeal.main_v5_1)) (v2 : (c : Dev Cert.MlpDownIdeal.nD) → Buf (Elt Ideal) ((c.tc : Thread Cert.MlpDownIdeal.nD Cert.MlpDownIdeal.τ).loc Cert.MlpDownIdeal.main_v5_2)),
      θ_run (Cert.MlpDownIdeal.defs (F := Ideal)) (onTc (τ := Cert.MlpDownIdeal.τ) (Cert.MlpDownIdeal.main (F := Ideal))) ⟨m, fun _ => 0, g⟩ (fun r => ∀ c : Dev Cert.MlpDownIdeal.nD,
          r.2.mem ((c.tc : Thread Cert.MlpDownIdeal.nD Cert.MlpDownIdeal.τ).loc Cert.MlpDownIdeal.main_v5_0) = v0 c
          ∧ r.2.mem ((c.tc : Thread Cert.MlpDownIdeal.nD Cert.MlpDownIdeal.τ).loc Cert.MlpDownIdeal.main_v5_1) = v1 c
          ∧ r.2.mem ((c.tc : Thread Cert.MlpDownIdeal.nD Cert.MlpDownIdeal.τ).loc Cert.MlpDownIdeal.main_v5_2) = v2 c
          ∧ r.2.mem ((c.tc : Thread Cert.MlpDownIdeal.nD Cert.MlpDownIdeal.τ).loc Cert.MlpDownIdeal.main_arg0) = m ((c.tc : Thread Cert.MlpDownIdeal.nD Cert.MlpDownIdeal.τ).loc Cert.MlpDownIdeal.main_arg0)
          ∧ r.2.mem ((c.tc : Thread Cert.MlpDownIdeal.nD Cert.MlpDownIdeal.τ).loc Cert.MlpDownIdeal.main_arg1) = m ((c.tc : Thread Cert.MlpDownIdeal.nD Cert.MlpDownIdeal.τ).loc Cert.MlpDownIdeal.main_arg1)
          ∧ r.2.mem ((c.tc : Thread Cert.MlpDownIdeal.nD Cert.MlpDownIdeal.τ).loc Cert.MlpDownIdeal.main_arg2) = m ((c.tc : Thread Cert.MlpDownIdeal.nD Cert.MlpDownIdeal.τ).loc Cert.MlpDownIdeal.main_arg2)
          ∧ r.2.mem ((c.tc : Thread Cert.MlpDownIdeal.nD Cert.MlpDownIdeal.τ).loc Cert.MlpDownIdeal.main_arg3) = m ((c.tc : Thread Cert.MlpDownIdeal.nD Cert.MlpDownIdeal.τ).loc Cert.MlpDownIdeal.main_arg3))
      ∧ θ_run (Cert.MlpDownReferenceIdeal.defs (F := Ideal)) (onTc (τ := Cert.MlpDownReferenceIdeal.τ) (Cert.MlpDownReferenceIdeal.main (F := Ideal))) ⟨m', fun _ => 0, g'⟩ (fun r => ∀ c : Dev Cert.MlpDownReferenceIdeal.nD,
          r.2.mem ((c.tc : Thread Cert.MlpDownReferenceIdeal.nD Cert.MlpDownReferenceIdeal.τ).loc Cert.MlpDownReferenceIdeal.main_v44) = v0 c
          ∧ r.2.mem ((c.tc : Thread Cert.MlpDownReferenceIdeal.nD Cert.MlpDownReferenceIdeal.τ).loc Cert.MlpDownReferenceIdeal.main_v49) = v1 c
          ∧ r.2.mem ((c.tc : Thread Cert.MlpDownReferenceIdeal.nD Cert.MlpDownReferenceIdeal.τ).loc Cert.MlpDownReferenceIdeal.main_v50) = v2 c
          ∧ r.2.mem ((c.tc : Thread Cert.MlpDownReferenceIdeal.nD Cert.MlpDownReferenceIdeal.τ).loc Cert.MlpDownReferenceIdeal.main_arg0) = m' ((c.tc : Thread Cert.MlpDownReferenceIdeal.nD Cert.MlpDownReferenceIdeal.τ).loc Cert.MlpDownReferenceIdeal.main_arg0)
          ∧ r.2.mem ((c.tc : Thread Cert.MlpDownReferenceIdeal.nD Cert.MlpDownReferenceIdeal.τ).loc Cert.MlpDownReferenceIdeal.main_arg1) = m' ((c.tc : Thread Cert.MlpDownReferenceIdeal.nD Cert.MlpDownReferenceIdeal.τ).loc Cert.MlpDownReferenceIdeal.main_arg1)
          ∧ r.2.mem ((c.tc : Thread Cert.MlpDownReferenceIdeal.nD Cert.MlpDownReferenceIdeal.τ).loc Cert.MlpDownReferenceIdeal.main_arg2) = m' ((c.tc : Thread Cert.MlpDownReferenceIdeal.nD Cert.MlpDownReferenceIdeal.τ).loc Cert.MlpDownReferenceIdeal.main_arg2)
          ∧ r.2.mem ((c.tc : Thread Cert.MlpDownReferenceIdeal.nD Cert.MlpDownReferenceIdeal.τ).loc Cert.MlpDownReferenceIdeal.main_arg3) = m' ((c.tc : Thread Cert.MlpDownReferenceIdeal.nD Cert.MlpDownReferenceIdeal.τ).loc Cert.MlpDownReferenceIdeal.main_arg3))

def preserves_MlpUp_MlpUpIdeal : Prop :=
  True

def algebraic_MlpUpIdeal_MlpUpReferenceIdeal [hMlpUpIdeal : Cert.MlpUpIdeal.Facts] [hMlpUpReferenceIdeal : Cert.MlpUpReferenceIdeal.Facts] : Prop :=
  ∀ (m : (ℓ : Loc Cert.MlpUpIdeal.nD Cert.MlpUpIdeal.τ Cert.MlpUpIdeal.sig) → Buf (Elt Ideal) ℓ) (g : Dev Cert.MlpUpIdeal.nD → PrngReg)
    (m' : (ℓ : Loc Cert.MlpUpReferenceIdeal.nD Cert.MlpUpReferenceIdeal.τ Cert.MlpUpReferenceIdeal.sig) → Buf (Elt Ideal) ℓ) (g' : Dev Cert.MlpUpReferenceIdeal.nD → PrngReg), Pre_MlpUpIdeal m →
    (∀ c : Dev Cert.MlpUpIdeal.nD,
      m' ((c.tc : Thread Cert.MlpUpReferenceIdeal.nD Cert.MlpUpReferenceIdeal.τ).loc Cert.MlpUpReferenceIdeal.main_arg0) = m ((c.tc : Thread Cert.MlpUpIdeal.nD Cert.MlpUpIdeal.τ).loc Cert.MlpUpIdeal.main_arg0)
      ∧ m' ((c.tc : Thread Cert.MlpUpReferenceIdeal.nD Cert.MlpUpReferenceIdeal.τ).loc Cert.MlpUpReferenceIdeal.main_arg1) = m ((c.tc : Thread Cert.MlpUpIdeal.nD Cert.MlpUpIdeal.τ).loc Cert.MlpUpIdeal.main_arg1)
      ∧ m' ((c.tc : Thread Cert.MlpUpReferenceIdeal.nD Cert.MlpUpReferenceIdeal.τ).loc Cert.MlpUpReferenceIdeal.main_arg2) = m ((c.tc : Thread Cert.MlpUpIdeal.nD Cert.MlpUpIdeal.τ).loc Cert.MlpUpIdeal.main_arg2)
      ∧ m' ((c.tc : Thread Cert.MlpUpReferenceIdeal.nD Cert.MlpUpReferenceIdeal.τ).loc Cert.MlpUpReferenceIdeal.main_arg3) = m ((c.tc : Thread Cert.MlpUpIdeal.nD Cert.MlpUpIdeal.τ).loc Cert.MlpUpIdeal.main_arg3)
      ∧ m' ((c.tc : Thread Cert.MlpUpReferenceIdeal.nD Cert.MlpUpReferenceIdeal.τ).loc Cert.MlpUpReferenceIdeal.main_arg4) = m ((c.tc : Thread Cert.MlpUpIdeal.nD Cert.MlpUpIdeal.τ).loc Cert.MlpUpIdeal.main_arg4)) →
    ∃ (v0 : (c : Dev Cert.MlpUpIdeal.nD) → Buf (Elt Ideal) ((c.tc : Thread Cert.MlpUpIdeal.nD Cert.MlpUpIdeal.τ).loc Cert.MlpUpIdeal.main_v3_0)) (v1 : (c : Dev Cert.MlpUpIdeal.nD) → Buf (Elt Ideal) ((c.tc : Thread Cert.MlpUpIdeal.nD Cert.MlpUpIdeal.τ).loc Cert.MlpUpIdeal.main_v3_1)) (v2 : (c : Dev Cert.MlpUpIdeal.nD) → Buf (Elt Ideal) ((c.tc : Thread Cert.MlpUpIdeal.nD Cert.MlpUpIdeal.τ).loc Cert.MlpUpIdeal.main_v3_2)),
      θ_run (Cert.MlpUpIdeal.defs (F := Ideal)) (onTc (τ := Cert.MlpUpIdeal.τ) (Cert.MlpUpIdeal.main (F := Ideal))) ⟨m, fun _ => 0, g⟩ (fun r => ∀ c : Dev Cert.MlpUpIdeal.nD,
          r.2.mem ((c.tc : Thread Cert.MlpUpIdeal.nD Cert.MlpUpIdeal.τ).loc Cert.MlpUpIdeal.main_v3_0) = v0 c
          ∧ r.2.mem ((c.tc : Thread Cert.MlpUpIdeal.nD Cert.MlpUpIdeal.τ).loc Cert.MlpUpIdeal.main_v3_1) = v1 c
          ∧ r.2.mem ((c.tc : Thread Cert.MlpUpIdeal.nD Cert.MlpUpIdeal.τ).loc Cert.MlpUpIdeal.main_v3_2) = v2 c
          ∧ r.2.mem ((c.tc : Thread Cert.MlpUpIdeal.nD Cert.MlpUpIdeal.τ).loc Cert.MlpUpIdeal.main_arg0) = m ((c.tc : Thread Cert.MlpUpIdeal.nD Cert.MlpUpIdeal.τ).loc Cert.MlpUpIdeal.main_arg0)
          ∧ r.2.mem ((c.tc : Thread Cert.MlpUpIdeal.nD Cert.MlpUpIdeal.τ).loc Cert.MlpUpIdeal.main_arg1) = m ((c.tc : Thread Cert.MlpUpIdeal.nD Cert.MlpUpIdeal.τ).loc Cert.MlpUpIdeal.main_arg1)
          ∧ r.2.mem ((c.tc : Thread Cert.MlpUpIdeal.nD Cert.MlpUpIdeal.τ).loc Cert.MlpUpIdeal.main_arg2) = m ((c.tc : Thread Cert.MlpUpIdeal.nD Cert.MlpUpIdeal.τ).loc Cert.MlpUpIdeal.main_arg2)
          ∧ r.2.mem ((c.tc : Thread Cert.MlpUpIdeal.nD Cert.MlpUpIdeal.τ).loc Cert.MlpUpIdeal.main_arg3) = m ((c.tc : Thread Cert.MlpUpIdeal.nD Cert.MlpUpIdeal.τ).loc Cert.MlpUpIdeal.main_arg3)
          ∧ r.2.mem ((c.tc : Thread Cert.MlpUpIdeal.nD Cert.MlpUpIdeal.τ).loc Cert.MlpUpIdeal.main_arg4) = m ((c.tc : Thread Cert.MlpUpIdeal.nD Cert.MlpUpIdeal.τ).loc Cert.MlpUpIdeal.main_arg4))
      ∧ θ_run (Cert.MlpUpReferenceIdeal.defs (F := Ideal)) (onTc (τ := Cert.MlpUpReferenceIdeal.τ) (Cert.MlpUpReferenceIdeal.main (F := Ideal))) ⟨m', fun _ => 0, g'⟩ (fun r => ∀ c : Dev Cert.MlpUpReferenceIdeal.nD,
          r.2.mem ((c.tc : Thread Cert.MlpUpReferenceIdeal.nD Cert.MlpUpReferenceIdeal.τ).loc Cert.MlpUpReferenceIdeal.main_v38) = v0 c
          ∧ r.2.mem ((c.tc : Thread Cert.MlpUpReferenceIdeal.nD Cert.MlpUpReferenceIdeal.τ).loc Cert.MlpUpReferenceIdeal.main_v52) = v1 c
          ∧ r.2.mem ((c.tc : Thread Cert.MlpUpReferenceIdeal.nD Cert.MlpUpReferenceIdeal.τ).loc Cert.MlpUpReferenceIdeal.main_v53) = v2 c
          ∧ r.2.mem ((c.tc : Thread Cert.MlpUpReferenceIdeal.nD Cert.MlpUpReferenceIdeal.τ).loc Cert.MlpUpReferenceIdeal.main_arg0) = m' ((c.tc : Thread Cert.MlpUpReferenceIdeal.nD Cert.MlpUpReferenceIdeal.τ).loc Cert.MlpUpReferenceIdeal.main_arg0)
          ∧ r.2.mem ((c.tc : Thread Cert.MlpUpReferenceIdeal.nD Cert.MlpUpReferenceIdeal.τ).loc Cert.MlpUpReferenceIdeal.main_arg1) = m' ((c.tc : Thread Cert.MlpUpReferenceIdeal.nD Cert.MlpUpReferenceIdeal.τ).loc Cert.MlpUpReferenceIdeal.main_arg1)
          ∧ r.2.mem ((c.tc : Thread Cert.MlpUpReferenceIdeal.nD Cert.MlpUpReferenceIdeal.τ).loc Cert.MlpUpReferenceIdeal.main_arg2) = m' ((c.tc : Thread Cert.MlpUpReferenceIdeal.nD Cert.MlpUpReferenceIdeal.τ).loc Cert.MlpUpReferenceIdeal.main_arg2)
          ∧ r.2.mem ((c.tc : Thread Cert.MlpUpReferenceIdeal.nD Cert.MlpUpReferenceIdeal.τ).loc Cert.MlpUpReferenceIdeal.main_arg3) = m' ((c.tc : Thread Cert.MlpUpReferenceIdeal.nD Cert.MlpUpReferenceIdeal.τ).loc Cert.MlpUpReferenceIdeal.main_arg3)
          ∧ r.2.mem ((c.tc : Thread Cert.MlpUpReferenceIdeal.nD Cert.MlpUpReferenceIdeal.τ).loc Cert.MlpUpReferenceIdeal.main_arg4) = m' ((c.tc : Thread Cert.MlpUpReferenceIdeal.nD Cert.MlpUpReferenceIdeal.τ).loc Cert.MlpUpReferenceIdeal.main_arg4))

def preserves_MlpUpFwd_MlpUpFwdIdeal : Prop :=
  True

def algebraic_MlpUpFwdIdeal_MlpUpFwdReferenceIdeal [hMlpUpFwdIdeal : Cert.MlpUpFwdIdeal.Facts] [hMlpUpFwdReferenceIdeal : Cert.MlpUpFwdReferenceIdeal.Facts] : Prop :=
  ∀ (m : (ℓ : Loc Cert.MlpUpFwdIdeal.nD Cert.MlpUpFwdIdeal.τ Cert.MlpUpFwdIdeal.sig) → Buf (Elt Ideal) ℓ) (g : Dev Cert.MlpUpFwdIdeal.nD → PrngReg)
    (m' : (ℓ : Loc Cert.MlpUpFwdReferenceIdeal.nD Cert.MlpUpFwdReferenceIdeal.τ Cert.MlpUpFwdReferenceIdeal.sig) → Buf (Elt Ideal) ℓ) (g' : Dev Cert.MlpUpFwdReferenceIdeal.nD → PrngReg), Pre_MlpUpFwdIdeal m →
    (∀ c : Dev Cert.MlpUpFwdIdeal.nD,
      m' ((c.tc : Thread Cert.MlpUpFwdReferenceIdeal.nD Cert.MlpUpFwdReferenceIdeal.τ).loc Cert.MlpUpFwdReferenceIdeal.main_arg0) = m ((c.tc : Thread Cert.MlpUpFwdIdeal.nD Cert.MlpUpFwdIdeal.τ).loc Cert.MlpUpFwdIdeal.main_arg0)
      ∧ m' ((c.tc : Thread Cert.MlpUpFwdReferenceIdeal.nD Cert.MlpUpFwdReferenceIdeal.τ).loc Cert.MlpUpFwdReferenceIdeal.main_arg1) = m ((c.tc : Thread Cert.MlpUpFwdIdeal.nD Cert.MlpUpFwdIdeal.τ).loc Cert.MlpUpFwdIdeal.main_arg1)
      ∧ m' ((c.tc : Thread Cert.MlpUpFwdReferenceIdeal.nD Cert.MlpUpFwdReferenceIdeal.τ).loc Cert.MlpUpFwdReferenceIdeal.main_arg2) = m ((c.tc : Thread Cert.MlpUpFwdIdeal.nD Cert.MlpUpFwdIdeal.τ).loc Cert.MlpUpFwdIdeal.main_arg2)) →
    ∃ (v0 : (c : Dev Cert.MlpUpFwdIdeal.nD) → Buf (Elt Ideal) ((c.tc : Thread Cert.MlpUpFwdIdeal.nD Cert.MlpUpFwdIdeal.τ).loc Cert.MlpUpFwdIdeal.main_v2)),
      θ_run (Cert.MlpUpFwdIdeal.defs (F := Ideal)) (onTc (τ := Cert.MlpUpFwdIdeal.τ) (Cert.MlpUpFwdIdeal.main (F := Ideal))) ⟨m, fun _ => 0, g⟩ (fun r => ∀ c : Dev Cert.MlpUpFwdIdeal.nD,
          r.2.mem ((c.tc : Thread Cert.MlpUpFwdIdeal.nD Cert.MlpUpFwdIdeal.τ).loc Cert.MlpUpFwdIdeal.main_v2) = v0 c
          ∧ r.2.mem ((c.tc : Thread Cert.MlpUpFwdIdeal.nD Cert.MlpUpFwdIdeal.τ).loc Cert.MlpUpFwdIdeal.main_arg0) = m ((c.tc : Thread Cert.MlpUpFwdIdeal.nD Cert.MlpUpFwdIdeal.τ).loc Cert.MlpUpFwdIdeal.main_arg0)
          ∧ r.2.mem ((c.tc : Thread Cert.MlpUpFwdIdeal.nD Cert.MlpUpFwdIdeal.τ).loc Cert.MlpUpFwdIdeal.main_arg1) = m ((c.tc : Thread Cert.MlpUpFwdIdeal.nD Cert.MlpUpFwdIdeal.τ).loc Cert.MlpUpFwdIdeal.main_arg1)
          ∧ r.2.mem ((c.tc : Thread Cert.MlpUpFwdIdeal.nD Cert.MlpUpFwdIdeal.τ).loc Cert.MlpUpFwdIdeal.main_arg2) = m ((c.tc : Thread Cert.MlpUpFwdIdeal.nD Cert.MlpUpFwdIdeal.τ).loc Cert.MlpUpFwdIdeal.main_arg2))
      ∧ θ_run (Cert.MlpUpFwdReferenceIdeal.defs (F := Ideal)) (onTc (τ := Cert.MlpUpFwdReferenceIdeal.τ) (Cert.MlpUpFwdReferenceIdeal.main (F := Ideal))) ⟨m', fun _ => 0, g'⟩ (fun r => ∀ c : Dev Cert.MlpUpFwdReferenceIdeal.nD,
          r.2.mem ((c.tc : Thread Cert.MlpUpFwdReferenceIdeal.nD Cert.MlpUpFwdReferenceIdeal.τ).loc Cert.MlpUpFwdReferenceIdeal.main_v13) = v0 c
          ∧ r.2.mem ((c.tc : Thread Cert.MlpUpFwdReferenceIdeal.nD Cert.MlpUpFwdReferenceIdeal.τ).loc Cert.MlpUpFwdReferenceIdeal.main_arg0) = m' ((c.tc : Thread Cert.MlpUpFwdReferenceIdeal.nD Cert.MlpUpFwdReferenceIdeal.τ).loc Cert.MlpUpFwdReferenceIdeal.main_arg0)
          ∧ r.2.mem ((c.tc : Thread Cert.MlpUpFwdReferenceIdeal.nD Cert.MlpUpFwdReferenceIdeal.τ).loc Cert.MlpUpFwdReferenceIdeal.main_arg1) = m' ((c.tc : Thread Cert.MlpUpFwdReferenceIdeal.nD Cert.MlpUpFwdReferenceIdeal.τ).loc Cert.MlpUpFwdReferenceIdeal.main_arg1)
          ∧ r.2.mem ((c.tc : Thread Cert.MlpUpFwdReferenceIdeal.nD Cert.MlpUpFwdReferenceIdeal.τ).loc Cert.MlpUpFwdReferenceIdeal.main_arg2) = m' ((c.tc : Thread Cert.MlpUpFwdReferenceIdeal.nD Cert.MlpUpFwdReferenceIdeal.τ).loc Cert.MlpUpFwdReferenceIdeal.main_arg2))

def preserves_MlpDownFwd_MlpDownFwdIdeal : Prop :=
  True

def algebraic_MlpDownFwdIdeal_MlpDownFwdReferenceIdeal [hMlpDownFwdIdeal : Cert.MlpDownFwdIdeal.Facts] [hMlpDownFwdReferenceIdeal : Cert.MlpDownFwdReferenceIdeal.Facts] : Prop :=
  ∀ (m : (ℓ : Loc Cert.MlpDownFwdIdeal.nD Cert.MlpDownFwdIdeal.τ Cert.MlpDownFwdIdeal.sig) → Buf (Elt Ideal) ℓ) (g : Dev Cert.MlpDownFwdIdeal.nD → PrngReg)
    (m' : (ℓ : Loc Cert.MlpDownFwdReferenceIdeal.nD Cert.MlpDownFwdReferenceIdeal.τ Cert.MlpDownFwdReferenceIdeal.sig) → Buf (Elt Ideal) ℓ) (g' : Dev Cert.MlpDownFwdReferenceIdeal.nD → PrngReg), Pre_MlpDownFwdIdeal m →
    (∀ c : Dev Cert.MlpDownFwdIdeal.nD,
      m' ((c.tc : Thread Cert.MlpDownFwdReferenceIdeal.nD Cert.MlpDownFwdReferenceIdeal.τ).loc Cert.MlpDownFwdReferenceIdeal.main_arg0) = m ((c.tc : Thread Cert.MlpDownFwdIdeal.nD Cert.MlpDownFwdIdeal.τ).loc Cert.MlpDownFwdIdeal.main_arg0)
      ∧ m' ((c.tc : Thread Cert.MlpDownFwdReferenceIdeal.nD Cert.MlpDownFwdReferenceIdeal.τ).loc Cert.MlpDownFwdReferenceIdeal.main_arg1) = m ((c.tc : Thread Cert.MlpDownFwdIdeal.nD Cert.MlpDownFwdIdeal.τ).loc Cert.MlpDownFwdIdeal.main_arg1)
      ∧ m' ((c.tc : Thread Cert.MlpDownFwdReferenceIdeal.nD Cert.MlpDownFwdReferenceIdeal.τ).loc Cert.MlpDownFwdReferenceIdeal.main_arg2) = m ((c.tc : Thread Cert.MlpDownFwdIdeal.nD Cert.MlpDownFwdIdeal.τ).loc Cert.MlpDownFwdIdeal.main_arg2)
      ∧ m' ((c.tc : Thread Cert.MlpDownFwdReferenceIdeal.nD Cert.MlpDownFwdReferenceIdeal.τ).loc Cert.MlpDownFwdReferenceIdeal.main_arg3) = m ((c.tc : Thread Cert.MlpDownFwdIdeal.nD Cert.MlpDownFwdIdeal.τ).loc Cert.MlpDownFwdIdeal.main_arg3)) →
    ∃ (v0 : (c : Dev Cert.MlpDownFwdIdeal.nD) → Buf (Elt Ideal) ((c.tc : Thread Cert.MlpDownFwdIdeal.nD Cert.MlpDownFwdIdeal.τ).loc Cert.MlpDownFwdIdeal.main_v2_0)) (v1 : (c : Dev Cert.MlpDownFwdIdeal.nD) → Buf (Elt Ideal) ((c.tc : Thread Cert.MlpDownFwdIdeal.nD Cert.MlpDownFwdIdeal.τ).loc Cert.MlpDownFwdIdeal.main_v2_1)),
      θ_run (Cert.MlpDownFwdIdeal.defs (F := Ideal)) (onTc (τ := Cert.MlpDownFwdIdeal.τ) (Cert.MlpDownFwdIdeal.main (F := Ideal))) ⟨m, fun _ => 0, g⟩ (fun r => ∀ c : Dev Cert.MlpDownFwdIdeal.nD,
          r.2.mem ((c.tc : Thread Cert.MlpDownFwdIdeal.nD Cert.MlpDownFwdIdeal.τ).loc Cert.MlpDownFwdIdeal.main_v2_0) = v0 c
          ∧ r.2.mem ((c.tc : Thread Cert.MlpDownFwdIdeal.nD Cert.MlpDownFwdIdeal.τ).loc Cert.MlpDownFwdIdeal.main_v2_1) = v1 c
          ∧ r.2.mem ((c.tc : Thread Cert.MlpDownFwdIdeal.nD Cert.MlpDownFwdIdeal.τ).loc Cert.MlpDownFwdIdeal.main_arg0) = m ((c.tc : Thread Cert.MlpDownFwdIdeal.nD Cert.MlpDownFwdIdeal.τ).loc Cert.MlpDownFwdIdeal.main_arg0)
          ∧ r.2.mem ((c.tc : Thread Cert.MlpDownFwdIdeal.nD Cert.MlpDownFwdIdeal.τ).loc Cert.MlpDownFwdIdeal.main_arg1) = m ((c.tc : Thread Cert.MlpDownFwdIdeal.nD Cert.MlpDownFwdIdeal.τ).loc Cert.MlpDownFwdIdeal.main_arg1)
          ∧ r.2.mem ((c.tc : Thread Cert.MlpDownFwdIdeal.nD Cert.MlpDownFwdIdeal.τ).loc Cert.MlpDownFwdIdeal.main_arg2) = m ((c.tc : Thread Cert.MlpDownFwdIdeal.nD Cert.MlpDownFwdIdeal.τ).loc Cert.MlpDownFwdIdeal.main_arg2)
          ∧ r.2.mem ((c.tc : Thread Cert.MlpDownFwdIdeal.nD Cert.MlpDownFwdIdeal.τ).loc Cert.MlpDownFwdIdeal.main_arg3) = m ((c.tc : Thread Cert.MlpDownFwdIdeal.nD Cert.MlpDownFwdIdeal.τ).loc Cert.MlpDownFwdIdeal.main_arg3))
      ∧ θ_run (Cert.MlpDownFwdReferenceIdeal.defs (F := Ideal)) (onTc (τ := Cert.MlpDownFwdReferenceIdeal.τ) (Cert.MlpDownFwdReferenceIdeal.main (F := Ideal))) ⟨m', fun _ => 0, g'⟩ (fun r => ∀ c : Dev Cert.MlpDownFwdReferenceIdeal.nD,
          r.2.mem ((c.tc : Thread Cert.MlpDownFwdReferenceIdeal.nD Cert.MlpDownFwdReferenceIdeal.τ).loc Cert.MlpDownFwdReferenceIdeal.main_v2) = v0 c
          ∧ r.2.mem ((c.tc : Thread Cert.MlpDownFwdReferenceIdeal.nD Cert.MlpDownFwdReferenceIdeal.τ).loc Cert.MlpDownFwdReferenceIdeal.main_v16) = v1 c
          ∧ r.2.mem ((c.tc : Thread Cert.MlpDownFwdReferenceIdeal.nD Cert.MlpDownFwdReferenceIdeal.τ).loc Cert.MlpDownFwdReferenceIdeal.main_arg0) = m' ((c.tc : Thread Cert.MlpDownFwdReferenceIdeal.nD Cert.MlpDownFwdReferenceIdeal.τ).loc Cert.MlpDownFwdReferenceIdeal.main_arg0)
          ∧ r.2.mem ((c.tc : Thread Cert.MlpDownFwdReferenceIdeal.nD Cert.MlpDownFwdReferenceIdeal.τ).loc Cert.MlpDownFwdReferenceIdeal.main_arg1) = m' ((c.tc : Thread Cert.MlpDownFwdReferenceIdeal.nD Cert.MlpDownFwdReferenceIdeal.τ).loc Cert.MlpDownFwdReferenceIdeal.main_arg1)
          ∧ r.2.mem ((c.tc : Thread Cert.MlpDownFwdReferenceIdeal.nD Cert.MlpDownFwdReferenceIdeal.τ).loc Cert.MlpDownFwdReferenceIdeal.main_arg2) = m' ((c.tc : Thread Cert.MlpDownFwdReferenceIdeal.nD Cert.MlpDownFwdReferenceIdeal.τ).loc Cert.MlpDownFwdReferenceIdeal.main_arg2)
          ∧ r.2.mem ((c.tc : Thread Cert.MlpDownFwdReferenceIdeal.nD Cert.MlpDownFwdReferenceIdeal.τ).loc Cert.MlpDownFwdReferenceIdeal.main_arg3) = m' ((c.tc : Thread Cert.MlpDownFwdReferenceIdeal.nD Cert.MlpDownFwdReferenceIdeal.τ).loc Cert.MlpDownFwdReferenceIdeal.main_arg3))

def preserves_PleBwd_PleBwdIdeal : Prop :=
  True

def algebraic_PleBwdIdeal_PleBwdReferenceIdeal [hPleBwdIdeal : Cert.PleBwdIdeal.Facts] [hPleBwdReferenceIdeal : Cert.PleBwdReferenceIdeal.Facts] : Prop :=
  ∀ (m : (ℓ : Loc Cert.PleBwdIdeal.nD Cert.PleBwdIdeal.τ Cert.PleBwdIdeal.sig) → Buf (Elt Ideal) ℓ) (g : Dev Cert.PleBwdIdeal.nD → PrngReg)
    (m' : (ℓ : Loc Cert.PleBwdReferenceIdeal.nD Cert.PleBwdReferenceIdeal.τ Cert.PleBwdReferenceIdeal.sig) → Buf (Elt Ideal) ℓ) (g' : Dev Cert.PleBwdReferenceIdeal.nD → PrngReg), Pre_PleBwdIdeal m →
    (∀ c : Dev Cert.PleBwdIdeal.nD,
      m' ((c.tc : Thread Cert.PleBwdReferenceIdeal.nD Cert.PleBwdReferenceIdeal.τ).loc Cert.PleBwdReferenceIdeal.main_arg0) = m ((c.tc : Thread Cert.PleBwdIdeal.nD Cert.PleBwdIdeal.τ).loc Cert.PleBwdIdeal.main_arg0)
      ∧ m' ((c.tc : Thread Cert.PleBwdReferenceIdeal.nD Cert.PleBwdReferenceIdeal.τ).loc Cert.PleBwdReferenceIdeal.main_arg1) = m ((c.tc : Thread Cert.PleBwdIdeal.nD Cert.PleBwdIdeal.τ).loc Cert.PleBwdIdeal.main_arg1)
      ∧ m' ((c.tc : Thread Cert.PleBwdReferenceIdeal.nD Cert.PleBwdReferenceIdeal.τ).loc Cert.PleBwdReferenceIdeal.main_arg2) = m ((c.tc : Thread Cert.PleBwdIdeal.nD Cert.PleBwdIdeal.τ).loc Cert.PleBwdIdeal.main_arg2)
      ∧ m' ((c.tc : Thread Cert.PleBwdReferenceIdeal.nD Cert.PleBwdReferenceIdeal.τ).loc Cert.PleBwdReferenceIdeal.main_arg3) = m ((c.tc : Thread Cert.PleBwdIdeal.nD Cert.PleBwdIdeal.τ).loc Cert.PleBwdIdeal.main_arg3)
      ∧ m' ((c.tc : Thread Cert.PleBwdReferenceIdeal.nD Cert.PleBwdReferenceIdeal.τ).loc Cert.PleBwdReferenceIdeal.main_arg4) = m ((c.tc : Thread Cert.PleBwdIdeal.nD Cert.PleBwdIdeal.τ).loc Cert.PleBwdIdeal.main_arg4)
      ∧ m' ((c.tc : Thread Cert.PleBwdReferenceIdeal.nD Cert.PleBwdReferenceIdeal.τ).loc Cert.PleBwdReferenceIdeal.main_arg5) = m ((c.tc : Thread Cert.PleBwdIdeal.nD Cert.PleBwdIdeal.τ).loc Cert.PleBwdIdeal.main_arg5)
      ∧ m' ((c.tc : Thread Cert.PleBwdReferenceIdeal.nD Cert.PleBwdReferenceIdeal.τ).loc Cert.PleBwdReferenceIdeal.main_arg6) = m ((c.tc : Thread Cert.PleBwdIdeal.nD Cert.PleBwdIdeal.τ).loc Cert.PleBwdIdeal.main_arg6)) →
    ∃ (v0 : (c : Dev Cert.PleBwdIdeal.nD) → Buf (Elt Ideal) ((c.tc : Thread Cert.PleBwdIdeal.nD Cert.PleBwdIdeal.τ).loc Cert.PleBwdIdeal.main_v18_0)) (v1 : (c : Dev Cert.PleBwdIdeal.nD) → Buf (Elt Ideal) ((c.tc : Thread Cert.PleBwdIdeal.nD Cert.PleBwdIdeal.τ).loc Cert.PleBwdIdeal.main_v18_1)) (v2 : (c : Dev Cert.PleBwdIdeal.nD) → Buf (Elt Ideal) ((c.tc : Thread Cert.PleBwdIdeal.nD Cert.PleBwdIdeal.τ).loc Cert.PleBwdIdeal.main_v18_2)) (v3 : (c : Dev Cert.PleBwdIdeal.nD) → Buf (Elt Ideal) ((c.tc : Thread Cert.PleBwdIdeal.nD Cert.PleBwdIdeal.τ).loc Cert.PleBwdIdeal.main_v18_3)) (v4 : (c : Dev Cert.PleBwdIdeal.nD) → Buf (Elt Ideal) ((c.tc : Thread Cert.PleBwdIdeal.nD Cert.PleBwdIdeal.τ).loc Cert.PleBwdIdeal.main_v18_4)),
      θ_run (Cert.PleBwdIdeal.defs (F := Ideal)) (onTc (τ := Cert.PleBwdIdeal.τ) (Cert.PleBwdIdeal.main (F := Ideal))) ⟨m, fun _ => 0, g⟩ (fun r => ∀ c : Dev Cert.PleBwdIdeal.nD,
          r.2.mem ((c.tc : Thread Cert.PleBwdIdeal.nD Cert.PleBwdIdeal.τ).loc Cert.PleBwdIdeal.main_v18_0) = v0 c
          ∧ r.2.mem ((c.tc : Thread Cert.PleBwdIdeal.nD Cert.PleBwdIdeal.τ).loc Cert.PleBwdIdeal.main_v18_1) = v1 c
          ∧ r.2.mem ((c.tc : Thread Cert.PleBwdIdeal.nD Cert.PleBwdIdeal.τ).loc Cert.PleBwdIdeal.main_v18_2) = v2 c
          ∧ r.2.mem ((c.tc : Thread Cert.PleBwdIdeal.nD Cert.PleBwdIdeal.τ).loc Cert.PleBwdIdeal.main_v18_3) = v3 c
          ∧ r.2.mem ((c.tc : Thread Cert.PleBwdIdeal.nD Cert.PleBwdIdeal.τ).loc Cert.PleBwdIdeal.main_v18_4) = v4 c
          ∧ r.2.mem ((c.tc : Thread Cert.PleBwdIdeal.nD Cert.PleBwdIdeal.τ).loc Cert.PleBwdIdeal.main_arg0) = m ((c.tc : Thread Cert.PleBwdIdeal.nD Cert.PleBwdIdeal.τ).loc Cert.PleBwdIdeal.main_arg0)
          ∧ r.2.mem ((c.tc : Thread Cert.PleBwdIdeal.nD Cert.PleBwdIdeal.τ).loc Cert.PleBwdIdeal.main_arg1) = m ((c.tc : Thread Cert.PleBwdIdeal.nD Cert.PleBwdIdeal.τ).loc Cert.PleBwdIdeal.main_arg1)
          ∧ r.2.mem ((c.tc : Thread Cert.PleBwdIdeal.nD Cert.PleBwdIdeal.τ).loc Cert.PleBwdIdeal.main_arg2) = m ((c.tc : Thread Cert.PleBwdIdeal.nD Cert.PleBwdIdeal.τ).loc Cert.PleBwdIdeal.main_arg2)
          ∧ r.2.mem ((c.tc : Thread Cert.PleBwdIdeal.nD Cert.PleBwdIdeal.τ).loc Cert.PleBwdIdeal.main_arg3) = m ((c.tc : Thread Cert.PleBwdIdeal.nD Cert.PleBwdIdeal.τ).loc Cert.PleBwdIdeal.main_arg3)
          ∧ r.2.mem ((c.tc : Thread Cert.PleBwdIdeal.nD Cert.PleBwdIdeal.τ).loc Cert.PleBwdIdeal.main_arg4) = m ((c.tc : Thread Cert.PleBwdIdeal.nD Cert.PleBwdIdeal.τ).loc Cert.PleBwdIdeal.main_arg4)
          ∧ r.2.mem ((c.tc : Thread Cert.PleBwdIdeal.nD Cert.PleBwdIdeal.τ).loc Cert.PleBwdIdeal.main_arg5) = m ((c.tc : Thread Cert.PleBwdIdeal.nD Cert.PleBwdIdeal.τ).loc Cert.PleBwdIdeal.main_arg5)
          ∧ r.2.mem ((c.tc : Thread Cert.PleBwdIdeal.nD Cert.PleBwdIdeal.τ).loc Cert.PleBwdIdeal.main_arg6) = m ((c.tc : Thread Cert.PleBwdIdeal.nD Cert.PleBwdIdeal.τ).loc Cert.PleBwdIdeal.main_arg6))
      ∧ θ_run (Cert.PleBwdReferenceIdeal.defs (F := Ideal)) (onTc (τ := Cert.PleBwdReferenceIdeal.τ) (Cert.PleBwdReferenceIdeal.main (F := Ideal))) ⟨m', fun _ => 0, g'⟩ (fun r => ∀ c : Dev Cert.PleBwdReferenceIdeal.nD,
          r.2.mem ((c.tc : Thread Cert.PleBwdReferenceIdeal.nD Cert.PleBwdReferenceIdeal.τ).loc Cert.PleBwdReferenceIdeal.main_v94) = v0 c
          ∧ r.2.mem ((c.tc : Thread Cert.PleBwdReferenceIdeal.nD Cert.PleBwdReferenceIdeal.τ).loc Cert.PleBwdReferenceIdeal.main_v72) = v1 c
          ∧ r.2.mem ((c.tc : Thread Cert.PleBwdReferenceIdeal.nD Cert.PleBwdReferenceIdeal.τ).loc Cert.PleBwdReferenceIdeal.main_v69) = v2 c
          ∧ r.2.mem ((c.tc : Thread Cert.PleBwdReferenceIdeal.nD Cert.PleBwdReferenceIdeal.τ).loc Cert.PleBwdReferenceIdeal.main_v95) = v3 c
          ∧ r.2.mem ((c.tc : Thread Cert.PleBwdReferenceIdeal.nD Cert.PleBwdReferenceIdeal.τ).loc Cert.PleBwdReferenceIdeal.main_v96) = v4 c
          ∧ r.2.mem ((c.tc : Thread Cert.PleBwdReferenceIdeal.nD Cert.PleBwdReferenceIdeal.τ).loc Cert.PleBwdReferenceIdeal.main_arg0) = m' ((c.tc : Thread Cert.PleBwdReferenceIdeal.nD Cert.PleBwdReferenceIdeal.τ).loc Cert.PleBwdReferenceIdeal.main_arg0)
          ∧ r.2.mem ((c.tc : Thread Cert.PleBwdReferenceIdeal.nD Cert.PleBwdReferenceIdeal.τ).loc Cert.PleBwdReferenceIdeal.main_arg1) = m' ((c.tc : Thread Cert.PleBwdReferenceIdeal.nD Cert.PleBwdReferenceIdeal.τ).loc Cert.PleBwdReferenceIdeal.main_arg1)
          ∧ r.2.mem ((c.tc : Thread Cert.PleBwdReferenceIdeal.nD Cert.PleBwdReferenceIdeal.τ).loc Cert.PleBwdReferenceIdeal.main_arg2) = m' ((c.tc : Thread Cert.PleBwdReferenceIdeal.nD Cert.PleBwdReferenceIdeal.τ).loc Cert.PleBwdReferenceIdeal.main_arg2)
          ∧ r.2.mem ((c.tc : Thread Cert.PleBwdReferenceIdeal.nD Cert.PleBwdReferenceIdeal.τ).loc Cert.PleBwdReferenceIdeal.main_arg3) = m' ((c.tc : Thread Cert.PleBwdReferenceIdeal.nD Cert.PleBwdReferenceIdeal.τ).loc Cert.PleBwdReferenceIdeal.main_arg3)
          ∧ r.2.mem ((c.tc : Thread Cert.PleBwdReferenceIdeal.nD Cert.PleBwdReferenceIdeal.τ).loc Cert.PleBwdReferenceIdeal.main_arg4) = m' ((c.tc : Thread Cert.PleBwdReferenceIdeal.nD Cert.PleBwdReferenceIdeal.τ).loc Cert.PleBwdReferenceIdeal.main_arg4)
          ∧ r.2.mem ((c.tc : Thread Cert.PleBwdReferenceIdeal.nD Cert.PleBwdReferenceIdeal.τ).loc Cert.PleBwdReferenceIdeal.main_arg5) = m' ((c.tc : Thread Cert.PleBwdReferenceIdeal.nD Cert.PleBwdReferenceIdeal.τ).loc Cert.PleBwdReferenceIdeal.main_arg5)
          ∧ r.2.mem ((c.tc : Thread Cert.PleBwdReferenceIdeal.nD Cert.PleBwdReferenceIdeal.τ).loc Cert.PleBwdReferenceIdeal.main_arg6) = m' ((c.tc : Thread Cert.PleBwdReferenceIdeal.nD Cert.PleBwdReferenceIdeal.τ).loc Cert.PleBwdReferenceIdeal.main_arg6))

def preserves_PleFwd_PleFwdIdeal : Prop :=
  True

def algebraic_PleFwdIdeal_PleFwdReferenceIdeal [hPleFwdIdeal : Cert.PleFwdIdeal.Facts] [hPleFwdReferenceIdeal : Cert.PleFwdReferenceIdeal.Facts] : Prop :=
  ∀ (m : (ℓ : Loc Cert.PleFwdIdeal.nD Cert.PleFwdIdeal.τ Cert.PleFwdIdeal.sig) → Buf (Elt Ideal) ℓ) (g : Dev Cert.PleFwdIdeal.nD → PrngReg)
    (m' : (ℓ : Loc Cert.PleFwdReferenceIdeal.nD Cert.PleFwdReferenceIdeal.τ Cert.PleFwdReferenceIdeal.sig) → Buf (Elt Ideal) ℓ) (g' : Dev Cert.PleFwdReferenceIdeal.nD → PrngReg), Pre_PleFwdIdeal m →
    (∀ c : Dev Cert.PleFwdIdeal.nD,
      m' ((c.tc : Thread Cert.PleFwdReferenceIdeal.nD Cert.PleFwdReferenceIdeal.τ).loc Cert.PleFwdReferenceIdeal.main_arg0) = m ((c.tc : Thread Cert.PleFwdIdeal.nD Cert.PleFwdIdeal.τ).loc Cert.PleFwdIdeal.main_arg0)
      ∧ m' ((c.tc : Thread Cert.PleFwdReferenceIdeal.nD Cert.PleFwdReferenceIdeal.τ).loc Cert.PleFwdReferenceIdeal.main_arg1) = m ((c.tc : Thread Cert.PleFwdIdeal.nD Cert.PleFwdIdeal.τ).loc Cert.PleFwdIdeal.main_arg1)
      ∧ m' ((c.tc : Thread Cert.PleFwdReferenceIdeal.nD Cert.PleFwdReferenceIdeal.τ).loc Cert.PleFwdReferenceIdeal.main_arg2) = m ((c.tc : Thread Cert.PleFwdIdeal.nD Cert.PleFwdIdeal.τ).loc Cert.PleFwdIdeal.main_arg2)
      ∧ m' ((c.tc : Thread Cert.PleFwdReferenceIdeal.nD Cert.PleFwdReferenceIdeal.τ).loc Cert.PleFwdReferenceIdeal.main_arg3) = m ((c.tc : Thread Cert.PleFwdIdeal.nD Cert.PleFwdIdeal.τ).loc Cert.PleFwdIdeal.main_arg3)
      ∧ m' ((c.tc : Thread Cert.PleFwdReferenceIdeal.nD Cert.PleFwdReferenceIdeal.τ).loc Cert.PleFwdReferenceIdeal.main_arg4) = m ((c.tc : Thread Cert.PleFwdIdeal.nD Cert.PleFwdIdeal.τ).loc Cert.PleFwdIdeal.main_arg4)
      ∧ m' ((c.tc : Thread Cert.PleFwdReferenceIdeal.nD Cert.PleFwdReferenceIdeal.τ).loc Cert.PleFwdReferenceIdeal.main_arg5) = m ((c.tc : Thread Cert.PleFwdIdeal.nD Cert.PleFwdIdeal.τ).loc Cert.PleFwdIdeal.main_arg5)) →
    ∃ (v0 : (c : Dev Cert.PleFwdIdeal.nD) → Buf (Elt Ideal) ((c.tc : Thread Cert.PleFwdIdeal.nD Cert.PleFwdIdeal.τ).loc Cert.PleFwdIdeal.main_v4_0)) (v1 : (c : Dev Cert.PleFwdIdeal.nD) → Buf (Elt Ideal) ((c.tc : Thread Cert.PleFwdIdeal.nD Cert.PleFwdIdeal.τ).loc Cert.PleFwdIdeal.main_v4_1)) (v2 : (c : Dev Cert.PleFwdIdeal.nD) → Buf (Elt Ideal) ((c.tc : Thread Cert.PleFwdIdeal.nD Cert.PleFwdIdeal.τ).loc Cert.PleFwdIdeal.main_v4_2)),
      θ_run (Cert.PleFwdIdeal.defs (F := Ideal)) (onTc (τ := Cert.PleFwdIdeal.τ) (Cert.PleFwdIdeal.main (F := Ideal))) ⟨m, fun _ => 0, g⟩ (fun r => ∀ c : Dev Cert.PleFwdIdeal.nD,
          r.2.mem ((c.tc : Thread Cert.PleFwdIdeal.nD Cert.PleFwdIdeal.τ).loc Cert.PleFwdIdeal.main_v4_0) = v0 c
          ∧ r.2.mem ((c.tc : Thread Cert.PleFwdIdeal.nD Cert.PleFwdIdeal.τ).loc Cert.PleFwdIdeal.main_v4_1) = v1 c
          ∧ r.2.mem ((c.tc : Thread Cert.PleFwdIdeal.nD Cert.PleFwdIdeal.τ).loc Cert.PleFwdIdeal.main_v4_2) = v2 c
          ∧ r.2.mem ((c.tc : Thread Cert.PleFwdIdeal.nD Cert.PleFwdIdeal.τ).loc Cert.PleFwdIdeal.main_arg0) = m ((c.tc : Thread Cert.PleFwdIdeal.nD Cert.PleFwdIdeal.τ).loc Cert.PleFwdIdeal.main_arg0)
          ∧ r.2.mem ((c.tc : Thread Cert.PleFwdIdeal.nD Cert.PleFwdIdeal.τ).loc Cert.PleFwdIdeal.main_arg1) = m ((c.tc : Thread Cert.PleFwdIdeal.nD Cert.PleFwdIdeal.τ).loc Cert.PleFwdIdeal.main_arg1)
          ∧ r.2.mem ((c.tc : Thread Cert.PleFwdIdeal.nD Cert.PleFwdIdeal.τ).loc Cert.PleFwdIdeal.main_arg2) = m ((c.tc : Thread Cert.PleFwdIdeal.nD Cert.PleFwdIdeal.τ).loc Cert.PleFwdIdeal.main_arg2)
          ∧ r.2.mem ((c.tc : Thread Cert.PleFwdIdeal.nD Cert.PleFwdIdeal.τ).loc Cert.PleFwdIdeal.main_arg3) = m ((c.tc : Thread Cert.PleFwdIdeal.nD Cert.PleFwdIdeal.τ).loc Cert.PleFwdIdeal.main_arg3)
          ∧ r.2.mem ((c.tc : Thread Cert.PleFwdIdeal.nD Cert.PleFwdIdeal.τ).loc Cert.PleFwdIdeal.main_arg4) = m ((c.tc : Thread Cert.PleFwdIdeal.nD Cert.PleFwdIdeal.τ).loc Cert.PleFwdIdeal.main_arg4)
          ∧ r.2.mem ((c.tc : Thread Cert.PleFwdIdeal.nD Cert.PleFwdIdeal.τ).loc Cert.PleFwdIdeal.main_arg5) = m ((c.tc : Thread Cert.PleFwdIdeal.nD Cert.PleFwdIdeal.τ).loc Cert.PleFwdIdeal.main_arg5))
      ∧ θ_run (Cert.PleFwdReferenceIdeal.defs (F := Ideal)) (onTc (τ := Cert.PleFwdReferenceIdeal.τ) (Cert.PleFwdReferenceIdeal.main (F := Ideal))) ⟨m', fun _ => 0, g'⟩ (fun r => ∀ c : Dev Cert.PleFwdReferenceIdeal.nD,
          r.2.mem ((c.tc : Thread Cert.PleFwdReferenceIdeal.nD Cert.PleFwdReferenceIdeal.τ).loc Cert.PleFwdReferenceIdeal.main_v13) = v0 c
          ∧ r.2.mem ((c.tc : Thread Cert.PleFwdReferenceIdeal.nD Cert.PleFwdReferenceIdeal.τ).loc Cert.PleFwdReferenceIdeal.main_v14) = v1 c
          ∧ r.2.mem ((c.tc : Thread Cert.PleFwdReferenceIdeal.nD Cert.PleFwdReferenceIdeal.τ).loc Cert.PleFwdReferenceIdeal.main_v35) = v2 c
          ∧ r.2.mem ((c.tc : Thread Cert.PleFwdReferenceIdeal.nD Cert.PleFwdReferenceIdeal.τ).loc Cert.PleFwdReferenceIdeal.main_arg0) = m' ((c.tc : Thread Cert.PleFwdReferenceIdeal.nD Cert.PleFwdReferenceIdeal.τ).loc Cert.PleFwdReferenceIdeal.main_arg0)
          ∧ r.2.mem ((c.tc : Thread Cert.PleFwdReferenceIdeal.nD Cert.PleFwdReferenceIdeal.τ).loc Cert.PleFwdReferenceIdeal.main_arg1) = m' ((c.tc : Thread Cert.PleFwdReferenceIdeal.nD Cert.PleFwdReferenceIdeal.τ).loc Cert.PleFwdReferenceIdeal.main_arg1)
          ∧ r.2.mem ((c.tc : Thread Cert.PleFwdReferenceIdeal.nD Cert.PleFwdReferenceIdeal.τ).loc Cert.PleFwdReferenceIdeal.main_arg2) = m' ((c.tc : Thread Cert.PleFwdReferenceIdeal.nD Cert.PleFwdReferenceIdeal.τ).loc Cert.PleFwdReferenceIdeal.main_arg2)
          ∧ r.2.mem ((c.tc : Thread Cert.PleFwdReferenceIdeal.nD Cert.PleFwdReferenceIdeal.τ).loc Cert.PleFwdReferenceIdeal.main_arg3) = m' ((c.tc : Thread Cert.PleFwdReferenceIdeal.nD Cert.PleFwdReferenceIdeal.τ).loc Cert.PleFwdReferenceIdeal.main_arg3)
          ∧ r.2.mem ((c.tc : Thread Cert.PleFwdReferenceIdeal.nD Cert.PleFwdReferenceIdeal.τ).loc Cert.PleFwdReferenceIdeal.main_arg4) = m' ((c.tc : Thread Cert.PleFwdReferenceIdeal.nD Cert.PleFwdReferenceIdeal.τ).loc Cert.PleFwdReferenceIdeal.main_arg4)
          ∧ r.2.mem ((c.tc : Thread Cert.PleFwdReferenceIdeal.nD Cert.PleFwdReferenceIdeal.τ).loc Cert.PleFwdReferenceIdeal.main_arg5) = m' ((c.tc : Thread Cert.PleFwdReferenceIdeal.nD Cert.PleFwdReferenceIdeal.τ).loc Cert.PleFwdReferenceIdeal.main_arg5))

def preserves_DwIn_DwInIdeal : Prop :=
  True

def algebraic_DwInIdeal_DwInReferenceIdeal [hDwInIdeal : Cert.DwInIdeal.Facts] [hDwInReferenceIdeal : Cert.DwInReferenceIdeal.Facts] : Prop :=
  ∀ (m : (ℓ : Loc Cert.DwInIdeal.nD Cert.DwInIdeal.τ Cert.DwInIdeal.sig) → Buf (Elt Ideal) ℓ) (g : Dev Cert.DwInIdeal.nD → PrngReg)
    (m' : (ℓ : Loc Cert.DwInReferenceIdeal.nD Cert.DwInReferenceIdeal.τ Cert.DwInReferenceIdeal.sig) → Buf (Elt Ideal) ℓ) (g' : Dev Cert.DwInReferenceIdeal.nD → PrngReg), Pre_DwInIdeal m →
    (∀ c : Dev Cert.DwInIdeal.nD,
      m' ((c.tc : Thread Cert.DwInReferenceIdeal.nD Cert.DwInReferenceIdeal.τ).loc Cert.DwInReferenceIdeal.main_arg0) = m ((c.tc : Thread Cert.DwInIdeal.nD Cert.DwInIdeal.τ).loc Cert.DwInIdeal.main_arg0)
      ∧ m' ((c.tc : Thread Cert.DwInReferenceIdeal.nD Cert.DwInReferenceIdeal.τ).loc Cert.DwInReferenceIdeal.main_arg1) = m ((c.tc : Thread Cert.DwInIdeal.nD Cert.DwInIdeal.τ).loc Cert.DwInIdeal.main_arg1)
      ∧ m' ((c.tc : Thread Cert.DwInReferenceIdeal.nD Cert.DwInReferenceIdeal.τ).loc Cert.DwInReferenceIdeal.main_arg2) = m ((c.tc : Thread Cert.DwInIdeal.nD Cert.DwInIdeal.τ).loc Cert.DwInIdeal.main_arg2)
      ∧ m' ((c.tc : Thread Cert.DwInReferenceIdeal.nD Cert.DwInReferenceIdeal.τ).loc Cert.DwInReferenceIdeal.main_arg3) = m ((c.tc : Thread Cert.DwInIdeal.nD Cert.DwInIdeal.τ).loc Cert.DwInIdeal.main_arg3)) →
    ∃ (v0 : (c : Dev Cert.DwInIdeal.nD) → Buf (Elt Ideal) ((c.tc : Thread Cert.DwInIdeal.nD Cert.DwInIdeal.τ).loc Cert.DwInIdeal.main_v20)),
      θ_run (Cert.DwInIdeal.defs (F := Ideal)) (onTc (τ := Cert.DwInIdeal.τ) (Cert.DwInIdeal.main (F := Ideal))) ⟨m, fun _ => 0, g⟩ (fun r => ∀ c : Dev Cert.DwInIdeal.nD,
          r.2.mem ((c.tc : Thread Cert.DwInIdeal.nD Cert.DwInIdeal.τ).loc Cert.DwInIdeal.main_v20) = v0 c
          ∧ r.2.mem ((c.tc : Thread Cert.DwInIdeal.nD Cert.DwInIdeal.τ).loc Cert.DwInIdeal.main_arg0) = m ((c.tc : Thread Cert.DwInIdeal.nD Cert.DwInIdeal.τ).loc Cert.DwInIdeal.main_arg0)
          ∧ r.2.mem ((c.tc : Thread Cert.DwInIdeal.nD Cert.DwInIdeal.τ).loc Cert.DwInIdeal.main_arg1) = m ((c.tc : Thread Cert.DwInIdeal.nD Cert.DwInIdeal.τ).loc Cert.DwInIdeal.main_arg1)
          ∧ r.2.mem ((c.tc : Thread Cert.DwInIdeal.nD Cert.DwInIdeal.τ).loc Cert.DwInIdeal.main_arg2) = m ((c.tc : Thread Cert.DwInIdeal.nD Cert.DwInIdeal.τ).loc Cert.DwInIdeal.main_arg2)
          ∧ r.2.mem ((c.tc : Thread Cert.DwInIdeal.nD Cert.DwInIdeal.τ).loc Cert.DwInIdeal.main_arg3) = m ((c.tc : Thread Cert.DwInIdeal.nD Cert.DwInIdeal.τ).loc Cert.DwInIdeal.main_arg3))
      ∧ θ_run (Cert.DwInReferenceIdeal.defs (F := Ideal)) (onTc (τ := Cert.DwInReferenceIdeal.τ) (Cert.DwInReferenceIdeal.main (F := Ideal))) ⟨m', fun _ => 0, g'⟩ (fun r => ∀ c : Dev Cert.DwInReferenceIdeal.nD,
          r.2.mem ((c.tc : Thread Cert.DwInReferenceIdeal.nD Cert.DwInReferenceIdeal.τ).loc Cert.DwInReferenceIdeal.main_v20) = v0 c
          ∧ r.2.mem ((c.tc : Thread Cert.DwInReferenceIdeal.nD Cert.DwInReferenceIdeal.τ).loc Cert.DwInReferenceIdeal.main_arg0) = m' ((c.tc : Thread Cert.DwInReferenceIdeal.nD Cert.DwInReferenceIdeal.τ).loc Cert.DwInReferenceIdeal.main_arg0)
          ∧ r.2.mem ((c.tc : Thread Cert.DwInReferenceIdeal.nD Cert.DwInReferenceIdeal.τ).loc Cert.DwInReferenceIdeal.main_arg1) = m' ((c.tc : Thread Cert.DwInReferenceIdeal.nD Cert.DwInReferenceIdeal.τ).loc Cert.DwInReferenceIdeal.main_arg1)
          ∧ r.2.mem ((c.tc : Thread Cert.DwInReferenceIdeal.nD Cert.DwInReferenceIdeal.τ).loc Cert.DwInReferenceIdeal.main_arg2) = m' ((c.tc : Thread Cert.DwInReferenceIdeal.nD Cert.DwInReferenceIdeal.τ).loc Cert.DwInReferenceIdeal.main_arg2)
          ∧ r.2.mem ((c.tc : Thread Cert.DwInReferenceIdeal.nD Cert.DwInReferenceIdeal.τ).loc Cert.DwInReferenceIdeal.main_arg3) = m' ((c.tc : Thread Cert.DwInReferenceIdeal.nD Cert.DwInReferenceIdeal.τ).loc Cert.DwInReferenceIdeal.main_arg3))

def preserves_MixIn_MixInIdeal : Prop :=
  True

def algebraic_MixInIdeal_MixInReferenceIdeal [hMixInIdeal : Cert.MixInIdeal.Facts] [hMixInReferenceIdeal : Cert.MixInReferenceIdeal.Facts] : Prop :=
  ∀ (m : (ℓ : Loc Cert.MixInIdeal.nD Cert.MixInIdeal.τ Cert.MixInIdeal.sig) → Buf (Elt Ideal) ℓ) (g : Dev Cert.MixInIdeal.nD → PrngReg)
    (m' : (ℓ : Loc Cert.MixInReferenceIdeal.nD Cert.MixInReferenceIdeal.τ Cert.MixInReferenceIdeal.sig) → Buf (Elt Ideal) ℓ) (g' : Dev Cert.MixInReferenceIdeal.nD → PrngReg), Pre_MixInIdeal m →
    (∀ c : Dev Cert.MixInIdeal.nD,
      m' ((c.tc : Thread Cert.MixInReferenceIdeal.nD Cert.MixInReferenceIdeal.τ).loc Cert.MixInReferenceIdeal.main_arg0) = m ((c.tc : Thread Cert.MixInIdeal.nD Cert.MixInIdeal.τ).loc Cert.MixInIdeal.main_arg0)
      ∧ m' ((c.tc : Thread Cert.MixInReferenceIdeal.nD Cert.MixInReferenceIdeal.τ).loc Cert.MixInReferenceIdeal.main_arg1) = m ((c.tc : Thread Cert.MixInIdeal.nD Cert.MixInIdeal.τ).loc Cert.MixInIdeal.main_arg1)
      ∧ m' ((c.tc : Thread Cert.MixInReferenceIdeal.nD Cert.MixInReferenceIdeal.τ).loc Cert.MixInReferenceIdeal.main_arg2) = m ((c.tc : Thread Cert.MixInIdeal.nD Cert.MixInIdeal.τ).loc Cert.MixInIdeal.main_arg2)
      ∧ m' ((c.tc : Thread Cert.MixInReferenceIdeal.nD Cert.MixInReferenceIdeal.τ).loc Cert.MixInReferenceIdeal.main_arg3) = m ((c.tc : Thread Cert.MixInIdeal.nD Cert.MixInIdeal.τ).loc Cert.MixInIdeal.main_arg3)
      ∧ m' ((c.tc : Thread Cert.MixInReferenceIdeal.nD Cert.MixInReferenceIdeal.τ).loc Cert.MixInReferenceIdeal.main_arg4) = m ((c.tc : Thread Cert.MixInIdeal.nD Cert.MixInIdeal.τ).loc Cert.MixInIdeal.main_arg4)
      ∧ m' ((c.tc : Thread Cert.MixInReferenceIdeal.nD Cert.MixInReferenceIdeal.τ).loc Cert.MixInReferenceIdeal.main_arg5) = m ((c.tc : Thread Cert.MixInIdeal.nD Cert.MixInIdeal.τ).loc Cert.MixInIdeal.main_arg5)
      ∧ m' ((c.tc : Thread Cert.MixInReferenceIdeal.nD Cert.MixInReferenceIdeal.τ).loc Cert.MixInReferenceIdeal.main_arg6) = m ((c.tc : Thread Cert.MixInIdeal.nD Cert.MixInIdeal.τ).loc Cert.MixInIdeal.main_arg6)
      ∧ m' ((c.tc : Thread Cert.MixInReferenceIdeal.nD Cert.MixInReferenceIdeal.τ).loc Cert.MixInReferenceIdeal.main_arg7) = m ((c.tc : Thread Cert.MixInIdeal.nD Cert.MixInIdeal.τ).loc Cert.MixInIdeal.main_arg7)
      ∧ m' ((c.tc : Thread Cert.MixInReferenceIdeal.nD Cert.MixInReferenceIdeal.τ).loc Cert.MixInReferenceIdeal.main_arg8) = m ((c.tc : Thread Cert.MixInIdeal.nD Cert.MixInIdeal.τ).loc Cert.MixInIdeal.main_arg8)
      ∧ m' ((c.tc : Thread Cert.MixInReferenceIdeal.nD Cert.MixInReferenceIdeal.τ).loc Cert.MixInReferenceIdeal.main_arg9) = m ((c.tc : Thread Cert.MixInIdeal.nD Cert.MixInIdeal.τ).loc Cert.MixInIdeal.main_arg9)
      ∧ m' ((c.tc : Thread Cert.MixInReferenceIdeal.nD Cert.MixInReferenceIdeal.τ).loc Cert.MixInReferenceIdeal.main_arg10) = m ((c.tc : Thread Cert.MixInIdeal.nD Cert.MixInIdeal.τ).loc Cert.MixInIdeal.main_arg10)) →
    ∃ (v0 : (c : Dev Cert.MixInIdeal.nD) → Buf (Elt Ideal) ((c.tc : Thread Cert.MixInIdeal.nD Cert.MixInIdeal.τ).loc Cert.MixInIdeal.main_v25_0)) (v1 : (c : Dev Cert.MixInIdeal.nD) → Buf (Elt Ideal) ((c.tc : Thread Cert.MixInIdeal.nD Cert.MixInIdeal.τ).loc Cert.MixInIdeal.main_v25_1)) (v2 : (c : Dev Cert.MixInIdeal.nD) → Buf (Elt Ideal) ((c.tc : Thread Cert.MixInIdeal.nD Cert.MixInIdeal.τ).loc Cert.MixInIdeal.main_v25_2)) (v3 : (c : Dev Cert.MixInIdeal.nD) → Buf (Elt Ideal) ((c.tc : Thread Cert.MixInIdeal.nD Cert.MixInIdeal.τ).loc Cert.MixInIdeal.main_v25_3)),
      θ_run (Cert.MixInIdeal.defs (F := Ideal)) (onTc (τ := Cert.MixInIdeal.τ) (Cert.MixInIdeal.main (F := Ideal))) ⟨m, fun _ => 0, g⟩ (fun r => ∀ c : Dev Cert.MixInIdeal.nD,
          r.2.mem ((c.tc : Thread Cert.MixInIdeal.nD Cert.MixInIdeal.τ).loc Cert.MixInIdeal.main_v25_0) = v0 c
          ∧ r.2.mem ((c.tc : Thread Cert.MixInIdeal.nD Cert.MixInIdeal.τ).loc Cert.MixInIdeal.main_v25_1) = v1 c
          ∧ r.2.mem ((c.tc : Thread Cert.MixInIdeal.nD Cert.MixInIdeal.τ).loc Cert.MixInIdeal.main_v25_2) = v2 c
          ∧ r.2.mem ((c.tc : Thread Cert.MixInIdeal.nD Cert.MixInIdeal.τ).loc Cert.MixInIdeal.main_v25_3) = v3 c
          ∧ r.2.mem ((c.tc : Thread Cert.MixInIdeal.nD Cert.MixInIdeal.τ).loc Cert.MixInIdeal.main_arg0) = m ((c.tc : Thread Cert.MixInIdeal.nD Cert.MixInIdeal.τ).loc Cert.MixInIdeal.main_arg0)
          ∧ r.2.mem ((c.tc : Thread Cert.MixInIdeal.nD Cert.MixInIdeal.τ).loc Cert.MixInIdeal.main_arg1) = m ((c.tc : Thread Cert.MixInIdeal.nD Cert.MixInIdeal.τ).loc Cert.MixInIdeal.main_arg1)
          ∧ r.2.mem ((c.tc : Thread Cert.MixInIdeal.nD Cert.MixInIdeal.τ).loc Cert.MixInIdeal.main_arg2) = m ((c.tc : Thread Cert.MixInIdeal.nD Cert.MixInIdeal.τ).loc Cert.MixInIdeal.main_arg2)
          ∧ r.2.mem ((c.tc : Thread Cert.MixInIdeal.nD Cert.MixInIdeal.τ).loc Cert.MixInIdeal.main_arg3) = m ((c.tc : Thread Cert.MixInIdeal.nD Cert.MixInIdeal.τ).loc Cert.MixInIdeal.main_arg3)
          ∧ r.2.mem ((c.tc : Thread Cert.MixInIdeal.nD Cert.MixInIdeal.τ).loc Cert.MixInIdeal.main_arg4) = m ((c.tc : Thread Cert.MixInIdeal.nD Cert.MixInIdeal.τ).loc Cert.MixInIdeal.main_arg4)
          ∧ r.2.mem ((c.tc : Thread Cert.MixInIdeal.nD Cert.MixInIdeal.τ).loc Cert.MixInIdeal.main_arg5) = m ((c.tc : Thread Cert.MixInIdeal.nD Cert.MixInIdeal.τ).loc Cert.MixInIdeal.main_arg5)
          ∧ r.2.mem ((c.tc : Thread Cert.MixInIdeal.nD Cert.MixInIdeal.τ).loc Cert.MixInIdeal.main_arg6) = m ((c.tc : Thread Cert.MixInIdeal.nD Cert.MixInIdeal.τ).loc Cert.MixInIdeal.main_arg6)
          ∧ r.2.mem ((c.tc : Thread Cert.MixInIdeal.nD Cert.MixInIdeal.τ).loc Cert.MixInIdeal.main_arg7) = m ((c.tc : Thread Cert.MixInIdeal.nD Cert.MixInIdeal.τ).loc Cert.MixInIdeal.main_arg7)
          ∧ r.2.mem ((c.tc : Thread Cert.MixInIdeal.nD Cert.MixInIdeal.τ).loc Cert.MixInIdeal.main_arg8) = m ((c.tc : Thread Cert.MixInIdeal.nD Cert.MixInIdeal.τ).loc Cert.MixInIdeal.main_arg8)
          ∧ r.2.mem ((c.tc : Thread Cert.MixInIdeal.nD Cert.MixInIdeal.τ).loc Cert.MixInIdeal.main_arg9) = m ((c.tc : Thread Cert.MixInIdeal.nD Cert.MixInIdeal.τ).loc Cert.MixInIdeal.main_arg9)
          ∧ r.2.mem ((c.tc : Thread Cert.MixInIdeal.nD Cert.MixInIdeal.τ).loc Cert.MixInIdeal.main_arg10) = m ((c.tc : Thread Cert.MixInIdeal.nD Cert.MixInIdeal.τ).loc Cert.MixInIdeal.main_arg10))
      ∧ θ_run (Cert.MixInReferenceIdeal.defs (F := Ideal)) (onTc (τ := Cert.MixInReferenceIdeal.τ) (Cert.MixInReferenceIdeal.main (F := Ideal))) ⟨m', fun _ => 0, g'⟩ (fun r => ∀ c : Dev Cert.MixInReferenceIdeal.nD,
          r.2.mem ((c.tc : Thread Cert.MixInReferenceIdeal.nD Cert.MixInReferenceIdeal.τ).loc Cert.MixInReferenceIdeal.main_v44) = v0 c
          ∧ r.2.mem ((c.tc : Thread Cert.MixInReferenceIdeal.nD Cert.MixInReferenceIdeal.τ).loc Cert.MixInReferenceIdeal.main_v58) = v1 c
          ∧ r.2.mem ((c.tc : Thread Cert.MixInReferenceIdeal.nD Cert.MixInReferenceIdeal.τ).loc Cert.MixInReferenceIdeal.main_v59) = v2 c
          ∧ r.2.mem ((c.tc : Thread Cert.MixInReferenceIdeal.nD Cert.MixInReferenceIdeal.τ).loc Cert.MixInReferenceIdeal.main_v60) = v3 c
          ∧ r.2.mem ((c.tc : Thread Cert.MixInReferenceIdeal.nD Cert.MixInReferenceIdeal.τ).loc Cert.MixInReferenceIdeal.main_arg0) = m' ((c.tc : Thread Cert.MixInReferenceIdeal.nD Cert.MixInReferenceIdeal.τ).loc Cert.MixInReferenceIdeal.main_arg0)
          ∧ r.2.mem ((c.tc : Thread Cert.MixInReferenceIdeal.nD Cert.MixInReferenceIdeal.τ).loc Cert.MixInReferenceIdeal.main_arg1) = m' ((c.tc : Thread Cert.MixInReferenceIdeal.nD Cert.MixInReferenceIdeal.τ).loc Cert.MixInReferenceIdeal.main_arg1)
          ∧ r.2.mem ((c.tc : Thread Cert.MixInReferenceIdeal.nD Cert.MixInReferenceIdeal.τ).loc Cert.MixInReferenceIdeal.main_arg2) = m' ((c.tc : Thread Cert.MixInReferenceIdeal.nD Cert.MixInReferenceIdeal.τ).loc Cert.MixInReferenceIdeal.main_arg2)
          ∧ r.2.mem ((c.tc : Thread Cert.MixInReferenceIdeal.nD Cert.MixInReferenceIdeal.τ).loc Cert.MixInReferenceIdeal.main_arg3) = m' ((c.tc : Thread Cert.MixInReferenceIdeal.nD Cert.MixInReferenceIdeal.τ).loc Cert.MixInReferenceIdeal.main_arg3)
          ∧ r.2.mem ((c.tc : Thread Cert.MixInReferenceIdeal.nD Cert.MixInReferenceIdeal.τ).loc Cert.MixInReferenceIdeal.main_arg4) = m' ((c.tc : Thread Cert.MixInReferenceIdeal.nD Cert.MixInReferenceIdeal.τ).loc Cert.MixInReferenceIdeal.main_arg4)
          ∧ r.2.mem ((c.tc : Thread Cert.MixInReferenceIdeal.nD Cert.MixInReferenceIdeal.τ).loc Cert.MixInReferenceIdeal.main_arg5) = m' ((c.tc : Thread Cert.MixInReferenceIdeal.nD Cert.MixInReferenceIdeal.τ).loc Cert.MixInReferenceIdeal.main_arg5)
          ∧ r.2.mem ((c.tc : Thread Cert.MixInReferenceIdeal.nD Cert.MixInReferenceIdeal.τ).loc Cert.MixInReferenceIdeal.main_arg6) = m' ((c.tc : Thread Cert.MixInReferenceIdeal.nD Cert.MixInReferenceIdeal.τ).loc Cert.MixInReferenceIdeal.main_arg6)
          ∧ r.2.mem ((c.tc : Thread Cert.MixInReferenceIdeal.nD Cert.MixInReferenceIdeal.τ).loc Cert.MixInReferenceIdeal.main_arg7) = m' ((c.tc : Thread Cert.MixInReferenceIdeal.nD Cert.MixInReferenceIdeal.τ).loc Cert.MixInReferenceIdeal.main_arg7)
          ∧ r.2.mem ((c.tc : Thread Cert.MixInReferenceIdeal.nD Cert.MixInReferenceIdeal.τ).loc Cert.MixInReferenceIdeal.main_arg8) = m' ((c.tc : Thread Cert.MixInReferenceIdeal.nD Cert.MixInReferenceIdeal.τ).loc Cert.MixInReferenceIdeal.main_arg8)
          ∧ r.2.mem ((c.tc : Thread Cert.MixInReferenceIdeal.nD Cert.MixInReferenceIdeal.τ).loc Cert.MixInReferenceIdeal.main_arg9) = m' ((c.tc : Thread Cert.MixInReferenceIdeal.nD Cert.MixInReferenceIdeal.τ).loc Cert.MixInReferenceIdeal.main_arg9)
          ∧ r.2.mem ((c.tc : Thread Cert.MixInReferenceIdeal.nD Cert.MixInReferenceIdeal.τ).loc Cert.MixInReferenceIdeal.main_arg10) = m' ((c.tc : Thread Cert.MixInReferenceIdeal.nD Cert.MixInReferenceIdeal.τ).loc Cert.MixInReferenceIdeal.main_arg10))

def preserves_MixInFwd_MixInFwdIdeal : Prop :=
  True

def algebraic_MixInFwdIdeal_MixInFwdReferenceIdeal [hMixInFwdIdeal : Cert.MixInFwdIdeal.Facts] [hMixInFwdReferenceIdeal : Cert.MixInFwdReferenceIdeal.Facts] : Prop :=
  ∀ (m : (ℓ : Loc Cert.MixInFwdIdeal.nD Cert.MixInFwdIdeal.τ Cert.MixInFwdIdeal.sig) → Buf (Elt Ideal) ℓ) (g : Dev Cert.MixInFwdIdeal.nD → PrngReg)
    (m' : (ℓ : Loc Cert.MixInFwdReferenceIdeal.nD Cert.MixInFwdReferenceIdeal.τ Cert.MixInFwdReferenceIdeal.sig) → Buf (Elt Ideal) ℓ) (g' : Dev Cert.MixInFwdReferenceIdeal.nD → PrngReg), Pre_MixInFwdIdeal m →
    (∀ c : Dev Cert.MixInFwdIdeal.nD,
      m' ((c.tc : Thread Cert.MixInFwdReferenceIdeal.nD Cert.MixInFwdReferenceIdeal.τ).loc Cert.MixInFwdReferenceIdeal.main_arg0) = m ((c.tc : Thread Cert.MixInFwdIdeal.nD Cert.MixInFwdIdeal.τ).loc Cert.MixInFwdIdeal.main_arg0)
      ∧ m' ((c.tc : Thread Cert.MixInFwdReferenceIdeal.nD Cert.MixInFwdReferenceIdeal.τ).loc Cert.MixInFwdReferenceIdeal.main_arg1) = m ((c.tc : Thread Cert.MixInFwdIdeal.nD Cert.MixInFwdIdeal.τ).loc Cert.MixInFwdIdeal.main_arg1)
      ∧ m' ((c.tc : Thread Cert.MixInFwdReferenceIdeal.nD Cert.MixInFwdReferenceIdeal.τ).loc Cert.MixInFwdReferenceIdeal.main_arg2) = m ((c.tc : Thread Cert.MixInFwdIdeal.nD Cert.MixInFwdIdeal.τ).loc Cert.MixInFwdIdeal.main_arg2)) →
    ∃ (v0 : (c : Dev Cert.MixInFwdIdeal.nD) → Buf (Elt Ideal) ((c.tc : Thread Cert.MixInFwdIdeal.nD Cert.MixInFwdIdeal.τ).loc Cert.MixInFwdIdeal.main_v7_0)) (v1 : (c : Dev Cert.MixInFwdIdeal.nD) → Buf (Elt Ideal) ((c.tc : Thread Cert.MixInFwdIdeal.nD Cert.MixInFwdIdeal.τ).loc Cert.MixInFwdIdeal.main_v7_1)) (v2 : (c : Dev Cert.MixInFwdIdeal.nD) → Buf (Elt Ideal) ((c.tc : Thread Cert.MixInFwdIdeal.nD Cert.MixInFwdIdeal.τ).loc Cert.MixInFwdIdeal.main_v7_2)) (v3 : (c : Dev Cert.MixInFwdIdeal.nD) → Buf (Elt Ideal) ((c.tc : Thread Cert.MixInFwdIdeal.nD Cert.MixInFwdIdeal.τ).loc Cert.MixInFwdIdeal.main_v7_3)) (v4 : (c : Dev Cert.MixInFwdIdeal.nD) → Buf (Elt Ideal) ((c.tc : Thread Cert.MixInFwdIdeal.nD Cert.MixInFwdIdeal.τ).loc Cert.MixInFwdIdeal.main_v7_4)) (v5 : (c : Dev Cert.MixInFwdIdeal.nD) → Buf (Elt Ideal) ((c.tc : Thread Cert.MixInFwdIdeal.nD Cert.MixInFwdIdeal.τ).loc Cert.MixInFwdIdeal.main_v7_5)),
      θ_run (Cert.MixInFwdIdeal.defs (F := Ideal)) (onTc (τ := Cert.MixInFwdIdeal.τ) (Cert.MixInFwdIdeal.main (F := Ideal))) ⟨m, fun _ => 0, g⟩ (fun r => ∀ c : Dev Cert.MixInFwdIdeal.nD,
          r.2.mem ((c.tc : Thread Cert.MixInFwdIdeal.nD Cert.MixInFwdIdeal.τ).loc Cert.MixInFwdIdeal.main_v7_0) = v0 c
          ∧ r.2.mem ((c.tc : Thread Cert.MixInFwdIdeal.nD Cert.MixInFwdIdeal.τ).loc Cert.MixInFwdIdeal.main_v7_1) = v1 c
          ∧ r.2.mem ((c.tc : Thread Cert.MixInFwdIdeal.nD Cert.MixInFwdIdeal.τ).loc Cert.MixInFwdIdeal.main_v7_2) = v2 c
          ∧ r.2.mem ((c.tc : Thread Cert.MixInFwdIdeal.nD Cert.MixInFwdIdeal.τ).loc Cert.MixInFwdIdeal.main_v7_3) = v3 c
          ∧ r.2.mem ((c.tc : Thread Cert.MixInFwdIdeal.nD Cert.MixInFwdIdeal.τ).loc Cert.MixInFwdIdeal.main_v7_4) = v4 c
          ∧ r.2.mem ((c.tc : Thread Cert.MixInFwdIdeal.nD Cert.MixInFwdIdeal.τ).loc Cert.MixInFwdIdeal.main_v7_5) = v5 c
          ∧ r.2.mem ((c.tc : Thread Cert.MixInFwdIdeal.nD Cert.MixInFwdIdeal.τ).loc Cert.MixInFwdIdeal.main_arg0) = m ((c.tc : Thread Cert.MixInFwdIdeal.nD Cert.MixInFwdIdeal.τ).loc Cert.MixInFwdIdeal.main_arg0)
          ∧ r.2.mem ((c.tc : Thread Cert.MixInFwdIdeal.nD Cert.MixInFwdIdeal.τ).loc Cert.MixInFwdIdeal.main_arg1) = m ((c.tc : Thread Cert.MixInFwdIdeal.nD Cert.MixInFwdIdeal.τ).loc Cert.MixInFwdIdeal.main_arg1)
          ∧ r.2.mem ((c.tc : Thread Cert.MixInFwdIdeal.nD Cert.MixInFwdIdeal.τ).loc Cert.MixInFwdIdeal.main_arg2) = m ((c.tc : Thread Cert.MixInFwdIdeal.nD Cert.MixInFwdIdeal.τ).loc Cert.MixInFwdIdeal.main_arg2))
      ∧ θ_run (Cert.MixInFwdReferenceIdeal.defs (F := Ideal)) (onTc (τ := Cert.MixInFwdReferenceIdeal.τ) (Cert.MixInFwdReferenceIdeal.main (F := Ideal))) ⟨m', fun _ => 0, g'⟩ (fun r => ∀ c : Dev Cert.MixInFwdReferenceIdeal.nD,
          r.2.mem ((c.tc : Thread Cert.MixInFwdReferenceIdeal.nD Cert.MixInFwdReferenceIdeal.τ).loc Cert.MixInFwdReferenceIdeal.main_v14) = v0 c
          ∧ r.2.mem ((c.tc : Thread Cert.MixInFwdReferenceIdeal.nD Cert.MixInFwdReferenceIdeal.τ).loc Cert.MixInFwdReferenceIdeal.main_v29) = v1 c
          ∧ r.2.mem ((c.tc : Thread Cert.MixInFwdReferenceIdeal.nD Cert.MixInFwdReferenceIdeal.τ).loc Cert.MixInFwdReferenceIdeal.main_v30) = v2 c
          ∧ r.2.mem ((c.tc : Thread Cert.MixInFwdReferenceIdeal.nD Cert.MixInFwdReferenceIdeal.τ).loc Cert.MixInFwdReferenceIdeal.main_v18) = v3 c
          ∧ r.2.mem ((c.tc : Thread Cert.MixInFwdReferenceIdeal.nD Cert.MixInFwdReferenceIdeal.τ).loc Cert.MixInFwdReferenceIdeal.main_v19) = v4 c
          ∧ r.2.mem ((c.tc : Thread Cert.MixInFwdReferenceIdeal.nD Cert.MixInFwdReferenceIdeal.τ).loc Cert.MixInFwdReferenceIdeal.main_v28) = v5 c
          ∧ r.2.mem ((c.tc : Thread Cert.MixInFwdReferenceIdeal.nD Cert.MixInFwdReferenceIdeal.τ).loc Cert.MixInFwdReferenceIdeal.main_arg0) = m' ((c.tc : Thread Cert.MixInFwdReferenceIdeal.nD Cert.MixInFwdReferenceIdeal.τ).loc Cert.MixInFwdReferenceIdeal.main_arg0)
          ∧ r.2.mem ((c.tc : Thread Cert.MixInFwdReferenceIdeal.nD Cert.MixInFwdReferenceIdeal.τ).loc Cert.MixInFwdReferenceIdeal.main_arg1) = m' ((c.tc : Thread Cert.MixInFwdReferenceIdeal.nD Cert.MixInFwdReferenceIdeal.τ).loc Cert.MixInFwdReferenceIdeal.main_arg1)
          ∧ r.2.mem ((c.tc : Thread Cert.MixInFwdReferenceIdeal.nD Cert.MixInFwdReferenceIdeal.τ).loc Cert.MixInFwdReferenceIdeal.main_arg2) = m' ((c.tc : Thread Cert.MixInFwdReferenceIdeal.nD Cert.MixInFwdReferenceIdeal.τ).loc Cert.MixInFwdReferenceIdeal.main_arg2))

def Claim : Prop :=
  ∃ (hKernel : Cert.Kernel.Facts) (hKernelIdeal : Cert.KernelIdeal.Facts) (hReferenceIdeal : Cert.ReferenceIdeal.Facts) (hDwUp : Cert.DwUp.Facts) (hDwUpIdeal : Cert.DwUpIdeal.Facts) (hDwUpReferenceIdeal : Cert.DwUpReferenceIdeal.Facts) (hDwDown : Cert.DwDown.Facts) (hDwDownIdeal : Cert.DwDownIdeal.Facts) (hDwDownReferenceIdeal : Cert.DwDownReferenceIdeal.Facts) (hMlpDown : Cert.MlpDown.Facts) (hMlpDownIdeal : Cert.MlpDownIdeal.Facts) (hMlpDownReferenceIdeal : Cert.MlpDownReferenceIdeal.Facts) (hMlpUp : Cert.MlpUp.Facts) (hMlpUpIdeal : Cert.MlpUpIdeal.Facts) (hMlpUpReferenceIdeal : Cert.MlpUpReferenceIdeal.Facts) (hMlpUpFwd : Cert.MlpUpFwd.Facts) (hMlpUpFwdIdeal : Cert.MlpUpFwdIdeal.Facts) (hMlpUpFwdReferenceIdeal : Cert.MlpUpFwdReferenceIdeal.Facts) (hMlpDownFwd : Cert.MlpDownFwd.Facts) (hMlpDownFwdIdeal : Cert.MlpDownFwdIdeal.Facts) (hMlpDownFwdReferenceIdeal : Cert.MlpDownFwdReferenceIdeal.Facts) (hPleBwd : Cert.PleBwd.Facts) (hPleBwdIdeal : Cert.PleBwdIdeal.Facts) (hPleBwdReferenceIdeal : Cert.PleBwdReferenceIdeal.Facts) (hPleFwd : Cert.PleFwd.Facts) (hPleFwdIdeal : Cert.PleFwdIdeal.Facts) (hPleFwdReferenceIdeal : Cert.PleFwdReferenceIdeal.Facts) (hDwIn : Cert.DwIn.Facts) (hDwInIdeal : Cert.DwInIdeal.Facts) (hDwInReferenceIdeal : Cert.DwInReferenceIdeal.Facts) (hMixIn : Cert.MixIn.Facts) (hMixInIdeal : Cert.MixInIdeal.Facts) (hMixInReferenceIdeal : Cert.MixInReferenceIdeal.Facts) (hMixInFwd : Cert.MixInFwd.Facts) (hMixInFwdIdeal : Cert.MixInFwdIdeal.Facts) (hMixInFwdReferenceIdeal : Cert.MixInFwdReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DwUp (hDwUp := hDwUp)
    ∧ quiescent_DwUpIdeal (hDwUpIdeal := hDwUpIdeal)
    ∧ quiescent_DwUpReferenceIdeal (hDwUpReferenceIdeal := hDwUpReferenceIdeal)
    ∧ quiescent_DwDown (hDwDown := hDwDown)
    ∧ quiescent_DwDownIdeal (hDwDownIdeal := hDwDownIdeal)
    ∧ quiescent_DwDownReferenceIdeal (hDwDownReferenceIdeal := hDwDownReferenceIdeal)
    ∧ quiescent_MlpDown (hMlpDown := hMlpDown)
    ∧ quiescent_MlpDownIdeal (hMlpDownIdeal := hMlpDownIdeal)
    ∧ quiescent_MlpDownReferenceIdeal (hMlpDownReferenceIdeal := hMlpDownReferenceIdeal)
    ∧ quiescent_MlpUp (hMlpUp := hMlpUp)
    ∧ quiescent_MlpUpIdeal (hMlpUpIdeal := hMlpUpIdeal)
    ∧ quiescent_MlpUpReferenceIdeal (hMlpUpReferenceIdeal := hMlpUpReferenceIdeal)
    ∧ quiescent_MlpUpFwd (hMlpUpFwd := hMlpUpFwd)
    ∧ quiescent_MlpUpFwdIdeal (hMlpUpFwdIdeal := hMlpUpFwdIdeal)
    ∧ quiescent_MlpUpFwdReferenceIdeal (hMlpUpFwdReferenceIdeal := hMlpUpFwdReferenceIdeal)
    ∧ quiescent_MlpDownFwd (hMlpDownFwd := hMlpDownFwd)
    ∧ quiescent_MlpDownFwdIdeal (hMlpDownFwdIdeal := hMlpDownFwdIdeal)
    ∧ quiescent_MlpDownFwdReferenceIdeal (hMlpDownFwdReferenceIdeal := hMlpDownFwdReferenceIdeal)
    ∧ quiescent_PleBwd (hPleBwd := hPleBwd)
    ∧ quiescent_PleBwdIdeal (hPleBwdIdeal := hPleBwdIdeal)
    ∧ quiescent_PleBwdReferenceIdeal (hPleBwdReferenceIdeal := hPleBwdReferenceIdeal)
    ∧ quiescent_PleFwd (hPleFwd := hPleFwd)
    ∧ quiescent_PleFwdIdeal (hPleFwdIdeal := hPleFwdIdeal)
    ∧ quiescent_PleFwdReferenceIdeal (hPleFwdReferenceIdeal := hPleFwdReferenceIdeal)
    ∧ quiescent_DwIn (hDwIn := hDwIn)
    ∧ quiescent_DwInIdeal (hDwInIdeal := hDwInIdeal)
    ∧ quiescent_DwInReferenceIdeal (hDwInReferenceIdeal := hDwInReferenceIdeal)
    ∧ quiescent_MixIn (hMixIn := hMixIn)
    ∧ quiescent_MixInIdeal (hMixInIdeal := hMixInIdeal)
    ∧ quiescent_MixInReferenceIdeal (hMixInReferenceIdeal := hMixInReferenceIdeal)
    ∧ quiescent_MixInFwd (hMixInFwd := hMixInFwd)
    ∧ quiescent_MixInFwdIdeal (hMixInFwdIdeal := hMixInFwdIdeal)
    ∧ quiescent_MixInFwdReferenceIdeal (hMixInFwdReferenceIdeal := hMixInFwdReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_DwUp_DwUpIdeal
    ∧ algebraic_DwUpIdeal_DwUpReferenceIdeal (hDwUpIdeal := hDwUpIdeal) (hDwUpReferenceIdeal := hDwUpReferenceIdeal)
    ∧ preserves_DwDown_DwDownIdeal
    ∧ algebraic_DwDownIdeal_DwDownReferenceIdeal (hDwDownIdeal := hDwDownIdeal) (hDwDownReferenceIdeal := hDwDownReferenceIdeal)
    ∧ preserves_MlpDown_MlpDownIdeal
    ∧ algebraic_MlpDownIdeal_MlpDownReferenceIdeal (hMlpDownIdeal := hMlpDownIdeal) (hMlpDownReferenceIdeal := hMlpDownReferenceIdeal)
    ∧ preserves_MlpUp_MlpUpIdeal
    ∧ algebraic_MlpUpIdeal_MlpUpReferenceIdeal (hMlpUpIdeal := hMlpUpIdeal) (hMlpUpReferenceIdeal := hMlpUpReferenceIdeal)
    ∧ preserves_MlpUpFwd_MlpUpFwdIdeal
    ∧ algebraic_MlpUpFwdIdeal_MlpUpFwdReferenceIdeal (hMlpUpFwdIdeal := hMlpUpFwdIdeal) (hMlpUpFwdReferenceIdeal := hMlpUpFwdReferenceIdeal)
    ∧ preserves_MlpDownFwd_MlpDownFwdIdeal
    ∧ algebraic_MlpDownFwdIdeal_MlpDownFwdReferenceIdeal (hMlpDownFwdIdeal := hMlpDownFwdIdeal) (hMlpDownFwdReferenceIdeal := hMlpDownFwdReferenceIdeal)
    ∧ preserves_PleBwd_PleBwdIdeal
    ∧ algebraic_PleBwdIdeal_PleBwdReferenceIdeal (hPleBwdIdeal := hPleBwdIdeal) (hPleBwdReferenceIdeal := hPleBwdReferenceIdeal)
    ∧ preserves_PleFwd_PleFwdIdeal
    ∧ algebraic_PleFwdIdeal_PleFwdReferenceIdeal (hPleFwdIdeal := hPleFwdIdeal) (hPleFwdReferenceIdeal := hPleFwdReferenceIdeal)
    ∧ preserves_DwIn_DwInIdeal
    ∧ algebraic_DwInIdeal_DwInReferenceIdeal (hDwInIdeal := hDwInIdeal) (hDwInReferenceIdeal := hDwInReferenceIdeal)
    ∧ preserves_MixIn_MixInIdeal
    ∧ algebraic_MixInIdeal_MixInReferenceIdeal (hMixInIdeal := hMixInIdeal) (hMixInReferenceIdeal := hMixInReferenceIdeal)
    ∧ preserves_MixInFwd_MixInFwdIdeal
    ∧ algebraic_MixInFwdIdeal_MixInFwdReferenceIdeal (hMixInFwdIdeal := hMixInFwdIdeal) (hMixInFwdReferenceIdeal := hMixInFwdReferenceIdeal)
-- ==== Pre_finite.lean ====
abbrev S8192x256 : Shape := ⟨2, ![8192, 256]⟩
abbrev S8192x4 : Shape := ⟨2, ![8192, 4]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S8192x4 : S_.BroadcastsInDim S8192x4 (![] : Fin 0 → Fin S8192x4.rank)
  reducesTo_S8192x4_S_d0_1 : S8192x4.ReducesTo [0, 1] S_

variable [Facts]

def fn_part1 {F : FTy → Type} [FloatOps F] (main_arg4 : FVec F S8192x256 .f32) (main_v13 : IVec S_ 1) (main_v16 : IVec S8192x4 1) : IVec S_ 1 :=
  let main_c_5 : IVec S_ 1 := constantI S_ 1 1#1
  let main_v17 : IVec S_ 1 := (fun x v => Host.reduce IntOp.andi x v reducesTo_S8192x4_S_d0_1 h_S_) main_v16 main_c_5
  let main_v18 : IVec S_ 1 := andi main_v13 main_v17
  let main_v19 : FVec F S8192x256 .f32 := Host.absf main_arg4
  let main_cst_6 : FVec F S_ .f32 := constant S_ .f32 0x7F800000#32
  let main_v20 : FVec F S8192x256 .f32 := broadcastInDim S8192x256 ![] bcast_S_S8192x256 main_cst_6
  let main_v21 : IVec S8192x256 1 := cmpf .olt main_v19 main_v20
  let main_c_7 : IVec S_ 1 := constantI S_ 1 1#1
  let main_v22 : IVec S_ 1 := (fun x v => Host.reduce IntOp.andi x v reducesTo_S8192x256_S_d0_1 h_S_) main_v21 main_c_7
  let main_v23 : IVec S_ 1 := andi main_v18 main_v22
  main_v23

def fn {F : FTy → Type} [FloatOps F] (main_arg0 : FVec F S8192x256 .f32) (main_arg1 : FVec F S8192x256 .f32) (main_arg2 : FVec F S8192x256 .f32) (main_arg3 : FVec F S8192x4 .f32) (main_arg4 : FVec F S8192x256 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg1
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  let main_v14 : FVec F S8192x4 .f32 := Host.absf main_arg3
  let main_cst_4 : FVec F S_ .f32 := constant S_ .f32 0x7F800000#32
  let main_v15 : FVec F S8192x4 .f32 := broadcastInDim S8192x4 ![] bcast_S_S8192x4 main_cst_4
  let main_v16 : IVec S8192x4 1 := cmpf .olt main_v14 main_v15
  fn_part1 (F := F) main_arg4 main_v13 main_v16
-- ==== Kernel.lean ====
abbrev S8192x256 : Shape := ⟨2, ![8192, 256]⟩
abbrev S8192x4 : Shape := ⟨2, ![8192, 4]⟩
abbrev S_ : Shape := ⟨0, ![]⟩
abbrev S8192x4x64 : Shape := ⟨3, ![8192, 4, 64]⟩
abbrev S8192x4x1 : Shape := ⟨3, ![8192, 4, 1]⟩
abbrev S8192x4x61 : Shape := ⟨3, ![8192, 4, 61]⟩
abbrev S8192x4x128 : Shape := ⟨3, ![8192, 4, 128]⟩
abbrev S8192x512 : Shape := ⟨2, ![8192, 512]⟩
abbrev S8192x4x60 : Shape := ⟨3, ![8192, 4, 60]⟩
abbrev S4x8192x64 : Shape := ⟨3, ![4, 8192, 64]⟩
abbrev S4x8192 : Shape := ⟨2, ![4, 8192]⟩
abbrev S8192 : Shape := ⟨1, ![8192]⟩
abbrev S4x8192x8192 : Shape := ⟨3, ![4, 8192, 8192]⟩
abbrev S4x8192x1 : Shape := ⟨3, ![4, 8192, 1]⟩
abbrev S4x1x8192 : Shape := ⟨3, ![4, 1, 8192]⟩
abbrev S8192x1 : Shape := ⟨2, ![8192, 1]⟩
abbrev S1x8192 : Shape := ⟨2, ![1, 8192]⟩
abbrev S8192x8192 : Shape := ⟨2, ![8192, 8192]⟩
abbrev S8192x4x63 : Shape := ⟨3, ![8192, 4, 63]⟩
abbrev S8192x128 : Shape := ⟨2, ![8192, 128]⟩
abbrev S512x128 : Shape := ⟨2, ![512, 128]⟩
abbrev S8x8192 : Shape := ⟨2, ![8, 8192]⟩
abbrev S8x128 : Shape := ⟨2, ![8, 128]⟩
abbrev S512x512 : Shape := ⟨2, ![512, 512]⟩
abbrev S1x512 : Shape := ⟨2, ![1, 512]⟩

abbrev nBuf : Space → Nat
  | .hbm => 122
  | .vmem => 19
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x256, .f32⟩
  | .hbm, ⟨5, _⟩ => ⟨S_, .f32⟩
  | .hbm, ⟨6, _⟩ => ⟨S8192x4, .f32⟩
  | .hbm, ⟨7, _⟩ => ⟨S8192x4, .f32⟩
  | .hbm, ⟨8, _⟩ => ⟨S8192x4, .bf16⟩
  | .hbm, ⟨9, _⟩ => ⟨S8192x4, .f32⟩
  | .hbm, ⟨10, _⟩ => ⟨S8192x4, .f32⟩
  | .hbm, ⟨11, _⟩ => ⟨S8192x4, .bf16⟩
  | .hbm, ⟨12, _⟩ => ⟨S8192x4, .f32⟩
  | .hbm, ⟨13, _⟩ => ⟨S8192x4, .f32⟩
  | .hbm, ⟨14, _⟩ => ⟨S8192x4, .f32⟩
  | .hbm, ⟨15, _⟩ => ⟨S8192x4, .bf16⟩
  | .hbm, ⟨16, _⟩ => ⟨S8192x4, .f32⟩
  | .hbm, ⟨17, _⟩ => ⟨S_, .f32⟩
  | .hbm, ⟨18, _⟩ => ⟨S8192x256, .f32⟩
  | .hbm, ⟨19, _⟩ => ⟨S8192x256, .f32⟩
  | .hbm, ⟨20, _⟩ => ⟨S8192x4x64, .f32⟩
  | .hbm, ⟨21, _⟩ => ⟨S8192x4x1, .f32⟩
  | .hbm, ⟨22, _⟩ => ⟨S8192x4x1, .f32⟩
  | .hbm, ⟨23, _⟩ => ⟨S8192x4x1, .f32⟩
  | .hbm, ⟨24, _⟩ => ⟨S_, .f32⟩
  | .hbm, ⟨25, _⟩ => ⟨S8192x4x61, .f32⟩
  | .hbm, ⟨26, _⟩ => ⟨S8192x4x128, .f32⟩
  | .hbm, ⟨27, _⟩ => ⟨S8192x512, .f32⟩
  | .hbm, ⟨28, _⟩ => ⟨S8192x512, .bf16⟩
  | .hbm, ⟨29, _⟩ => ⟨S_, .f32⟩
  | .hbm, ⟨30, _⟩ => ⟨S8192x4, .f32⟩
  | .hbm, ⟨31, _⟩ => ⟨S8192x4, .f32⟩
  | .hbm, ⟨32, _⟩ => ⟨S8192x4x64, .f32⟩
  | .hbm, ⟨33, _⟩ => ⟨S8192x4x1, .f32⟩
  | .hbm, ⟨34, _⟩ => ⟨S8192x4x1, .f32⟩
  | .hbm, ⟨35, _⟩ => ⟨S8192x4x1, .f32⟩
  | .hbm, ⟨36, _⟩ => ⟨S8192x4x1, .f32⟩
  | .hbm, ⟨37, _⟩ => ⟨S_, .f32⟩
  | .hbm, ⟨38, _⟩ => ⟨S8192x4x60, .f32⟩
  | .hbm, ⟨39, _⟩ => ⟨S8192x4x128, .f32⟩
  | .hbm, ⟨40, _⟩ => ⟨S8192x512, .f32⟩
  | .hbm, ⟨41, _⟩ => ⟨S8192x512, .bf16⟩
  | .hbm, ⟨42, _⟩ => ⟨S8192x4x64, .f32⟩
  | .hbm, ⟨43, _⟩ => ⟨S_, .f32⟩
  | .hbm, ⟨44, _⟩ => ⟨S8192x4x64, .f32⟩
  | .hbm, ⟨45, _⟩ => ⟨S8192x4x128, .f32⟩
  | .hbm, ⟨46, _⟩ => ⟨S8192x512, .f32⟩
  | .hbm, ⟨47, _⟩ => ⟨S8192x512, .bf16⟩
  | .hbm, ⟨48, _⟩ => ⟨S8192x4x64, .f32⟩
  | .hbm, ⟨49, _⟩ => ⟨S4x8192x64, .f32⟩
  | .hbm, ⟨50, _⟩ => ⟨S8192x4x64, .f32⟩
  | .hbm, ⟨51, _⟩ => ⟨S4x8192x64, .f32⟩
  | .hbm, ⟨52, _⟩ => ⟨S4x8192, .f32⟩
  | .hbm, ⟨53, _⟩ => ⟨S8192, .i32⟩
  | .hbm, ⟨54, _⟩ => ⟨S4x8192x8192, .f32⟩
  | .hbm, ⟨55, _⟩ => ⟨S_, .f32⟩
  | .hbm, ⟨56, _⟩ => ⟨S4x8192x8192, .f32⟩
  | .hbm, ⟨57, _⟩ => ⟨S4x8192x8192, .f32⟩
  | .hbm, ⟨58, _⟩ => ⟨S4x8192x1, .f32⟩
  | .hbm, ⟨59, _⟩ => ⟨S4x8192x8192, .f32⟩
  | .hbm, ⟨60, _⟩ => ⟨S4x8192x8192, .f32⟩
  | .hbm, ⟨61, _⟩ => ⟨S4x1x8192, .f32⟩
  | .hbm, ⟨62, _⟩ => ⟨S4x8192x8192, .f32⟩
  | .hbm, ⟨63, _⟩ => ⟨S4x8192x8192, .f32⟩
  | .hbm, ⟨64, _⟩ => ⟨S8192x1, .i32⟩
  | .hbm, ⟨65, _⟩ => ⟨S1x8192, .i32⟩
  | .hbm, ⟨66, _⟩ => ⟨S8192x8192, .i32⟩
  | .hbm, ⟨67, _⟩ => ⟨S8192x8192, .i32⟩
  | .hbm, ⟨68, _⟩ => ⟨S8192x8192, .i1⟩
  | .hbm, ⟨69, _⟩ => ⟨S_, .f32⟩
  | .hbm, ⟨70, _⟩ => ⟨S_, .f32⟩
  | .hbm, ⟨71, _⟩ => ⟨S4x8192x8192, .i1⟩
  | .hbm, ⟨72, _⟩ => ⟨S4x8192x8192, .f32⟩
  | .hbm, ⟨73, _⟩ => ⟨S4x8192x8192, .f32⟩
  | .hbm, ⟨74, _⟩ => ⟨S_, .f32⟩
  | .hbm, ⟨75, _⟩ => ⟨S4x8192, .f32⟩
  | .hbm, ⟨76, _⟩ => ⟨S4x8192x1, .f32⟩
  | .hbm, ⟨77, _⟩ => ⟨S4x8192x8192, .f32⟩
  | .hbm, ⟨78, _⟩ => ⟨S4x8192x8192, .f32⟩
  | .hbm, ⟨79, _⟩ => ⟨S4x8192x8192, .f32⟩
  | .hbm, ⟨80, _⟩ => ⟨S_, .f32⟩
  | .hbm, ⟨81, _⟩ => ⟨S4x8192, .f32⟩
  | .hbm, ⟨82, _⟩ => ⟨S8192x4x64, .f32⟩
  | .hbm, ⟨83, _⟩ => ⟨S4x8192x64, .f32⟩
  | .hbm, ⟨84, _⟩ => ⟨S4x8192x1, .f32⟩
  | .hbm, ⟨85, _⟩ => ⟨S4x8192x8192, .f32⟩
  | .hbm, ⟨86, _⟩ => ⟨S4x8192x8192, .f32⟩
  | .hbm, ⟨87, _⟩ => ⟨S4x8192x64, .f32⟩
  | .hbm, ⟨88, _⟩ => ⟨S8192x4x64, .f32⟩
  | .hbm, ⟨89, _⟩ => ⟨S8192x256, .f32⟩
  | .hbm, ⟨90, _⟩ => ⟨S4x8192, .f32⟩
  | .hbm, ⟨91, _⟩ => ⟨S4x8192, .f32⟩
  | .hbm, ⟨92, _⟩ => ⟨S8192x4, .f32⟩
  | .hbm, ⟨93, _⟩ => ⟨S8192x4, .f32⟩
  | .hbm, ⟨94, _⟩ => ⟨S8192x4x64, .f32⟩
  | .hbm, ⟨95, _⟩ => ⟨S8192x4x1, .f32⟩
  | .hbm, ⟨96, _⟩ => ⟨S_, .f32⟩
  | .hbm, ⟨97, _⟩ => ⟨S8192x4x63, .f32⟩
  | .hbm, ⟨98, _⟩ => ⟨S8192x4x128, .f32⟩
  | .hbm, ⟨99, _⟩ => ⟨S8192x512, .f32⟩
  | .hbm, ⟨100, _⟩ => ⟨S8192x4x64, .f32⟩
  | .hbm, ⟨101, _⟩ => ⟨S_, .f32⟩
  | .hbm, ⟨102, _⟩ => ⟨S8192x4x64, .f32⟩
  | .hbm, ⟨103, _⟩ => ⟨S8192x4x128, .f32⟩
  | .hbm, ⟨104, _⟩ => ⟨S8192x512, .f32⟩
  | .hbm, ⟨105, _⟩ => ⟨S8192x512, .f32⟩
  | .hbm, ⟨106, _⟩ => ⟨S8192x512, .f32⟩
  | .hbm, ⟨107, _⟩ => ⟨S8192x512, .f32⟩
  | .hbm, ⟨108, _⟩ => ⟨S8192x4x128, .f32⟩
  | .hbm, ⟨109, _⟩ => ⟨S8192x4x128, .f32⟩
  | .hbm, ⟨110, _⟩ => ⟨S8192x4x128, .f32⟩
  | .hbm, ⟨111, _⟩ => ⟨S8192x4x64, .f32⟩
  | .hbm, ⟨112, _⟩ => ⟨S8192x256, .f32⟩
  | .hbm, ⟨113, _⟩ => ⟨S8192x4x64, .f32⟩
  | .hbm, ⟨114, _⟩ => ⟨S8192x256, .f32⟩
  | .hbm, ⟨115, _⟩ => ⟨S8192x4x64, .f32⟩
  | .hbm, ⟨116, _⟩ => ⟨S8192x256, .f32⟩
  | .hbm, ⟨117, _⟩ => ⟨S8192x4x1, .f32⟩
  | .hbm, ⟨118, _⟩ => ⟨S8192x4, .f32⟩
  | .hbm, ⟨119, _⟩ => ⟨S8192x4x1, .f32⟩
  | .hbm, ⟨120, _⟩ => ⟨S8192x4, .f32⟩
  | .hbm, ⟨121, _⟩ => ⟨S8192x4, .f32⟩
  | .local _ .vmem, ⟨0, _⟩ => ⟨S8192x128, .bf16⟩
  | .local _ .vmem, ⟨1, _⟩ => ⟨S8192x128, .bf16⟩
  | .local _ .vmem, ⟨2, _⟩ => ⟨S512x128, .bf16⟩
  | .local _ .vmem, ⟨3, _⟩ => ⟨S512x128, .bf16⟩
  | .local _ .vmem, ⟨4, _⟩ => ⟨S512x128, .bf16⟩
  | .local _ .vmem, ⟨5, _⟩ => ⟨S512x128, .bf16⟩
  | .local _ .vmem, ⟨6, _⟩ => ⟨S8192x128, .f32⟩
  | .local _ .vmem, ⟨7, _⟩ => ⟨S8192x128, .f32⟩
  | .local _ .vmem, ⟨8, _⟩ => ⟨S8192x128, .f32⟩
  | .local _ .vmem, ⟨9, _⟩ => ⟨S8192x128, .f32⟩
  | .local _ .vmem, ⟨10, _⟩ => ⟨S8192x128, .f32⟩
  | .local _ .vmem, ⟨11, _⟩ => ⟨S8192x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S8192x128, .f32⟩
  | .local _ .vmem, ⟨17, _⟩ => ⟨S8x8192, .f32⟩
  | .local _ .vmem, ⟨18, _⟩ => ⟨S8x8192, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_1 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_3 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_cst_5 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_6 : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_v57 : Ref sig .tc := ⟨.hbm, 73, rfl⟩
abbrev main_cst_7 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_cst_8 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_9 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_cst_10 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85_0 : Ref sig .tc := ⟨.hbm, 105, rfl⟩
abbrev main_v85_1 : Ref sig .tc := ⟨.hbm, 106, rfl⟩
abbrev main_v85_2 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_v92 : Ref sig .tc := ⟨.hbm, 114, rfl⟩
abbrev main_v93 : Ref sig .tc := ⟨.hbm, 115, rfl⟩
abbrev main_v94 : Ref sig .tc := ⟨.hbm, 116, rfl⟩
abbrev main_v95 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_v99 : Ref sig .tc := ⟨.hbm, 121, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v9 : BitVec 32 := Scalar.muli arg1 c512_i32
  v9
def k0_off1 (i : grid0.Coords) : Fin 2 → Nat :=
  let arg1 : BitVec 32 := BitVec.ofNat 32 (i 1).val
  let c512_i32 : BitVec 32 := 512#32
  let v9 : BitVec 32 := Scalar.muli arg1 c512_i32
  let v10 : BitVec 32 := v9
  let v11 : Index := Scalar.indexCast v10
  let c0_5 : Index := 0#32
  ![v11.toNat, 0]
def k0_off2 (i : grid0.Coords) : Fin 2 → Nat :=
  let c0_8 : Index := 0#32
  let arg1 : BitVec 32 := BitVec.ofNat 32 (i 1).val
  let c512_i32 : BitVec 32 := 512#32
  let v9 : BitVec 32 := Scalar.muli arg1 c512_i32
  let v10 : BitVec 32 := v9
  let v19 : Index := Scalar.indexCast v10
  ![0, v19.toNat]
@[reducible] def k0_t1_loop (i : grid0.Coords) : Scf.Loop 32 :=
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let c1_i32_18 : BitVec 32 := 1#32
  ⟨v49, v54, c1_i32_18⟩
def k0_mult2 (i : grid0.Coords) (k0_t1 : Fin (k0_t1_loop i).trips) : BitVec 32 :=
  let arg1 : BitVec 32 := BitVec.ofNat 32 (i 1).val
  let c1_i32 : BitVec 32 := 1#32
  let v49 : BitVec 32 := Scalar.addi arg1 c1_i32
  let c1_i32_18 : BitVec 32 := 1#32
  let arg13 : BitVec 32 := Scf.iv v49 c1_i32_18 k0_t1
  let c512_i32_25 : BitVec 32 := 512#32
  let v62 : BitVec 32 := Scalar.muli arg13 c512_i32_25
  v62
def k0_off3 (i : grid0.Coords) (k0_t1 : Fin (k0_t1_loop i).trips) : Fin 2 → Nat :=
  let arg1 : BitVec 32 := BitVec.ofNat 32 (i 1).val
  let c1_i32 : BitVec 32 := 1#32
  let v49 : BitVec 32 := Scalar.addi arg1 c1_i32
  let c1_i32_18 : BitVec 32 := 1#32
  let arg13 : BitVec 32 := Scf.iv v49 c1_i32_18 k0_t1
  let c512_i32_25 : BitVec 32 := 512#32
  let v62 : BitVec 32 := Scalar.muli arg13 c512_i32_25
  let v63 : BitVec 32 := v62
  let v64 : Index := Scalar.indexCast v63
  let c0_26 : Index := 0#32
  ![v64.toNat, 0]
def k0_off4 (i : grid0.Coords) (k0_t1 : Fin (k0_t1_loop i).trips) : Fin 2 → Nat :=
  let c0_29 : Index := 0#32
  let arg1 : BitVec 32 := BitVec.ofNat 32 (i 1).val
  let c1_i32 : BitVec 32 := 1#32
  let v49 : BitVec 32 := Scalar.addi arg1 c1_i32
  let c1_i32_18 : BitVec 32 := 1#32
  let arg13 : BitVec 32 := Scf.iv v49 c1_i32_18 k0_t1
  let c512_i32_25 : BitVec 32 := 512#32
  let v62 : BitVec 32 := Scalar.muli arg13 c512_i32_25
  let v63 : BitVec 32 := v62
  let v72 : Index := Scalar.indexCast v63
  ![0, v72.toNat]
@[reducible] def k0_t2_loop (i : grid0.Coords) : Scf.Loop 32 :=
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let v51 : BitVec 32 := Scalar.addi v49 v50
  let c1_i32_19 : BitVec 32 := 1#32
  ⟨v54, v51, c1_i32_19⟩
def k0_mult3 (i : grid0.Coords) (k0_t2 : Fin (k0_t2_loop i).trips) : BitVec 32 :=
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let c1_i32_19 : BitVec 32 := 1#32
  let arg13 : BitVec 32 := Scf.iv v54 c1_i32_19 k0_t2
  let c512_i32_25 : BitVec 32 := 512#32
  let v62 : BitVec 32 := Scalar.muli arg13 c512_i32_25
  v62
def k0_off5 (i : grid0.Coords) (k0_t2 : Fin (k0_t2_loop i).trips) : Fin 2 → Nat :=
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let c1_i32_19 : BitVec 32 := 1#32
  let arg13 : BitVec 32 := Scf.iv v54 c1_i32_19 k0_t2
  let c512_i32_25 : BitVec 32 := 512#32
  let v62 : BitVec 32 := Scalar.muli arg13 c512_i32_25
  let v63 : BitVec 32 := v62
  let v64 : Index := Scalar.indexCast v63
  let c0_26 : Index := 0#32
  ![v64.toNat, 0]
def k0_off6 (i : grid0.Coords) (k0_t2 : Fin (k0_t2_loop i).trips) : Fin 2 → Nat :=
  let c0_29 : Index := 0#32
  let arg1 : BitVec 32 := BitVec.ofNat 32 (i 1).val
  let c1_i32 : BitVec 32 := 1#32
  let v49 : BitVec 32 := Scalar.addi arg1 c1_i32
  let c16_i32 : BitVec 32 := 16#32
  let v50 : BitVec 32 := Scalar.subi c16_i32 v49
  let c1_i32_17 : BitVec 32 := 1#32
  let v52 : BitVec 32 := Scalar.divsi v50 c1_i32_17
  let v53 : BitVec 32 := Scalar.muli v52 c1_i32_17
  let v54 : BitVec 32 := Scalar.addi v49 v53
  let c1_i32_19 : BitVec 32 := 1#32
  let arg13 : BitVec 32 := Scf.iv v54 c1_i32_19 k0_t2
  let c512_i32_25 : BitVec 32 := 512#32
  let v62 : BitVec 32 := Scalar.muli arg13 c512_i32_25
  let v63 : BitVec 32 := v62
  let v72 : Index := Scalar.indexCast v63
  ![0, v72.toNat]
def k0_cond2 (i : grid0.Coords) : BitVec 1 :=
  let arg1 : BitVec 32 := BitVec.ofNat 32 (i 1).val
  let c15_i32 : BitVec 32 := 15#32
  let v59 : BitVec 1 := Scalar.cmpi .eq arg1 c15_i32
  let v60 : BitVec 32 := Scalar.extui v59
  let c0_i32_24 : BitVec 32 := 0#32
  let v61 : BitVec 1 := Scalar.cmpi .ne v60 c0_i32_24
  v61

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S8192x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8192x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S8192x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S8192x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S8192x256 : Shape := ⟨2, ![8192, 256]⟩
abbrev S8192x4 : Shape := ⟨2, ![8192, 4]⟩
abbrev S8192x4x64 : Shape := ⟨3, ![8192, 4, 64]⟩
abbrev S4x8192x64 : Shape := ⟨3, ![4, 8192, 64]⟩
abbrev S4x8192 : Shape := ⟨2, ![4, 8192]⟩
abbrev S8192 : Shape := ⟨1, ![8192]⟩
abbrev S4x8192x8192 : Shape := ⟨3, ![4, 8192, 8192]⟩
abbrev S_ : Shape := ⟨0, ![]⟩
abbrev S4x8192x1 : Shape := ⟨3, ![4, 8192, 1]⟩
abbrev S4x1x8192 : Shape := ⟨3, ![4, 1, 8192]⟩
abbrev S8192x1 : Shape := ⟨2, ![8192, 1]⟩
abbrev S1x8192 : Shape := ⟨2, ![1, 8192]⟩
abbrev S8192x8192 : Shape := ⟨2, ![8192, 8192]⟩
abbrev S4x64x8192 : Shape := ⟨3, ![4, 64, 8192]⟩

abbrev nBuf : Space → Nat
  | .hbm => 122
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192x256, .f32⟩
  | .hbm, ⟨2, _⟩ => ⟨S8192x256, .f32⟩
  | .hbm, ⟨3, _⟩ => ⟨S8192x4, .f32⟩
  | .hbm, ⟨4, _⟩ => ⟨S8192x256, .f32⟩
  | .hbm, ⟨5, _⟩ => ⟨S8192x4x64, .f32⟩
  | .hbm, ⟨6, _⟩ => ⟨S4x8192x64, .f32⟩
  | .hbm, ⟨7, _⟩ => ⟨S8192x4x64, .f32⟩
  | .hbm, ⟨8, _⟩ => ⟨S4x8192x64, .f32⟩
  | .hbm, ⟨9, _⟩ => ⟨S4x8192, .f32⟩
  | .hbm, ⟨10, _⟩ => ⟨S8192, .i32⟩
  | .hbm, ⟨11, _⟩ => ⟨S4x8192x8192, .f32⟩
  | .hbm, ⟨12, _⟩ => ⟨S_, .f32⟩
  | .hbm, ⟨13, _⟩ => ⟨S4x8192x8192, .f32⟩
  | .hbm, ⟨14, _⟩ => ⟨S4x8192x8192, .f32⟩
  | .hbm, ⟨15, _⟩ => ⟨S4x8192x1, .f32⟩
  | .hbm, ⟨16, _⟩ => ⟨S4x8192x8192, .f32⟩
  | .hbm, ⟨17, _⟩ => ⟨S4x8192x8192, .f32⟩
  | .hbm, ⟨18, _⟩ => ⟨S4x1x8192, .f32⟩
  | .hbm, ⟨19, _⟩ => ⟨S4x8192x8192, .f32⟩
  | .hbm, ⟨20, _⟩ => ⟨S4x8192x8192, .f32⟩
  | .hbm, ⟨21, _⟩ => ⟨S8192x1, .i32⟩
  | .hbm, ⟨22, _⟩ => ⟨S1x8192, .i32⟩
  | .hbm, ⟨23, _⟩ => ⟨S8192x8192, .i32⟩
  | .hbm, ⟨24, _⟩ => ⟨S8192x8192, .i32⟩
  | .hbm, ⟨25, _⟩ => ⟨S8192x8192, .i1⟩
  | .hbm, ⟨26, _⟩ => ⟨S_, .f32⟩
  | .hbm, ⟨27, _⟩ => ⟨S_, .f32⟩
  | .hbm, ⟨28, _⟩ => ⟨S4x8192x8192, .i1⟩
  | .hbm, ⟨29, _⟩ => ⟨S4x8192x8192, .f32⟩
  | .hbm, ⟨30, _⟩ => ⟨S4x8192x8192, .f32⟩
  | .hbm, ⟨31, _⟩ => ⟨S_, .f32⟩
  | .hbm, ⟨32, _⟩ => ⟨S4x8192x8192, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S4x8192x8192, .f32⟩
  | .hbm, ⟨37, _⟩ => ⟨S4x8192x8192, .i1⟩
  | .hbm, ⟨38, _⟩ => ⟨S4x8192x8192, .f32⟩
  | .hbm, ⟨39, _⟩ => ⟨S_, .f32⟩
  | .hbm, ⟨40, _⟩ => ⟨S4x8192, .f32⟩
  | .hbm, ⟨41, _⟩ => ⟨S_, .f32⟩
  | .hbm, ⟨42, _⟩ => ⟨S4x8192, .f32⟩
  | .hbm, ⟨43, _⟩ => ⟨S4x8192, .f32⟩
  | .hbm, ⟨44, _⟩ => ⟨S_, .f32⟩
  | .hbm, ⟨45, _⟩ => ⟨S4x8192, .f32⟩
  | .hbm, ⟨46, _⟩ => ⟨S4x8192, .i1⟩
  | .hbm, ⟨47, _⟩ => ⟨S_, .f32⟩
  | .hbm, ⟨48, _⟩ => ⟨S4x8192, .f32⟩
  | .hbm, ⟨49, _⟩ => ⟨S4x8192, .i1⟩
  | .hbm, ⟨50, _⟩ => ⟨S_, .f32⟩
  | .hbm, ⟨51, _⟩ => ⟨S4x8192, .f32⟩
  | .hbm, ⟨52, _⟩ => ⟨S_, .f32⟩
  | .hbm, ⟨53, _⟩ => ⟨S4x8192, .f32⟩
  | .hbm, ⟨54, _⟩ => ⟨S_, .f32⟩
  | .hbm, ⟨55, _⟩ => ⟨S4x8192, .f32⟩
  | .hbm, ⟨56, _⟩ => ⟨S4x8192, .f32⟩
  | .hbm, ⟨57, _⟩ => ⟨S4x8192, .f32⟩
  | .hbm, ⟨58, _⟩ => ⟨S4x8192x1, .f32⟩
  | .hbm, ⟨59, _⟩ => ⟨S4x8192x8192, .f32⟩
  | .hbm, ⟨60, _⟩ => ⟨S4x8192x8192, .f32⟩
  | .hbm, ⟨61, _⟩ => ⟨S4x8192x8192, .f32⟩
  | .hbm, ⟨62, _⟩ => ⟨S_, .f32⟩
  | .hbm, ⟨63, _⟩ => ⟨S4x8192, .f32⟩
  | .hbm, ⟨64, _⟩ => ⟨S4x8192x1, .f32⟩
  | .hbm, ⟨65, _⟩ => ⟨S4x8192x8192, .f32⟩
  | .hbm, ⟨66, _⟩ => ⟨S4x8192x8192, .f32⟩
  | .hbm, ⟨67, _⟩ => ⟨S4x8192x1, .f32⟩
  | .hbm, ⟨68, _⟩ => ⟨S_, .f32⟩
  | .hbm, ⟨69, _⟩ => ⟨S4x8192x1, .f32⟩
  | .hbm, ⟨70, _⟩ => ⟨S4x8192x1, .f32⟩
  | .hbm, ⟨71, _⟩ => ⟨S8192x4x64, .f32⟩
  | .hbm, ⟨72, _⟩ => ⟨S4x8192x64, .f32⟩
  | .hbm, ⟨73, _⟩ => ⟨S4x8192x64, .f32⟩
  | .hbm, ⟨74, _⟩ => ⟨S8192x4x64, .f32⟩
  | .hbm, ⟨75, _⟩ => ⟨S8192x256, .f32⟩
  | .hbm, ⟨76, _⟩ => ⟨S8192x4x64, .f32⟩
  | .hbm, ⟨77, _⟩ => ⟨S4x8192x64, .f32⟩
  | .hbm, ⟨78, _⟩ => ⟨S4x64x8192, .f32⟩
  | .hbm, ⟨79, _⟩ => ⟨S4x8192x64, .f32⟩
  | .hbm, ⟨80, _⟩ => ⟨S4x8192x8192, .f32⟩
  | .hbm, ⟨81, _⟩ => ⟨S8192x4x64, .f32⟩
  | .hbm, ⟨82, _⟩ => ⟨S8192x256, .f32⟩
  | .hbm, ⟨83, _⟩ => ⟨S4x8192x8192, .f32⟩
  | .hbm, ⟨84, _⟩ => ⟨S4x8192x8192, .f32⟩
  | .hbm, ⟨85, _⟩ => ⟨S4x8192x8192, .f32⟩
  | .hbm, ⟨86, _⟩ => ⟨S_, .f32⟩
  | .hbm, ⟨87, _⟩ => ⟨S4x8192, .f32⟩
  | .hbm, ⟨88, _⟩ => ⟨S4x8192x1, .f32⟩
  | .hbm, ⟨89, _⟩ => ⟨S4x8192x1, .f32⟩
  | .hbm, ⟨90, _⟩ => ⟨S4x8192x8192, .f32⟩
  | .hbm, ⟨91, _⟩ => ⟨S4x8192x8192, .f32⟩
  | .hbm, ⟨92, _⟩ => ⟨S_, .f32⟩
  | .hbm, ⟨93, _⟩ => ⟨S4x8192, .f32⟩
  | .hbm, ⟨94, _⟩ => ⟨S4x8192x8192, .f32⟩
  | .hbm, ⟨95, _⟩ => ⟨S4x8192x8192, .f32⟩
  | .hbm, ⟨96, _⟩ => ⟨S4x8192x8192, .f32⟩
  | .hbm, ⟨97, _⟩ => ⟨S_, .f32⟩
  | .hbm, ⟨98, _⟩ => ⟨S4x8192x8192, .f32⟩
  | .hbm, ⟨99, _⟩ => ⟨S4x8192x8192, .f32⟩
  | .hbm, ⟨100, _⟩ => ⟨S4x8192x8192, .f32⟩
  | .hbm, ⟨101, _⟩ => ⟨S_, .f32⟩
  | .hbm, ⟨102, _⟩ => ⟨S4x8192, .f32⟩
  | .hbm, ⟨103, _⟩ => ⟨S4x1x8192, .f32⟩
  | .hbm, ⟨104, _⟩ => ⟨S_, .f32⟩
  | .hbm, ⟨105, _⟩ => ⟨S4x8192, .f32⟩
  | .hbm, ⟨106, _⟩ => ⟨S_, .f32⟩
  | .hbm, ⟨107, _⟩ => ⟨S4x8192, .f32⟩
  | .hbm, ⟨108, _⟩ => ⟨S4x8192x1, .f32⟩
  | .hbm, ⟨109, _⟩ => ⟨S_, .f32⟩
  | .hbm, ⟨110, _⟩ => ⟨S4x8192, .f32⟩
  | .hbm, ⟨111, _⟩ => ⟨S4x8192, .f32⟩
  | .hbm, ⟨112, _⟩ => ⟨S_, .f32⟩
  | .hbm, ⟨113, _⟩ => ⟨S4x8192x8192, .f32⟩
  | .hbm, ⟨114, _⟩ => ⟨S4x8192x8192, .f32⟩
  | .hbm, ⟨115, _⟩ => ⟨S4x8192x64, .f32⟩
  | .hbm, ⟨116, _⟩ => ⟨S4x8192x64, .f32⟩
  | .hbm, ⟨117, _⟩ => ⟨S8192x4, .f32⟩
  | .hbm, ⟨118, _⟩ => ⟨S8192x4x64, .f32⟩
  | .hbm, ⟨119, _⟩ => ⟨S8192x256, .f32⟩
  | .hbm, ⟨120, _⟩ => ⟨S8192x4x64, .f32⟩
  | .hbm, ⟨121, _⟩ => ⟨S8192x256, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_0 : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_11 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_12 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_call1_cst : Ref sig .tc := ⟨.hbm, 97, rfl⟩
abbrev main_call1_v0 : Ref sig .tc := ⟨.hbm, 98, rfl⟩
abbrev main_v73 : Ref sig .tc := ⟨.hbm, 99, rfl⟩
abbrev main_v74 : Ref sig .tc := ⟨.hbm, 100, rfl⟩
abbrev main_cst_13 : Ref sig .tc := ⟨.hbm, 101, rfl⟩
abbrev main_v75 : Ref sig .tc := ⟨.hbm, 102, rfl⟩
abbrev main_v76 : Ref sig .tc := ⟨.hbm, 103, rfl⟩
abbrev main_cst_14 : Ref sig .tc := ⟨.hbm, 104, rfl⟩
abbrev main_v77 : Ref sig .tc := ⟨.hbm, 105, rfl⟩
abbrev main_cst_15 : Ref sig .tc := ⟨.hbm, 106, rfl⟩
abbrev main_v78 : Ref sig .tc := ⟨.hbm, 107, rfl⟩
abbrev main_v79 : Ref sig .tc := ⟨.hbm, 108, rfl⟩
abbrev main_cst_16 : Ref sig .tc := ⟨.hbm, 109, rfl⟩
abbrev main_v80 : Ref sig .tc := ⟨.hbm, 110, rfl⟩
abbrev main_v81 : Ref sig .tc := ⟨.hbm, 111, rfl⟩
abbrev main_cst_17 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩
abbrev main_v88 : Ref sig .tc := ⟨.hbm, 119, rfl⟩
abbrev main_v89 : Ref sig .tc := ⟨.hbm, 120, rfl⟩
abbrev main_v90 : Ref sig .tc := ⟨.hbm, 121, rfl⟩

abbrev nD : Nat := 1
abbrev τ : Topo := Topo.v7x

variable {F : FTy → Type} [FloatOps F]
-- ==== DwUp.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x1024 : Shape := ⟨2, ![1024, 1024]⟩

abbrev nBuf : Space → Nat
  | .hbm => 23
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x4096, .bf16⟩
  | .hbm, ⟨22, _⟩ => ⟨S1024x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwUpReferenceIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4096x1024 : Shape := ⟨2, ![4096, 1024]⟩

abbrev nBuf : Space → Nat
  | .hbm => 23
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x4096, .f32⟩
  | .hbm, ⟨21, _⟩ => ⟨S4096x1024, .f32⟩
  | .hbm, ⟨22, _⟩ => ⟨S1024x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩

abbrev nD : Nat := 1
abbrev τ : Topo := Topo.v7x

variable {F : FTy → Type} [FloatOps F]
-- ==== DwDown.lean ====
abbrev S8192x4096 : Shape := ⟨2, ![8192, 4096]⟩
abbrev S4096x1024 : Shape := ⟨2, ![4096, 1024]⟩
abbrev S8192x1024 : Shape := ⟨2, ![8192, 1024]⟩
abbrev S1024x1024 : Shape := ⟨2, ![1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S8192x1024, .bf16⟩
  | .hbm, ⟨4, _⟩ => ⟨S4096x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DwDownReferenceIdeal.lean ====
abbrev S8192x4096 : Shape := ⟨2, ![8192, 4096]⟩
abbrev S4096x1024 : Shape := ⟨2, ![4096, 1024]⟩
abbrev S8192x1024 : Shape := ⟨2, ![8192, 1024]⟩
abbrev S_ : Shape := ⟨0, ![]⟩
abbrev S1024x4096 : Shape := ⟨2, ![1024, 4096]⟩

abbrev nBuf : Space → Nat
  | .hbm => 10
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S8192x1024, .f32⟩
  | .hbm, ⟨3, _⟩ => ⟨S_, .f32⟩
  | .hbm, ⟨4, _⟩ => ⟨S8192x4096, .f32⟩
  | .hbm, ⟨5, _⟩ => ⟨S8192x4096, .f32⟩
  | .hbm, ⟨6, _⟩ => ⟨S8192x4096, .f32⟩
  | .hbm, ⟨7, _⟩ => ⟨S8192x1024, .f32⟩
  | .hbm, ⟨8, _⟩ => ⟨S1024x4096, .f32⟩
  | .hbm, ⟨9, _⟩ => ⟨S4096x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩

abbrev nD : Nat := 1
abbrev τ : Topo := Topo.v7x

variable {F : FTy → Type} [FloatOps F]
-- ==== MlpDown.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S1x1024 : Shape := ⟨2, ![1, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 14
  | .vmem => 13
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S4096x1024, .bf16⟩
  | .hbm, ⟨10, _⟩ => ⟨S1x1024, .f32⟩
  | .hbm, ⟨11, _⟩ => ⟨S8192x1024, .bf16⟩
  | .hbm, ⟨12, _⟩ => ⟨S8192x4096, .bf16⟩
  | .hbm, ⟨13, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .f32⟩
  | .local _ .vmem, ⟨5, _⟩ => ⟨S512x4096, .f32⟩
  | .local _ .vmem, ⟨6, _⟩ => ⟨S4096x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x4096, .bf16⟩
  | .local _ .vmem, ⟨11, _⟩ => ⟨S512x4096, .bf16⟩
  | .local _ .vmem, ⟨12, _⟩ => ⟨S1x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpDownReferenceIdeal.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 70
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S_, .f32⟩
  | .hbm, ⟨8, _⟩ => ⟨S8192x4096, .f32⟩
  | .hbm, ⟨9, _⟩ => ⟨S8192x4096, .i1⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S1x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S1024, .f32⟩
  | .hbm, ⟨45, _⟩ => ⟨S8192x1024, .f32⟩
  | .hbm, ⟨46, _⟩ => ⟨S_, .f32⟩
  | .hbm, ⟨47, _⟩ => ⟨S8192, .f32⟩
  | .hbm, ⟨48, _⟩ => ⟨S8192x1, .f32⟩
  | .hbm, ⟨49, _⟩ => ⟨S8192x1024, .f32⟩
  | .hbm, ⟨50, _⟩ => ⟨S8192x1024, .f32⟩
  | .hbm, ⟨51, _⟩ => ⟨S8192x1, .f32⟩
  | .hbm, ⟨52, _⟩ => ⟨S_, .f32⟩
  | .hbm, ⟨53, _⟩ => ⟨S8192x1, .f32⟩
  | .hbm, ⟨54, _⟩ => ⟨S8192x1, .f32⟩
  | .hbm, ⟨55, _⟩ => ⟨S_, .f32⟩
  | .hbm, ⟨56, _⟩ => ⟨S8192, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | .hbm, ⟨63, _⟩ => ⟨S8192x4096, .f32⟩
  | .hbm, ⟨64, _⟩ => ⟨S8192x4096, .f32⟩
  | .hbm, ⟨65, _⟩ => ⟨S_, .f32⟩
  | .hbm, ⟨66, _⟩ => ⟨S8192x4096, .f32⟩
  | .hbm, ⟨67, _⟩ => ⟨S8192x4096, .f32⟩
  | .hbm, ⟨68, _⟩ => ⟨S8192x4096, .bf16⟩
  | .hbm, ⟨69, _⟩ => ⟨S1x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_cst_4 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_7 : Ref sig .tc := ⟨.hbm, 43, rfl⟩
abbrev main_v29 : Ref sig .tc := ⟨.hbm, 44, rfl⟩
abbrev main_v30 : Ref sig .tc := ⟨.hbm, 45, rfl⟩
abbrev main_cst_8 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_9 : Ref sig .tc := ⟨.hbm, 52, rfl⟩
abbrev main_v36 : Ref sig .tc := ⟨.hbm, 53, rfl⟩
abbrev main_v37 : Ref sig .tc := ⟨.hbm, 54, rfl⟩
abbrev main_cst_10 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩

abbrev nD : Nat := 1
abbrev τ : Topo := Topo.v7x

variable {F : FTy → Type} [FloatOps F]
-- ==== MlpUp.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S1x1024 : Shape := ⟨2, ![1, 1024]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x4096, .bf16⟩
  | .hbm, ⟨6, _⟩ => ⟨S1024x4096, .bf16⟩
  | .hbm, ⟨7, _⟩ => ⟨S1x1024, .f32⟩
  | .hbm, ⟨8, _⟩ => ⟨S8192x1024, .f32⟩
  | .hbm, ⟨9, _⟩ => ⟨S8192x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x4096, .bf16⟩
  | .local _ .vmem, ⟨5, _⟩ => ⟨S512x4096, .bf16⟩
  | .local _ .vmem, ⟨6, _⟩ => ⟨S1024x4096, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3_0 : Ref sig .tc := ⟨.hbm, 8, rfl⟩
abbrev main_v3_1 : Ref sig .tc := ⟨.hbm, 9, rfl⟩
abbrev main_v3_2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== MlpUpReferenceIdeal.lean ====
abbrev S8192x1024 : Shape := ⟨2, ![8192, 1024]⟩
abbrev S1024 : Shape := ⟨1, ![1024]⟩
abbrev S1024x4096 : Shape := ⟨2, ![1024, 4096]⟩
abbrev S8192x4096 : Shape := ⟨2, ![8192, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 71
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x4096, .f32⟩
  | .hbm, ⟨4, _⟩ => ⟨S8192x1024, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S_, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x4096, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S1024, .f32⟩
  | .hbm, ⟨30, _⟩ => ⟨S1x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S1024, .f32⟩
  | .hbm, ⟨35, _⟩ => ⟨S8192x1024, .f32⟩
  | .hbm, ⟨36, _⟩ => ⟨S_, .f32⟩
  | .hbm, ⟨37, _⟩ => ⟨S8192, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1, .f32⟩
  | .hbm, ⟨42, _⟩ => ⟨S_, .f32⟩
  | .hbm, ⟨43, _⟩ => ⟨S8192x1, .f32⟩
  | .hbm, ⟨44, _⟩ => ⟨S8192x1, .f32⟩
  | .hbm, ⟨45, _⟩ => ⟨S_, .f32⟩
  | .hbm, ⟨46, _⟩ => ⟨S8192, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S8192, .f32⟩
  | .hbm, ⟨56, _⟩ => ⟨S8192x1, .f32⟩
  | .hbm, ⟨57, _⟩ => ⟨S_, .f32⟩
  | .hbm, ⟨58, _⟩ => ⟨S8192x1, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S8192x1, .f32⟩
  | .hbm, ⟨64, _⟩ => ⟨S8192x1024, .f32⟩
  | .hbm, ⟨65, _⟩ => ⟨S8192x1024, .f32⟩
  | .hbm, ⟨66, _⟩ => ⟨S1x1024, .f32⟩
  | .hbm, ⟨67, _⟩ => ⟨S8192x1024, .f32⟩
  | .hbm, ⟨68, _⟩ => ⟨S8192x1024, .f32⟩
  | .hbm, ⟨69, _⟩ => ⟨S8192x1024, .bf16⟩
  | .hbm, ⟨70, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_6 : Ref sig .tc := ⟨.hbm, 42, rfl⟩
abbrev main_v30 : Ref sig .tc := ⟨.hbm, 43, rfl⟩
abbrev main_v31 : Ref sig .tc := ⟨.hbm, 44, rfl⟩
abbrev main_cst_7 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_8 : Ref sig .tc := ⟨.hbm, 54, rfl⟩
abbrev main_v40 : Ref sig .tc := ⟨.hbm, 55, rfl⟩
abbrev main_v41 : Ref sig .tc := ⟨.hbm, 56, rfl⟩
abbrev main_cst_9 : Ref sig .tc := ⟨.hbm, 57, rfl⟩
abbrev main_v42 : Ref sig .tc := ⟨.hbm, 58, rfl⟩
abbrev main_v43 : Ref sig .tc := ⟨.hbm, 59, rfl⟩
abbrev main_cst_10 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩

abbrev nD : Nat := 1
abbrev τ : Topo := Topo.v7x

variable {F : FTy → Type} [FloatOps F]
-- ==== MlpUpFwd.lean ====
abbrev S8192x1024 : Shape := ⟨2, ![8192, 1024]⟩
abbrev S1024 : Shape := ⟨1, ![1024]⟩
abbrev S1024x4096 : Shape := ⟨2, ![1024, 4096]⟩
abbrev S1x1024 : Shape := ⟨2, ![1, 1024]⟩
abbrev S8192x4096 : Shape := ⟨2, ![8192, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 6
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S1x1024, .f32⟩
  | .hbm, ⟨4, _⟩ => ⟨S1024x4096, .bf16⟩
  | .hbm, ⟨5, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x4096, .bf16⟩
  | .local _ .vmem, ⟨4, _⟩ => ⟨S512x4096, .f32⟩
  | .local _ .vmem, ⟨5, _⟩ => ⟨S512x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== MlpUpFwdReferenceIdeal.lean ====
abbrev S8192x1024 : Shape := ⟨2, ![8192, 1024]⟩
abbrev S1024 : Shape := ⟨1, ![1024]⟩
abbrev S1024x4096 : Shape := ⟨2, ![1024, 4096]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x4096 : Shape := ⟨2, ![8192, 4096]⟩

abbrev nBuf : Space → Nat
  | .hbm => 20
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x4096, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== MlpDownFwd.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S1x1024 : Shape := ⟨2, ![1, 1024]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩

abbrev nBuf : Space → Nat
  | .hbm => 8
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S8192x1024, .f32⟩
  | .hbm, ⟨4, _⟩ => ⟨S4096x1024, .bf16⟩
  | .hbm, ⟨5, _⟩ => ⟨S1x1024, .f32⟩
  | .hbm, ⟨6, _⟩ => ⟨S8192x1024, .f32⟩
  | .hbm, ⟨7, _⟩ => ⟨S8192x1024, .f32⟩
  | .local _ .vmem, ⟨0, _⟩ => ⟨S512x4096, .f32⟩
  | .local _ .vmem, ⟨1, _⟩ => ⟨S512x4096, .f32⟩
  | .local _ .vmem, ⟨2, _⟩ => ⟨S512x1024, .f32⟩
  | .local _ .vmem, ⟨3, _⟩ => ⟨S512x1024, .f32⟩
  | .local _ .vmem, ⟨4, _⟩ => ⟨S4096x1024, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MlpDownFwdReferenceIdeal.lean ====
abbrev S8192x4096 : Shape := ⟨2, ![8192, 4096]⟩
abbrev S4096x1024 : Shape := ⟨2, ![4096, 1024]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 26
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x1024, .f32⟩
  | .hbm, ⟨2, _⟩ => ⟨S1024, .f32⟩
  | .hbm, ⟨3, _⟩ => ⟨S8192x1024, .f32⟩
  | .hbm, ⟨4, _⟩ => ⟨S_, .f32⟩
  | .hbm, ⟨5, _⟩ => ⟨S8192x4096, .f32⟩
  | .hbm, ⟨6, _⟩ => ⟨S8192x4096, .f32⟩
  | .hbm, ⟨7, _⟩ => ⟨S8192x4096, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1024, .f32⟩
  | .hbm, ⟨21, _⟩ => ⟨S8192x1024, .f32⟩
  | .hbm, ⟨22, _⟩ => ⟨S1x1024, .f32⟩
  | .hbm, ⟨23, _⟩ => ⟨S8192x1024, .f32⟩
  | .hbm, ⟨24, _⟩ => ⟨S8192x1024, .f32⟩
  | .hbm, ⟨25, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩

abbrev nD : Nat := 1
abbrev τ : Topo := Topo.v7x

variable {F : FTy → Type} [FloatOps F]
-- ==== PleBwd.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 33
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S1024x1024, .bf16⟩
  | .hbm, ⟨27, _⟩ => ⟨S1x1024, .f32⟩
  | .hbm, ⟨28, _⟩ => ⟨S8192x1024, .f32⟩
  | .hbm, ⟨29, _⟩ => ⟨S1024x1024, .f32⟩
  | .hbm, ⟨30, _⟩ => ⟨S256x1024, .f32⟩
  | .hbm, ⟨31, _⟩ => ⟨S1x1024, .f32⟩
  | .hbm, ⟨32, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x256, .f32⟩
  | .local _ .vmem, ⟨9, _⟩ => ⟨S512x256, .f32⟩
  | .local _ .vmem, ⟨10, _⟩ => ⟨S1x1024, .f32⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S1024x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18_0 : Ref sig .tc := ⟨.hbm, 28, rfl⟩
abbrev main_v18_1 : Ref sig .tc := ⟨.hbm, 29, rfl⟩
abbrev main_v18_2 : Ref sig .tc := ⟨.hbm, 30, rfl⟩
abbrev main_v18_3 : Ref sig .tc := ⟨.hbm, 31, rfl⟩
abbrev main_v18_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem12_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== PleBwdReferenceIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1024x256 : Shape := ⟨2, ![1024, 256]⟩

abbrev nBuf : Space → Nat
  | .hbm => 125
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8192x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S1x1024, .f32⟩
  | .hbm, ⟨25, _⟩ => ⟨S8192x1024, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S_, .f32⟩
  | .hbm, ⟨47, _⟩ => ⟨S8192x1, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S8192x1, .f32⟩
  | .hbm, ⟨53, _⟩ => ⟨S8192x1, .f32⟩
  | .hbm, ⟨54, _⟩ => ⟨S_, .f32⟩
  | .hbm, ⟨55, _⟩ => ⟨S8192x1, .f32⟩
  | .hbm, ⟨56, _⟩ => ⟨S8192x1, .f32⟩
  | .hbm, ⟨57, _⟩ => ⟨S8192x1024, .f32⟩
  | .hbm, ⟨58, _⟩ => ⟨S8192x1024, .f32⟩
  | .hbm, ⟨59, _⟩ => ⟨S1x1024, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S_, .f32⟩
  | .hbm, ⟨71, _⟩ => ⟨S1024, .f32⟩
  | .hbm, ⟨72, _⟩ => ⟨S8192x1024, .f32⟩
  | .hbm, ⟨73, _⟩ => ⟨S_, .f32⟩
  | .hbm, ⟨74, _⟩ => ⟨S8192, .f32⟩
  | .hbm, ⟨75, _⟩ => ⟨S8192x1, .f32⟩
  | .hbm, ⟨76, _⟩ => ⟨S8192x1024, .f32⟩
  | .hbm, ⟨77, _⟩ => ⟨S8192x1024, .f32⟩
  | .hbm, ⟨78, _⟩ => ⟨S8192x1, .f32⟩
  | .hbm, ⟨79, _⟩ => ⟨S_, .f32⟩
  | .hbm, ⟨80, _⟩ => ⟨S8192x1, .f32⟩
  | .hbm, ⟨81, _⟩ => ⟨S8192x1, .f32⟩
  | .hbm, ⟨82, _⟩ => ⟨S_, .f32⟩
  | .hbm, ⟨83, _⟩ => ⟨S8192, .f32⟩
  | .hbm, ⟨84, _⟩ => ⟨S8192x1024, .f32⟩
  | .hbm, ⟨85, _⟩ => ⟨S8192x1024, .f32⟩
  | .hbm, ⟨86, _⟩ => ⟨S8192x1024, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S1024x256, .f32⟩
  | .hbm, ⟨92, _⟩ => ⟨S256x1024, .f32⟩
  | .hbm, ⟨93, _⟩ => ⟨S8192x1024, .f32⟩
  | .hbm, ⟨94, _⟩ => ⟨S1024x1024, .f32⟩
  | .hbm, ⟨95, _⟩ => ⟨S1024x1024, .f32⟩
  | .hbm, ⟨96, _⟩ => ⟨S8192x1024, .f32⟩
  | .hbm, ⟨97, _⟩ => ⟨S8192x1024, .f32⟩
  | .hbm, ⟨98, _⟩ => ⟨S_, .f32⟩
  | .hbm, ⟨99, _⟩ => ⟨S1024, .f32⟩
  | .hbm, ⟨100, _⟩ => ⟨S1x1024, .f32⟩
  | .hbm, ⟨101, _⟩ => ⟨S8192x1024, .f32⟩
  | .hbm, ⟨102, _⟩ => ⟨S8192x1024, .f32⟩
  | .hbm, ⟨103, _⟩ => ⟨S_, .f32⟩
  | .hbm, ⟨104, _⟩ => ⟨S1024, .f32⟩
  | .hbm, ⟨105, _⟩ => ⟨S8192x1024, .f32⟩
  | .hbm, ⟨106, _⟩ => ⟨S_, .f32⟩
  | .hbm, ⟨107, _⟩ => ⟨S8192, .f32⟩
  | .hbm, ⟨108, _⟩ => ⟨S8192x1, .f32⟩
  | .hbm, ⟨109, _⟩ => ⟨S8192x1024, .f32⟩
  | .hbm, ⟨110, _⟩ => ⟨S8192x1024, .f32⟩
  | .hbm, ⟨111, _⟩ => ⟨S8192x1024, .f32⟩
  | .hbm, ⟨112, _⟩ => ⟨S8192x1, .f32⟩
  | .hbm, ⟨113, _⟩ => ⟨S_, .f32⟩
  | .hbm, ⟨114, _⟩ => ⟨S8192x1, .f32⟩
  | .hbm, ⟨115, _⟩ => ⟨S8192x1, .f32⟩
  | .hbm, ⟨116, _⟩ => ⟨S_, .f32⟩
  | .hbm, ⟨117, _⟩ => ⟨S8192, .f32⟩
  | .hbm, ⟨118, _⟩ => ⟨S8192x1024, .f32⟩
  | .hbm, ⟨119, _⟩ => ⟨S8192x1024, .f32⟩
  | .hbm, ⟨120, _⟩ => ⟨S8192x1024, .f32⟩
  | .hbm, ⟨121, _⟩ => ⟨S8192x1024, .f32⟩
  | .hbm, ⟨122, _⟩ => ⟨S8192x1024, .f32⟩
  | .hbm, ⟨123, _⟩ => ⟨S1x1024, .f32⟩
  | .hbm, ⟨124, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_cst_5 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_6 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_11 : Ref sig .tc := ⟨.hbm, 70, rfl⟩
abbrev main_v51 : Ref sig .tc := ⟨.hbm, 71, rfl⟩
abbrev main_v52 : Ref sig .tc := ⟨.hbm, 72, rfl⟩
abbrev main_cst_12 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_13 : Ref sig .tc := ⟨.hbm, 79, rfl⟩
abbrev main_v58 : Ref sig .tc := ⟨.hbm, 80, rfl⟩
abbrev main_v59 : Ref sig .tc := ⟨.hbm, 81, rfl⟩
abbrev main_cst_14 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_cst_15 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_cst_16 : Ref sig .tc := ⟨.hbm, 103, rfl⟩
abbrev main_v79 : Ref sig .tc := ⟨.hbm, 104, rfl⟩
abbrev main_v80 : Ref sig .tc := ⟨.hbm, 105, rfl⟩
abbrev main_cst_17 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_cst_18 : Ref sig .tc := ⟨.hbm, 113, rfl⟩
abbrev main_v87 : Ref sig .tc := ⟨.hbm, 114, rfl⟩
abbrev main_v88 : Ref sig .tc := ⟨.hbm, 115, rfl⟩
abbrev main_cst_19 : Ref sig .tc := ⟨.hbm, 116, rfl⟩
abbrev main_v89 : Ref sig .tc := ⟨.hbm, 117, rfl⟩
abbrev main_v90 : Ref sig .tc := ⟨.hbm, 118, rfl⟩
abbrev main_v91 : Ref sig .tc := ⟨.hbm, 119, rfl⟩
abbrev main_v92 : Ref sig .tc := ⟨.hbm, 120, rfl⟩
abbrev main_v93 : Ref sig .tc := ⟨.hbm, 121, rfl⟩
abbrev main_v94 : Ref sig .tc := ⟨.hbm, 122, rfl⟩
abbrev main_v95 : Ref sig .tc := ⟨.hbm, 123, rfl⟩
abbrev main_v96 : Ref sig .tc := ⟨.hbm, 124, rfl⟩

abbrev nD : Nat := 1
abbrev τ : Topo := Topo.v7x

variable {F : FTy → Type} [FloatOps F]
-- ==== PleFwd.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S512 : Shape := ⟨1, ![512]⟩
abbrev S512x1 : Shape := ⟨2, ![512, 1]⟩

abbrev nBuf : Space → Nat
  | .hbm => 13
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S1x1024, .f32⟩
  | .hbm, ⟨7, _⟩ => ⟨S1024x1024, .bf16⟩
  | .hbm, ⟨8, _⟩ => ⟨S256x1024, .bf16⟩
  | .hbm, ⟨9, _⟩ => ⟨S1x1024, .f32⟩
  | .hbm, ⟨10, _⟩ => ⟨S8192x1024, .f32⟩
  | .hbm, ⟨11, _⟩ => ⟨S8192x1024, .f32⟩
  | .hbm, ⟨12, _⟩ => ⟨S8192x1024, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S1x1024, .f32⟩
  | .local _ .vmem, ⟨5, _⟩ => ⟨S1024x1024, .bf16⟩
  | .local _ .vmem, ⟨6, _⟩ => ⟨S256x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v4_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PleFwdReferenceIdeal.lean ====
abbrev S8192x1024 : Shape := ⟨2, ![8192, 1024]⟩
abbrev S8192x256 : Shape := ⟨2, ![8192, 256]⟩
abbrev S1024 : Shape := ⟨1, ![1024]⟩
abbrev S1024x1024 : Shape := ⟨2, ![1024, 1024]⟩
abbrev S256x1024 : Shape := ⟨2, ![256, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x256, .f32⟩
  | .hbm, ⟨2, _⟩ => ⟨S1024, .f32⟩
  | .hbm, ⟨3, _⟩ => ⟨S1024x1024, .f32⟩
  | .hbm, ⟨4, _⟩ => ⟨S256x1024, .f32⟩
  | .hbm, ⟨5, _⟩ => ⟨S1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S1x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192x1024, .f32⟩
  | .hbm, ⟨28, _⟩ => ⟨S8192x1024, .f32⟩
  | .hbm, ⟨29, _⟩ => ⟨S_, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S1x1024, .f32⟩
  | .hbm, ⟨47, _⟩ => ⟨S8192x1024, .f32⟩
  | .hbm, ⟨48, _⟩ => ⟨S8192x1024, .f32⟩
  | .hbm, ⟨49, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩

abbrev nD : Nat := 1
abbrev τ : Topo := Topo.v7x

variable {F : FTy → Type} [FloatOps F]
-- ==== DwIn.lean ====
abbrev S8192x1024 : Shape := ⟨2, ![8192, 1024]⟩
abbrev S1024 : Shape := ⟨1, ![1024]⟩
abbrev S1024x2308 : Shape := ⟨2, ![1024, 2308]⟩
abbrev S8192x2308 : Shape := ⟨2, ![8192, 2308]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1280 : Shape := ⟨2, ![8192, 1280]⟩
abbrev S8192x4 : Shape := ⟨2, ![8192, 4]⟩
abbrev S8192x124 : Shape := ⟨2, ![8192, 124]⟩
abbrev S8192x2432 : Shape := ⟨2, ![8192, 2432]⟩
abbrev S1024x2432 : Shape := ⟨2, ![1024, 2432]⟩
abbrev S1024x1024 : Shape := ⟨2, ![1024, 1024]⟩

abbrev nBuf : Space → Nat
  | .hbm => 29
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2308, .f32⟩
  | .hbm, ⟨3, _⟩ => ⟨S8192x2308, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .bf16⟩
  | .hbm, ⟨21, _⟩ => ⟨S8192x1280, .f32⟩
  | .hbm, ⟨22, _⟩ => ⟨S8192x1024, .f32⟩
  | .hbm, ⟨23, _⟩ => ⟨S8192x4, .f32⟩
  | .hbm, ⟨24, _⟩ => ⟨S_, .f32⟩
  | .hbm, ⟨25, _⟩ => ⟨S8192x124, .f32⟩
  | .hbm, ⟨26, _⟩ => ⟨S8192x2432, .f32⟩
  | .hbm, ⟨27, _⟩ => ⟨S8192x2432, .bf16⟩
  | .hbm, ⟨28, _⟩ => ⟨S1024x2432, .f32⟩
  | .local _ .vmem, ⟨0, _⟩ => ⟨S1024x1024, .bf16⟩
  | .local _ .vmem, ⟨1, _⟩ => ⟨S1024x1024, .bf16⟩
  | .local _ .vmem, ⟨2, _⟩ => ⟨S1024x2432, .bf16⟩
  | .local _ .vmem, ⟨3, _⟩ => ⟨S1024x2432, .bf16⟩
  | .local _ .vmem, ⟨4, _⟩ => ⟨S1024x2432, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2432 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x2432 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== DwInReferenceIdeal.lean ====
abbrev S8192x1024 : Shape := ⟨2, ![8192, 1024]⟩
abbrev S1024 : Shape := ⟨1, ![1024]⟩
abbrev S1024x2308 : Shape := ⟨2, ![1024, 2308]⟩
abbrev S8192x2308 : Shape := ⟨2, ![8192, 2308]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S2308x1024 : Shape := ⟨2, ![2308, 1024]⟩
abbrev S1024x1280 : Shape := ⟨2, ![1024, 1280]⟩
abbrev S1024x1024 : Shape := ⟨2, ![1024, 1024]⟩
abbrev S1024x4 : Shape := ⟨2, ![1024, 4]⟩
abbrev S1024x124 : Shape := ⟨2, ![1024, 124]⟩
abbrev S1024x2432 : Shape := ⟨2, ![1024, 2432]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2308, .f32⟩
  | .hbm, ⟨3, _⟩ => ⟨S8192x2308, .f32⟩
  | .hbm, ⟨4, _⟩ => ⟨S8192x1024, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x1024, .f32⟩
  | .hbm, ⟨16, _⟩ => ⟨S8192x1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x2308, .f32⟩
  | .hbm, ⟨21, _⟩ => ⟨S2308x1024, .f32⟩
  | .hbm, ⟨22, _⟩ => ⟨S1024x2308, .f32⟩
  | .hbm, ⟨23, _⟩ => ⟨S1024x1280, .f32⟩
  | .hbm, ⟨24, _⟩ => ⟨S1024x1024, .f32⟩
  | .hbm, ⟨25, _⟩ => ⟨S1024x4, .f32⟩
  | .hbm, ⟨26, _⟩ => ⟨S_, .f32⟩
  | .hbm, ⟨27, _⟩ => ⟨S1024x124, .f32⟩
  | .hbm, ⟨28, _⟩ => ⟨S1024x2432, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩

abbrev nD : Nat := 1
abbrev τ : Topo := Topo.v7x

variable {F : FTy → Type} [FloatOps F]
-- ==== MixIn.lean ====
abbrev S8192x1024 : Shape := ⟨2, ![8192, 1024]⟩
abbrev S1024 : Shape := ⟨1, ![1024]⟩
abbrev S1024x2308 : Shape := ⟨2, ![1024, 2308]⟩
abbrev S8192x512 : Shape := ⟨2, ![8192, 512]⟩
abbrev S8192x256 : Shape := ⟨2, ![8192, 256]⟩
abbrev S8192x4 : Shape := ⟨2, ![8192, 4]⟩
abbrev S8192x768 : Shape := ⟨2, ![8192, 768]⟩
abbrev S_ : Shape := ⟨0, ![]⟩
abbrev S8192x124 : Shape := ⟨2, ![8192, 124]⟩
abbrev S8192x128 : Shape := ⟨2, ![8192, 128]⟩
abbrev S8192x4x64 : Shape := ⟨3, ![8192, 4, 64]⟩
abbrev S8192x4x128 : Shape := ⟨3, ![8192, 4, 128]⟩
abbrev S1x1024 : Shape := ⟨2, ![1, 1024]⟩
abbrev S1024x1280 : Shape := ⟨2, ![1024, 1280]⟩
abbrev S1024x1024 : Shape := ⟨2, ![1024, 1024]⟩
abbrev S1024x4 : Shape := ⟨2, ![1024, 4]⟩
abbrev S1024x124 : Shape := ⟨2, ![1024, 124]⟩
abbrev S1024x2432 : Shape := ⟨2, ![1024, 2432]⟩
abbrev S8192x2432 : Shape := ⟨2, ![8192, 2432]⟩
abbrev S512x1024 : Shape := ⟨2, ![512, 1024]⟩
abbrev S512x512 : Shape := ⟨2, ![512, 512]⟩
abbrev S512x768 : Shape := ⟨2, ![512, 768]⟩
abbrev S512x256 : Shape := ⟨2, ![512, 256]⟩
abbrev S512x128 : Shape := ⟨2, ![512, 128]⟩
abbrev S512x2432 : Shape := ⟨2, ![512, 2432]⟩
abbrev S512 : Shape := ⟨1, ![512]⟩
abbrev S512x1 : Shape := ⟨2, ![512, 1]⟩

abbrev nBuf : Space → Nat
  | .hbm => 45
  | .vmem => 27
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2308, .f32⟩
  | .hbm, ⟨3, _⟩ => ⟨S8192x512, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x4, .f32⟩
  | .hbm, ⟨8, _⟩ => ⟨S8192x768, .f32⟩
  | .hbm, ⟨9, _⟩ => ⟨S8192x256, .f32⟩
  | .hbm, ⟨10, _⟩ => ⟨S8192x1024, .f32⟩
  | .hbm, ⟨11, _⟩ => ⟨S_, .f32⟩
  | .hbm, ⟨12, _⟩ => ⟨S8192x124, .f32⟩
  | .hbm, ⟨13, _⟩ => ⟨S8192x128, .f32⟩
  | .hbm, ⟨14, _⟩ => ⟨S8192x128, .bf16⟩
  | .hbm, ⟨15, _⟩ => ⟨S8192x512, .bf16⟩
  | .hbm, ⟨16, _⟩ => ⟨S8192x4x64, .f32⟩
  | .hbm, ⟨17, _⟩ => ⟨S_, .f32⟩
  | .hbm, ⟨18, _⟩ => ⟨S8192x4x64, .f32⟩
  | .hbm, ⟨19, _⟩ => ⟨S8192x4x128, .f32⟩
  | .hbm, ⟨20, _⟩ => ⟨S8192x512, .f32⟩
  | .hbm, ⟨21, _⟩ => ⟨S8192x4x64, .f32⟩
  | .hbm, ⟨22, _⟩ => ⟨S_, .f32⟩
  | .hbm, ⟨23, _⟩ => ⟨S8192x4x64, .f32⟩
  | .hbm, ⟨24, _⟩ => ⟨S8192x4x128, .f32⟩
  | .hbm, ⟨25, _⟩ => ⟨S8192x512, .f32⟩
  | .hbm, ⟨26, _⟩ => ⟨S8192x4x64, .f32⟩
  | .hbm, ⟨27, _⟩ => ⟨S_, .f32⟩
  | .hbm, ⟨28, _⟩ => ⟨S8192x4x64, .f32⟩
  | .hbm, ⟨29, _⟩ => ⟨S8192x4x128, .f32⟩
  | .hbm, ⟨30, _⟩ => ⟨S8192x512, .f32⟩
  | .hbm, ⟨31, _⟩ => ⟨S8192x768, .bf16⟩
  | .hbm, ⟨32, _⟩ => ⟨S8192x256, .bf16⟩
  | .hbm, ⟨33, _⟩ => ⟨S1x1024, .f32⟩
  | .hbm, ⟨34, _⟩ => ⟨S1024x1280, .f32⟩
  | .hbm, ⟨35, _⟩ => ⟨S1024x1024, .f32⟩
  | .hbm, ⟨36, _⟩ => ⟨S1024x4, .f32⟩
  | .hbm, ⟨37, _⟩ => ⟨S_, .f32⟩
  | .hbm, ⟨38, _⟩ => ⟨S1024x124, .f32⟩
  | .hbm, ⟨39, _⟩ => ⟨S1024x2432, .f32⟩
  | .hbm, ⟨40, _⟩ => ⟨S1024x2432, .bf16⟩
  | .hbm, ⟨41, _⟩ => ⟨S8192x1024, .f32⟩
  | .hbm, ⟨42, _⟩ => ⟨S8192x1024, .bf16⟩
  | .hbm, ⟨43, _⟩ => ⟨S8192x2432, .bf16⟩
  | .hbm, ⟨44, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x512, .bf16⟩
  | .local _ .vmem, ⟨5, _⟩ => ⟨S512x512, .bf16⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x768, .bf16⟩
  | .local _ .vmem, ⟨13, _⟩ => ⟨S512x768, .bf16⟩
  | .local _ .vmem, ⟨14, _⟩ => ⟨S512x256, .bf16⟩
  | .local _ .vmem, ⟨15, _⟩ => ⟨S512x256, .bf16⟩
  | .local _ .vmem, ⟨16, _⟩ => ⟨S512x128, .bf16⟩
  | .local _ .vmem, ⟨17, _⟩ => ⟨S512x128, .bf16⟩
  | .local _ .vmem, ⟨18, _⟩ => ⟨S1x1024, .f32⟩
  | .local _ .vmem, ⟨19, _⟩ => ⟨S1024x2432, .bf16⟩
  | .local _ .vmem, ⟨20, _⟩ => ⟨S512x1024, .f32⟩
  | .local _ .vmem, ⟨21, _⟩ => ⟨S512x1024, .f32⟩
  | .local _ .vmem, ⟨22, _⟩ => ⟨S512x1024, .bf16⟩
  | .local _ .vmem, ⟨23, _⟩ => ⟨S512x1024, .bf16⟩
  | .local _ .vmem, ⟨24, _⟩ => ⟨S512x2432, .bf16⟩
  | .local _ .vmem, ⟨25, _⟩ => ⟨S512x2432, .bf16⟩
  | .local _ .vmem, ⟨26, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_1 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_3 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25_0 : Ref sig .tc := ⟨.hbm, 41, rfl⟩
abbrev main_v25_1 : Ref sig .tc := ⟨.hbm, 42, rfl⟩
abbrev main_v25_2 : Ref sig .tc := ⟨.hbm, 43, rfl⟩
abbrev main_v25_3 : Ref sig .tc := ⟨.hbm, 44, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_stg14_0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25
abbrev cc0_sem14_0 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x2432 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x2432 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== MixInReferenceIdeal.lean ====
abbrev S8192x1024 : Shape := ⟨2, ![8192, 1024]⟩
abbrev S1024 : Shape := ⟨1, ![1024]⟩
abbrev S1024x2308 : Shape := ⟨2, ![1024, 2308]⟩
abbrev S8192x512 : Shape := ⟨2, ![8192, 512]⟩
abbrev S8192x256 : Shape := ⟨2, ![8192, 256]⟩
abbrev S8192x4 : Shape := ⟨2, ![8192, 4]⟩
abbrev S8192x768 : Shape := ⟨2, ![8192, 768]⟩
abbrev S8192x2308 : Shape := ⟨2, ![8192, 2308]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1280 : Shape := ⟨2, ![8192, 1280]⟩
abbrev S8192x124 : Shape := ⟨2, ![8192, 124]⟩
abbrev S8192x2432 : Shape := ⟨2, ![8192, 2432]⟩

abbrev nBuf : Space → Nat
  | .hbm => 85
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2308, .f32⟩
  | .hbm, ⟨3, _⟩ => ⟨S8192x512, .f32⟩
  | .hbm, ⟨4, _⟩ => ⟨S8192x256, .f32⟩
  | .hbm, ⟨5, _⟩ => ⟨S8192x256, .f32⟩
  | .hbm, ⟨6, _⟩ => ⟨S8192x256, .f32⟩
  | .hbm, ⟨7, _⟩ => ⟨S8192x4, .f32⟩
  | .hbm, ⟨8, _⟩ => ⟨S8192x768, .f32⟩
  | .hbm, ⟨9, _⟩ => ⟨S8192x256, .f32⟩
  | .hbm, ⟨10, _⟩ => ⟨S8192x1024, .f32⟩
  | .hbm, ⟨11, _⟩ => ⟨S8192x2308, .f32⟩
  | .hbm, ⟨12, _⟩ => ⟨S8192x1024, .f32⟩
  | .hbm, ⟨13, _⟩ => ⟨S_, .f32⟩
  | .hbm, ⟨14, _⟩ => ⟨S8192, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S1x1024, .f32⟩
  | .hbm, ⟨30, _⟩ => ⟨S8192x1024, .f32⟩
  | .hbm, ⟨31, _⟩ => ⟨S8192x1024, .f32⟩
  | .hbm, ⟨32, _⟩ => ⟨S8192x2308, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S1024, .f32⟩
  | .hbm, ⟨37, _⟩ => ⟨S1x1024, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S8192x1024, .f32⟩
  | .hbm, ⟨43, _⟩ => ⟨S_, .f32⟩
  | .hbm, ⟨44, _⟩ => ⟨S8192, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1, .f32⟩
  | .hbm, ⟨49, _⟩ => ⟨S_, .f32⟩
  | .hbm, ⟨50, _⟩ => ⟨S8192x1, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1024, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1280, .f32⟩
  | .hbm, ⟨60, _⟩ => ⟨S8192x1024, .f32⟩
  | .hbm, ⟨61, _⟩ => ⟨S8192x4, .f32⟩
  | .hbm, ⟨62, _⟩ => ⟨S_, .f32⟩
  | .hbm, ⟨63, _⟩ => ⟨S8192x124, .f32⟩
  | .hbm, ⟨64, _⟩ => ⟨S8192x2432, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S8192, .f32⟩
  | .hbm, ⟨69, _⟩ => ⟨S8192x1, .f32⟩
  | .hbm, ⟨70, _⟩ => ⟨S_, .f32⟩
  | .hbm, ⟨71, _⟩ => ⟨S8192x1, .f32⟩
  | .hbm, ⟨72, _⟩ => ⟨S8192x1, .f32⟩
  | .hbm, ⟨73, _⟩ => ⟨S_, .f32⟩
  | .hbm, ⟨74, _⟩ => ⟨S8192x1, .f32⟩
  | .hbm, ⟨75, _⟩ => ⟨S8192x1, .f32⟩
  | .hbm, ⟨76, _⟩ => ⟨S8192x1, .f32⟩
  | .hbm, ⟨77, _⟩ => ⟨S8192x1024, .f32⟩
  | .hbm, ⟨78, _⟩ => ⟨S8192x1024, .f32⟩
  | .hbm, ⟨79, _⟩ => ⟨S1x1024, .f32⟩
  | .hbm, ⟨80, _⟩ => ⟨S8192x1024, .f32⟩
  | .hbm, ⟨81, _⟩ => ⟨S8192x1024, .f32⟩
  | .hbm, ⟨82, _⟩ => ⟨S8192x1024, .bf16⟩
  | .hbm, ⟨83, _⟩ => ⟨S8192x2432, .bf16⟩
  | .hbm, ⟨84, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_2 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_4 : Ref sig .tc := ⟨.hbm, 40, rfl⟩
abbrev main_v24 : Ref sig .tc := ⟨.hbm, 41, rfl⟩
abbrev main_v25 : Ref sig .tc := ⟨.hbm, 42, rfl⟩
abbrev main_cst_5 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_6 : Ref sig .tc := ⟨.hbm, 49, rfl⟩
abbrev main_v31 : Ref sig .tc := ⟨.hbm, 50, rfl⟩
abbrev main_v32 : Ref sig .tc := ⟨.hbm, 51, rfl⟩
abbrev main_cst_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_cst_9 : Ref sig .tc := ⟨.hbm, 67, rfl⟩
abbrev main_v46 : Ref sig .tc := ⟨.hbm, 68, rfl⟩
abbrev main_v47 : Ref sig .tc := ⟨.hbm, 69, rfl⟩
abbrev main_cst_10 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩

abbrev nD : Nat := 1
abbrev τ : Topo := Topo.v7x

variable {F : FTy → Type} [FloatOps F]
-- ==== MixInFwd.lean ====
abbrev S8192x1024 : Shape := ⟨2, ![8192, 1024]⟩
abbrev S1024 : Shape := ⟨1, ![1024]⟩
abbrev S1024x2308 : Shape := ⟨2, ![1024, 2308]⟩
abbrev S1x1024 : Shape := ⟨2, ![1, 1024]⟩
abbrev S1024x1280 : Shape := ⟨2, ![1024, 1280]⟩
abbrev S1024x1024 : Shape := ⟨2, ![1024, 1024]⟩
abbrev S1024x4 : Shape := ⟨2, ![1024, 4]⟩
abbrev S_ : Shape := ⟨0, ![]⟩
abbrev S1024x124 : Shape := ⟨2, ![1024, 124]⟩
abbrev S1024x2432 : Shape := ⟨2, ![1024, 2432]⟩
abbrev S8192x512 : Shape := ⟨2, ![8192, 512]⟩
abbrev S8192x768 : Shape := ⟨2, ![8192, 768]⟩
abbrev S8192x256 : Shape := ⟨2, ![8192, 256]⟩
abbrev S8192x128 : Shape := ⟨2, ![8192, 128]⟩
abbrev S512x1024 : Shape := ⟨2, ![512, 1024]⟩
abbrev S512x512 : Shape := ⟨2, ![512, 512]⟩
abbrev S512x768 : Shape := ⟨2, ![512, 768]⟩
abbrev S512x256 : Shape := ⟨2, ![512, 256]⟩
abbrev S512x128 : Shape := ⟨2, ![512, 128]⟩
abbrev S512 : Shape := ⟨1, ![512]⟩
abbrev S512x1 : Shape := ⟨2, ![512, 1]⟩
abbrev S512x2432 : Shape := ⟨2, ![512, 2432]⟩

abbrev nBuf : Space → Nat
  | .hbm => 17
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2308, .f32⟩
  | .hbm, ⟨3, _⟩ => ⟨S1x1024, .f32⟩
  | .hbm, ⟨4, _⟩ => ⟨S1024x1280, .f32⟩
  | .hbm, ⟨5, _⟩ => ⟨S1024x1024, .f32⟩
  | .hbm, ⟨6, _⟩ => ⟨S1024x4, .f32⟩
  | .hbm, ⟨7, _⟩ => ⟨S_, .f32⟩
  | .hbm, ⟨8, _⟩ => ⟨S1024x124, .f32⟩
  | .hbm, ⟨9, _⟩ => ⟨S1024x2432, .f32⟩
  | .hbm, ⟨10, _⟩ => ⟨S1024x2432, .bf16⟩
  | .hbm, ⟨11, _⟩ => ⟨S8192x512, .f32⟩
  | .hbm, ⟨12, _⟩ => ⟨S8192x512, .bf16⟩
  | .hbm, ⟨13, _⟩ => ⟨S8192x512, .bf16⟩
  | .hbm, ⟨14, _⟩ => ⟨S8192x768, .f32⟩
  | .hbm, ⟨15, _⟩ => ⟨S8192x256, .f32⟩
  | .hbm, ⟨16, _⟩ => ⟨S8192x128, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x2432, .bf16⟩
  | .local _ .vmem, ⟨4, _⟩ => ⟨S512x512, .f32⟩
  | .local _ .vmem, ⟨5, _⟩ => ⟨S512x512, .f32⟩
  | .local _ .vmem, ⟨6, _⟩ => ⟨S512x512, .bf16⟩
  | .local _ .vmem, ⟨7, _⟩ => ⟨S512x512, .bf16⟩
  | .local _ .vmem, ⟨8, _⟩ => ⟨S512x512, .bf16⟩
  | .local _ .vmem, ⟨9, _⟩ => ⟨S512x512, .bf16⟩
  | .local _ .vmem, ⟨10, _⟩ => ⟨S512x768, .f32⟩
  | .local _ .vmem, ⟨11, _⟩ => ⟨S512x768, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v7_2 : Ref sig .tc := ⟨.hbm, 13, rfl⟩
abbrev main_v7_3 : Ref sig .tc := ⟨.hbm, 14, rfl⟩
abbrev main_v7_4 : Ref sig .tc := ⟨.hbm, 15, rfl⟩
abbrev main_v7_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x2432 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MixInFwdReferenceIdeal.lean ====
abbrev S8192x1024 : Shape := ⟨2, ![8192, 1024]⟩
abbrev S1024 : Shape := ⟨1, ![1024]⟩
abbrev S1024x2308 : Shape := ⟨2, ![1024, 2308]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2308 : Shape := ⟨2, ![8192, 2308]⟩
abbrev S8192x512 : Shape := ⟨2, ![8192, 512]⟩
abbrev S8192x256 : Shape := ⟨2, ![8192, 256]⟩
abbrev S8192x4 : Shape := ⟨2, ![8192, 4]⟩
abbrev S8192x768 : Shape := ⟨2, ![8192, 768]⟩
abbrev S8192x4x64 : Shape := ⟨3, ![8192, 4, 64]⟩
abbrev S8192x4x3 : Shape := ⟨3, ![8192, 4, 3]⟩
abbrev S8192x4x61 : Shape := ⟨3, ![8192, 4, 61]⟩
abbrev S8192x4x128 : Shape := ⟨3, ![8192, 4, 128]⟩
abbrev S8192x124 : Shape := ⟨2, ![8192, 124]⟩
abbrev S8192x128 : Shape := ⟨2, ![8192, 128]⟩

abbrev nBuf : Space → Nat
  | .hbm => 41
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2308, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x2308, .f32⟩
  | .hbm, ⟨20, _⟩ => ⟨S8192x512, .f32⟩
  | .hbm, ⟨21, _⟩ => ⟨S8192x256, .f32⟩
  | .hbm, ⟨22, _⟩ => ⟨S8192x512, .f32⟩
  | .hbm, ⟨23, _⟩ => ⟨S8192x4, .f32⟩
  | .hbm, ⟨24, _⟩ => ⟨S8192x768, .f32⟩
  | .hbm, ⟨25, _⟩ => ⟨S8192x256, .f32⟩
  | .hbm, ⟨26, _⟩ => ⟨S_, .f32⟩
  | .hbm, ⟨27, _⟩ => ⟨S8192x256, .f32⟩
  | .hbm, ⟨28, _⟩ => ⟨S8192x256, .f32⟩
  | .hbm, ⟨29, _⟩ => ⟨S8192x4x64, .f32⟩
  | .hbm, ⟨30, _⟩ => ⟨S_, .f32⟩
  | .hbm, ⟨31, _⟩ => ⟨S8192x4x3, .f32⟩
  | .hbm, ⟨32, _⟩ => ⟨S_, .f32⟩
  | .hbm, ⟨33, _⟩ => ⟨S8192x4x61, .f32⟩
  | .hbm, ⟨34, _⟩ => ⟨S8192x4x128, .f32⟩
  | .hbm, ⟨35, _⟩ => ⟨S8192x512, .f32⟩
  | .hbm, ⟨36, _⟩ => ⟨S_, .f32⟩
  | .hbm, ⟨37, _⟩ => ⟨S8192x124, .f32⟩
  | .hbm, ⟨38, _⟩ => ⟨S8192x128, .f32⟩
  | .hbm, ⟨39, _⟩ => ⟨S8192x512, .bf16⟩
  | .hbm, ⟨40, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst_2 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_3 : Ref sig .tc := ⟨.hbm, 30, rfl⟩
abbrev main_v23 : Ref sig .tc := ⟨.hbm, 31, rfl⟩
abbrev main_cst_4 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_5 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩

abbrev nD : Nat := 1
abbrev τ : Topo := Topo.v7x

variable {F : FTy → Type} [FloatOps F]
-- ==== Proof.Fox.Tile.lean ====
module

public import proofs.«01_k».proof.Proof.Gen.KernelIdeal.Frame
public import proofs.«01_k».proof.Proof.Gen.KernelIdeal.Loops
public import Idealize.ShloMosaic.Lib.VecWindow

@[expose] public section

set_option maxRecDepth 16384

noncomputable section

namespace Cert.Fox

open Idealize.ShloMosaic Idealize.ShloMosaic.TcCoe Idealize.ShloMosaic.Tactic
open Cert.KernelIdeal Cert.KernelIdeal.Gen

variable {F : FTy → Type} [FloatOps F]

/-! ## The gradient of one key tile, as functions of arrays -/

/-- Tile `n` of the rows of an array of 8192 rows of 128. -/
def rows {e : EltTy} (x : Vec F S8192x128 e) (n : ℕ) (h : n < 16) : Vec F S512x128 e :=
  VecWindow.window (s := S8192x128) x ![512 * n, 0] S512x128.size
    (Fin.forall_fin_two.mpr ⟨by show 512 * n + 512 ≤ 8192; omega, by show 0 + 128 ≤ 128; omega⟩)

/-- Tile `n` of the first row of an array of 8 rows of 8192. -/
def cols (x : Vec F S8x8192 .f32) (n : ℕ) (h : n < 16) : Vec F S1x512 .f32 :=
  VecWindow.window (s := S8x8192) x ![0, 512 * n] S1x512.size
    (Fin.forall_fin_two.mpr ⟨by show 0 + 1 ≤ 8; omega, by show 512 * n + 512 ≤ 8192; omega⟩)

/-- The array with tile `n` of its rows replaced. -/
def setRows (x : Vec F S8192x128 .f32) (n : ℕ) (w : Vec F S512x128 .f32) : Vec F S8192x128 .f32 :=
  VecWindow.put (s := S8192x128) x ![512 * n, 0] S512x128.size w

/-- What the walk over the query tiles carries: the key gradient and the value gradient of the key tile, and
    the accumulated query gradient of the head. -/
abbrev Carry (F : FTy → Type) [FloatOps F] : Type := (FVec F S512x128 .f32 × FVec F S512x128 .f32) × Vec F S8192x128 .f32

/-- What a head keeps for its grid points: the accumulated query gradient, the row products of the output with its
    gradient, and the row normalisers. -/
abbrev Kept (F : FTy → Type) [FloatOps F] : Type := Vec F S8192x128 .f32 × Vec F S8x8192 .f32 × Vec F S8x8192 .f32

/-- One query tile below the diagonal. -/
def tileS (q : Vec F S8192x128 .bf16) (kt vt : FVec F S512x128 .bf16) (d : Vec F S8192x128 .f32) (dl ls : Vec F S8x8192 .f32)
    (n : ℕ) (h : n < 16) (s : Carry F) : Carry F :=
  ((k0_pay9 kt vt s.1.1 (rows q n h) (rows d n h) (cols ls n h) (cols dl n h),
    k0_pay10 kt s.1.2 (rows q n h) (rows d n h) (cols ls n h)),
   setRows s.2 n (k0_pay8 kt vt (rows q n h) (rows d n h) (cols ls n h) (cols dl n h) (rows s.2 n h)))

/-- The query tiles after tile `j`, the first `k` of them. -/
def walkS (q : Vec F S8192x128 .bf16) (kt vt : FVec F S512x128 .bf16) (d : Vec F S8192x128 .f32) (dl ls : Vec F S8x8192 .f32)
    (j : ℕ) (s : Carry F) : ℕ → Carry F
  | 0 => s
  | k + 1 => if h : j + k + 1 < 16 then tileS q kt vt d dl ls (j + k + 1) h (walkS q kt vt d dl ls j s k) else walkS q kt vt d dl ls j s k

/-- The query tile on the diagonal. -/
def diagS (q : Vec F S8192x128 .bf16) (kt vt : Vec F S512x128 .bf16) (d : Vec F S8192x128 .f32) (dl ls : Vec F S8x8192 .f32)
    (j : ℕ) (h : j < 16) (acc : Vec F S8192x128 .f32) : Carry F :=
  ((k0_pay2 (k0_pay24 (F := F)) (k0_pay26 (rows q j h)) (k0_pay29 kt vt (rows q j h) (rows d j h) (cols ls j h) (cols dl j h)),
    k0_pay3 (k0_pay25 (F := F)) (k0_pay27 (rows d j h)) (k0_pay28 kt (rows q j h) (cols ls j h))),
   setRows acc j (k0_pay1 (rows acc j h) (k0_pay30 kt vt (rows q j h) (rows d j h) (cols ls j h) (cols dl j h))))

/-- A whole grid point, from what the head keeps. -/
def pointS (q : Vec F S8192x128 .bf16) (kt vt : Vec F S512x128 .bf16) (d : Vec F S8192x128 .f32)
    (j : ℕ) (h : j < 16) (s : Kept F) : Carry F :=
  walkS q (k0_pay22 kt) (k0_pay23 vt) d s.2.1 s.2.2 j (diagS q kt vt d s.2.1 s.2.2 j h s.1) (15 - j)

/-- What a head starts from. -/
def startS (d o : Vec F S8192x128 .f32) : Kept F := (k0_pay19 (F := F), k0_pay20 d o, k0_pay21 o)

/-! ## The loop's pieces, read back -/

/-- A tile is one of sixteen. -/
theorem lt16 (i : grid0.Coords) : (i 1).val < 16 := (i 1).isLt

/-- How often the first loop runs. -/
theorem trips_eq : ∀ i : grid0.Coords, (k0_t1_loop i).trips = 15 - (i 1).val := by decide +kernel

/-- The second loop does not run. -/
theorem trips2_eq : ∀ i : grid0.Coords, (k0_t2_loop i).trips = 0 := by decide +kernel

section
variable (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole)

variable (𝒱 : Variants) (c : Dev nD) (bd : Option 𝒱.V) (kt vt : FVec F S512x128 .bf16)
  (X2 : BufTy.Contents (Elt F) arg2.view.ty) (X5 : BufTy.Contents (Elt F) arg5.view.ty) (X11 : BufTy.Contents (Elt F) arg11.view.ty) (X12 : BufTy.Contents (Elt F) arg12.view.ty)
  (k : Fin (k0_t1_loop i).trips) (acc : FVec F S512x128 .f32 × FVec F S512x128 .f32) (f : BufTy.Contents (Elt F) arg10.view.ty)

/-- What a trip yields. -/
theorem tripR_eq : tripR_k0_t1 𝒱 c bd i arg2 harg2 arg3 harg3 arg4 harg4 arg5 harg5 arg6 harg6 arg7 harg7 arg8 harg8 arg9 harg9 arg10 harg10 arg11 harg11 arg12 harg12 kt vt X2 X5 X11 X12 k acc f
    = (k0_pay9 kt vt acc.1 (arg2.view.readAt (Elt F) (Rect.unit (s := S8192x128) (k0_off3 i k) S512x128.size (k0_off3_inb i k)).toLoadRect X2)
        (arg5.view.readAt (Elt F) (Rect.unit (s := S8192x128) (k0_off3 i k) S512x128.size (k0_off3_inb i k)).toLoadRect X5)
        (arg12.view.readAt (Elt F) (Rect.unit (s := S8x8192) (k0_off4 i k) S1x512.size (k0_off4_inb i k)).toLoadRect X12)
        (arg11.view.readAt (Elt F) (Rect.unit (s := S8x8192) (k0_off4 i k) S1x512.size (k0_off4_inb i k)).toLoadRect X11),
       k0_pay10 kt acc.2 (arg2.view.readAt (Elt F) (Rect.unit (s := S8192x128) (k0_off3 i k) S512x128.size (k0_off3_inb i k)).toLoadRect X2)
        (arg5.view.readAt (Elt F) (Rect.unit (s := S8192x128) (k0_off3 i k) S512x128.size (k0_off3_inb i k)).toLoadRect X5)
        (arg12.view.readAt (Elt F) (Rect.unit (s := S8x8192) (k0_off4 i k) S1x512.size (k0_off4_inb i k)).toLoadRect X12)) := by
  unfold tripR_k0_t1 trip_k0_t1
  rfl

/-- What a trip stores. -/
theorem tripL_eq : tripL_k0_t1 𝒱 c bd i arg2 harg2 arg3 harg3 arg4 harg4 arg5 harg5 arg6 harg6 arg7 harg7 arg8 harg8 arg9 harg9 arg10 harg10 arg11 harg11 arg12 harg12 kt vt X2 X5 X11 X12 k acc f
    = [⟨Rect.unit (s := S8192x128) (k0_off3 i k) S512x128.size (k0_off3_inb i k),
        k0_pay8 kt vt (arg2.view.readAt (Elt F) (Rect.unit (s := S8192x128) (k0_off3 i k) S512x128.size (k0_off3_inb i k)).toLoadRect X2)
        (arg5.view.readAt (Elt F) (Rect.unit (s := S8192x128) (k0_off3 i k) S512x128.size (k0_off3_inb i k)).toLoadRect X5)
        (arg12.view.readAt (Elt F) (Rect.unit (s := S8x8192) (k0_off4 i k) S1x512.size (k0_off4_inb i k)).toLoadRect X12)
        (arg11.view.readAt (Elt F) (Rect.unit (s := S8x8192) (k0_off4 i k) S1x512.size (k0_off4_inb i k)).toLoadRect X11)
        (arg10.view.readAt (Elt F) (Rect.unit (s := S8192x128) (k0_off3 i k) S512x128.size (k0_off3_inb i k)).toLoadRect f)⟩] := by
  unfold tripL_k0_t1 trip_k0_t1
  rfl

/-- Where a step of the loop finds its rows. -/
theorem off3_tile (n : ℕ) (h : n = (i 1).val + k.val + 1) : k0_off3 i k = ![512 * n, 0] := by
  rw [k0_off3_eq, h, show 512 * (i 1).val + 512 * k.val + 512 = 512 * ((i 1).val + k.val + 1) by omega]

/-- Where a step of the loop finds its columns. -/
theorem off4_tile (n : ℕ) (h : n = (i 1).val + k.val + 1) : k0_off4 i k = ![0, 512 * n] := by
  rw [k0_off4_eq, h, show 512 * (i 1).val + 512 * k.val + 512 = 512 * ((i 1).val + k.val + 1) by omega]

/-- The loop's carried pair and the contents its stores leave, read through the scratch's view, are the walk over
    the tiles. -/
theorem walk_of_pieces (G : BufTy.Contents (Elt F) arg10.view.ty) (init : FVec F S512x128 .f32 × FVec F S512x128 .f32) :
    ∀ k : ℕ, k ≤ (k0_t1_loop i).trips →
      ((st_k0_t1 (F := F) 𝒱 c bd i arg2 harg2 arg3 harg3 arg4 harg4 arg5 harg5 arg6 harg6 arg7 harg7 arg8 harg8 arg9 harg9 arg10 harg10 arg11 harg11 arg12 harg12 kt vt X2 X5 X11 X12 G init k).1,
        arg10.view.read (Elt F) (arg10.view.writes (Elt F) G (st_k0_t1 (F := F) 𝒱 c bd i arg2 harg2 arg3 harg3 arg4 harg4 arg5 harg5 arg6 harg6 arg7 harg7 arg8 harg8 arg9 harg9 arg10 harg10 arg11 harg11 arg12 harg12 kt vt X2 X5 X11 X12 G init k).2))
      = walkS (arg2.view.read (Elt F) X2) kt vt (arg5.view.read (Elt F) X5) (arg11.view.read (Elt F) X11) (arg12.view.read (Elt F) X12)
          (i 1).val (init, arg10.view.read (Elt F) G) k
  | 0, _ => rfl
  | k + 1, hk => by
    have ih := walk_of_pieces G init k (by omega)
    have hlt : (i 1).val + k + 1 < 16 := by rw [trips_eq] at hk; omega
    rw [walkS, dif_pos hlt, ← ih, st_k0_t1_succ (F := F) 𝒱 c bd i arg2 harg2 arg3 harg3 arg4 harg4 arg5 harg5 arg6 harg6 arg7 harg7 arg8 harg8 arg9 harg9 arg10 harg10 arg11 harg11 arg12 harg12 kt vt X2 X5 X11 X12 G init ⟨k, hk⟩, tripR_eq, tripL_eq]
    have h3 := off3_tile i ⟨k, hk⟩ _ rfl
    have h4 := off4_tile i ⟨k, hk⟩ _ rfl
    have i3 : ∀ a, (![512 * ((i 1).val + k + 1), 0] : Fin 2 → ℕ) a + S512x128.size a ≤ S8192x128.size a :=
      Fin.forall_fin_two.mpr ⟨by show 512 * ((i 1).val + k + 1) + 512 ≤ 8192; omega, by show 0 + 128 ≤ 128; omega⟩
    have i4 : ∀ a, (![0, 512 * ((i 1).val + k + 1)] : Fin 2 → ℕ) a + S1x512.size a ≤ S8x8192.size a :=
      Fin.forall_fin_two.mpr ⟨by show 0 + 1 ≤ 8; omega, by show 512 * ((i 1).val + k + 1) + 512 ≤ 8192; omega⟩
    unfold tileS
    rw [View.readAt_unit arg2.view X2 _ h3 i3, View.readAt_unit arg5.view X5 _ h3 i3, View.readAt_unit arg11.view X11 _ h4 i4,
      View.readAt_unit arg12.view X12 _ h4 i4, List.singleton_append, View.read_writes_cons_put arg10.view G _ _ _ h3,
      View.readAt_unit arg10.view _ _ h3 i3]
    rfl
end

end Cert.Fox
-- ==== Proof.Fox.Body.lean ====
module

public import proofs.«01_k».proof.Proof.Gen.KernelIdeal.Frame
public import proofs.«01_k».proof.Proof.Gen.KernelIdeal.Loops
public import Idealize.ShloMosaic.Lib.VecWindow
public import proofs.«01_k».proof.Proof.Fox.Tile
public import Idealize.ShloMosaic.Lib.Tactic

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- The body's first branch is taken. -/
abbrev atFirst (i : grid0.Coords) : Prop :=
  (Scalar.cmpi .ne (Scalar.extui (Scalar.cmpi .eq (BitVec.ofNat 32 (i 1).val) 0#32)) 0#32) = 1#1

/-- The body's second branch is taken. -/
abbrev atLast (i : grid0.Coords) : Prop := k0_cond2 i = 1#1

/-- The first tile of a head is tile zero. -/
theorem atFirst_iff : ∀ i : grid0.Coords, atFirst i ↔ (i 1).val = 0 := by decide +kernel

/-- The last tile of a head is tile fifteen. -/
theorem atLast_iff : ∀ i : grid0.Coords, atLast i ↔ (i 1).val = 15 := by decide +kernel

section
variable (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole)
variable (𝒱 : Variants) (c : Dev nD) (bd : Option 𝒱.V)

/-- The second loop makes no trip. -/
theorem rest_none (kt vt : FVec F S512x128 .bf16)
  (X2 : BufTy.Contents (Elt F) arg2.view.ty) (X5 : BufTy.Contents (Elt F) arg5.view.ty) (X11 : BufTy.Contents (Elt F) arg11.view.ty) (X12 : BufTy.Contents (Elt F) arg12.view.ty)
   (G : BufTy.Contents (Elt F) arg10.view.ty) (init : FVec F S512x128 .f32 × FVec F S512x128 .f32) :
    st_k0_t2 (F := F) 𝒱 c bd i arg2 harg2 arg3 harg3 arg4 harg4 arg5 harg5 arg6 harg6 arg7 harg7 arg8 harg8 arg9 harg9 arg10 harg10 arg11 harg11 arg12 harg12 kt vt X2 X5 X11 X12 G init (Scf.trips (k0_t2_loop i).lb (k0_t2_loop i).ub (k0_t2_loop i).st) = (init, []) := by
  rw [show Scf.trips (k0_t2_loop i).lb (k0_t2_loop i).ub (k0_t2_loop i).st = 0 from trips2_eq i]
  rfl

/-- A grid point's carried pair and the contents its stores leave in the scratch, read through the views, are
    `pointS` of what the operands' views read. -/
theorem point_of_pieces (f2 : BufTy.Contents (Elt F) arg2.view.ty) (f3 : BufTy.Contents (Elt F) arg3.view.ty) (f4 : BufTy.Contents (Elt F) arg4.view.ty)
    (f5 : BufTy.Contents (Elt F) arg5.view.ty) (f10 : BufTy.Contents (Elt F) arg10.view.ty) (L : List (View.Piece (Elt F) S8192x128 .f32)) (f11 : BufTy.Contents (Elt F) arg11.view.ty) (f12 : BufTy.Contents (Elt F) arg12.view.ty)
    (kt vt : Vec F S512x128 .bf16) (q : Vec F S512x128 .bf16) (d : Vec F S512x128 .f32) (l e : Vec F S1x512 .f32) (a : Vec F S512x128 .f32)
    (hkt : kt = arg3.view.readAt (Elt F) (Rect.unit (s := S512x128) ![0, 0] S512x128.size inb_S512x128_S512x128_0_0).toLoadRect f3)
    (hvt : vt = arg4.view.readAt (Elt F) (Rect.unit (s := S512x128) ![0, 0] S512x128.size inb_S512x128_S512x128_0_0).toLoadRect f4)
    (hq : q = arg2.view.readAt (Elt F) (Rect.unit (s := S8192x128) (k0_off1 i) S512x128.size (k0_off1_inb i)).toLoadRect f2)
    (hd : d = arg5.view.readAt (Elt F) (Rect.unit (s := S8192x128) (k0_off1 i) S512x128.size (k0_off1_inb i)).toLoadRect f5)
    (hl : l = arg12.view.readAt (Elt F) (Rect.unit (s := S8x8192) (k0_off2 i) S1x512.size (k0_off2_inb i)).toLoadRect f12)
    (he : e = arg11.view.readAt (Elt F) (Rect.unit (s := S8x8192) (k0_off2 i) S1x512.size (k0_off2_inb i)).toLoadRect f11)
    (ha : a = arg10.view.readAt (Elt F) (Rect.unit (s := S8192x128) (k0_off1 i) S512x128.size (k0_off1_inb i)).toLoadRect (arg10.view.writes (Elt F) f10 L)) :
    ((st_k0_t1 (F := F) 𝒱 c bd i arg2 harg2 arg3 harg3 arg4 harg4 arg5 harg5 arg6 harg6 arg7 harg7 arg8 harg8 arg9 harg9 arg10 harg10 arg11 harg11 arg12 harg12 (k0_pay22 kt) (k0_pay23 vt) f2 f5 f11 f12
        (arg10.view.writes (Elt F) f10 (⟨Rect.unit (s := S8192x128) (k0_off1 i) S512x128.size (k0_off1_inb i), k0_pay1 a (k0_pay30 kt vt q d l e)⟩ :: L))
        (k0_pay2 (k0_pay24 (F := F)) (k0_pay26 q) (k0_pay29 kt vt q d l e), k0_pay3 (k0_pay25 (F := F)) (k0_pay27 d) (k0_pay28 kt q l))
        (Scf.trips (k0_t1_loop i).lb (k0_t1_loop i).ub (k0_t1_loop i).st)).1,
      arg10.view.read (Elt F) (arg10.view.writes (Elt F) f10 ((st_k0_t1 (F := F) 𝒱 c bd i arg2 harg2 arg3 harg3 arg4 harg4 arg5 harg5 arg6 harg6 arg7 harg7 arg8 harg8 arg9 harg9 arg10 harg10 arg11 harg11 arg12 harg12 (k0_pay22 kt) (k0_pay23 vt) f2 f5 f11 f12
        (arg10.view.writes (Elt F) f10 (⟨Rect.unit (s := S8192x128) (k0_off1 i) S512x128.size (k0_off1_inb i), k0_pay1 a (k0_pay30 kt vt q d l e)⟩ :: L))
        (k0_pay2 (k0_pay24 (F := F)) (k0_pay26 q) (k0_pay29 kt vt q d l e), k0_pay3 (k0_pay25 (F := F)) (k0_pay27 d) (k0_pay28 kt q l))
        (Scf.trips (k0_t1_loop i).lb (k0_t1_loop i).ub (k0_t1_loop i).st)).2
        ++ ⟨Rect.unit (s := S8192x128) (k0_off1 i) S512x128.size (k0_off1_inb i), k0_pay1 a (k0_pay30 kt vt q d l e)⟩ :: L)))
    = pointS (arg2.view.read (Elt F) f2) (arg3.view.read (Elt F) f3) (arg4.view.read (Elt F) f4) (arg5.view.read (Elt F) f5)
        (i 1).val (lt16 i) (arg10.view.read (Elt F) (arg10.view.writes (Elt F) f10 L), arg11.view.read (Elt F) f11, arg12.view.read (Elt F) f12) := by
  have hj : (i 1).val < 16 := (lt16 i)
  have i1 : ∀ a, (![512 * (i 1).val, 0] : Fin 2 → ℕ) a + S512x128.size a ≤ S8192x128.size a :=
    Fin.forall_fin_two.mpr ⟨by show 512 * (i 1).val + 512 ≤ 8192; omega, by show 0 + 128 ≤ 128; omega⟩
  have i2 : ∀ a, (![0, 512 * (i 1).val] : Fin 2 → ℕ) a + S1x512.size a ≤ S8x8192.size a :=
    Fin.forall_fin_two.mpr ⟨by show 0 + 1 ≤ 8; omega, by show 512 * (i 1).val + 512 ≤ 8192; omega⟩
  rw [View.writes_append]
  refine (walk_of_pieces i arg2 harg2 arg3 harg3 arg4 harg4 arg5 harg5 arg6 harg6 arg7 harg7 arg8 harg8 arg9 harg9 arg10 harg10 arg11 harg11 arg12 harg12 𝒱 c bd (k0_pay22 kt) (k0_pay23 vt) f2 f5 f11 f12 _ _ _ le_rfl).trans ?_
  rw [View.readAt_unit arg2.view f2 _ (k0_off1_eq i) i1] at hq
  rw [View.readAt_unit arg5.view f5 _ (k0_off1_eq i) i1] at hd
  rw [View.readAt_unit arg10.view _ _ (k0_off1_eq i) i1] at ha
  rw [View.readAt_unit arg12.view f12 _ (k0_off2_eq i) i2] at hl
  rw [View.readAt_unit arg11.view f11 _ (k0_off2_eq i) i2] at he
  have hkt' : kt = arg3.view.read (Elt F) f3 := hkt.trans (View.readAt_full arg3.view f3 _)
  have hvt' : vt = arg4.view.read (Elt F) f4 := hvt.trans (View.readAt_full arg4.view f4 _)
  rw [View.read_writes_cons_put arg10.view f10 _ _ _ (k0_off1_eq i)]
  subst hkt' hvt' hq hd ha hl he
  unfold pointS
  rw [trips_eq]
  rfl
end

set_option maxHeartbeats 1200000 in
/-- A grid point between the first and the last of its head. -/
theorem body_mid (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (hc0 : ¬ atFirst i) (hc1 : ¬ atLast i)
    (x2 : Vec F S8192x128 .bf16) (x3 x4 : Vec F S512x128 .bf16) (x5 x6 x7 : Vec F S8192x128 .f32) (s : Kept F)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare s.1 ∗ owns (c : Thread nD τ) arg11 fullShare s.2.1 ∗ owns (c : Thread nD τ) arg12 fullShare s.2.2
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (pointS x2 x3 x4 x5 (i 1).val (lt16 i) s).1.1 ∗ owns (c : Thread nD τ) arg9 fullShare (pointS x2 x3 x4 x5 (i 1).val (lt16 i) s).1.2 ∗ owns (c : Thread nD τ) arg10 fullShare (pointS x2 x3 x4 x5 (i 1).val (lt16 i) s).2 ∗ owns (c : Thread nD τ) arg11 fullShare s.2.1 ∗ owns (c : Thread nD τ) arg12 fullShare s.2.2) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K := by
  simp only [cc0_fox_bwd_eq_skeleton]; unfold cc0_fox_bwd_skel
  simp only [k0_part1_eq_skeleton]
  obtain ⟨s0, s1, s2⟩ := s
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, ⟨%f11, %hf11, H11⟩, ⟨%f12, %hf12, H12⟩, Hk⟩
  subst hf2 hf3 hf4 hf5 hf6 hf7
  dsimp only at hf10 hf11 hf12
  subst hf10 hf11 hf12
  sl_exec (disch := first | sl_exact hc0 | sl_exact hc1)
  sl_step
  iapply Hk

  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    rw [rest_none]
    refine (View.read_writes_full _ _ _ _ _).trans ?_
    dsimp only
    exact (congrArg (fun s : Carry F => s.1.1) (point_of_pieces i arg2 harg2 arg3 harg3 arg4 harg4 arg5 harg5 arg6 harg6 arg7 harg7 arg8 harg8 arg9 harg9 arg10 harg10 arg11 harg11 arg12 harg12 Variants.none c none f2 f3 f4 f5 f10 [] f11 f12 _ _ _ _ _ _ _ rfl rfl rfl rfl rfl rfl rfl))
  isplitl [H9]
  · iexists _; isplitr
    swap; · iexact H9
    ipureintro
    rw [rest_none]
    refine (View.read_writes_full _ _ _ _ _).trans ?_
    dsimp only
    exact (congrArg (fun s : Carry F => s.1.2) (point_of_pieces i arg2 harg2 arg3 harg3 arg4 harg4 arg5 harg5 arg6 harg6 arg7 harg7 arg8 harg8 arg9 harg9 arg10 harg10 arg11 harg11 arg12 harg12 Variants.none c none f2 f3 f4 f5 f10 [] f11 f12 _ _ _ _ _ _ _ rfl rfl rfl rfl rfl rfl rfl))
  isplitl [H10]
  · iexists _; isplitr
    swap; · iexact H10
    ipureintro
    rw [rest_none, List.nil_append]
    dsimp only
    exact (congrArg (Prod.snd) (point_of_pieces i arg2 harg2 arg3 harg3 arg4 harg4 arg5 harg5 arg6 harg6 arg7 harg7 arg8 harg8 arg9 harg9 arg10 harg10 arg11 harg11 arg12 harg12 Variants.none c none f2 f3 f4 f5 f10 [] f11 f12 _ _ _ _ _ _ _ rfl rfl rfl rfl rfl rfl rfl))
  isplitl [H11]
  · iexists _; isplitr; · ipureintro; rfl
    iexact H11
  iexists _; isplitr; · ipureintro; rfl
  iexact H12

end Cert.Fox
-- ==== Proof.Fox.BodyFirst.lean ====
module

public import proofs.«01_k».proof.Proof.Gen.KernelIdeal.Frame
public import proofs.«01_k».proof.Proof.Gen.KernelIdeal.Loops
public import Idealize.ShloMosaic.Lib.VecWindow
public import proofs.«01_k».proof.Proof.Fox.Body
public import Idealize.ShloMosaic.Lib.Tactic

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole)

/-- What the first grid point of a head stores before its tiles, read back. -/
theorem start_of_pieces (g10 : BufTy.Contents (Elt F) arg10.view.ty) (g11 : BufTy.Contents (Elt F) arg11.view.ty) (g12 : BufTy.Contents (Elt F) arg12.view.ty)
    (f5 : BufTy.Contents (Elt F) arg5.view.ty) (f6 : BufTy.Contents (Elt F) arg6.view.ty) :
    ((arg10.view.read (Elt F) (arg10.view.writes (Elt F) g10 [⟨Rect.unit (s := S8192x128) ![0, 0] S8192x128.size inb_S8192x128_S8192x128_0_0, k0_pay19 (F := F)⟩]),
      arg11.view.read (Elt F) (arg11.view.writes (Elt F) g11 [⟨Rect.unit (s := S8x8192) ![0, 0] S8x8192.size inb_S8x8192_S8x8192_0_0,
        k0_pay20 (arg5.view.readAt (Elt F) (Rect.unit (s := S8192x128) ![0, 0] S8192x128.size inb_S8192x128_S8192x128_0_0).toLoadRect f5)
          (arg6.view.readAt (Elt F) (Rect.unit (s := S8192x128) ![0, 0] S8192x128.size inb_S8192x128_S8192x128_0_0).toLoadRect f6)⟩]),
      arg12.view.read (Elt F) (arg12.view.writes (Elt F) g12 [⟨Rect.unit (s := S8x8192) ![0, 0] S8x8192.size inb_S8x8192_S8x8192_0_0,
        k0_pay21 (arg6.view.readAt (Elt F) (Rect.unit (s := S8192x128) ![0, 0] S8192x128.size inb_S8192x128_S8192x128_0_0).toLoadRect f6)⟩])) : Kept F)
    = startS (arg5.view.read (Elt F) f5) (arg6.view.read (Elt F) f6) := by
  unfold startS
  refine Prod.ext ?_ (Prod.ext ?_ ?_)
  · exact View.read_writes_full arg10.view g10 _ _ _
  · refine (View.read_writes_full arg11.view g11 _ _ _).trans ?_
    exact congr (congrArg k0_pay20 (View.readAt_full arg5.view f5 _)) (View.readAt_full arg6.view f6 _)
  · refine (View.read_writes_full arg12.view g12 _ _ _).trans ?_
    exact congrArg k0_pay21 (View.readAt_full arg6.view f6 _)
end

set_option maxHeartbeats 1200000 in
/-- The first grid point of a head. -/
theorem body_first (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (hc0 : atFirst i) (hc1 : ¬ atLast i)
    (x2 : Vec F S8192x128 .bf16) (x3 x4 : Vec F S512x128 .bf16) (x5 x6 x7 : Vec F S8192x128 .f32)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d)
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare (pointS x2 x3 x4 x5 (i 1).val (lt16 i) (startS x5 x6)).1.1 ∗ owns (c : Thread nD τ) arg9 fullShare (pointS x2 x3 x4 x5 (i 1).val (lt16 i) (startS x5 x6)).1.2 ∗ owns (c : Thread nD τ) arg10 fullShare (pointS x2 x3 x4 x5 (i 1).val (lt16 i) (startS x5 x6)).2 ∗ owns (c : Thread nD τ) arg11 fullShare (startS x5 x6).2.1 ∗ owns (c : Thread nD τ) arg12 fullShare (startS x5 x6).2.2) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K := by
  simp only [cc0_fox_bwd_eq_skeleton]; unfold cc0_fox_bwd_skel
  simp only [k0_part1_eq_skeleton]
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, Hk⟩
  subst hf2 hf3 hf4 hf5 hf6 hf7
  sl_exec (disch := first | sl_exact hc0 | sl_exact hc1)
  sl_step
  have hs := start_of_pieces arg5 arg6 arg10 arg11 arg12 arg10.view.junk arg11.view.junk arg12.view.junk f5 f6
  iapply Hk

  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr
    swap; · iexact H8
    ipureintro
    rw [rest_none]
    refine (View.read_writes_full _ _ _ _ _).trans ?_
    dsimp only
    exact congrArg (fun s : Carry F => s.1.1) ((point_of_pieces i arg2 harg2 arg3 harg3 arg4 harg4 arg5 harg5 arg6 harg6 arg7 harg7 arg8 harg8 arg9 harg9 arg10 harg10 arg11 harg11 arg12 harg12 Variants.none c none f2 f3 f4 f5 arg10.view.junk [⟨Rect.unit (s := S8192x128) ![0, 0] S8192x128.size inb_S8192x128_S8192x128_0_0, k0_pay19 (F := F)⟩] (arg11.view.writes (Elt F) arg11.view.junk [⟨Rect.unit (s := S8x8192) ![0, 0] S8x8192.size inb_S8x8192_S8x8192_0_0, k0_pay20 (arg5.view.readAt (Elt F) (Rect.unit (s := S8192x128) ![0, 0] S8192x128.size inb_S8192x128_S8192x128_0_0).toLoadRect f5) (arg6.view.readAt (Elt F) (Rect.unit (s := S8192x128) ![0, 0] S8192x128.size inb_S8192x128_S8192x128_0_0).toLoadRect f6)⟩]) (arg12.view.writes (Elt F) arg12.view.junk [⟨Rect.unit (s := S8x8192) ![0, 0] S8x8192.size inb_S8x8192_S8x8192_0_0, k0_pay21 (arg6.view.readAt (Elt F) (Rect.unit (s := S8192x128) ![0, 0] S8192x128.size inb_S8192x128_S8192x128_0_0).toLoadRect f6)⟩]) _ _ _ _ _ _ _ rfl rfl rfl rfl rfl rfl rfl).trans (congrArg (pointS _ _ _ _ _ _) hs))
  isplitl [H9]
  · iexists _; isplitr
    swap; · iexact H9
    ipureintro
    rw [rest_none]
    refine (View.read_writes_full _ _ _ _ _).trans ?_
    dsimp only
    exact congrArg (fun s : Carry F => s.1.2) ((point_of_pieces i arg2 harg2 arg3 harg3 arg4 harg4 arg5 harg5 arg6 harg6 arg7 harg7 arg8 harg8 arg9 harg9 arg10 harg10 arg11 harg11 arg12 harg12 Variants.none c none f2 f3 f4 f5 arg10.view.junk [⟨Rect.unit (s := S8192x128) ![0, 0] S8192x128.size inb_S8192x128_S8192x128_0_0, k0_pay19 (F := F)⟩] (arg11.view.writes (Elt F) arg11.view.junk [⟨Rect.unit (s := S8x8192) ![0, 0] S8x8192.size inb_S8x8192_S8x8192_0_0, k0_pay20 (arg5.view.readAt (Elt F) (Rect.unit (s := S8192x128) ![0, 0] S8192x128.size inb_S8192x128_S8192x128_0_0).toLoadRect f5) (arg6.view.readAt (Elt F) (Rect.unit (s := S8192x128) ![0, 0] S8192x128.size inb_S8192x128_S8192x128_0_0).toLoadRect f6)⟩]) (arg12.view.writes (Elt F) arg12.view.junk [⟨Rect.unit (s := S8x8192) ![0, 0] S8x8192.size inb_S8x8192_S8x8192_0_0, k0_pay21 (arg6.view.readAt (Elt F) (Rect.unit (s := S8192x128) ![0, 0] S8192x128.size inb_S8192x128_S8192x128_0_0).toLoadRect f6)⟩]) _ _ _ _ _ _ _ rfl rfl rfl rfl rfl rfl rfl).trans (congrArg (pointS _ _ _ _ _ _) hs))
  isplitl [H10]
  · iexists _; isplitr
    swap; · iexact H10
    ipureintro
    rw [rest_none, List.nil_append]
    dsimp only
    exact congrArg (Prod.snd) ((point_of_pieces i arg2 harg2 arg3 harg3 arg4 harg4 arg5 harg5 arg6 harg6 arg7 harg7 arg8 harg8 arg9 harg9 arg10 harg10 arg11 harg11 arg12 harg12 Variants.none c none f2 f3 f4 f5 arg10.view.junk [⟨Rect.unit (s := S8192x128) ![0, 0] S8192x128.size inb_S8192x128_S8192x128_0_0, k0_pay19 (F := F)⟩] (arg11.view.writes (Elt F) arg11.view.junk [⟨Rect.unit (s := S8x8192) ![0, 0] S8x8192.size inb_S8x8192_S8x8192_0_0, k0_pay20 (arg5.view.readAt (Elt F) (Rect.unit (s := S8192x128) ![0, 0] S8192x128.size inb_S8192x128_S8192x128_0_0).toLoadRect f5) (arg6.view.readAt (Elt F) (Rect.unit (s := S8192x128) ![0, 0] S8192x128.size inb_S8192x128_S8192x128_0_0).toLoadRect f6)⟩]) (arg12.view.writes (Elt F) arg12.view.junk [⟨Rect.unit (s := S8x8192) ![0, 0] S8x8192.size inb_S8x8192_S8x8192_0_0, k0_pay21 (arg6.view.readAt (Elt F) (Rect.unit (s := S8192x128) ![0, 0] S8192x128.size inb_S8192x128_S8192x128_0_0).toLoadRect f6)⟩]) _ _ _ _ _ _ _ rfl rfl rfl rfl rfl rfl rfl).trans (congrArg (pointS _ _ _ _ _ _) hs))
  isplitl [H11]
  · iexists _; isplitr
    swap; · iexact H11
    ipureintro; exact congrArg (fun s : Kept F => s.2.1) hs
  iexists _; isplitr
  swap; · iexact H12
  ipureintro; exact congrArg (fun s : Kept F => s.2.2) hs

end Cert.Fox
-- ==== Proof.Fox.BodyLast.lean ====
module

public import proofs.«01_k».proof.Proof.Gen.KernelIdeal.Frame
public import proofs.«01_k».proof.Proof.Gen.KernelIdeal.Loops
public import Idealize.ShloMosaic.Lib.VecWindow
public import proofs.«01_k».proof.Proof.Fox.Body
public import Idealize.ShloMosaic.Lib.Tactic

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1200000 in
/-- The last grid point of a head: the query gradient goes out. -/
theorem body_last (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole) (hc0 : ¬ atFirst i) (hc1 : atLast i)
    (x2 : Vec F S8192x128 .bf16) (x3 x4 : Vec F S512x128 .bf16) (x5 x6 : Vec F S8192x128 .f32) (s : Kept F)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare s.1 ∗ owns (c : Thread nD τ) arg11 fullShare s.2.1 ∗ owns (c : Thread nD τ) arg12 fullShare s.2.2
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (k0_pay18 (pointS x2 x3 x4 x5 (i 1).val (lt16 i) s).2) ∗ owns (c : Thread nD τ) arg8 fullShare (pointS x2 x3 x4 x5 (i 1).val (lt16 i) s).1.1 ∗ owns (c : Thread nD τ) arg9 fullShare (pointS x2 x3 x4 x5 (i 1).val (lt16 i) s).1.2 ∗ owns (c : Thread nD τ) arg10 fullShare (pointS x2 x3 x4 x5 (i 1).val (lt16 i) s).2 ∗ owns (c : Thread nD τ) arg11 fullShare s.2.1 ∗ owns (c : Thread nD τ) arg12 fullShare s.2.2) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K := by
  simp only [cc0_fox_bwd_eq_skeleton]; unfold cc0_fox_bwd_skel
  simp only [k0_part1_eq_skeleton]
  obtain ⟨s0, s1, s2⟩ := s
  unfold owns
  iintro ⟨⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%f10, %hf10, H10⟩, ⟨%f11, %hf11, H11⟩, ⟨%f12, %hf12, H12⟩, Hk⟩
  subst hf2 hf3 hf4 hf5 hf6
  dsimp only at hf10 hf11 hf12
  subst hf10 hf11 hf12
  sl_exec (disch := first | sl_exact hc0 | sl_exact hc1)
  sl_step
  iapply Hk

  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr
    swap; · iexact H7
    ipureintro
    refine (View.read_writes_full _ _ _ _ _).trans ?_
    refine congrArg k0_pay18 ((View.readAt_full arg10.view _ _).trans ?_)
    rw [rest_none, List.nil_append]
    dsimp only
    exact (congrArg (Prod.snd) (point_of_pieces i arg2 harg2 arg3 harg3 arg4 harg4 arg5 harg5 arg6 harg6 arg7 harg7 arg8 harg8 arg9 harg9 arg10 harg10 arg11 harg11 arg12 harg12 Variants.none c none f2 f3 f4 f5 f10 [] f11 f12 _ _ _ _ _ _ _ rfl rfl rfl rfl rfl rfl rfl))
  isplitl [H8]
  · iexists _; isplitr
    swap; · iexact H8
    ipureintro
    rw [rest_none]
    refine (View.read_writes_full _ _ _ _ _).trans ?_
    dsimp only
    exact (congrArg (fun s : Carry F => s.1.1) (point_of_pieces i arg2 harg2 arg3 harg3 arg4 harg4 arg5 harg5 arg6 harg6 arg7 harg7 arg8 harg8 arg9 harg9 arg10 harg10 arg11 harg11 arg12 harg12 Variants.none c none f2 f3 f4 f5 f10 [] f11 f12 _ _ _ _ _ _ _ rfl rfl rfl rfl rfl rfl rfl))
  isplitl [H9]
  · iexists _; isplitr
    swap; · iexact H9
    ipureintro
    rw [rest_none]
    refine (View.read_writes_full _ _ _ _ _).trans ?_
    dsimp only
    exact (congrArg (fun s : Carry F => s.1.2) (point_of_pieces i arg2 harg2 arg3 harg3 arg4 harg4 arg5 harg5 arg6 harg6 arg7 harg7 arg8 harg8 arg9 harg9 arg10 harg10 arg11 harg11 arg12 harg12 Variants.none c none f2 f3 f4 f5 f10 [] f11 f12 _ _ _ _ _ _ _ rfl rfl rfl rfl rfl rfl rfl))
  isplitl [H10]
  · iexists _; isplitr
    swap; · iexact H10
    ipureintro
    rw [rest_none, List.nil_append]
    dsimp only
    exact (congrArg (Prod.snd) (point_of_pieces i arg2 harg2 arg3 harg3 arg4 harg4 arg5 harg5 arg6 harg6 arg7 harg7 arg8 harg8 arg9 harg9 arg10 harg10 arg11 harg11 arg12 harg12 Variants.none c none f2 f3 f4 f5 f10 [] f11 f12 _ _ _ _ _ _ _ rfl rfl rfl rfl rfl rfl rfl))
  isplitl [H11]
  · iexists _; isplitr; · ipureintro; rfl
    iexact H11
  iexists _; isplitr; · ipureintro; rfl
  iexact H12

end Cert.Fox
-- ==== Proof.Fox.Run.lean ====
module

public import proofs.«01_k».proof.Proof.Gen.KernelIdeal.Frame
public import proofs.«01_k».proof.Proof.Gen.KernelIdeal.Loops
public import Idealize.ShloMosaic.Lib.VecWindow
public import proofs.«01_k».proof.Proof.Fox.BodyFirst
public import proofs.«01_k».proof.Proof.Fox.BodyLast
public import Idealize.ShloMosaic.Lib.Claim
public import Idealize.ShloMosaic.Lib.Tactic

@[expose] public section

set_option maxRecDepth 16384

noncomputable section

namespace Cert.Fox

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-- What a grid point starts from: at the first point of a head the fresh values, else what the point before left. -/
def opened (j : ℕ) (d o : Vec F S8192x128 .f32) (s : Kept F) : Kept F := if j = 0 then startS d o else s

/-- A grid point, whichever it is of its head. -/
theorem body_any (c : Dev nD) (i : grid0.Coords) (arg2 : Memref sig .tc .vmem S8192x128 .bf16) (harg2 : arg2.IsWhole) (arg3 : Memref sig .tc .vmem S512x128 .bf16) (harg3 : arg3.IsWhole) (arg4 : Memref sig .tc .vmem S512x128 .bf16) (harg4 : arg4.IsWhole) (arg5 : Memref sig .tc .vmem S8192x128 .f32) (harg5 : arg5.IsWhole) (arg6 : Memref sig .tc .vmem S8192x128 .f32) (harg6 : arg6.IsWhole) (arg7 : Memref sig .tc .vmem S8192x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S8192x128 .f32) (harg10 : arg10.IsWhole) (arg11 : Memref sig .tc .vmem S8x8192 .f32) (harg11 : arg11.IsWhole) (arg12 : Memref sig .tc .vmem S8x8192 .f32) (harg12 : arg12.IsWhole)
    (x2 : Vec F S8192x128 .bf16) (x3 x4 : Vec F S512x128 .bf16) (x5 x6 x7 : Vec F S8192x128 .f32) (s : Kept F)
    (E : Set ℕ) (K : PUnit → sProp 𝕄) :
    iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ (∃ d, owns (c : Thread nD τ) arg8 fullShare d) ∗ (∃ d, owns (c : Thread nD τ) arg9 fullShare d) ∗ owns (c : Thread nD τ) arg10 fullShare s.1 ∗ owns (c : Thread nD τ) arg11 fullShare s.2.1 ∗ owns (c : Thread nD τ) arg12 fullShare s.2.2
      ∗ (iprop(owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (if (i 1).val = 15 then k0_pay18 (pointS x2 x3 x4 x5 (i 1).val (lt16 i) (opened (i 1).val x5 x6 s)).2 else x7)
          ∗ owns (c : Thread nD τ) arg8 fullShare (pointS x2 x3 x4 x5 (i 1).val (lt16 i) (opened (i 1).val x5 x6 s)).1.1 ∗ owns (c : Thread nD τ) arg9 fullShare (pointS x2 x3 x4 x5 (i 1).val (lt16 i) (opened (i 1).val x5 x6 s)).1.2
          ∗ owns (c : Thread nD τ) arg10 fullShare (pointS x2 x3 x4 x5 (i 1).val (lt16 i) (opened (i 1).val x5 x6 s)).2 ∗ owns (c : Thread nD τ) arg11 fullShare (opened (i 1).val x5 x6 s).2.1 ∗ owns (c : Thread nD τ) arg12 fullShare (opened (i 1).val x5 x6 s).2.2) -∗ K ⟨⟩))
    ⊢ wp frame (wpE (defs₀ (F := F)) Variants.none c none) E (cc0_fox_bwd i arg2 harg2 arg3 harg3 arg4 harg4 arg5 harg5 arg6 harg6 arg7 harg7 arg8 harg8 arg9 harg9 arg10 harg10 arg11 harg11 arg12 harg12) K := by
  by_cases h0 : (i 1).val = 0
  · have hl : ¬ (i 1).val = 15 := by omega
    rw [if_neg hl, show opened (i 1).val x5 x6 s = startS x5 x6 from if_pos h0]
    iintro ⟨H2, H3, H4, H5, H6, H7, H8, H9, H10, H11, H12, Hk⟩
    iapply (body_first c i arg2 harg2 arg3 harg3 arg4 harg4 arg5 harg5 arg6 harg6 arg7 harg7 arg8 harg8 arg9 harg9 arg10 harg10 arg11 harg11 arg12 harg12 ((atFirst_iff i).mpr h0) (fun h => hl ((atLast_iff i).mp h)) x2 x3 x4 x5 x6 x7 E K)
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexists _; iexact H10
    isplitl [H11]; · iexists _; iexact H11
    isplitl [H12]; · iexists _; iexact H12
    iexact Hk
  · rw [show opened (i 1).val x5 x6 s = s from if_neg h0]
    by_cases hl : (i 1).val = 15
    · rw [if_pos hl]
      iintro ⟨H2, H3, H4, H5, H6, H7, H8, H9, H10, H11, H12, Hk⟩
      iapply (body_last c i arg2 harg2 arg3 harg3 arg4 harg4 arg5 harg5 arg6 harg6 arg7 harg7 arg8 harg8 arg9 harg9 arg10 harg10 arg11 harg11 arg12 harg12 (fun h => h0 ((atFirst_iff i).mp h)) ((atLast_iff i).mpr hl) x2 x3 x4 x5 x6 s E K)
      isplitl [H2]; · iexact H2
      isplitl [H3]; · iexact H3
      isplitl [H4]; · iexact H4
      isplitl [H5]; · iexact H5
      isplitl [H6]; · iexact H6
      isplitl [H7]; · iexists _; iexact H7
      isplitl [H8]; · iexact H8
      isplitl [H9]; · iexact H9
      isplitl [H10]; · iexact H10
      isplitl [H11]; · iexact H11
      isplitl [H12]; · iexact H12
      iexact Hk
    · rw [if_neg hl]
      exact body_mid c i arg2 harg2 arg3 harg3 arg4 harg4 arg5 harg5 arg6 harg6 arg7 harg7 arg8 harg8 arg9 harg9 arg10 harg10 arg11 harg11 arg12 harg12 (fun h => h0 ((atFirst_iff i).mp h)) (fun h => hl ((atLast_iff i).mp h)) x2 x3 x4 x5 x6 x7 s E K

variable (m : (ℓ : Loc nD τ sig) → Buf (Elt F) ℓ) (ρ : Dev nD → PrngReg)

/-! ## The state along the grid -/

/-- What grid point `t` computes from what it starts from. -/
def carryAt (c : Dev nD) (t : Fin cfg0.N) (s : Kept F) : Carry F :=
  pointS (iblk m c 0 t) (iblk m c 1 t) (iblk m c 2 t) (iblk m c 3 t) ((grid0.coords t) 1).val (lt16 _) s

/-- What grid point `t` keeps for the next one. -/
def leaveAt (c : Dev nD) (t : Fin cfg0.N) (s : Kept F) : Kept F := ((carryAt m c t s).2, s.2)

/-- What grid point `n` starts from. -/
def beginAt (c : Dev nD) : (n : ℕ) → n < cfg0.N → Kept F
  | 0, h => startS (iblk m c 3 ⟨0, h⟩) (iblk m c 4 ⟨0, h⟩)
  | n + 1, h => opened ((grid0.coords ⟨n + 1, h⟩) 1).val (iblk m c 3 ⟨n + 1, h⟩) (iblk m c 4 ⟨n + 1, h⟩)
      (leaveAt m c ⟨n, Nat.lt_of_succ_lt h⟩ (beginAt c n (Nat.lt_of_succ_lt h)))

/-- A point's tile. -/
theorem coord1 (t : Fin cfg0.N) : ((grid0.coords t) 1).val = t.val % 16 := by
  have e1 : (grid0.coords t 1).val = t.val / 1 % 16 := Pipeline.Grid.coords_val t 1 (by decide) rfl
  rw [e1, Nat.div_one]

/-- A point's head. -/
theorem coord0 (t : Fin cfg0.N) : ((grid0.coords t) 0).val = t.val / 16 := by
  have e0 : (grid0.coords t 0).val = t.val / 16 % 4 := Pipeline.Grid.coords_val t 0 (by decide) rfl
  have ht : t.val < 64 := Nat.lt_of_lt_of_eq t.isLt N_0
  omega

/-- The state a point starts from, from any state that is the one left before. -/
theorem beginAt_eq (c : Dev nD) (t : Fin cfg0.N) (s : Kept F)
    (hs : ∀ h : t.val ≠ 0, s = leaveAt m c ⟨t.val - 1, by omega⟩ (beginAt m c (t.val - 1) (by omega))) :
    opened ((grid0.coords t) 1).val (iblk m c 3 t) (iblk m c 4 t) s = beginAt m c t.val t.isLt := by
  obtain ⟨n, hn⟩ := t
  cases n with
  | zero =>
    have h0 : ((grid0.coords ⟨0, hn⟩) 1).val = 0 := (coord1 ⟨0, hn⟩).trans (Nat.zero_mod 16)
    rw [opened, if_pos h0, beginAt]
  | succ n =>
    rw [hs (Nat.succ_ne_zero n)]
    rfl

/-! ## The pipeline's proof data -/

/-- The scratch array of the queries' gradient. -/
abbrev scr0 : Memref sig .tc .vmem S8192x128 .f32 := Memref.whole cc0_scratch0
/-- The first scratch array of row sums. -/
abbrev scr1 : Memref sig .tc .vmem S8x8192 .f32 := Memref.whole cc0_scratch1
/-- The second scratch array of row sums. -/
abbrev scr2 : Memref sig .tc .vmem S8x8192 .f32 := Memref.whole cc0_scratch2

/-- Before grid point `n` the scratch holds what the point before left. -/
def held (c : Dev nD) (n : ℕ) (hn : n ≤ cfg0.N) : sProp 𝕄 :=
  iprop(∃ s : Kept F, ⌜∀ h : n ≠ 0, s = leaveAt m c ⟨n - 1, by omega⟩ (beginAt m c (n - 1) (by omega))⌝
    ∗ owns (c : Thread nD τ) scr0 fullShare s.1 ∗ owns (c : Thread nD τ) scr1 fullShare s.2.1 ∗ owns (c : Thread nD τ) scr2 fullShare s.2.2
    ∗ (∃ r, prngReg c r))

/-- What is owned of the scratch arrays. -/
theorem scratch_eq (c : Dev nD) : (Pipeline.ΦA spec0 c : sProp 𝕄)
    = iprop(iprop((∃ d, owns (c : Thread nD τ) scr0 fullShare d) ∗ (∃ d, owns (c : Thread nD τ) scr1 fullShare d) ∗ (∃ d, owns (c : Thread nD τ) scr2 fullShare d)) ∗ (∃ r, prngReg c r)) := by
  unfold Pipeline.ΦA; rw [scopedRest0_eq]; simp only [scr0, scr1, scr2, owns_whole]; try rfl

/-- The proof data on core `c`: the inputs stay at their blocks, the outputs' blocks are what the point computes. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay18 (carryAt m c t (beginAt m c t.val t.isLt)).2
    | ⟨6, _⟩ => (carryAt m c t (beginAt m c t.val t.isLt)).1.1
    | ⟨7, _⟩ => (carryAt m c t (beginAt m c t.val t.isLt)).1.2
  Φ t := held m c t.val (Nat.le_of_lt_succ t.isLt)
  q _ := fullShare
  owed _ := 0

/-- The arrays as the region finds them. -/
theorem A_eq (c : Dev nD) (w : Fin cfg0.W) : (dats m 0 c).A w = V m c (Pipeline.arrRef spec0 w) := by
  dsimp only [dats]

/-- What is held in front of a point. -/
theorem held_castSucc (c : Dev nD) (t : Fin cfg0.N) : (dats m 0 c).Φ t.castSucc = held m c t.val (Nat.le_of_lt t.isLt) := by
  dsimp only [dats]; exact Pipeline.Dat.Φ_castSucc (held m c) t

/-- What the buffer of the queries holds behind a point. -/
theorem after_0 (c : Dev nD) (t : Fin cfg0.N) : (dats m 0 c).after 0 t = iblk m c 0 t := by dsimp only [dats]
/-- What the buffer of the keys holds behind a point. -/
theorem after_1 (c : Dev nD) (t : Fin cfg0.N) : (dats m 0 c).after 1 t = iblk m c 1 t := by dsimp only [dats]
/-- What the buffer of the values holds behind a point. -/
theorem after_2 (c : Dev nD) (t : Fin cfg0.N) : (dats m 0 c).after 2 t = iblk m c 2 t := by dsimp only [dats]
/-- What the buffer of the output gradients holds behind a point. -/
theorem after_3 (c : Dev nD) (t : Fin cfg0.N) : (dats m 0 c).after 3 t = iblk m c 3 t := by dsimp only [dats]
/-- What the buffer of the saved outputs holds behind a point. -/
theorem after_4 (c : Dev nD) (t : Fin cfg0.N) : (dats m 0 c).after 4 t = iblk m c 4 t := by dsimp only [dats]
/-- What the buffer of the queries' gradient holds behind a point. -/
theorem after_5 (c : Dev nD) (t : Fin cfg0.N) : (dats m 0 c).after 5 t = k0_pay18 (carryAt m c t (beginAt m c t.val t.isLt)).2 := by dsimp only [dats]
/-- What the buffer of the keys' gradient holds behind a point. -/
theorem after_6 (c : Dev nD) (t : Fin cfg0.N) : (dats m 0 c).after 6 t = (carryAt m c t (beginAt m c t.val t.isLt)).1.1 := by dsimp only [dats]
/-- What the buffer of the values' gradient holds behind a point. -/
theorem after_7 (c : Dev nD) (t : Fin cfg0.N) : (dats m 0 c).after 7 t = (carryAt m c t (beginAt m c t.val t.isLt)).1.2 := by dsimp only [dats]

/-- What the buffer of the queries holds in front of a point. -/
theorem before_0 (c : Dev nD) (t : Fin cfg0.N) (d) : (dats m 0 c).before 0 t d = iblk m c 0 t :=
  before0_0_of m (dats m 0 c) (A_eq m c 0) (after_0 m c) t d
/-- What the buffer of the keys holds in front of a point. -/
theorem before_1 (c : Dev nD) (t : Fin cfg0.N) (d) : (dats m 0 c).before 1 t d = iblk m c 1 t :=
  before0_1_of m (dats m 0 c) (A_eq m c 1) (after_1 m c) t d
/-- What the buffer of the values holds in front of a point. -/
theorem before_2 (c : Dev nD) (t : Fin cfg0.N) (d) : (dats m 0 c).before 2 t d = iblk m c 2 t :=
  before0_2_of m (dats m 0 c) (A_eq m c 2) (after_2 m c) t d
/-- What the buffer of the output gradients holds in front of a point. -/
theorem before_3 (c : Dev nD) (t : Fin cfg0.N) (d) : (dats m 0 c).before 3 t d = iblk m c 3 t :=
  before0_3_of m (dats m 0 c) (A_eq m c 3) (after_3 m c) t d
/-- What the buffer of the saved outputs holds in front of a point. -/
theorem before_4 (c : Dev nD) (t : Fin cfg0.N) (d) : (dats m 0 c).before 4 t d = iblk m c 4 t :=
  before0_4_of m (dats m 0 c) (A_eq m c 4) (after_4 m c) t d

/-- The queries' gradient stays untouched in front of a head's last tile. -/
theorem idle5 : ∀ t : Fin cfg0.N, ¬ (((grid0.coords t) 1).val = 15) → cfg0.idle 5 (grid0.coords t) = true := by decide +kernel
/-- The queries' gradient is not written in front of a head's last tile. -/
theorem noFlush5 : ∀ t : Fin cfg0.N, ¬ (((grid0.coords t) 1).val = 15) → (cfg0.win 5).flush t = false := by decide +kernel
/-- The queries' gradient is written at a head's last tile. -/
theorem live5 : ∀ t : Fin cfg0.N, ((grid0.coords t) 1).val = 15 → cfg0.idle 5 (grid0.coords t) = false := by decide +kernel

/-- The buffer of the queries. -/
abbrev stg0 (t : Fin cfg0.N) : Memref sig .tc .vmem S8192x128 .bf16 := win0_0.stage (cfg0.slots t 0)
/-- The buffer of the keys. -/
abbrev stg1 (t : Fin cfg0.N) : Memref sig .tc .vmem S512x128 .bf16 := win0_1.stage (cfg0.slots t 1)
/-- The buffer of the values. -/
abbrev stg2 (t : Fin cfg0.N) : Memref sig .tc .vmem S512x128 .bf16 := win0_2.stage (cfg0.slots t 2)
/-- The buffer of the output gradients. -/
abbrev stg3 (t : Fin cfg0.N) : Memref sig .tc .vmem S8192x128 .f32 := win0_3.stage (cfg0.slots t 3)
/-- The buffer of the saved outputs. -/
abbrev stg4 (t : Fin cfg0.N) : Memref sig .tc .vmem S8192x128 .f32 := win0_4.stage (cfg0.slots t 4)
/-- The buffer of the queries' gradient. -/
abbrev stg5 (t : Fin cfg0.N) : Memref sig .tc .vmem S8192x128 .f32 := win0_5.stage (cfg0.slots t 5)
/-- The buffer of the keys' gradient. -/
abbrev stg6 (t : Fin cfg0.N) : Memref sig .tc .vmem S512x128 .f32 := win0_6.stage (cfg0.slots t 6)
/-- The buffer of the values' gradient. -/
abbrev stg7 (t : Fin cfg0.N) : Memref sig .tc .vmem S512x128 .f32 := win0_7.stage (cfg0.slots t 7)

/-- What a point leaves in the buffer of the queries. -/
theorem leaves_0 (c : Dev nD) (t : Fin cfg0.N) : (dats m 0 c).leavesExact 0 t = owns (c : Thread nD τ) (stg0 t) fullShare ((dats m 0 c).after 0 t) := by
  unfold Dat.leavesExact; rw [show cfg0.idle 0 (grid0.coords t) = false from rfl]
/-- What a point leaves in the buffer of the keys. -/
theorem leaves_1 (c : Dev nD) (t : Fin cfg0.N) : (dats m 0 c).leavesExact 1 t = owns (c : Thread nD τ) (stg1 t) fullShare ((dats m 0 c).after 1 t) := by
  unfold Dat.leavesExact; rw [show cfg0.idle 1 (grid0.coords t) = false from rfl]
/-- What a point leaves in the buffer of the values. -/
theorem leaves_2 (c : Dev nD) (t : Fin cfg0.N) : (dats m 0 c).leavesExact 2 t = owns (c : Thread nD τ) (stg2 t) fullShare ((dats m 0 c).after 2 t) := by
  unfold Dat.leavesExact; rw [show cfg0.idle 2 (grid0.coords t) = false from rfl]
/-- What a point leaves in the buffer of the output gradients. -/
theorem leaves_3 (c : Dev nD) (t : Fin cfg0.N) : (dats m 0 c).leavesExact 3 t = owns (c : Thread nD τ) (stg3 t) fullShare ((dats m 0 c).after 3 t) := by
  unfold Dat.leavesExact; rw [show cfg0.idle 3 (grid0.coords t) = false from rfl]
/-- What a point leaves in the buffer of the saved outputs. -/
theorem leaves_4 (c : Dev nD) (t : Fin cfg0.N) : (dats m 0 c).leavesExact 4 t = owns (c : Thread nD τ) (stg4 t) fullShare ((dats m 0 c).after 4 t) := by
  unfold Dat.leavesExact; rw [show cfg0.idle 4 (grid0.coords t) = false from rfl]
/-- What a point leaves in the buffer of the keys' gradient. -/
theorem leaves_6 (c : Dev nD) (t : Fin cfg0.N) : (dats m 0 c).leavesExact 6 t = owns (c : Thread nD τ) (stg6 t) fullShare ((dats m 0 c).after 6 t) := by
  unfold Dat.leavesExact; rw [show cfg0.idle 6 (grid0.coords t) = false from rfl]
/-- What a point leaves in the buffer of the values' gradient. -/
theorem leaves_7 (c : Dev nD) (t : Fin cfg0.N) : (dats m 0 c).leavesExact 7 t = owns (c : Thread nD τ) (stg7 t) fullShare ((dats m 0 c).after 7 t) := by
  unfold Dat.leavesExact; rw [show cfg0.idle 7 (grid0.coords t) = false from rfl]
/-- What a point leaves in the buffer of the queries' gradient. -/
theorem leaves_5 (c : Dev nD) (t : Fin cfg0.N) (h : ((grid0.coords t) 1).val = 15) :
    (dats m 0 c).leavesExact 5 t = owns (c : Thread nD τ) (stg5 t) fullShare ((dats m 0 c).after 5 t) := by
  unfold Dat.leavesExact; rw [live5 t h]

/-- What the body is handed at a point. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d)) ∗ (∃ d, owns (c : Thread nD τ) (stg1 t) fullShare ((dats m 0 c).before 1 t d)) ∗ (∃ d, owns (c : Thread nD τ) (stg2 t) fullShare ((dats m 0 c).before 2 t d)) ∗ (∃ d, owns (c : Thread nD τ) (stg3 t) fullShare ((dats m 0 c).before 3 t d)) ∗ (∃ d, owns (c : Thread nD τ) (stg4 t) fullShare ((dats m 0 c).before 4 t d)) ∗ (∃ d, owns (c : Thread nD τ) (stg5 t) fullShare ((dats m 0 c).before 5 t d)) ∗ (∃ d, owns (c : Thread nD τ) (stg6 t) fullShare ((dats m 0 c).before 6 t d)) ∗ (∃ d, owns (c : Thread nD τ) (stg7 t) fullShare ((dats m 0 c).before 7 t d)))

/-- What the body gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t ∗ (dats m 0 c).leavesExact 5 t ∗ (dats m 0 c).leavesExact 6 t ∗ (dats m 0 c).leavesExact 7 t)

set_option maxHeartbeats 1600000 in
/-- The body at any point. -/
theorem body_sound (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    show (dats m 0 c).Φ t.succ = held m c (t.val + 1) t.isLt from rfl, held_castSucc,
    leaves_0, leaves_1, leaves_2, leaves_3, leaves_4, leaves_6, leaves_7, after_0, after_1, after_2, after_3, after_4, after_6, after_7]
  unfold held
  iintro ⟨⟨%s, %hs, HS0, HS1, HS2, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
  have hb := beginAt_eq m c t s hs
  iapply (body_any c (grid0.coords t) _ _ _ _ _ _ _ _ _ _ _ _ _ _ _ _ _ _ _ _ _ _ (iblk m c 0 t) (iblk m c 1 t) (iblk m c 2 t) (iblk m c 3 t) (iblk m c 4 t) _ s Set.univ _)
  rw [hb]
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [HS0]; · iexact HS0
  isplitl [HS1]; · iexact HS1
  isplitl [HS2]; · iexact HS2
  iintro ⟨H0, H1, H2, H3, H4, H5, H6, H7, HS0, HS1, HS2⟩
  isplitl [HS0 HS1 HS2 Hg]
  · iexists (leaveAt m c t (beginAt m c t.val t.isLt))
    isplitr; · ipureintro; exact fun _ => rfl
    isplitl [HS0]; · iexact HS0
    isplitl [HS1]; · iexact HS1
    isplitl [HS2]; · iexact HS2
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · by_cases hl : ((grid0.coords t) 1).val = 15
    · rw [leaves_5 m c t hl, after_5, if_pos hl]
      iexact H5
    · rw [Dat.leavesExact_idle (dats m 0 c) 5 t (idle5 t hl) (noFlush5 t hl), if_neg hl]
      iexists _; iexact H5
  isplitl [H6]; · iexact H6
  iexact H7

/-- The body of the pipeline at a point is the kernel's body there. -/
theorem row_body (t : Fin cfg0.N) : defs₀ (F := F) .tc cfg0.body (cfg0.bodyArgs t (cfg0.slots t)) = bodyAt0 t := by
  unfold defs₀; rw [Defs.onTc_tc]

/-- The body obligation at every point. -/
theorem obligation (c : Dev nD) : BodyObligation (dats (F := F) m 0 c) (defs₀ (F := F)) Variants.none () Set.univ := fun t => by
  rw [bigSep_W0, bigSep_W0, row_body]
  exact triple_restated (body_sound m c t) rfl .rfl fun _ => .rfl

/-- The launch hands the scratch over at any contents. -/
theorem hin (c : Dev nD) : Pipeline.ΦA spec0 c ⊢ (dats m 0 c).Φ 0 := by
  rw [show (dats m 0 c).Φ 0 = held m c 0 (Nat.zero_le _) from rfl, scratch_eq]
  unfold held
  iintro ⟨⟨⟨%a, HS0⟩, ⟨%b, HS1⟩, ⟨%e, HS2⟩⟩, Hg⟩
  iexists ((a, b, e) : Kept F)
  isplitr; · ipureintro; exact fun h => absurd rfl h
  isplitl [HS0]; · iexact HS0
  isplitl [HS1]; · iexact HS1
  isplitl [HS2]; · iexact HS2
  iexact Hg

/-- After the last point the scratch's contents are forgotten. -/
theorem hout (c : Dev nD) : (dats m 0 c).Φ (Fin.last cfg0.N) ⊢ Pipeline.ΦA spec0 c := by
  rw [show (dats m 0 c).Φ (Fin.last cfg0.N) = held m c cfg0.N le_rfl from rfl, scratch_eq]
  unfold held
  iintro ⟨%s, -, HS0, HS1, HS2, Hg⟩
  isplitl [HS0 HS1 HS2]
  · isplitl [HS0]; · iexists _; iexact HS0
    isplitl [HS1]; · iexists _; iexact HS1
    iexists _; iexact HS2
  iexact Hg

/-! ## The run -/

set_option backward.isDefEq.respectTransparency.types false in
set_option maxHeartbeats 800000 in
/-- Every run of the program ends with the pipeline's arrays at what the proof data says and every counter at zero. -/
theorem run_quiet : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The whole kernel runs, and leaves what the region and the lines behind it leave. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_quiet m ρ)

/-- Every run ends with the arguments unchanged and every counter at zero. -/
theorem run_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_main m ρ)) ((θ_run defs _ _).mono (fun _ h => h.2) (run_quiet m ρ))

end Cert.Fox
-- ==== Proof.Fox.Frames.lean ====
module

public import proofs.«01_k».proof.Defs
public import proofs.«01_k».proof.Proof.Fox.Run
public import proofs.«01_k».proof.Proof.Gen.Kernel
public import proofs.«01_k».proof.Proof.Gen.Pre_finite
public import proofs.«01_k».proof.Proof.Gen.ReferenceIdeal.Run

@[expose] public section

noncomputable section

/-! # The frames

The two texts of the kernel are one text over the number format, so one run serves both.
-/

namespace Cert.Proof

open Idealize.ShloMosaic Idealize.SL.Sem

set_option maxHeartbeats 1000000 in
/-- The two printed texts have the same body table. -/
theorem bodies_same : (Cert.Kernel.defs₀ (F := Bits)) = Cert.KernelIdeal.defs₀ (F := Bits) := by
  unfold Cert.Kernel.defs₀ Cert.KernelIdeal.defs₀
  refine congrArg _ ?_
  funext l a
  match l, a with
  | 0, (t, s) => rfl

set_option maxHeartbeats 1000000 in
/-- And so the same functions. -/
theorem defs_same : (Cert.Kernel.defs (F := Bits)) = Cert.KernelIdeal.defs (F := Bits) := by
  unfold Cert.Kernel.defs Cert.KernelIdeal.defs
  exact congrArg (Pipeline.defs (Cert.KernelIdeal.pcfgs (F := Bits))) bodies_same

set_option maxHeartbeats 1000000 in
/-- And the same main program. -/
theorem main_same : (Cert.Kernel.main (F := Bits)) = Cert.KernelIdeal.main (F := Bits) := rfl

set_option maxHeartbeats 1000000 in
/-- A run of the one text is a run of the other. -/
theorem run_same (s) (Q) (h : θ_run (Cert.KernelIdeal.defs (F := Bits)) (onTc (τ := Cert.KernelIdeal.τ) (Cert.KernelIdeal.main (F := Bits))) s Q) :
    θ_run (Cert.Kernel.defs (F := Bits)) (onTc (τ := Cert.Kernel.τ) (Cert.Kernel.main (F := Bits))) s Q := by
  rw [defs_same, main_same]
  exact h

set_option maxHeartbeats 1000000 in
/-- The kernel as printed ends, with its arguments unchanged and its counters at zero. -/
theorem frame_kernel : @Cert.quiescent_Kernel Cert.Kernel.Gen.facts :=
  fun m ρ _ => run_same _ _ (Cert.Fox.run_frame (F := Bits) m ρ)

/-- So does the kernel over the extended reals. -/
theorem frame_ideal : @Cert.quiescent_KernelIdeal Cert.KernelIdeal.Gen.facts :=
  fun m ρ _ => Cert.Fox.run_frame (F := Ideal) m ρ

/-- In particular from finite arguments. -/
theorem frame_ideal_finite : @Cert.quiescent_KernelIdeal_pre_finite Cert.KernelIdeal.Gen.facts Cert.Pre_finite.Gen.facts :=
  fun m ρ _ => Cert.Fox.run_frame (F := Ideal) m ρ

/-- The reference's run: host operations only. -/
theorem frame_reference : @Cert.quiescent_ReferenceIdeal Cert.ReferenceIdeal.Gen.facts :=
  fun m ρ _ => (θ_run Cert.ReferenceIdeal.defs _ _).mono (fun _ h => ⟨fun c => (h c).2.2.2.2, sem_eq_zero_of_no_sems (by decide) _⟩) (Cert.ReferenceIdeal.Value.run (F := Ideal) m ρ)

/-- In particular from finite arguments. -/
theorem frame_reference_finite : @Cert.quiescent_ReferenceIdeal_pre_finite Cert.ReferenceIdeal.Gen.facts Cert.Pre_finite.Gen.facts :=
  fun m ρ _ => frame_reference m ρ trivial

end Cert.Proof
-- ==== Proof.Fox.Entry.lean ====
module

public import proofs.«01_k».proof.Proof.Fox.Tile
public import Idealize.ShloMosaic.Lib.ValueIdx
public import Idealize.ShloMosaic.Lib.Pipeline.Value
public import Idealize.ShloMosaic.PureOps.Ideal.Laws
public import Idealize.ShloMosaic.Lib.IdealHost
public import Idealize.ShloMosaic.Lib.WordCmp

@[expose] public section

set_option maxRecDepth 16384

noncomputable section

namespace Cert.Fox

open Idealize.ShloMosaic Idealize.ShloMosaic.TcCoe Idealize.ShloMosaic.Tactic Idealize.ShloMosaic.ValueIdx
open Cert.KernelIdeal Cert.KernelIdeal.Gen

/-! ## The products of one tile as sums -/

/-- Rows against rows. -/
theorem dot_nt_at {φ : FTy} (x y : FVec Ideal S512x128 φ) (b a : Fin 512) :
    matmul (F := Ideal) dot_S512x128_S512x128_S512x512_1_1_0_0_n_n none x y (constant S512x512 .f32 0x00000000#32) (ix2 b a)
      = ∑ l : Fin 128, (x (ix2 b l) : EReal) * y (ix2 a l) := by
  simp only [matmul]
  rw [Ideal.matmul_constant_zero_apply, ← Equiv.sum_comp (contrEquiv1 dot_S512x128_S512x128_S512x512_1_1_0_0_n_n 128 rfl rfl).symm]
  refine Finset.sum_congr rfl fun q _ => ?_
  have hq := contrEquiv1_symm_val dot_S512x128_S512x128_S512x512_1_1_0_0_n_n 128 rfl rfl q
  have el : dot_S512x128_S512x128_S512x512_1_1_0_0_n_n.lhsIdx (ix2 b a) ((contrEquiv1 dot_S512x128_S512x128_S512x512_1_1_0_0_n_n 128 rfl rfl).symm q) = ix2 b q :=
    funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans hq)
  have er : dot_S512x128_S512x128_S512x512_1_1_0_0_n_n.rhsIdx (ix2 b a) ((contrEquiv1 dot_S512x128_S512x128_S512x512_1_1_0_0_n_n 128 rfl rfl).symm q) = ix2 a q :=
    funext fun z => Fin.ext (match z with
      | ⟨0, _⟩ => by unfold DotDims.rhsIdx; rw [dif_neg (by decide +revert), dif_pos (by decide +revert)]; rfl
      | ⟨1, _⟩ => (DotDims.rhsIdx_val_of_single _ rfl _ _).trans hq)
  rw [el, er]

/-- Columns against columns. -/
theorem dot_tn_at {φ : FTy} (x : FVec Ideal S512x512 φ) (y : FVec Ideal S512x128 φ) (a : Fin 512) (l : Fin 128) :
    matmul (F := Ideal) dot_S512x512_S512x128_S512x128_0_0_1_1_n_n none x y (constant S512x128 .f32 0x00000000#32) (ix2 a l)
      = ∑ b : Fin 512, (x (ix2 b a) : EReal) * y (ix2 b l) := by
  simp only [matmul]
  rw [Ideal.matmul_constant_zero_apply, ← Equiv.sum_comp (contrEquiv1 dot_S512x512_S512x128_S512x128_0_0_1_1_n_n 512 rfl rfl).symm]
  refine Finset.sum_congr rfl fun q _ => ?_
  have hq := contrEquiv1_symm_val dot_S512x512_S512x128_S512x128_0_0_1_1_n_n 512 rfl rfl q
  have el : dot_S512x512_S512x128_S512x128_0_0_1_1_n_n.lhsIdx (ix2 a l) ((contrEquiv1 dot_S512x512_S512x128_S512x128_0_0_1_1_n_n 512 rfl rfl).symm q) = ix2 q a :=
    funext fun z => Fin.ext (match z with
      | ⟨0, _⟩ => (DotDims.lhsIdx_val_of_single _ rfl _ _).trans hq
      | ⟨1, _⟩ => by unfold DotDims.lhsIdx; rw [dif_neg (by decide +revert), dif_pos (by decide +revert)]; rfl)
  have er : dot_S512x512_S512x128_S512x128_0_0_1_1_n_n.rhsIdx (ix2 a l) ((contrEquiv1 dot_S512x512_S512x128_S512x128_0_0_1_1_n_n 512 rfl rfl).symm q) = ix2 q l :=
    funext fun z => Fin.ext (match z with
      | ⟨0, _⟩ => (DotDims.rhsIdx_val_of_single _ rfl _ _).trans hq
      | ⟨1, _⟩ => by unfold DotDims.rhsIdx; rw [dif_neg (by decide +revert), dif_pos (by decide +revert)]; rfl)
  rw [el, er]

/-- Rows against columns. -/
theorem dot_nn_at {φ : FTy} (x : FVec Ideal S512x512 φ) (y : FVec Ideal S512x128 φ) (b : Fin 512) (l : Fin 128) :
    matmul (F := Ideal) dot_S512x512_S512x128_S512x128_1_0_0_1_n_n none x y (constant S512x128 .f32 0x00000000#32) (ix2 b l)
      = ∑ a : Fin 512, (x (ix2 b a) : EReal) * y (ix2 a l) := by
  simp only [matmul]
  rw [Ideal.matmul_constant_zero_apply, ← Equiv.sum_comp (contrEquiv1 dot_S512x512_S512x128_S512x128_1_0_0_1_n_n 512 rfl rfl).symm]
  refine Finset.sum_congr rfl fun q _ => ?_
  have hq := contrEquiv1_symm_val dot_S512x512_S512x128_S512x128_1_0_0_1_n_n 512 rfl rfl q
  have el : dot_S512x512_S512x128_S512x128_1_0_0_1_n_n.lhsIdx (ix2 b l) ((contrEquiv1 dot_S512x512_S512x128_S512x128_1_0_0_1_n_n 512 rfl rfl).symm q) = ix2 b q :=
    funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans hq)
  have er : dot_S512x512_S512x128_S512x128_1_0_0_1_n_n.rhsIdx (ix2 b l) ((contrEquiv1 dot_S512x512_S512x128_S512x128_1_0_0_1_n_n 512 rfl rfl).symm q) = ix2 q l :=
    funext fun z => Fin.ext (match z with
      | ⟨0, _⟩ => (DotDims.rhsIdx_val_of_single _ rfl _ _).trans hq
      | ⟨1, _⟩ => by unfold DotDims.rhsIdx; rw [dif_neg (by decide +revert), dif_pos (by decide +revert)]; rfl)
  rw [el, er]

/-- Eight rows against every row of a head. -/
theorem dot_row_at (x : FVec Ideal S8x128 .f32) (y : FVec Ideal S8192x128 .f32) (b : Fin 8) (i : Fin 8192) :
    matmul (F := Ideal) dot_S8x128_S8192x128_S8x8192_1_1_0_0_n_n (some .fp32) x y (constant S8x8192 .f32 0x00000000#32) (ix2 b i)
      = ∑ l : Fin 128, (x (ix2 b l) : EReal) * y (ix2 i l) := by
  simp only [matmul]
  rw [Ideal.matmul_constant_zero_apply, ← Equiv.sum_comp (contrEquiv1 dot_S8x128_S8192x128_S8x8192_1_1_0_0_n_n 128 rfl rfl).symm]
  refine Finset.sum_congr rfl fun q _ => ?_
  have hq := contrEquiv1_symm_val dot_S8x128_S8192x128_S8x8192_1_1_0_0_n_n 128 rfl rfl q
  have el : dot_S8x128_S8192x128_S8x8192_1_1_0_0_n_n.lhsIdx (ix2 b i) ((contrEquiv1 dot_S8x128_S8192x128_S8x8192_1_1_0_0_n_n 128 rfl rfl).symm q) = ix2 b q :=
    funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans hq)
  have er : dot_S8x128_S8192x128_S8x8192_1_1_0_0_n_n.rhsIdx (ix2 b i) ((contrEquiv1 dot_S8x128_S8192x128_S8x8192_1_1_0_0_n_n 128 rfl rfl).symm q) = ix2 i q :=
    funext fun z => Fin.ext (match z with
      | ⟨0, _⟩ => by unfold DotDims.rhsIdx; rw [dif_neg (by decide +revert), dif_pos (by decide +revert)]; rfl
      | ⟨1, _⟩ => (DotDims.rhsIdx_val_of_single _ rfl _ _).trans hq)
  rw [el, er]

/-- A row spread over a tile, at an index. -/
theorem spread_at (v : FVec Ideal S1x512 .f32) (b a : Fin 512) :
    broadcastTo S512x512 v broadcasts_S1x512_S512x512 (ix2 b a) = v (ix2 0 a) := by
  exact broadcastTo_apply v _ _ (ix2 0 a) (fun z => match z with | ⟨0, _⟩ => rfl | ⟨1, _⟩ => rfl)

/-! ## One tile's probabilities and score gradients -/

/-- The probability of key row `b` for query row `a` of a tile. -/
def pr (kt qt : FVec Ideal S512x128 .bf16) (ls : FVec Ideal S1x512 .f32) (b a : Fin 512) : EReal :=
  Ideal.exp ((∑ l : Fin 128, (kt (ix2 b l) : EReal) * qt (ix2 a l)) - ls (ix2 0 a))

/-- The gradient of that score. -/
def gr (kt vt qt : FVec Ideal S512x128 .bf16) (dt : FVec Ideal S512x128 .f32) (ls dl : FVec Ideal S1x512 .f32) (b a : Fin 512) : EReal :=
  pr kt qt ls b a * ((∑ l : Fin 128, (vt (ix2 b l) : EReal) * dt (ix2 a l)) - dl (ix2 0 a))

variable (kt vt qt : FVec Ideal S512x128 .bf16) (dt : FVec Ideal S512x128 .f32) (ls dl : FVec Ideal S1x512 .f32)

/-- The tile's probabilities. -/
theorem pay6_at (b a : Fin 512) : k0_pay6 kt qt ls (ix2 b a) = pr kt qt ls b a := by
  unfold k0_pay6 k0_pay4 pr
  simp only [shapeCast_self]
  show Ideal.exp _ = _
  rw [subf_apply, dot_nt_at, spread_at]

/-- The gradients of the tile's scores. -/
theorem pay7_at (b a : Fin 512) : k0_pay7 kt vt qt dt ls dl (ix2 b a) = gr kt vt qt dt ls dl b a := by
  unfold k0_pay7 k0_pay5 gr
  simp only [shapeCast_self]
  rw [truncf_apply, mulf_apply, pay6_at, subf_apply, dot_nt_at, spread_at]
  simp only [truncf_apply]

/-- One row tile's step of the queries' gradient. -/
theorem pay8_at (acc : FVec Ideal S512x128 .f32) (a : Fin 512) (l : Fin 128) :
    k0_pay8 kt vt qt dt ls dl acc (ix2 a l) = (acc (ix2 a l) : EReal) + ∑ b : Fin 512, gr kt vt qt dt ls dl b a * kt (ix2 b l) := by
  unfold k0_pay8
  simp only [shapeCast_self]
  rw [addf_apply, dot_tn_at]
  simp only [pay7_at]

/-- One row tile's step of the keys' gradient. -/
theorem pay9_at (dk : FVec Ideal S512x128 .f32) (b : Fin 512) (l : Fin 128) :
    k0_pay9 kt vt dk qt dt ls dl (ix2 b l) = (dk (ix2 b l) : EReal) + ∑ a : Fin 512, gr kt vt qt dt ls dl b a * qt (ix2 a l) := by
  unfold k0_pay9 k0_pay4
  simp only [shapeCast_self]
  rw [addf_apply, dot_nn_at]
  simp only [pay7_at]

/-- One row tile's step of the values' gradient. -/
theorem pay10_at (dv : FVec Ideal S512x128 .f32) (b : Fin 512) (l : Fin 128) :
    k0_pay10 kt dv qt dt ls (ix2 b l) = (dv (ix2 b l) : EReal) + ∑ a : Fin 512, pr kt qt ls b a * dt (ix2 a l) := by
  unfold k0_pay10 k0_pay5
  simp only [shapeCast_self]
  rw [addf_apply, dot_nn_at]
  simp only [truncf_apply, pay6_at]

/-! ## The tile on the diagonal -/

/-- The mask of the tile on the diagonal. -/
theorem tri_at (b a : Fin 512) : cmpi .sle (iota .tc S512x512 32 [0] iota_S512x512_d0_w32) (iota .tc S512x512 32 [1] iota_S512x512_d1_w32) (ix2 b a)
    = BitVec.ofBool (decide (b.val ≤ a.val)) := by
  show IntOp.cmpi .sle (iota .tc S512x512 32 [0] iota_S512x512_d0_w32 (ix2 b a)) (iota .tc S512x512 32 [1] iota_S512x512_d1_w32 (ix2 b a)) = _
  rw [iota_single_apply, iota_single_apply]
  have hb : b.val < 2 ^ (32 - 1) := by have := b.isLt; omega
  have ha : a.val < 2 ^ (32 - 1) := by have := a.isLt; omega
  exact WordCmp.cmpi_sle_ofNat hb ha

/-- The diagonal tile's probabilities, masked. -/
theorem pay28_at (b a : Fin 512) : (k0_pay28 (F := Ideal) kt qt ls (ix2 b a) : EReal) = if b.val ≤ a.val then pr kt qt ls b a else 0 := by
  unfold k0_pay28 k0_pay26 k0_pay22 pr
  simp only [shapeCast_self]
  rw [select_apply, tri_at, WordCmp.select_decide]
  refine if_congr Iff.rfl ?_ Ideal.ofBits_zero_f32
  show Ideal.exp _ = _
  rw [subf_apply, dot_nt_at, spread_at]

/-- The gradients of the diagonal tile's scores, masked. -/
theorem pay29_at (b a : Fin 512) : (k0_pay29 (F := Ideal) kt vt qt dt ls dl (ix2 b a) : EReal) = if b.val ≤ a.val then gr kt vt qt dt ls dl b a else 0 := by
  unfold k0_pay29 k0_pay27 k0_pay23 gr
  simp only [shapeCast_self]
  rw [truncf_apply, mulf_apply, pay28_at, subf_apply, dot_nt_at, spread_at]
  simp only [truncf_apply]
  split
  · rfl
  · exact zero_mul _

/-- The diagonal tile's step of the queries' gradient. -/
theorem diag_acc_at (acc : FVec Ideal S512x128 .f32) (a : Fin 512) (l : Fin 128) :
    k0_pay1 acc (k0_pay30 (F := Ideal) kt vt qt dt ls dl) (ix2 a l)
      = (acc (ix2 a l) : EReal) + ∑ b : Fin 512, (if b.val ≤ a.val then gr kt vt qt dt ls dl b a else 0) * kt (ix2 b l) := by
  unfold k0_pay1 k0_pay30 k0_pay22
  simp only [shapeCast_self]
  rw [addf_apply, dot_tn_at]
  simp only [pay29_at]

/-- The diagonal tile's keys' gradient. -/
theorem diag_dk_at (b : Fin 512) (l : Fin 128) :
    k0_pay2 (k0_pay24 (F := Ideal)) (k0_pay26 qt) (k0_pay29 (F := Ideal) kt vt qt dt ls dl) (ix2 b l)
      = ∑ a : Fin 512, (if b.val ≤ a.val then gr kt vt qt dt ls dl b a else 0) * (qt (ix2 a l) : EReal) := by
  unfold k0_pay2 k0_pay24 k0_pay26
  simp only [shapeCast_self]
  rw [addf_apply, dot_nn_at, broadcast_apply]
  simp only [pay29_at]
  exact (congrArg (· + _) Ideal.ofBits_zero_f32).trans (zero_add _)

/-- The diagonal tile's values' gradient. -/
theorem diag_dv_at (b : Fin 512) (l : Fin 128) :
    k0_pay3 (k0_pay25 (F := Ideal)) (k0_pay27 dt) (k0_pay28 (F := Ideal) kt qt ls) (ix2 b l)
      = ∑ a : Fin 512, (if b.val ≤ a.val then pr kt qt ls b a else 0) * (dt (ix2 a l) : EReal) := by
  unfold k0_pay3 k0_pay25 k0_pay27
  simp only [shapeCast_self]
  rw [addf_apply, dot_nn_at, broadcast_apply]
  simp only [truncf_apply, pay28_at]
  exact (congrArg (· + _) Ideal.ofBits_zero_f32).trans (zero_add _)

/-! ## What a head starts from and what it ends with -/

/-- A cast to the same shape changes nothing. -/
theorem pay22_self (x : Vec Ideal S512x128 .bf16) : k0_pay22 x = x := by
  unfold k0_pay22
  exact shapeCast_self _ _

/-- A cast to the same shape changes nothing. -/
theorem pay23_self (x : Vec Ideal S512x128 .bf16) : k0_pay23 x = x := by
  unfold k0_pay23
  exact shapeCast_self _ _

/-- The queries' gradient starts at zero. -/
theorem pay19_at (i : Fin 8192) (l : Fin 128) : (k0_pay19 (F := Ideal)) (ix2 i l) = 0 := by
  unfold k0_pay19
  simp only [shapeCast_self]
  exact Ideal.ofBits_zero_f32

/-- Each row of the array of sums holds the sums of output gradient times output. -/
theorem pay20_at (d o : FVec Ideal S8192x128 .f32) (b : Fin 8) (i : Fin 8192) :
    k0_pay20 d o (ix2 b i) = ∑ l : Fin 128, (d (ix2 i l) : EReal) * o (ix2 i l) := by
  unfold k0_pay20
  simp only [shapeCast_self]
  rw [dot_row_at]
  refine Finset.sum_congr rfl fun l _ => ?_
  rw [mulf_apply, broadcast_apply]
  exact (congrArg (· * _) Ideal.ofBits_one_f32).trans (one_mul _)

/-- The mask that picks lane sixty-four. -/
theorem lane_at (b : Fin 8) (l : Fin 128) : cmpi .eq (iota .tc S8x128 32 [1] iota_S8x128_d1_w32) (broadcast S8x128 64#32) (ix2 b l)
    = BitVec.ofBool (decide (l.val = 64)) := by
  show IntOp.cmpi .eq (iota .tc S8x128 32 [1] iota_S8x128_d1_w32 (ix2 b l)) (BitVec.ofNat 32 64) = _
  rw [iota_single_apply]
  have hb : l.val < 2 ^ 32 := by have := l.isLt; omega
  exact WordCmp.cmpi_eq_ofNat hb (by omega)

/-- Each row of the array of normalisers holds the saved ones. -/
theorem pay21_at (o : FVec Ideal S8192x128 .f32) (b : Fin 8) (i : Fin 8192) :
    k0_pay21 o (ix2 b i) = (o (ix2 i 64) : EReal) := by
  unfold k0_pay21
  simp only [shapeCast_self]
  rw [dot_row_at, Finset.sum_eq_single (64 : Fin 128)]
  · rw [select_apply, lane_at, WordCmp.select_decide, if_pos (show (64 : Fin 128).val = 64 from rfl)]
    exact (congrArg (· * _) Ideal.ofBits_one_f32).trans (one_mul _)
  · intro l _ hl
    rw [select_apply, lane_at, WordCmp.select_decide, if_neg (show ¬ l.val = 64 from fun h => hl (Fin.ext h))]
    exact (congrArg (· * _) Ideal.ofBits_zero_f32).trans (zero_mul _)
  · intro h
    exact absurd (Finset.mem_univ _) h

/-- One eighth, from its bits. -/
theorem ofBits_eighth_f32 : Ideal.ofBits .f32 0x3E000000#32 = ((1 / 8 : ℝ) : EReal) := by
  simp [Ideal.ofBits, Ideal.ieee, -EReal.coe_mul]; norm_num

/-- The scale behind the last tile of the queries' gradient. -/
theorem pay18_at (acc : FVec Ideal S8192x128 .f32) (i : Fin 8192) (l : Fin 128) :
    k0_pay18 acc (ix2 i l) = (acc (ix2 i l) : EReal) * ((1 / 8 : ℝ) : EReal) := by
  unfold k0_pay18
  rw [mulf_apply, broadcast_apply]
  exact congrArg (acc (ix2 i l) * ·) ofBits_eighth_f32

end Cert.Fox
-- ==== Proof.Fox.Walk.lean ====
module

public import proofs.«01_k».proof.Proof.Fox.Entry

@[expose] public section

set_option maxRecDepth 16384

noncomputable section

namespace Cert.Fox

open Idealize.ShloMosaic Idealize.ShloMosaic.TcCoe Idealize.ShloMosaic.Tactic Idealize.ShloMosaic.ValueIdx
open Cert.KernelIdeal Cert.KernelIdeal.Gen

/-! ## Sums over the rows of a head, tile by tile -/

/-- Row `a` of tile `n`. -/
abbrev rowOf (n : ℕ) (h : n < 16) (a : Fin 512) : Fin 8192 := ⟨512 * n + a.val, by have := a.isLt; omega⟩

/-- A function of the rows, zero past the last. -/
def upTo (f : Fin 8192 → EReal) (i : ℕ) : EReal := if h : i < 8192 then f ⟨i, h⟩ else 0

/-- Inside its range the extended function is the function. -/
theorem upTo_of (f : Fin 8192 → EReal) (i : Fin 8192) : upTo f i.val = f i := dif_pos i.isLt

/-- The sum over all rows. -/
theorem sum_all (f : Fin 8192 → EReal) : ∑ i ∈ Finset.range 8192, upTo f i = ∑ i : Fin 8192, f i := by
  rw [Finset.sum_range]
  exact Finset.sum_congr rfl fun i _ => upTo_of f i

/-- One tile's part of the sum. -/
theorem sum_tile (f : Fin 8192 → EReal) (n : ℕ) (h : n < 16) :
    ∑ i ∈ Finset.Ico (512 * n) (512 * (n + 1)), upTo f i = ∑ a : Fin 512, f (rowOf n h a) := by
  rw [Finset.sum_Ico_eq_sum_range, show 512 * (n + 1) - 512 * n = 512 by omega, Finset.sum_range]
  exact Finset.sum_congr rfl fun a _ => upTo_of f (rowOf n h a)

/-- Extended functions that agree at a row. -/
theorem upTo_congr {f g : Fin 8192 → EReal} (i : ℕ) (h : ∀ x : Fin 8192, x.val = i → f x = g x) : upTo f i = upTo g i := by
  unfold upTo
  split
  · exact h _ rfl
  · rfl

/-! ## Tiles of the arrays, element by element -/

/-- A tile's rows. -/
theorem rows_at {e : EltTy} (x : Vec Ideal S8192x128 e) (n : ℕ) (h : n < 16) (a : Fin 512) (l : Fin 128) :
    rows (F := Ideal) x n h (ix2 a l) = x (ix2 (rowOf n h a) l) :=
  congrArg x (funext fun z => Fin.ext (match z with
    | ⟨0, _⟩ => show 512 * n + 1 * a.val = 512 * n + a.val by omega
    | ⟨1, _⟩ => show 0 + 1 * l.val = l.val by omega))

/-- A tile's columns. -/
theorem cols_at (x : FVec Ideal S8x8192 .f32) (n : ℕ) (h : n < 16) (a : Fin 512) :
    cols (F := Ideal) x n h (ix2 0 a) = x (ix2 0 (rowOf n h a)) :=
  congrArg x (funext fun z => Fin.ext (match z with
    | ⟨0, _⟩ => rfl
    | ⟨1, _⟩ => show 512 * n + 1 * a.val = 512 * n + a.val by omega))

/-- What a written row holds. -/
theorem setRows_in (x : FVec Ideal S8192x128 .f32) (n : ℕ) (h : n < 16) (w : FVec Ideal S512x128 .f32) (a : Fin 512) (l : Fin 128) :
    setRows (F := Ideal) x n w (ix2 (rowOf n h a) l) = w (ix2 a l) := by
  unfold setRows VecWindow.put
  have ha := a.isLt
  have hl := l.isLt
  rw [dif_pos (Fin.forall_fin_two.mpr ⟨by show 512 * n ≤ 512 * n + a.val ∧ 512 * n + a.val < 512 * n + 512; omega, by show 0 ≤ l.val ∧ l.val < 0 + 128; omega⟩)]
  exact congrArg w (funext fun z => Fin.ext (match z with
    | ⟨0, _⟩ => show 512 * n + a.val - 512 * n = a.val by omega
    | ⟨1, _⟩ => show l.val - 0 = l.val by omega))

/-- What other rows hold. -/
theorem setRows_out (x : FVec Ideal S8192x128 .f32) (n : ℕ) (w : FVec Ideal S512x128 .f32) (i : Fin 8192) (l : Fin 128)
    (h : ¬ (512 * n ≤ i.val ∧ i.val < 512 * (n + 1))) :
    setRows (F := Ideal) x n w (ix2 i l) = x (ix2 i l) := by
  unfold setRows VecWindow.put
  rw [dif_neg fun hall => h (by
    have h0 : 512 * n ≤ i.val ∧ i.val < 512 * n + 512 := hall 0
    omega)]

/-! ## A key tile against every row of the head -/

section
variable (q : FVec Ideal S8192x128 .bf16) (kt vt : FVec Ideal S512x128 .bf16) (d : FVec Ideal S8192x128 .f32) (dl ls : FVec Ideal S8x8192 .f32)

/-- The probability of key row `b` of the tile for query row `i` of the head. -/
def PR (b : Fin 512) (i : Fin 8192) : EReal :=
  Ideal.exp ((∑ l : Fin 128, (kt (ix2 b l) : EReal) * q (ix2 i l)) - ls (ix2 0 i))

/-- The gradient of that score. -/
def GR (b : Fin 512) (i : Fin 8192) : EReal :=
  PR q kt ls b i * ((∑ l : Fin 128, (vt (ix2 b l) : EReal) * d (ix2 i l)) - dl (ix2 0 i))

/-- A row tile's probabilities. -/
theorem pr_rows (n : ℕ) (h : n < 16) (b a : Fin 512) :
    pr kt (rows (F := Ideal) (e := .bf16) q n h) (cols (F := Ideal) ls n h) b a = PR q kt ls b (rowOf n h a) := by
  unfold pr PR
  rw [cols_at]
  simp only [rows_at]

/-- The gradients of a row tile's scores. -/
theorem gr_rows (n : ℕ) (h : n < 16) (b a : Fin 512) :
    gr kt vt (rows (F := Ideal) (e := .bf16) q n h) (rows (F := Ideal) (e := .f32) d n h) (cols (F := Ideal) ls n h) (cols (F := Ideal) dl n h) b a
      = GR q kt vt d dl ls b (rowOf n h a) := by
  unfold gr GR
  rw [cols_at, pr_rows]
  simp only [rows_at]

variable (j : ℕ) (s : Carry Ideal)

/-- One more row tile. -/
theorem walk_succ (k : ℕ) (h : j + k + 1 < 16) :
    walkS q kt vt d dl ls j s (k + 1) = tileS q kt vt d dl ls (j + k + 1) h (walkS q kt vt d dl ls j s k) := by
  rw [walkS, dif_pos h]

/-- The sum over some tiles and the next one. -/
theorem join_tiles (f : ℕ → EReal) (k : ℕ) :
    (∑ i ∈ Finset.Ico (512 * (j + 1)) (512 * (j + 1 + k)), f i) + ∑ i ∈ Finset.Ico (512 * (j + k + 1)) (512 * (j + k + 1 + 1)), f i
      = ∑ i ∈ Finset.Ico (512 * (j + 1)) (512 * (j + 1 + (k + 1))), f i := by
  rw [show 512 * (j + k + 1) = 512 * (j + 1 + k) by omega, show 512 * (j + k + 1 + 1) = 512 * (j + 1 + (k + 1)) by omega]
  exact Finset.sum_Ico_consecutive f (by omega) (by omega)

/-- The key gradient along the walk. -/
theorem walk_dk (b : Fin 512) (l : Fin 128) : ∀ k, j + k < 16 → ((walkS q kt vt d dl ls j s k).1.1 (ix2 b l) : EReal)
    = s.1.1 (ix2 b l) + ∑ i ∈ Finset.Ico (512 * (j + 1)) (512 * (j + 1 + k)), upTo (fun i => GR q kt vt d dl ls b i * q (ix2 i l)) i
  | 0, _ => by
    rw [walkS, show 512 * (j + 1 + 0) = 512 * (j + 1) by omega, Finset.Ico_self, Finset.sum_empty, add_zero]
  | k + 1, h => by
    rw [walk_succ _ _ _ _ _ _ _ _ k (by omega), tileS]
    refine (pay9_at _ _ _ _ _ _ _ b l).trans ?_
    rw [walk_dk b l k (by omega), ← join_tiles j _ k, sum_tile _ (j + k + 1) (by omega), add_assoc]
    simp only [gr_rows, rows_at]

/-- The value gradient along the walk. -/
theorem walk_dv (b : Fin 512) (l : Fin 128) : ∀ k, j + k < 16 → ((walkS q kt vt d dl ls j s k).1.2 (ix2 b l) : EReal)
    = s.1.2 (ix2 b l) + ∑ i ∈ Finset.Ico (512 * (j + 1)) (512 * (j + 1 + k)), upTo (fun i => PR q kt ls b i * d (ix2 i l)) i
  | 0, _ => by
    rw [walkS, show 512 * (j + 1 + 0) = 512 * (j + 1) by omega, Finset.Ico_self, Finset.sum_empty, add_zero]
  | k + 1, h => by
    rw [walk_succ _ _ _ _ _ _ _ _ k (by omega), tileS]
    refine (pay10_at _ _ _ _ _ b l).trans ?_
    rw [walk_dv b l k (by omega), ← join_tiles j _ k, sum_tile _ (j + k + 1) (by omega), add_assoc]
    simp only [pr_rows, rows_at]

/-- A row lies in tile `n` at a row of it. -/
theorem row_in (n : ℕ) (h : n < 16) (i : Fin 8192) (hi : 512 * n ≤ i.val ∧ i.val < 512 * (n + 1)) : ∃ a : Fin 512, i = rowOf n h a :=
  ⟨⟨i.val - 512 * n, by omega⟩, Fin.ext (show i.val = 512 * n + (i.val - 512 * n) by omega)⟩

/-- The accumulated query gradient along the walk. -/
theorem walk_acc (i : Fin 8192) (l : Fin 128) : ∀ k, j + k < 16 → ((walkS q kt vt d dl ls j s k).2 (ix2 i l) : EReal)
    = s.2 (ix2 i l) + if 512 * (j + 1) ≤ i.val ∧ i.val < 512 * (j + 1 + k) then ∑ b : Fin 512, GR q kt vt d dl ls b i * kt (ix2 b l) else 0
  | 0, _ => by
    rw [walkS, if_neg (by omega), add_zero]
  | k + 1, h => by
    have ih := walk_acc i l k (by omega)
    rw [walk_succ _ _ _ _ _ _ _ _ k (by omega), tileS]
    by_cases hi : 512 * (j + k + 1) ≤ i.val ∧ i.val < 512 * (j + k + 1 + 1)
    · rw [if_neg (by omega), add_zero] at ih
      rw [if_pos (by omega)]
      obtain ⟨a, rfl⟩ := row_in (j + k + 1) (by omega) i hi
      refine (setRows_in _ _ (by omega) _ a l).trans ((pay8_at _ _ _ _ _ _ _ a l).trans ?_)
      rw [rows_at, ih]
      simp only [gr_rows]
    · refine (setRows_out _ _ _ i l hi).trans (ih.trans ?_)
      by_cases h' : 512 * (j + 1) ≤ i.val ∧ i.val < 512 * (j + 1 + k)
      · rw [if_pos h', if_pos (by omega)]
      · rw [if_neg h', if_neg (by omega)]

end

/-! ## A whole grid point -/

section
variable (q : FVec Ideal S8192x128 .bf16) (kt vt : FVec Ideal S512x128 .bf16) (d : FVec Ideal S8192x128 .f32) (j : ℕ) (h : j < 16) (s : Kept Ideal)

/-- Score gradients of the key tile under the causal mask. -/
def GM (b : Fin 512) (i : Fin 8192) : EReal := if 512 * j + b.val ≤ i.val then GR q kt vt d s.2.1 s.2.2 b i else 0

/-- Probabilities of the key tile under the causal mask. -/
def PM (b : Fin 512) (i : Fin 8192) : EReal := if 512 * j + b.val ≤ i.val then PR q kt s.2.2 b i else 0

/-- The mask, by the row of the array. -/
theorem mask_row (b a : Fin 512) : b.val ≤ a.val ↔ 512 * j + b.val ≤ (rowOf j h a).val := by
  show _ ↔ 512 * j + b.val ≤ 512 * j + a.val
  omega

/-- A sum over the diagonal tile and the tiles after it, over all rows. -/
theorem sum_masked (b : Fin 512) (f g : Fin 8192 → EReal) :
    (∑ a : Fin 512, (if 512 * j + b.val ≤ (rowOf j h a).val then f (rowOf j h a) else 0) * g (rowOf j h a))
      + ∑ i ∈ Finset.Ico (512 * (j + 1)) (512 * (j + 1 + (15 - j))), upTo (fun i => f i * g i) i
      = ∑ i : Fin 8192, (if 512 * j + b.val ≤ i.val then f i else 0) * g i := by
  have e : ∑ i ∈ Finset.Ico (512 * (j + 1)) (512 * (j + 1 + (15 - j))), upTo (fun i => f i * g i) i
      = ∑ i ∈ Finset.Ico (512 * (j + 1)) (512 * (j + 1 + (15 - j))), upTo (fun i => (if 512 * j + b.val ≤ i.val then f i else 0) * g i) i := by
    refine Finset.sum_congr rfl fun i hi => upTo_congr i fun x hx => ?_
    have := Finset.mem_Ico.mp hi
    have := b.isLt
    rw [if_pos (by omega)]
  rw [e, ← sum_tile (fun i => (if 512 * j + b.val ≤ i.val then f i else 0) * g i) j h, ← sum_all,
    Finset.sum_Ico_consecutive _ (by omega) (by omega), show 512 * (j + 1 + (15 - j)) = 8192 by omega,
    ← Finset.sum_range_add_sum_Ico _ (show 512 * j ≤ 8192 by omega)]
  symm
  refine (congrArg (· + _) (Finset.sum_eq_zero fun i hi => ?_)).trans (zero_add _)
  have hi' := Finset.mem_range.mp hi
  unfold upTo
  split
  · exact (congrArg (· * _) (if_neg (show ¬ 512 * j + b.val ≤ i by omega))).trans (zero_mul _)
  · rfl

/-- A point's keys' gradient. -/
theorem point_dk (b : Fin 512) (l : Fin 128) :
    ((pointS q kt vt d j h s).1.1 (ix2 b l) : EReal) = ∑ i : Fin 8192, GM q kt vt d j s b i * q (ix2 i l) := by
  unfold pointS GM
  rw [pay22_self, pay23_self]
  refine (walk_dk _ _ _ _ _ _ _ _ b l (15 - j) (by omega)).trans ?_
  rw [← sum_masked j h b]
  refine congrArg (· + _) ?_
  unfold diagS
  refine (diag_dk_at _ _ _ _ _ _ b l).trans (Finset.sum_congr rfl fun a _ => ?_)
  rw [gr_rows, rows_at]
  simp only [mask_row j h]

/-- A point's values' gradient. -/
theorem point_dv (b : Fin 512) (l : Fin 128) :
    ((pointS q kt vt d j h s).1.2 (ix2 b l) : EReal) = ∑ i : Fin 8192, PM q kt j s b i * d (ix2 i l) := by
  unfold pointS PM
  rw [pay22_self, pay23_self]
  refine (walk_dv _ _ _ _ _ _ _ _ b l (15 - j) (by omega)).trans ?_
  rw [← sum_masked j h b]
  refine congrArg (· + _) ?_
  unfold diagS
  refine (diag_dv_at _ _ _ _ b l).trans (Finset.sum_congr rfl fun a _ => ?_)
  rw [pr_rows, rows_at]
  simp only [mask_row j h]

/-- A point's step of the queries' gradient. -/
theorem point_acc (i : Fin 8192) (l : Fin 128) :
    ((pointS q kt vt d j h s).2 (ix2 i l) : EReal) = s.1 (ix2 i l) + ∑ b : Fin 512, GM q kt vt d j s b i * kt (ix2 b l) := by
  unfold pointS GM
  rw [pay22_self, pay23_self]
  refine (walk_acc _ _ _ _ _ _ _ _ i l (15 - j) (by omega)).trans ?_
  have hi8 := i.isLt
  unfold diagS
  by_cases hi : 512 * j ≤ i.val ∧ i.val < 512 * (j + 1)
  · rw [if_neg (by omega), add_zero]
    obtain ⟨a, rfl⟩ := row_in j h i hi
    refine (setRows_in _ _ h _ a l).trans ((diag_acc_at _ _ _ _ _ _ _ a l).trans ?_)
    rw [rows_at]
    simp only [gr_rows, mask_row j h]
  · refine (congrArg (· + _) (setRows_out _ _ _ i l hi)).trans (congrArg (_ + ·) ?_)
    by_cases hlt : i.val < 512 * j
    · rw [if_neg (by omega)]
      refine (Finset.sum_eq_zero fun b _ => ?_).symm
      rw [if_neg (by omega), zero_mul]
    · rw [if_pos (by omega)]
      refine Finset.sum_congr rfl fun b _ => ?_
      have := b.isLt
      rw [if_pos (by omega)]

end

end Cert.Fox
-- ==== Proof.Fox.Grid.lean ====
module

public import proofs.«01_k».proof.Proof.Fox.Walk
public import proofs.«01_k».proof.Proof.Fox.Run

@[expose] public section

set_option maxRecDepth 16384

noncomputable section

namespace Cert.Fox

open Idealize.ShloMosaic Idealize.ShloMosaic.TcCoe Idealize.ShloMosaic.Tactic Idealize.ShloMosaic.ValueIdx
open Cert.KernelIdeal Cert.KernelIdeal.Gen
open Idealize.ShloMosaic.Pipeline (Dat Cfg Window)

/-! ## A head's columns of an array -/

/-- Column `l` of head `h`. -/
def lane (h : Fin 4) (l : Fin 128) : Fin 512 := ⟨128 * h.val + l.val, by have := h.isLt; have := l.isLt; omega⟩

/-- The head a column belongs to. -/
def headOf (x : Fin 512) : Fin 4 := ⟨x.val / 128, by have := x.isLt; omega⟩

/-- The column within its head. -/
def laneOf (x : Fin 512) : Fin 128 := ⟨x.val % 128, by omega⟩

/-- A lane is its head and its place there. -/
theorem lane_split (x : Fin 512) : lane (headOf x) (laneOf x) = x :=
  Fin.ext (show 128 * (x.val / 128) + x.val % 128 = x.val by omega)

/-- A lane's head. -/
theorem headOf_lane (h : Fin 4) (l : Fin 128) : headOf (lane h l) = h :=
  Fin.ext (show (128 * h.val + l.val) / 128 = h.val by have := l.isLt; omega)

/-- A lane's place in its head. -/
theorem laneOf_lane (h : Fin 4) (l : Fin 128) : laneOf (lane h l) = l :=
  Fin.ext (show (128 * h.val + l.val) % 128 = l.val by have := l.isLt; omega)

/-- Head `h`'s columns. -/
def part {e : EltTy} (X : Vec Ideal S8192x512 e) (h : Fin 4) : Vec Ideal S8192x128 e := fun y => X (ix2 (y 0) (lane h (y 1)))

/-- A head's part, at an index. -/
theorem part_at {e : EltTy} (X : Vec Ideal S8192x512 e) (h : Fin 4) (i : Fin 8192) (l : Fin 128) : part X h (ix2 i l) = X (ix2 i (lane h l)) := rfl

/-- The head of a grid point. -/
def hd (t : Fin cfg0.N) : Fin 4 := ⟨t.val / 16, by have ht : t.val < 64 := Nat.lt_of_lt_of_eq t.isLt N_0; omega⟩

/-! ## The blocks of a grid point -/

/-- Where the block of the queries lies. -/
theorem index0 : ∀ t : Fin cfg0.N, win0_0.index t 0 = 0 ∧ win0_0.index t 1 = t.val / 16 := by decide +kernel
/-- Where the block of the keys lies. -/
theorem index1 : ∀ t : Fin cfg0.N, win0_1.index t 0 = t.val % 16 ∧ win0_1.index t 1 = t.val / 16 := by decide +kernel
/-- Where the block of the values lies. -/
theorem index2 : ∀ t : Fin cfg0.N, win0_2.index t 0 = t.val % 16 ∧ win0_2.index t 1 = t.val / 16 := by decide +kernel
/-- Where the block of the output gradients lies. -/
theorem index3 : ∀ t : Fin cfg0.N, win0_3.index t 0 = 0 ∧ win0_3.index t 1 = t.val / 16 := by decide +kernel
/-- Where the block of the saved outputs lies. -/
theorem index4 : ∀ t : Fin cfg0.N, win0_4.index t 0 = 0 ∧ win0_4.index t 1 = t.val / 16 := by decide +kernel
/-- Where the block of the queries' gradient lies. -/
theorem index5 : ∀ t : Fin cfg0.N, win0_5.index t 0 = 0 ∧ win0_5.index t 1 = t.val / 16 := by decide +kernel
/-- Where the block of the keys' gradient lies. -/
theorem index6 : ∀ t : Fin cfg0.N, win0_6.index t 0 = t.val % 16 ∧ win0_6.index t 1 = t.val / 16 := by decide +kernel
/-- Where the block of the values' gradient lies. -/
theorem index7 : ∀ t : Fin cfg0.N, win0_7.index t 0 = t.val % 16 ∧ win0_7.index t 1 = t.val / 16 := by decide +kernel

variable (m : (ℓ : Loc nD τ sig) → Buf (Elt Ideal) ℓ) (c : Dev nD)

/-- Two arrays of a head agree when their elements do. -/
theorem ext_head {e : EltTy} (x y : Vec Ideal S8192x128 e) (h : ∀ i l, x (ix2 i l) = y (ix2 i l)) : x = y :=
  funext fun z => (congrArg x (eq_ix2 z)).trans ((h (z 0) (z 1)).trans (congrArg y (eq_ix2 z)).symm)

/-- Two tiles agree when their elements do. -/
theorem ext_tile {e : EltTy} (x y : Vec Ideal S512x128 e) (h : ∀ b l, x (ix2 b l) = y (ix2 b l)) : x = y :=
  funext fun z => (congrArg x (eq_ix2 z)).trans ((h (z 0) (z 1)).trans (congrArg y (eq_ix2 z)).symm)

/-- Where the elements of the block of the queries lie. -/
theorem emb0 (t : Fin cfg0.N) (i : Fin 8192) (l : Fin 128) : (win0_0.rect t).emb (ix2 i l) = ix2 i (lane (hd t) l) :=
  funext fun a => Fin.ext (match a with
    | ⟨0, _⟩ => (Window.rect_emb_val win0_0 t (ix2 i l) 0).trans (by rw [(index0 t).1]; show 0 * 8192 + i.val = i.val; omega)
    | ⟨1, _⟩ => (Window.rect_emb_val win0_0 t (ix2 i l) 1).trans (by rw [(index0 t).2]; show t.val / 16 * 128 + l.val = 128 * (t.val / 16) + l.val; omega))

/-- Where the elements of the block of the output gradients lie. -/
theorem emb3 (t : Fin cfg0.N) (i : Fin 8192) (l : Fin 128) : (win0_3.rect t).emb (ix2 i l) = ix2 i (lane (hd t) l) :=
  funext fun a => Fin.ext (match a with
    | ⟨0, _⟩ => (Window.rect_emb_val win0_3 t (ix2 i l) 0).trans (by rw [(index3 t).1]; show 0 * 8192 + i.val = i.val; omega)
    | ⟨1, _⟩ => (Window.rect_emb_val win0_3 t (ix2 i l) 1).trans (by rw [(index3 t).2]; show t.val / 16 * 128 + l.val = 128 * (t.val / 16) + l.val; omega))

/-- Where the elements of the block of the saved outputs lie. -/
theorem emb4 (t : Fin cfg0.N) (i : Fin 8192) (l : Fin 128) : (win0_4.rect t).emb (ix2 i l) = ix2 i (lane (hd t) l) :=
  funext fun a => Fin.ext (match a with
    | ⟨0, _⟩ => (Window.rect_emb_val win0_4 t (ix2 i l) 0).trans (by rw [(index4 t).1]; show 0 * 8192 + i.val = i.val; omega)
    | ⟨1, _⟩ => (Window.rect_emb_val win0_4 t (ix2 i l) 1).trans (by rw [(index4 t).2]; show t.val / 16 * 128 + l.val = 128 * (t.val / 16) + l.val; omega))

/-- Where the elements of the block of the queries' gradient lie. -/
theorem emb5 (t : Fin cfg0.N) (i : Fin 8192) (l : Fin 128) : (win0_5.rect t).emb (ix2 i l) = ix2 i (lane (hd t) l) :=
  funext fun a => Fin.ext (match a with
    | ⟨0, _⟩ => (Window.rect_emb_val win0_5 t (ix2 i l) 0).trans (by rw [(index5 t).1]; show 0 * 8192 + i.val = i.val; omega)
    | ⟨1, _⟩ => (Window.rect_emb_val win0_5 t (ix2 i l) 1).trans (by rw [(index5 t).2]; show t.val / 16 * 128 + l.val = 128 * (t.val / 16) + l.val; omega))

/-- The tile of a grid point is one of sixteen. -/
theorem tile_lt (t : Fin cfg0.N) : t.val % 16 < 16 := Nat.mod_lt _ (by omega)

/-- Where the elements of the block of the keys lie. -/
theorem emb1 (t : Fin cfg0.N) (b : Fin 512) (l : Fin 128) : (win0_1.rect t).emb (ix2 b l) = ix2 (rowOf (t.val % 16) (tile_lt t) b) (lane (hd t) l) :=
  funext fun a => Fin.ext (match a with
    | ⟨0, _⟩ => (Window.rect_emb_val win0_1 t (ix2 b l) 0).trans (by rw [(index1 t).1]; show t.val % 16 * 512 + b.val = 512 * (t.val % 16) + b.val; omega)
    | ⟨1, _⟩ => (Window.rect_emb_val win0_1 t (ix2 b l) 1).trans (by rw [(index1 t).2]; show t.val / 16 * 128 + l.val = 128 * (t.val / 16) + l.val; omega))

/-- Where the elements of the block of the values lie. -/
theorem emb2 (t : Fin cfg0.N) (b : Fin 512) (l : Fin 128) : (win0_2.rect t).emb (ix2 b l) = ix2 (rowOf (t.val % 16) (tile_lt t) b) (lane (hd t) l) :=
  funext fun a => Fin.ext (match a with
    | ⟨0, _⟩ => (Window.rect_emb_val win0_2 t (ix2 b l) 0).trans (by rw [(index2 t).1]; show t.val % 16 * 512 + b.val = 512 * (t.val % 16) + b.val; omega)
    | ⟨1, _⟩ => (Window.rect_emb_val win0_2 t (ix2 b l) 1).trans (by rw [(index2 t).2]; show t.val / 16 * 128 + l.val = 128 * (t.val / 16) + l.val; omega))

/-- Where the elements of the block of the keys' gradient lie. -/
theorem emb6 (t : Fin cfg0.N) (b : Fin 512) (l : Fin 128) : (win0_6.rect t).emb (ix2 b l) = ix2 (rowOf (t.val % 16) (tile_lt t) b) (lane (hd t) l) :=
  funext fun a => Fin.ext (match a with
    | ⟨0, _⟩ => (Window.rect_emb_val win0_6 t (ix2 b l) 0).trans (by rw [(index6 t).1]; show t.val % 16 * 512 + b.val = 512 * (t.val % 16) + b.val; omega)
    | ⟨1, _⟩ => (Window.rect_emb_val win0_6 t (ix2 b l) 1).trans (by rw [(index6 t).2]; show t.val / 16 * 128 + l.val = 128 * (t.val / 16) + l.val; omega))

/-- Where the elements of the block of the values' gradient lie. -/
theorem emb7 (t : Fin cfg0.N) (b : Fin 512) (l : Fin 128) : (win0_7.rect t).emb (ix2 b l) = ix2 (rowOf (t.val % 16) (tile_lt t) b) (lane (hd t) l) :=
  funext fun a => Fin.ext (match a with
    | ⟨0, _⟩ => (Window.rect_emb_val win0_7 t (ix2 b l) 0).trans (by rw [(index7 t).1]; show t.val % 16 * 512 + b.val = 512 * (t.val % 16) + b.val; omega)
    | ⟨1, _⟩ => (Window.rect_emb_val win0_7 t (ix2 b l) 1).trans (by rw [(index7 t).2]; show t.val / 16 * 128 + l.val = 128 * (t.val / 16) + l.val; omega))

/-- What the block of the queries reads of an array. -/
theorem read0 (t : Fin cfg0.N) (G : Vec Ideal S8192x512 .bf16) : ((cfg0.win 0).blk t).view.read (Elt Ideal) G = part (e := .bf16) G (hd t) :=
  ext_head (e := .bf16) _ _ fun i l => congrArg G (emb0 t i l)

/-- What the block of the output gradients reads of an array. -/
theorem read3 (t : Fin cfg0.N) (G : Vec Ideal S8192x512 .f32) : ((cfg0.win 3).blk t).view.read (Elt Ideal) G = part (e := .f32) G (hd t) :=
  ext_head (e := .f32) _ _ fun i l => congrArg G (emb3 t i l)

/-- What the block of the saved outputs reads of an array. -/
theorem read4 (t : Fin cfg0.N) (G : Vec Ideal S8192x512 .f32) : ((cfg0.win 4).blk t).view.read (Elt Ideal) G = part (e := .f32) G (hd t) :=
  ext_head (e := .f32) _ _ fun i l => congrArg G (emb4 t i l)

/-- What the block of the queries' gradient reads of an array. -/
theorem read5 (t : Fin cfg0.N) (G : Vec Ideal S8192x512 .f32) : ((cfg0.win 5).blk t).view.read (Elt Ideal) G = part (e := .f32) G (hd t) :=
  ext_head (e := .f32) _ _ fun i l => congrArg G (emb5 t i l)

/-- What the block of the keys reads of an array. -/
theorem read1 (t : Fin cfg0.N) (G : Vec Ideal S8192x512 .bf16) : ((cfg0.win 1).blk t).view.read (Elt Ideal) G = rows (F := Ideal) (e := .bf16) (part (e := .bf16) G (hd t)) (t.val % 16) (tile_lt t) :=
  ext_tile (e := .bf16) _ _ fun b l => (congrArg G (emb1 t b l)).trans (rows_at (e := .bf16) (part (e := .bf16) G (hd t)) (t.val % 16) (tile_lt t) b l).symm

/-- What the block of the values reads of an array. -/
theorem read2 (t : Fin cfg0.N) (G : Vec Ideal S8192x512 .bf16) : ((cfg0.win 2).blk t).view.read (Elt Ideal) G = rows (F := Ideal) (e := .bf16) (part (e := .bf16) G (hd t)) (t.val % 16) (tile_lt t) :=
  ext_tile (e := .bf16) _ _ fun b l => (congrArg G (emb2 t b l)).trans (rows_at (e := .bf16) (part (e := .bf16) G (hd t)) (t.val % 16) (tile_lt t) b l).symm

/-- What the block of the keys' gradient reads of an array. -/
theorem read6 (t : Fin cfg0.N) (G : Vec Ideal S8192x512 .f32) : ((cfg0.win 6).blk t).view.read (Elt Ideal) G = rows (F := Ideal) (e := .f32) (part (e := .f32) G (hd t)) (t.val % 16) (tile_lt t) :=
  ext_tile (e := .f32) _ _ fun b l => (congrArg G (emb6 t b l)).trans (rows_at (e := .f32) (part (e := .f32) G (hd t)) (t.val % 16) (tile_lt t) b l).symm

/-- What the block of the values' gradient reads of an array. -/
theorem read7 (t : Fin cfg0.N) (G : Vec Ideal S8192x512 .f32) : ((cfg0.win 7).blk t).view.read (Elt Ideal) G = rows (F := Ideal) (e := .f32) (part (e := .f32) G (hd t)) (t.val % 16) (tile_lt t) :=
  ext_tile (e := .f32) _ _ fun b l => (congrArg G (emb7 t b l)).trans (rows_at (e := .f32) (part (e := .f32) G (hd t)) (t.val % 16) (tile_lt t) b l).symm

/-- The packed queries the region finds. -/
def qaA : Vec Ideal S8192x512 .bf16 := V m c main_v20
/-- The packed keys. -/
def kaA : Vec Ideal S8192x512 .bf16 := V m c main_v31
/-- The packed values. -/
def vaA : Vec Ideal S8192x512 .bf16 := V m c main_v36
/-- The packed output gradient. -/
def doA : Vec Ideal S8192x512 .f32 := V m c main_v84
/-- The packed output with its row normalisers. -/
def oA : Vec Ideal S8192x512 .f32 := V m c main_v80

/-- What a point finds of the queries. -/
theorem iblk0 (t : Fin cfg0.N) : iblk m c 0 t = part (e := .bf16) (qaA m c) (hd t) := read0 t (qaA m c)
/-- What a point finds of the keys. -/
theorem iblk1 (t : Fin cfg0.N) : iblk m c 1 t = rows (F := Ideal) (e := .bf16) (part (e := .bf16) (kaA m c) (hd t)) (t.val % 16) (tile_lt t) := read1 t (kaA m c)
/-- What a point finds of the values. -/
theorem iblk2 (t : Fin cfg0.N) : iblk m c 2 t = rows (F := Ideal) (e := .bf16) (part (e := .bf16) (vaA m c) (hd t)) (t.val % 16) (tile_lt t) := read2 t (vaA m c)
/-- What a point finds of the output gradients. -/
theorem iblk3 (t : Fin cfg0.N) : iblk m c 3 t = part (e := .f32) (doA m c) (hd t) := read3 t (doA m c)
/-- What a point finds of the saved outputs. -/
theorem iblk4 (t : Fin cfg0.N) : iblk m c 4 t = part (e := .f32) (oA m c) (hd t) := read4 t (oA m c)

/-! ## A head's gradients -/

/-- What a head keeps, with the accumulated query gradient `A`. -/
def keptOf (A d o : Vec Ideal S8192x128 .f32) : Kept Ideal := (A, k0_pay20 (F := Ideal) d o, k0_pay21 (F := Ideal) o)

section
variable (q k v : FVec Ideal S8192x128 .bf16) (d o : FVec Ideal S8192x128 .f32)

/-- The probability of key row `J` for query row `i`, under the causal mask. -/
def HP (J i : Fin 8192) : EReal :=
  if J.val ≤ i.val then Ideal.exp ((∑ l : Fin 128, (k (ix2 J l) : EReal) * q (ix2 i l)) - o (ix2 i 64)) else 0

/-- The gradient of that score. -/
def HG (J i : Fin 8192) : EReal :=
  if J.val ≤ i.val then Ideal.exp ((∑ l : Fin 128, (k (ix2 J l) : EReal) * q (ix2 i l)) - o (ix2 i 64))
    * ((∑ l : Fin 128, (v (ix2 J l) : EReal) * d (ix2 i l)) - ∑ l : Fin 128, (d (ix2 i l) : EReal) * o (ix2 i l)) else 0

/-- The query gradient of the first `n` key tiles. -/
def accUpTo (n : ℕ) (i : Fin 8192) (l : Fin 128) : EReal :=
  ∑ J ∈ Finset.range (512 * n), upTo (fun J => HG q k v d o J i * k (ix2 J l)) J

variable (j : ℕ) (h : j < 16) (A : Vec Ideal S8192x128 .f32)

/-- A gradient of a score, by the row of the array. -/
theorem gm_rows (b : Fin 512) (i : Fin 8192) :
    GM q (rows (F := Ideal) (e := .bf16) k j h) (rows (F := Ideal) (e := .bf16) v j h) d j (keptOf A d o) b i
      = HG q k v d o (rowOf j h b) i := by
  unfold GM GR PR HG keptOf
  refine if_congr Iff.rfl ?_ rfl
  simp only [rows_at]
  rw [pay20_at, pay21_at]

/-- A probability, by the row of the array. -/
theorem pm_rows (b : Fin 512) (i : Fin 8192) :
    PM q (rows (F := Ideal) (e := .bf16) k j h) j (keptOf A d o) b i = HP q k o (rowOf j h b) i := by
  unfold PM PR HP keptOf
  refine if_congr Iff.rfl ?_ rfl
  simp only [rows_at]
  rw [pay21_at]

/-- One point's step of the queries' gradient. -/
theorem head_acc (hA : ∀ i l, (A (ix2 i l) : EReal) = accUpTo q k v d o j i l) (i : Fin 8192) (l : Fin 128) :
    ((pointS q (rows (F := Ideal) (e := .bf16) k j h) (rows (F := Ideal) (e := .bf16) v j h) d j h (keptOf A d o)).2 (ix2 i l) : EReal)
      = accUpTo q k v d o (j + 1) i l := by
  refine (point_acc _ _ _ _ _ _ _ i l).trans ?_
  simp only [gm_rows, rows_at]
  rw [show (keptOf A d o).1 = A from rfl, hA]
  unfold accUpTo
  rw [← sum_tile (fun J => HG q k v d o J i * k (ix2 J l)) j h]
  exact Finset.sum_range_add_sum_Ico _ (by omega)

/-- One point's keys' gradient. -/
theorem head_dk (b : Fin 512) (l : Fin 128) :
    ((pointS q (rows (F := Ideal) (e := .bf16) k j h) (rows (F := Ideal) (e := .bf16) v j h) d j h (keptOf A d o)).1.1 (ix2 b l) : EReal)
      = ∑ i : Fin 8192, HG q k v d o (rowOf j h b) i * q (ix2 i l) := by
  refine (point_dk _ _ _ _ _ _ _ b l).trans ?_
  simp only [gm_rows]

/-- One point's values' gradient. -/
theorem head_dv (b : Fin 512) (l : Fin 128) :
    ((pointS q (rows (F := Ideal) (e := .bf16) k j h) (rows (F := Ideal) (e := .bf16) v j h) d j h (keptOf A d o)).1.2 (ix2 b l) : EReal)
      = ∑ i : Fin 8192, HP q k o (rowOf j h b) i * d (ix2 i l) := by
  refine (point_dv _ _ _ _ _ _ _ b l).trans ?_
  simp only [pm_rows]

end

/-! ## What the grid points compute -/

/-- The point as its row tiles one after the other. -/
theorem pointS_tile (q : Vec Ideal S8192x128 .bf16) (kt vt : Vec Ideal S512x128 .bf16) (d : Vec Ideal S8192x128 .f32) (s : Kept Ideal)
    (j j' : ℕ) (e : j = j') (h : j < 16) (h' : j' < 16) : pointS q kt vt d j h s = pointS q kt vt d j' h' s := by
  subst e
  rfl

/-- What grid point `t` computes, from its head's columns. -/
theorem carry_at (t : Fin cfg0.N) (s : Kept Ideal) : carryAt m c t s
    = pointS (part (e := .bf16) (qaA m c) (hd t)) (rows (F := Ideal) (e := .bf16) (part (e := .bf16) (kaA m c) (hd t)) (t.val % 16) (tile_lt t))
        (rows (F := Ideal) (e := .bf16) (part (e := .bf16) (vaA m c) (hd t)) (t.val % 16) (tile_lt t)) (part (e := .f32) (doA m c) (hd t)) (t.val % 16) (tile_lt t) s := by
  unfold carryAt
  rw [iblk0, iblk1, iblk2, iblk3]
  exact pointS_tile _ _ _ _ _ _ _ (coord1 t) _ _

/-- The query gradient of the first `n` key tiles of head `h`. -/
def accA (h : Fin 4) (n : ℕ) (i : Fin 8192) (l : Fin 128) : EReal :=
  accUpTo (part (e := .bf16) (qaA m c) h) (part (e := .bf16) (kaA m c) h) (part (e := .bf16) (vaA m c) h) (part (e := .f32) (doA m c) h) (part (e := .f32) (oA m c) h) n i l

/-- What grid point `n` starts from: its head's two rows, and the query gradient of the key tiles before. -/
theorem begin_at (n : ℕ) (hn : n < cfg0.N) :
    ∃ A : Vec Ideal S8192x128 .f32, beginAt m c n hn = keptOf A (part (e := .f32) (doA m c) (hd ⟨n, hn⟩)) (part (e := .f32) (oA m c) (hd ⟨n, hn⟩))
      ∧ ∀ i l, (A (ix2 i l) : EReal) = accA m c (hd ⟨n, hn⟩) (n % 16) i l := by
  have fresh : ∀ (t : Fin cfg0.N), t.val % 16 = 0 → ∀ i l, ((k0_pay19 (F := Ideal)) (ix2 i l) : EReal) = accA m c (hd t) (t.val % 16) i l := by
    intro t ht i l
    unfold accA accUpTo
    rw [ht, pay19_at, Nat.mul_zero, Finset.range_zero, Finset.sum_empty]
  induction n with
  | zero =>
    refine ⟨k0_pay19 (F := Ideal), ?_, fresh ⟨0, hn⟩ (Nat.zero_mod 16)⟩
    rw [beginAt, startS, iblk3, iblk4, keptOf]
  | succ n ih =>
    by_cases h0 : (n + 1) % 16 = 0
    · refine ⟨k0_pay19 (F := Ideal), ?_, fresh ⟨n + 1, hn⟩ h0⟩
      rw [beginAt, opened, if_pos ((coord1 ⟨n + 1, hn⟩).trans h0), startS, iblk3, iblk4, keptOf]
    · obtain ⟨A, e, hA⟩ := ih (Nat.lt_of_succ_lt hn)
      have eh : hd ⟨n + 1, hn⟩ = hd ⟨n, Nat.lt_of_succ_lt hn⟩ := Fin.ext (show (n + 1) / 16 = n / 16 by omega)
      have ej : (n + 1) % 16 = n % 16 + 1 := by omega
      rw [beginAt, opened, if_neg (fun h => h0 ((coord1 ⟨n + 1, hn⟩).symm.trans h)), leaveAt, e, eh, ej]
      refine ⟨_, rfl, fun i l => ?_⟩
      rw [carry_at]
      exact head_acc _ _ _ _ _ (n % 16) _ A hA i l

variable (t : Fin cfg0.N)

/-- The keys' gradient a point leaves. -/
theorem dk_at (b : Fin 512) (l : Fin 128) : ((carryAt m c t (beginAt m c t.val t.isLt)).1.1 (ix2 b l) : EReal)
    = ∑ i : Fin 8192, HG (part (e := .bf16) (qaA m c) (hd t)) (part (e := .bf16) (kaA m c) (hd t)) (part (e := .bf16) (vaA m c) (hd t)) (part (e := .f32) (doA m c) (hd t)) (part (e := .f32) (oA m c) (hd t)) (rowOf (t.val % 16) (tile_lt t) b) i
        * (part (e := .bf16) (qaA m c) (hd t) (ix2 i l) : EReal) := by
  obtain ⟨A, e, hA⟩ := begin_at m c t.val t.isLt
  rw [carry_at, e]
  exact head_dk _ _ _ _ _ _ _ A b l

/-- The values' gradient a point leaves. -/
theorem dv_at (b : Fin 512) (l : Fin 128) : ((carryAt m c t (beginAt m c t.val t.isLt)).1.2 (ix2 b l) : EReal)
    = ∑ i : Fin 8192, HP (part (e := .bf16) (qaA m c) (hd t)) (part (e := .bf16) (kaA m c) (hd t)) (part (e := .f32) (oA m c) (hd t)) (rowOf (t.val % 16) (tile_lt t) b) i
        * (part (e := .f32) (doA m c) (hd t) (ix2 i l) : EReal) := by
  obtain ⟨A, e, hA⟩ := begin_at m c t.val t.isLt
  rw [carry_at, e]
  exact head_dv _ _ _ _ _ _ _ A b l

/-- The queries' gradient behind a point. -/
theorem acc_at (i : Fin 8192) (l : Fin 128) : ((carryAt m c t (beginAt m c t.val t.isLt)).2 (ix2 i l) : EReal)
    = accA m c (hd t) (t.val % 16 + 1) i l := by
  obtain ⟨A, e, hA⟩ := begin_at m c t.val t.isLt
  rw [carry_at, e]
  exact head_acc _ _ _ _ _ _ _ A hA i l

/-! ## The three arrays the grid leaves -/

/-- Score gradients of head `h`. -/
def HGA (h : Fin 4) (J i : Fin 8192) : EReal :=
  HG (part (e := .bf16) (qaA m c) h) (part (e := .bf16) (kaA m c) h) (part (e := .bf16) (vaA m c) h) (part (e := .f32) (doA m c) h) (part (e := .f32) (oA m c) h) J i

/-- Probabilities of head `h`. -/
def HPA (h : Fin 4) (J i : Fin 8192) : EReal :=
  HP (part (e := .bf16) (qaA m c) h) (part (e := .bf16) (kaA m c) h) (part (e := .f32) (oA m c) h) J i

/-- The packed query gradient. -/
def dqA : Vec Ideal S8192x512 .f32 := fun y =>
  (∑ J : Fin 8192, HGA m c (headOf (y 1)) J (y 0) * (kaA m c (ix2 J (y 1)) : EReal)) * ((1 / 8 : ℝ) : EReal)

/-- The packed key gradient. -/
def dkA : Vec Ideal S8192x512 .f32 := fun y =>
  ∑ i : Fin 8192, HGA m c (headOf (y 1)) (y 0) i * (qaA m c (ix2 i (y 1)) : EReal)

/-- The packed value gradient. -/
def dvA : Vec Ideal S8192x512 .f32 := fun y =>
  ∑ i : Fin 8192, HPA m c (headOf (y 1)) (y 0) i * (doA m c (ix2 i (y 1)) : EReal)

/-- What a point writes of the queries' gradient. -/
theorem flushed5 (hf : (cfg0.win 5).flush t = true) : (dats m 0 c).flushed 5 t = ((cfg0.win 5).blk t).view.read (Elt Ideal) (dqA m c) := by
  rw [read5]
  show (dats m 0 c).after 5 t = _
  rw [after_5]
  refine ext_head (e := .f32) _ _ fun i l => ?_
  refine (pay18_at _ i l).trans ?_
  rw [acc_at, (flush0_5 t).mp hf]
  show _ = (∑ J : Fin 8192, HGA m c (headOf (lane (hd t) l)) J i * (kaA m c (ix2 J (lane (hd t) l)) : EReal)) * ((1 / 8 : ℝ) : EReal)
  rw [headOf_lane]
  refine congrArg (· * _) ?_
  exact sum_all _

/-- What a point writes of the keys' gradient. -/
theorem flushed6 : (dats m 0 c).flushed 6 t = ((cfg0.win 6).blk t).view.read (Elt Ideal) (dkA m c) := by
  rw [read6]
  show (dats m 0 c).after 6 t = _
  rw [after_6]
  refine ext_tile (e := .f32) _ _ fun b l => (dk_at m c t b l).trans ?_
  rw [rows_at]
  show _ = ∑ i : Fin 8192, HGA m c (headOf (lane (hd t) l)) (rowOf (t.val % 16) (tile_lt t) b) i * (qaA m c (ix2 i (lane (hd t) l)) : EReal)
  rw [headOf_lane]
  rfl

/-- What a point writes of the values' gradient. -/
theorem flushed7 : (dats m 0 c).flushed 7 t = ((cfg0.win 7).blk t).view.read (Elt Ideal) (dvA m c) := by
  rw [read7]
  show (dats m 0 c).after 7 t = _
  rw [after_7]
  refine ext_tile (e := .f32) _ _ fun b l => (dv_at m c t b l).trans ?_
  rw [rows_at]
  show _ = ∑ i : Fin 8192, HPA m c (headOf (lane (hd t) l)) (rowOf (t.val % 16) (tile_lt t) b) i * (doA m c (ix2 i (lane (hd t) l)) : EReal)
  rw [headOf_lane]
  rfl

/-- The last point of a head. -/
def lastOf (x : Fin 512) : Fin cfg0.N := ⟨16 * (x.val / 128) + 15, Nat.lt_of_lt_of_eq (by have := x.isLt; omega) N_0.symm⟩

/-- The last point of a head is that head's. -/
theorem hd_last (x : Fin 512) : hd (lastOf x) = headOf x :=
  Fin.ext (show (16 * (x.val / 128) + 15) / 16 = x.val / 128 by omega)

/-- The point of a key row and a head. -/
def pointOf (r : Fin 8192) (x : Fin 512) : Fin cfg0.N := ⟨16 * (x.val / 128) + r.val / 512, Nat.lt_of_lt_of_eq (by have := x.isLt; have := r.isLt; omega) N_0.symm⟩

/-- The point of an element is its head's. -/
theorem hd_point (r : Fin 8192) (x : Fin 512) : hd (pointOf r x) = headOf x :=
  Fin.ext (show (16 * (x.val / 128) + r.val / 512) / 16 = x.val / 128 by have := r.isLt; omega)

/-- The key row within its tile. -/
def within (r : Fin 8192) : Fin 512 := ⟨r.val % 512, by omega⟩

/-- The point of an element has its row. -/
theorem row_point (r : Fin 8192) (x : Fin 512) : rowOf ((pointOf r x).val % 16) (tile_lt _) (within r) = r :=
  Fin.ext (show 512 * ((16 * (x.val / 128) + r.val / 512) % 16) + r.val % 512 = r.val by have := r.isLt; omega)

/-- Some point writes each element of the queries' gradient. -/
theorem cover5_at (r : Fin 8192) (x : Fin 512) : ∃ t : Fin cfg0.N, (cfg0.win 5).flush t = true ∧ (ix2 r x : S8192x512.Idx) ∈ ((cfg0.win 5).blk t).view.set := by
  refine ⟨lastOf x, (flush0_5 _).mpr (show (16 * (x.val / 128) + 15) % 16 = 15 by omega), ?_⟩
  have e : ((cfg0.win 5).blk (lastOf x)).view.emb (ix2 r (laneOf x)) = ix2 r x :=
    (emb5 (lastOf x) r (laneOf x)).trans (by rw [hd_last, lane_split])
  have hm := ((cfg0.win 5).blk (lastOf x)).view.emb_mem_set (ix2 r (laneOf x))
  rwa [e] at hm

/-- Some point writes each element of the keys' gradient. -/
theorem cover6_at (r : Fin 8192) (x : Fin 512) : ∃ t : Fin cfg0.N, (cfg0.win 6).flush t = true ∧ (ix2 r x : S8192x512.Idx) ∈ ((cfg0.win 6).blk t).view.set := by
  refine ⟨pointOf r x, flush0_6 _, ?_⟩
  have e : ((cfg0.win 6).blk (pointOf r x)).view.emb (ix2 (within r) (laneOf x)) = ix2 r x :=
    (emb6 (pointOf r x) (within r) (laneOf x)).trans (by rw [hd_point, lane_split, row_point])
  have hm := ((cfg0.win 6).blk (pointOf r x)).view.emb_mem_set (ix2 (within r) (laneOf x))
  rwa [e] at hm

/-- Some point writes each element of the values' gradient. -/
theorem cover7_at (r : Fin 8192) (x : Fin 512) : ∃ t : Fin cfg0.N, (cfg0.win 7).flush t = true ∧ (ix2 r x : S8192x512.Idx) ∈ ((cfg0.win 7).blk t).view.set := by
  refine ⟨pointOf r x, flush0_7 _, ?_⟩
  have e : ((cfg0.win 7).blk (pointOf r x)).view.emb (ix2 (within r) (laneOf x)) = ix2 r x :=
    (emb7 (pointOf r x) (within r) (laneOf x)).trans (by rw [hd_point, lane_split, row_point])
  have hm := ((cfg0.win 7).blk (pointOf r x)).view.emb_mem_set (ix2 (within r) (laneOf x))
  rwa [e] at hm

/-- The points write all of the queries' gradient. -/
theorem cover5 (y : S8192x512.Idx) : ∃ t : Fin cfg0.N, (cfg0.win 5).flush t = true ∧ y ∈ ((cfg0.win 5).blk t).view.set :=
  (eq_ix2 y).symm ▸ cover5_at (y 0) (y 1)

/-- The points write all of the keys' gradient. -/
theorem cover6 (y : S8192x512.Idx) : ∃ t : Fin cfg0.N, (cfg0.win 6).flush t = true ∧ y ∈ ((cfg0.win 6).blk t).view.set :=
  (eq_ix2 y).symm ▸ cover6_at (y 0) (y 1)

/-- The points write all of the values' gradient. -/
theorem cover7 (y : S8192x512.Idx) : ∃ t : Fin cfg0.N, (cfg0.win 7).flush t = true ∧ y ∈ ((cfg0.win 7).blk t).view.set :=
  (eq_ix2 y).symm ▸ cover7_at (y 0) (y 1)

/-- The query gradient array after the grid. -/
theorem final5 : (dats m 0 c).arrAt 5 cfg0.N = dqA m c := Dat.arrAt_eq_of_cover (dats m 0 c) 5 (dqA m c) (flushed5 m c) cover5

/-- The key gradient array after the grid. -/
theorem final6 : (dats m 0 c).arrAt 6 cfg0.N = dkA m c := Dat.arrAt_eq_of_cover (dats m 0 c) 6 (dkA m c) (fun t _ => flushed6 m c t) cover6

/-- The value gradient array after the grid. -/
theorem final7 : (dats m 0 c).arrAt 7 cfg0.N = dvA m c := Dat.arrAt_eq_of_cover (dats m 0 c) 7 (dvA m c) (fun t _ => flushed7 m c t) cover7

end Cert.Fox
-- ==== Proof.Fox.Prefix.lean ====
module

public import proofs.«01_k».proof.Proof.Fox.Grid
public import proofs.«01_k».proof.Proof.Gen.ReferenceIdeal.Read

@[expose] public section

set_option maxRecDepth 16384

noncomputable section

namespace Cert.Fox

open Idealize.ShloMosaic Idealize.ShloMosaic.TcCoe Idealize.ShloMosaic.Tactic Idealize.ShloMosaic.ValueIdx
open Idealize.ShloMosaic.StableHlo
open Cert.KernelIdeal Cert.KernelIdeal.Gen

/-! ## What the host packs for the region, as terms of the arguments -/

/-- An array of all heads, unpacked. -/
abbrev Wide := FVec Ideal S8192x256 .f32
/-- The gates of all heads. -/
abbrev Gate := FVec Ideal S8192x4 .f32

/-- A column of ones. -/
def onesT : Gate := broadcastInDim S8192x4 ![] bcast_S_S8192x4 (constant S_ .f32 0x3F800000#32)
/-- The negated gates. -/
def negT (c : Gate) : Gate := Host.negf c
/-- The first of three parts of the negated gates. -/
def hiT (c : Gate) : Gate := extf .f32 (truncf .bf16 (negT c) bitsLt_bf16_f32) bitsLt_bf16_f32
/-- What the first part leaves. -/
def restT (c : Gate) : Gate := subf (negT c) (hiT c)
/-- The second part. -/
def midT (c : Gate) : Gate := extf .f32 (truncf .bf16 (restT c) bitsLt_bf16_f32) bitsLt_bf16_f32
/-- The third part. -/
def loT (c : Gate) : Gate := extf .f32 (truncf .bf16 (subf (restT c) (midT c)) bitsLt_bf16_f32) bitsLt_bf16_f32
/-- A column of eights. -/
def eightT : Gate := mulf onesT (broadcastInDim S8192x4 ![] bcast_S_S8192x4 (constant S_ .f32 0x41000000#32))

/-- Columns split into heads. -/
def splitT (x : Wide) : FVec Ideal S8192x4x64 .f32 := shapeCast _ x shapeCasts_S8192x256_S8192x4x64
/-- One number per head as a column. -/
def colT (x : Gate) : FVec Ideal S8192x4x1 .f32 := shapeCast _ x shapeCasts_S8192x4_S8192x4x1

/-- Zeros, `n` columns of a head. -/
abbrev zeroT (s : Shape) (h : S_.BroadcastsInDim s (![] : Fin 0 → Fin s.rank)) : FVec Ideal s .f32 := broadcastInDim s ![] h (constant S_ .f32 0x00000000#32)

/-- Heads of 64 columns and three more columns, filled up with zeros. -/
def pack3 (x : FVec Ideal S8192x4x64 .f32) (a b d : FVec Ideal S8192x4x1 .f32) : FVec Ideal S8192x512 .f32 :=
  shapeCast _ (concatenate S8192x4x128 2 [⟨S8192x4x64, x⟩, ⟨S8192x4x1, a⟩, ⟨S8192x4x1, b⟩, ⟨S8192x4x1, d⟩, ⟨S8192x4x61, zeroT _ bcast_S_S8192x4x61⟩]
    concatenates_S8192x4x64_S8192x4x1_S8192x4x1_S8192x4x1_S8192x4x61_S8192x4x128_d2) shapeCasts_S8192x4x128_S8192x512
/-- Heads of 64 columns and four more columns, filled up with zeros. -/
def pack4 (x : FVec Ideal S8192x4x64 .f32) (a b d e : FVec Ideal S8192x4x1 .f32) : FVec Ideal S8192x512 .f32 :=
  shapeCast _ (concatenate S8192x4x128 2 [⟨S8192x4x64, x⟩, ⟨S8192x4x1, a⟩, ⟨S8192x4x1, b⟩, ⟨S8192x4x1, d⟩, ⟨S8192x4x1, e⟩, ⟨S8192x4x60, zeroT _ bcast_S_S8192x4x60⟩]
    concatenates_S8192x4x64_S8192x4x1_S8192x4x1_S8192x4x1_S8192x4x1_S8192x4x60_S8192x4x128_d2) shapeCasts_S8192x4x128_S8192x512
/-- Heads of 64 columns, filled up with zeros. -/
def pack0 (x : FVec Ideal S8192x4x64 .f32) : FVec Ideal S8192x512 .f32 :=
  shapeCast _ (concatenate S8192x4x128 2 [⟨S8192x4x64, x⟩, ⟨S8192x4x64, zeroT _ bcast_S_S8192x4x64⟩]
    concatenates_S8192x4x64_S8192x4x64_S8192x4x128_d2) shapeCasts_S8192x4x128_S8192x512
/-- Heads of 64 columns and one more column, filled up with zeros. -/
def pack1 (x : FVec Ideal S8192x4x64 .f32) (a : FVec Ideal S8192x4x1 .f32) : FVec Ideal S8192x512 .f32 :=
  shapeCast _ (concatenate S8192x4x128 2 [⟨S8192x4x64, x⟩, ⟨S8192x4x1, a⟩, ⟨S8192x4x63, zeroT _ bcast_S_S8192x4x63⟩]
    concatenates_S8192x4x64_S8192x4x1_S8192x4x63_S8192x4x128_d2) shapeCasts_S8192x4x128_S8192x512

/-- The packed queries. -/
def qaT (q : Wide) : FVec Ideal S8192x512 .bf16 :=
  truncf .bf16 (pack3 (splitT (mulf q (broadcastInDim S8192x256 ![] bcast_S_S8192x256 (constant S_ .f32 0x3E000000#32)))) (colT onesT) (colT onesT) (colT onesT)) bitsLt_bf16_f32
/-- The packed keys. -/
def kaT (k : Wide) (c : Gate) : FVec Ideal S8192x512 .bf16 :=
  truncf .bf16 (pack4 (splitT k) (colT (hiT c)) (colT (midT c)) (colT (loT c)) (colT eightT)) bitsLt_bf16_f32
/-- The packed values. -/
def vaT (v : Wide) : FVec Ideal S8192x512 .bf16 := truncf .bf16 (pack0 (splitT v)) bitsLt_bf16_f32
/-- The packed output gradient. -/
def doT (d : Wide) : FVec Ideal S8192x512 .f32 := pack0 (splitT d)

/-- The masked scores: the reference's own. -/
abbrev sT (q k : Wide) (c : Gate) : FVec Ideal S4x8192x8192 .f32 := Cert.ReferenceIdeal.Read.val_main_v20_0 (F := Ideal) q k c
/-- A number per row, along the row. -/
def alongT (x : FVec Ideal S4x8192 .f32) : FVec Ideal S4x8192x8192 .f32 :=
  broadcastInDim S4x8192x8192 ![0, 1, 2] bcast_S4x8192x1_S4x8192x8192_0_1_2 (broadcastInDim S4x8192x1 ![0, 1] bcast_S4x8192_S4x8192x1_0_1 x)
/-- The row maxima of scores. -/
def maxOf (s : FVec Ideal S4x8192x8192 .f32) : FVec Ideal S4x8192 .f32 :=
  Host.reduce FloatOps.maximumf s (constant S_ .f32 0xFF800000#32) reducesTo_S4x8192x8192_S4x8192_d2 h_S_
/-- The exponentials of the scores below their row maximum. -/
def expOf (s : FVec Ideal S4x8192x8192 .f32) : FVec Ideal S4x8192x8192 .f32 := Host.exp (subf s (alongT (maxOf s)))
/-- Their row sums. -/
def sumOf (s : FVec Ideal S4x8192x8192 .f32) : FVec Ideal S4x8192 .f32 :=
  Host.reduceAdd (expOf s) (constant S_ .f32 0x00000000#32) reducesTo_S4x8192x8192_S4x8192_d2 h_S_
/-- The attention's output. -/
def outOf (s : FVec Ideal S4x8192x8192 .f32) (v : Wide) : Wide :=
  shapeCast _ (transpose S8192x4x64 [1, 0, 2] (Host.dotGeneral dot_S4x8192x8192_S4x8192x64_S4x8192x64_2_1_1_2_0_0 none (Host.divf (expOf s) (alongT (sumOf s)))
    (transpose S4x8192x64 [1, 0, 2] (splitT v) transposes_S8192x4x64_S4x8192x64_1_0_2)) transposes_S4x8192x64_S8192x4x64_1_0_2) shapeCasts_S8192x4x64_S8192x256
/-- The row normalisers. -/
def lseOf (s : FVec Ideal S4x8192x8192 .f32) (c : Gate) : Gate :=
  subf (transpose S8192x4 [1, 0] (addf (maxOf s) (Host.log (sumOf s))) transposes_S4x8192_S8192x4_1_0) c

variable (m : (ℓ : Loc nD τ sig) → Buf (Elt Ideal) ℓ) (c : Dev nD)

/-- The queries. -/
abbrev argQ : Wide := m ((c : Thread nD τ).loc main_arg0)
/-- The keys. -/
abbrev argK : Wide := m ((c : Thread nD τ).loc main_arg1)
/-- The values. -/
abbrev argV : Wide := m ((c : Thread nD τ).loc main_arg2)
/-- The gates. -/
abbrev argC : Gate := m ((c : Thread nD τ).loc main_arg3)
/-- The output gradient. -/
abbrev argD : Wide := m ((c : Thread nD τ).loc main_arg4)

/-- The packed queries, from the arguments. -/
theorem qa_read : qaA m c = qaT (argQ m c) := by
  unfold qaA
  show StableHlo.after (List.flatten [hostOps0, hostOps0_1, hostOps0_2]) (fun b => m (c, b)) (Proc.devRef .tc main_v20) = _
  simp only [hostOps0, hostOps0_1, hostOps0_2, List.flatten_cons, List.flatten_nil, List.append_nil, List.cons_append, List.nil_append, TRef.nullary, TRef.ternary, TRef.unary, TRef.toBuf, TRef.ofBuf, cast_eq]
  after_results_simp
  rfl

/-- The packed keys, from the arguments. -/
theorem ka_read : kaA m c = kaT (argK m c) (argC m c) := by
  unfold kaA
  show StableHlo.after (List.flatten [hostOps0, hostOps0_1, hostOps0_2]) (fun b => m (c, b)) (Proc.devRef .tc main_v31) = _
  simp only [hostOps0, hostOps0_1, hostOps0_2, List.flatten_cons, List.flatten_nil, List.append_nil, List.cons_append, List.nil_append, TRef.nullary, TRef.ternary, TRef.unary, TRef.toBuf, TRef.ofBuf, cast_eq]
  after_results_simp
  rfl

/-- The packed values, from the arguments. -/
theorem va_read : vaA m c = vaT (argV m c) := by
  unfold vaA
  show StableHlo.after (List.flatten [hostOps0, hostOps0_1, hostOps0_2]) (fun b => m (c, b)) (Proc.devRef .tc main_v36) = _
  simp only [hostOps0, hostOps0_1, hostOps0_2, List.flatten_cons, List.flatten_nil, List.append_nil, List.cons_append, List.nil_append, TRef.nullary, TRef.ternary, TRef.unary, TRef.toBuf, TRef.ofBuf, cast_eq]
  after_results_simp
  rfl

/-- The packed output gradients, from the arguments. -/
theorem do_read : doA m c = doT (argD m c) := by
  unfold doA
  show StableHlo.after (List.flatten [hostOps0, hostOps0_1, hostOps0_2]) (fun b => m (c, b)) (Proc.devRef .tc main_v84) = _
  simp only [hostOps0, hostOps0_1, hostOps0_2, List.flatten_cons, List.flatten_nil, List.append_nil, List.cons_append, List.nil_append, TRef.nullary, TRef.ternary, TRef.unary, TRef.toBuf, TRef.ofBuf, cast_eq]
  after_results_simp
  rfl

/-- The packed output from the scores. -/
def oOf (s : FVec Ideal S4x8192x8192 .f32) (v : Wide) (c : Gate) : FVec Ideal S8192x512 .f32 :=
  pack1 (splitT (outOf s v)) (colT (lseOf s c))

/-- The packing of the saved outputs, from what comes before it. -/
theorem o_pack (W : Valuation τ sig (Elt Ideal)) : StableHlo.after (hostOps0_2.drop 24) W (Proc.devRef .tc main_v80)
    = (shapeCast _ (concatenate S8192x4x128 2 [⟨S8192x4x64, (W (Proc.devRef .tc main_v76) : FVec Ideal S8192x4x64 .f32)⟩, ⟨S8192x4x1, (W (Proc.devRef .tc main_v77) : FVec Ideal S8192x4x1 .f32)⟩, ⟨S8192x4x63, (W (Proc.devRef .tc main_v78) : FVec Ideal S8192x4x63 .f32)⟩]
    concatenates_S8192x4x64_S8192x4x1_S8192x4x63_S8192x4x128_d2) shapeCasts_S8192x4x128_S8192x512 : FVec Ideal S8192x512 .f32) := by
  simp only [hostOps0_2, List.drop_succ_cons, List.drop_zero]
  after_results_simp
  rfl

/-- The outputs, from the scores. -/
theorem o_out (W : Valuation τ sig (Elt Ideal)) : StableHlo.after (hostOps0_2.take 24) W (Proc.devRef .tc main_v76)
    = splitT (outOf (W (Proc.devRef .tc main_v57)) (W (Proc.devRef .tc main_arg2))) := by
  simp only [hostOps0_2, List.take_succ_cons, List.take_zero]
  after_results_simp
  rfl

/-- The row normalisers, from the scores. -/
theorem o_lse (W : Valuation τ sig (Elt Ideal)) : StableHlo.after (hostOps0_2.take 24) W (Proc.devRef .tc main_v77)
    = colT (lseOf (W (Proc.devRef .tc main_v57)) (W (Proc.devRef .tc main_arg3))) := by
  simp only [hostOps0_2, List.take_succ_cons, List.take_zero]
  after_results_simp
  rfl

/-- The zeros of the packing. -/
theorem o_zero (W : Valuation τ sig (Elt Ideal)) : StableHlo.after (hostOps0_2.take 24) W (Proc.devRef .tc main_v78)
    = zeroT S8192x4x63 bcast_S_S8192x4x63 := by
  simp only [hostOps0_2, List.take_succ_cons, List.take_zero]
  after_results_simp

/-- The packed saved outputs, from the scores. -/
theorem o_tail (W : Valuation τ sig (Elt Ideal)) : StableHlo.after hostOps0_2 W (Proc.devRef .tc main_v80)
    = oOf (W (Proc.devRef .tc main_v57)) (W (Proc.devRef .tc main_arg2)) (W (Proc.devRef .tc main_arg3)) := by
  show StableHlo.after (hostOps0_2.take 24 ++ hostOps0_2.drop 24) W (Proc.devRef .tc main_v80) = _
  rw [StableHlo.after_append, o_pack, o_out, o_lse, o_zero]
  rfl

/-- The scores, from the arguments. -/
theorem s_head : StableHlo.after (hostOps0 ++ hostOps0_1) (fun b => m (c, b)) (Proc.devRef .tc main_v57) = sT (argQ m c) (argK m c) (argC m c) := by
  simp only [hostOps0, hostOps0_1, List.append_nil, List.cons_append, List.nil_append, TRef.nullary, TRef.ternary, TRef.unary, TRef.toBuf, TRef.ofBuf, cast_eq]
  after_results_simp
  rfl

/-- The scores leave the values alone. -/
theorem v_head : StableHlo.after (hostOps0 ++ hostOps0_1) (fun b => m (c, b)) (Proc.devRef .tc main_arg2) = argV m c := by
  simp only [hostOps0, hostOps0_1, List.append_nil, List.cons_append, List.nil_append, TRef.nullary, TRef.ternary, TRef.unary, TRef.toBuf, TRef.ofBuf, cast_eq]
  after_results_simp

/-- The scores leave the gates alone. -/
theorem c_head : StableHlo.after (hostOps0 ++ hostOps0_1) (fun b => m (c, b)) (Proc.devRef .tc main_arg3) = argC m c := by
  simp only [hostOps0, hostOps0_1, List.append_nil, List.cons_append, List.nil_append, TRef.nullary, TRef.ternary, TRef.unary, TRef.toBuf, TRef.ofBuf, cast_eq]
  after_results_simp

/-- The packed saved outputs, from the arguments. -/
theorem o_read : oA m c = oOf (sT (argQ m c) (argK m c) (argC m c)) (argV m c) (argC m c) := by
  unfold oA
  show StableHlo.after ((hostOps0 ++ hostOps0_1) ++ hostOps0_2) (fun b => m (c, b)) (Proc.devRef .tc main_v80) = _
  rw [StableHlo.after_append, o_tail, s_head, v_head, c_head]

end Cert.Fox
-- ==== Proof.Fox.Reference.lean ====
module

public import proofs.«01_k».proof.Proof.Gen.ReferenceIdeal.Read
public import Idealize.ShloMosaic.Lib.IdealHost
public import Idealize.ShloMosaic.Lib.WordCmp
public import Idealize.ShloMosaic.Lib.ValueIdx
public import Idealize.ShloMosaic.Lib.Pipeline.Value

@[expose] public section

set_option maxRecDepth 16384

noncomputable section

/-! # The reference's values, element by element -/

namespace Cert.Fox

open Idealize.ShloMosaic Idealize.ShloMosaic.TcCoe Idealize.ShloMosaic.ValueIdx
open Cert.ReferenceIdeal Cert.ReferenceIdeal.Gen Cert.ReferenceIdeal.Read

/-- Two indices of three coordinates agree when their coordinates do. -/
theorem idx_ext₃ {n : Fin 3 → ℕ} {x y : (a : Fin 3) → Fin (n a)} (h0 : (x 0 : ℕ) = y 0) (h1 : (x 1 : ℕ) = y 1) (h2 : (x 2 : ℕ) = y 2) : x = y :=
  funext fun a => Fin.ext <| match a with | ⟨0, _⟩ => h0 | ⟨1, _⟩ => h1 | ⟨2, _⟩ => h2

/-- A function at an index equal to one where its value is known. -/
theorem via {α β : Type} (f : α → β) {x y : α} {z : β} (h : x = y) (e : f y = z) : f x = z := h ▸ e

/-- Column `d` of head `h` among the 256 columns. -/
def col (h : Fin 4) (d : Fin 64) : Fin 256 := ⟨64 * h.val + d.val, by have := h.isLt; have := d.isLt; omega⟩

/-- The head of a column. -/
def colHead (x : Fin 256) : Fin 4 := ⟨x.val / 64, by have := x.isLt; omega⟩
/-- The place of a column in its head. -/
def colPlace (x : Fin 256) : Fin 64 := ⟨x.val % 64, by omega⟩

/-- A column is its head and its place there. -/
theorem col_split (x : Fin 256) : col (colHead x) (colPlace x) = x :=
  Fin.ext (show 64 * (x.val / 64) + x.val % 64 = x.val by omega)

variable (q k v d : FVec Ideal S8192x256 .f32) (c : FVec Ideal S8192x4 .f32)
variable (h : Fin 4) (i j : Fin 8192) (l : Fin 64)

/-- The reference's queries, by head. -/
theorem ref_q : val_main_v1 (F := Ideal) q (ix3 h i l) = q (ix2 i (col h l)) :=
  (val_main_v1_apply (F := Ideal) q _).trans ((val_main_v0_apply (F := Ideal) q _).trans (congrArg q (Shape.idx_ext₂
    (by show ((i.val * 4 + h.val) * 64 + l.val) / 256 = i.val; have := h.isLt; have := l.isLt; omega)
    (by show ((i.val * 4 + h.val) * 64 + l.val) % 256 = 64 * h.val + l.val; have := h.isLt; have := l.isLt; omega))))

/-- The reference's keys, by head. -/
theorem ref_k : val_main_v3 (F := Ideal) k (ix3 h i l) = k (ix2 i (col h l)) := ref_q k h i l
/-- The reference's values, by head. -/
theorem ref_v : val_main_v50 (F := Ideal) v (ix3 h i l) = v (ix2 i (col h l)) := ref_q v h i l
/-- The reference's output gradients, by head. -/
theorem ref_d : val_main_v55 (F := Ideal) d (ix3 h i l) = d (ix2 i (col h l)) := ref_q d h i l

/-- The reference's gates, by head. -/
theorem ref_c : val_main_v4 (F := Ideal) c (ix2 h i) = c (ix2 i h) :=
  (val_main_v4_apply (F := Ideal) c _).trans (congrArg c (Shape.idx_ext₂ rfl rfl))

/-- One eighth, from its bits. -/
theorem ref_eighth : Ideal.ofBits .f32 0x3E000000#32 = ((1 / 8 : ℝ) : EReal) := by
  simp [Ideal.ofBits, Ideal.ieee, -EReal.coe_mul]
  norm_num

/-- Minus infinity, from its bits. -/
theorem ref_none : Ideal.ofBits .f32 0xFF800000#32 = ⊥ := by
  simp [Ideal.ofBits, Ideal.ieee]

/-- Queries against keys. -/
theorem ref_dot : (val_main_v6 (F := Ideal) q k (ix3 h i j) : EReal) = ∑ l : Fin 64, (q (ix2 i (col h l)) : EReal) * k (ix2 j (col h l)) :=
  (val_main_v6_apply q k _).trans (Finset.sum_congr rfl fun l _ => congrArg₂ (fun a b : EReal => a * b)
    (via (val_main_v1 (F := Ideal) q) (idx_ext₃ rfl rfl rfl) (ref_q q h i l))
    (via (val_main_v3 (F := Ideal) k) (idx_ext₃ rfl rfl rfl) (ref_k k h j l)))

/-- The score of key row `j` for query row `i` before the mask. -/
def rawS : EReal := ((∑ l : Fin 64, (q (ix2 i (col h l)) : EReal) * k (ix2 j (col h l))) * ((1 / 8 : ℝ) : EReal) + c (ix2 i h)) - c (ix2 j h)

/-- The scores before the mask. -/
theorem ref_raw : (val_main_v14 (F := Ideal) q k c (ix3 h i j) : EReal) = rawS q k c h i j := by
  have e8 : (val_main_v8 (F := Ideal) q k (ix3 h i j) : EReal) = (∑ l : Fin 64, (q (ix2 i (col h l)) : EReal) * k (ix2 j (col h l))) * ((1 / 8 : ℝ) : EReal) :=
    congrArg₂ (fun a b : EReal => a * b) (ref_dot q k h i j) ((val_main_v7_apply (F := Ideal) (ix3 h i j)).trans ref_eighth)
  have e10 : (val_main_v10 (F := Ideal) c (ix3 h i j) : EReal) = c (ix2 i h) :=
    (val_main_v10_apply (F := Ideal) c _).trans ((val_main_v9_apply (F := Ideal) c _).trans (via (val_main_v4 (F := Ideal) c) (Shape.idx_ext₂ (y := ix2 h i) rfl rfl) (ref_c c h i)))
  have e13 : (val_main_v13 (F := Ideal) c (ix3 h i j) : EReal) = c (ix2 j h) :=
    (val_main_v13_apply (F := Ideal) c _).trans ((val_main_v12_apply (F := Ideal) c _).trans (via (val_main_v4 (F := Ideal) c) (Shape.idx_ext₂ (y := ix2 h j) rfl rfl) (ref_c c h j)))
  exact congrArg₂ (fun a b : EReal => a - b) (congrArg₂ (fun a b : EReal => a + b) e8 e10) e13

/-- The causal mask. -/
theorem ref_mask : val_main_v20_1 (F := Ideal) (ix3 h i j) = BitVec.ofBool (decide (j.val ≤ i.val)) := by
  have e : val_main_v20_1 (F := Ideal) (ix3 h i j) = IntOp.cmpi .sge (BitVec.ofNat 32 i.val) (BitVec.ofNat 32 j.val) := by
    refine (val_main_v20_1_apply (F := Ideal) _).trans ((val_main_v19_apply (F := Ideal) _).trans ?_)
    refine congrArg₂ (IntOp.cmpi .sge) ?_ ?_
    · exact (val_main_v17_apply (F := Ideal) _).trans ((val_main_v15_apply (F := Ideal) _).trans (val_main_v5_apply (F := Ideal) _))
    · exact (val_main_v18_apply (F := Ideal) _).trans ((val_main_v16_apply (F := Ideal) _).trans (val_main_v5_apply (F := Ideal) _))
  rw [e]
  exact WordCmp.cmpi_sge_ofNat (by have := i.isLt; omega) (by have := j.isLt; omega)

/-- The masked scores. -/
theorem ref_s : (val_main_v20_0 (F := Ideal) q k c (ix3 h i j) : EReal) = if j.val ≤ i.val then rawS q k c h i j else ⊥ := by
  have e : (val_main_call0_v2 (F := Ideal) (ix3 h i j) : EReal) = ⊥ := (val_main_call0_v2_apply (F := Ideal) _).trans ref_none
  refine (val_main_v20_0_apply (F := Ideal) q k c _).trans ?_
  refine (congrArg (fun b => Scalar.select b (val_main_v14 (F := Ideal) q k c (ix3 h i j)) (val_main_call0_v2 (F := Ideal) (ix3 h i j))) (ref_mask h i j)).trans ?_
  refine (WordCmp.select_decide _ _ _).trans ?_
  exact if_congr Iff.rfl (ref_raw q k c h i j) e

/-- Zero, from its bits. -/
theorem ref_zero : Ideal.ofBits .f32 0x00000000#32 = 0 := by
  simp [Ideal.ofBits, Ideal.ieee]

/-- One, from its bits. -/
theorem ref_one : Ideal.ofBits .f32 0x3F800000#32 = ((1 : ℝ) : EReal) := by
  simp [Ideal.ofBits, Ideal.ieee, -EReal.coe_mul]
  norm_num

/-- The largest score of a query row. -/
theorem ref_max : (val_main_v21 (F := Ideal) q k c (ix2 h i) : EReal)
    = (Finset.univ : Finset (Fin 8192)).fold max ⊥ fun j => (val_main_v20_0 (F := Ideal) q k c (ix3 h i j) : EReal) := by
  unfold val_main_v21
  generalize val_main_v20_0 (F := Ideal) q k c = y
  refine (Host.reduce_eq_fold_single (FloatOps.maximumf (F := Ideal)) y (val_main_cst_1 (F := Ideal)) reducesTo_S4x8192x8192_S4x8192_d2 (by decide) h_S_ (ix2 h i)).trans ?_
  have e : (val_main_cst_1 (F := Ideal) (Shape.Idx.first h_S_) : EReal) = ⊥ := ref_none
  refine (congrArg (fun b : EReal => (Finset.univ : Finset (Fin 8192)).fold max b _) e).trans ?_
  refine congrArg (fun g : Fin 8192 → EReal => (Finset.univ : Finset (Fin 8192)).fold max ⊥ g) (funext fun j => ?_)
  exact congrArg y (idx_ext₃ rfl rfl rfl)

/-- The maximum with −∞ changes nothing. -/
theorem ref_top : (val_main_v28 (F := Ideal) q k c) = val_main_v21 (F := Ideal) q k c := by
  funext x
  have e : (val_main_v27 (F := Ideal) x : EReal) = ⊥ := (val_main_v27_apply (F := Ideal) x).trans ref_none
  refine (val_main_v28_apply (F := Ideal) q k c x).trans ?_
  exact (congrArg (fun b : EReal => max b (val_main_v21 (F := Ideal) q k c x)) e).trans (max_eq_right bot_le)

/-- The exponentials. -/
theorem ref_e : (val_main_v41 (F := Ideal) q k c (ix3 h i j) : EReal)
    = Ideal.exp ((val_main_v20_0 (F := Ideal) q k c (ix3 h i j) : EReal) - val_main_v21 (F := Ideal) q k c (ix2 h i)) := by
  refine (val_main_v41_apply (F := Ideal) q k c _).trans ((congrArg Ideal.exp ?_))
  refine (val_main_v40_apply (F := Ideal) q k c _).trans (congrArg (fun b : EReal => (val_main_v20_0 (F := Ideal) q k c (ix3 h i j) : EReal) - b) ?_)
  refine (val_main_v39_apply (F := Ideal) q k c _).trans ((val_main_v38_apply (F := Ideal) q k c _).trans ?_)
  rw [ref_top]
  exact congrArg (val_main_v21 (F := Ideal) q k c) (Shape.idx_ext₂ (y := ix2 h i) rfl rfl)

/-- A row's sum of exponentials. -/
theorem ref_sum : (val_main_v42 (F := Ideal) q k c (ix2 h i) : EReal) = ∑ j : Fin 8192, (val_main_v41 (F := Ideal) q k c (ix3 h i j) : EReal) := by
  refine (val_main_v42_apply q k c _).trans ?_
  refine (congrArg (fun b : EReal => b + _) (show (val_main_cst_9 (F := Ideal) (Shape.Idx.first h_S_) : EReal) = 0 from ref_zero)).trans ((zero_add _).trans ?_)
  exact Finset.sum_congr rfl fun j _ => congrArg (val_main_v41 (F := Ideal) q k c) (idx_ext₃ rfl rfl rfl)

/-- A row's sum, as a column. -/
theorem ref_sum_col (z : Fin 1) : (val_main_v43 (F := Ideal) q k c (ix3 h i z) : EReal) = val_main_v42 (F := Ideal) q k c (ix2 h i) :=
  (val_main_v43_apply (F := Ideal) q k c _).trans (congrArg (val_main_v42 (F := Ideal) q k c) (Shape.idx_ext₂ (y := ix2 h i) rfl rfl))

/-- The probabilities. -/
theorem ref_p : (val_main_v45 (F := Ideal) q k c (ix3 h i j) : EReal)
    = Ideal.div (val_main_v41 (F := Ideal) q k c (ix3 h i j)) (val_main_v42 (F := Ideal) q k c (ix2 h i)) := by
  refine (val_main_v45_apply (F := Ideal) q k c _).trans (congrArg (fun b : EReal => Ideal.div (val_main_v41 (F := Ideal) q k c (ix3 h i j)) b) ?_)
  exact (val_main_v44_apply (F := Ideal) q k c _).trans (via (val_main_v43 (F := Ideal) q k c) (idx_ext₃ (y := ix3 h i 0) rfl rfl rfl) (ref_sum_col q k c h i 0))

/-- The reciprocal of a row's squared sum. -/
theorem ref_inv : (val_main_v61 (F := Ideal) q k c (ix3 h i j) : EReal)
    = Ideal.div ((1 : ℝ) : EReal) ((val_main_v42 (F := Ideal) q k c (ix2 h i) : EReal) * val_main_v42 (F := Ideal) q k c (ix2 h i)) := by
  refine (val_main_v61_apply (F := Ideal) q k c _).trans (via (val_main_v48 (F := Ideal) q k c) (idx_ext₃ (y := ix3 h i 0) rfl rfl rfl) ?_)
  refine (val_main_v48_apply (F := Ideal) q k c _).trans (congrArg₂ Ideal.div ((val_main_v47_apply (F := Ideal) _).trans ref_one) ?_)
  exact (val_main_v46_apply (F := Ideal) q k c _).trans (congrArg₂ (fun a b : EReal => a * b) (ref_sum_col q k c h i 0) (ref_sum_col q k c h i 0))

/-- Output gradients against values. -/
theorem ref_dp : (val_main_v58 (F := Ideal) v d (ix3 h i j) : EReal) = ∑ l : Fin 64, (d (ix2 i (col h l)) : EReal) * v (ix2 j (col h l)) :=
  (val_main_v58_apply v d _).trans (Finset.sum_congr rfl fun l _ => congrArg₂ (fun a b : EReal => a * b)
    (via (val_main_v55 (F := Ideal) d) (idx_ext₃ (y := ix3 h i l) rfl rfl rfl) (ref_d d h i l))
    (via (val_main_v50 (F := Ideal) v) (idx_ext₃ (y := ix3 h j l) rfl rfl rfl) (ref_v v h j l)))

/-- The output. -/
theorem ref_out : (val_main_v53 (F := Ideal) q k v c (ix2 i (col h l)) : EReal)
    = ∑ j : Fin 8192, (val_main_v45 (F := Ideal) q k c (ix3 h i j) : EReal) * v (ix2 j (col h l)) := by
  refine (val_main_v53_apply (F := Ideal) q k v c _).trans ((val_main_v52_apply (F := Ideal) q k v c _).trans ?_)
  refine via (val_main_v51 (F := Ideal) q k v c) (idx_ext₃ (y := ix3 h i l)
    (by show (i.val * 256 + (64 * h.val + l.val)) / 64 % 4 = h.val; have := h.isLt; have := l.isLt; omega)
    (by show (i.val * 256 + (64 * h.val + l.val)) / 256 = i.val; have := h.isLt; have := l.isLt; omega)
    (by show (i.val * 256 + (64 * h.val + l.val)) % 64 = l.val; have := h.isLt; have := l.isLt; omega)) ?_
  refine (val_main_v51_apply q k v c _).trans (Finset.sum_congr rfl fun j _ => congrArg₂ (fun a b : EReal => a * b) ?_ ?_)
  · exact congrArg (val_main_v45 (F := Ideal) q k c) (idx_ext₃ (y := ix3 h i j) rfl rfl rfl)
  · exact via (val_main_v50 (F := Ideal) v) (idx_ext₃ (y := ix3 h j l) rfl rfl rfl) (ref_v v h j l)

/-- Row sum of the gradient of the probabilities against the exponentials, over the square of their sum. -/
theorem ref_dl : (val_main_v70 (F := Ideal) q k v c d (ix3 h i j) : EReal)
    = -∑ n : Fin 8192, ((val_main_v58 (F := Ideal) v d (ix3 h i n) : EReal) * val_main_v61 (F := Ideal) q k c (ix3 h i n)) * val_main_v41 (F := Ideal) q k c (ix3 h i n) := by
  refine (val_main_v70_apply (F := Ideal) q k v c d _).trans (via (val_main_v69 (F := Ideal) q k v c d) (Shape.idx_ext₂ (y := ix2 h i) rfl rfl) ?_)
  refine (val_main_v69_apply q k v c d _).trans ?_
  refine (congrArg (fun b : EReal => b + _) (show (val_main_cst_12 (F := Ideal) (Shape.Idx.first h_S_) : EReal) = 0 from ref_zero)).trans ((zero_add _).trans ?_)
  refine (Fin.sum_univ_one _).trans ?_
  refine (val_main_v66_apply (F := Ideal) q k v c d _).trans (congrArg (fun b : EReal => -b) ?_)
  refine (val_main_v65_apply (F := Ideal) q k v c d _).trans (via (val_main_v64 (F := Ideal) q k v c d) (Shape.idx_ext₂ (y := ix2 h i)
    (by show ((h.val * 8192 + i.val) * 1 + 0) / 8192 = h.val; have := i.isLt; omega) (by show ((h.val * 8192 + i.val) * 1 + 0) % 8192 = i.val; have := i.isLt; omega)) ?_)
  refine (val_main_v64_apply q k v c d _).trans ?_
  refine (congrArg (fun b : EReal => b + _) (show (val_main_cst_11 (F := Ideal) (Shape.Idx.first h_S_) : EReal) = 0 from ref_zero)).trans ((zero_add _).trans ?_)
  refine Finset.sum_congr rfl fun n _ => ?_
  refine via (val_main_v63 (F := Ideal) q k v c d) (idx_ext₃ (y := ix3 h i n) rfl rfl rfl) ?_
  exact rfl

/-- The gradients of the scores. -/
theorem ref_g : (val_main_v73 (F := Ideal) q k v c d (ix3 h i j) : EReal)
    = if j.val ≤ i.val then (Ideal.div (val_main_v58 (F := Ideal) v d (ix3 h i j)) (val_main_v42 (F := Ideal) q k c (ix2 h i))
        + val_main_v70 (F := Ideal) q k v c d (ix3 h i j)) * val_main_v41 (F := Ideal) q k c (ix3 h i j) else 0 := by
  have e : (val_main_call1_v0 (F := Ideal) (ix3 h i j) : EReal) = 0 := (val_main_call1_v0_apply (F := Ideal) _).trans ref_zero
  refine (val_main_v73_apply (F := Ideal) q k v c d _).trans ?_
  refine (congrArg (fun b => Scalar.select b (val_main_v72 (F := Ideal) q k v c d (ix3 h i j)) (val_main_call1_v0 (F := Ideal) (ix3 h i j))) (ref_mask h i j)).trans ?_
  refine (WordCmp.select_decide _ _ _).trans ?_
  refine if_congr Iff.rfl ?_ e
  refine (val_main_v72_apply (F := Ideal) q k v c d _).trans (congrArg (fun b : EReal => b * val_main_v41 (F := Ideal) q k c (ix3 h i j)) ?_)
  refine (val_main_v71_apply (F := Ideal) q k v c d _).trans (congrArg (fun b : EReal => b + val_main_v70 (F := Ideal) q k v c d (ix3 h i j)) ?_)
  refine (val_main_v68_apply (F := Ideal) q k v c d _).trans (congrArg (fun b : EReal => Ideal.div (val_main_v58 (F := Ideal) v d (ix3 h i j)) b) ?_)
  exact (val_main_v67_apply (F := Ideal) q k c _).trans (via (val_main_v43 (F := Ideal) q k c) (idx_ext₃ (y := ix3 h i 0) rfl rfl rfl) (ref_sum_col q k c h i 0))

/-- The gradients of the scores, scaled. -/
theorem ref_gs : (val_main_v83 (F := Ideal) q k v c d (ix3 h i j) : EReal) = val_main_v73 (F := Ideal) q k v c d (ix3 h i j) * ((1 / 8 : ℝ) : EReal) :=
  (val_main_v83_apply (F := Ideal) q k v c d _).trans (congrArg (fun b : EReal => val_main_v73 (F := Ideal) q k v c d (ix3 h i j) * b)
    ((val_main_v82_apply (F := Ideal) _).trans ref_eighth))

/-- The reference's gradient of the queries. -/
theorem ref_dq : (val_main_v90 (F := Ideal) q k v c d (ix2 i (col h l)) : EReal)
    = ∑ j : Fin 8192, ((val_main_v73 (F := Ideal) q k v c d (ix3 h i j) : EReal) * ((1 / 8 : ℝ) : EReal)) * k (ix2 j (col h l)) := by
  refine (val_main_v90_apply (F := Ideal) q k v c d _).trans ((val_main_v89_apply (F := Ideal) q k v c d _).trans ?_)
  refine via (val_main_v85 (F := Ideal) q k v c d) (idx_ext₃ (y := ix3 h i l)
    (by show (i.val * 256 + (64 * h.val + l.val)) / 64 % 4 = h.val; have := h.isLt; have := l.isLt; omega)
    (by show (i.val * 256 + (64 * h.val + l.val)) / 256 = i.val; have := h.isLt; have := l.isLt; omega)
    (by show (i.val * 256 + (64 * h.val + l.val)) % 64 = l.val; have := h.isLt; have := l.isLt; omega)) ?_
  refine (val_main_v85_apply q k v c d _).trans (Finset.sum_congr rfl fun j _ => congrArg₂ (fun a b : EReal => a * b) ?_ ?_)
  · exact via (val_main_v83 (F := Ideal) q k v c d) (idx_ext₃ (y := ix3 h i j) rfl rfl rfl) (ref_gs q k v d c h i j)
  · exact via (val_main_v3 (F := Ideal) k) (idx_ext₃ (y := ix3 h j l) rfl rfl rfl) (ref_k k h j l)

/-- The reference's gradient of the keys. -/
theorem ref_dk : (val_main_v88 (F := Ideal) q k v c d (ix2 j (col h l)) : EReal)
    = ∑ i : Fin 8192, ((val_main_v73 (F := Ideal) q k v c d (ix3 h i j) : EReal) * ((1 / 8 : ℝ) : EReal)) * q (ix2 i (col h l)) := by
  refine (val_main_v88_apply (F := Ideal) q k v c d _).trans ((val_main_v87_apply (F := Ideal) q k v c d _).trans ?_)
  refine via (val_main_v84 (F := Ideal) q k v c d) (idx_ext₃ (y := ix3 h j l)
    (by show (j.val * 256 + (64 * h.val + l.val)) / 64 % 4 = h.val; have := h.isLt; have := l.isLt; omega)
    (by show (j.val * 256 + (64 * h.val + l.val)) / 256 = j.val; have := h.isLt; have := l.isLt; omega)
    (by show (j.val * 256 + (64 * h.val + l.val)) % 64 = l.val; have := h.isLt; have := l.isLt; omega)) ?_
  refine (val_main_v84_apply q k v c d _).trans (Finset.sum_congr rfl fun i _ => congrArg₂ (fun a b : EReal => a * b) ?_ ?_)
  · exact via (val_main_v83 (F := Ideal) q k v c d) (idx_ext₃ (y := ix3 h i j) rfl rfl rfl) (ref_gs q k v d c h i j)
  · exact via (val_main_v1 (F := Ideal) q) (idx_ext₃ (y := ix3 h i l) rfl rfl rfl) (ref_q q h i l)

/-- The reference's gradient of the values. -/
theorem ref_dv : (val_main_v60 (F := Ideal) q k c d (ix2 j (col h l)) : EReal)
    = ∑ i : Fin 8192, (d (ix2 i (col h l)) : EReal) * val_main_v45 (F := Ideal) q k c (ix3 h i j) := by
  refine (val_main_v60_apply (F := Ideal) q k c d _).trans ((val_main_v59_apply (F := Ideal) q k c d _).trans ((val_main_v57_apply (F := Ideal) q k c d _).trans ?_))
  refine via (val_main_v56 (F := Ideal) q k c d) (idx_ext₃ (y := ix3 h l j)
    (by show (j.val * 256 + (64 * h.val + l.val)) / 64 % 4 = h.val; have := h.isLt; have := l.isLt; omega)
    (by show (j.val * 256 + (64 * h.val + l.val)) % 64 = l.val; have := h.isLt; have := l.isLt; omega)
    (by show (j.val * 256 + (64 * h.val + l.val)) / 256 = j.val; have := h.isLt; have := l.isLt; omega)) ?_
  refine (val_main_v56_apply q k c d _).trans (Finset.sum_congr rfl fun i _ => congrArg₂ (fun a b : EReal => a * b) ?_ ?_)
  · exact via (val_main_v55 (F := Ideal) d) (idx_ext₃ (y := ix3 h i l) rfl rfl rfl) (ref_d d h i l)
  · exact congrArg (val_main_v45 (F := Ideal) q k c) (idx_ext₃ (y := ix3 h i j) rfl rfl rfl)

/-- The reference's gradient of the gates' running sums: less the column sums, plus the row sums. -/
theorem ref_dc : (val_main_v86 (F := Ideal) q k v c d (ix2 i h) : EReal)
    = (∑ n : Fin 8192, -(val_main_v73 (F := Ideal) q k v c d (ix3 h n i) : EReal)) + ∑ j : Fin 8192, (val_main_v73 (F := Ideal) q k v c d (ix3 h i j) : EReal) := by
  refine (val_main_v86_apply (F := Ideal) q k v c d _).trans (via (val_main_v81 (F := Ideal) q k v c d) (Shape.idx_ext₂ (y := ix2 h i) rfl rfl) ?_)
  refine (val_main_v81_apply (F := Ideal) q k v c d _).trans (congrArg₂ (fun a b : EReal => a + b) ?_ ?_)
  · refine (val_main_v77_apply q k v c d _).trans ?_
    refine (congrArg (fun b : EReal => b + _) (show (val_main_cst_14 (F := Ideal) (Shape.Idx.first h_S_) : EReal) = 0 from ref_zero)).trans ((zero_add _).trans ?_)
    refine (Fin.sum_univ_one _).trans ?_
    refine (val_main_v76_apply (F := Ideal) q k v c d _).trans (via (val_main_v75 (F := Ideal) q k v c d) (Shape.idx_ext₂ (y := ix2 h i)
      (by show ((h.val * 1 + 0) * 8192 + i.val) / 8192 = h.val; have := i.isLt; omega) (by show ((h.val * 1 + 0) * 8192 + i.val) % 8192 = i.val; have := i.isLt; omega)) ?_)
    refine (val_main_v75_apply q k v c d _).trans ?_
    refine (congrArg (fun b : EReal => b + _) (show (val_main_cst_13 (F := Ideal) (Shape.Idx.first h_S_) : EReal) = 0 from ref_zero)).trans ((zero_add _).trans ?_)
    exact Finset.sum_congr rfl fun n _ => congrArg (val_main_v74 (F := Ideal) q k v c d) (idx_ext₃ (y := ix3 h n i) rfl rfl rfl)
  · refine (val_main_v80_apply q k v c d _).trans ?_
    refine (congrArg (fun b : EReal => b + _) (show (val_main_cst_16 (F := Ideal) (Shape.Idx.first h_S_) : EReal) = 0 from ref_zero)).trans ((zero_add _).trans ?_)
    refine (Fin.sum_univ_one _).trans ?_
    refine (val_main_v79_apply (F := Ideal) q k v c d _).trans (via (val_main_v78 (F := Ideal) q k v c d) (Shape.idx_ext₂ (y := ix2 h i)
      (by show ((h.val * 8192 + i.val) * 1 + 0) / 8192 = h.val; have := i.isLt; omega) (by show ((h.val * 8192 + i.val) * 1 + 0) % 8192 = i.val; have := i.isLt; omega)) ?_)
    refine (val_main_v78_apply q k v c d _).trans ?_
    refine (congrArg (fun b : EReal => b + _) (show (val_main_cst_15 (F := Ideal) (Shape.Idx.first h_S_) : EReal) = 0 from ref_zero)).trans ((zero_add _).trans ?_)
    exact Finset.sum_congr rfl fun n _ => congrArg (val_main_v73 (F := Ideal) q k v c d) (idx_ext₃ (y := ix3 h i n) rfl rfl rfl)

end Cert.Fox
-- ==== Proof.Fox.Softmax.lean ====
module

public import proofs.«01_k».proof.Proof.Fox.Reference
public import Mathlib.Tactic.Ring
public import Mathlib.Tactic.FieldSimp
public import Mathlib.Analysis.SpecialFunctions.Log.Basic

@[expose] public section

set_option maxRecDepth 16384

noncomputable section

/-! # The reference's values as real numbers

Where every argument is a real number, so is every value of the reference; this module names those
numbers. -/

namespace Cert.Fox

open Idealize.ShloMosaic Idealize.ShloMosaic.TcCoe Idealize.ShloMosaic.ValueIdx
open Cert.ReferenceIdeal Cert.ReferenceIdeal.Gen Cert.ReferenceIdeal.Read

/-- A sum of real numbers is the same among the extended reals. -/
theorem coe_sum {α : Type} [Fintype α] (f : α → ℝ) : (∑ a, ((f a : ℝ) : EReal)) = ((∑ a, f a : ℝ) : EReal) := by
  classical
  refine Finset.induction_on (Finset.univ : Finset α) (by simp) fun a s ha ih => ?_
  rw [Finset.sum_insert ha, Finset.sum_insert ha, ih, ← EReal.coe_add]

/-- A sum whose terms are real numbers. -/
theorem sum_of {α : Type} [Fintype α] {f : α → EReal} {g : α → ℝ} (h : ∀ a, f a = ((g a : ℝ) : EReal)) : (∑ a, f a) = ((∑ a, g a : ℝ) : EReal) :=
  (Finset.sum_congr rfl fun a _ => h a).trans (coe_sum g)

/-- Five arrays of real numbers. -/
structure Reals (q k v d : FVec Ideal S8192x256 .f32) (c : FVec Ideal S8192x4 .f32) where
  Q : Fin 8192 → Fin 4 → Fin 64 → ℝ
  K : Fin 8192 → Fin 4 → Fin 64 → ℝ
  V : Fin 8192 → Fin 4 → Fin 64 → ℝ
  D : Fin 8192 → Fin 4 → Fin 64 → ℝ
  C : Fin 8192 → Fin 4 → ℝ
  hq : ∀ i h l, (q (ix2 i (col h l)) : EReal) = ((Q i h l : ℝ) : EReal)
  hk : ∀ i h l, (k (ix2 i (col h l)) : EReal) = ((K i h l : ℝ) : EReal)
  hv : ∀ i h l, (v (ix2 i (col h l)) : EReal) = ((V i h l : ℝ) : EReal)
  hd : ∀ i h l, (d (ix2 i (col h l)) : EReal) = ((D i h l : ℝ) : EReal)
  hc : ∀ i h, (c (ix2 i h) : EReal) = ((C i h : ℝ) : EReal)

namespace Reals

variable {q k v d : FVec Ideal S8192x256 .f32} {c : FVec Ideal S8192x4 .f32} (r : Reals q k v d c)

/-- The score before the mask. -/
def S (h : Fin 4) (i j : Fin 8192) : ℝ := (∑ l, r.Q i h l * r.K j h l) * (1 / 8) + r.C i h - r.C j h
/-- The largest score of a row. -/
def M (_r : Reals q k v d c) (h : Fin 4) (i : Fin 8192) : ℝ := EReal.toReal (val_main_v21 (F := Ideal) q k c (ix2 h i))
/-- The exponential of a score below its row's largest. -/
def E (h : Fin 4) (i j : Fin 8192) : ℝ := if j.val ≤ i.val then Real.exp (r.S h i j - r.M h i) else 0
/-- Their row sum. -/
def L (h : Fin 4) (i : Fin 8192) : ℝ := ∑ j, r.E h i j
/-- The probabilities. -/
def P (h : Fin 4) (i j : Fin 8192) : ℝ := r.E h i j / r.L h i
/-- The gradient of a probability. -/
def DP (h : Fin 4) (i j : Fin 8192) : ℝ := ∑ l, r.D i h l * r.V j h l
/-- The gradient of a score. -/
def G (h : Fin 4) (i j : Fin 8192) : ℝ := r.P h i j * (r.DP h i j - ∑ n, r.P h i n * r.DP h i n)
/-- The output. -/
def O (h : Fin 4) (i : Fin 8192) (l : Fin 64) : ℝ := ∑ j, r.P h i j * r.V j h l

/-- The scores before the mask are real. -/
theorem raw (h : Fin 4) (i j : Fin 8192) : rawS q k c h i j = ((r.S h i j : ℝ) : EReal) := by
  have e : (∑ l : Fin 64, (q (ix2 i (col h l)) : EReal) * k (ix2 j (col h l))) = ((∑ l, r.Q i h l * r.K j h l : ℝ) : EReal) :=
    sum_of fun l => by rw [r.hq, r.hk, EReal.coe_mul]
  unfold rawS S
  rw [e, r.hc, r.hc, ← EReal.coe_mul, ← EReal.coe_add, ← EReal.coe_sub]

/-- The masked scores are real or minus infinity. -/
theorem score (h : Fin 4) (i j : Fin 8192) : (val_main_v20_0 (F := Ideal) q k c (ix3 h i j) : EReal) = if j.val ≤ i.val then ((r.S h i j : ℝ) : EReal) else ⊥ := by
  rw [ref_s, r.raw]

/-- A row's greatest score is real. -/
theorem max_real (h : Fin 4) (i : Fin 8192) : (val_main_v21 (F := Ideal) q k c (ix2 h i) : EReal) = ((r.M h i : ℝ) : EReal) := by
  refine (EReal.coe_toReal ?_ ?_).symm
  · rw [ref_max]
    refine ne_of_lt ((Finset.fold_max_lt _).2 ⟨bot_lt_top, fun j _ => ?_⟩)
    rw [r.score]
    split
    · exact EReal.coe_lt_top _
    · exact bot_lt_top
  · rw [ref_max]
    refine ne_of_gt ((Finset.lt_fold_max _).2 (Or.inr ⟨i, Finset.mem_univ _, ?_⟩))
    rw [r.score, if_pos le_rfl]
    exact EReal.bot_lt_coe _

/-- The exponentials are real. -/
theorem e_real (h : Fin 4) (i j : Fin 8192) : (val_main_v41 (F := Ideal) q k c (ix3 h i j) : EReal) = ((r.E h i j : ℝ) : EReal) := by
  rw [ref_e, r.score, r.max_real]
  unfold E
  split
  · rw [← EReal.coe_sub, Ideal.exp_coe]
  · rw [EReal.bot_sub, Ideal.exp_bot]; rfl

/-- The row sums are real. -/
theorem l_real (h : Fin 4) (i : Fin 8192) : (val_main_v42 (F := Ideal) q k c (ix2 h i) : EReal) = ((r.L h i : ℝ) : EReal) :=
  (ref_sum q k c h i).trans (sum_of fun j => r.e_real h i j)

/-- An exponential is not negative. -/
theorem E_nonneg (h : Fin 4) (i j : Fin 8192) : 0 ≤ r.E h i j := by
  unfold E
  split
  · exact (Real.exp_pos _).le
  · exact le_rfl

/-- A row's own key counts, so its sum is positive. -/
theorem L_pos (h : Fin 4) (i : Fin 8192) : 0 < r.L h i := by
  refine Finset.sum_pos' (fun j _ => r.E_nonneg h i j) ⟨i, Finset.mem_univ _, ?_⟩
  unfold E
  rw [if_pos le_rfl]
  exact Real.exp_pos _

/-- A row sum is not zero. -/
theorem L_ne (h : Fin 4) (i : Fin 8192) : r.L h i ≠ 0 := (r.L_pos h i).ne'

/-- The probabilities are real. -/
theorem p_real (h : Fin 4) (i j : Fin 8192) : (val_main_v45 (F := Ideal) q k c (ix3 h i j) : EReal) = ((r.P h i j : ℝ) : EReal) := by
  rw [ref_p, r.e_real, r.l_real, Ideal.div_coe (r.L_ne h i), ← EReal.coe_mul]
  unfold P
  rw [mul_one_div]

/-- Output gradients against values are real. -/
theorem dp_real (h : Fin 4) (i j : Fin 8192) : (val_main_v58 (F := Ideal) v d (ix3 h i j) : EReal) = ((r.DP h i j : ℝ) : EReal) :=
  (ref_dp v d h i j).trans (sum_of fun l => by rw [r.hd, r.hv, EReal.coe_mul])

/-- The outputs are real. -/
theorem out_real (h : Fin 4) (i : Fin 8192) (l : Fin 64) : (val_main_v53 (F := Ideal) q k v c (ix2 i (col h l)) : EReal) = ((r.O h i l : ℝ) : EReal) :=
  (ref_out q k v c h i l).trans (sum_of fun j => by rw [r.p_real, r.hv, EReal.coe_mul])

/-- The reciprocals of the squared row sums are real. -/
theorem inv_real (h : Fin 4) (i j : Fin 8192) : (val_main_v61 (F := Ideal) q k c (ix3 h i j) : EReal) = ((1 / (r.L h i * r.L h i) : ℝ) : EReal) := by
  rw [ref_inv, r.l_real, ← EReal.coe_mul, Ideal.div_coe (mul_ne_zero (r.L_ne h i) (r.L_ne h i)), ← EReal.coe_mul, one_mul]

/-- The gradients of the row sums are real. -/
theorem dl_real (h : Fin 4) (i j : Fin 8192) : (val_main_v70 (F := Ideal) q k v c d (ix3 h i j) : EReal)
    = ((-∑ n, r.DP h i n * (1 / (r.L h i * r.L h i)) * r.E h i n : ℝ) : EReal) := by
  rw [ref_dl, EReal.coe_neg]
  exact congrArg (fun b : EReal => -b) (sum_of fun n => by rw [r.dp_real, r.inv_real, r.e_real, EReal.coe_mul, EReal.coe_mul])

/-- The gradients of the scores are real. -/
theorem g_real (h : Fin 4) (i j : Fin 8192) : (val_main_v73 (F := Ideal) q k v c d (ix3 h i j) : EReal) = ((r.G h i j : ℝ) : EReal) := by
  rw [ref_g]
  by_cases hji : j.val ≤ i.val
  · rw [if_pos hji, r.dp_real, r.l_real, r.dl_real, r.e_real, Ideal.div_coe (r.L_ne h i), ← EReal.coe_mul, ← EReal.coe_add, ← EReal.coe_mul]
    refine congrArg (fun x : ℝ => (x : EReal)) ?_
    have e : (∑ n, r.DP h i n * (1 / (r.L h i * r.L h i)) * r.E h i n) = (∑ n, r.P h i n * r.DP h i n) * (1 / r.L h i) := by
      rw [Finset.sum_mul]
      refine Finset.sum_congr rfl fun n _ => ?_
      unfold P
      have := r.L_ne h i
      field_simp
    rw [e]
    unfold G P
    ring
  · rw [if_neg hji]
    unfold G P E
    rw [if_neg hji, zero_div, zero_mul]
    rfl

/-- The query gradient. -/
theorem dq_real (h : Fin 4) (i : Fin 8192) (l : Fin 64) : (val_main_v90 (F := Ideal) q k v c d (ix2 i (col h l)) : EReal)
    = ((∑ j, r.G h i j * (1 / 8) * r.K j h l : ℝ) : EReal) :=
  (ref_dq q k v d c h i l).trans (sum_of fun j => by rw [r.g_real, r.hk, EReal.coe_mul, EReal.coe_mul])

/-- The key gradient. -/
theorem dk_real (h : Fin 4) (j : Fin 8192) (l : Fin 64) : (val_main_v88 (F := Ideal) q k v c d (ix2 j (col h l)) : EReal)
    = ((∑ i, r.G h i j * (1 / 8) * r.Q i h l : ℝ) : EReal) :=
  (ref_dk q k v d c h j l).trans (sum_of fun i => by rw [r.g_real, r.hq, EReal.coe_mul, EReal.coe_mul])

/-- The value gradient. -/
theorem dv_real (h : Fin 4) (j : Fin 8192) (l : Fin 64) : (val_main_v60 (F := Ideal) q k c d (ix2 j (col h l)) : EReal)
    = ((∑ i, r.D i h l * r.P h i j : ℝ) : EReal) :=
  (ref_dv q k d c h j l).trans (sum_of fun i => by rw [r.p_real, r.hd, EReal.coe_mul])

/-- The gate gradient. -/
theorem dc_real (h : Fin 4) (i : Fin 8192) : (val_main_v86 (F := Ideal) q k v c d (ix2 i h) : EReal)
    = (((∑ n, -r.G h n i) + ∑ j, r.G h i j : ℝ) : EReal) := by
  rw [ref_dc, EReal.coe_add]
  exact congrArg₂ (fun a b : EReal => a + b) (sum_of fun n => by rw [r.g_real, EReal.coe_neg]) (sum_of fun j => r.g_real h i j)

end Reals

end Cert.Fox
-- ==== Proof.Fox.Lanes.lean ====
module

public import proofs.«01_k».proof.Proof.Fox.Prefix
public import proofs.«01_k».proof.Proof.Fox.Softmax

@[expose] public section

set_option maxRecDepth 16384

noncomputable section

/-! # The packed arrays, lane by lane

Each head of a packed array has 128 lanes: 64 columns of the head, a few lanes that carry the gates or
the row normaliser, and zeros. -/

namespace Cert.Fox

open Idealize.ShloMosaic Idealize.ShloMosaic.TcCoe Idealize.ShloMosaic.Tactic Idealize.ShloMosaic.ValueIdx
open Cert.KernelIdeal Cert.KernelIdeal.Gen

/-- A lane of the first half. -/
def lowL (l : Fin 64) : Fin 128 := ⟨l.val, by have := l.isLt; omega⟩
/-- A lane of the second half. -/
def highL (l : Fin 64) : Fin 128 := ⟨64 + l.val, by have := l.isLt; omega⟩

/-- A sum over the lanes is the sum over both halves. -/
theorem sum_lanes (f : Fin 128 → ℝ) : (∑ a, f a) = (∑ l : Fin 64, f (lowL l)) + ∑ l : Fin 64, f (highL l) :=
  Fin.sum_univ_add (a := 64) (b := 64) f

variable (i : Fin 8192) (h : Fin 4) (a : Fin 128)

/-- One piece of an array put together along the lanes. -/
theorem cat_at {n : ℕ} (xs : List ((s : Shape) × (s.Idx → EReal))) (hc : Shape.Concatenates (xs.map (·.1)) S8192x4x128 2)
    (k : ℕ) (hk : k < xs.length) (x : Shape.Idx ⟨3, ![8192, 4, n]⟩ → EReal) (hx : xs[k] = ⟨⟨3, ![8192, 4, n]⟩, x⟩) (pre : ℕ)
    (hpre : (((xs.take k).map (·.1)).map fun s => if h : s.rank = S8192x4x128.rank then s.size ((2 : Fin 3).cast h.symm) else 0).sum = pre)
    (z : Fin n) (ha : pre + z.val = a.val) : concatenate S8192x4x128 2 xs hc (ix3 i h a) = x (ix3 i h z) :=
  concatenate_apply_piece (t := S8192x4x128) (2 : Fin 3) xs hc (ix3 i h a) k hk ⟨3, ![8192, 4, n]⟩ x hx rfl pre hpre (ix3 i h z)
    (fun b hb => match b, hb with
      | ⟨0, _⟩, _ => rfl
      | ⟨1, _⟩, _ => rfl
      | ⟨2, _⟩, hb => absurd rfl hb) ha

/-- Heads of 128 lanes laid out as 512 columns. -/
theorem flat_at (x : S8192x4x128.Idx → EReal) : shapeCast S8192x512 x shapeCasts_S8192x4x128_S8192x512 (ix2 i (lane h a)) = x (ix3 i h a) :=
  shapeCast_apply x _ _ _ (by
    rewrite [Shape.rowMajor_val_two, Shape.rowMajor_val_three]
    show (i.val * 4 + h.val) * 128 + a.val = i.val * 512 + (128 * h.val + a.val)
    omega)

/-- The columns of a head. -/
theorem split_at (x : Wide) (l : Fin 64) : (splitT x (ix3 i h l) : EReal) = x (ix2 i (col h l)) :=
  shapeCast_apply x _ _ _ (by
    rewrite [Shape.rowMajor_val_two, Shape.rowMajor_val_three]
    show i.val * 256 + (64 * h.val + l.val) = (i.val * 4 + h.val) * 64 + l.val
    omega)

/-- A column of one number per head. -/
theorem col_at (x : Gate) (z : Fin 1) : (colT x (ix3 i h z) : EReal) = x (ix2 i h) :=
  shapeCast_apply x _ _ _ (by
    rewrite [Shape.rowMajor_val_two, Shape.rowMajor_val_three]
    show i.val * 4 + h.val = (i.val * 4 + h.val) * 1 + z.val
    have := z.isLt
    omega)

/-- Zeros are zeros. -/
theorem zero_at (s : Shape) (hs : S_.BroadcastsInDim s (![] : Fin 0 → Fin s.rank)) (y : s.Idx) : (zeroT s hs y : EReal) = 0 :=
  (broadcastInDim_apply (![] : Fin 0 → Fin s.rank) hs (constant (F := Ideal) S_ .f32 0x00000000#32) y (fun b => b.elim0) (fun b => b.elim0)).trans ref_zero

/-- Packing without a further column, at a lane. -/
theorem pack0_at (x : FVec Ideal S8192x4x64 .f32) : (pack0 x (ix2 i (lane h a)) : EReal)
    = if ha : a.val < 64 then x (ix3 i h ⟨a.val, ha⟩) else 0 := by
  unfold pack0
  refine (flat_at i h a _).trans ?_
  split
  case isTrue ha => exact cat_at i h a _ _ 0 (Nat.le_of_ble_eq_true rfl) x rfl 0 rfl ⟨a.val, ha⟩ (Nat.zero_add _)
  case isFalse ha =>
    exact (cat_at i h a _ _ 1 (Nat.le_of_ble_eq_true rfl) (zeroT S8192x4x64 bcast_S_S8192x4x64) rfl 64 rfl ⟨a.val - 64, by have := a.isLt; omega⟩ (by show 64 + (a.val - 64) = a.val; omega)).trans (zero_at _ _ _)

/-- Packing with one further column, at a lane. -/
theorem pack1_at (x : FVec Ideal S8192x4x64 .f32) (x1 : FVec Ideal S8192x4x1 .f32) : (pack1 x x1 (ix2 i (lane h a)) : EReal)
    = if ha : a.val < 64 then x (ix3 i h ⟨a.val, ha⟩) else if a.val = 64 then x1 (ix3 i h 0) else 0 := by
  unfold pack1
  refine (flat_at i h a _).trans ?_
  split
  case isTrue ha => exact cat_at i h a _ _ 0 (Nat.le_of_ble_eq_true rfl) x rfl 0 rfl ⟨a.val, ha⟩ (Nat.zero_add _)
  case isFalse ha =>
    split
    case isTrue hb => exact cat_at i h a _ _ 1 (Nat.le_of_ble_eq_true rfl) x1 rfl 64 rfl 0 hb.symm
    case isFalse hb =>
      exact (cat_at i h a _ _ 2 (Nat.le_of_ble_eq_true rfl) (zeroT S8192x4x63 bcast_S_S8192x4x63) rfl 65 rfl ⟨a.val - 65, by have := a.isLt; omega⟩ (by show 65 + (a.val - 65) = a.val; omega)).trans (zero_at _ _ _)

/-- Packing with three further columns, at a lane. -/
theorem pack3_at (x : FVec Ideal S8192x4x64 .f32) (x1 x2 x3 : FVec Ideal S8192x4x1 .f32) : (pack3 x x1 x2 x3 (ix2 i (lane h a)) : EReal)
    = if ha : a.val < 64 then x (ix3 i h ⟨a.val, ha⟩) else if a.val = 64 then x1 (ix3 i h 0) else if a.val = 65 then x2 (ix3 i h 0)
      else if a.val = 66 then x3 (ix3 i h 0) else 0 := by
  unfold pack3
  refine (flat_at i h a _).trans ?_
  split
  case isTrue ha => exact cat_at i h a _ _ 0 (Nat.le_of_ble_eq_true rfl) x rfl 0 rfl ⟨a.val, ha⟩ (Nat.zero_add _)
  case isFalse ha =>
    split
    case isTrue hb => exact cat_at i h a _ _ 1 (Nat.le_of_ble_eq_true rfl) x1 rfl 64 rfl 0 hb.symm
    case isFalse hb =>
      split
      case isTrue hd => exact cat_at i h a _ _ 2 (Nat.le_of_ble_eq_true rfl) x2 rfl 65 rfl 0 hd.symm
      case isFalse hd =>
        split
        case isTrue he => exact cat_at i h a _ _ 3 (Nat.le_of_ble_eq_true rfl) x3 rfl 66 rfl 0 he.symm
        case isFalse he =>
          exact (cat_at i h a _ _ 4 (Nat.le_of_ble_eq_true rfl) (zeroT S8192x4x61 bcast_S_S8192x4x61) rfl 67 rfl ⟨a.val - 67, by have := a.isLt; omega⟩ (by show 67 + (a.val - 67) = a.val; omega)).trans (zero_at _ _ _)

/-- Packing with four further columns, at a lane. -/
theorem pack4_at (x : FVec Ideal S8192x4x64 .f32) (x1 x2 x3 x4 : FVec Ideal S8192x4x1 .f32) : (pack4 x x1 x2 x3 x4 (ix2 i (lane h a)) : EReal)
    = if ha : a.val < 64 then x (ix3 i h ⟨a.val, ha⟩) else if a.val = 64 then x1 (ix3 i h 0) else if a.val = 65 then x2 (ix3 i h 0)
      else if a.val = 66 then x3 (ix3 i h 0) else if a.val = 67 then x4 (ix3 i h 0) else 0 := by
  unfold pack4
  refine (flat_at i h a _).trans ?_
  split
  case isTrue ha => exact cat_at i h a _ _ 0 (Nat.le_of_ble_eq_true rfl) x rfl 0 rfl ⟨a.val, ha⟩ (Nat.zero_add _)
  case isFalse ha =>
    split
    case isTrue hb => exact cat_at i h a _ _ 1 (Nat.le_of_ble_eq_true rfl) x1 rfl 64 rfl 0 hb.symm
    case isFalse hb =>
      split
      case isTrue hd => exact cat_at i h a _ _ 2 (Nat.le_of_ble_eq_true rfl) x2 rfl 65 rfl 0 hd.symm
      case isFalse hd =>
        split
        case isTrue he => exact cat_at i h a _ _ 3 (Nat.le_of_ble_eq_true rfl) x3 rfl 66 rfl 0 he.symm
        case isFalse he =>
          split
          case isTrue hf => exact cat_at i h a _ _ 4 (Nat.le_of_ble_eq_true rfl) x4 rfl 67 rfl 0 hf.symm
          case isFalse hf =>
            exact (cat_at i h a _ _ 5 (Nat.le_of_ble_eq_true rfl) (zeroT S8192x4x60 bcast_S_S8192x4x60) rfl 68 rfl ⟨a.val - 68, by have := a.isLt; omega⟩ (by show 68 + (a.val - 68) = a.val; omega)).trans (zero_at _ _ _)

/-! ## The packed arrays as real numbers -/

/-- Eight, from its bits. -/
theorem eight_val : Ideal.ofBits .f32 0x41000000#32 = ((8 : ℝ) : EReal) := by
  simp [Ideal.ofBits, Ideal.ieee, -EReal.coe_mul]
  norm_num

/-- The column of ones. -/
theorem ones_at (y : S8192x4.Idx) : (onesT y : EReal) = ((1 : ℝ) : EReal) :=
  (broadcastInDim_apply (![] : Fin 0 → Fin 2) bcast_S_S8192x4 (constant (F := Ideal) S_ .f32 0x3F800000#32) y (fun b => b.elim0) (fun b => b.elim0)).trans ref_one

/-- The column of eights. -/
theorem eight_at (y : S8192x4.Idx) : (eightT y : EReal) = ((8 : ℝ) : EReal) := by
  have e : (broadcastInDim S8192x4 ![] bcast_S_S8192x4 (constant (F := Ideal) S_ .f32 0x41000000#32) y : EReal) = ((8 : ℝ) : EReal) :=
    (broadcastInDim_apply (![] : Fin 0 → Fin 2) bcast_S_S8192x4 (constant (F := Ideal) S_ .f32 0x41000000#32) y (fun b => b.elim0) (fun b => b.elim0)).trans eight_val
  refine (congrArg₂ (fun a b : EReal => a * b) (ones_at y) e).trans ?_
  show ((1 : ℝ) : EReal) * ((8 : ℝ) : EReal) = _
  rw [← EReal.coe_mul, one_mul]

/-- The array of eighths. -/
theorem eighth_at (y : S8192x256.Idx) : (broadcastInDim S8192x256 ![] bcast_S_S8192x256 (constant (F := Ideal) S_ .f32 0x3E000000#32) y : EReal) = ((1 / 8 : ℝ) : EReal) :=
  (broadcastInDim_apply (![] : Fin 0 → Fin 2) bcast_S_S8192x256 (constant (F := Ideal) S_ .f32 0x3E000000#32) y (fun b => b.elim0) (fun b => b.elim0)).trans ref_eighth

namespace Reals

variable {q k v d : Wide} {c : Gate} (r : Reals q k v d c)

/-- The packed queries' lanes. -/
def qa : ℝ := if ha : a.val < 64 then r.Q i h ⟨a.val, ha⟩ * (1 / 8) else if a.val < 67 then 1 else 0
/-- The packed keys' lanes. -/
def ka : ℝ := if ha : a.val < 64 then r.K i h ⟨a.val, ha⟩ else if a.val = 64 then -r.C i h else if a.val = 67 then 8 else 0
/-- The packed values' lanes. -/
def va : ℝ := if ha : a.val < 64 then r.V i h ⟨a.val, ha⟩ else 0
/-- The packed output gradient's lanes. -/
def da : ℝ := if ha : a.val < 64 then r.D i h ⟨a.val, ha⟩ else 0
/-- The packed output's lanes. -/
def oa : ℝ := if ha : a.val < 64 then r.O h i ⟨a.val, ha⟩ else if a.val = 64 then r.M h i + Real.log (r.L h i) - r.C i h else 0

/-- The packed queries are the real ones. -/
theorem qa_eq : (qaT q (ix2 i (lane h a)) : EReal) = ((r.qa i h a : ℝ) : EReal) := by
  refine (pack3_at i h a _ _ _ _).trans ?_
  unfold qa
  by_cases ha : a.val < 64
  · rw [dif_pos ha, dif_pos ha]
    refine (split_at i h _ _).trans ?_
    refine (congrArg₂ (fun x y : EReal => x * y) (r.hq i h ⟨a.val, ha⟩) (eighth_at _)).trans ?_
    exact (EReal.coe_mul _ _).symm
  · rw [dif_neg ha, dif_neg ha]
    by_cases hb : a.val < 67
    · rw [if_pos hb]
      have e := (col_at i h onesT 0).trans (ones_at _)
      split
      · exact e
      · split
        · exact e
        · split
          · exact e
          · omega
    · rw [if_neg hb, if_neg (by omega), if_neg (by omega), if_neg (by omega)]
      rfl

include r in
/-- The second part of a real gate is nothing. -/
theorem mid_zero : (restT c (ix2 i h) : EReal) = ((0 : ℝ) : EReal) := by
  show -(c (ix2 i h) : EReal) - -(c (ix2 i h) : EReal) = _
  rw [r.hc, ← EReal.coe_neg, ← EReal.coe_sub, sub_self]

/-- The packed keys are the real ones. -/
theorem ka_eq : (kaT k c (ix2 i (lane h a)) : EReal) = ((r.ka i h a : ℝ) : EReal) := by
  refine (pack4_at i h a _ _ _ _ _).trans ?_
  unfold ka
  by_cases ha : a.val < 64
  · rw [dif_pos ha, dif_pos ha]
    exact (split_at i h _ _).trans (r.hk i h ⟨a.val, ha⟩)
  · rw [dif_neg ha, dif_neg ha]
    by_cases h4 : a.val = 64
    · rw [if_pos h4, if_pos h4]
      refine (col_at i h _ 0).trans ?_
      show -(c (ix2 i h) : EReal) = _
      rw [r.hc, EReal.coe_neg]
    · rw [if_neg h4, if_neg h4]
      by_cases h5 : a.val = 65
      · rw [if_pos h5, if_neg (by omega)]
        exact (col_at i h _ 0).trans (r.mid_zero i h)
      · rw [if_neg h5]
        by_cases h6 : a.val = 66
        · rw [if_pos h6, if_neg (by omega)]
          refine (col_at i h _ 0).trans ?_
          show (restT c (ix2 i h) : EReal) - (restT c (ix2 i h) : EReal) = _
          rw [r.mid_zero, ← EReal.coe_sub, sub_self]
        · rw [if_neg h6]
          by_cases h7 : a.val = 67
          · rw [if_pos h7, if_pos h7]
            exact (col_at i h _ 0).trans (eight_at _)
          · rw [if_neg h7, if_neg h7]
            rfl

/-- The packed values are the real ones. -/
theorem va_eq : (vaT v (ix2 i (lane h a)) : EReal) = ((r.va i h a : ℝ) : EReal) := by
  refine (pack0_at i h a _).trans ?_
  unfold va
  by_cases ha : a.val < 64
  · rw [dif_pos ha, dif_pos ha]
    exact (split_at i h _ _).trans (r.hv i h ⟨a.val, ha⟩)
  · rw [dif_neg ha, dif_neg ha]
    rfl

/-- The packed output gradients are the real ones. -/
theorem da_eq : (doT d (ix2 i (lane h a)) : EReal) = ((r.da i h a : ℝ) : EReal) := by
  refine (pack0_at i h a _).trans ?_
  unfold da
  by_cases ha : a.val < 64
  · rw [dif_pos ha, dif_pos ha]
    exact (split_at i h _ _).trans (r.hd i h ⟨a.val, ha⟩)
  · rw [dif_neg ha, dif_neg ha]
    rfl

open Cert.ReferenceIdeal.Read in
/-- The row maxima are the reference's. -/
theorem max_same : maxOf (sT q k c) = val_main_v28 (F := Ideal) q k c := (ref_top q k c).symm

open Cert.ReferenceIdeal.Read in
/-- So are the exponentials. -/
theorem exp_same : expOf (sT q k c) = val_main_v41 (F := Ideal) q k c := by
  unfold expOf
  rw [max_same]
  rfl

open Cert.ReferenceIdeal.Read in
/-- So are the row sums. -/
theorem sum_same : sumOf (sT q k c) = val_main_v42 (F := Ideal) q k c := by
  unfold sumOf
  rw [exp_same]
  rfl

open Cert.ReferenceIdeal.Read in
/-- So is the output. -/
theorem out_same : outOf (sT q k c) v = val_main_v53 (F := Ideal) q k v c := by
  unfold outOf
  rw [exp_same, sum_same]
  rfl

/-- A row's maximum and the logarithm of its sum, less its gate. -/
theorem lse_at (X Y : FVec Ideal S4x8192 .f32) (c : Gate) : (subf (transpose S8192x4 [1, 0] (addf X (Host.log Y)) transposes_S4x8192_S8192x4_1_0) c (ix2 i h) : EReal)
    = ((X (ix2 h i) : EReal) + Ideal.log (Y (ix2 h i))) - c (ix2 i h) := by
  refine congrArg (fun b : EReal => b - c (ix2 i h)) ?_
  have e : (addf X (Host.log Y) (ix2 h i) : EReal) = (X (ix2 h i) : EReal) + Ideal.log (Y (ix2 h i)) := rfl
  refine Eq.trans ?_ e
  generalize addf X (Host.log Y) = Z
  exact transpose_apply [1, 0] Z transposes_S4x8192_S8192x4_1_0 (ix2 i h) (ix2 h i) (fun b => match b with
    | ⟨0, _⟩ => rfl
    | ⟨1, _⟩ => rfl)

open Cert.ReferenceIdeal.Read in
/-- The row normaliser. -/
theorem lse_eq : (lseOf (sT q k c) c (ix2 i h) : EReal) = ((r.M h i + Real.log (r.L h i) - r.C i h : ℝ) : EReal) := by
  unfold lseOf
  rw [max_same, sum_same, ref_top]
  refine (lse_at i h _ _ c).trans ?_
  rw [r.max_real, r.l_real, Ideal.log_coe, if_neg (not_le.2 (r.L_pos h i)), r.hc, ← EReal.coe_add, ← EReal.coe_sub]

/-- The packed saved outputs are the real ones. -/
theorem oa_eq : (oOf (sT q k c) v c (ix2 i (lane h a)) : EReal) = ((r.oa i h a : ℝ) : EReal) := by
  refine (pack1_at i h a _ _).trans ?_
  unfold oa
  by_cases ha : a.val < 64
  · rw [dif_pos ha, dif_pos ha]
    refine (split_at i h _ _).trans ?_
    rw [out_same]
    exact r.out_real h i ⟨a.val, ha⟩
  · rw [dif_neg ha, dif_neg ha]
    by_cases hb : a.val = 64
    · rw [if_pos hb, if_pos hb]
      exact (col_at i h _ 0).trans (r.lse_eq i h)
    · rw [if_neg hb, if_neg hb]
      rfl

end Reals

end Cert.Fox
-- ==== Proof.Fox.Suffix.lean ====
module

public import proofs.«01_k».proof.Proof.Fox.Grid

@[expose] public section

set_option maxRecDepth 16384

noncomputable section

namespace Cert.Fox

open Idealize.ShloMosaic Idealize.ShloMosaic.TcCoe Idealize.ShloMosaic.Tactic Idealize.ShloMosaic.ValueIdx
open Idealize.ShloMosaic.StableHlo Idealize.SL.Sem
open Cert.KernelIdeal Cert.KernelIdeal.Gen

/-! ## What the host reads from the three gradients -/

/-- The first 64 columns of each head. -/
def takeT (x : FVec Ideal S8192x512 .f32) : FVec Ideal S8192x256 .f32 :=
  shapeCast _ (extractStridedSlice S8192x4x64 ![0, 0, 0] (shapeCast S8192x4x128 x shapeCasts_S8192x512_S8192x4x128) slices_S8192x4x128_S8192x4x64_0_0_0) shapeCasts_S8192x4x64_S8192x256
/-- The gate gradient. -/
def gateT (x y : FVec Ideal S8192x512 .f32) : FVec Ideal S8192x4 .f32 :=
  subf (shapeCast _ (extractStridedSlice S8192x4x1 ![0, 0, 67] (shapeCast S8192x4x128 x shapeCasts_S8192x512_S8192x4x128) slices_S8192x4x128_S8192x4x1_0_0_67) shapeCasts_S8192x4x1_S8192x4)
    (shapeCast _ (extractStridedSlice S8192x4x1 ![0, 0, 64] (shapeCast S8192x4x128 y shapeCasts_S8192x512_S8192x4x128) slices_S8192x4x128_S8192x4x1_0_0_64) shapeCasts_S8192x4x1_S8192x4)

/-- The queries' gradient, unpacked. -/
theorem tail_q (W : Valuation τ sig (Elt Ideal)) : StableHlo.after (List.flatten [hostOps1]) W (Proc.devRef .tc main_v90) = takeT (W (Proc.devRef .tc main_v85_0)) := by
  simp only [hostOps1, List.flatten_cons, List.flatten_nil, List.append_nil, List.cons_append]
  after_results_simp
  rfl

/-- The keys' gradient, unpacked. -/
theorem tail_k (W : Valuation τ sig (Elt Ideal)) : StableHlo.after (List.flatten [hostOps1]) W (Proc.devRef .tc main_v92) = takeT (W (Proc.devRef .tc main_v85_1)) := by
  simp only [hostOps1, List.flatten_cons, List.flatten_nil, List.append_nil, List.cons_append]
  after_results_simp
  rfl

/-- The values' gradient, unpacked. -/
theorem tail_v (W : Valuation τ sig (Elt Ideal)) : StableHlo.after (List.flatten [hostOps1]) W (Proc.devRef .tc main_v94) = takeT (W (Proc.devRef .tc main_v85_2)) := by
  simp only [hostOps1, List.flatten_cons, List.flatten_nil, List.append_nil, List.cons_append]
  after_results_simp
  rfl

/-- The gates' gradient, from the packed ones. -/
theorem tail_c (W : Valuation τ sig (Elt Ideal)) : StableHlo.after (List.flatten [hostOps1]) W (Proc.devRef .tc main_v99)
    = gateT (W (Proc.devRef .tc main_v85_0)) (W (Proc.devRef .tc main_v85_1)) := by
  simp only [hostOps1, List.flatten_cons, List.flatten_nil, List.append_nil, List.cons_append]
  after_results_simp
  rfl

variable (m : (ℓ : Loc nD τ sig) → Buf (Elt Ideal) ℓ) (c : Dev nD)

/-- The device's buffers once the region has ended. -/
def endV : Valuation τ sig (Elt Ideal) := Pipeline.withArrays (cfgs (0 : Fin 1)).spec c (V0 m c) fun w => (dats m 0 c).arrAt w (cfgs (0 : Fin 1)).N

/-- The windows lie on different arrays. -/
theorem spec_inj : Function.Injective (Pipeline.arrRef spec0) := by decide

/-- The packed queries' gradient behind the region. -/
theorem end_q : endV m c (Proc.devRef .tc main_v85_0) = dqA m c :=
  (Pipeline.withArrays_arr spec0 spec_inj c (V0 m c) (fun w => (dats m 0 c).arrAt w cfg0.N) 5).trans (final5 m c)
/-- The packed keys' gradient behind the region. -/
theorem end_k : endV m c (Proc.devRef .tc main_v85_1) = dkA m c :=
  (Pipeline.withArrays_arr spec0 spec_inj c (V0 m c) (fun w => (dats m 0 c).arrAt w cfg0.N) 6).trans (final6 m c)
/-- The packed values' gradient behind the region. -/
theorem end_v : endV m c (Proc.devRef .tc main_v85_2) = dvA m c :=
  (Pipeline.withArrays_arr spec0 spec_inj c (V0 m c) (fun w => (dats m 0 c).arrAt w cfg0.N) 7).trans (final7 m c)

/-- The kernel's first result. -/
theorem res_q : Pipeline.afterTail₀ cfgs (dats m) 0 (V0 m) [hostOps1] c main_v90 = takeT (dqA m c) :=
  (tail_q (endV m c)).trans (congrArg takeT (end_q m c))
/-- The kernel's second result. -/
theorem res_k : Pipeline.afterTail₀ cfgs (dats m) 0 (V0 m) [hostOps1] c main_v92 = takeT (dkA m c) :=
  (tail_k (endV m c)).trans (congrArg takeT (end_k m c))
/-- The kernel's third result. -/
theorem res_v : Pipeline.afterTail₀ cfgs (dats m) 0 (V0 m) [hostOps1] c main_v94 = takeT (dvA m c) :=
  (tail_v (endV m c)).trans (congrArg takeT (end_v m c))
/-- The kernel's fourth result. -/
theorem res_c : Pipeline.afterTail₀ cfgs (dats m) 0 (V0 m) [hostOps1] c main_v99 = gateT (dqA m c) (dkA m c) :=
  (tail_c (endV m c)).trans (congrArg₂ gateT (end_q m c) (end_k m c))

/-- Every run ends with the four gradients read from the region's arrays. -/
theorem run_values (ρ : Dev nD → PrngReg) : θ_run defs (onTc (τ := τ) (main (F := Ideal))) ⟨m, fun _ => 0, ρ⟩ (fun r => ∀ c : Dev nD,
      r.2.mem ((c.tc : Thread nD τ).loc main_v90) = takeT (dqA m c)
      ∧ r.2.mem ((c.tc : Thread nD τ).loc main_v92) = takeT (dkA m c)
      ∧ r.2.mem ((c.tc : Thread nD τ).loc main_v94) = takeT (dvA m c)
      ∧ r.2.mem ((c.tc : Thread nD τ).loc main_v99) = gateT (dqA m c) (dkA m c)) :=
  (θ_run defs _ _).mono (fun _ h c => ⟨
    ((h c).2 main_v90 (Pipeline.mem_restRefs_of main_v90 (by decide) (by decide))).trans (res_q m c),
    ((h c).2 main_v92 (Pipeline.mem_restRefs_of main_v92 (by decide) (by decide))).trans (res_k m c),
    ((h c).2 main_v94 (Pipeline.mem_restRefs_of main_v94 (by decide) (by decide))).trans (res_v m c),
    ((h c).2 main_v99 (Pipeline.mem_restRefs_of main_v99 (by decide) (by decide))).trans (res_c m c)⟩) (run_main m ρ)

end Cert.Fox
-- ==== Proof.Fox.Value.lean ====
module

public import proofs.«01_k».proof.Proof.Fox.Lanes
public import proofs.«01_k».proof.Proof.Fox.Suffix

@[expose] public section

set_option maxRecDepth 16384

noncomputable section

/-! # The kernel's four results are the reference's -/

namespace Cert.Fox

open Idealize.ShloMosaic Idealize.ShloMosaic.TcCoe Idealize.ShloMosaic.Tactic Idealize.ShloMosaic.ValueIdx
open Cert.KernelIdeal Cert.KernelIdeal.Gen

/-! ## Products over the lanes -/

namespace Reals

variable {q k v d : Wide} {c : Gate} (r : Reals q k v d c) (h : Fin 4) (i J : Fin 8192)

/-- A packed query's first half. -/
theorem qa_low (l : Fin 64) : r.qa i h (lowL l) = r.Q i h l * (1 / 8) := dif_pos l.isLt
/-- A packed key's first half. -/
theorem ka_low (l : Fin 64) : r.ka i h (lowL l) = r.K i h l := dif_pos l.isLt
/-- A packed value's first half. -/
theorem va_low (l : Fin 64) : r.va i h (lowL l) = r.V i h l := dif_pos l.isLt
/-- A packed output gradient's first half. -/
theorem da_low (l : Fin 64) : r.da i h (lowL l) = r.D i h l := dif_pos l.isLt
/-- A packed saved output's first half. -/
theorem oa_low (l : Fin 64) : r.oa i h (lowL l) = r.O h i l := dif_pos l.isLt

/-- A lane of the second half lies there. -/
theorem high_ge (l : Fin 64) : ¬(highL l).val < 64 := by show ¬64 + l.val < 64; omega

/-- A packed output gradient's second half is zero. -/
theorem da_high (l : Fin 64) : r.da i h (highL l) = 0 := dif_neg (high_ge l)

/-- The score before the row's gate, from the packed lanes. -/
theorem dot_ka_qa : (∑ a, r.ka J h a * r.qa i h a) = (∑ l, r.Q i h l * r.K J h l) * (1 / 8) - r.C J h := by
  have hz : (∑ l : Fin 64, r.ka J h (highL l) * r.qa i h (highL l)) = -r.C J h := by
    have e0 : r.ka J h (highL 0) * r.qa i h (highL 0) = -r.C J h := by
      have e1 : r.ka J h (highL 0) = -r.C J h := by unfold ka; rw [dif_neg (high_ge 0)]; exact if_pos rfl
      have e2 : r.qa i h (highL 0) = 1 := by unfold qa; rw [dif_neg (high_ge 0)]; exact if_pos (by decide)
      rw [e1, e2, mul_one]
    refine (Finset.sum_eq_single (0 : Fin 64) (fun l _ hl => ?_) (fun hn => absurd (Finset.mem_univ _) hn)).trans e0
    have hp : 0 < l.val := Nat.pos_of_ne_zero fun e => hl (Fin.ext e)
    have hv : (highL l).val = 64 + l.val := rfl
    unfold ka qa
    rw [dif_neg (high_ge l), dif_neg (high_ge l), if_neg (by omega)]
    by_cases h7 : (highL l).val = 67
    · rw [if_neg (by omega : ¬(highL l).val < 67), mul_zero]
    · rw [if_neg h7, zero_mul]
  rw [sum_lanes, hz, Finset.sum_mul, sub_eq_add_neg]
  exact congrArg (fun x : ℝ => x + -r.C J h) (Finset.sum_congr rfl fun l _ => by rw [qa_low, ka_low]; ring)

/-- The gradient of a probability, from the packed lanes. -/
theorem dot_va_da : (∑ a, r.va J h a * r.da i h a) = r.DP h i J := by
  rw [sum_lanes, Finset.sum_eq_zero (fun l _ => by rw [da_high, mul_zero] : ∀ l ∈ (Finset.univ : Finset (Fin 64)), r.va J h (highL l) * r.da i h (highL l) = 0), add_zero]
  exact Finset.sum_congr rfl fun l _ => by rw [va_low, da_low, mul_comm]

/-- A row's output against its gradient is its probabilities against theirs. -/
theorem dot_da_oa : (∑ a, r.da i h a * r.oa i h a) = ∑ n, r.P h i n * r.DP h i n := by
  rw [sum_lanes, Finset.sum_eq_zero (fun l _ => by rw [da_high, zero_mul] : ∀ l ∈ (Finset.univ : Finset (Fin 64)), r.da i h (highL l) * r.oa i h (highL l) = 0), add_zero]
  have e1 : ∀ l, r.da i h (lowL l) * r.oa i h (lowL l) = ∑ n, r.P h i n * (r.D i h l * r.V n h l) := fun l => by
    rw [da_low, oa_low, O, Finset.mul_sum]
    exact Finset.sum_congr rfl fun n _ => by ring
  rw [Finset.sum_congr rfl fun l _ => e1 l, Finset.sum_comm]
  exact Finset.sum_congr rfl fun n _ => by rw [DP, Finset.mul_sum]

/-- The saved row normaliser. -/
theorem oa_mid : r.oa i h 64 = r.M h i + Real.log (r.L h i) - r.C i h := by
  unfold oa
  rw [dif_neg (by decide)]
  exact if_pos rfl

/-- The exponential of a packed score less its row's normaliser is a probability. -/
theorem exp_eq (hJ : J.val ≤ i.val) : Real.exp ((∑ a, r.ka J h a * r.qa i h a) - r.oa i h 64) = r.P h i J := by
  rw [dot_ka_qa, oa_mid]
  have e : (∑ l, r.Q i h l * r.K J h l) * (1 / 8) - r.C J h - (r.M h i + Real.log (r.L h i) - r.C i h) = (r.S h i J - r.M h i) - Real.log (r.L h i) := by
    unfold S; ring
  rw [e, Real.exp_sub, Real.exp_log (r.L_pos h i)]
  unfold P E
  rw [if_pos hJ]

/-- A masked probability is zero. -/
theorem P_off (hJ : ¬J.val ≤ i.val) : r.P h i J = 0 := by
  unfold P E
  rw [if_neg hJ, zero_div]

end Reals

/-! ## The region's arrays -/

variable (m : (ℓ : Loc nD τ sig) → Buf (Elt Ideal) ℓ) (c : Dev nD)
variable (r : Reals (argQ m c) (argK m c) (argV m c) (argD m c) (argC m c)) (h : Fin 4) (i J : Fin 8192) (a : Fin 128) (l : Fin 64)

/-- The packed queries the region finds. -/
theorem qaA_at : (qaA m c (ix2 i (lane h a)) : EReal) = ((r.qa i h a : ℝ) : EReal) := by
  rw [qa_read]; exact r.qa_eq i h a
/-- The packed keys the region finds. -/
theorem kaA_at : (kaA m c (ix2 i (lane h a)) : EReal) = ((r.ka i h a : ℝ) : EReal) := by
  rw [ka_read]; exact r.ka_eq i h a
/-- The packed values the region finds. -/
theorem vaA_at : (vaA m c (ix2 i (lane h a)) : EReal) = ((r.va i h a : ℝ) : EReal) := by
  rw [va_read]; exact r.va_eq i h a
/-- The packed output gradients the region finds. -/
theorem doA_at : (doA m c (ix2 i (lane h a)) : EReal) = ((r.da i h a : ℝ) : EReal) := by
  rw [do_read]; exact r.da_eq i h a
/-- The packed saved outputs the region finds. -/
theorem oA_at : (oA m c (ix2 i (lane h a)) : EReal) = ((r.oa i h a : ℝ) : EReal) := by
  rw [o_read]; exact r.oa_eq i h a

/-- The packed scores, less the normaliser. -/
theorem arg_at : ((∑ l : Fin 128, (part (e := .bf16) (kaA m c) h (ix2 J l) : EReal) * part (e := .bf16) (qaA m c) h (ix2 i l)) - part (e := .f32) (oA m c) h (ix2 i 64))
    = (((∑ a, r.ka J h a * r.qa i h a) - r.oa i h 64 : ℝ) : EReal) := by
  rw [EReal.coe_sub]
  refine congrArg₂ (fun x y : EReal => x - y) (sum_of fun a => ?_) (oA_at m c r h i 64)
  rw [EReal.coe_mul]
  exact congrArg₂ (fun x y : EReal => x * y) (kaA_at m c r h J a) (qaA_at m c r h i a)

/-- The probabilities the region works with are the reference's. -/
theorem HPA_real : HPA m c h J i = ((r.P h i J : ℝ) : EReal) := by
  unfold HPA HP
  by_cases hJ : J.val ≤ i.val
  · rw [if_pos hJ, arg_at m c r, Ideal.exp_coe, r.exp_eq h i J hJ]
  · rw [if_neg hJ, r.P_off h i J hJ]; rfl

/-- So are the gradients of the scores. -/
theorem HGA_real : HGA m c h J i = ((r.G h i J : ℝ) : EReal) := by
  unfold HGA HG
  by_cases hJ : J.val ≤ i.val
  · have e1 : (∑ l : Fin 128, (part (e := .bf16) (vaA m c) h (ix2 J l) : EReal) * part (e := .f32) (doA m c) h (ix2 i l)) = ((r.DP h i J : ℝ) : EReal) := by
      rw [← r.dot_va_da h i J]
      exact sum_of fun a => by
        rw [EReal.coe_mul]
        exact congrArg₂ (fun x y : EReal => x * y) (vaA_at m c r h J a) (doA_at m c r h i a)
    have e2 : (∑ l : Fin 128, (part (e := .f32) (doA m c) h (ix2 i l) : EReal) * part (e := .f32) (oA m c) h (ix2 i l)) = ((∑ n, r.P h i n * r.DP h i n : ℝ) : EReal) := by
      rw [← r.dot_da_oa h i]
      exact sum_of fun a => by
        rw [EReal.coe_mul]
        exact congrArg₂ (fun x y : EReal => x * y) (doA_at m c r h i a) (oA_at m c r h i a)
    rw [if_pos hJ, arg_at m c r, Ideal.exp_coe, r.exp_eq h i J hJ, e1, e2, ← EReal.coe_sub, ← EReal.coe_mul]
    rfl
  · rw [if_neg hJ]
    unfold Reals.G
    rw [r.P_off h i J hJ, zero_mul]; rfl

/-- The packed queries' gradient, as a real sum. -/
theorem dqA_at : (dqA m c (ix2 i (lane h a)) : EReal) = (((∑ J, r.G h i J * r.ka J h a) * (1 / 8) : ℝ) : EReal) := by
  show (∑ J : Fin 8192, HGA m c (headOf (lane h a)) J i * (kaA m c (ix2 J (lane h a)) : EReal)) * ((1 / 8 : ℝ) : EReal) = _
  rw [headOf_lane, EReal.coe_mul]
  refine congrArg (fun x : EReal => x * ((1 / 8 : ℝ) : EReal)) (sum_of fun J => ?_)
  rw [EReal.coe_mul]
  exact congrArg₂ (fun x y : EReal => x * y) (HGA_real m c r h i J) (kaA_at m c r h J a)

/-- The packed keys' gradient, as a real sum. -/
theorem dkA_at : (dkA m c (ix2 J (lane h a)) : EReal) = ((∑ i, r.G h i J * r.qa i h a : ℝ) : EReal) := by
  show (∑ i : Fin 8192, HGA m c (headOf (lane h a)) J i * (qaA m c (ix2 i (lane h a)) : EReal)) = _
  rw [headOf_lane]
  refine sum_of fun i => ?_
  rw [EReal.coe_mul]
  exact congrArg₂ (fun x y : EReal => x * y) (HGA_real m c r h i J) (qaA_at m c r h i a)

/-- The packed values' gradient, as a real sum. -/
theorem dvA_at : (dvA m c (ix2 J (lane h a)) : EReal) = ((∑ i, r.P h i J * r.da i h a : ℝ) : EReal) := by
  show (∑ i : Fin 8192, HPA m c (headOf (lane h a)) J i * (doA m c (ix2 i (lane h a)) : EReal)) = _
  rw [headOf_lane]
  refine sum_of fun i => ?_
  rw [EReal.coe_mul]
  exact congrArg₂ (fun x y : EReal => x * y) (HPA_real m c r h i J) (doA_at m c r h i a)

/-! ## What the host takes from them -/

/-- The columns of a head from its lanes. -/
theorem take_at (x : FVec Ideal S8192x512 .f32) : (takeT x (ix2 i (col h l)) : EReal) = x (ix2 i (lane h (lowL l))) := by
  unfold takeT
  refine (shapeCast_apply _ shapeCasts_S8192x4x64_S8192x256 (ix2 i (col h l)) (ix3 i h l) (by
    rewrite [Shape.rowMajor_val_two, Shape.rowMajor_val_three]
    show (i.val * 4 + h.val) * 64 + l.val = i.val * 256 + (64 * h.val + l.val)
    omega)).trans ?_
  refine (extractStridedSlice_apply ![0, 0, 0] _ slices_S8192x4x128_S8192x4x64_0_0_0 (ix3 i h l) (ix3 i h (lowL l)) (fun b => match b with
    | ⟨0, _⟩ => (Nat.zero_add _).symm
    | ⟨1, _⟩ => (Nat.zero_add _).symm
    | ⟨2, _⟩ => (Nat.zero_add _).symm)).trans ?_
  exact shapeCast_apply x shapeCasts_S8192x512_S8192x4x128 (ix3 i h (lowL l)) (ix2 i (lane h (lowL l))) (by
    rewrite [Shape.rowMajor_val_two, Shape.rowMajor_val_three]
    show i.val * 512 + (128 * h.val + l.val) = (i.val * 4 + h.val) * 128 + l.val
    omega)

/-- One lane of every head. -/
theorem one_lane_at (x : FVec Ideal S8192x512 .f32) (n : ℕ) (hn : n < 128) (hs : S8192x4x128.Slices ![0, 0, n] S8192x4x1) :
    (shapeCast S8192x4 (extractStridedSlice S8192x4x1 ![0, 0, n] (shapeCast S8192x4x128 x shapeCasts_S8192x512_S8192x4x128) hs) shapeCasts_S8192x4x1_S8192x4 (ix2 i h) : EReal)
    = x (ix2 i (lane h ⟨n, hn⟩)) := by
  refine (shapeCast_apply _ shapeCasts_S8192x4x1_S8192x4 (ix2 i h) (ix3 i h (0 : Fin 1)) (by
    rewrite [Shape.rowMajor_val_two, Shape.rowMajor_val_three]
    show (i.val * 4 + h.val) * 1 + 0 = i.val * 4 + h.val
    omega)).trans ?_
  refine (extractStridedSlice_apply ![0, 0, n] _ hs (ix3 i h (0 : Fin 1)) (ix3 i h (⟨n, hn⟩ : Fin 128)) (fun b => match b with
    | ⟨0, _⟩ => (Nat.zero_add _).symm
    | ⟨1, _⟩ => (Nat.zero_add _).symm
    | ⟨2, _⟩ => rfl)).trans ?_
  exact shapeCast_apply x shapeCasts_S8192x512_S8192x4x128 (ix3 i h (⟨n, hn⟩ : Fin 128)) (ix2 i (lane h ⟨n, hn⟩)) (by
    rewrite [Shape.rowMajor_val_two, Shape.rowMajor_val_three]
    show i.val * 512 + (128 * h.val + n) = (i.val * 4 + h.val) * 128 + n
    omega)

/-- The gates' gradient, from two packed lanes. -/
theorem gate_at (x y : FVec Ideal S8192x512 .f32) : (gateT x y (ix2 i h) : EReal) = (x (ix2 i (lane h 67)) : EReal) - y (ix2 i (lane h 64)) :=
  congrArg₂ (fun a b : EReal => a - b) (one_lane_at h i x 67 (by decide) slices_S8192x4x128_S8192x4x1_0_0_67) (one_lane_at h i y 64 (by decide) slices_S8192x4x128_S8192x4x1_0_0_64)

/-- Two arrays of 256 columns agree when they agree at every column of every head. -/
theorem wide_ext (x y : Wide) (e : ∀ i h l, (x (ix2 i (col h l)) : EReal) = y (ix2 i (col h l))) : x = y := by
  funext z
  have hz : ∀ (a : Fin 8192) (b : Fin 256), (x (ix2 a b) : EReal) = y (ix2 a b) := fun a b => col_split b ▸ e a (colHead b) (colPlace b)
  exact (eq_ix2 z).symm ▸ hz (z 0) (z 1)

open Cert.ReferenceIdeal.Read in
include r in
/-- The query gradient. -/
theorem same_q : takeT (dqA m c) = val_main_v90 (F := Ideal) (argQ m c) (argK m c) (argV m c) (argC m c) (argD m c) :=
  wide_ext _ _ fun i h l => by
    rw [take_at, dqA_at m c r]
    refine Eq.trans ?_ (r.dq_real h i l).symm
    refine congrArg (fun x : ℝ => (x : EReal)) ?_
    rw [Finset.sum_mul]
    exact Finset.sum_congr rfl fun J _ => by rw [r.ka_low]; ring

open Cert.ReferenceIdeal.Read in
include r in
/-- The key gradient. -/
theorem same_k : takeT (dkA m c) = val_main_v88 (F := Ideal) (argQ m c) (argK m c) (argV m c) (argC m c) (argD m c) :=
  wide_ext _ _ fun i h l => by
    rw [take_at, dkA_at m c r]
    refine Eq.trans ?_ (r.dk_real h i l).symm
    refine congrArg (fun x : ℝ => (x : EReal)) ?_
    exact Finset.sum_congr rfl fun J _ => by rw [r.qa_low]; ring

open Cert.ReferenceIdeal.Read in
include r in
/-- The value gradient. -/
theorem same_v : takeT (dvA m c) = val_main_v60 (F := Ideal) (argQ m c) (argK m c) (argC m c) (argD m c) :=
  wide_ext _ _ fun i h l => by
    rw [take_at, dvA_at m c r]
    refine Eq.trans ?_ (r.dv_real h i l).symm
    refine congrArg (fun x : ℝ => (x : EReal)) ?_
    exact Finset.sum_congr rfl fun J _ => by rw [r.da_low]; ring

open Cert.ReferenceIdeal.Read in
include r in
/-- The gate gradient. -/
theorem same_c : gateT (dqA m c) (dkA m c) = val_main_v86 (F := Ideal) (argQ m c) (argK m c) (argV m c) (argC m c) (argD m c) := by
  have e : ∀ i h, (gateT (dqA m c) (dkA m c) (ix2 i h) : EReal) = val_main_v86 (F := Ideal) (argQ m c) (argK m c) (argV m c) (argC m c) (argD m c) (ix2 i h) := fun i h => by
    rw [gate_at, dqA_at m c r, dkA_at m c r, ← EReal.coe_sub]
    refine Eq.trans ?_ (r.dc_real h i).symm
    refine congrArg (fun x : ℝ => (x : EReal)) ?_
    have e1 : ∀ J, r.ka J h 67 = 8 := fun J => by unfold Reals.ka; rw [dif_neg (by decide), if_neg (by decide)]; exact if_pos rfl
    have e2 : ∀ J, r.qa J h 64 = 1 := fun J => by unfold Reals.qa; rw [dif_neg (by decide)]; exact if_pos (by decide)
    rw [Finset.sum_mul, Finset.sum_neg_distrib, sub_eq_add_neg, add_comm]
    refine congrArg₂ (fun x y : ℝ => -x + y) (Finset.sum_congr rfl fun J _ => ?_) (Finset.sum_congr rfl fun J _ => ?_)
    · rw [e2, mul_one]
    · rw [e1]; ring
  funext z
  exact (eq_ix2 z).symm ▸ e (z 0) (z 1)

end Cert.Fox
-- ==== Proof.Fox.Algebraic.lean ====
module

public import proofs.«01_k».proof.Defs
public import proofs.«01_k».proof.Proof.Gen.ReferenceIdeal.Run
public import proofs.«01_k».proof.Proof.Gen.Pre_finite
public import proofs.«01_k».proof.Proof.Fox.Value
public import Idealize.ShloMosaic.Lib.ReduceAll
public import Idealize.ShloMosaic.Lib.Claim

@[expose] public section

set_option maxRecDepth 16384

noncomputable section

/-! # The value claim: the kernel's gradients are the reference's -/

namespace Cert.Fox

open Idealize.ShloMosaic Idealize.ShloMosaic.TcCoe Idealize.ShloMosaic.ValueIdx Idealize.SL.Sem

/-- The bits of +∞. -/
theorem top_val : Ideal.ofBits .f32 0x7F800000#32 = ⊤ := by
  simp [Ideal.ofBits, Ideal.ieee]

/-- Where every element's size is found below +∞, every element is a real number. -/
theorem all_real {s : Shape} {axes : List (Fin s.rank)} (x : FVec Ideal s .f32) (hb : Cert.Pre_finite.S_.BroadcastsInDim s (![] : Fin 0 → Fin s.rank))
    (hr : s.ReducesTo axes Cert.Pre_finite.S_) (hu : 0 < Cert.Pre_finite.S_.numel)
    (e : Host.reduce IntOp.andi (cmpf .olt (Host.absf x) (broadcastInDim s ![] hb (constant (F := Ideal) Cert.Pre_finite.S_ .f32 0x7F800000#32))) (constantI Cert.Pre_finite.S_ 1 1#1) hr hu ix0 = 1#1)
    (y : s.Idx) : (x y : EReal) = ((EReal.toReal (x y) : ℝ) : EReal) := by
  have sub : Subsingleton Cert.Pre_finite.S_.Idx := ⟨fun a b => funext fun z => z.elim0⟩
  have e1 := Host.reduce_andi_all _ _ hr hu ix0 e y
  have e2 : (broadcastInDim s ![] hb (constant (F := Ideal) Cert.Pre_finite.S_ .f32 0x7F800000#32) y : EReal) = ⊤ :=
    (broadcastInDim_apply (![] : Fin 0 → Fin s.rank) hb (constant (F := Ideal) Cert.Pre_finite.S_ .f32 0x7F800000#32) y (fun b => b.elim0) (fun b => b.elim0)).trans top_val
  have e3 : BitVec.ofBool (decide (max (x y : EReal) (-(x y : EReal)) < ⊤)) = 1#1 := e2 ▸ e1
  have e4 : max (x y : EReal) (-(x y : EReal)) < ⊤ := by
    by_contra hn
    rw [decide_eq_false hn] at e3
    exact absurd e3 (by decide)
  refine (EReal.coe_toReal (fun et => ?_) (fun eb => ?_)).symm
  · rw [et] at e4; exact absurd e4 (by simp)
  · rw [eb] at e4; exact absurd e4 (by simp)

open Cert.KernelIdeal Cert.KernelIdeal.Gen Cert.Pre_finite.Facts in
/-- Finite arguments are real numbers. -/
theorem reals_of_finite (q k v d : Wide) (c : Gate) (e : Cert.Pre_finite.fn (F := Ideal) q k v c d = fun _ => 1#1) : Nonempty (Reals q k v d c) := by
  have e0 : Cert.Pre_finite.fn (F := Ideal) q k v c d ix0 = 1#1 := congrFun e ix0
  unfold Cert.Pre_finite.fn Cert.Pre_finite.fn_part1 at e0
  obtain ⟨e1, ed⟩ := IntOp.andi_eq_one.1 e0
  obtain ⟨e2, ec⟩ := IntOp.andi_eq_one.1 e1
  obtain ⟨e3, ev⟩ := IntOp.andi_eq_one.1 e2
  obtain ⟨eq, ek⟩ := IntOp.andi_eq_one.1 e3
  exact ⟨{
    Q := fun i h l => EReal.toReal (q (ix2 i (col h l)))
    K := fun i h l => EReal.toReal (k (ix2 i (col h l)))
    V := fun i h l => EReal.toReal (v (ix2 i (col h l)))
    D := fun i h l => EReal.toReal (d (ix2 i (col h l)))
    C := fun i h => EReal.toReal (c (ix2 i h))
    hq := fun i h l => all_real q _ _ _ eq _
    hk := fun i h l => all_real k _ _ _ ek _
    hv := fun i h l => all_real v _ _ _ ev _
    hd := fun i h l => all_real d _ _ _ ed _
    hc := fun i h => all_real c _ _ _ ec _ }⟩

open Cert.KernelIdeal Cert.KernelIdeal.Gen Cert.ReferenceIdeal.Read in
/-- From the same finite arguments the kernel and the reference end with the same four gradients. -/
theorem gradients : @Cert.algebraic_KernelIdeal_ReferenceIdeal_pre_finite Cert.KernelIdeal.Gen.facts Cert.ReferenceIdeal.Gen.facts Cert.Pre_finite.Gen.facts := by
  intro m g m' g' hpre hargs
  refine ⟨fun c => takeT (dqA m c), fun c => takeT (dkA m c), fun c => takeT (dvA m c), fun c => gateT (dqA m c) (dkA m c), ?_, ?_⟩
  · exact (θ_run defs _ _).mono (fun _ h c => ⟨(h.1 c).1, (h.1 c).2.1, (h.1 c).2.2.1, (h.1 c).2.2.2, h.2.1 c⟩) (θ_run_and (run_values m g) (run_frame (F := Ideal) m g))
  · refine (θ_run Cert.ReferenceIdeal.defs _ _).mono (fun _ h c => ?_) (Cert.ReferenceIdeal.Value.run (F := Ideal) m' g')
    obtain ⟨r⟩ := reals_of_finite (argQ m c) (argK m c) (argV m c) (argD m c) (argC m c) (hpre c)
    obtain ⟨a0, a1, a2, a3, a4⟩ := hargs c
    obtain ⟨h0, h1, h2, h3, hrest⟩ := h c
    refine ⟨h0.trans ?_, h1.trans ?_, h2.trans ?_, h3.trans ?_, hrest⟩
    · rw [val_main_v90_eq, a0, a1, a2, a3, a4]; exact (same_q m c r).symm
    · rw [val_main_v88_eq, a0, a1, a2, a3, a4]; exact (same_k m c r).symm
    · rw [val_main_v60_eq, a0, a1, a3, a4]; exact (same_v m c r).symm
    · rw [val_main_v86_eq, a0, a1, a2, a3, a4]; exact (same_c m c r).symm

end Cert.Fox
-- ==== Proof.Mlp.Sums.lean ====
module

public import Idealize.ShloMosaic.Lib.ValueIdx
public import Idealize.ShloMosaic.Lib.Pipeline.Value
public import Idealize.ShloMosaic.PureOps.Ideal.Laws
public import Idealize.ShloMosaic.Lib.IdealHost

@[expose] public section

noncomputable section

/-! # Sums over the rows of a sequence, tile by tile -/

namespace Cert.Mlp

/-- A function of the rows, continued by zero. -/
def ext (f : Fin 8192 → EReal) (i : ℕ) : EReal := if h : i < 8192 then f ⟨i, h⟩ else 0

/-- Inside it is the function. -/
theorem ext_of (f : Fin 8192 → EReal) (i : ℕ) (h : i < 8192) : ext f i = f ⟨i, h⟩ := dif_pos h

/-- The sum over all the rows. -/
theorem sum_ext (f : Fin 8192 → EReal) : ∑ i ∈ Finset.range 8192, ext f i = ∑ i : Fin 8192, f i := by
  rw [Finset.sum_range]
  exact Finset.sum_congr rfl fun i _ => ext_of f i.val i.isLt

/-- The sum over `n` tiles of `w` rows each is the sum over the rows. -/
theorem sum_tiles (g : ℕ → EReal) (w : ℕ) : ∀ n : ℕ, ∑ s ∈ Finset.range n, ∑ r : Fin w, g (w * s + r.val) = ∑ i ∈ Finset.range (w * n), g i
  | 0 => by rw [Nat.mul_zero]; rfl
  | n + 1 => by
    rw [Finset.sum_range_succ, sum_tiles g w n, ← Finset.sum_range_add_sum_Ico g (show w * n ≤ w * (n + 1) from Nat.mul_le_mul_left w (Nat.le_succ n)),
      Finset.sum_Ico_eq_sum_range, show w * (n + 1) - w * n = w by rw [Nat.mul_succ]; omega, Fin.sum_univ_eq_sum_range (fun k => g (w * n + k)) w]

/-- A product with the one tile of rows as its summed axis, started from zero and added to for each tile in turn. -/
theorem sum_rows (f : Fin 8192 → EReal) (w n : ℕ) (h : w * n = 8192) :
    ∑ s ∈ Finset.range n, ∑ r : Fin w, ext f (w * s + r.val) = ∑ i : Fin 8192, f i := by
  rw [sum_tiles, h, sum_ext]

open Idealize.ShloMosaic Idealize.ShloMosaic.ValueIdx

/-- A run of points, each adding the same number of rows' part of a sum to one element, leaves the sum there. -/
theorem run_sum_of {N : ℕ} {ι : Type} (a : (n : ℕ) → n < N → ι → EReal) (g : (n : ℕ) → n < N → (ι → EReal) → ι → EReal) (z : ι) (f : Fin 8192 → EReal) (b w n : ℕ)
    (hw : w * (n + 1) = 8192) (h0 : ∀ h, a b h z = ∑ r : Fin w, ext f (w * 0 + r.val))
    (hs : ∀ (s : Fin (n + 1)) (h : b + s.val < N) (acc : ι → EReal), g (b + s.val) h acc z = acc z + ∑ r : Fin w, ext f (w * s.val + r.val))
    (h : b + n < N) : Pipeline.accAt a g b n h z = ∑ i : Fin 8192, f i := by
  have e : ∀ (j : ℕ) (hj : j < n + 1) (h : b + j < N), Pipeline.accAt a g b j h z = ∑ s ∈ Finset.range (j + 1), ∑ r : Fin w, ext f (w * s + r.val) := by
    intro j
    induction j with
    | zero => intro _ h; rw [Pipeline.accAt_zero, Finset.sum_range_one]; exact h0 h
    | succ j ih =>
      intro hj h
      rw [Pipeline.accAt_succ, Finset.sum_range_succ]
      exact (hs ⟨j + 1, hj⟩ h _).trans (congrArg (· + _) (ih (by omega) (Nat.lt_of_succ_lt h)))
  rw [e n (Nat.lt_succ_self n) h, sum_rows f w (n + 1) hw]

/-- A run of eight points, each adding 1024 rows' part of a sum to one element, leaves the sum there. -/
theorem run_sum {N : ℕ} {ι : Type} (a : (n : ℕ) → n < N → ι → EReal) (g : (n : ℕ) → n < N → (ι → EReal) → ι → EReal) (z : ι) (f : Fin 8192 → EReal) (b : ℕ)
    (h0 : ∀ h, a b h z = ∑ r : Fin 1024, ext f (1024 * 0 + r.val))
    (hs : ∀ (s : Fin 8) (h : b + s.val < N) (acc : ι → EReal), g (b + s.val) h acc z = acc z + ∑ r : Fin 1024, ext f (1024 * s.val + r.val))
    (h : b + 7 < N) : Pipeline.accAt a g b 7 h z = ∑ i : Fin 8192, f i :=
  run_sum_of a g z f b 1024 7 rfl h0 hs h

/-- Two matrices agree when their elements do. -/
theorem ext_mat {R C : ℕ} {e : EltTy} (x y : Vec Ideal ⟨2, ![R, C]⟩ e) (h : ∀ i j, x (ix2 i j) = y (ix2 i j)) : x = y :=
  funext fun z => (congrArg x (eq_ix2 z)).trans ((h (z 0) (z 1)).trans (congrArg y (eq_ix2 z)).symm)

end Cert.Mlp

end
-- ==== Proof.Mlp.DwUp.lean ====
module

public import proofs.«01_k».proof.Defs
public import proofs.«01_k».proof.Proof.Mlp.Sums
public import proofs.«01_k».proof.Proof.Gen.DwUp
public import proofs.«01_k».proof.Proof.Gen.DwUpIdeal.Value
public import proofs.«01_k».proof.Proof.Gen.DwUpReferenceIdeal.Run
public import proofs.«01_k».proof.Proof.Gen.DwUpReferenceIdeal.Read

@[expose] public section

set_option maxRecDepth 16384

noncomputable section

/-! # The gradient of the weight that leads up into the wide layer

The kernel adds up, for each block of the weight's columns, eight products over 1024 rows. The reference is one product
over all the rows.
-/

namespace Cert.Mlp.DwUp

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.DwUpIdeal Cert.DwUpIdeal.Gen Cert.DwUpIdeal.Value

/-- Columns against columns, at an index. -/
theorem dot_at {φ : FTy} (x y : FVec Ideal S1024x1024 φ) (k n : Fin 1024) :
    matmul (F := Ideal) dot_S1024x1024_S1024x1024_S1024x1024_0_0_1_1_n_n none x y (constant S1024x1024 .f32 0x00000000#32) (ix2 k n)
      = ∑ r : Fin 1024, (x (ix2 r k) : EReal) * y (ix2 r n) := by
  simp only [matmul]
  rw [Ideal.matmul_constant_zero_apply, ← Equiv.sum_comp (contrEquiv1 dot_S1024x1024_S1024x1024_S1024x1024_0_0_1_1_n_n 1024 rfl rfl).symm]
  refine Finset.sum_congr rfl fun q _ => ?_
  have hq := contrEquiv1_symm_val dot_S1024x1024_S1024x1024_S1024x1024_0_0_1_1_n_n 1024 rfl rfl q
  have el : dot_S1024x1024_S1024x1024_S1024x1024_0_0_1_1_n_n.lhsIdx (ix2 k n) ((contrEquiv1 dot_S1024x1024_S1024x1024_S1024x1024_0_0_1_1_n_n 1024 rfl rfl).symm q) = ix2 q k :=
    funext fun z => Fin.ext (match z with
      | ⟨0, _⟩ => (DotDims.lhsIdx_val_of_single _ rfl _ _).trans hq
      | ⟨1, _⟩ => by unfold DotDims.lhsIdx; rw [dif_neg (by decide +revert), dif_pos (by decide +revert)]; rfl)
  have er : dot_S1024x1024_S1024x1024_S1024x1024_0_0_1_1_n_n.rhsIdx (ix2 k n) ((contrEquiv1 dot_S1024x1024_S1024x1024_S1024x1024_0_0_1_1_n_n 1024 rfl rfl).symm q) = ix2 q n :=
    funext fun z => Fin.ext (match z with
      | ⟨0, _⟩ => (DotDims.rhsIdx_val_of_single _ rfl _ _).trans hq
      | ⟨1, _⟩ => by unfold DotDims.rhsIdx; rw [dif_neg (by decide +revert), dif_pos (by decide +revert)]; rfl)
  rw [el, er]

/-- One step adds the product of the step's blocks. -/
theorem step_at (x : FVec Ideal S1024x1024 .bf16) (acc : FVec Ideal S1024x1024 .f32) (y : FVec Ideal S1024x1024 .bf16) (k n : Fin 1024) :
    k0_pay2 (F := Ideal) x acc y (ix2 k n) = (acc (ix2 k n) : EReal) + ∑ r : Fin 1024, (x (ix2 r k) : EReal) * y (ix2 r n) := by
  unfold k0_pay2
  simp only [shapeCast_self]
  rw [addf_apply, dot_at]

/-- A run starts from zero. -/
theorem start_at (k n : Fin 1024) : (k0_pay1 (F := Ideal) (ix2 k n) : EReal) = 0 := by
  show Ideal.ofBits .f32 0x00000000#32 = 0
  simp [Ideal.ofBits, Ideal.ieee]

/-- Where the blocks of a grid point lie. -/
theorem index0 : ∀ t : Fin cfg0.N, win0_0.index t 0 = t.val % 8 ∧ win0_0.index t 1 = 0 := by decide +kernel
/-- Where the blocks of a grid point lie. -/
theorem index1 : ∀ t : Fin cfg0.N, win0_1.index t 0 = t.val % 8 ∧ win0_1.index t 1 = t.val / 8 := by decide +kernel

variable (m : (ℓ : Loc nD τ sig) → Buf (Elt Ideal) ℓ) (c : Dev nD)

/-- The normalised input as the region finds it. -/
def hnA : Vec Ideal S8192x1024 .bf16 := V m c main_v13
/-- The gradient of the wide layer as the region finds it. -/
def dupA : Vec Ideal S8192x4096 .bf16 := V m c main_v14

/-- A grid point is one of thirty-two. -/
theorem point_lt (t : Fin cfg0.N) : t.val < 32 := Nat.lt_of_lt_of_eq t.isLt N_0

/-- The rows of a grid point's tile. -/
def row (t : Fin cfg0.N) (r : Fin 1024) : Fin 8192 := ⟨1024 * (t.val % 8) + r.val, by have := r.isLt; omega⟩
/-- The columns of a grid point's block. -/
def lane (t : Fin cfg0.N) (n : Fin 1024) : Fin 4096 := ⟨1024 * (t.val / 8) + n.val, by have := n.isLt; have := point_lt t; omega⟩

/-- The first block of a grid point. -/
def x0 (t : Fin cfg0.N) : Vec Ideal S1024x1024 .bf16 := iblk m c 0 t
/-- The second block of a grid point. -/
def x1 (t : Fin cfg0.N) : Vec Ideal S1024x1024 .bf16 := iblk m c 1 t

/-- Where the first block lies. -/
theorem block0 (t : Fin cfg0.N) (r k : Fin 1024) : x0 m c t (ix2 r k) = hnA m c (ix2 (row t r) k) :=
  congrArg (hnA m c) (show (win0_0.rect t).emb (ix2 r k) = ix2 (row t r) k from funext fun a => Fin.ext (match a with
    | ⟨0, _⟩ => (Window.rect_emb_val win0_0 t (ix2 r k) 0).trans (by rw [(index0 t).1]; show t.val % 8 * 1024 + r.val = 1024 * (t.val % 8) + r.val; omega)
    | ⟨1, _⟩ => (Window.rect_emb_val win0_0 t (ix2 r k) 1).trans (by rw [(index0 t).2]; show 0 * 1024 + k.val = k.val; omega)))

/-- Where the second block lies. -/
theorem block1 (t : Fin cfg0.N) (r n : Fin 1024) : x1 m c t (ix2 r n) = dupA m c (ix2 (row t r) (lane t n)) :=
  congrArg (dupA m c) (show (win0_1.rect t).emb (ix2 r n) = ix2 (row t r) (lane t n) from funext fun a => Fin.ext (match a with
    | ⟨0, _⟩ => (Window.rect_emb_val win0_1 t (ix2 r n) 0).trans (by rw [(index1 t).1]; show t.val % 8 * 1024 + r.val = 1024 * (t.val % 8) + r.val; omega)
    | ⟨1, _⟩ => (Window.rect_emb_val win0_1 t (ix2 r n) 1).trans (by rw [(index1 t).2]; show t.val / 8 * 1024 + n.val = 1024 * (t.val / 8) + n.val; omega)))

/-- The addend of one row to the gradient of weight `k`, `n`. -/
def term (k : Fin 1024) (n : Fin 4096) (i : Fin 8192) : EReal := (hnA m c (ix2 i k) : EReal) * dupA m c (ix2 i n)

/-- What the points of the run at block `q` add. -/
theorem adds (q : Fin 4) (s : Fin 8) (h : 8 * q.val + s.val < cfg0.N) (k n : Fin 1024) :
    (∑ r : Fin 1024, (x0 m c ⟨8 * q.val + s.val, h⟩ (ix2 r k) : EReal) * x1 m c ⟨8 * q.val + s.val, h⟩ (ix2 r n))
      = ∑ r : Fin 1024, ext (term m c k ⟨1024 * q.val + n.val, by have := q.isLt; have := n.isLt; omega⟩) (1024 * s.val + r.val) := by
  refine Finset.sum_congr rfl fun r _ => ?_
  have hs := s.isLt
  have hr := r.isLt
  rw [ext_of _ _ (show 1024 * s.val + r.val < 8192 by omega), block0, block1]
  have e1 : row ⟨8 * q.val + s.val, h⟩ r = ⟨1024 * s.val + r.val, by omega⟩ :=
    Fin.ext (show 1024 * ((8 * q.val + s.val) % 8) + r.val = 1024 * s.val + r.val by omega)
  have e2 : lane ⟨8 * q.val + s.val, h⟩ n = ⟨1024 * q.val + n.val, by have := q.isLt; have := n.isLt; omega⟩ :=
    Fin.ext (show 1024 * ((8 * q.val + s.val) / 8) + n.val = 1024 * q.val + n.val by omega)
  rw [e1, e2]
  rfl

/-- What the kernel leaves: the sum over all the rows. -/
theorem result_at (k : Fin 1024) (n : Fin 4096) : (G2 m c (ix2 k n) : EReal) = ∑ i : Fin 8192, term m c k n i := by
  have hk := k.isLt
  have hn := n.isLt
  have e : run2Of (ix2 k n) = n.val / 1024 := show 4 * (k.val / 1024 - 0) + 1 * (n.val / 1024 - 0) = n.val / 1024 by omega
  have hb : 8 * run2Of (ix2 k n) + 7 < cfg0.N := by rw [e, show cfg0.N = 32 from N_0]; omega
  have hl : loc2Of (ix2 k n) = ix2 k ⟨n.val % 1024, Nat.mod_lt _ (by decide)⟩ := funext fun a => Fin.ext (match a with
    | ⟨0, _⟩ => show k.val % 1024 = k.val by omega
    | ⟨1, _⟩ => rfl)
  unfold G2
  rw [dif_pos hb, hl]
  have hn' : (⟨1024 * (n.val / 1024) + n.val % 1024, by omega⟩ : Fin 4096) = n := Fin.ext (show 1024 * (n.val / 1024) + n.val % 1024 = n.val by omega)
  have p : ∀ (b : ℕ) (h : b + 7 < cfg0.N), b = 8 * (n.val / 1024) →
      (Pipeline.accAt (reset2 m c) (step2 m c) b 7 h (ix2 k ⟨n.val % 1024, Nat.mod_lt _ (by decide)⟩) : EReal) = ∑ i : Fin 8192, term m c k n i := by
    intro b h e
    subst e
    refine run_sum _ _ _ _ _ (fun h => ?_) (fun s h acc => ?_) h
    · unfold reset2
      refine (step_at _ _ _ _ _).trans ?_
      rw [start_at, zero_add]
      exact (adds m c ⟨n.val / 1024, by omega⟩ 0 h k ⟨n.val % 1024, _⟩).trans (by rw [hn']; rfl)
    · unfold step2
      exact (step_at _ _ _ _ _).trans (congrArg (_ + ·) ((adds m c ⟨n.val / 1024, by omega⟩ s h k ⟨n.val % 1024, _⟩).trans (by rw [hn'])))
  exact p _ hb (congrArg (8 * ·) e)

open Cert.DwUpReferenceIdeal.Read in
/-- The normalised input is the reference's. -/
theorem hn_read : hnA m c = val_main_v12 (F := Ideal) (m ((c : Thread nD τ).loc main_arg0)) (m ((c : Thread nD τ).loc main_arg1)) := by
  unfold hnA
  show StableHlo.after (List.flatten [hostOps0]) (fun b => m (c, b)) (Proc.devRef .tc main_v13) = _
  simp only [hostOps0, List.flatten_cons, List.flatten_nil, List.append_nil, cast_eq]
  after_results_simp
  rfl

/-- The gradient of the wide layer is the argument's. -/
theorem dup_read : dupA m c = m ((c : Thread nD τ).loc main_arg3) := by
  unfold dupA
  show StableHlo.after (List.flatten [hostOps0]) (fun b => m (c, b)) (Proc.devRef .tc main_v14) = _
  simp only [hostOps0, List.flatten_cons, List.flatten_nil, List.append_nil, cast_eq]
  after_results_simp
  rfl

open Cert.DwUpReferenceIdeal.Read in
/-- The kernel's gradient is the reference's. -/
theorem same : G2 m c = val_main_v15 (F := Ideal) (m ((c : Thread nD τ).loc main_arg0)) (m ((c : Thread nD τ).loc main_arg1)) (m ((c : Thread nD τ).loc main_arg3)) :=
  ext_mat (e := .f32) _ _ fun k n => by
    rw [result_at, val_main_v15_apply (F := Ideal), val_main_v14_apply]
    refine Finset.sum_congr rfl fun i _ => ?_
    unfold term
    rw [hn_read, dup_read, mul_comm]
    have el : lidx_main_v14 (idx_main_v15 (ix2 k n)) i = ix2 i n := Shape.idx_ext₂ (y := ix2 i n) rfl rfl
    have er : ridx_main_v14 (idx_main_v15 (ix2 k n)) i = ix2 i k := Shape.idx_ext₂ (y := ix2 i k) rfl rfl
    rw [el, er]

end Cert.Mlp.DwUp

end
-- ==== Proof.Mlp.DwDown.lean ====
module

public import proofs.«01_k».proof.Proof.Mlp.DwUp
public import proofs.«01_k».proof.Proof.Gen.DwDown
public import proofs.«01_k».proof.Proof.Gen.DwDownIdeal.Value
public import proofs.«01_k».proof.Proof.Gen.DwDownReferenceIdeal.Run
public import proofs.«01_k».proof.Proof.Gen.DwDownReferenceIdeal.Read

@[expose] public section

set_option maxRecDepth 16384

noncomputable section

/-! # The gradient of the weight that leads down from the wide layer

For each block of the weight's rows the kernel squares the positive part of a block of the wide layer, and adds up
eight products over 1024 rows.
-/

namespace Cert.Mlp.DwDown

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.DwDownIdeal Cert.DwDownIdeal.Gen Cert.DwDownIdeal.Value

/-- The squared positive part. -/
def act (u : EReal) : EReal := max u 0 * max u 0

/-- The bits of zero. -/
theorem zero_bits : Ideal.ofBits .f32 0x00000000#32 = 0 := by
  simp [Ideal.ofBits, Ideal.ieee]

/-- One step adds the product of the step's blocks. -/
theorem step_at (x : FVec Ideal S1024x1024 .f32) (acc : FVec Ideal S1024x1024 .f32) (y : FVec Ideal S1024x1024 .bf16) (k n : Fin 1024) :
    k0_pay2 (F := Ideal) x acc y (ix2 k n) = (acc (ix2 k n) : EReal) + ∑ r : Fin 1024, act (x (ix2 r k)) * y (ix2 r n) := by
  unfold k0_pay2
  simp only [shapeCast_self]
  rw [addf_apply]
  refine congrArg (_ + ·) ((DwUp.dot_at _ _ k n).trans (Finset.sum_congr rfl fun r _ => congrArg (· * _) ?_))
  show max (x (ix2 r k) : EReal) (Ideal.ofBits .f32 0x00000000#32) * max (x (ix2 r k) : EReal) (Ideal.ofBits .f32 0x00000000#32) = _
  rw [zero_bits]
  rfl

/-- A run starts from zero. -/
theorem start_at (k n : Fin 1024) : (k0_pay1 (F := Ideal) (ix2 k n) : EReal) = 0 := zero_bits

/-- Where the first blocks lie. -/
theorem index0 : ∀ t : Fin cfg0.N, win0_0.index t 0 = t.val % 8 ∧ win0_0.index t 1 = t.val / 8 := by decide +kernel
/-- Where the second blocks lie. -/
theorem index1 : ∀ t : Fin cfg0.N, win0_1.index t 0 = t.val % 8 ∧ win0_1.index t 1 = 0 := by decide +kernel

variable (m : (ℓ : Loc nD τ sig) → Buf (Elt Ideal) ℓ) (c : Dev nD)

/-- The wide layer as the region finds it. -/
def upA : Vec Ideal S8192x4096 .f32 := V m c main_arg0
/-- The gradient that comes down as the region finds it. -/
def dffA : Vec Ideal S8192x1024 .bf16 := V m c main_v0

/-- The row of the arrays that point `8 q + s` has in row `r` of its blocks. -/
def row (s : Fin 8) (r : Fin 1024) : Fin 8192 := ⟨1024 * s.val + r.val, by have := r.isLt; have := s.isLt; omega⟩
/-- The column of the wide layer in column `k` of block `q`. -/
def lane (q : Fin 4) (k : Fin 1024) : Fin 4096 := ⟨1024 * q.val + k.val, by have := k.isLt; have := q.isLt; omega⟩

/-- The first block of a grid point. -/
def x0 (t : Fin cfg0.N) : Vec Ideal S1024x1024 .f32 := iblk m c 0 t
/-- The second block of a grid point. -/
def x1 (t : Fin cfg0.N) : Vec Ideal S1024x1024 .bf16 := iblk m c 1 t

/-- What the first block holds. -/
theorem block0 (q : Fin 4) (s : Fin 8) (h : 8 * q.val + s.val < cfg0.N) (r k : Fin 1024) : x0 m c ⟨8 * q.val + s.val, h⟩ (ix2 r k) = upA m c (ix2 (row s r) (lane q k)) := by
  have hs := s.isLt
  exact congrArg (upA m c) (show (win0_0.rect ⟨8 * q.val + s.val, h⟩).emb (ix2 r k) = ix2 (row s r) (lane q k) from funext fun a => Fin.ext (match a with
    | ⟨0, _⟩ => (Window.rect_emb_val win0_0 _ (ix2 r k) 0).trans (by rw [(index0 _).1]; show (8 * q.val + s.val) % 8 * 1024 + r.val = 1024 * s.val + r.val; omega)
    | ⟨1, _⟩ => (Window.rect_emb_val win0_0 _ (ix2 r k) 1).trans (by rw [(index0 _).2]; show (8 * q.val + s.val) / 8 * 1024 + k.val = 1024 * q.val + k.val; omega)))

/-- What the second block holds. -/
theorem block1 (q : Fin 4) (s : Fin 8) (h : 8 * q.val + s.val < cfg0.N) (r n : Fin 1024) : x1 m c ⟨8 * q.val + s.val, h⟩ (ix2 r n) = dffA m c (ix2 (row s r) n) := by
  have hs := s.isLt
  exact congrArg (dffA m c) (show (win0_1.rect ⟨8 * q.val + s.val, h⟩).emb (ix2 r n) = ix2 (row s r) n from funext fun a => Fin.ext (match a with
    | ⟨0, _⟩ => (Window.rect_emb_val win0_1 _ (ix2 r n) 0).trans (by rw [(index1 _).1]; show (8 * q.val + s.val) % 8 * 1024 + r.val = 1024 * s.val + r.val; omega)
    | ⟨1, _⟩ => (Window.rect_emb_val win0_1 _ (ix2 r n) 1).trans (by rw [(index1 _).2]; show 0 * 1024 + n.val = n.val; omega)))

/-- The addend of one row to the gradient of weight `k`, `n`. -/
def term (k : Fin 4096) (n : Fin 1024) (i : Fin 8192) : EReal := act (upA m c (ix2 i k)) * dffA m c (ix2 i n)

/-- What a point adds. -/
theorem adds (q : Fin 4) (s : Fin 8) (h : 8 * q.val + s.val < cfg0.N) (k n : Fin 1024) :
    (∑ r : Fin 1024, act (x0 m c ⟨8 * q.val + s.val, h⟩ (ix2 r k)) * x1 m c ⟨8 * q.val + s.val, h⟩ (ix2 r n))
      = ∑ r : Fin 1024, ext (term m c (lane q k) n) (1024 * s.val + r.val) := by
  refine Finset.sum_congr rfl fun r _ => ?_
  rw [block0, block1]
  exact (ext_of (term m c (lane q k) n) (row s r).val (row s r).isLt).symm

/-- What the kernel leaves: the sum over all the rows. -/
theorem result_at (k : Fin 4096) (n : Fin 1024) : (G2 m c (ix2 k n) : EReal) = ∑ i : Fin 8192, term m c k n i := by
  have hk := k.isLt
  have hn := n.isLt
  have e : run2Of (ix2 k n) = k.val / 1024 := show 1 * (k.val / 1024 - 0) + 1 * (n.val / 1024 - 0) = k.val / 1024 by omega
  have hb : 8 * run2Of (ix2 k n) + 7 < cfg0.N := by rw [e, show cfg0.N = 32 from N_0]; omega
  have hl : loc2Of (ix2 k n) = ix2 ⟨k.val % 1024, Nat.mod_lt _ (by decide)⟩ n := funext fun a => Fin.ext (match a with
    | ⟨0, _⟩ => rfl
    | ⟨1, _⟩ => show n.val % 1024 = n.val by omega)
  unfold G2
  rw [dif_pos hb, hl]
  have hk' : lane ⟨k.val / 1024, by omega⟩ ⟨k.val % 1024, Nat.mod_lt _ (by decide)⟩ = k := Fin.ext (show 1024 * (k.val / 1024) + k.val % 1024 = k.val by omega)
  have p : ∀ (b : ℕ) (h : b + 7 < cfg0.N), b = 8 * (k.val / 1024) →
      (Pipeline.accAt (reset2 m c) (step2 m c) b 7 h (ix2 ⟨k.val % 1024, Nat.mod_lt _ (by decide)⟩ n) : EReal) = ∑ i : Fin 8192, term m c k n i := by
    intro b h e
    subst e
    refine run_sum _ _ _ _ _ (fun h => ?_) (fun s h acc => ?_) h
    · unfold reset2
      refine (step_at _ _ _ _ _).trans ?_
      rw [start_at, zero_add]
      exact (adds m c ⟨k.val / 1024, by omega⟩ 0 h _ n).trans (by rw [hk']; rfl)
    · unfold step2
      exact (step_at _ _ _ _ _).trans (congrArg (_ + ·) ((adds m c ⟨k.val / 1024, by omega⟩ s h _ n).trans (by rw [hk'])))
  exact p _ hb (congrArg (8 * ·) e)

/-- The wide layer is the argument's. -/
theorem up_read : upA m c = m ((c : Thread nD τ).loc main_arg0) := by
  unfold upA
  show StableHlo.after (List.flatten [hostOps0]) (fun b => m (c, b)) (Proc.devRef .tc main_arg0) = _
  simp only [hostOps0, List.flatten_cons, List.flatten_nil, List.append_nil, cast_eq]
  after_results_simp

/-- The gradient that comes down is the argument's. -/
theorem dff_read : dffA m c = m ((c : Thread nD τ).loc main_arg2) := by
  unfold dffA
  show StableHlo.after (List.flatten [hostOps0]) (fun b => m (c, b)) (Proc.devRef .tc main_v0) = _
  simp only [hostOps0, List.flatten_cons, List.flatten_nil, List.append_nil, cast_eq]
  after_results_simp
  rfl

open Cert.DwDownReferenceIdeal.Read in
/-- The reference squares the positive part too. -/
theorem act_ref (u : FVec Ideal S8192x4096 .f32) (i : Fin 8192) (k : Fin 4096) : (val_main_v1 (F := Ideal) u (ix2 i k) : EReal) = act (u (ix2 i k)) := by
  rw [val_main_v1_apply (F := Ideal), val_main_v0_apply (F := Ideal), val_main_call0_v0_apply (F := Ideal), val_main_call0_cst_apply (F := Ideal)]
  show max (u (ix2 i k) : EReal) (Ideal.ofBits .f32 0x00000000#32) * max (u (ix2 i k) : EReal) (Ideal.ofBits .f32 0x00000000#32) = _
  rw [zero_bits]
  rfl

open Cert.DwDownReferenceIdeal.Read in
/-- The kernel's gradient is the reference's. -/
theorem same : G2 m c = val_main_v4 (F := Ideal) (m ((c : Thread nD τ).loc main_arg0)) (m ((c : Thread nD τ).loc main_arg2)) :=
  ext_mat (e := .f32) _ _ fun k n => by
    rw [result_at, val_main_v4_apply (F := Ideal), val_main_v3_apply]
    refine Finset.sum_congr rfl fun i _ => ?_
    unfold term
    rw [up_read, dff_read, mul_comm]
    have el : lidx_main_v3 (idx_main_v4 (ix2 k n)) i = ix2 i n := Shape.idx_ext₂ (y := ix2 i n) rfl rfl
    have er : ridx_main_v3 (idx_main_v4 (ix2 k n)) i = ix2 i k := Shape.idx_ext₂ (y := ix2 i k) rfl rfl
    rw [el, er, act_ref]

end Cert.Mlp.DwDown

end
-- ==== Proof.Mlp.Weights.lean ====
module

public import proofs.«01_k».proof.Defs
public import proofs.«01_k».proof.Proof.Mlp.DwUp
public import proofs.«01_k».proof.Proof.Mlp.DwDown

@[expose] public section

noncomputable section

/-! # The claims of the two weight gradients -/

namespace Cert.Mlp

open Idealize.ShloMosaic Idealize.SL.Sem

/-! ## One text over the number format -/

set_option maxHeartbeats 1000000 in
/-- The two printed texts of the first have the same functions. -/
theorem up_defs : (Cert.DwUp.defs (F := Bits)) = Cert.DwUpIdeal.defs (F := Bits) := by
  unfold Cert.DwUp.defs Cert.DwUpIdeal.defs
  refine congrArg (Pipeline.defs (Cert.DwUpIdeal.pcfgs (F := Bits))) ?_
  unfold Cert.DwUp.defs₀ Cert.DwUpIdeal.defs₀
  refine congrArg _ ?_
  funext l a
  match l, a with
  | 0, (t, s) => rfl

set_option maxHeartbeats 1000000 in
/-- And the two of the second. -/
theorem down_defs : (Cert.DwDown.defs (F := Bits)) = Cert.DwDownIdeal.defs (F := Bits) := by
  unfold Cert.DwDown.defs Cert.DwDownIdeal.defs
  refine congrArg (Pipeline.defs (Cert.DwDownIdeal.pcfgs (F := Bits))) ?_
  unfold Cert.DwDown.defs₀ Cert.DwDownIdeal.defs₀
  refine congrArg _ ?_
  funext l a
  match l, a with
  | 0, (t, s) => rfl

set_option maxHeartbeats 1000000 in
/-- The first as printed ends, with its arguments unchanged and its counters at zero. -/
theorem frame_up : @Cert.quiescent_DwUp Cert.DwUp.Gen.facts := fun m ρ _ => by
  rw [up_defs, show (Cert.DwUp.main (F := Bits)) = Cert.DwUpIdeal.main (F := Bits) from rfl]
  exact Cert.DwUpIdeal.Gen.frame (F := Bits) m ρ

/-- So does it over the extended reals. -/
theorem frame_up_ideal : @Cert.quiescent_DwUpIdeal Cert.DwUpIdeal.Gen.facts := fun m ρ _ => Cert.DwUpIdeal.Gen.frame m ρ

/-- So does its reference. -/
theorem frame_up_reference : @Cert.quiescent_DwUpReferenceIdeal Cert.DwUpReferenceIdeal.Gen.facts :=
  fun m ρ _ => (θ_run Cert.DwUpReferenceIdeal.defs _ _).mono (fun _ h => ⟨fun c => (h c).2, sem_eq_zero_of_no_sems (by decide) _⟩) (Cert.DwUpReferenceIdeal.Value.run (F := Ideal) m ρ)

set_option maxHeartbeats 1000000 in
/-- The second as printed ends, with its arguments unchanged and its counters at zero. -/
theorem frame_down : @Cert.quiescent_DwDown Cert.DwDown.Gen.facts := fun m ρ _ => by
  rw [down_defs, show (Cert.DwDown.main (F := Bits)) = Cert.DwDownIdeal.main (F := Bits) from rfl]
  exact Cert.DwDownIdeal.Gen.frame (F := Bits) m ρ

/-- So does it over the extended reals. -/
theorem frame_down_ideal : @Cert.quiescent_DwDownIdeal Cert.DwDownIdeal.Gen.facts := fun m ρ _ => Cert.DwDownIdeal.Gen.frame m ρ

/-- So does its reference. -/
theorem frame_down_reference : @Cert.quiescent_DwDownReferenceIdeal Cert.DwDownReferenceIdeal.Gen.facts :=
  fun m ρ _ => (θ_run Cert.DwDownReferenceIdeal.defs _ _).mono (fun _ h => ⟨fun c => (h c).2, sem_eq_zero_of_no_sems (by decide) _⟩) (Cert.DwDownReferenceIdeal.Value.run (F := Ideal) m ρ)

/-- The kernel and the reference end with the same gradient of the weight that leads up. -/
theorem gradient_up : @Cert.algebraic_DwUpIdeal_DwUpReferenceIdeal Cert.DwUpIdeal.Gen.facts Cert.DwUpReferenceIdeal.Gen.facts := by
  intro m g m' g' _ hargs
  refine ⟨fun c => Cert.DwUpIdeal.Value.G2 m c, Cert.DwUpIdeal.Value.run m g, ?_⟩
  refine (θ_run Cert.DwUpReferenceIdeal.defs _ _).mono (fun _ h c => ?_) (Cert.DwUpReferenceIdeal.Value.run (F := Ideal) m' g')
  obtain ⟨a0, a1, a2, a3⟩ := hargs c
  refine ⟨(h c).1.trans ?_, (h c).2⟩
  rw [Cert.DwUpReferenceIdeal.Read.val_main_v15_eq, a0, a1, a3]
  exact (DwUp.same m c).symm

/-- The kernel and the reference end with the same gradient of the weight that leads down. -/
theorem gradient_down : @Cert.algebraic_DwDownIdeal_DwDownReferenceIdeal Cert.DwDownIdeal.Gen.facts Cert.DwDownReferenceIdeal.Gen.facts := by
  intro m g m' g' _ hargs
  refine ⟨fun c => Cert.DwDownIdeal.Value.G2 m c, Cert.DwDownIdeal.Value.run m g, ?_⟩
  refine (θ_run Cert.DwDownReferenceIdeal.defs _ _).mono (fun _ h c => ?_) (Cert.DwDownReferenceIdeal.Value.run (F := Ideal) m' g')
  obtain ⟨a0, a1, a2⟩ := hargs c
  refine ⟨(h c).1.trans ?_, (h c).2⟩
  rw [Cert.DwDownReferenceIdeal.Read.val_main_v4_eq, a0, a2]
  exact (DwDown.same m c).symm

end Cert.Mlp

end
-- ==== Proof.Mlp.Norm.lean ====
module

public import proofs.«01_k».proof.Proof.Mlp.Sums

@[expose] public section

noncomputable section

/-! # The gradient of the normalisation of a row, over the extended reals

The reciprocal of a row's size is a real number at least zero, whatever the row holds: it is zero where the row's mean
square is infinite. A real number at least zero may be taken in and out of sums of extended reals, and that is all the two
forms of the gradient differ by.
-/

namespace Cert.Mlp

open Idealize.ShloMosaic Idealize.ShloMosaic.ValueIdx

/-- The number of columns, from its bits. -/
theorem width_bits : Ideal.ofBits .f32 0x44800000#32 = ((1024 : ℝ) : EReal) := by
  simp [Ideal.ofBits, Ideal.ieee, -EReal.coe_mul]
  norm_num

/-- The small number under the root, from its bits. -/
theorem small_bits : ∃ e : ℝ, 0 < e ∧ Ideal.ofBits .f32 0x358637BD#32 = (e : EReal) := by
  refine ⟨_, ?_, by simp [Ideal.ofBits, Ideal.ieee, -EReal.coe_mul]; rfl⟩
  positivity

/-- Minus one half, from its bits. -/
theorem minus_half_bits : Ideal.ofBits .f32 0xBF000000#32 = ((-(1 / 2) : ℝ) : EReal) := by
  simp [Ideal.ofBits, Ideal.ieee, -EReal.coe_mul]
  norm_num

/-- Two, from its bits. -/
theorem two_bits : Ideal.ofBits .f32 0x40000000#32 = ((2 : ℝ) : EReal) := by
  simp [Ideal.ofBits, Ideal.ieee, -EReal.coe_mul]
  norm_num

/-- Zero, from its bits. -/
theorem zero_bits : Ideal.ofBits .f32 0x00000000#32 = 0 := by
  simp [Ideal.ofBits, Ideal.ieee]

/-- A square is at least zero. -/
theorem square_nonneg (a : EReal) : 0 ≤ a * a := by
  induction a with
  | bot => simp
  | top => simp
  | coe r => exact_mod_cast mul_self_nonneg r

/-- The mean square of a row, with the small number added. -/
def meanSq (x : Fin 1024 → EReal) : EReal := Ideal.div (∑ i, x i * x i) (Ideal.ofBits .f32 0x44800000#32) + Ideal.ofBits .f32 0x358637BD#32

/-- The reciprocal of a row's size. -/
def size (x : Fin 1024 → EReal) : EReal := Ideal.rsqrt (meanSq x)

/-- Division by the number of columns. -/
theorem div_width (a : EReal) : Ideal.div a (Ideal.ofBits .f32 0x44800000#32) = a * ((1 / 1024 : ℝ) : EReal) := by
  rw [width_bits, Ideal.div_coe (by norm_num : (1024 : ℝ) ≠ 0)]

/-- The reciprocal of a row's size is a real number at least zero, and over the mean square it is the third power. -/
theorem size_real (x : Fin 1024 → EReal) : ∃ r : ℝ, 0 ≤ r ∧ size x = (r : EReal) ∧ Ideal.div (size x) (meanSq x) = ((r * r * r : ℝ) : EReal) := by
  obtain ⟨e, he, hb⟩ := small_bits
  have h0 : 0 ≤ (∑ i, x i * x i) * ((1 / 1024 : ℝ) : EReal) :=
    mul_nonneg (Finset.sum_nonneg fun i _ => square_nonneg (x i)) (by exact_mod_cast (by norm_num : (0 : ℝ) ≤ 1 / 1024))
  have hm : meanSq x = (∑ i, x i * x i) * ((1 / 1024 : ℝ) : EReal) + (e : EReal) := by unfold meanSq; rw [div_width, hb]
  unfold size
  rw [hm]
  generalize (∑ i, x i * x i) * ((1 / 1024 : ℝ) : EReal) = a at h0
  induction a with
  | bot => exact absurd h0 (by simp)
  | top =>
    refine ⟨0, le_refl _, ?_, ?_⟩
    · rw [EReal.top_add_coe]; rfl
    · rw [EReal.top_add_coe, Ideal.rsqrt_top]
      unfold Ideal.div
      rw [if_neg (by simp)]
      simp
  | coe s =>
    have hs : 0 ≤ s := by exact_mod_cast h0
    have hp : 0 < s + e := by linarith
    refine ⟨(Real.sqrt (s + e))⁻¹, by positivity, ?_, ?_⟩
    · rw [← EReal.coe_add, Ideal.rsqrt_coe, if_neg (by linarith), if_neg (by linarith)]
    · rw [← EReal.coe_add, Ideal.rsqrt_coe, if_neg (by linarith), if_neg (by linarith), Ideal.div_coe hp.ne', ← EReal.coe_mul]
      congr 1
      have hq : (Real.sqrt (s + e))⁻¹ * (Real.sqrt (s + e))⁻¹ = 1 / (s + e) := by
        rw [← mul_inv, Real.mul_self_sqrt hp.le, one_div]
      rw [mul_assoc, hq]

/-- A real number at least zero may be taken out of a sum. -/
theorem sum_mul_real {n : ℕ} (f : Fin n → EReal) (r : ℝ) (hr : 0 ≤ r) (s : Finset (Fin n)) : ∑ i ∈ s, f i * (r : EReal) = (∑ i ∈ s, f i) * (r : EReal) := by
  classical
  induction s using Finset.induction_on with
  | empty => simp
  | insert a s ha ih =>
    rw [Finset.sum_insert ha, Finset.sum_insert ha, ih, EReal.right_distrib_of_nonneg_of_ne_top (by exact_mod_cast hr) (EReal.coe_ne_top r)]

/-- An extended real taken twice, each time with half of a real number at most zero. -/
theorem halves (a : EReal) (p : ℝ) (hp : 0 ≤ p) : a * ((-(1 / 2) * p : ℝ) : EReal) + a * ((-(1 / 2) * p : ℝ) : EReal) = -(a * (p : EReal)) := by
  have e : ((-(1 / 2) * p : ℝ) : EReal) = -((1 / 2 * p : ℝ) : EReal) := by rw [← EReal.coe_neg]; congr 1; ring
  have h : (0 : EReal) ≤ ((1 / 2 * p : ℝ) : EReal) := by exact_mod_cast (by positivity : (0 : ℝ) ≤ 1 / 2 * p)
  rw [e, mul_neg, ← EReal.neg_mul, ← EReal.left_distrib_of_nonneg h h, ← EReal.coe_add, EReal.neg_mul]
  congr 3
  ring

/-- The gradient the kernel forms of the normalised row: the incoming gradient `y`, less the row times its mean product with it. -/
def pull (x y : Fin 1024 → EReal) (j : Fin 1024) : EReal :=
  size x * (y j - (x j * size x) * Ideal.div (∑ i, y i * (x i * size x)) (Ideal.ofBits .f32 0x44800000#32))

/-- The part of the reference's gradient that runs through the row's size. -/
def through (x y : Fin 1024 → EReal) : EReal :=
  Ideal.div ((∑ i, x i * y i) * (Ideal.ofBits .f32 0xBF000000#32 * Ideal.div (size x) (meanSq x))) (Ideal.ofBits .f32 0x44800000#32)

/-- The kernel's gradient of the normalisation is the reference's. -/
theorem pull_eq (x y : Fin 1024 → EReal) (j : Fin 1024) :
    pull x y j = y j * size x + x j * through x y + through x y * x j := by
  obtain ⟨r, hr, h1, h2⟩ := size_real x
  unfold pull through
  rw [h2, h1, div_width, div_width, minus_half_bits]
  have hs : ∑ i, y i * (x i * (r : EReal)) = (∑ i, x i * y i) * (r : EReal) :=
    (Finset.sum_congr rfl fun i _ => by rw [← mul_assoc, mul_comm (y i)]).trans (sum_mul_real (fun i => x i * y i) r hr Finset.univ)
  rw [hs]
  generalize ∑ i, x i * y i = C
  generalize x j = a
  generalize y j = b
  have hk : (0 : EReal) ≤ (r : EReal) := by exact_mod_cast hr
  rw [sub_eq_add_neg, EReal.left_distrib_of_nonneg_of_ne_top hk (EReal.coe_ne_top r), mul_comm (r : EReal) b, add_assoc]
  refine congrArg (b * (r : EReal) + ·) ?_
  have e1 : a * (C * (((-(1 / 2) : ℝ) : EReal) * ((r * r * r : ℝ) : EReal)) * ((1 / 1024 : ℝ) : EReal)) = (a * C) * ((-(1 / 2) * (r * r * r * (1 / 1024)) : ℝ) : EReal) := by
    rw [← EReal.coe_mul, mul_assoc C, ← EReal.coe_mul, ← mul_assoc]
    congr 2
    ring
  rw [mul_comm _ a, e1, halves _ _ (by positivity), mul_neg]
  congr 1
  have e2 : (r * r * r * (1 / 1024) : ℝ) = r * (r * r * (1 / 1024)) := by ring
  rw [e2, EReal.coe_mul, EReal.coe_mul, EReal.coe_mul]
  ac_rfl

end Cert.Mlp

end
-- ==== Proof.Mlp.Rows.lean ====
module

public import proofs.«01_k».proof.Proof.Mlp.Norm
public import Idealize.ShloMosaic.PureOps

@[expose] public section

noncomputable section

/-! # A tile's rows and columns: sums, spreads and casts at an index -/

namespace Cert.Mlp

open Idealize.ShloMosaic Idealize.ShloMosaic.ValueIdx

/-- The corner of a block. -/
theorem zero2 : (![0, 0] : Fin 2 → ℕ) = fun _ => 0 := funext fun a => by fin_cases a <;> rfl

/-- The sum of each row, at a row. -/
theorem row_sum {R C : ℕ} (v : FVec Ideal ⟨2, ![R, C]⟩ .f32) (h : (⟨2, ![R, C]⟩ : Shape).Reduces [1] ⟨1, ![R]⟩) (hφ : FKind.Formats .f32)
    (hacc : 0x00000000#32 = FKind.add.neutral .f32 hφ) (r : Fin R) :
    (multiReduction (F := Ideal) .add [1] ⟨1, ![R]⟩ v 0x00000000#32 h hφ hacc (ix1 r) : EReal) = ∑ k : Fin C, (v (ix2 r k) : EReal) :=
  (Ideal.multiReduction_add_single v _ h hφ hacc (ix1 r)).trans (Finset.sum_congr rfl fun k _ => congrArg v (funext fun a => Fin.ext (match a with
    | ⟨0, _⟩ => rfl
    | ⟨1, _⟩ => rfl)))

/-- The sum of each column, at a column. -/
theorem col_sum {R C : ℕ} (v : FVec Ideal ⟨2, ![R, C]⟩ .f32) (h : (⟨2, ![R, C]⟩ : Shape).Reduces [0] ⟨1, ![C]⟩) (hφ : FKind.Formats .f32)
    (hacc : 0x00000000#32 = FKind.add.neutral .f32 hφ) (k : Fin C) :
    (multiReduction (F := Ideal) .add [0] ⟨1, ![C]⟩ v 0x00000000#32 h hφ hacc (ix1 k) : EReal) = ∑ r : Fin R, (v (ix2 r k) : EReal) :=
  (Ideal.multiReduction_add_single v _ h hφ hacc (ix1 k)).trans (Finset.sum_congr rfl fun r _ => congrArg v (funext fun a => Fin.ext (match a with
    | ⟨0, _⟩ => rfl
    | ⟨1, _⟩ => rfl)))

/-- A row spread over the rows. -/
theorem spread_row {α : Type} {R C : ℕ} (v : (⟨2, ![1, C]⟩ : Shape).Idx → α) (h : (⟨2, ![1, C]⟩ : Shape).Broadcasts ⟨2, ![R, C]⟩) (hC : C ≠ 1) (r : Fin R) (k : Fin C) :
    broadcastTo ⟨2, ![R, C]⟩ v h (ix2 r k) = v (ix2 0 k) :=
  broadcastTo_apply v _ _ (ix2 0 k) (fun z => match z with
    | ⟨0, _⟩ => rfl
    | ⟨1, _⟩ => (if_neg hC).symm)

/-- A column spread over the columns. -/
theorem spread_col {α : Type} {R C : ℕ} (v : (⟨2, ![R, 1]⟩ : Shape).Idx → α) (h : (⟨2, ![R, 1]⟩ : Shape).Broadcasts ⟨2, ![R, C]⟩) (hR : R ≠ 1) (r : Fin R) (k : Fin C) :
    broadcastTo ⟨2, ![R, C]⟩ v h (ix2 r k) = v (ix2 r 0) :=
  broadcastTo_apply v _ _ (ix2 r 0) (fun z => match z with
    | ⟨0, _⟩ => (if_neg hR).symm
    | ⟨1, _⟩ => rfl)

/-- A vector as a column. -/
theorem as_col {α : Type} {R : ℕ} (v : (⟨1, ![R]⟩ : Shape).Idx → α) (h : (⟨1, ![R]⟩ : Shape).ShapeCasts ⟨2, ![R, 1]⟩) (r : Fin R) :
    shapeCast ⟨2, ![R, 1]⟩ v h (ix2 r 0) = v (ix1 r) :=
  shapeCast_apply v h _ _ (by rewrite [Shape.rowMajor_val_one, Shape.rowMajor_val_two]; show r.val = r.val * 1 + 0; omega)

/-- A vector as a row. -/
theorem as_row {α : Type} {C : ℕ} (v : (⟨1, ![C]⟩ : Shape).Idx → α) (h : (⟨1, ![C]⟩ : Shape).ShapeCasts ⟨2, ![1, C]⟩) (k : Fin C) :
    shapeCast ⟨2, ![1, C]⟩ v h (ix2 0 k) = v (ix1 k) :=
  shapeCast_apply v h _ _ (by rewrite [Shape.rowMajor_val_one, Shape.rowMajor_val_two]; show k.val = 0 * C + k.val; omega)

/-- The size of each row of a tile, as a column: the reciprocal root of the mean square with the small number added. -/
theorem size_at {R : ℕ} (v : FVec Ideal ⟨2, ![R, 1024]⟩ .f32) (h : (⟨2, ![R, 1024]⟩ : Shape).Reduces [1] ⟨1, ![R]⟩) (hφ : FKind.Formats .f32)
    (hacc : 0x00000000#32 = FKind.add.neutral .f32 hφ) (hc : (⟨1, ![R]⟩ : Shape).ShapeCasts ⟨2, ![R, 1]⟩) (r : Fin R) :
    (rsqrt (addf (divf (shapeCast ⟨2, ![R, 1]⟩ (multiReduction (F := Ideal) .add [1] ⟨1, ![R]⟩ (mulf v v) 0x00000000#32 h hφ hacc) hc)
      (broadcast ⟨2, ![R, 1]⟩ (Scalar.ofBits (F := Ideal) .f32 0x44800000#32))) (broadcast ⟨2, ![R, 1]⟩ (Scalar.ofBits (F := Ideal) .f32 0x358637BD#32))) (ix2 r 0) : EReal)
      = size fun i => v (ix2 r i) := by
  show Ideal.rsqrt (Ideal.div (shapeCast ⟨2, ![R, 1]⟩ (multiReduction (F := Ideal) .add [1] ⟨1, ![R]⟩ (mulf v v) 0x00000000#32 h hφ hacc) hc (ix2 r 0)) (Ideal.ofBits .f32 0x44800000#32) + Ideal.ofBits .f32 0x358637BD#32) = _
  rw [as_col, row_sum]
  rfl

end Cert.Mlp

end
-- ==== Proof.Mlp.MlpDown.lean ====
module

public import proofs.«01_k».proof.Proof.Mlp.Rows
public import proofs.«01_k».proof.Proof.Gen.MlpDown
public import proofs.«01_k».proof.Proof.Gen.MlpDownIdeal.Value
public import proofs.«01_k».proof.Proof.Gen.MlpDownReferenceIdeal.Run
public import proofs.«01_k».proof.Proof.Gen.MlpDownReferenceIdeal.Read

@[expose] public section

set_option maxRecDepth 16384

noncomputable section

/-! # The first half of the MLP's backward pass

One tile of 512 rows at a time the kernel takes the gradient through the normalisation behind the MLP, multiplies it by
the weight that leads down and by the slope of the squared positive part, and adds up the normalisation's own gradient.
-/

namespace Cert.Mlp.Down

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.MlpDownIdeal Cert.MlpDownIdeal.Gen Cert.MlpDownIdeal.Value

/-! ## What the kernel computes of one tile -/

/-- The size of each row. -/
theorem size_tile (x : FVec Ideal S512x1024 .f32) (r : Fin 512) : (k0_pay5 (F := Ideal) x (ix2 r 0) : EReal) = size fun i => x (ix2 r i) := by
  unfold k0_pay5 k0_pay4
  simp only [shapeCast_self]
  exact size_at x _ _ _ _ r

/-- The normalised rows. -/
theorem norm_tile (x : FVec Ideal S512x1024 .f32) (r : Fin 512) (j : Fin 1024) :
    (k0_pay6 (F := Ideal) x (ix2 r j) : EReal) = (x (ix2 r j) : EReal) * size fun i => x (ix2 r i) := by
  unfold k0_pay6 k0_pay4
  simp only [shapeCast_self]
  rw [mulf_apply, spread_col _ _ (by decide), size_tile]

/-- The tile's part of the normalisation's own gradient. -/
theorem scale_tile (y x : FVec Ideal S512x1024 .f32) (j : Fin 1024) :
    (k0_pay7 (F := Ideal) y x (ix2 0 j) : EReal) = ∑ r : Fin 512, (y (ix2 r j) : EReal) * ((x (ix2 r j) : EReal) * size fun i => x (ix2 r i)) := by
  unfold k0_pay7
  refine (as_row _ _ j).trans ((col_sum _ _ _ _ j).trans (Finset.sum_congr rfl fun r _ => ?_))
  rw [mulf_apply, norm_tile]

/-- The gradient through the normalisation. -/
theorem pull_tile (y x : FVec Ideal S512x1024 .f32) (g : FVec Ideal S1x1024 .f32) (r : Fin 512) (j : Fin 1024) :
    (k0_pay8 (F := Ideal) y x g (ix2 r j) : EReal) = pull (fun i => x (ix2 r i)) (fun i => (y (ix2 r i) : EReal) * g (ix2 0 i)) j := by
  unfold k0_pay8
  simp only [shapeCast_self]
  rw [truncf_apply, mulf_apply, spread_col _ _ (by decide), size_tile, subf_apply, mulf_apply, mulf_apply, spread_row _ _ (by decide), norm_tile, spread_col _ _ (by decide)]
  unfold pull
  refine congrArg (fun z : EReal => size (fun i => (x (ix2 r i) : EReal)) * ((y (ix2 r j) : EReal) * g (ix2 0 j) - (x (ix2 r j) : EReal) * size (fun i => (x (ix2 r i) : EReal)) * z)) ?_
  refine congrArg (fun z : EReal => Ideal.div z (Ideal.ofBits .f32 0x44800000#32)) ((as_col _ _ r).trans ((row_sum _ _ _ _ r).trans (Finset.sum_congr rfl fun i _ => ?_)))
  rw [mulf_apply, mulf_apply, spread_row _ _ (by decide), norm_tile]

/-- Rows against rows, at an index. -/
theorem dot_at (x : FVec Ideal S512x1024 .bf16) (y : FVec Ideal S4096x1024 .bf16) (r : Fin 512) (k : Fin 4096) :
    matmul (F := Ideal) dot_S512x1024_S4096x1024_S512x4096_1_1_0_0_n_n none x y (constant S512x4096 .f32 0x00000000#32) (ix2 r k)
      = ∑ j : Fin 1024, (x (ix2 r j) : EReal) * y (ix2 k j) := by
  simp only [matmul]
  rw [Ideal.matmul_constant_zero_apply, ← Equiv.sum_comp (contrEquiv1 dot_S512x1024_S4096x1024_S512x4096_1_1_0_0_n_n 1024 rfl rfl).symm]
  refine Finset.sum_congr rfl fun q _ => ?_
  have hq := contrEquiv1_symm_val dot_S512x1024_S4096x1024_S512x4096_1_1_0_0_n_n 1024 rfl rfl q
  have el : dot_S512x1024_S4096x1024_S512x4096_1_1_0_0_n_n.lhsIdx (ix2 r k) ((contrEquiv1 dot_S512x1024_S4096x1024_S512x4096_1_1_0_0_n_n 1024 rfl rfl).symm q) = ix2 r q :=
    funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans hq)
  have er : dot_S512x1024_S4096x1024_S512x4096_1_1_0_0_n_n.rhsIdx (ix2 r k) ((contrEquiv1 dot_S512x1024_S4096x1024_S512x4096_1_1_0_0_n_n 1024 rfl rfl).symm q) = ix2 k q :=
    funext fun z => Fin.ext (match z with
      | ⟨0, _⟩ => by unfold DotDims.rhsIdx; rw [dif_neg (by decide +revert), dif_pos (by decide +revert)]; rfl
      | ⟨1, _⟩ => (DotDims.rhsIdx_val_of_single _ rfl _ _).trans hq)
  rw [el, er]

/-- The slope of the squared positive part. -/
def slope (u : EReal) : EReal := Ideal.ofBits .f32 0x40000000#32 * max u 0

/-- Where the wide layer is not above zero its slope is zero. -/
theorem masked (M u : EReal) :
    Scalar.select (FloatOps.cmpf (F := Ideal) (φ := .f32) .ogt u (FloatOps.ofBits .f32 0x00000000#32 : Ideal .f32)) (FloatOps.mulf (F := Ideal) (φ := .f32) M (FloatOps.mulf (F := Ideal) (φ := .f32) (FloatOps.ofBits .f32 0x40000000#32 : Ideal .f32) (FloatOps.maximumf (F := Ideal) (φ := .f32) u (FloatOps.ofBits .f32 0x00000000#32 : Ideal .f32)))) (FloatOps.ofBits .f32 0x00000000#32 : Ideal .f32)
      = M * slope u := by
  show (if Ideal.cmp .ogt u (Ideal.ofBits .f32 0x00000000#32) = 1 then M * (Ideal.ofBits .f32 0x40000000#32 * max u (Ideal.ofBits .f32 0x00000000#32)) else Ideal.ofBits .f32 0x00000000#32) = _
  rw [zero_bits]
  unfold slope
  by_cases h : 0 < u
  · rw [if_pos (by simp [Ideal.cmp, h])]
  · rw [if_neg (by simp [Ideal.cmp, h]), max_eq_right (not_lt.mp h), mul_zero, mul_zero]

/-- The gradient of the wide layer. -/
theorem wide_tile (y x : FVec Ideal S512x1024 .f32) (u : FVec Ideal S512x4096 .f32) (g : FVec Ideal S1x1024 .f32) (w : FVec Ideal S4096x1024 .bf16) (r : Fin 512) (k : Fin 4096) :
    (k0_pay1 (F := Ideal) (k0_pay9 y x u g w) (ix2 r k) : EReal)
      = (∑ j : Fin 1024, pull (fun i => x (ix2 r i)) (fun i => (y (ix2 r i) : EReal) * g (ix2 0 i)) j * w (ix2 k j)) * slope (u (ix2 r k)) := by
  unfold k0_pay1 k0_pay9
  simp only [shapeCast_self]
  rw [truncf_apply, mulf_apply, dot_at]
  refine congr (congrArg HMul.hMul (Finset.sum_congr rfl fun j _ => by rw [pull_tile])) ?_
  show Ideal.ofBits .f32 0x40000000#32 * max (u (ix2 r k) : EReal) (Ideal.ofBits .f32 0x00000000#32) = _
  rw [zero_bits]
  rfl

/-! ## What the body leaves -/

section

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x4096 .f32) (h3 : a3.IsWhole) (a4 : Memref sig .tc .vmem S4096x1024 .bf16) (h4 : a4.IsWhole) (a5 : Memref sig .tc .vmem S1x1024 .f32) (h5 : a5.IsWhole) (a6 : Memref sig .tc .vmem S512x1024 .bf16) (h6 : a6.IsWhole) (a7 : Memref sig .tc .vmem S512x4096 .bf16) (h7 : a7.IsWhole) (a8 : Memref sig .tc .vmem S1x1024 .f32) (h8 : a8.IsWhole)

/-- What the first point leaves. -/
theorem out_A (hc : cond0_0 i)
    (y x : Vec Ideal S512x1024 .f32) (u : Vec Ideal S512x4096 .f32) (w : Vec Ideal S4096x1024 .bf16) (g : Vec Ideal S1x1024 .f32) :
    out0_A_5 (F := Ideal) c i a1 h1 a2 h2 a3 h3 a4 h4 a5 h5 a6 h6 a7 h7 a8 h8 hc y x u w g = k0_pay8 y x g
    ∧ out0_A_6 (F := Ideal) c i a1 h1 a2 h2 a3 h3 a4 h4 a5 h5 a6 h6 a7 h7 a8 h8 hc y x u w g = k0_pay1 (k0_pay9 y x u g w)
    ∧ out0_A_7 (F := Ideal) c i a1 h1 a2 h2 a3 h3 a4 h4 a5 h5 a6 h6 a7 h7 a8 h8 hc y x u w g = k0_pay3 (k0_pay7 y x) (k0_pay2 (F := Ideal)) := by
  refine ⟨?_, ?_, ?_⟩
  on_goal 1 => unfold out0_A_5; rw [View.read_writes_eq_canon _ _ _ (cover0_A_5 c i a1 h1 a2 h2 a3 h3 a4 h4 a5 h5 a6 h6 a7 h7 a8 h8 hc y x u w g)]
  on_goal 2 => unfold out0_A_6; rw [View.read_writes_eq_canon _ _ _ (cover0_A_6 c i a1 h1 a2 h2 a3 h3 a4 h4 a5 h5 a6 h6 a7 h7 a8 h8 hc y x u w g)]
  on_goal 3 => unfold out0_A_7; rw [View.read_writes_eq_canon _ _ _ (cover0_A_7 c i a1 h1 a2 h2 a3 h3 a4 h4 a5 h5 a6 h6 a7 h7 a8 h8 hc y x u w g)]
  all_goals unfold kernelRun0_A; dsimp only; try sl_unfold_words
  all_goals first | rw [View.canon_unit_zero zero2] | rw [View.canon_cons_unit_zero (S := S1x1024) zero2, View.readCov_unit_zero (S := S1x1024) _ zero2]
  all_goals simp only [View.readAt_eq_ld, h1.read_unread, h2.read_unread, h3.read_unread, h4.read_unread, h5.read_unread, h8.read_unread, View.ld_unit_zero (S := S512x1024) zero2, View.ld_unit_zero (S := S512x4096) zero2, View.ld_unit_zero (S := S4096x1024) zero2, View.ld_unit_zero (S := S1x1024) zero2, shapeCast_self]

/-- What a later point leaves. -/
theorem out_B (hc : ¬cond0_0 i)
    (y x : Vec Ideal S512x1024 .f32) (u : Vec Ideal S512x4096 .f32) (w : Vec Ideal S4096x1024 .bf16) (g : Vec Ideal S1x1024 .f32) (acc : Vec Ideal S1x1024 .f32) :
    out0_B_5 (F := Ideal) c i a1 h1 a2 h2 a3 h3 a4 h4 a5 h5 a6 h6 a7 h7 a8 h8 hc y x u w g acc = k0_pay8 y x g
    ∧ out0_B_6 (F := Ideal) c i a1 h1 a2 h2 a3 h3 a4 h4 a5 h5 a6 h6 a7 h7 a8 h8 hc y x u w g acc = k0_pay1 (k0_pay9 y x u g w)
    ∧ out0_B_7 (F := Ideal) c i a1 h1 a2 h2 a3 h3 a4 h4 a5 h5 a6 h6 a7 h7 a8 h8 hc y x u w g acc = k0_pay3 (k0_pay7 y x) acc := by
  refine ⟨?_, ?_, ?_⟩
  on_goal 1 => unfold out0_B_5; rw [View.read_writes_eq_canon _ _ _ (cover0_B_5 c i a1 h1 a2 h2 a3 h3 a4 h4 a5 h5 a6 h6 a7 h7 a8 h8 hc y x u w g acc)]
  on_goal 2 => unfold out0_B_6; rw [View.read_writes_eq_canon _ _ _ (cover0_B_6 c i a1 h1 a2 h2 a3 h3 a4 h4 a5 h5 a6 h6 a7 h7 a8 h8 hc y x u w g acc)]
  on_goal 3 => unfold out0_B_7; rw [View.read_writes_eq_canon _ _ _ (cover0_B_7 c i a1 h1 a2 h2 a3 h3 a4 h4 a5 h5 a6 h6 a7 h7 a8 h8 hc y x u w g acc)]
  all_goals unfold kernelRun0_B; dsimp only; try sl_unfold_words
  all_goals rw [View.canon_unit_zero zero2]
  all_goals simp only [View.readAt_eq_ld, h1.read_unread, h2.read_unread, h3.read_unread, h4.read_unread, h5.read_unread, h8.read_unread, View.ld_unit_zero (S := S512x1024) zero2, View.ld_unit_zero (S := S512x4096) zero2, View.ld_unit_zero (S := S4096x1024) zero2, View.ld_unit_zero (S := S1x1024) zero2, shapeCast_self]

end

/-! ## The grid -/

/-- Where the tiles of the incoming gradient lie. -/
theorem index0 : ∀ t : Fin cfg0.N, win0_0.index t 0 = t.val ∧ win0_0.index t 1 = 0 := by decide +kernel
/-- Where the tiles of the rows lie. -/
theorem index1 : ∀ t : Fin cfg0.N, win0_1.index t 0 = t.val ∧ win0_1.index t 1 = 0 := by decide +kernel
/-- Where the tiles of the wide layer lie. -/
theorem index2 : ∀ t : Fin cfg0.N, win0_2.index t 0 = t.val ∧ win0_2.index t 1 = 0 := by decide +kernel
/-- The weight is one block. -/
theorem index3 : ∀ t : Fin cfg0.N, win0_3.index t 0 = 0 ∧ win0_3.index t 1 = 0 := by decide +kernel
/-- The gains are one block. -/
theorem index4 : ∀ t : Fin cfg0.N, win0_4.index t 0 = 0 ∧ win0_4.index t 1 = 0 := by decide +kernel
/-- Where the tiles of the first result lie. -/
theorem index5 : ∀ t : Fin cfg0.N, win0_5.index t 0 = t.val ∧ win0_5.index t 1 = 0 := by decide +kernel
/-- Where the tiles of the second result lie. -/
theorem index6 : ∀ t : Fin cfg0.N, win0_6.index t 0 = t.val ∧ win0_6.index t 1 = 0 := by decide +kernel
/-- The third result is one block. -/
theorem index7 : ∀ t : Fin cfg0.N, win0_7.index t 0 = 0 ∧ win0_7.index t 1 = 0 := by decide +kernel

/-- A grid point is one of sixteen. -/
theorem point_lt (t : Fin cfg0.N) : t.val < 16 := Nat.lt_of_lt_of_eq t.isLt N_0

/-- The row of the arrays in row `r` of a point's tiles. -/
def row (t : Fin cfg0.N) (r : Fin 512) : Fin 8192 := ⟨512 * t.val + r.val, by have := r.isLt; have := point_lt t; omega⟩

/-- A tile's index, from its two coordinates. -/
theorem place_of {C : ℕ} {y : (⟨2, ![8192, C]⟩ : Shape).Idx} {a b : ℕ} (t : Fin cfg0.N) (r : Fin 512) (k : Fin C) (h0 : (y 0).val = a * 512 + r.val) (h1 : (y 1).val = b * C + k.val) (h : a = t.val ∧ b = 0) :
    y = ix2 (row t r) k := funext fun z => Fin.ext (match z with
    | ⟨0, _⟩ => h0.trans (by rw [h.1]; exact (by omega : t.val * 512 + r.val = 512 * t.val + r.val))
    | ⟨1, _⟩ => h1.trans (by rw [h.2, Nat.zero_mul, Nat.zero_add]))

variable (m : (ℓ : Loc nD τ sig) → Buf (Elt Ideal) ℓ) (c : Dev nD)

/-- The incoming gradient as the region finds it. -/
def dhA : Vec Ideal S8192x1024 .f32 := V m c main_arg3
/-- The rows the normalisation takes as the region finds them. -/
def ffA : Vec Ideal S8192x1024 .f32 := V m c main_v2
/-- The wide layer as the region finds it. -/
def upA : Vec Ideal S8192x4096 .f32 := V m c main_arg0
/-- The weight as the region finds it. -/
def wA : Vec Ideal S4096x1024 .bf16 := V m c main_v3
/-- The gains as the region finds them. -/
def gA : Vec Ideal S1x1024 .f32 := V m c main_v4

/-- A tile of the incoming gradient. -/
def y0 (t : Fin cfg0.N) : Vec Ideal S512x1024 .f32 := iblk m c 0 t
/-- A tile of the rows. -/
def x0 (t : Fin cfg0.N) : Vec Ideal S512x1024 .f32 := iblk m c 1 t
/-- A tile of the wide layer. -/
def u0 (t : Fin cfg0.N) : Vec Ideal S512x4096 .f32 := iblk m c 2 t
/-- The weight's block. -/
def w0 (t : Fin cfg0.N) : Vec Ideal S4096x1024 .bf16 := iblk m c 3 t
/-- The gains' block. -/
def g0 (t : Fin cfg0.N) : Vec Ideal S1x1024 .f32 := iblk m c 4 t

/-- What a tile of the incoming gradient holds. -/
theorem block0 (t : Fin cfg0.N) (r : Fin 512) (j : Fin 1024) : y0 m c t (ix2 r j) = dhA m c (ix2 (row t r) j) :=
  congrArg (dhA m c) (show (win0_0.rect t).emb (ix2 r j) = ix2 (row t r) j from place_of t r j (Window.rect_emb_val win0_0 t (ix2 r j) 0) (Window.rect_emb_val win0_0 t (ix2 r j) 1) (index0 t))

/-- What a tile of the rows holds. -/
theorem block1 (t : Fin cfg0.N) (r : Fin 512) (j : Fin 1024) : x0 m c t (ix2 r j) = ffA m c (ix2 (row t r) j) :=
  congrArg (ffA m c) (show (win0_1.rect t).emb (ix2 r j) = ix2 (row t r) j from place_of t r j (Window.rect_emb_val win0_1 t (ix2 r j) 0) (Window.rect_emb_val win0_1 t (ix2 r j) 1) (index1 t))

/-- What a tile of the wide layer holds. -/
theorem block2 (t : Fin cfg0.N) (r : Fin 512) (k : Fin 4096) : u0 m c t (ix2 r k) = upA m c (ix2 (row t r) k) :=
  congrArg (upA m c) (show (win0_2.rect t).emb (ix2 r k) = ix2 (row t r) k from place_of t r k (Window.rect_emb_val win0_2 t (ix2 r k) 0) (Window.rect_emb_val win0_2 t (ix2 r k) 1) (index2 t))

/-- What the weight's block holds. -/
theorem block3 (t : Fin cfg0.N) (k : Fin 4096) (j : Fin 1024) : w0 m c t (ix2 k j) = wA m c (ix2 k j) :=
  congrArg (wA m c) (show (win0_3.rect t).emb (ix2 k j) = ix2 k j from funext fun a => Fin.ext (match a with
    | ⟨0, _⟩ => (Window.rect_emb_val win0_3 t (ix2 k j) 0).trans (by rw [(index3 t).1]; show 0 * 4096 + k.val = k.val; omega)
    | ⟨1, _⟩ => (Window.rect_emb_val win0_3 t (ix2 k j) 1).trans (by rw [(index3 t).2]; show 0 * 1024 + j.val = j.val; omega)))

/-- What the gains' block holds. -/
theorem block4 (t : Fin cfg0.N) (j : Fin 1024) : g0 m c t (ix2 0 j) = gA m c (ix2 0 j) :=
  congrArg (gA m c) (show (win0_4.rect t).emb (ix2 0 j) = ix2 0 j from funext fun a => Fin.ext (match a with
    | ⟨0, _⟩ => (Window.rect_emb_val win0_4 t (ix2 0 j) 0).trans (by rw [(index4 t).1]; rfl)
    | ⟨1, _⟩ => (Window.rect_emb_val win0_4 t (ix2 0 j) 1).trans (by rw [(index4 t).2]; show 0 * 1024 + j.val = j.val; omega)))

/-- Where a point writes its tile of the first result. -/
theorem emb5 (t : Fin cfg0.N) (r : Fin 512) (j : Fin 1024) : (win0_5.rect t).emb (ix2 r j) = ix2 (row t r) j := place_of t r j (Window.rect_emb_val win0_5 t (ix2 r j) 0) (Window.rect_emb_val win0_5 t (ix2 r j) 1) (index5 t)

/-- Where a point writes its tile of the second result. -/
theorem emb6 (t : Fin cfg0.N) (r : Fin 512) (k : Fin 4096) : (win0_6.rect t).emb (ix2 r k) = ix2 (row t r) k := place_of t r k (Window.rect_emb_val win0_6 t (ix2 r k) 0) (Window.rect_emb_val win0_6 t (ix2 r k) 1) (index6 t)

/-- Where the third result is written. -/
theorem emb7 (t : Fin cfg0.N) (j : Fin 1024) : (win0_7.rect t).emb (ix2 0 j) = ix2 0 j := funext fun a => Fin.ext (match a with
    | ⟨0, _⟩ => (Window.rect_emb_val win0_7 t (ix2 0 j) 0).trans (by rw [(index7 t).1]; rfl)
    | ⟨1, _⟩ => (Window.rect_emb_val win0_7 t (ix2 0 j) 1).trans (by rw [(index7 t).2]; show 0 * 1024 + j.val = j.val; omega))

/-! ## The three results -/

/-- One row of the arrays. -/
def ffRow (i : Fin 8192) (j : Fin 1024) : EReal := ffA m c (ix2 i j)
/-- The incoming gradient of one normalised row. -/
def inRow (i : Fin 8192) (j : Fin 1024) : EReal := (dhA m c (ix2 i j) : EReal) * gA m c (ix2 0 j)
/-- The gradient of one element of the MLP's result. -/
def dffAt (i : Fin 8192) (j : Fin 1024) : EReal := pull (ffRow m c i) (inRow m c i) j
/-- The gradient of one element of the wide layer. -/
def dupAt (i : Fin 8192) (k : Fin 4096) : EReal := (∑ j : Fin 1024, dffAt m c i j * wA m c (ix2 k j)) * slope (upA m c (ix2 i k))
/-- One row's part of the gradient of a gain. -/
def dgTerm (j : Fin 1024) (i : Fin 8192) : EReal := (dhA m c (ix2 i j) : EReal) * (ffRow m c i j * size (ffRow m c i))

/-- The first result. -/
def dffA : Vec Ideal S8192x1024 .bf16 := fun z => dffAt m c (z 0) (z 1)
/-- The second result. -/
def dupA : Vec Ideal S8192x4096 .bf16 := fun z => dupAt m c (z 0) (z 1)
/-- The third result. -/
def dgA : Vec Ideal S1x1024 .f32 := fun z => ∑ i : Fin 8192, dgTerm m c (z 1) i

/-- A row of a tile is a row of the array. -/
theorem row_tile (t : Fin cfg0.N) (r : Fin 512) : (fun i => (x0 m c t (ix2 r i) : EReal)) = ffRow m c (row t r) := funext fun i => block1 m c t r i
/-- And so is the incoming gradient's. -/
theorem in_tile (t : Fin cfg0.N) (r : Fin 512) : (fun i => (y0 m c t (ix2 r i) : EReal) * g0 m c t (ix2 0 i)) = inRow m c (row t r) :=
  funext fun i => by rw [block0, block4]; rfl

/-- What a point leaves of the first result. -/
theorem after5 (t : Fin cfg0.N) : (outsAt0 m c t.val t.isLt).1 = k0_pay8 (y0 m c t) (x0 m c t) (g0 m c t) := by
  by_cases h : t.val % 16 = 0
  · rw [outsAt0_A m c t h]; dsimp only; exact (out_A ..).1
  · rw [outsAt0_B m c t h]; dsimp only; exact (out_B ..).1

/-- What a point leaves of the second result. -/
theorem after6 (t : Fin cfg0.N) : (outsAt0 m c t.val t.isLt).2.1 = k0_pay1 (k0_pay9 (y0 m c t) (x0 m c t) (u0 m c t) (g0 m c t) (w0 m c t)) := by
  by_cases h : t.val % 16 = 0
  · rw [outsAt0_A m c t h]; dsimp only; exact (out_A ..).2.1
  · rw [outsAt0_B m c t h]; dsimp only; exact (out_B ..).2.1

/-- What the first point leaves of the third result. -/
def first7 (n : ℕ) (h : n < cfg0.N) : Vec Ideal S1x1024 .f32 := k0_pay3 (k0_pay7 (y0 m c ⟨n, h⟩) (x0 m c ⟨n, h⟩)) (k0_pay2 (F := Ideal))
/-- What a later point leaves of the third result. -/
def next7 (n : ℕ) (h : n < cfg0.N) (acc : Vec Ideal S1x1024 .f32) : Vec Ideal S1x1024 .f32 := k0_pay3 (k0_pay7 (y0 m c ⟨n, h⟩) (x0 m c ⟨n, h⟩)) acc

/-- What a point leaves of the third result. -/
theorem after7 (t : Fin cfg0.N) : (outsAt0 m c t.val t.isLt).2.2 = Pipeline.accAt (first7 m c) (next7 m c) (16 * (t.val / 16)) (t.val % 16)
    (by have h1 := t.isLt; have h2 := Nat.div_add_mod t.val 16; omega) :=
  Pipeline.eq_accAt_of_mod (fun n h => (outsAt0 m c n h).2.2) 16 (first7 m c) (next7 m c)
    (fun n h hn => by rw [outsAt0_A m c ⟨n, h⟩ hn]; dsimp only; exact (out_A ..).2.2)
    (fun n h hn => by rw [outsAt0_B m c ⟨n + 1, h⟩ hn]; dsimp only; exact (out_B ..).2.2)
    (by decide) t.val t.isLt _

/-- One point adds its tile's rows. -/
theorem adds (t : Fin cfg0.N) (acc : FVec Ideal S1x1024 .f32) (j : Fin 1024) :
    (k0_pay3 (F := Ideal) (k0_pay7 (y0 m c t) (x0 m c t)) acc (ix2 0 j) : EReal) = (acc (ix2 0 j) : EReal) + ∑ r : Fin 512, ext (dgTerm m c j) (512 * t.val + r.val) := by
  unfold k0_pay3
  simp only [shapeCast_self]
  rw [addf_apply, scale_tile]
  refine congrArg ((acc (ix2 0 j) : EReal) + ·) (Finset.sum_congr rfl fun r _ => ?_)
  rw [row_tile, block0, block1]
  exact (ext_of (dgTerm m c j) (row t r).val (row t r).isLt).symm

/-- What the run leaves of a gain's gradient. -/
theorem gain_at (t : Fin cfg0.N) (ht : t.val % 16 = 15) (j : Fin 1024) : ((outsAt0 m c t.val t.isLt).2.2 (ix2 0 j) : EReal) = ∑ i : Fin 8192, dgTerm m c j i := by
  have hl := point_lt t
  rw [after7]
  have p : ∀ (b n : ℕ) (h : b + n < cfg0.N), b = 0 → n = 15 → (Pipeline.accAt (first7 m c) (next7 m c) b n h (ix2 0 j) : EReal) = ∑ i : Fin 8192, dgTerm m c j i := by
    intro b n h hb hn
    subst hb hn
    refine run_sum_of (first7 m c) (next7 m c) (ix2 0 j) _ 0 512 15 rfl (fun h => ?_) (fun s h acc => ?_) h
    · unfold first7
      refine (adds m c ⟨0, h⟩ _ j).trans ?_
      rw [show (k0_pay2 (F := Ideal) (ix2 0 j) : EReal) = 0 from zero_bits, zero_add]
    · unfold next7
      refine (adds m c ⟨0 + s.val, h⟩ _ j).trans ?_
      simp only [Nat.zero_add]
  exact p _ _ _ (by omega) ht

/-- The first result array after the grid. -/
theorem final5 : (dats m 0 c).arrAt 5 cfg0.N = dffA m c := by
  refine Dat.arrAt_eq_of_cover (dats m 0 c) 5 (dffA m c) (fun t _ => ?_) (fun y => ?_)
  · rw [flushed5, after5]
    refine ext_mat (e := .bf16) _ _ fun r j => ?_
    refine (pull_tile (y0 m c t) (x0 m c t) (g0 m c t) r j).trans ?_
    rw [row_tile, in_tile]
    exact (congrArg (dffA m c) (emb5 t r j)).symm
  · rw [eq_ix2 y]
    generalize y 0 = i
    generalize y 1 = j
    have hi : i.val < 8192 := i.isLt
    let t : Fin cfg0.N := ⟨i.val / 512, by rw [show cfg0.N = 16 from N_0]; exact (by omega : i.val / 512 < 16)⟩
    refine ⟨t, flush0_5 t, ?_⟩
    have e : ((cfg0.win 5).blk t).view.emb (ix2 ⟨i.val % 512, Nat.mod_lt _ (by decide)⟩ j) = ix2 i j :=
      (emb5 t _ j).trans (congrArg (ix2 · j) (Fin.ext (show 512 * (i.val / 512) + i.val % 512 = i.val by omega)))
    have hm := ((cfg0.win 5).blk t).view.emb_mem_set (ix2 ⟨i.val % 512, Nat.mod_lt _ (by decide)⟩ j)
    rwa [e] at hm

/-- The second result array after the grid. -/
theorem final6 : (dats m 0 c).arrAt 6 cfg0.N = dupA m c := by
  refine Dat.arrAt_eq_of_cover (dats m 0 c) 6 (dupA m c) (fun t _ => ?_) (fun y => ?_)
  · rw [flushed6, after6]
    refine ext_mat (e := .bf16) _ _ fun r k => ?_
    refine (wide_tile (y0 m c t) (x0 m c t) (u0 m c t) (g0 m c t) (w0 m c t) r k).trans ?_
    rw [row_tile, in_tile, block2]
    refine Eq.trans ?_ (congrArg (dupA m c) (emb6 t r k)).symm
    exact congrArg (fun z : EReal => z * slope (upA m c (ix2 (row t r) k))) (Finset.sum_congr rfl fun j _ => by rw [block3]; rfl)
  · rw [eq_ix2 y]
    generalize y 0 = i
    generalize y 1 = j
    have hi : i.val < 8192 := i.isLt
    let t : Fin cfg0.N := ⟨i.val / 512, by rw [show cfg0.N = 16 from N_0]; exact (by omega : i.val / 512 < 16)⟩
    refine ⟨t, flush0_6 t, ?_⟩
    have e : ((cfg0.win 6).blk t).view.emb (ix2 ⟨i.val % 512, Nat.mod_lt _ (by decide)⟩ j) = ix2 i j :=
      (emb6 t _ j).trans (congrArg (ix2 · j) (Fin.ext (show 512 * (i.val / 512) + i.val % 512 = i.val by omega)))
    have hm := ((cfg0.win 6).blk t).view.emb_mem_set (ix2 ⟨i.val % 512, Nat.mod_lt _ (by decide)⟩ j)
    rwa [e] at hm

/-- The one row of a one-row matrix. -/
theorem one_row (i : Fin 1) : i = 0 := Subsingleton.elim _ _

/-- The third result array after the grid. -/
theorem final7 : (dats m 0 c).arrAt 7 cfg0.N = dgA m c := by
  refine Dat.arrAt_eq_of_cover (dats m 0 c) 7 (dgA m c) (fun t hf => ?_) (fun y => ?_)
  · rw [flushed7]
    refine ext_mat (e := .f32) _ _ fun r j => ?_
    obtain rfl := one_row r
    exact (gain_at m c t ((flush0_7 t).mp hf) j).trans (congrArg (dgA m c) (emb7 t j)).symm
  · rw [eq_ix2 y, one_row (y 0)]
    generalize y 1 = j
    let t : Fin cfg0.N := ⟨15, by rw [show cfg0.N = 16 from N_0]; decide⟩
    refine ⟨t, (flush0_7 t).mpr rfl, ?_⟩
    have hm := ((cfg0.win 7).blk t).view.emb_mem_set (ix2 0 j)
    rwa [show ((cfg0.win 7).blk t).view.emb (ix2 0 j) = ix2 0 j from emb7 t j] at hm

/-! ## What the region finds -/

/-- The incoming gradient is the argument's. -/
theorem dh_read : dhA m c = m ((c : Thread nD τ).loc main_arg3) := V_main_arg3 m c

/-- The wide layer is the argument's. -/
theorem up_read : upA m c = m ((c : Thread nD τ).loc main_arg0) := V_main_arg0 m c

open Idealize.ShloMosaic.StableHlo in
/-- The rows are the product of the squared positive part of the wide layer and the weight, as in the reference. -/
theorem ff_read : ffA m c = Cert.MlpDownReferenceIdeal.Read.val_main_v7 (F := Ideal) (m ((c : Thread nD τ).loc main_arg0)) (m ((c : Thread nD τ).loc main_arg1)) := by
  unfold ffA
  show StableHlo.after (List.flatten [hostOps0, hostOps0_1]) (fun b => m (c, b)) (Proc.devRef .tc main_v2) = _
  simp only [hostOps0, hostOps0_1, List.flatten_cons, List.flatten_nil, List.append_nil, List.cons_append, List.nil_append, cast_eq]
  after_results_simp
  rfl

/-- The weight is the argument's. -/
theorem w_read : wA m c = m ((c : Thread nD τ).loc main_arg1) := by
  unfold wA
  show StableHlo.after (List.flatten [hostOps0, hostOps0_1]) (fun b => m (c, b)) (Proc.devRef .tc main_v3) = _
  simp only [hostOps0, hostOps0_1, List.flatten_cons, List.flatten_nil, List.append_nil, List.cons_append, List.nil_append, cast_eq]
  after_results_simp
  rfl

/-- The gains are the argument's. -/
theorem g_read (j : Fin 1024) : (gA m c (ix2 0 j) : EReal) = (m ((c : Thread nD τ).loc main_arg2) : FVec Ideal S1024 .f32) (ix1 j) := by
  have e : gA m c = Cert.MlpDownReferenceIdeal.Read.val_main_v21 (F := Ideal) (m ((c : Thread nD τ).loc main_arg2)) := by
    unfold gA
    show StableHlo.after (List.flatten [hostOps0, hostOps0_1]) (fun b => m (c, b)) (Proc.devRef .tc main_v4) = _
    simp only [hostOps0, hostOps0_1, List.flatten_cons, List.flatten_nil, List.append_nil, List.cons_append, List.nil_append, cast_eq]
    after_results_simp
    rfl
  rw [e, Cert.MlpDownReferenceIdeal.Read.val_main_v21_apply (F := Ideal)]
  exact congrArg _ (funext fun a => Fin.ext (match a with | ⟨0, _⟩ => rfl))

/-! ## The reference -/

section reference

open Cert.MlpDownReferenceIdeal.Read

variable (u : FVec Ideal S8192x4096 .f32) (w : FVec Ideal S4096x1024 .f32) (g : FVec Ideal S1024 .f32) (y : FVec Ideal S8192x1024 .f32)

/-- One row the normalisation takes. -/
def refRow (i : Fin 8192) (j : Fin 1024) : EReal := val_main_v7 (F := Ideal) u w (ix2 i j)
/-- The incoming gradient of one normalised row. -/
def refIn (i : Fin 8192) (j : Fin 1024) : EReal := (y (ix2 i j) : EReal) * g (ix1 j)

/-- The mean square of a row, with the small number added. -/
theorem ref_mean (i : Fin 8192) : (val_main_v14 (F := Ideal) u w (ix2 i 0) : EReal) = meanSq (refRow u w i) := by
  rw [val_main_v14_apply (F := Ideal), val_main_v12_apply (F := Ideal), val_main_v10_apply (F := Ideal), val_main_v11_apply (F := Ideal), val_main_v13_apply (F := Ideal),
    val_main_v9_apply, val_main_cst_3_apply (F := Ideal), val_main_cst_4_apply (F := Ideal), val_main_cst_2_apply (F := Ideal)]
  show Ideal.div (Ideal.ofBits .f32 0x00000000#32 + _) (Ideal.ofBits .f32 0x44800000#32) + Ideal.ofBits .f32 0x358637BD#32 = _
  rw [zero_bits, zero_add]
  unfold meanSq
  refine congrArg (fun z : EReal => Ideal.div z _ + _) (Finset.sum_congr rfl fun k _ => ?_)
  rw [show idx_main_v9 (idx_main_v10 (ix2 i 0)) k = ix2 i k from Shape.idx_ext₂ (y := ix2 i k) rfl rfl, val_main_v8_apply (F := Ideal)]
  rfl

/-- The reciprocal of a row's size. -/
theorem ref_size (i : Fin 8192) : (val_main_v15 (F := Ideal) u w (ix2 i 0) : EReal) = size (refRow u w i) := by
  rw [val_main_v15_apply (F := Ideal), ref_mean]
  rfl

/-- Minus one half of its third power. -/
theorem ref_cube (i : Fin 8192) : (val_main_v18 (F := Ideal) u w (ix2 i 0) : EReal)
    = Ideal.ofBits .f32 0xBF000000#32 * Ideal.div (size (refRow u w i)) (meanSq (refRow u w i)) := by
  rw [val_main_v18_apply (F := Ideal), val_main_v17_apply (F := Ideal), val_main_cst_5_apply (F := Ideal), val_main_v16_apply (F := Ideal), ref_mean, ref_size]
  rfl

/-- The incoming gradient times the gains. -/
theorem ref_in (i : Fin 8192) (j : Fin 1024) : (val_main_v28 (F := Ideal) g y (ix2 i j) : EReal) = refIn g y i j := by
  rw [val_main_v28_apply (F := Ideal), val_main_v27_apply (F := Ideal), val_main_v21_apply (F := Ideal),
    show idx_main_v21 (idx_main_v27 (ix2 i j)) = ix1 j from funext fun a => Fin.ext (match a with | ⟨0, _⟩ => rfl)]
  rfl

/-- The part of the gradient that runs through a row's size. -/
theorem ref_through (i : Fin 8192) : (val_main_v38 (F := Ideal) u w g y (ix1 i) : EReal) = through (refRow u w i) (refIn g y i) := by
  rw [val_main_v38_apply, val_main_cst_10_apply (F := Ideal)]
  show Ideal.ofBits .f32 0x00000000#32 + _ = _
  rw [zero_bits, zero_add, Fin.sum_univ_one, show idx_main_v38 (ix1 i) 0 = ix2 i 0 from Shape.idx_ext₂ (y := ix2 i 0) rfl rfl,
    val_main_v37_apply (F := Ideal), val_main_v36_apply (F := Ideal), val_main_cst_9_apply (F := Ideal), val_main_v35_apply (F := Ideal), ref_cube,
    val_main_v32_apply (F := Ideal), show idx_main_v32 (ix2 i 0) = ix1 i from funext fun a => Fin.ext (match a with | ⟨0, _⟩ => show i.val * 1 + 0 = i.val by omega),
    val_main_v31_apply, val_main_cst_8_apply (F := Ideal)]
  show Ideal.div ((Ideal.ofBits .f32 0x00000000#32 + _) * _) (Ideal.ofBits .f32 0x44800000#32) = _
  rw [zero_bits, zero_add]
  unfold through
  refine congrArg (fun z : EReal => Ideal.div (z * _) _) (Finset.sum_congr rfl fun k _ => ?_)
  rw [show idx_main_v31 (ix1 i) k = ix2 i k from Shape.idx_ext₂ (y := ix2 i k) rfl rfl, val_main_v30_apply (F := Ideal), ref_in]
  rfl

/-- The gradient of the MLP's result. -/
theorem ref_pull (i : Fin 8192) (j : Fin 1024) : (val_main_v43 (F := Ideal) u w g y (ix2 i j) : EReal) = pull (refRow u w i) (refIn g y i) j := by
  rw [pull_eq, val_main_v43_apply (F := Ideal), val_main_v42_apply (F := Ideal), val_main_v41_apply (F := Ideal), val_main_v40_apply (F := Ideal),
    val_main_v39_apply (F := Ideal), val_main_v34_apply (F := Ideal), val_main_v33_apply (F := Ideal), ref_in,
    show idx_main_v39 (ix2 i j) = ix1 i from funext fun a => Fin.ext (match a with | ⟨0, _⟩ => rfl),
    show idx_main_v33 (ix2 i j) = ix2 i 0 from Shape.idx_ext₂ (y := ix2 i 0) rfl rfl, ref_through, ref_size]
  rfl

/-- The gradient of the wide layer. -/
theorem ref_wide (i : Fin 8192) (k : Fin 4096) : (val_main_v48 (F := Ideal) u w g y (ix2 i k) : EReal)
    = (∑ j : Fin 1024, pull (refRow u w i) (refIn g y i) j * w (ix2 k j)) * slope (u (ix2 i k)) := by
  have hs : (∑ j : Fin 1024, (val_main_v43 (F := Ideal) u w g y (ix2 i j) : EReal) * w (ix2 k j)) = ∑ j : Fin 1024, pull (refRow u w i) (refIn g y i) j * w (ix2 k j) :=
    Finset.sum_congr rfl fun j _ => by rw [ref_pull]
  rw [← hs, val_main_v48_apply (F := Ideal), val_main_v2_apply (F := Ideal), val_main_v1_apply (F := Ideal), val_main_cst_apply (F := Ideal), val_main_v47_apply (F := Ideal), val_main_cst_11_apply (F := Ideal),
    val_main_v46_apply (F := Ideal), val_main_v45_apply, val_main_v6_apply (F := Ideal), val_main_v5_apply (F := Ideal), val_main_cst_1_apply (F := Ideal), val_main_v0_apply (F := Ideal),
    val_main_call0_v0_apply (F := Ideal), val_main_call0_cst_apply (F := Ideal)]
  have el : ∀ j, lidx_main_v45 (ix2 i k) j = ix2 i j := fun j => Shape.idx_ext₂ (y := ix2 i j) rfl rfl
  have er : ∀ j, ridx_main_v45 (ix2 i k) j = ix2 k j := fun j => Shape.idx_ext₂ (y := ix2 k j) rfl rfl
  simp only [el, er]
  generalize (∑ j : Fin 1024, (val_main_v43 (F := Ideal) u w g y (ix2 i j) : EReal) * w (ix2 k j)) = M
  exact masked M (u (ix2 i k))

/-- The gradient of a gain. -/
theorem ref_gain (j : Fin 1024) : (val_main_v50 (F := Ideal) u w y (ix2 0 j) : EReal)
    = ∑ i : Fin 8192, (y (ix2 i j) : EReal) * (refRow u w i j * size (refRow u w i)) := by
  rw [val_main_v50_apply (F := Ideal), show idx_main_v50 (ix2 0 j) = ix1 j from funext fun a => Fin.ext (match a with | ⟨0, _⟩ => rfl), val_main_v29_apply, val_main_cst_7_apply (F := Ideal)]
  show Ideal.ofBits .f32 0x00000000#32 + _ = _
  rw [zero_bits, zero_add, Fin.sum_univ_one, show idx_main_v29 (ix1 j) 0 = ix2 0 j from Shape.idx_ext₂ (y := ix2 0 j) rfl rfl, val_main_v26_apply (F := Ideal),
    show idx_main_v26 (ix2 0 j) = ix1 j from funext fun a => Fin.ext (match a with | ⟨0, _⟩ => show 0 * 1024 + j.val = j.val by omega), val_main_v25_apply, val_main_cst_6_apply (F := Ideal)]
  show Ideal.ofBits .f32 0x00000000#32 + _ = _
  rw [zero_bits, zero_add]
  refine Finset.sum_congr rfl fun i _ => ?_
  rw [show idx_main_v25 (ix1 j) i = ix2 i j from Shape.idx_ext₂ (y := ix2 i j) rfl rfl, val_main_v24_apply (F := Ideal), val_main_v20_apply (F := Ideal), val_main_v19_apply (F := Ideal),
    show idx_main_v19 (ix2 i j) = ix2 i 0 from Shape.idx_ext₂ (y := ix2 i 0) rfl rfl, ref_size]
  exact mul_comm _ _

end reference

/-! ## Kernel and reference agree -/

/-- The rows are the reference's. -/
theorem row_same (i : Fin 8192) : ffRow m c i = refRow (m ((c : Thread nD τ).loc main_arg0)) (m ((c : Thread nD τ).loc main_arg1)) i :=
  funext fun j => congrFun (ff_read m c) (ix2 i j)

/-- The incoming gradients of the normalised rows are the reference's. -/
theorem in_same (i : Fin 8192) : inRow m c i = refIn (m ((c : Thread nD τ).loc main_arg2)) (m ((c : Thread nD τ).loc main_arg3)) i :=
  funext fun j => by
    unfold inRow refIn
    rw [dh_read, g_read]

/-- The first result is the reference's. -/
theorem same5 : dffA m c = Cert.MlpDownReferenceIdeal.Read.val_main_v44 (F := Ideal) (m ((c : Thread nD τ).loc main_arg0)) (m ((c : Thread nD τ).loc main_arg1)) (m ((c : Thread nD τ).loc main_arg2)) (m ((c : Thread nD τ).loc main_arg3)) :=
  ext_mat (e := .bf16) _ _ fun i j => by
    rw [Cert.MlpDownReferenceIdeal.Read.val_main_v44_apply (F := Ideal)]
    refine Eq.trans ?_ (ref_pull _ _ _ _ i j).symm
    show pull (ffRow m c i) (inRow m c i) j = _
    rw [row_same, in_same]

/-- The second result is the reference's. -/
theorem same6 : dupA m c = Cert.MlpDownReferenceIdeal.Read.val_main_v49 (F := Ideal) (m ((c : Thread nD τ).loc main_arg0)) (m ((c : Thread nD τ).loc main_arg1)) (m ((c : Thread nD τ).loc main_arg2)) (m ((c : Thread nD τ).loc main_arg3)) :=
  ext_mat (e := .bf16) _ _ fun i k => by
    rw [Cert.MlpDownReferenceIdeal.Read.val_main_v49_apply (F := Ideal)]
    refine Eq.trans ?_ (ref_wide _ _ _ _ i k).symm
    show (∑ j : Fin 1024, pull (ffRow m c i) (inRow m c i) j * wA m c (ix2 k j)) * slope (upA m c (ix2 i k)) = _
    rw [row_same, in_same, up_read, w_read]

/-- The third result is the reference's. -/
theorem same7 : dgA m c = Cert.MlpDownReferenceIdeal.Read.val_main_v50 (F := Ideal) (m ((c : Thread nD τ).loc main_arg0)) (m ((c : Thread nD τ).loc main_arg1)) (m ((c : Thread nD τ).loc main_arg3)) :=
  ext_mat (e := .f32) _ _ fun r j => by
    obtain rfl := one_row r
    refine Eq.trans ?_ (ref_gain _ _ _ j).symm
    show ∑ i : Fin 8192, (dhA m c (ix2 i j) : EReal) * (ffRow m c i j * size (ffRow m c i)) = _
    exact Finset.sum_congr rfl fun i _ => by rw [dh_read, row_same]

end Cert.Mlp.Down

end
-- ==== Proof.Mlp.MlpUp.lean ====
module

public import proofs.«01_k».proof.Proof.Mlp.Rows
public import proofs.«01_k».proof.Proof.Gen.MlpUp
public import proofs.«01_k».proof.Proof.Gen.MlpUpIdeal.Value
public import proofs.«01_k».proof.Proof.Gen.MlpUpReferenceIdeal.Run
public import proofs.«01_k».proof.Proof.Gen.MlpUpReferenceIdeal.Read

@[expose] public section

set_option maxRecDepth 16384

noncomputable section

/-! # The second half of the MLP's backward pass

One tile of 512 rows at a time the kernel multiplies the wide layer's gradient by the weight that leads up, takes it
through the normalisation before the MLP and adds it to the stream's gradient. It also hands on the normalised rows and
adds up the normalisation's own gradient.
-/

namespace Cert.Mlp.Up

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.MlpUpIdeal Cert.MlpUpIdeal.Gen Cert.MlpUpIdeal.Value

/-! ## What the kernel computes of one tile -/

/-- Rows against rows, at an index. -/
theorem dot_at (x : FVec Ideal S512x4096 .bf16) (y : FVec Ideal S1024x4096 .bf16) (r : Fin 512) (k : Fin 1024) :
    matmul (F := Ideal) dot_S512x4096_S1024x4096_S512x1024_1_1_0_0_n_n none x y (constant S512x1024 .f32 0x00000000#32) (ix2 r k)
      = ∑ j : Fin 4096, (x (ix2 r j) : EReal) * y (ix2 k j) := by
  simp only [matmul]
  rw [Ideal.matmul_constant_zero_apply, ← Equiv.sum_comp (contrEquiv1 dot_S512x4096_S1024x4096_S512x1024_1_1_0_0_n_n 4096 rfl rfl).symm]
  refine Finset.sum_congr rfl fun q _ => ?_
  have hq := contrEquiv1_symm_val dot_S512x4096_S1024x4096_S512x1024_1_1_0_0_n_n 4096 rfl rfl q
  have el : dot_S512x4096_S1024x4096_S512x1024_1_1_0_0_n_n.lhsIdx (ix2 r k) ((contrEquiv1 dot_S512x4096_S1024x4096_S512x1024_1_1_0_0_n_n 4096 rfl rfl).symm q) = ix2 r q :=
    funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans hq)
  have er : dot_S512x4096_S1024x4096_S512x1024_1_1_0_0_n_n.rhsIdx (ix2 r k) ((contrEquiv1 dot_S512x4096_S1024x4096_S512x1024_1_1_0_0_n_n 4096 rfl rfl).symm q) = ix2 k q :=
    funext fun z => Fin.ext (match z with
      | ⟨0, _⟩ => by unfold DotDims.rhsIdx; rw [dif_neg (by decide +revert), dif_pos (by decide +revert)]; rfl
      | ⟨1, _⟩ => (DotDims.rhsIdx_val_of_single _ rfl _ _).trans hq)
  rw [el, er]

/-- The gradient of the normalised rows. -/
theorem prod_tile (u : FVec Ideal S512x4096 .bf16) (w : FVec Ideal S1024x4096 .bf16) (r : Fin 512) (j : Fin 1024) :
    (k0_pay4 (F := Ideal) u w (ix2 r j) : EReal) = ∑ k : Fin 4096, (u (ix2 r k) : EReal) * w (ix2 j k) := by
  unfold k0_pay4
  simp only [shapeCast_self]
  exact dot_at u w r j

/-- The size of each row. -/
theorem size_tile (x : FVec Ideal S512x1024 .f32) (r : Fin 512) : (k0_pay5 (F := Ideal) x (ix2 r 0) : EReal) = size fun i => x (ix2 r i) := by
  unfold k0_pay5
  exact size_at x _ _ _ _ r

/-- The normalised rows. -/
theorem norm_tile (x : FVec Ideal S512x1024 .f32) (r : Fin 512) (j : Fin 1024) :
    (k0_pay6 (F := Ideal) x (ix2 r j) : EReal) = (x (ix2 r j) : EReal) * size fun i => x (ix2 r i) := by
  unfold k0_pay6
  rw [mulf_apply, spread_col _ _ (by decide), size_tile]

/-- The normalised rows times the gains. -/
theorem hand_tile (x : FVec Ideal S512x1024 .f32) (g : FVec Ideal S1x1024 .f32) (r : Fin 512) (j : Fin 1024) :
    (k0_pay1 (F := Ideal) x (k0_pay9 g) (k0_pay10 x) (ix2 r j) : EReal) = ((x (ix2 r j) : EReal) * size fun i => x (ix2 r i)) * g (ix2 0 j) := by
  unfold k0_pay1 k0_pay9 k0_pay10
  simp only [shapeCast_self]
  rw [truncf_apply, mulf_apply, mulf_apply, spread_row _ _ (by decide), spread_col _ _ (by decide)]
  exact congrArg (fun z : EReal => ((x (ix2 r j) : EReal) * z) * g (ix2 0 j)) (size_at x _ _ _ _ r)

/-- The tile's part of the normalisation's own gradient. -/
theorem scale_tile (x : FVec Ideal S512x1024 .f32) (u : FVec Ideal S512x4096 .bf16) (w : FVec Ideal S1024x4096 .bf16) (j : Fin 1024) :
    (k0_pay7 (F := Ideal) x u w (ix2 0 j) : EReal)
      = ∑ r : Fin 512, (∑ k : Fin 4096, (u (ix2 r k) : EReal) * w (ix2 j k)) * ((x (ix2 r j) : EReal) * size fun i => x (ix2 r i)) := by
  unfold k0_pay7
  refine (as_row _ _ j).trans ((col_sum _ _ _ _ j).trans (Finset.sum_congr rfl fun r _ => ?_))
  rw [mulf_apply, norm_tile, prod_tile]

/-- The gradient of the stream. -/
theorem pull_tile (y x : FVec Ideal S512x1024 .f32) (u : FVec Ideal S512x4096 .bf16) (w : FVec Ideal S1024x4096 .bf16) (g : FVec Ideal S1x1024 .f32) (r : Fin 512) (j : Fin 1024) :
    (k0_pay8 (F := Ideal) y x u w g (ix2 r j) : EReal)
      = (y (ix2 r j) : EReal) + pull (fun i => x (ix2 r i)) (fun i => (∑ k : Fin 4096, (u (ix2 r k) : EReal) * w (ix2 i k)) * g (ix2 0 i)) j := by
  unfold k0_pay8
  simp only [shapeCast_self]
  rw [addf_apply, mulf_apply, spread_col _ _ (by decide), size_tile, subf_apply, mulf_apply, mulf_apply, spread_row _ _ (by decide), norm_tile, spread_col _ _ (by decide), prod_tile]
  unfold pull
  refine congrArg (fun z : EReal => (y (ix2 r j) : EReal) + size (fun i => (x (ix2 r i) : EReal)) * ((∑ k : Fin 4096, (u (ix2 r k) : EReal) * w (ix2 j k)) * g (ix2 0 j) - (x (ix2 r j) : EReal) * size (fun i => (x (ix2 r i) : EReal)) * z)) ?_
  refine congrArg (fun z : EReal => Ideal.div z (Ideal.ofBits .f32 0x44800000#32)) ((as_col _ _ r).trans ((row_sum _ _ _ _ r).trans (Finset.sum_congr rfl fun i _ => ?_)))
  rw [mulf_apply, mulf_apply, spread_row _ _ (by decide), norm_tile, prod_tile]

/-! ## What the body leaves -/

section

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x4096 .bf16) (h3 : a3.IsWhole) (a4 : Memref sig .tc .vmem S1024x4096 .bf16) (h4 : a4.IsWhole) (a5 : Memref sig .tc .vmem S1x1024 .f32) (h5 : a5.IsWhole) (a6 : Memref sig .tc .vmem S512x1024 .f32) (h6 : a6.IsWhole) (a7 : Memref sig .tc .vmem S512x1024 .bf16) (h7 : a7.IsWhole) (a8 : Memref sig .tc .vmem S1x1024 .f32) (h8 : a8.IsWhole)

/-- What the first point leaves. -/
theorem out_A (hc : cond0_0 i)
    (y x : Vec Ideal S512x1024 .f32) (u : Vec Ideal S512x4096 .bf16) (w : Vec Ideal S1024x4096 .bf16) (g : Vec Ideal S1x1024 .f32) :
    out0_A_5 (F := Ideal) c i a1 h1 a2 h2 a3 h3 a4 h4 a5 h5 a6 h6 a7 h7 a8 h8 hc y x u w g = k0_pay8 y x u w g
    ∧ out0_A_6 (F := Ideal) c i a1 h1 a2 h2 a3 h3 a4 h4 a5 h5 a6 h6 a7 h7 a8 h8 hc y x u w g = k0_pay1 x (k0_pay9 g) (k0_pay10 x)
    ∧ out0_A_7 (F := Ideal) c i a1 h1 a2 h2 a3 h3 a4 h4 a5 h5 a6 h6 a7 h7 a8 h8 hc y x u w g = k0_pay3 (k0_pay7 x u w) (k0_pay2 (F := Ideal)) := by
  refine ⟨?_, ?_, ?_⟩
  on_goal 1 => unfold out0_A_5; rw [View.read_writes_eq_canon _ _ _ (cover0_A_5 c i a1 h1 a2 h2 a3 h3 a4 h4 a5 h5 a6 h6 a7 h7 a8 h8 hc y x u w g)]
  on_goal 2 => unfold out0_A_6; rw [View.read_writes_eq_canon _ _ _ (cover0_A_6 c i a1 h1 a2 h2 a3 h3 a4 h4 a5 h5 a6 h6 a7 h7 a8 h8 hc y x u w g)]
  on_goal 3 => unfold out0_A_7; rw [View.read_writes_eq_canon _ _ _ (cover0_A_7 c i a1 h1 a2 h2 a3 h3 a4 h4 a5 h5 a6 h6 a7 h7 a8 h8 hc y x u w g)]
  all_goals unfold kernelRun0_A; dsimp only; try sl_unfold_words
  all_goals first | rw [View.canon_unit_zero zero2] | rw [View.canon_cons_unit_zero (S := S1x1024) zero2, View.readCov_unit_zero (S := S1x1024) _ zero2]
  all_goals simp only [View.readAt_eq_ld, h1.read_unread, h2.read_unread, h3.read_unread, h4.read_unread, h5.read_unread, h8.read_unread, View.ld_unit_zero (S := S512x1024) zero2, View.ld_unit_zero (S := S512x4096) zero2, View.ld_unit_zero (S := S1024x4096) zero2, View.ld_unit_zero (S := S1x1024) zero2, shapeCast_self]

/-- What a later point leaves. -/
theorem out_B (hc : ¬cond0_0 i)
    (y x : Vec Ideal S512x1024 .f32) (u : Vec Ideal S512x4096 .bf16) (w : Vec Ideal S1024x4096 .bf16) (g : Vec Ideal S1x1024 .f32) (acc : Vec Ideal S1x1024 .f32) :
    out0_B_5 (F := Ideal) c i a1 h1 a2 h2 a3 h3 a4 h4 a5 h5 a6 h6 a7 h7 a8 h8 hc y x u w g acc = k0_pay8 y x u w g
    ∧ out0_B_6 (F := Ideal) c i a1 h1 a2 h2 a3 h3 a4 h4 a5 h5 a6 h6 a7 h7 a8 h8 hc y x u w g acc = k0_pay1 x (k0_pay9 g) (k0_pay10 x)
    ∧ out0_B_7 (F := Ideal) c i a1 h1 a2 h2 a3 h3 a4 h4 a5 h5 a6 h6 a7 h7 a8 h8 hc y x u w g acc = k0_pay3 (k0_pay7 x u w) acc := by
  refine ⟨?_, ?_, ?_⟩
  on_goal 1 => unfold out0_B_5; rw [View.read_writes_eq_canon _ _ _ (cover0_B_5 c i a1 h1 a2 h2 a3 h3 a4 h4 a5 h5 a6 h6 a7 h7 a8 h8 hc y x u w g acc)]
  on_goal 2 => unfold out0_B_6; rw [View.read_writes_eq_canon _ _ _ (cover0_B_6 c i a1 h1 a2 h2 a3 h3 a4 h4 a5 h5 a6 h6 a7 h7 a8 h8 hc y x u w g acc)]
  on_goal 3 => unfold out0_B_7; rw [View.read_writes_eq_canon _ _ _ (cover0_B_7 c i a1 h1 a2 h2 a3 h3 a4 h4 a5 h5 a6 h6 a7 h7 a8 h8 hc y x u w g acc)]
  all_goals unfold kernelRun0_B; dsimp only; try sl_unfold_words
  all_goals rw [View.canon_unit_zero zero2]
  all_goals simp only [View.readAt_eq_ld, h1.read_unread, h2.read_unread, h3.read_unread, h4.read_unread, h5.read_unread, h8.read_unread, View.ld_unit_zero (S := S512x1024) zero2, View.ld_unit_zero (S := S512x4096) zero2, View.ld_unit_zero (S := S1024x4096) zero2, View.ld_unit_zero (S := S1x1024) zero2, shapeCast_self]

end

/-! ## The grid -/

/-- Where the tiles of the stream's gradient lie. -/
theorem index0 : ∀ t : Fin cfg0.N, win0_0.index t 0 = t.val ∧ win0_0.index t 1 = 0 := by decide +kernel
/-- Where the tiles of the rows lie. -/
theorem index1 : ∀ t : Fin cfg0.N, win0_1.index t 0 = t.val ∧ win0_1.index t 1 = 0 := by decide +kernel
/-- Where the tiles of the wide layer's gradient lie. -/
theorem index2 : ∀ t : Fin cfg0.N, win0_2.index t 0 = t.val ∧ win0_2.index t 1 = 0 := by decide +kernel
/-- The weight is one block. -/
theorem index3 : ∀ t : Fin cfg0.N, win0_3.index t 0 = 0 ∧ win0_3.index t 1 = 0 := by decide +kernel
/-- The gains are one block. -/
theorem index4 : ∀ t : Fin cfg0.N, win0_4.index t 0 = 0 ∧ win0_4.index t 1 = 0 := by decide +kernel
/-- Where the tiles of the first result lie. -/
theorem index5 : ∀ t : Fin cfg0.N, win0_5.index t 0 = t.val ∧ win0_5.index t 1 = 0 := by decide +kernel
/-- Where the tiles of the second result lie. -/
theorem index6 : ∀ t : Fin cfg0.N, win0_6.index t 0 = t.val ∧ win0_6.index t 1 = 0 := by decide +kernel
/-- The third result is one block. -/
theorem index7 : ∀ t : Fin cfg0.N, win0_7.index t 0 = 0 ∧ win0_7.index t 1 = 0 := by decide +kernel

/-- A grid point is one of sixteen. -/
theorem point_lt (t : Fin cfg0.N) : t.val < 16 := Nat.lt_of_lt_of_eq t.isLt N_0

/-- The row of the arrays in row `r` of a point's tiles. -/
def row (t : Fin cfg0.N) (r : Fin 512) : Fin 8192 := ⟨512 * t.val + r.val, by have := r.isLt; have := point_lt t; omega⟩

/-- A tile's index, from its two coordinates. -/
theorem place_of {C : ℕ} {y : (⟨2, ![8192, C]⟩ : Shape).Idx} {a b : ℕ} (t : Fin cfg0.N) (r : Fin 512) (k : Fin C) (h0 : (y 0).val = a * 512 + r.val) (h1 : (y 1).val = b * C + k.val) (h : a = t.val ∧ b = 0) :
    y = ix2 (row t r) k := funext fun z => Fin.ext (match z with
    | ⟨0, _⟩ => h0.trans (by rw [h.1]; exact (by omega : t.val * 512 + r.val = 512 * t.val + r.val))
    | ⟨1, _⟩ => h1.trans (by rw [h.2, Nat.zero_mul, Nat.zero_add]))

variable (m : (ℓ : Loc nD τ sig) → Buf (Elt Ideal) ℓ) (c : Dev nD)

/-- The stream's gradient as the region finds it. -/
def dhA : Vec Ideal S8192x1024 .f32 := V m c main_arg4
/-- The rows the normalisation takes as the region finds them. -/
def hA : Vec Ideal S8192x1024 .f32 := V m c main_arg0
/-- The wide layer's gradient as the region finds it. -/
def upA : Vec Ideal S8192x4096 .bf16 := V m c main_v0
/-- The weight as the region finds it. -/
def wA : Vec Ideal S1024x4096 .bf16 := V m c main_v1
/-- The gains as the region finds them. -/
def gA : Vec Ideal S1x1024 .f32 := V m c main_v2

/-- A tile of the stream's gradient. -/
def y0 (t : Fin cfg0.N) : Vec Ideal S512x1024 .f32 := iblk m c 0 t
/-- A tile of the rows. -/
def x0 (t : Fin cfg0.N) : Vec Ideal S512x1024 .f32 := iblk m c 1 t
/-- A tile of the wide layer's gradient. -/
def u0 (t : Fin cfg0.N) : Vec Ideal S512x4096 .bf16 := iblk m c 2 t
/-- The weight's block. -/
def w0 (t : Fin cfg0.N) : Vec Ideal S1024x4096 .bf16 := iblk m c 3 t
/-- The gains' block. -/
def g0 (t : Fin cfg0.N) : Vec Ideal S1x1024 .f32 := iblk m c 4 t

/-- What a tile of the stream's gradient holds. -/
theorem block0 (t : Fin cfg0.N) (r : Fin 512) (j : Fin 1024) : y0 m c t (ix2 r j) = dhA m c (ix2 (row t r) j) :=
  congrArg (dhA m c) (show (win0_0.rect t).emb (ix2 r j) = ix2 (row t r) j from place_of t r j (Window.rect_emb_val win0_0 t (ix2 r j) 0) (Window.rect_emb_val win0_0 t (ix2 r j) 1) (index0 t))

/-- What a tile of the rows holds. -/
theorem block1 (t : Fin cfg0.N) (r : Fin 512) (j : Fin 1024) : x0 m c t (ix2 r j) = hA m c (ix2 (row t r) j) :=
  congrArg (hA m c) (show (win0_1.rect t).emb (ix2 r j) = ix2 (row t r) j from place_of t r j (Window.rect_emb_val win0_1 t (ix2 r j) 0) (Window.rect_emb_val win0_1 t (ix2 r j) 1) (index1 t))

/-- What a tile of the wide layer's gradient holds. -/
theorem block2 (t : Fin cfg0.N) (r : Fin 512) (k : Fin 4096) : u0 m c t (ix2 r k) = upA m c (ix2 (row t r) k) :=
  congrArg (upA m c) (show (win0_2.rect t).emb (ix2 r k) = ix2 (row t r) k from place_of t r k (Window.rect_emb_val win0_2 t (ix2 r k) 0) (Window.rect_emb_val win0_2 t (ix2 r k) 1) (index2 t))

/-- What the weight's block holds. -/
theorem block3 (t : Fin cfg0.N) (k : Fin 1024) (j : Fin 4096) : w0 m c t (ix2 k j) = wA m c (ix2 k j) :=
  congrArg (wA m c) (show (win0_3.rect t).emb (ix2 k j) = ix2 k j from funext fun a => Fin.ext (match a with
    | ⟨0, _⟩ => (Window.rect_emb_val win0_3 t (ix2 k j) 0).trans (by rw [(index3 t).1]; show 0 * 1024 + k.val = k.val; omega)
    | ⟨1, _⟩ => (Window.rect_emb_val win0_3 t (ix2 k j) 1).trans (by rw [(index3 t).2]; show 0 * 4096 + j.val = j.val; omega)))

/-- What the gains' block holds. -/
theorem block4 (t : Fin cfg0.N) (j : Fin 1024) : g0 m c t (ix2 0 j) = gA m c (ix2 0 j) :=
  congrArg (gA m c) (show (win0_4.rect t).emb (ix2 0 j) = ix2 0 j from funext fun a => Fin.ext (match a with
    | ⟨0, _⟩ => (Window.rect_emb_val win0_4 t (ix2 0 j) 0).trans (by rw [(index4 t).1]; rfl)
    | ⟨1, _⟩ => (Window.rect_emb_val win0_4 t (ix2 0 j) 1).trans (by rw [(index4 t).2]; show 0 * 1024 + j.val = j.val; omega)))

/-- Where a point writes its tile of the first result. -/
theorem emb5 (t : Fin cfg0.N) (r : Fin 512) (j : Fin 1024) : (win0_5.rect t).emb (ix2 r j) = ix2 (row t r) j := place_of t r j (Window.rect_emb_val win0_5 t (ix2 r j) 0) (Window.rect_emb_val win0_5 t (ix2 r j) 1) (index5 t)

/-- Where a point writes its tile of the second result. -/
theorem emb6 (t : Fin cfg0.N) (r : Fin 512) (k : Fin 1024) : (win0_6.rect t).emb (ix2 r k) = ix2 (row t r) k := place_of t r k (Window.rect_emb_val win0_6 t (ix2 r k) 0) (Window.rect_emb_val win0_6 t (ix2 r k) 1) (index6 t)

/-- Where the third result is written. -/
theorem emb7 (t : Fin cfg0.N) (j : Fin 1024) : (win0_7.rect t).emb (ix2 0 j) = ix2 0 j := funext fun a => Fin.ext (match a with
    | ⟨0, _⟩ => (Window.rect_emb_val win0_7 t (ix2 0 j) 0).trans (by rw [(index7 t).1]; rfl)
    | ⟨1, _⟩ => (Window.rect_emb_val win0_7 t (ix2 0 j) 1).trans (by rw [(index7 t).2]; show 0 * 1024 + j.val = j.val; omega))

/-! ## The three results -/

/-- One row of the stream. -/
def hRow (i : Fin 8192) (j : Fin 1024) : EReal := hA m c (ix2 i j)
/-- The gradient of one element of the normalised rows. -/
def prodAt (i : Fin 8192) (j : Fin 1024) : EReal := ∑ k : Fin 4096, (upA m c (ix2 i k) : EReal) * wA m c (ix2 j k)
/-- The incoming gradient of one normalised row. -/
def inRow (i : Fin 8192) (j : Fin 1024) : EReal := prodAt m c i j * gA m c (ix2 0 j)
/-- One row's part of the gradient of a gain. -/
def dgTerm (j : Fin 1024) (i : Fin 8192) : EReal := prodAt m c i j * (hRow m c i j * size (hRow m c i))

/-- One element of the first result. -/
def dxAt (i : Fin 8192) (j : Fin 1024) : EReal := (dhA m c (ix2 i j) : EReal) + pull (hRow m c i) (inRow m c i) j
/-- One element of the second result. -/
def hnAt (i : Fin 8192) (j : Fin 1024) : EReal := (hRow m c i j * size (hRow m c i)) * gA m c (ix2 0 j)

/-- The first result. -/
def dxA : Vec Ideal S8192x1024 .f32 := fun z => dxAt m c (z 0) (z 1)
/-- The second result. -/
def hnA : Vec Ideal S8192x1024 .bf16 := fun z => hnAt m c (z 0) (z 1)
/-- The third result. -/
def dgA : Vec Ideal S1x1024 .f32 := fun z => ∑ i : Fin 8192, dgTerm m c (z 1) i

/-- A row of a tile is a row of the array. -/
theorem row_tile (t : Fin cfg0.N) (r : Fin 512) : (fun i => (x0 m c t (ix2 r i) : EReal)) = hRow m c (row t r) := funext fun i => block1 m c t r i
/-- So is the gradient of the normalised rows. -/
theorem prod_row (t : Fin cfg0.N) (r : Fin 512) (j : Fin 1024) : (∑ k : Fin 4096, (u0 m c t (ix2 r k) : EReal) * w0 m c t (ix2 j k)) = prodAt m c (row t r) j :=
  Finset.sum_congr rfl fun k _ => by rw [block2, block3]
/-- And so is the incoming gradient's. -/
theorem in_tile (t : Fin cfg0.N) (r : Fin 512) : (fun i => (∑ k : Fin 4096, (u0 m c t (ix2 r k) : EReal) * w0 m c t (ix2 i k)) * g0 m c t (ix2 0 i)) = inRow m c (row t r) :=
  funext fun i => by rw [prod_row, block4]; rfl

/-- What a point leaves of the first result. -/
theorem after5 (t : Fin cfg0.N) : (outsAt0 m c t.val t.isLt).1 = k0_pay8 (y0 m c t) (x0 m c t) (u0 m c t) (w0 m c t) (g0 m c t) := by
  by_cases h : t.val % 16 = 0
  · rw [outsAt0_A m c t h]; dsimp only; exact (out_A ..).1
  · rw [outsAt0_B m c t h]; dsimp only; exact (out_B ..).1

/-- What a point leaves of the second result. -/
theorem after6 (t : Fin cfg0.N) : (outsAt0 m c t.val t.isLt).2.1 = k0_pay1 (x0 m c t) (k0_pay9 (g0 m c t)) (k0_pay10 (x0 m c t)) := by
  by_cases h : t.val % 16 = 0
  · rw [outsAt0_A m c t h]; dsimp only; exact (out_A ..).2.1
  · rw [outsAt0_B m c t h]; dsimp only; exact (out_B ..).2.1

/-- What the first point leaves of the third result. -/
def first7 (n : ℕ) (h : n < cfg0.N) : Vec Ideal S1x1024 .f32 := k0_pay3 (k0_pay7 (x0 m c ⟨n, h⟩) (u0 m c ⟨n, h⟩) (w0 m c ⟨n, h⟩)) (k0_pay2 (F := Ideal))
/-- What a later point leaves of the third result. -/
def next7 (n : ℕ) (h : n < cfg0.N) (acc : Vec Ideal S1x1024 .f32) : Vec Ideal S1x1024 .f32 := k0_pay3 (k0_pay7 (x0 m c ⟨n, h⟩) (u0 m c ⟨n, h⟩) (w0 m c ⟨n, h⟩)) acc

/-- What a point leaves of the third result. -/
theorem after7 (t : Fin cfg0.N) : (outsAt0 m c t.val t.isLt).2.2 = Pipeline.accAt (first7 m c) (next7 m c) (16 * (t.val / 16)) (t.val % 16)
    (by have h1 := t.isLt; have h2 := Nat.div_add_mod t.val 16; omega) :=
  Pipeline.eq_accAt_of_mod (fun n h => (outsAt0 m c n h).2.2) 16 (first7 m c) (next7 m c)
    (fun n h hn => by rw [outsAt0_A m c ⟨n, h⟩ hn]; dsimp only; exact (out_A ..).2.2)
    (fun n h hn => by rw [outsAt0_B m c ⟨n + 1, h⟩ hn]; dsimp only; exact (out_B ..).2.2)
    (by decide) t.val t.isLt _

/-- One point adds its tile's rows. -/
theorem adds (t : Fin cfg0.N) (acc : FVec Ideal S1x1024 .f32) (j : Fin 1024) :
    (k0_pay3 (F := Ideal) (k0_pay7 (x0 m c t) (u0 m c t) (w0 m c t)) acc (ix2 0 j) : EReal) = (acc (ix2 0 j) : EReal) + ∑ r : Fin 512, ext (dgTerm m c j) (512 * t.val + r.val) := by
  unfold k0_pay3
  simp only [shapeCast_self]
  rw [addf_apply, scale_tile]
  refine congrArg ((acc (ix2 0 j) : EReal) + ·) (Finset.sum_congr rfl fun r _ => ?_)
  rw [row_tile, prod_row, block1]
  exact (ext_of (dgTerm m c j) (row t r).val (row t r).isLt).symm

/-- What the run leaves of a gain's gradient. -/
theorem gain_at (t : Fin cfg0.N) (ht : t.val % 16 = 15) (j : Fin 1024) : ((outsAt0 m c t.val t.isLt).2.2 (ix2 0 j) : EReal) = ∑ i : Fin 8192, dgTerm m c j i := by
  have hl := point_lt t
  rw [after7]
  have p : ∀ (b n : ℕ) (h : b + n < cfg0.N), b = 0 → n = 15 → (Pipeline.accAt (first7 m c) (next7 m c) b n h (ix2 0 j) : EReal) = ∑ i : Fin 8192, dgTerm m c j i := by
    intro b n h hb hn
    subst hb hn
    refine run_sum_of (first7 m c) (next7 m c) (ix2 0 j) _ 0 512 15 rfl (fun h => ?_) (fun s h acc => ?_) h
    · unfold first7
      refine (adds m c ⟨0, h⟩ _ j).trans ?_
      rw [show (k0_pay2 (F := Ideal) (ix2 0 j) : EReal) = 0 from zero_bits, zero_add]
    · unfold next7
      refine (adds m c ⟨0 + s.val, h⟩ _ j).trans ?_
      simp only [Nat.zero_add]
  exact p _ _ _ (by omega) ht

/-- The first result array after the grid. -/
theorem final5 : (dats m 0 c).arrAt 5 cfg0.N = dxA m c := by
  refine Dat.arrAt_eq_of_cover (dats m 0 c) 5 (dxA m c) (fun t _ => ?_) (fun y => ?_)
  · rw [flushed5, after5]
    refine ext_mat (e := .f32) _ _ fun r j => ?_
    refine (pull_tile (y0 m c t) (x0 m c t) (u0 m c t) (w0 m c t) (g0 m c t) r j).trans ?_
    rw [row_tile, in_tile, block0]
    exact (congrArg (dxA m c) (emb5 t r j)).symm
  · rw [eq_ix2 y]
    generalize y 0 = i
    generalize y 1 = j
    have hi : i.val < 8192 := i.isLt
    let t : Fin cfg0.N := ⟨i.val / 512, by rw [show cfg0.N = 16 from N_0]; exact (by omega : i.val / 512 < 16)⟩
    refine ⟨t, flush0_5 t, ?_⟩
    have e : ((cfg0.win 5).blk t).view.emb (ix2 ⟨i.val % 512, Nat.mod_lt _ (by decide)⟩ j) = ix2 i j :=
      (emb5 t _ j).trans (congrArg (ix2 · j) (Fin.ext (show 512 * (i.val / 512) + i.val % 512 = i.val by omega)))
    have hm := ((cfg0.win 5).blk t).view.emb_mem_set (ix2 ⟨i.val % 512, Nat.mod_lt _ (by decide)⟩ j)
    rwa [e] at hm

/-- The second result array after the grid. -/
theorem final6 : (dats m 0 c).arrAt 6 cfg0.N = hnA m c := by
  refine Dat.arrAt_eq_of_cover (dats m 0 c) 6 (hnA m c) (fun t _ => ?_) (fun y => ?_)
  · rw [flushed6, after6]
    refine ext_mat (e := .bf16) _ _ fun r k => ?_
    refine (hand_tile (x0 m c t) (g0 m c t) r k).trans ?_
    rw [row_tile, block1, block4]
    exact (congrArg (hnA m c) (emb6 t r k)).symm
  · rw [eq_ix2 y]
    generalize y 0 = i
    generalize y 1 = j
    have hi : i.val < 8192 := i.isLt
    let t : Fin cfg0.N := ⟨i.val / 512, by rw [show cfg0.N = 16 from N_0]; exact (by omega : i.val / 512 < 16)⟩
    refine ⟨t, flush0_6 t, ?_⟩
    have e : ((cfg0.win 6).blk t).view.emb (ix2 ⟨i.val % 512, Nat.mod_lt _ (by decide)⟩ j) = ix2 i j :=
      (emb6 t _ j).trans (congrArg (ix2 · j) (Fin.ext (show 512 * (i.val / 512) + i.val % 512 = i.val by omega)))
    have hm := ((cfg0.win 6).blk t).view.emb_mem_set (ix2 ⟨i.val % 512, Nat.mod_lt _ (by decide)⟩ j)
    rwa [e] at hm

/-- The one row of a one-row matrix. -/
theorem one_row (i : Fin 1) : i = 0 := Subsingleton.elim _ _

/-- The third result array after the grid. -/
theorem final7 : (dats m 0 c).arrAt 7 cfg0.N = dgA m c := by
  refine Dat.arrAt_eq_of_cover (dats m 0 c) 7 (dgA m c) (fun t hf => ?_) (fun y => ?_)
  · rw [flushed7]
    refine ext_mat (e := .f32) _ _ fun r j => ?_
    obtain rfl := one_row r
    exact (gain_at m c t ((flush0_7 t).mp hf) j).trans (congrArg (dgA m c) (emb7 t j)).symm
  · rw [eq_ix2 y, one_row (y 0)]
    generalize y 1 = j
    let t : Fin cfg0.N := ⟨15, by rw [show cfg0.N = 16 from N_0]; decide⟩
    refine ⟨t, (flush0_7 t).mpr rfl, ?_⟩
    have hm := ((cfg0.win 7).blk t).view.emb_mem_set (ix2 0 j)
    rwa [show ((cfg0.win 7).blk t).view.emb (ix2 0 j) = ix2 0 j from emb7 t j] at hm

/-! ## What the region finds -/

/-- The stream's gradient is the argument's. -/
theorem dh_read : dhA m c = m ((c : Thread nD τ).loc main_arg4) := V_main_arg4 m c

/-- The stream is the argument's. -/
theorem h_read : hA m c = m ((c : Thread nD τ).loc main_arg0) := V_main_arg0 m c

/-- The wide layer's gradient is the argument's. -/
theorem up_read : upA m c = m ((c : Thread nD τ).loc main_arg3) := by
  unfold upA
  show StableHlo.after (List.flatten [hostOps0]) (fun b => m (c, b)) (Proc.devRef .tc main_v0) = _
  simp only [hostOps0, List.flatten_cons, List.flatten_nil, List.append_nil, cast_eq]
  after_results_simp
  rfl

/-- The weight is the argument's. -/
theorem w_read : wA m c = m ((c : Thread nD τ).loc main_arg2) := by
  unfold wA
  show StableHlo.after (List.flatten [hostOps0]) (fun b => m (c, b)) (Proc.devRef .tc main_v1) = _
  simp only [hostOps0, List.flatten_cons, List.flatten_nil, List.append_nil, cast_eq]
  after_results_simp
  rfl

/-- The gains are the argument's. -/
theorem g_read (j : Fin 1024) : (gA m c (ix2 0 j) : EReal) = (m ((c : Thread nD τ).loc main_arg1) : FVec Ideal S1024 .f32) (ix1 j) := by
  have e : gA m c = Cert.MlpUpReferenceIdeal.Read.val_main_v13 (F := Ideal) (m ((c : Thread nD τ).loc main_arg1)) := by
    unfold gA
    show StableHlo.after (List.flatten [hostOps0]) (fun b => m (c, b)) (Proc.devRef .tc main_v2) = _
    simp only [hostOps0, List.flatten_cons, List.flatten_nil, List.append_nil, cast_eq]
    after_results_simp
    rfl
  rw [e, Cert.MlpUpReferenceIdeal.Read.val_main_v13_apply (F := Ideal)]
  exact congrArg _ (funext fun a => Fin.ext (match a with | ⟨0, _⟩ => rfl))

/-! ## The reference -/

section reference

open Cert.MlpUpReferenceIdeal.Read

variable (h : FVec Ideal S8192x1024 .f32) (g : FVec Ideal S1024 .f32) (w : FVec Ideal S1024x4096 .f32) (u : FVec Ideal S8192x4096 .f32) (y : FVec Ideal S8192x1024 .f32)

/-- One row of the stream. -/
def refRow (i : Fin 8192) (j : Fin 1024) : EReal := h (ix2 i j)
/-- The gradient of one element of the normalised rows. -/
def refProd (i : Fin 8192) (j : Fin 1024) : EReal := ∑ k : Fin 4096, (u (ix2 i k) : EReal) * w (ix2 j k)
/-- The incoming gradient of one normalised row. -/
def refIn (i : Fin 8192) (j : Fin 1024) : EReal := refProd w u i j * g (ix1 j)

/-- The mean square of a row, with the small number added. -/
theorem ref_mean (i : Fin 8192) : (val_main_v6 (F := Ideal) h (ix2 i 0) : EReal) = meanSq (refRow h i) := by
  rw [val_main_v6_apply (F := Ideal), val_main_v4_apply (F := Ideal), val_main_v2_apply (F := Ideal), val_main_v3_apply (F := Ideal), val_main_v5_apply (F := Ideal),
    val_main_v1_apply, val_main_cst_apply (F := Ideal), val_main_cst_0_apply (F := Ideal), val_main_cst_1_apply (F := Ideal)]
  show Ideal.div (Ideal.ofBits .f32 0x00000000#32 + _) (Ideal.ofBits .f32 0x44800000#32) + Ideal.ofBits .f32 0x358637BD#32 = _
  rw [zero_bits, zero_add]
  unfold meanSq
  refine congrArg (fun z : EReal => Ideal.div z _ + _) (Finset.sum_congr rfl fun k _ => ?_)
  rw [show idx_main_v1 (idx_main_v2 (ix2 i 0)) k = ix2 i k from Shape.idx_ext₂ (y := ix2 i k) rfl rfl, val_main_v0_apply (F := Ideal)]
  rfl

/-- The reciprocal of a row's size. -/
theorem ref_size (i : Fin 8192) : (val_main_v7 (F := Ideal) h (ix2 i 0) : EReal) = size (refRow h i) := by
  rw [val_main_v7_apply (F := Ideal), ref_mean]
  rfl

/-- The reciprocal of a row's size, computed a second time. -/
theorem ref_size_again : val_main_v46 (F := Ideal) h = val_main_v7 (F := Ideal) h := rfl

/-- Minus one half of its third power. -/
theorem ref_cube (i : Fin 8192) : (val_main_v10 (F := Ideal) h (ix2 i 0) : EReal)
    = Ideal.ofBits .f32 0xBF000000#32 * Ideal.div (size (refRow h i)) (meanSq (refRow h i)) := by
  rw [val_main_v10_apply (F := Ideal), val_main_v9_apply (F := Ideal), val_main_cst_2_apply (F := Ideal), val_main_v8_apply (F := Ideal), ref_mean, ref_size]
  rfl

/-- The gradient of the normalised rows. -/
theorem ref_prod (i : Fin 8192) (j : Fin 1024) : (val_main_v17 (F := Ideal) w u (ix2 i j) : EReal) = refProd w u i j := by
  rw [val_main_v17_apply]
  refine Finset.sum_congr rfl fun k _ => ?_
  rw [show lidx_main_v17 (ix2 i j) k = ix2 i k from Shape.idx_ext₂ (y := ix2 i k) rfl rfl, show ridx_main_v17 (ix2 i j) k = ix2 j k from Shape.idx_ext₂ (y := ix2 j k) rfl rfl]

/-- The gradient of the normalised rows times the gains. -/
theorem ref_in (i : Fin 8192) (j : Fin 1024) : (val_main_v22 (F := Ideal) g w u (ix2 i j) : EReal) = refIn g w u i j := by
  rw [val_main_v22_apply (F := Ideal), val_main_v21_apply (F := Ideal), val_main_v13_apply (F := Ideal), ref_prod,
    show idx_main_v13 (idx_main_v21 (ix2 i j)) = ix1 j from funext fun a => Fin.ext (match a with | ⟨0, _⟩ => rfl)]
  rfl

/-- The part of the gradient that runs through a row's size. -/
theorem ref_through (i : Fin 8192) : (val_main_v32 (F := Ideal) h g w u (ix1 i) : EReal) = through (refRow h i) (refIn g w u i) := by
  rw [val_main_v32_apply, val_main_cst_7_apply (F := Ideal)]
  show Ideal.ofBits .f32 0x00000000#32 + _ = _
  rw [zero_bits, zero_add, Fin.sum_univ_one, show idx_main_v32 (ix1 i) 0 = ix2 i 0 from Shape.idx_ext₂ (y := ix2 i 0) rfl rfl,
    val_main_v31_apply (F := Ideal), val_main_v30_apply (F := Ideal), val_main_cst_6_apply (F := Ideal), val_main_v29_apply (F := Ideal), ref_cube,
    val_main_v26_apply (F := Ideal), show idx_main_v26 (ix2 i 0) = ix1 i from funext fun a => Fin.ext (match a with | ⟨0, _⟩ => show i.val * 1 + 0 = i.val by omega),
    val_main_v25_apply, val_main_cst_5_apply (F := Ideal)]
  show Ideal.div ((Ideal.ofBits .f32 0x00000000#32 + _) * _) (Ideal.ofBits .f32 0x44800000#32) = _
  rw [zero_bits, zero_add]
  unfold through
  refine congrArg (fun z : EReal => Ideal.div (z * _) _) (Finset.sum_congr rfl fun k _ => ?_)
  rw [show idx_main_v25 (ix1 i) k = ix2 i k from Shape.idx_ext₂ (y := ix2 i k) rfl rfl, val_main_v24_apply (F := Ideal), ref_in]
  rfl

/-- The gradient of the stream. -/
theorem ref_pull (i : Fin 8192) (j : Fin 1024) : (val_main_v38 (F := Ideal) h g w u y (ix2 i j) : EReal) = (y (ix2 i j) : EReal) + pull (refRow h i) (refIn g w u i) j := by
  rw [pull_eq, val_main_v38_apply (F := Ideal), val_main_v37_apply (F := Ideal), val_main_v36_apply (F := Ideal), val_main_v35_apply (F := Ideal), val_main_v34_apply (F := Ideal),
    val_main_v33_apply (F := Ideal), val_main_v28_apply (F := Ideal), val_main_v27_apply (F := Ideal), ref_in,
    show idx_main_v33 (ix2 i j) = ix1 i from funext fun a => Fin.ext (match a with | ⟨0, _⟩ => rfl),
    show idx_main_v27 (ix2 i j) = ix2 i 0 from Shape.idx_ext₂ (y := ix2 i 0) rfl rfl, ref_through, ref_size]
  rfl

/-- The normalised rows times the gains. -/
theorem ref_hand (i : Fin 8192) (j : Fin 1024) : (val_main_v51 (F := Ideal) h g (ix2 i j) : EReal) = (refRow h i j * size (refRow h i)) * g (ix1 j) := by
  rw [val_main_v51_apply (F := Ideal), val_main_v48_apply (F := Ideal), val_main_v47_apply (F := Ideal), val_main_v50_apply (F := Ideal), val_main_v49_apply (F := Ideal),
    show idx_main_v49 (idx_main_v50 (ix2 i j)) = ix1 j from funext fun a => Fin.ext (match a with | ⟨0, _⟩ => rfl),
    show idx_main_v47 (ix2 i j) = ix2 i 0 from Shape.idx_ext₂ (y := ix2 i 0) rfl rfl, ref_size_again, ref_size]
  rfl

/-- The gradient of a gain. -/
theorem ref_gain (j : Fin 1024) : (val_main_v53 (F := Ideal) h w u (ix2 0 j) : EReal)
    = ∑ i : Fin 8192, refProd w u i j * (refRow h i j * size (refRow h i)) := by
  rw [val_main_v53_apply (F := Ideal), show idx_main_v53 (ix2 0 j) = ix1 j from funext fun a => Fin.ext (match a with | ⟨0, _⟩ => rfl), val_main_v23_apply, val_main_cst_4_apply (F := Ideal)]
  show Ideal.ofBits .f32 0x00000000#32 + _ = _
  rw [zero_bits, zero_add, Fin.sum_univ_one, show idx_main_v23 (ix1 j) 0 = ix2 0 j from Shape.idx_ext₂ (y := ix2 0 j) rfl rfl, val_main_v20_apply (F := Ideal),
    show idx_main_v20 (ix2 0 j) = ix1 j from funext fun a => Fin.ext (match a with | ⟨0, _⟩ => show 0 * 1024 + j.val = j.val by omega), val_main_v19_apply, val_main_cst_3_apply (F := Ideal)]
  show Ideal.ofBits .f32 0x00000000#32 + _ = _
  rw [zero_bits, zero_add]
  refine Finset.sum_congr rfl fun i _ => ?_
  rw [show idx_main_v19 (ix1 j) i = ix2 i j from Shape.idx_ext₂ (y := ix2 i j) rfl rfl, val_main_v18_apply (F := Ideal), val_main_v12_apply (F := Ideal), val_main_v11_apply (F := Ideal),
    show idx_main_v11 (ix2 i j) = ix2 i 0 from Shape.idx_ext₂ (y := ix2 i 0) rfl rfl, ref_size, ref_prod]
  exact mul_comm _ _

end reference

/-! ## Kernel and reference agree -/

/-- The rows are the reference's. -/
theorem row_same (i : Fin 8192) : hRow m c i = refRow (m ((c : Thread nD τ).loc main_arg0)) i :=
  funext fun j => congrFun (h_read m c) (ix2 i j)

/-- The gradients of the normalised rows are the reference's. -/
theorem prod_same (i : Fin 8192) (j : Fin 1024) : prodAt m c i j = refProd (m ((c : Thread nD τ).loc main_arg2)) (m ((c : Thread nD τ).loc main_arg3)) i j := by
  unfold prodAt refProd
  rw [up_read, w_read]

/-- With the gains they are the reference's too. -/
theorem in_same (i : Fin 8192) : inRow m c i = refIn (m ((c : Thread nD τ).loc main_arg1)) (m ((c : Thread nD τ).loc main_arg2)) (m ((c : Thread nD τ).loc main_arg3)) i :=
  funext fun j => by
    unfold inRow refIn
    rw [prod_same, g_read]

/-- The first result is the reference's. -/
theorem same5 : dxA m c = Cert.MlpUpReferenceIdeal.Read.val_main_v38 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  ext_mat (e := .f32) _ _ fun i j => by
    refine Eq.trans ?_ (ref_pull _ _ _ _ _ i j).symm
    show (dhA m c (ix2 i j) : EReal) + pull (hRow m c i) (inRow m c i) j = _
    rw [row_same, in_same, dh_read]

/-- The second result is the reference's. -/
theorem same6 : hnA m c = Cert.MlpUpReferenceIdeal.Read.val_main_v52 (F := Ideal) (m ((c : Thread nD τ).loc main_arg0)) (m ((c : Thread nD τ).loc main_arg1)) :=
  ext_mat (e := .bf16) _ _ fun i j => by
    rw [Cert.MlpUpReferenceIdeal.Read.val_main_v52_apply (F := Ideal)]
    refine Eq.trans ?_ (ref_hand _ _ i j).symm
    show (hRow m c i j * size (hRow m c i)) * gA m c (ix2 0 j) = _
    rw [row_same, g_read]

/-- The third result is the reference's. -/
theorem same7 : dgA m c = Cert.MlpUpReferenceIdeal.Read.val_main_v53 (F := Ideal) (m ((c : Thread nD τ).loc main_arg0)) (m ((c : Thread nD τ).loc main_arg2)) (m ((c : Thread nD τ).loc main_arg3)) :=
  ext_mat (e := .f32) _ _ fun r j => by
    obtain rfl := one_row r
    refine Eq.trans ?_ (ref_gain _ _ _ j).symm
    show ∑ i : Fin 8192, prodAt m c i j * (hRow m c i j * size (hRow m c i)) = _
    exact Finset.sum_congr rfl fun i _ => by rw [prod_same, row_same]

end Cert.Mlp.Up
-- ==== Proof.Mlp.Backward.lean ====
module

public import proofs.«01_k».proof.Defs
public import proofs.«01_k».proof.Proof.Mlp.MlpDown
public import proofs.«01_k».proof.Proof.Mlp.MlpUp

@[expose] public section

noncomputable section

/-! # The claims of the two halves of the MLP's backward pass -/

namespace Cert.Mlp

open Idealize.ShloMosaic Idealize.SL.Sem

set_option maxHeartbeats 1000000 in
/-- The two printed texts of the first half have the same functions. -/
theorem first_defs : (Cert.MlpDown.defs (F := Bits)) = Cert.MlpDownIdeal.defs (F := Bits) := by
  unfold Cert.MlpDown.defs Cert.MlpDownIdeal.defs
  refine congrArg (Pipeline.defs (Cert.MlpDownIdeal.pcfgs (F := Bits))) ?_
  unfold Cert.MlpDown.defs₀ Cert.MlpDownIdeal.defs₀
  refine congrArg _ ?_
  funext l a
  match l, a with
  | 0, (t, s) => rfl

set_option maxHeartbeats 1000000 in
/-- The first half as printed ends, with its arguments unchanged and its counters at zero. -/
theorem first_frame : @Cert.quiescent_MlpDown Cert.MlpDown.Gen.facts := fun m ρ _ => by
  rw [first_defs, show (Cert.MlpDown.main (F := Bits)) = Cert.MlpDownIdeal.main (F := Bits) from rfl]
  exact Cert.MlpDownIdeal.Gen.frame (F := Bits) m ρ

/-- So does it over the extended reals. -/
theorem first_frame_ideal : @Cert.quiescent_MlpDownIdeal Cert.MlpDownIdeal.Gen.facts := fun m ρ _ => Cert.MlpDownIdeal.Gen.frame m ρ

/-- So does its reference. -/
theorem first_frame_reference : @Cert.quiescent_MlpDownReferenceIdeal Cert.MlpDownReferenceIdeal.Gen.facts :=
  fun m ρ _ => (θ_run Cert.MlpDownReferenceIdeal.defs _ _).mono (fun _ h => ⟨fun c => (h c).2.2.2, sem_eq_zero_of_no_sems (by decide) _⟩) (Cert.MlpDownReferenceIdeal.Value.run (F := Ideal) m ρ)

/-- The kernel and the reference of the first half end with the same three results. -/
theorem first_results : @Cert.algebraic_MlpDownIdeal_MlpDownReferenceIdeal Cert.MlpDownIdeal.Gen.facts Cert.MlpDownReferenceIdeal.Gen.facts := by
  intro m g m' g' _ hargs
  refine ⟨fun c => Down.dffA m c, fun c => Down.dupA m c, fun c => Down.dgA m c, ?_, ?_⟩
  · refine (θ_run Cert.MlpDownIdeal.defs _ _).mono (fun _ h c => ?_) (Cert.MlpDownIdeal.Value.run_blocks m g)
    obtain ⟨h5, h6, h7, hk⟩ := h c
    exact ⟨h5.trans (Down.final5 m c), h6.trans (Down.final6 m c), h7.trans (Down.final7 m c), hk⟩
  · refine (θ_run Cert.MlpDownReferenceIdeal.defs _ _).mono (fun _ h c => ?_) (Cert.MlpDownReferenceIdeal.Value.run (F := Ideal) m' g')
    obtain ⟨a0, a1, a2, a3⟩ := hargs c
    obtain ⟨h5, h6, h7, hk⟩ := h c
    refine ⟨h5.trans ?_, h6.trans ?_, h7.trans ?_, hk⟩
    · rw [Cert.MlpDownReferenceIdeal.Read.val_main_v44_eq, a0, a1, a2, a3]
      exact (Down.same5 m c).symm
    · rw [Cert.MlpDownReferenceIdeal.Read.val_main_v49_eq, a0, a1, a2, a3]
      exact (Down.same6 m c).symm
    · rw [Cert.MlpDownReferenceIdeal.Read.val_main_v50_eq, a0, a1, a3]
      exact (Down.same7 m c).symm

set_option maxHeartbeats 1000000 in
/-- The two printed texts of the second half have the same functions. -/
theorem second_defs : (Cert.MlpUp.defs (F := Bits)) = Cert.MlpUpIdeal.defs (F := Bits) := by
  unfold Cert.MlpUp.defs Cert.MlpUpIdeal.defs
  refine congrArg (Pipeline.defs (Cert.MlpUpIdeal.pcfgs (F := Bits))) ?_
  unfold Cert.MlpUp.defs₀ Cert.MlpUpIdeal.defs₀
  refine congrArg _ ?_
  funext l a
  match l, a with
  | 0, (t, s) => rfl

set_option maxHeartbeats 1000000 in
/-- The second half as printed ends, with its arguments unchanged and its counters at zero. -/
theorem second_frame : @Cert.quiescent_MlpUp Cert.MlpUp.Gen.facts := fun m ρ _ => by
  rw [second_defs, show (Cert.MlpUp.main (F := Bits)) = Cert.MlpUpIdeal.main (F := Bits) from rfl]
  exact Cert.MlpUpIdeal.Gen.frame (F := Bits) m ρ

/-- So does it over the extended reals. -/
theorem second_frame_ideal : @Cert.quiescent_MlpUpIdeal Cert.MlpUpIdeal.Gen.facts := fun m ρ _ => Cert.MlpUpIdeal.Gen.frame m ρ

/-- So does its reference. -/
theorem second_frame_reference : @Cert.quiescent_MlpUpReferenceIdeal Cert.MlpUpReferenceIdeal.Gen.facts :=
  fun m ρ _ => (θ_run Cert.MlpUpReferenceIdeal.defs _ _).mono (fun _ h => ⟨fun c => (h c).2.2.2, sem_eq_zero_of_no_sems (by decide) _⟩) (Cert.MlpUpReferenceIdeal.Value.run (F := Ideal) m ρ)

/-- The kernel and the reference of the second half end with the same three results. -/
theorem second_results : @Cert.algebraic_MlpUpIdeal_MlpUpReferenceIdeal Cert.MlpUpIdeal.Gen.facts Cert.MlpUpReferenceIdeal.Gen.facts := by
  intro m g m' g' _ hargs
  refine ⟨fun c => Up.dxA m c, fun c => Up.hnA m c, fun c => Up.dgA m c, ?_, ?_⟩
  · refine (θ_run Cert.MlpUpIdeal.defs _ _).mono (fun _ h c => ?_) (Cert.MlpUpIdeal.Value.run_blocks m g)
    obtain ⟨h5, h6, h7, hk⟩ := h c
    exact ⟨h5.trans (Up.final5 m c), h6.trans (Up.final6 m c), h7.trans (Up.final7 m c), hk⟩
  · refine (θ_run Cert.MlpUpReferenceIdeal.defs _ _).mono (fun _ h c => ?_) (Cert.MlpUpReferenceIdeal.Value.run (F := Ideal) m' g')
    obtain ⟨a0, a1, a2, a3, a4⟩ := hargs c
    obtain ⟨h5, h6, h7, hk⟩ := h c
    refine ⟨h5.trans ?_, h6.trans ?_, h7.trans ?_, hk⟩
    · rw [Cert.MlpUpReferenceIdeal.Read.val_main_v38_eq, a0, a1, a2, a3, a4]
      exact (Up.same5 m c).symm
    · rw [Cert.MlpUpReferenceIdeal.Read.val_main_v52_eq, a0, a1]
      exact (Up.same6 m c).symm
    · rw [Cert.MlpUpReferenceIdeal.Read.val_main_v53_eq, a0, a2, a3]
      exact (Up.same7 m c).symm

end Cert.Mlp

end
-- ==== Proof.Mlp.Normed.lean ====
module

public import proofs.«01_k».proof.Proof.Mlp.Rows

@[expose] public section

noncomputable section

/-! # A normalised row of a tile, and products of a tile's rows with a weight's columns -/

namespace Cert.Mlp

open Idealize.ShloMosaic Idealize.ShloMosaic.ValueIdx

/-- A row over its size, times the gains. -/
def normed (x g : Fin 1024 → EReal) (j : Fin 1024) : EReal := x j * size x * g j

/-- A tile's rows over their sizes, times the gains, at an index. -/
theorem normed_at {R : ℕ} (v : FVec Ideal ⟨2, ![R, 1024]⟩ .f32) (g : FVec Ideal ⟨2, ![1, 1024]⟩ .f32) (h : (⟨2, ![R, 1024]⟩ : Shape).Reduces [1] ⟨1, ![R]⟩) (hφ : FKind.Formats .f32)
    (hacc : 0x00000000#32 = FKind.add.neutral .f32 hφ) (hc : (⟨1, ![R]⟩ : Shape).ShapeCasts ⟨2, ![R, 1]⟩) (hb : (⟨2, ![R, 1]⟩ : Shape).Broadcasts ⟨2, ![R, 1024]⟩)
    (hg : (⟨2, ![1, 1024]⟩ : Shape).Broadcasts ⟨2, ![R, 1024]⟩) (hR : R ≠ 1) (r : Fin R) (j : Fin 1024) :
    (mulf (mulf v (broadcastTo ⟨2, ![R, 1024]⟩ (rsqrt (addf (divf (shapeCast ⟨2, ![R, 1]⟩ (multiReduction (F := Ideal) .add [1] ⟨1, ![R]⟩ (mulf v v) 0x00000000#32 h hφ hacc) hc)
      (broadcast ⟨2, ![R, 1]⟩ (Scalar.ofBits (F := Ideal) .f32 0x44800000#32))) (broadcast ⟨2, ![R, 1]⟩ (Scalar.ofBits (F := Ideal) .f32 0x358637BD#32)))) hb))
      (broadcastTo ⟨2, ![R, 1024]⟩ g hg) (ix2 r j) : EReal)
      = normed (fun i => v (ix2 r i)) (fun i => g (ix2 0 i)) j := by
  rw [mulf_apply, mulf_apply, spread_col _ _ hR, size_at, spread_row _ _ (by decide)]
  rfl

/-- The corner of a matrix product: a sum over the one contracted axis, the operands' indices given. -/
theorem product_at {sl sr so : Shape} {φ : FTy} (D : DotDims sl sr so) (n : ℕ) (hr : D.contr.rank = 1) (hs : D.contr.size ⟨0, by omega⟩ = n) (x : FVec Ideal sl φ) (y : FVec Ideal sr φ)
    (o : so.Idx) (f : Fin n → sl.Idx) (k : Fin n → sr.Idx)
    (hf : ∀ q, D.lhsIdx o ((contrEquiv1 D n hr hs).symm q) = f q) (hk : ∀ q, D.rhsIdx o ((contrEquiv1 D n hr hs).symm q) = k q) :
    (matmul (F := Ideal) D none x y (constant so .f32 0x00000000#32) o : EReal) = ∑ q : Fin n, (x (f q) : EReal) * y (k q) := by
  simp only [matmul]
  rw [Ideal.matmul_constant_zero_apply, ← Equiv.sum_comp (contrEquiv1 D n hr hs).symm]
  exact Finset.sum_congr rfl fun q _ => by rw [hf, hk]

end Cert.Mlp

end
-- ==== Proof.Mlp.MlpUpFwd.lean ====
module

public import proofs.«01_k».proof.Proof.Mlp.Normed
public import proofs.«01_k».proof.Proof.Gen.MlpUpFwd
public import proofs.«01_k».proof.Proof.Gen.MlpUpFwdIdeal.Value
public import proofs.«01_k».proof.Proof.Gen.MlpUpFwdReferenceIdeal.Run
public import proofs.«01_k».proof.Proof.Gen.MlpUpFwdReferenceIdeal.Read

@[expose] public section

set_option maxRecDepth 16384

noncomputable section

/-! # The forward product that leads up into the wide layer

One tile of 512 rows at a time the kernel normalises the rows and multiplies them by the weight.
-/

namespace Cert.Mlp.FwdUp

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.MlpUpFwdIdeal Cert.MlpUpFwdIdeal.Gen Cert.MlpUpFwdIdeal.Value

/-- One tile of the wide layer. -/
theorem wide_tile (x : FVec Ideal S512x1024 .f32) (g : FVec Ideal S1x1024 .f32) (w : FVec Ideal S1024x4096 .bf16) (r : Fin 512) (k : Fin 4096) :
    (k0_pay1 (F := Ideal) x g w (ix2 r k) : EReal) = ∑ j : Fin 1024, normed (fun i => x (ix2 r i)) (fun i => g (ix2 0 i)) j * w (ix2 j k) := by
  unfold k0_pay1
  simp only [shapeCast_self]
  refine (product_at dot_S512x1024_S1024x4096_S512x4096_1_0_0_1_n_n 1024 rfl rfl _ _ (ix2 r k) (fun q => ix2 r q) (fun q => ix2 q k) (fun q => ?_) (fun q => ?_)).trans
    (Finset.sum_congr rfl fun j _ => ?_)
  · exact funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans (contrEquiv1_symm_val _ 1024 rfl rfl q))
  · exact funext fun z => Fin.ext (match z with
      | ⟨0, _⟩ => (DotDims.rhsIdx_val_of_single _ rfl _ _).trans (contrEquiv1_symm_val _ 1024 rfl rfl q)
      | ⟨1, _⟩ => by unfold DotDims.rhsIdx; rw [dif_neg (by decide +revert), dif_pos (by decide +revert)]; rfl)
  · rw [truncf_apply]
    exact congrArg (fun z : EReal => z * w (ix2 j k)) (normed_at x g _ _ _ _ _ _ (by decide) r j)

/-- What the body leaves. -/
theorem out_eq (x : Vec Ideal S512x1024 .f32) (g : Vec Ideal S1x1024 .f32) (w : Vec Ideal S1024x4096 .bf16) : out0_3 (F := Ideal) x g w = k0_pay1 x g w := by
  unfold out0_3
  rw [View.canon_unit_zero zero2]
  simp only [View.ld_unit_zero (S := S512x1024) zero2, View.ld_unit_zero (S := S1x1024) zero2, View.ld_unit_zero (S := S1024x4096) zero2]

/-- Where the tiles of the rows lie. -/
theorem index0 : ∀ t : Fin cfg0.N, win0_0.index t 0 = t.val ∧ win0_0.index t 1 = 0 := by decide +kernel
/-- The gains are one block. -/
theorem index1 : ∀ t : Fin cfg0.N, win0_1.index t 0 = 0 ∧ win0_1.index t 1 = 0 := by decide +kernel
/-- The weight is one block. -/
theorem index2 : ∀ t : Fin cfg0.N, win0_2.index t 0 = 0 ∧ win0_2.index t 1 = 0 := by decide +kernel
/-- Where the tiles of the result lie. -/
theorem index3 : ∀ t : Fin cfg0.N, win0_3.index t 0 = t.val ∧ win0_3.index t 1 = 0 := by decide +kernel

/-- A grid point is one of sixteen. -/
theorem point_lt (t : Fin cfg0.N) : t.val < 16 := Nat.lt_of_lt_of_eq t.isLt N_0

/-- The row of the arrays in row `r` of a point's tiles. -/
def row (t : Fin cfg0.N) (r : Fin 512) : Fin 8192 := ⟨512 * t.val + r.val, by have := r.isLt; have := point_lt t; omega⟩

variable (m : (ℓ : Loc nD τ sig) → Buf (Elt Ideal) ℓ) (c : Dev nD)

/-- The rows as the region finds them. -/
def hA : Vec Ideal S8192x1024 .f32 := V m c main_arg0
/-- The gains as the region finds them. -/
def gA : Vec Ideal S1x1024 .f32 := V m c main_v0
/-- The weight as the region finds it. -/
def wA : Vec Ideal S1024x4096 .bf16 := V m c main_v1

/-- A tile of the rows. -/
def x0 (t : Fin cfg0.N) : Vec Ideal S512x1024 .f32 := iblk m c 0 t
/-- The gains' block. -/
def g0 (t : Fin cfg0.N) : Vec Ideal S1x1024 .f32 := iblk m c 1 t
/-- The weight's block. -/
def w0 (t : Fin cfg0.N) : Vec Ideal S1024x4096 .bf16 := iblk m c 2 t

/-- What a tile of the rows holds. -/
theorem block0 (t : Fin cfg0.N) (r : Fin 512) (j : Fin 1024) : x0 m c t (ix2 r j) = hA m c (ix2 (row t r) j) :=
  congrArg (hA m c) (show (win0_0.rect t).emb (ix2 r j) = ix2 (row t r) j from funext fun a => Fin.ext (match a with
    | ⟨0, _⟩ => (Window.rect_emb_val win0_0 t (ix2 r j) 0).trans (by rw [(index0 t).1]; show t.val * 512 + r.val = 512 * t.val + r.val; omega)
    | ⟨1, _⟩ => (Window.rect_emb_val win0_0 t (ix2 r j) 1).trans (by rw [(index0 t).2]; show 0 * 1024 + j.val = j.val; omega)))

/-- What the gains' block holds. -/
theorem block1 (t : Fin cfg0.N) (j : Fin 1024) : g0 m c t (ix2 0 j) = gA m c (ix2 0 j) :=
  congrArg (gA m c) (show (win0_1.rect t).emb (ix2 0 j) = ix2 0 j from funext fun a => Fin.ext (match a with
    | ⟨0, _⟩ => (Window.rect_emb_val win0_1 t (ix2 0 j) 0).trans (by rw [(index1 t).1]; rfl)
    | ⟨1, _⟩ => (Window.rect_emb_val win0_1 t (ix2 0 j) 1).trans (by rw [(index1 t).2]; show 0 * 1024 + j.val = j.val; omega)))

/-- What the weight's block holds. -/
theorem block2 (t : Fin cfg0.N) (j : Fin 1024) (k : Fin 4096) : w0 m c t (ix2 j k) = wA m c (ix2 j k) :=
  congrArg (wA m c) (show (win0_2.rect t).emb (ix2 j k) = ix2 j k from funext fun a => Fin.ext (match a with
    | ⟨0, _⟩ => (Window.rect_emb_val win0_2 t (ix2 j k) 0).trans (by rw [(index2 t).1]; show 0 * 1024 + j.val = j.val; omega)
    | ⟨1, _⟩ => (Window.rect_emb_val win0_2 t (ix2 j k) 1).trans (by rw [(index2 t).2]; show 0 * 4096 + k.val = k.val; omega)))

/-- Where a point writes its tile of the result. -/
theorem emb3 (t : Fin cfg0.N) (r : Fin 512) (k : Fin 4096) : (win0_3.rect t).emb (ix2 r k) = ix2 (row t r) k := funext fun a => Fin.ext (match a with
    | ⟨0, _⟩ => (Window.rect_emb_val win0_3 t (ix2 r k) 0).trans (by rw [(index3 t).1]; show t.val * 512 + r.val = 512 * t.val + r.val; omega)
    | ⟨1, _⟩ => (Window.rect_emb_val win0_3 t (ix2 r k) 1).trans (by rw [(index3 t).2]; show 0 * 4096 + k.val = k.val; omega))

/-- The wide layer. -/
def upA : Vec Ideal S8192x4096 .f32 := fun z => ∑ j : Fin 1024, normed (fun i => hA m c (ix2 (z 0) i)) (fun i => gA m c (ix2 0 i)) j * wA m c (ix2 j (z 1))

/-- The result array after the grid. -/
theorem final3 : (dats m 0 c).arrAt 3 cfg0.N = upA m c := by
  refine Dat.arrAt_eq_of_cover (dats m 0 c) 3 (upA m c) (fun t _ => ?_) (fun y => ?_)
  · rw [flushed3]
    refine ext_mat (e := .f32) _ _ fun r k => ?_
    refine (congrFun (out_eq (x0 m c t) (g0 m c t) (w0 m c t)) (ix2 r k)).trans ?_
    refine (wide_tile (x0 m c t) (g0 m c t) (w0 m c t) r k).trans ?_
    simp only [block0, block1, block2]
    exact (congrArg (upA m c) (emb3 t r k)).symm
  · rw [eq_ix2 y]
    generalize y 0 = i
    generalize y 1 = j
    have hi : i.val < 8192 := i.isLt
    let t : Fin cfg0.N := ⟨i.val / 512, by rw [show cfg0.N = 16 from N_0]; exact (by omega : i.val / 512 < 16)⟩
    refine ⟨t, flush0_3 t, ?_⟩
    have e : ((cfg0.win 3).blk t).view.emb (ix2 ⟨i.val % 512, Nat.mod_lt _ (by decide)⟩ j) = ix2 i j :=
      (emb3 t _ j).trans (congrArg (ix2 · j) (Fin.ext (show 512 * (i.val / 512) + i.val % 512 = i.val by omega)))
    have hm := ((cfg0.win 3).blk t).view.emb_mem_set (ix2 ⟨i.val % 512, Nat.mod_lt _ (by decide)⟩ j)
    rwa [e] at hm

/-- The rows are the argument's. -/
theorem h_read : hA m c = m ((c : Thread nD τ).loc main_arg0) := V_main_arg0 m c

/-- The gains are the argument's. -/
theorem g_read (j : Fin 1024) : (gA m c (ix2 0 j) : EReal) = (m ((c : Thread nD τ).loc main_arg1) : FVec Ideal S1024 .f32) (ix1 j) := by
  have e : gA m c = Cert.MlpUpFwdReferenceIdeal.Read.val_main_v10 (F := Ideal) (m ((c : Thread nD τ).loc main_arg1)) := by
    unfold gA
    show StableHlo.after (List.flatten [hostOps0]) (fun b => m (c, b)) (Proc.devRef .tc main_v0) = _
    simp only [hostOps0, List.flatten_cons, List.flatten_nil, List.append_nil, cast_eq]
    after_results_simp
    rfl
  rw [e, Cert.MlpUpFwdReferenceIdeal.Read.val_main_v10_apply (F := Ideal)]
  exact congrArg _ (funext fun a => Fin.ext (match a with | ⟨0, _⟩ => rfl))

/-- The weight is the argument's. -/
theorem w_read : wA m c = m ((c : Thread nD τ).loc main_arg2) := by
  unfold wA
  show StableHlo.after (List.flatten [hostOps0]) (fun b => m (c, b)) (Proc.devRef .tc main_v1) = _
  simp only [hostOps0, List.flatten_cons, List.flatten_nil, List.append_nil, cast_eq]
  after_results_simp
  rfl

section reference

open Cert.MlpUpFwdReferenceIdeal.Read

variable (h : FVec Ideal S8192x1024 .f32) (g : FVec Ideal S1024 .f32) (w : FVec Ideal S1024x4096 .f32)

/-- The reference's normalised rows. -/
theorem ref_normed (i : Fin 8192) (j : Fin 1024) : (val_main_v12 (F := Ideal) h g (ix2 i j) : EReal) = normed (fun k => h (ix2 i k)) (fun k => g (ix1 k)) j := by
  rw [val_main_v12_apply (F := Ideal), val_main_v9_apply (F := Ideal), val_main_v8_apply (F := Ideal), val_main_v7_apply (F := Ideal), val_main_v6_apply (F := Ideal), val_main_v4_apply (F := Ideal),
    val_main_v2_apply (F := Ideal), val_main_v3_apply (F := Ideal), val_main_v5_apply (F := Ideal), val_main_v1_apply, val_main_cst_apply (F := Ideal), val_main_cst_0_apply (F := Ideal), val_main_cst_1_apply (F := Ideal),
    val_main_v11_apply (F := Ideal), val_main_v10_apply (F := Ideal), show idx_main_v10 (idx_main_v11 (ix2 i j)) = ix1 j from funext fun a => Fin.ext (match a with | ⟨0, _⟩ => rfl)]
  show (h (ix2 i j) : EReal) * Ideal.rsqrt (Ideal.div (Ideal.ofBits .f32 0x00000000#32 + _) (Ideal.ofBits .f32 0x44800000#32) + Ideal.ofBits .f32 0x358637BD#32) * g (ix1 j) = _
  rw [zero_bits, zero_add]
  unfold normed size meanSq
  refine congrArg (fun z : EReal => h (ix2 i j) * Ideal.rsqrt (Ideal.div z _ + _) * g (ix1 j)) (Finset.sum_congr rfl fun k _ => ?_)
  rw [show idx_main_v1 (idx_main_v2 (idx_main_v8 (ix2 i j))) k = ix2 i k from Shape.idx_ext₂ (y := ix2 i k) rfl rfl, val_main_v0_apply (F := Ideal)]
  rfl

end reference

/-- The result is the reference's. -/
theorem same3 : upA m c = Cert.MlpUpFwdReferenceIdeal.Read.val_main_v13 (F := Ideal) (m ((c : Thread nD τ).loc main_arg0)) (m ((c : Thread nD τ).loc main_arg1)) (m ((c : Thread nD τ).loc main_arg2)) :=
  ext_mat (e := .f32) _ _ fun i k => by
    rw [Cert.MlpUpFwdReferenceIdeal.Read.val_main_v13_apply]
    refine Finset.sum_congr rfl fun j _ => ?_
    rw [show Cert.MlpUpFwdReferenceIdeal.Read.lidx_main_v13 (ix2 i k) j = ix2 i j from Shape.idx_ext₂ (y := ix2 i j) rfl rfl,
      show Cert.MlpUpFwdReferenceIdeal.Read.ridx_main_v13 (ix2 i k) j = ix2 j k from Shape.idx_ext₂ (y := ix2 j k) rfl rfl, ref_normed]
    show normed (fun l => hA m c (ix2 i l)) (fun l => gA m c (ix2 0 l)) j * wA m c (ix2 j k) = _
    rw [h_read, w_read]
    exact congrArg (fun z : Fin 1024 → EReal => normed (fun l => m ((c : Thread nD τ).loc main_arg0) (ix2 i l)) z j * m ((c : Thread nD τ).loc main_arg2) (ix2 j k)) (funext fun l => g_read m c l)

end Cert.Mlp.FwdUp

end
-- ==== Proof.Mlp.MlpDownFwd.lean ====
module

public import proofs.«01_k».proof.Proof.Mlp.Normed
public import proofs.«01_k».proof.Proof.Gen.MlpDownFwd
public import proofs.«01_k».proof.Proof.Gen.MlpDownFwdIdeal.Value
public import proofs.«01_k».proof.Proof.Gen.MlpDownFwdReferenceIdeal.Run
public import proofs.«01_k».proof.Proof.Gen.MlpDownFwdReferenceIdeal.Read

@[expose] public section

set_option maxRecDepth 16384

noncomputable section

/-! # The forward product that leads down from the wide layer, and the normalisation behind it

One tile of 512 rows at a time the kernel squares the positive part of the wide layer, multiplies it by the weight,
normalises the product's rows and adds them to the stream.
-/

namespace Cert.Mlp.FwdDown

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.MlpDownFwdIdeal Cert.MlpDownFwdIdeal.Gen Cert.MlpDownFwdIdeal.Value

/-- The squared positive part. -/
def act (u : EReal) : EReal := max u 0 * max u 0

/-- One tile of the product. -/
theorem ff_tile (u : FVec Ideal S512x4096 .f32) (w : FVec Ideal S4096x1024 .bf16) (r : Fin 512) (j : Fin 1024) :
    (k0_pay1 (F := Ideal) u w (ix2 r j) : EReal) = ∑ k : Fin 4096, act (u (ix2 r k)) * w (ix2 k j) := by
  unfold k0_pay1
  simp only [shapeCast_self]
  refine (product_at dot_S512x4096_S4096x1024_S512x1024_1_0_0_1_n_n 4096 rfl rfl _ _ (ix2 r j) (fun q => ix2 r q) (fun q => ix2 q j) (fun q => ?_) (fun q => ?_)).trans
    (Finset.sum_congr rfl fun k _ => ?_)
  · exact funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans (contrEquiv1_symm_val _ 4096 rfl rfl q))
  · exact funext fun z => Fin.ext (match z with
      | ⟨0, _⟩ => (DotDims.rhsIdx_val_of_single _ rfl _ _).trans (contrEquiv1_symm_val _ 4096 rfl rfl q)
      | ⟨1, _⟩ => by unfold DotDims.rhsIdx; rw [dif_neg (by decide +revert), dif_pos (by decide +revert)]; rfl)
  · show max (u (ix2 r k) : EReal) (Ideal.ofBits .f32 0x00000000#32) * max (u (ix2 r k) : EReal) (Ideal.ofBits .f32 0x00000000#32) * w (ix2 k j) = _
    rw [zero_bits]
    rfl

/-- One tile of the stream. -/
theorem stream_tile (u : FVec Ideal S512x4096 .f32) (h : FVec Ideal S512x1024 .f32) (w : FVec Ideal S4096x1024 .bf16) (g : FVec Ideal S1x1024 .f32) (r : Fin 512) (j : Fin 1024) :
    (k0_pay2 (F := Ideal) u h w g (ix2 r j) : EReal)
      = (h (ix2 r j) : EReal) + normed (fun i => ∑ k : Fin 4096, act (u (ix2 r k)) * w (ix2 k i)) (fun i => g (ix2 0 i)) j := by
  unfold k0_pay2
  simp only [shapeCast_self]
  rw [addf_apply]
  refine congrArg ((h (ix2 r j) : EReal) + ·) ((normed_at (k0_pay1 (F := Ideal) u w) g _ _ _ _ _ _ (by decide) r j).trans ?_)
  simp only [ff_tile]

/-- What the body leaves of the product. -/
theorem out_ff (u : Vec Ideal S512x4096 .f32) (h : Vec Ideal S512x1024 .f32) (w : Vec Ideal S4096x1024 .bf16) (g : Vec Ideal S1x1024 .f32) : out0_4 (F := Ideal) u h w g = k0_pay1 u w := by
  unfold out0_4
  rw [View.canon_unit_zero zero2]
  simp only [View.ld_unit_zero (S := S512x4096) zero2, View.ld_unit_zero (S := S4096x1024) zero2]

/-- What the body leaves of the stream. -/
theorem out_stream (u : Vec Ideal S512x4096 .f32) (h : Vec Ideal S512x1024 .f32) (w : Vec Ideal S4096x1024 .bf16) (g : Vec Ideal S1x1024 .f32) : out0_5 (F := Ideal) u h w g = k0_pay2 u h w g := by
  unfold out0_5
  rw [View.canon_unit_zero zero2]
  simp only [View.ld_unit_zero (S := S512x4096) zero2, View.ld_unit_zero (S := S512x1024) zero2, View.ld_unit_zero (S := S1x1024) zero2, View.ld_unit_zero (S := S4096x1024) zero2]

/-- Addition of extended reals. -/
def addE (x y : EReal) : EReal := x + y

/-- Where the tiles of the wide layer lie. -/
theorem index0 : ∀ t : Fin cfg0.N, win0_0.index t 0 = t.val ∧ win0_0.index t 1 = 0 := by decide +kernel
/-- Where the tiles of the stream lie. -/
theorem index1 : ∀ t : Fin cfg0.N, win0_1.index t 0 = t.val ∧ win0_1.index t 1 = 0 := by decide +kernel
/-- The weight is one block. -/
theorem index2 : ∀ t : Fin cfg0.N, win0_2.index t 0 = 0 ∧ win0_2.index t 1 = 0 := by decide +kernel
/-- The gains are one block. -/
theorem index3 : ∀ t : Fin cfg0.N, win0_3.index t 0 = 0 ∧ win0_3.index t 1 = 0 := by decide +kernel
/-- Where the tiles of the first result lie. -/
theorem index4 : ∀ t : Fin cfg0.N, win0_4.index t 0 = t.val ∧ win0_4.index t 1 = 0 := by decide +kernel
/-- Where the tiles of the second result lie. -/
theorem index5 : ∀ t : Fin cfg0.N, win0_5.index t 0 = t.val ∧ win0_5.index t 1 = 0 := by decide +kernel

/-- A grid point is one of sixteen. -/
theorem point_lt (t : Fin cfg0.N) : t.val < 16 := Nat.lt_of_lt_of_eq t.isLt N_0

/-- The row of the arrays in row `r` of a point's tiles. -/
def row (t : Fin cfg0.N) (r : Fin 512) : Fin 8192 := ⟨512 * t.val + r.val, by have := r.isLt; have := point_lt t; omega⟩

variable (m : (ℓ : Loc nD τ sig) → Buf (Elt Ideal) ℓ) (c : Dev nD)

/-- The wide layer as the region finds it. -/
def upA : Vec Ideal S8192x4096 .f32 := V m c main_arg0
/-- The stream as the region finds it. -/
def hA : Vec Ideal S8192x1024 .f32 := V m c main_arg3
/-- The weight as the region finds it. -/
def wA : Vec Ideal S4096x1024 .bf16 := V m c main_v0
/-- The gains as the region finds them. -/
def gA : Vec Ideal S1x1024 .f32 := V m c main_v1

/-- A tile of the wide layer. -/
def u0 (t : Fin cfg0.N) : Vec Ideal S512x4096 .f32 := iblk m c 0 t
/-- A tile of the stream. -/
def x0 (t : Fin cfg0.N) : Vec Ideal S512x1024 .f32 := iblk m c 1 t
/-- The weight's block. -/
def w0 (t : Fin cfg0.N) : Vec Ideal S4096x1024 .bf16 := iblk m c 2 t
/-- The gains' block. -/
def g0 (t : Fin cfg0.N) : Vec Ideal S1x1024 .f32 := iblk m c 3 t

/-- What a tile of the wide layer holds. -/
theorem block0 (t : Fin cfg0.N) (r : Fin 512) (k : Fin 4096) : u0 m c t (ix2 r k) = upA m c (ix2 (row t r) k) :=
  congrArg (upA m c) (show (win0_0.rect t).emb (ix2 r k) = ix2 (row t r) k from funext fun a => Fin.ext (match a with
    | ⟨0, _⟩ => (Window.rect_emb_val win0_0 t (ix2 r k) 0).trans (by rw [(index0 t).1]; show t.val * 512 + r.val = 512 * t.val + r.val; omega)
    | ⟨1, _⟩ => (Window.rect_emb_val win0_0 t (ix2 r k) 1).trans (by rw [(index0 t).2]; show 0 * 4096 + k.val = k.val; omega)))

/-- What a tile of the stream holds. -/
theorem block1 (t : Fin cfg0.N) (r : Fin 512) (j : Fin 1024) : x0 m c t (ix2 r j) = hA m c (ix2 (row t r) j) :=
  congrArg (hA m c) (show (win0_1.rect t).emb (ix2 r j) = ix2 (row t r) j from funext fun a => Fin.ext (match a with
    | ⟨0, _⟩ => (Window.rect_emb_val win0_1 t (ix2 r j) 0).trans (by rw [(index1 t).1]; show t.val * 512 + r.val = 512 * t.val + r.val; omega)
    | ⟨1, _⟩ => (Window.rect_emb_val win0_1 t (ix2 r j) 1).trans (by rw [(index1 t).2]; show 0 * 1024 + j.val = j.val; omega)))

/-- What the weight's block holds. -/
theorem block2 (t : Fin cfg0.N) (k : Fin 4096) (j : Fin 1024) : w0 m c t (ix2 k j) = wA m c (ix2 k j) :=
  congrArg (wA m c) (show (win0_2.rect t).emb (ix2 k j) = ix2 k j from funext fun a => Fin.ext (match a with
    | ⟨0, _⟩ => (Window.rect_emb_val win0_2 t (ix2 k j) 0).trans (by rw [(index2 t).1]; show 0 * 4096 + k.val = k.val; omega)
    | ⟨1, _⟩ => (Window.rect_emb_val win0_2 t (ix2 k j) 1).trans (by rw [(index2 t).2]; show 0 * 1024 + j.val = j.val; omega)))

/-- What the gains' block holds. -/
theorem block3 (t : Fin cfg0.N) (j : Fin 1024) : g0 m c t (ix2 0 j) = gA m c (ix2 0 j) :=
  congrArg (gA m c) (show (win0_3.rect t).emb (ix2 0 j) = ix2 0 j from funext fun a => Fin.ext (match a with
    | ⟨0, _⟩ => (Window.rect_emb_val win0_3 t (ix2 0 j) 0).trans (by rw [(index3 t).1]; rfl)
    | ⟨1, _⟩ => (Window.rect_emb_val win0_3 t (ix2 0 j) 1).trans (by rw [(index3 t).2]; show 0 * 1024 + j.val = j.val; omega)))

/-- Where a point writes its tile of the first result. -/
theorem emb4 (t : Fin cfg0.N) (r : Fin 512) (j : Fin 1024) : (win0_4.rect t).emb (ix2 r j) = ix2 (row t r) j := funext fun a => Fin.ext (match a with
    | ⟨0, _⟩ => (Window.rect_emb_val win0_4 t (ix2 r j) 0).trans (by rw [(index4 t).1]; show t.val * 512 + r.val = 512 * t.val + r.val; omega)
    | ⟨1, _⟩ => (Window.rect_emb_val win0_4 t (ix2 r j) 1).trans (by rw [(index4 t).2]; show 0 * 1024 + j.val = j.val; omega))

/-- Where a point writes its tile of the second result. -/
theorem emb5 (t : Fin cfg0.N) (r : Fin 512) (j : Fin 1024) : (win0_5.rect t).emb (ix2 r j) = ix2 (row t r) j := funext fun a => Fin.ext (match a with
    | ⟨0, _⟩ => (Window.rect_emb_val win0_5 t (ix2 r j) 0).trans (by rw [(index5 t).1]; show t.val * 512 + r.val = 512 * t.val + r.val; omega)
    | ⟨1, _⟩ => (Window.rect_emb_val win0_5 t (ix2 r j) 1).trans (by rw [(index5 t).2]; show 0 * 1024 + j.val = j.val; omega))

/-- One row of the product. -/
def ffRow (i : Fin 8192) (j : Fin 1024) : EReal := ∑ k : Fin 4096, act (upA m c (ix2 i k)) * wA m c (ix2 k j)

/-- The product. -/
def ffA : Vec Ideal S8192x1024 .f32 := fun z => ffRow m c (z 0) (z 1)
/-- The stream behind the MLP. -/
def streamA : Vec Ideal S8192x1024 .f32 := fun z => (hA m c (ix2 (z 0) (z 1)) : EReal) + normed (ffRow m c (z 0)) (fun i => gA m c (ix2 0 i)) (z 1)

/-- The first result array after the grid. -/
theorem final4 : (dats m 0 c).arrAt 4 cfg0.N = ffA m c := by
  refine Dat.arrAt_eq_of_cover (dats m 0 c) 4 (ffA m c) (fun t _ => ?_) (fun y => ?_)
  · rw [flushed4]
    refine ext_mat (e := .f32) _ _ fun r j => ?_
    refine (congrFun (out_ff (u0 m c t) (x0 m c t) (w0 m c t) (g0 m c t)) (ix2 r j)).trans ?_
    refine (ff_tile (u0 m c t) (w0 m c t) r j).trans ?_
    simp only [block0, block2]
    exact (congrArg (ffA m c) (emb4 t r j)).symm
  · rw [eq_ix2 y]
    generalize y 0 = i
    generalize y 1 = j
    have hi : i.val < 8192 := i.isLt
    let t : Fin cfg0.N := ⟨i.val / 512, by rw [show cfg0.N = 16 from N_0]; exact (by omega : i.val / 512 < 16)⟩
    refine ⟨t, flush0_4 t, ?_⟩
    have e : ((cfg0.win 4).blk t).view.emb (ix2 ⟨i.val % 512, Nat.mod_lt _ (by decide)⟩ j) = ix2 i j :=
      (emb4 t _ j).trans (congrArg (ix2 · j) (Fin.ext (show 512 * (i.val / 512) + i.val % 512 = i.val by omega)))
    have hm := ((cfg0.win 4).blk t).view.emb_mem_set (ix2 ⟨i.val % 512, Nat.mod_lt _ (by decide)⟩ j)
    rwa [e] at hm

/-- The second result array after the grid. -/
theorem final5 : (dats m 0 c).arrAt 5 cfg0.N = streamA m c := by
  refine Dat.arrAt_eq_of_cover (dats m 0 c) 5 (streamA m c) (fun t _ => ?_) (fun y => ?_)
  · rw [flushed5]
    refine ext_mat (e := .f32) _ _ fun r j => ?_
    refine (congrFun (out_stream (u0 m c t) (x0 m c t) (w0 m c t) (g0 m c t)) (ix2 r j)).trans ?_
    refine (stream_tile (u0 m c t) (x0 m c t) (w0 m c t) (g0 m c t) r j).trans ?_
    simp only [block0, block1, block2, block3]
    exact (congrArg (streamA m c) (emb5 t r j)).symm
  · rw [eq_ix2 y]
    generalize y 0 = i
    generalize y 1 = j
    have hi : i.val < 8192 := i.isLt
    let t : Fin cfg0.N := ⟨i.val / 512, by rw [show cfg0.N = 16 from N_0]; exact (by omega : i.val / 512 < 16)⟩
    refine ⟨t, flush0_5 t, ?_⟩
    have e : ((cfg0.win 5).blk t).view.emb (ix2 ⟨i.val % 512, Nat.mod_lt _ (by decide)⟩ j) = ix2 i j :=
      (emb5 t _ j).trans (congrArg (ix2 · j) (Fin.ext (show 512 * (i.val / 512) + i.val % 512 = i.val by omega)))
    have hm := ((cfg0.win 5).blk t).view.emb_mem_set (ix2 ⟨i.val % 512, Nat.mod_lt _ (by decide)⟩ j)
    rwa [e] at hm

/-- The wide layer is the argument's. -/
theorem up_read : upA m c = m ((c : Thread nD τ).loc main_arg0) := V_main_arg0 m c

/-- The stream is the argument's. -/
theorem h_read : hA m c = m ((c : Thread nD τ).loc main_arg3) := V_main_arg3 m c

/-- The weight is the argument's. -/
theorem w_read : wA m c = m ((c : Thread nD τ).loc main_arg1) := by
  unfold wA
  show StableHlo.after (List.flatten [hostOps0]) (fun b => m (c, b)) (Proc.devRef .tc main_v0) = _
  simp only [hostOps0, List.flatten_cons, List.flatten_nil, List.append_nil, cast_eq]
  after_results_simp
  rfl

/-- The gains are the argument's. -/
theorem g_read (j : Fin 1024) : (gA m c (ix2 0 j) : EReal) = (m ((c : Thread nD τ).loc main_arg2) : FVec Ideal S1024 .f32) (ix1 j) := by
  have e : gA m c = Cert.MlpDownFwdReferenceIdeal.Read.val_main_v13 (F := Ideal) (m ((c : Thread nD τ).loc main_arg2)) := by
    unfold gA
    show StableHlo.after (List.flatten [hostOps0]) (fun b => m (c, b)) (Proc.devRef .tc main_v1) = _
    simp only [hostOps0, List.flatten_cons, List.flatten_nil, List.append_nil, cast_eq]
    after_results_simp
    rfl
  rw [e, Cert.MlpDownFwdReferenceIdeal.Read.val_main_v13_apply (F := Ideal)]
  exact congrArg _ (funext fun a => Fin.ext (match a with | ⟨0, _⟩ => rfl))

section reference

open Cert.MlpDownFwdReferenceIdeal.Read

variable (u : FVec Ideal S8192x4096 .f32) (w : FVec Ideal S4096x1024 .f32) (g : FVec Ideal S1024 .f32) (h : FVec Ideal S8192x1024 .f32)

/-- The reference's product. -/
theorem ref_ff (i : Fin 8192) (j : Fin 1024) : (val_main_v2 (F := Ideal) u w (ix2 i j) : EReal) = ∑ k : Fin 4096, act (u (ix2 i k)) * w (ix2 k j) := by
  rw [val_main_v2_apply]
  refine Finset.sum_congr rfl fun k _ => ?_
  rw [show lidx_main_v2 (ix2 i j) k = ix2 i k from Shape.idx_ext₂ (y := ix2 i k) rfl rfl, show ridx_main_v2 (ix2 i j) k = ix2 k j from Shape.idx_ext₂ (y := ix2 k j) rfl rfl,
    val_main_v1_apply (F := Ideal), val_main_v0_apply (F := Ideal), val_main_call0_v0_apply (F := Ideal), val_main_call0_cst_apply (F := Ideal)]
  show max (u (ix2 i k) : EReal) (Ideal.ofBits .f32 0x00000000#32) * max (u (ix2 i k) : EReal) (Ideal.ofBits .f32 0x00000000#32) * w (ix2 k j) = _
  rw [zero_bits]
  rfl

/-- The reference's stream. -/
theorem ref_stream (i : Fin 8192) (j : Fin 1024) : (val_main_v16 (F := Ideal) u w g h (ix2 i j) : EReal)
    = (h (ix2 i j) : EReal) + normed (fun l => ∑ k : Fin 4096, act (u (ix2 i k)) * w (ix2 k l)) (fun l => g (ix1 l)) j := by
  rw [val_main_v16_apply (F := Ideal), val_main_v15_apply (F := Ideal), val_main_v12_apply (F := Ideal), val_main_v11_apply (F := Ideal), val_main_v10_apply (F := Ideal), val_main_v9_apply (F := Ideal),
    val_main_v7_apply (F := Ideal), val_main_v5_apply (F := Ideal), val_main_v6_apply (F := Ideal), val_main_v8_apply (F := Ideal), val_main_v4_apply, val_main_cst_apply (F := Ideal),
    val_main_cst_0_apply (F := Ideal), val_main_cst_1_apply (F := Ideal), val_main_v14_apply (F := Ideal), val_main_v13_apply (F := Ideal),
    show idx_main_v13 (idx_main_v14 (ix2 i j)) = ix1 j from funext fun a => Fin.ext (match a with | ⟨0, _⟩ => rfl)]
  show (h (ix2 i j) : EReal) + (val_main_v2 (F := Ideal) u w (ix2 i j) : EReal) * Ideal.rsqrt (Ideal.div (Ideal.ofBits .f32 0x00000000#32 + _) (Ideal.ofBits .f32 0x44800000#32) + Ideal.ofBits .f32 0x358637BD#32) * g (ix1 j) = _
  rw [zero_bits, zero_add, ref_ff]
  unfold normed size meanSq
  refine congrArg (fun z : EReal => (h (ix2 i j) : EReal) + (∑ k : Fin 4096, act (u (ix2 i k)) * w (ix2 k j)) * Ideal.rsqrt (Ideal.div z _ + _) * g (ix1 j)) (Finset.sum_congr rfl fun l _ => ?_)
  rw [show idx_main_v4 (idx_main_v5 (idx_main_v11 (ix2 i j))) l = ix2 i l from Shape.idx_ext₂ (y := ix2 i l) rfl rfl, val_main_v3_apply (F := Ideal), ref_ff]
  rfl

end reference

/-- The first result is the reference's. -/
theorem same4 : ffA m c = Cert.MlpDownFwdReferenceIdeal.Read.val_main_v2 (F := Ideal) (m ((c : Thread nD τ).loc main_arg0)) (m ((c : Thread nD τ).loc main_arg1)) :=
  ext_mat (e := .f32) _ _ fun i j => by
    refine Eq.trans ?_ (ref_ff _ _ i j).symm
    show ∑ k : Fin 4096, act (upA m c (ix2 i k)) * wA m c (ix2 k j) = _
    rw [up_read, w_read]

/-- The second result is the reference's. -/
theorem same5 : streamA m c = Cert.MlpDownFwdReferenceIdeal.Read.val_main_v16 (F := Ideal) (m ((c : Thread nD τ).loc main_arg0)) (m ((c : Thread nD τ).loc main_arg1)) (m ((c : Thread nD τ).loc main_arg2)) (m ((c : Thread nD τ).loc main_arg3)) :=
  ext_mat (e := .f32) _ _ fun i j => by
    refine Eq.trans ?_ (ref_stream _ _ _ _ i j).symm
    show (hA m c (ix2 i j) : EReal) + normed (fun l => ∑ k : Fin 4096, act (upA m c (ix2 i k)) * wA m c (ix2 k l)) (fun l => gA m c (ix2 0 l)) j = _
    rw [up_read, w_read, h_read]
    exact congrArg (fun z : EReal => addE (m ((c : Thread nD τ).loc main_arg3) (ix2 i j)) z) (congrArg (fun z : Fin 1024 → EReal => normed _ z j) (funext fun l => g_read m c l))

end Cert.Mlp.FwdDown

end
-- ==== Proof.Mlp.Forward.lean ====
module

public import proofs.«01_k».proof.Defs
public import proofs.«01_k».proof.Proof.Mlp.MlpUpFwd
public import proofs.«01_k».proof.Proof.Mlp.MlpDownFwd

@[expose] public section

noncomputable section

/-! # The claims of the two halves of the MLP's forward pass -/

namespace Cert.Mlp

open Idealize.ShloMosaic Idealize.SL.Sem

set_option maxHeartbeats 1000000 in
/-- The two printed texts of the product that leads up have the same functions. -/
theorem up_forward_defs : (Cert.MlpUpFwd.defs (F := Bits)) = Cert.MlpUpFwdIdeal.defs (F := Bits) := by
  unfold Cert.MlpUpFwd.defs Cert.MlpUpFwdIdeal.defs
  refine congrArg (Pipeline.defs (Cert.MlpUpFwdIdeal.pcfgs (F := Bits))) ?_
  unfold Cert.MlpUpFwd.defs₀ Cert.MlpUpFwdIdeal.defs₀
  refine congrArg _ ?_
  funext l a
  match l, a with
  | 0, (t, s) => rfl

set_option maxHeartbeats 1000000 in
/-- The product that leads up, as printed, ends with its arguments unchanged and its counters at zero. -/
theorem up_forward_frame : @Cert.quiescent_MlpUpFwd Cert.MlpUpFwd.Gen.facts := fun m ρ _ => by
  rw [up_forward_defs, show (Cert.MlpUpFwd.main (F := Bits)) = Cert.MlpUpFwdIdeal.main (F := Bits) from rfl]
  exact Cert.MlpUpFwdIdeal.Gen.frame (F := Bits) m ρ

/-- So does it over the extended reals. -/
theorem up_forward_frame_ideal : @Cert.quiescent_MlpUpFwdIdeal Cert.MlpUpFwdIdeal.Gen.facts := fun m ρ _ => Cert.MlpUpFwdIdeal.Gen.frame m ρ

/-- So does its reference. -/
theorem up_forward_frame_reference : @Cert.quiescent_MlpUpFwdReferenceIdeal Cert.MlpUpFwdReferenceIdeal.Gen.facts :=
  fun m ρ _ => (θ_run Cert.MlpUpFwdReferenceIdeal.defs _ _).mono (fun _ h => ⟨fun c => (h c).2, sem_eq_zero_of_no_sems (by decide) _⟩) (Cert.MlpUpFwdReferenceIdeal.Value.run (F := Ideal) m ρ)

/-- The kernel and the reference of the product that leads up end with the same wide layer. -/
theorem up_forward_results : @Cert.algebraic_MlpUpFwdIdeal_MlpUpFwdReferenceIdeal Cert.MlpUpFwdIdeal.Gen.facts Cert.MlpUpFwdReferenceIdeal.Gen.facts := by
  intro m g m' g' _ hargs
  refine ⟨fun c => FwdUp.upA m c, ?_, ?_⟩
  · refine (θ_run Cert.MlpUpFwdIdeal.defs _ _).mono (fun _ h c => ?_) (Cert.MlpUpFwdIdeal.Value.run_blocks m g)
    obtain ⟨h3, hk⟩ := h c
    exact ⟨h3.trans (FwdUp.final3 m c), hk⟩
  · refine (θ_run Cert.MlpUpFwdReferenceIdeal.defs _ _).mono (fun _ h c => ?_) (Cert.MlpUpFwdReferenceIdeal.Value.run (F := Ideal) m' g')
    obtain ⟨a0, a1, a2⟩ := hargs c
    obtain ⟨h3, hk⟩ := h c
    refine ⟨h3.trans ?_, hk⟩
    rw [Cert.MlpUpFwdReferenceIdeal.Read.val_main_v13_eq, a0, a1, a2]
    exact (FwdUp.same3 m c).symm

set_option maxHeartbeats 1000000 in
/-- The two printed texts of the product that leads down have the same functions. -/
theorem down_forward_defs : (Cert.MlpDownFwd.defs (F := Bits)) = Cert.MlpDownFwdIdeal.defs (F := Bits) := by
  unfold Cert.MlpDownFwd.defs Cert.MlpDownFwdIdeal.defs
  refine congrArg (Pipeline.defs (Cert.MlpDownFwdIdeal.pcfgs (F := Bits))) ?_
  unfold Cert.MlpDownFwd.defs₀ Cert.MlpDownFwdIdeal.defs₀
  refine congrArg _ ?_
  funext l a
  match l, a with
  | 0, (t, s) => rfl

set_option maxHeartbeats 1000000 in
/-- The product that leads down, as printed, ends with its arguments unchanged and its counters at zero. -/
theorem down_forward_frame : @Cert.quiescent_MlpDownFwd Cert.MlpDownFwd.Gen.facts := fun m ρ _ => by
  rw [down_forward_defs, show (Cert.MlpDownFwd.main (F := Bits)) = Cert.MlpDownFwdIdeal.main (F := Bits) from rfl]
  exact Cert.MlpDownFwdIdeal.Gen.frame (F := Bits) m ρ

/-- So does it over the extended reals. -/
theorem down_forward_frame_ideal : @Cert.quiescent_MlpDownFwdIdeal Cert.MlpDownFwdIdeal.Gen.facts := fun m ρ _ => Cert.MlpDownFwdIdeal.Gen.frame m ρ

/-- So does its reference. -/
theorem down_forward_frame_reference : @Cert.quiescent_MlpDownFwdReferenceIdeal Cert.MlpDownFwdReferenceIdeal.Gen.facts :=
  fun m ρ _ => (θ_run Cert.MlpDownFwdReferenceIdeal.defs _ _).mono (fun _ h => ⟨fun c => (h c).2.2, sem_eq_zero_of_no_sems (by decide) _⟩) (Cert.MlpDownFwdReferenceIdeal.Value.run (F := Ideal) m ρ)

/-- The kernel and the reference of the product that leads down end with the same product and the same stream. -/
theorem down_forward_results : @Cert.algebraic_MlpDownFwdIdeal_MlpDownFwdReferenceIdeal Cert.MlpDownFwdIdeal.Gen.facts Cert.MlpDownFwdReferenceIdeal.Gen.facts := by
  intro m g m' g' _ hargs
  refine ⟨fun c => FwdDown.ffA m c, fun c => FwdDown.streamA m c, ?_, ?_⟩
  · refine (θ_run Cert.MlpDownFwdIdeal.defs _ _).mono (fun _ h c => ?_) (Cert.MlpDownFwdIdeal.Value.run_blocks m g)
    obtain ⟨h4, h5, hk⟩ := h c
    exact ⟨h4.trans (FwdDown.final4 m c), h5.trans (FwdDown.final5 m c), hk⟩
  · refine (θ_run Cert.MlpDownFwdReferenceIdeal.defs _ _).mono (fun _ h c => ?_) (Cert.MlpDownFwdReferenceIdeal.Value.run (F := Ideal) m' g')
    obtain ⟨a0, a1, a2, a3⟩ := hargs c
    obtain ⟨h4, h5, hk⟩ := h c
    refine ⟨h4.trans ?_, h5.trans ?_, hk⟩
    · rw [Cert.MlpDownFwdReferenceIdeal.Read.val_main_v2_eq, a0, a1]
      exact (FwdDown.same4 m c).symm
    · rw [Cert.MlpDownFwdReferenceIdeal.Read.val_main_v16_eq, a0, a1, a2, a3]
      exact (FwdDown.same5 m c).symm

end Cert.Mlp

end
-- ==== Proof.Ple.Gate.lean ====
module

public import proofs.«01_k».proof.Proof.Mlp.Normed

@[expose] public section

noncomputable section

/-! # A gated row, and its gradient

The per-layer embedding multiplies one projection's row by the logistic of another's. What follows normalises it.
-/

namespace Cert.Ple

open Idealize.ShloMosaic Idealize.ShloMosaic.ValueIdx Cert.Mlp

/-- One row of a matrix. -/
def rowOf {R : ℕ} (x : (⟨2, ![R, 1024]⟩ : Shape).Idx → EReal) (r : Fin R) (j : Fin 1024) : EReal := x (ix2 r j)

/-- One, from its bits. -/
theorem one_bits : Ideal.ofBits .f32 0x3F800000#32 = 1 := by
  simp [Ideal.ofBits, Ideal.ieee, -EReal.coe_mul]
  norm_num

/-- The logistic function, written out with the bits of one. -/
theorem logistic_eq (x : EReal) : Ideal.div (Ideal.ofBits .f32 0x3F800000#32) (Ideal.ofBits .f32 0x3F800000#32 + Ideal.exp (-x)) = Ideal.logistic x := by
  rw [one_bits]
  rfl

/-- One projection's row times the logistic of the other's. -/
def gated (p g : Fin 1024 → EReal) (j : Fin 1024) : EReal := p j * Ideal.logistic (g j)
/-- The gradient of the gated row, out of the stream's gradient `y` and the gains `a`. -/
def dGated (y p g a : Fin 1024 → EReal) (j : Fin 1024) : EReal := pull (gated p g) (fun i => y i * a i) j
/-- The gradient of the projection. -/
def dProj (y p g a : Fin 1024 → EReal) (j : Fin 1024) : EReal := dGated y p g a j * Ideal.logistic (g j)
/-- The gradient of the gate. -/
def dGate (y p g a : Fin 1024 → EReal) (j : Fin 1024) : EReal := dGated y p g a j * p j * Ideal.logistic (g j) * (1 - Ideal.logistic (g j))

/-- The gradient of the normalised row. -/
def dNormed (y p q a : Fin 1024 → EReal) (w : Fin 1024 → Fin 1024 → EReal) (j : Fin 1024) : EReal := ∑ k : Fin 1024, dGate y p q a k * w j k

/-- The gate's gradient, its factors in another order. -/
theorem dGate_eq (y p g a : Fin 1024 → EReal) (j : Fin 1024) :
    p j * dGated y p g a j * (Ideal.logistic (g j) * (1 - Ideal.logistic (g j))) = dGate y p g a j := by
  unfold dGate
  rw [mul_comm (p j), mul_assoc, mul_assoc, mul_assoc]

end Cert.Ple

end
-- ==== Proof.Ple.BwdTile.lean ====
module

public import proofs.«01_k».proof.Proof.Ple.Gate
public import proofs.«01_k».proof.Proof.Gen.PleBwd
public import proofs.«01_k».proof.Proof.Gen.PleBwdIdeal.Value

@[expose] public section

set_option maxRecDepth 16384

noncomputable section

/-! # What the backward pass of the per-layer embedding computes of one tile of rows -/

namespace Cert.Ple.Bwd

open Idealize.ShloMosaic Idealize.ShloMosaic.TcCoe Idealize.ShloMosaic.Tactic Idealize.ShloMosaic.ValueIdx Idealize.SL.Sem
open Cert.Mlp Cert.Ple
open Cert.PleBwdIdeal Cert.PleBwdIdeal.Gen Cert.PleBwdIdeal.Value

section tile

variable (y h q p : FVec Ideal S512x1024 .f32) (e : FVec Ideal S512x256 .f32) (g a : FVec Ideal S1x1024 .f32) (w : FVec Ideal S1024x1024 .bf16)

/-- The logistic of the gate. -/
theorem sg_tile (r : Fin 512) (j : Fin 1024) : (k0_pay11 (F := Ideal) q (ix2 r j) : EReal) = Ideal.logistic (rowOf q r j) := by
  unfold k0_pay11
  simp only [shapeCast_self]
  rfl

/-- The gated row. -/
theorem gated_tile (r : Fin 512) (j : Fin 1024) : (k0_pay12 (F := Ideal) q p (ix2 r j) : EReal) = gated (rowOf p r) (rowOf q r) j := by
  unfold k0_pay12 k0_pay10
  simp only [shapeCast_self]
  rw [mulf_apply, sg_tile]
  rfl

/-- The gated row's size. -/
theorem size_gated (r : Fin 512) : (k0_pay13 (F := Ideal) q p (ix2 r 0) : EReal) = size (gated (rowOf p r) (rowOf q r)) := by
  unfold k0_pay13
  refine (size_at (k0_pay12 (F := Ideal) q p) _ _ _ _ r).trans ?_
  simp only [gated_tile]

/-- The gated row over its size. -/
theorem unit_gated (r : Fin 512) (j : Fin 1024) : (k0_pay14 (F := Ideal) q p (ix2 r j) : EReal) = gated (rowOf p r) (rowOf q r) j * size (gated (rowOf p r) (rowOf q r)) := by
  unfold k0_pay14
  rw [mulf_apply, spread_col _ _ (by decide), gated_tile, size_gated]

/-- The tile's part of the gradient of the gains behind. -/
theorem gain_gated (j : Fin 1024) : (k0_pay15 (F := Ideal) y q p (ix2 0 j) : EReal)
    = ∑ r : Fin 512, rowOf y r j * (gated (rowOf p r) (rowOf q r) j * size (gated (rowOf p r) (rowOf q r))) := by
  unfold k0_pay15
  refine (as_row _ _ j).trans ((col_sum _ _ _ _ j).trans (Finset.sum_congr rfl fun r _ => ?_))
  rw [mulf_apply, unit_gated]
  rfl

/-- The gradient of the gated row. -/
theorem dGated_tile (r : Fin 512) (j : Fin 1024) : (k0_pay16 (F := Ideal) y q p a (ix2 r j) : EReal) = dGated (rowOf y r) (rowOf p r) (rowOf q r) (rowOf a 0) j := by
  unfold k0_pay16
  simp only [shapeCast_self]
  rw [mulf_apply, spread_col _ _ (by decide), size_gated, subf_apply, mulf_apply, mulf_apply, spread_row _ _ (by decide), unit_gated, spread_col _ _ (by decide)]
  unfold dGated pull
  refine congrArg (fun z : EReal => size (gated (rowOf p r) (rowOf q r)) * (rowOf y r j * rowOf a 0 j - gated (rowOf p r) (rowOf q r) j * size (gated (rowOf p r) (rowOf q r)) * z)) ?_
  refine congrArg (fun z : EReal => Ideal.div z (Ideal.ofBits .f32 0x44800000#32)) ((as_col _ _ r).trans ((row_sum _ _ _ _ r).trans (Finset.sum_congr rfl fun i _ => ?_)))
  rw [mulf_apply, mulf_apply, spread_row _ _ (by decide), unit_gated]
  rfl

/-- The gradient of the projection. -/
theorem dProj_tile (r : Fin 512) (j : Fin 1024) : (k0_pay17 (F := Ideal) y q p a (ix2 r j) : EReal) = dProj (rowOf y r) (rowOf p r) (rowOf q r) (rowOf a 0) j := by
  unfold k0_pay17
  rw [truncf_apply, mulf_apply, dGated_tile, sg_tile]
  rfl

/-- The gradient of the gate. -/
theorem dGate_tile (r : Fin 512) (j : Fin 1024) : (k0_pay19 (F := Ideal) (k0_pay11 q) (k0_pay18 y q p a) (Scalar.ofBits .f32 0x3F800000#32) (ix2 r j) : EReal)
    = dGate (rowOf y r) (rowOf p r) (rowOf q r) (rowOf a 0) j := by
  unfold k0_pay19 k0_pay18 k0_pay10
  simp only [shapeCast_self]
  rw [truncf_apply, mulf_apply, mulf_apply, mulf_apply, subf_apply, dGated_tile, sg_tile]
  show _ * (Ideal.ofBits .f32 0x3F800000#32 - _) = _
  rw [one_bits]
  rfl

/-- The tile's part of the gradient of the projection's weight. -/
theorem wproj_tile (k : Fin 256) (j : Fin 1024) : (k0_pay20 (F := Ideal) e (k0_pay17 y q p a) (ix2 k j) : EReal)
    = ∑ r : Fin 512, (e (ix2 r k) : EReal) * dProj (rowOf y r) (rowOf p r) (rowOf q r) (rowOf a 0) j := by
  unfold k0_pay20
  refine (product_at dot_S512x256_S512x1024_S256x1024_0_0_1_1_n_n 512 rfl rfl _ _ (ix2 k j) (fun r => ix2 r k) (fun r => ix2 r j) (fun r => ?_) (fun r => ?_)).trans
    (Finset.sum_congr rfl fun r _ => ?_)
  · exact funext fun z => Fin.ext (match z with
      | ⟨0, _⟩ => (DotDims.lhsIdx_val_of_single _ rfl _ _).trans (contrEquiv1_symm_val _ 512 rfl rfl r)
      | ⟨1, _⟩ => by unfold DotDims.lhsIdx; rw [dif_neg (by decide +revert), dif_pos (by decide +revert)]; rfl)
  · exact funext fun z => Fin.ext (match z with
      | ⟨0, _⟩ => (DotDims.rhsIdx_val_of_single _ rfl _ _).trans (contrEquiv1_symm_val _ 512 rfl rfl r)
      | ⟨1, _⟩ => by unfold DotDims.rhsIdx; rw [dif_neg (by decide +revert), dif_pos (by decide +revert)]; rfl)
  · rw [truncf_apply, dProj_tile]

/-- The tile's part of the gradient of the gate's weight. -/
theorem wgate_tile (k j : Fin 1024) : (k0_pay21 (F := Ideal) h (k0_pay11 q) (k0_pay18 y q p a) (Scalar.ofBits .f32 0x3F800000#32) g (ix2 k j) : EReal)
    = ∑ r : Fin 512, normed (rowOf h r) (rowOf g 0) k * dGate (rowOf y r) (rowOf p r) (rowOf q r) (rowOf a 0) j := by
  unfold k0_pay21
  simp only [shapeCast_self]
  refine (product_at dot_S512x1024_S512x1024_S1024x1024_0_0_1_1_n_n 512 rfl rfl _ _ (ix2 k j) (fun r => ix2 r k) (fun r => ix2 r j) (fun r => ?_) (fun r => ?_)).trans
    (Finset.sum_congr rfl fun r _ => ?_)
  · exact funext fun z => Fin.ext (match z with
      | ⟨0, _⟩ => (DotDims.lhsIdx_val_of_single _ rfl _ _).trans (contrEquiv1_symm_val _ 512 rfl rfl r)
      | ⟨1, _⟩ => by unfold DotDims.lhsIdx; rw [dif_neg (by decide +revert), dif_pos (by decide +revert)]; rfl)
  · exact funext fun z => Fin.ext (match z with
      | ⟨0, _⟩ => (DotDims.rhsIdx_val_of_single _ rfl _ _).trans (contrEquiv1_symm_val _ 512 rfl rfl r)
      | ⟨1, _⟩ => by unfold DotDims.rhsIdx; rw [dif_neg (by decide +revert), dif_pos (by decide +revert)]; rfl)
  · rw [dGate_tile, truncf_apply]
    exact congrArg (fun z : EReal => z * dGate (rowOf y r) (rowOf p r) (rowOf q r) (rowOf a 0) j) (normed_at h g _ _ _ _ _ _ (by decide) r k)

/-- The gradient of the normalised rows. -/
theorem dNormed_tile (r : Fin 512) (j : Fin 1024) : (k0_pay22 (F := Ideal) (k0_pay11 q) (k0_pay18 y q p a) (Scalar.ofBits .f32 0x3F800000#32) w (ix2 r j) : EReal)
    = dNormed (rowOf y r) (rowOf p r) (rowOf q r) (rowOf a 0) (rowOf w) j := by
  unfold k0_pay22
  simp only [shapeCast_self]
  refine (product_at dot_S512x1024_S1024x1024_S512x1024_1_1_0_0_n_n 1024 rfl rfl _ _ (ix2 r j) (fun k => ix2 r k) (fun k => ix2 j k) (fun k => ?_) (fun k => ?_)).trans
    (Finset.sum_congr rfl fun k _ => ?_)
  · exact funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans (contrEquiv1_symm_val _ 1024 rfl rfl k))
  · exact funext fun z => Fin.ext (match z with
      | ⟨0, _⟩ => by unfold DotDims.rhsIdx; rw [dif_neg (by decide +revert), dif_pos (by decide +revert)]; rfl
      | ⟨1, _⟩ => (DotDims.rhsIdx_val_of_single _ rfl _ _).trans (contrEquiv1_symm_val _ 1024 rfl rfl k))
  · rw [dGate_tile]
    rfl

/-- The size of each row of the stream. -/
theorem size_tile (r : Fin 512) : (k0_pay23 (F := Ideal) h (ix2 r 0) : EReal) = size (rowOf h r) := by
  unfold k0_pay23
  exact size_at h _ _ _ _ r

/-- The stream's rows over their sizes. -/
theorem unit_tile (r : Fin 512) (j : Fin 1024) : (k0_pay24 (F := Ideal) h (ix2 r j) : EReal) = rowOf h r j * size (rowOf h r) := by
  unfold k0_pay24
  rw [mulf_apply, spread_col _ _ (by decide), size_tile]
  rfl

/-- The tile's part of the gradient of the gains in front. -/
theorem gain_tile (j : Fin 1024) : (k0_pay25 (F := Ideal) h (k0_pay11 q) (k0_pay18 y q p a) (Scalar.ofBits .f32 0x3F800000#32) w (ix2 0 j) : EReal)
    = ∑ r : Fin 512, dNormed (rowOf y r) (rowOf p r) (rowOf q r) (rowOf a 0) (rowOf w) j * (rowOf h r j * size (rowOf h r)) := by
  unfold k0_pay25
  refine (as_row _ _ j).trans ((col_sum _ _ _ _ j).trans (Finset.sum_congr rfl fun r _ => ?_))
  rw [mulf_apply, unit_tile, dNormed_tile]

/-- The gradient of the normalised rows times the gains. -/
theorem in_tile (r : Fin 512) (j : Fin 1024) : (k0_pay26 (F := Ideal) (k0_pay11 q) (k0_pay18 y q p a) (Scalar.ofBits .f32 0x3F800000#32) g w (ix2 r j) : EReal)
    = dNormed (rowOf y r) (rowOf p r) (rowOf q r) (rowOf a 0) (rowOf w) j * rowOf g 0 j := by
  unfold k0_pay26
  simp only [shapeCast_self]
  rw [mulf_apply, spread_row _ _ (by decide), dNormed_tile]
  rfl

/-- The gradient of the stream. -/
theorem pull_tile (r : Fin 512) (j : Fin 1024) :
    (k0_pay1 (F := Ideal) y (k0_pay23 h) (k0_pay24 h) (k0_pay26 (k0_pay11 q) (k0_pay18 y q p a) (Scalar.ofBits .f32 0x3F800000#32) g w)
      (k0_pay27 h (k0_pay11 q) (k0_pay18 y q p a) (Scalar.ofBits .f32 0x3F800000#32) g w) (ix2 r j) : EReal)
      = rowOf y r j + pull (rowOf h r) (fun i => dNormed (rowOf y r) (rowOf p r) (rowOf q r) (rowOf a 0) (rowOf w) i * rowOf g 0 i) j := by
  unfold k0_pay1
  rw [addf_apply, mulf_apply, spread_col _ _ (by decide), subf_apply, mulf_apply, spread_col _ _ (by decide), in_tile, unit_tile, size_tile]
  unfold pull
  refine congrArg (fun z : EReal => rowOf y r j + size (rowOf h r) * (dNormed (rowOf y r) (rowOf p r) (rowOf q r) (rowOf a 0) (rowOf w) j * rowOf g 0 j - rowOf h r j * size (rowOf h r) * z)) ?_
  refine congrArg (fun z : EReal => Ideal.div z (Ideal.ofBits .f32 0x44800000#32)) ((as_col _ _ r).trans ((row_sum _ _ _ _ r).trans (Finset.sum_congr rfl fun i _ => ?_)))
  unfold k0_pay27
  rw [mulf_apply, in_tile, unit_tile]

end tile

end Cert.Ple.Bwd

end
-- ==== Proof.Ple.BwdGrid.lean ====
module

public import proofs.«01_k».proof.Proof.Ple.BwdTile

@[expose] public section

set_option maxRecDepth 16384

noncomputable section

/-! # The backward pass of the per-layer embedding over the whole grid

Each of the sixteen points writes its tile of the stream's gradient and adds its part to four sums over all the rows.
-/

namespace Cert.Ple.Bwd

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.Mlp Cert.Ple
open Cert.PleBwdIdeal Cert.PleBwdIdeal.Gen Cert.PleBwdIdeal.Value

section tile

variable (y h q p : FVec Ideal S512x1024 .f32) (e : FVec Ideal S512x256 .f32) (g : FVec Ideal S1x1024 .f32) (w : FVec Ideal S1024x1024 .bf16) (a : FVec Ideal S1x1024 .f32)

/-- The factor of the gate's gradient in front of one less the logistic. -/
abbrev gateT : FVec Ideal S512x1024 .f32 := k0_pay18 (F := Ideal) y q p a
/-- One. -/
abbrev oneT : Ideal .f32 := Scalar.ofBits (F := Ideal) .f32 0x3F800000#32
/-- A tile of the stream's gradient. -/
abbrev dxT : FVec Ideal S512x1024 .f32 :=
  k0_pay1 (F := Ideal) y (k0_pay23 h) (k0_pay24 h) (k0_pay26 (k0_pay11 q) (gateT y q p a) oneT g w) (k0_pay27 h (k0_pay11 q) (gateT y q p a) oneT g w)
/-- A tile's part of the gradient of the gate's weight. -/
abbrev wgT : FVec Ideal S1024x1024 .f32 := k0_pay21 (F := Ideal) h (k0_pay11 q) (gateT y q p a) oneT g
/-- A tile's part of the gradient of the projection's weight. -/
abbrev wpT : FVec Ideal S256x1024 .f32 := k0_pay20 (F := Ideal) e (k0_pay17 y q p a)
/-- A tile's part of the gradient of the gains in front. -/
abbrev dgT : FVec Ideal S1x1024 .f32 := k0_pay25 (F := Ideal) h (k0_pay11 q) (gateT y q p a) oneT w
/-- A tile's part of the gradient of the gains behind. -/
abbrev dpT : FVec Ideal S1x1024 .f32 := k0_pay15 (F := Ideal) y q p

end tile

section

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x1024 .f32) (h3 : a3.IsWhole) (a4 : Memref sig .tc .vmem S512x1024 .f32) (h4 : a4.IsWhole) (a5 : Memref sig .tc .vmem S512x256 .f32) (h5 : a5.IsWhole) (a6 : Memref sig .tc .vmem S1x1024 .f32) (h6 : a6.IsWhole) (a7 : Memref sig .tc .vmem S1024x1024 .bf16) (h7 : a7.IsWhole) (a8 : Memref sig .tc .vmem S1x1024 .f32) (h8 : a8.IsWhole) (a9 : Memref sig .tc .vmem S512x1024 .f32) (h9 : a9.IsWhole) (a10 : Memref sig .tc .vmem S1024x1024 .f32) (h10 : a10.IsWhole) (a11 : Memref sig .tc .vmem S256x1024 .f32) (h11 : a11.IsWhole) (a12 : Memref sig .tc .vmem S1x1024 .f32) (h12 : a12.IsWhole) (a13 : Memref sig .tc .vmem S1x1024 .f32) (h13 : a13.IsWhole)

/-- What the first point leaves of its five results. -/
theorem out_A (hc : cond0_0 i)
    (y h q p : Vec Ideal S512x1024 .f32) (e : Vec Ideal S512x256 .f32) (g : Vec Ideal S1x1024 .f32) (w : Vec Ideal S1024x1024 .bf16) (a : Vec Ideal S1x1024 .f32) :
    out0_A_8 (F := Ideal) c i a1 h1 a2 h2 a3 h3 a4 h4 a5 h5 a6 h6 a7 h7 a8 h8 a9 h9 a10 h10 a11 h11 a12 h12 a13 h13 hc y h q p e g w a = dxT y h q p g w a
    ∧ out0_A_9 (F := Ideal) c i a1 h1 a2 h2 a3 h3 a4 h4 a5 h5 a6 h6 a7 h7 a8 h8 a9 h9 a10 h10 a11 h11 a12 h12 a13 h13 hc y h q p e g w a = k0_pay6 (wgT y h q p g a) (k0_pay2 (F := Ideal))
    ∧ out0_A_10 (F := Ideal) c i a1 h1 a2 h2 a3 h3 a4 h4 a5 h5 a6 h6 a7 h7 a8 h8 a9 h9 a10 h10 a11 h11 a12 h12 a13 h13 hc y h q p e g w a = k0_pay7 (wpT y q p e a) (k0_pay3 (F := Ideal))
    ∧ out0_A_11 (F := Ideal) c i a1 h1 a2 h2 a3 h3 a4 h4 a5 h5 a6 h6 a7 h7 a8 h8 a9 h9 a10 h10 a11 h11 a12 h12 a13 h13 hc y h q p e g w a = k0_pay8 (dgT y h q p w a) (k0_pay4 (F := Ideal))
    ∧ out0_A_12 (F := Ideal) c i a1 h1 a2 h2 a3 h3 a4 h4 a5 h5 a6 h6 a7 h7 a8 h8 a9 h9 a10 h10 a11 h11 a12 h12 a13 h13 hc y h q p e g w a = k0_pay9 (dpT y q p) (k0_pay5 (F := Ideal)) := by
  refine ⟨?_, ?_, ?_, ?_, ?_⟩
  on_goal 1 => unfold out0_A_8; rw [View.read_writes_eq_canon _ _ _ (cover0_A_8 c i a1 h1 a2 h2 a3 h3 a4 h4 a5 h5 a6 h6 a7 h7 a8 h8 a9 h9 a10 h10 a11 h11 a12 h12 a13 h13 hc y h q p e g w a)]
  on_goal 2 => unfold out0_A_9; rw [View.read_writes_eq_canon _ _ _ (cover0_A_9 c i a1 h1 a2 h2 a3 h3 a4 h4 a5 h5 a6 h6 a7 h7 a8 h8 a9 h9 a10 h10 a11 h11 a12 h12 a13 h13 hc y h q p e g w a)]
  on_goal 3 => unfold out0_A_10; rw [View.read_writes_eq_canon _ _ _ (cover0_A_10 c i a1 h1 a2 h2 a3 h3 a4 h4 a5 h5 a6 h6 a7 h7 a8 h8 a9 h9 a10 h10 a11 h11 a12 h12 a13 h13 hc y h q p e g w a)]
  on_goal 4 => unfold out0_A_11; rw [View.read_writes_eq_canon _ _ _ (cover0_A_11 c i a1 h1 a2 h2 a3 h3 a4 h4 a5 h5 a6 h6 a7 h7 a8 h8 a9 h9 a10 h10 a11 h11 a12 h12 a13 h13 hc y h q p e g w a)]
  on_goal 5 => unfold out0_A_12; rw [View.read_writes_eq_canon _ _ _ (cover0_A_12 c i a1 h1 a2 h2 a3 h3 a4 h4 a5 h5 a6 h6 a7 h7 a8 h8 a9 h9 a10 h10 a11 h11 a12 h12 a13 h13 hc y h q p e g w a)]
  all_goals unfold kernelRun0_A; dsimp only; try sl_unfold_words
  all_goals first | rw [View.canon_unit_zero zero2] | rw [View.canon_cons_unit_zero (S := S1024x1024) zero2, View.readCov_unit_zero (S := S1024x1024) _ zero2] | rw [View.canon_cons_unit_zero (S := S256x1024) zero2, View.readCov_unit_zero (S := S256x1024) _ zero2] | rw [View.canon_cons_unit_zero (S := S1x1024) zero2, View.readCov_unit_zero (S := S1x1024) _ zero2]
  all_goals simp only [View.readAt_eq_ld, h1.read_unread, h2.read_unread, h3.read_unread, h4.read_unread, h5.read_unread, h6.read_unread, h7.read_unread, h8.read_unread, h10.read_unread, h11.read_unread, h12.read_unread, h13.read_unread, View.ld_unit_zero (S := S512x1024) zero2, View.ld_unit_zero (S := S512x256) zero2, View.ld_unit_zero (S := S1024x1024) zero2, View.ld_unit_zero (S := S256x1024) zero2, View.ld_unit_zero (S := S1x1024) zero2, shapeCast_self]

/-- What a later point leaves, from what the point before left. -/
theorem out_B (hc : ¬cond0_0 i)
    (y h q p : Vec Ideal S512x1024 .f32) (e : Vec Ideal S512x256 .f32) (g : Vec Ideal S1x1024 .f32) (w : Vec Ideal S1024x1024 .bf16) (a : Vec Ideal S1x1024 .f32) (acc9 : Vec Ideal S1024x1024 .f32) (acc10 : Vec Ideal S256x1024 .f32) (acc11 acc12 : Vec Ideal S1x1024 .f32) :
    out0_B_8 (F := Ideal) c i a1 h1 a2 h2 a3 h3 a4 h4 a5 h5 a6 h6 a7 h7 a8 h8 a9 h9 a10 h10 a11 h11 a12 h12 a13 h13 hc y h q p e g w a acc9 acc10 acc11 acc12 = dxT y h q p g w a
    ∧ out0_B_9 (F := Ideal) c i a1 h1 a2 h2 a3 h3 a4 h4 a5 h5 a6 h6 a7 h7 a8 h8 a9 h9 a10 h10 a11 h11 a12 h12 a13 h13 hc y h q p e g w a acc9 acc10 acc11 acc12 = k0_pay6 (wgT y h q p g a) acc9
    ∧ out0_B_10 (F := Ideal) c i a1 h1 a2 h2 a3 h3 a4 h4 a5 h5 a6 h6 a7 h7 a8 h8 a9 h9 a10 h10 a11 h11 a12 h12 a13 h13 hc y h q p e g w a acc9 acc10 acc11 acc12 = k0_pay7 (wpT y q p e a) acc10
    ∧ out0_B_11 (F := Ideal) c i a1 h1 a2 h2 a3 h3 a4 h4 a5 h5 a6 h6 a7 h7 a8 h8 a9 h9 a10 h10 a11 h11 a12 h12 a13 h13 hc y h q p e g w a acc9 acc10 acc11 acc12 = k0_pay8 (dgT y h q p w a) acc11
    ∧ out0_B_12 (F := Ideal) c i a1 h1 a2 h2 a3 h3 a4 h4 a5 h5 a6 h6 a7 h7 a8 h8 a9 h9 a10 h10 a11 h11 a12 h12 a13 h13 hc y h q p e g w a acc9 acc10 acc11 acc12 = k0_pay9 (dpT y q p) acc12 := by
  refine ⟨?_, ?_, ?_, ?_, ?_⟩
  on_goal 1 => unfold out0_B_8; rw [View.read_writes_eq_canon _ _ _ (cover0_B_8 c i a1 h1 a2 h2 a3 h3 a4 h4 a5 h5 a6 h6 a7 h7 a8 h8 a9 h9 a10 h10 a11 h11 a12 h12 a13 h13 hc y h q p e g w a acc9 acc10 acc11 acc12)]
  on_goal 2 => unfold out0_B_9; rw [View.read_writes_eq_canon _ _ _ (cover0_B_9 c i a1 h1 a2 h2 a3 h3 a4 h4 a5 h5 a6 h6 a7 h7 a8 h8 a9 h9 a10 h10 a11 h11 a12 h12 a13 h13 hc y h q p e g w a acc9 acc10 acc11 acc12)]
  on_goal 3 => unfold out0_B_10; rw [View.read_writes_eq_canon _ _ _ (cover0_B_10 c i a1 h1 a2 h2 a3 h3 a4 h4 a5 h5 a6 h6 a7 h7 a8 h8 a9 h9 a10 h10 a11 h11 a12 h12 a13 h13 hc y h q p e g w a acc9 acc10 acc11 acc12)]
  on_goal 4 => unfold out0_B_11; rw [View.read_writes_eq_canon _ _ _ (cover0_B_11 c i a1 h1 a2 h2 a3 h3 a4 h4 a5 h5 a6 h6 a7 h7 a8 h8 a9 h9 a10 h10 a11 h11 a12 h12 a13 h13 hc y h q p e g w a acc9 acc10 acc11 acc12)]
  on_goal 5 => unfold out0_B_12; rw [View.read_writes_eq_canon _ _ _ (cover0_B_12 c i a1 h1 a2 h2 a3 h3 a4 h4 a5 h5 a6 h6 a7 h7 a8 h8 a9 h9 a10 h10 a11 h11 a12 h12 a13 h13 hc y h q p e g w a acc9 acc10 acc11 acc12)]
  all_goals unfold kernelRun0_B; dsimp only; try sl_unfold_words
  all_goals rw [View.canon_unit_zero zero2]
  all_goals simp only [View.readAt_eq_ld, h1.read_unread, h2.read_unread, h3.read_unread, h4.read_unread, h5.read_unread, h6.read_unread, h7.read_unread, h8.read_unread, h10.read_unread, h11.read_unread, h12.read_unread, h13.read_unread, View.ld_unit_zero (S := S512x1024) zero2, View.ld_unit_zero (S := S512x256) zero2, View.ld_unit_zero (S := S1024x1024) zero2, View.ld_unit_zero (S := S256x1024) zero2, View.ld_unit_zero (S := S1x1024) zero2, shapeCast_self]

end

/-! ## The blocks -/

/-- Where the blocks of window 0 lie. -/
theorem index0 : ∀ t : Fin cfg0.N, win0_0.index t 0 = t.val ∧ win0_0.index t 1 = 0 := by decide +kernel
/-- Where the blocks of window 1 lie. -/
theorem index1 : ∀ t : Fin cfg0.N, win0_1.index t 0 = t.val ∧ win0_1.index t 1 = 0 := by decide +kernel
/-- Where the blocks of window 2 lie. -/
theorem index2 : ∀ t : Fin cfg0.N, win0_2.index t 0 = t.val ∧ win0_2.index t 1 = 0 := by decide +kernel
/-- Where the blocks of window 3 lie. -/
theorem index3 : ∀ t : Fin cfg0.N, win0_3.index t 0 = t.val ∧ win0_3.index t 1 = 0 := by decide +kernel
/-- Where the blocks of window 4 lie. -/
theorem index4 : ∀ t : Fin cfg0.N, win0_4.index t 0 = t.val ∧ win0_4.index t 1 = 0 := by decide +kernel
/-- Where the blocks of window 5 lie. -/
theorem index5 : ∀ t : Fin cfg0.N, win0_5.index t 0 = 0 ∧ win0_5.index t 1 = 0 := by decide +kernel
/-- Where the blocks of window 6 lie. -/
theorem index6 : ∀ t : Fin cfg0.N, win0_6.index t 0 = 0 ∧ win0_6.index t 1 = 0 := by decide +kernel
/-- Where the blocks of window 7 lie. -/
theorem index7 : ∀ t : Fin cfg0.N, win0_7.index t 0 = 0 ∧ win0_7.index t 1 = 0 := by decide +kernel
/-- Where the blocks of window 8 lie. -/
theorem index8 : ∀ t : Fin cfg0.N, win0_8.index t 0 = t.val ∧ win0_8.index t 1 = 0 := by decide +kernel
/-- Where the blocks of window 9 lie. -/
theorem index9 : ∀ t : Fin cfg0.N, win0_9.index t 0 = 0 ∧ win0_9.index t 1 = 0 := by decide +kernel
/-- Where the blocks of window 10 lie. -/
theorem index10 : ∀ t : Fin cfg0.N, win0_10.index t 0 = 0 ∧ win0_10.index t 1 = 0 := by decide +kernel
/-- Where the blocks of window 11 lie. -/
theorem index11 : ∀ t : Fin cfg0.N, win0_11.index t 0 = 0 ∧ win0_11.index t 1 = 0 := by decide +kernel
/-- Where the blocks of window 12 lie. -/
theorem index12 : ∀ t : Fin cfg0.N, win0_12.index t 0 = 0 ∧ win0_12.index t 1 = 0 := by decide +kernel

/-- A grid point is one of sixteen. -/
theorem point_lt (t : Fin cfg0.N) : t.val < 16 := Nat.lt_of_lt_of_eq t.isLt N_0

/-- The row of the arrays in row `r` of a point's tiles. -/
def row (t : Fin cfg0.N) (r : Fin 512) : Fin 8192 := ⟨512 * t.val + r.val, by have := r.isLt; have := point_lt t; omega⟩

/-- A tile's index, from its two coordinates. -/
theorem place_of {C : ℕ} {y : (⟨2, ![8192, C]⟩ : Shape).Idx} {a b : ℕ} (t : Fin cfg0.N) (r : Fin 512) (k : Fin C) (h0 : (y 0).val = a * 512 + r.val) (h1 : (y 1).val = b * C + k.val) (h : a = t.val ∧ b = 0) :
    y = ix2 (row t r) k := funext fun z => Fin.ext (match z with
    | ⟨0, _⟩ => h0.trans (by rw [h.1]; exact (by omega : t.val * 512 + r.val = 512 * t.val + r.val))
    | ⟨1, _⟩ => h1.trans (by rw [h.2, Nat.zero_mul, Nat.zero_add]))

variable (m : (ℓ : Loc nD τ sig) → Buf (Elt Ideal) ℓ) (c : Dev nD)

/-- The stream's gradient as the region finds it. -/
def dhA : Vec Ideal S8192x1024 .f32 := V m c main_arg6
/-- The stream as the region finds it. -/
def hA : Vec Ideal S8192x1024 .f32 := V m c main_arg0
/-- The gate as the region finds it. -/
def qA : Vec Ideal S8192x1024 .f32 := V m c main_v13
/-- The projection as the region finds it. -/
def pA : Vec Ideal S8192x1024 .f32 := V m c main_v14
/-- The embeddings as the region finds them. -/
def eA : Vec Ideal S8192x256 .f32 := V m c main_arg1
/-- The gains in front as the region finds them. -/
def gA : Vec Ideal S1x1024 .f32 := V m c main_v15
/-- The gate's weight as the region finds it. -/
def wA : Vec Ideal S1024x1024 .bf16 := V m c main_v16
/-- The gains behind as the region finds them. -/
def aA : Vec Ideal S1x1024 .f32 := V m c main_v17
/-- A point's block of the stream's gradient. -/
def y0 (t : Fin cfg0.N) : Vec Ideal S512x1024 .f32 := iblk m c 0 t
/-- A point's block of the stream. -/
def h0 (t : Fin cfg0.N) : Vec Ideal S512x1024 .f32 := iblk m c 1 t
/-- A point's block of the gate. -/
def q0 (t : Fin cfg0.N) : Vec Ideal S512x1024 .f32 := iblk m c 2 t
/-- A point's block of the projection. -/
def p0 (t : Fin cfg0.N) : Vec Ideal S512x1024 .f32 := iblk m c 3 t
/-- A point's block of the embeddings. -/
def e0 (t : Fin cfg0.N) : Vec Ideal S512x256 .f32 := iblk m c 4 t
/-- A point's block of the gains in front. -/
def g0 (t : Fin cfg0.N) : Vec Ideal S1x1024 .f32 := iblk m c 5 t
/-- A point's block of the gate's weight. -/
def w0 (t : Fin cfg0.N) : Vec Ideal S1024x1024 .bf16 := iblk m c 6 t
/-- A point's block of the gains behind. -/
def a0 (t : Fin cfg0.N) : Vec Ideal S1x1024 .f32 := iblk m c 7 t

/-- What the block of the stream's gradient holds. -/
theorem block0 (t : Fin cfg0.N) (r : Fin 512) (j : Fin 1024) : y0 m c t (ix2 r j) = dhA m c (ix2 (row t r) j) :=
  congrArg (dhA m c) (show (win0_0.rect t).emb (ix2 r j) = ix2 (row t r) j from place_of t r j (Window.rect_emb_val win0_0 t (ix2 r j) 0) (Window.rect_emb_val win0_0 t (ix2 r j) 1) (index0 t))

/-- What the block of the stream holds. -/
theorem block1 (t : Fin cfg0.N) (r : Fin 512) (j : Fin 1024) : h0 m c t (ix2 r j) = hA m c (ix2 (row t r) j) :=
  congrArg (hA m c) (show (win0_1.rect t).emb (ix2 r j) = ix2 (row t r) j from place_of t r j (Window.rect_emb_val win0_1 t (ix2 r j) 0) (Window.rect_emb_val win0_1 t (ix2 r j) 1) (index1 t))

/-- What the block of the gate holds. -/
theorem block2 (t : Fin cfg0.N) (r : Fin 512) (j : Fin 1024) : q0 m c t (ix2 r j) = qA m c (ix2 (row t r) j) :=
  congrArg (qA m c) (show (win0_2.rect t).emb (ix2 r j) = ix2 (row t r) j from place_of t r j (Window.rect_emb_val win0_2 t (ix2 r j) 0) (Window.rect_emb_val win0_2 t (ix2 r j) 1) (index2 t))

/-- What the block of the projection holds. -/
theorem block3 (t : Fin cfg0.N) (r : Fin 512) (j : Fin 1024) : p0 m c t (ix2 r j) = pA m c (ix2 (row t r) j) :=
  congrArg (pA m c) (show (win0_3.rect t).emb (ix2 r j) = ix2 (row t r) j from place_of t r j (Window.rect_emb_val win0_3 t (ix2 r j) 0) (Window.rect_emb_val win0_3 t (ix2 r j) 1) (index3 t))

/-- What the block of the embeddings holds. -/
theorem block4 (t : Fin cfg0.N) (r : Fin 512) (j : Fin 256) : e0 m c t (ix2 r j) = eA m c (ix2 (row t r) j) :=
  congrArg (eA m c) (show (win0_4.rect t).emb (ix2 r j) = ix2 (row t r) j from place_of t r j (Window.rect_emb_val win0_4 t (ix2 r j) 0) (Window.rect_emb_val win0_4 t (ix2 r j) 1) (index4 t))

/-- What the block of the gains in front holds. -/
theorem block5 (t : Fin cfg0.N) (j : Fin 1024) : g0 m c t (ix2 0 j) = gA m c (ix2 0 j) :=
  congrArg (gA m c) (show (win0_5.rect t).emb (ix2 0 j) = ix2 0 j from funext fun a => Fin.ext (match a with
    | ⟨0, _⟩ => (Window.rect_emb_val win0_5 t (ix2 0 j) 0).trans (by rw [(index5 t).1]; rfl)
    | ⟨1, _⟩ => (Window.rect_emb_val win0_5 t (ix2 0 j) 1).trans (by rw [(index5 t).2]; show 0 * 1024 + j.val = j.val; omega)))

/-- What the block of the gate's weight holds. -/
theorem block6 (t : Fin cfg0.N) (r j : Fin 1024) : w0 m c t (ix2 r j) = wA m c (ix2 r j) :=
  congrArg (wA m c) (show (win0_6.rect t).emb (ix2 r j) = ix2 r j from funext fun a => Fin.ext (match a with
    | ⟨0, _⟩ => (Window.rect_emb_val win0_6 t (ix2 r j) 0).trans (by rw [(index6 t).1]; show 0 * 1024 + r.val = r.val; omega)
    | ⟨1, _⟩ => (Window.rect_emb_val win0_6 t (ix2 r j) 1).trans (by rw [(index6 t).2]; show 0 * 1024 + j.val = j.val; omega)))

/-- What the block of the gains behind holds. -/
theorem block7 (t : Fin cfg0.N) (j : Fin 1024) : a0 m c t (ix2 0 j) = aA m c (ix2 0 j) :=
  congrArg (aA m c) (show (win0_7.rect t).emb (ix2 0 j) = ix2 0 j from funext fun a => Fin.ext (match a with
    | ⟨0, _⟩ => (Window.rect_emb_val win0_7 t (ix2 0 j) 0).trans (by rw [(index7 t).1]; rfl)
    | ⟨1, _⟩ => (Window.rect_emb_val win0_7 t (ix2 0 j) 1).trans (by rw [(index7 t).2]; show 0 * 1024 + j.val = j.val; omega)))

/-- Where a point writes its block of window 8. -/
theorem emb8 (t : Fin cfg0.N) (r : Fin 512) (j : Fin 1024) : (win0_8.rect t).emb (ix2 r j) = ix2 (row t r) j := place_of t r j (Window.rect_emb_val win0_8 t (ix2 r j) 0) (Window.rect_emb_val win0_8 t (ix2 r j) 1) (index8 t)

/-- Where a point writes its block of window 9. -/
theorem emb9 (t : Fin cfg0.N) (r j : Fin 1024) : (win0_9.rect t).emb (ix2 r j) = ix2 r j := funext fun a => Fin.ext (match a with
    | ⟨0, _⟩ => (Window.rect_emb_val win0_9 t (ix2 r j) 0).trans (by rw [(index9 t).1]; show 0 * 1024 + r.val = r.val; omega)
    | ⟨1, _⟩ => (Window.rect_emb_val win0_9 t (ix2 r j) 1).trans (by rw [(index9 t).2]; show 0 * 1024 + j.val = j.val; omega))

/-- Where a point writes its block of window 10. -/
theorem emb10 (t : Fin cfg0.N) (r : Fin 256) (j : Fin 1024) : (win0_10.rect t).emb (ix2 r j) = ix2 r j := funext fun a => Fin.ext (match a with
    | ⟨0, _⟩ => (Window.rect_emb_val win0_10 t (ix2 r j) 0).trans (by rw [(index10 t).1]; show 0 * 256 + r.val = r.val; omega)
    | ⟨1, _⟩ => (Window.rect_emb_val win0_10 t (ix2 r j) 1).trans (by rw [(index10 t).2]; show 0 * 1024 + j.val = j.val; omega))

/-- Where a point writes its block of window 11. -/
theorem emb11 (t : Fin cfg0.N) (j : Fin 1024) : (win0_11.rect t).emb (ix2 0 j) = ix2 0 j := funext fun a => Fin.ext (match a with
    | ⟨0, _⟩ => (Window.rect_emb_val win0_11 t (ix2 0 j) 0).trans (by rw [(index11 t).1]; rfl)
    | ⟨1, _⟩ => (Window.rect_emb_val win0_11 t (ix2 0 j) 1).trans (by rw [(index11 t).2]; show 0 * 1024 + j.val = j.val; omega))

/-- Where a point writes its block of window 12. -/
theorem emb12 (t : Fin cfg0.N) (j : Fin 1024) : (win0_12.rect t).emb (ix2 0 j) = ix2 0 j := funext fun a => Fin.ext (match a with
    | ⟨0, _⟩ => (Window.rect_emb_val win0_12 t (ix2 0 j) 0).trans (by rw [(index12 t).1]; rfl)
    | ⟨1, _⟩ => (Window.rect_emb_val win0_12 t (ix2 0 j) 1).trans (by rw [(index12 t).2]; show 0 * 1024 + j.val = j.val; omega))

/-! ## The five results -/

/-- One row of the stream's gradient. -/
def yRow (i : Fin 8192) : Fin 1024 → EReal := rowOf (dhA m c) i
/-- One row of the stream. -/
def hRow (i : Fin 8192) : Fin 1024 → EReal := rowOf (hA m c) i
/-- One row of the gate. -/
def qRow (i : Fin 8192) : Fin 1024 → EReal := rowOf (qA m c) i
/-- One row of the projection. -/
def pRow (i : Fin 8192) : Fin 1024 → EReal := rowOf (pA m c) i
/-- The gains in front. -/
def gRow : Fin 1024 → EReal := rowOf (gA m c) 0
/-- The gains behind. -/
def aRow : Fin 1024 → EReal := rowOf (aA m c) 0
/-- The gradient of one normalised row. -/
def dnRow (i : Fin 8192) : Fin 1024 → EReal := dNormed (yRow m c i) (pRow m c i) (qRow m c i) (aRow m c) (rowOf (wA m c))

/-- One element of the stream's gradient. -/
def dxAt (i : Fin 8192) (j : Fin 1024) : EReal := yRow m c i j + pull (hRow m c i) (fun l => dnRow m c i l * gRow m c l) j
/-- One row's part of the gradient of the gate's weight. -/
def wgTerm (k j : Fin 1024) (i : Fin 8192) : EReal := normed (hRow m c i) (gRow m c) k * dGate (yRow m c i) (pRow m c i) (qRow m c i) (aRow m c) j
/-- One row's part of the gradient of the projection's weight. -/
def wpTerm (k : Fin 256) (j : Fin 1024) (i : Fin 8192) : EReal := (eA m c (ix2 i k) : EReal) * dProj (yRow m c i) (pRow m c i) (qRow m c i) (aRow m c) j
/-- One row's part of the gradient of a gain in front. -/
def dgTerm (j : Fin 1024) (i : Fin 8192) : EReal := dnRow m c i j * (hRow m c i j * size (hRow m c i))
/-- One row's part of the gradient of a gain behind. -/
def dpTerm (j : Fin 1024) (i : Fin 8192) : EReal := yRow m c i j * (gated (pRow m c i) (qRow m c i) j * size (gated (pRow m c i) (qRow m c i)))

/-- The stream's gradient. -/
def dxA : Vec Ideal S8192x1024 .f32 := fun z => dxAt m c (z 0) (z 1)
/-- The gradient of the gate's weight. -/
def wgA : Vec Ideal S1024x1024 .f32 := fun z => ∑ i : Fin 8192, wgTerm m c (z 0) (z 1) i
/-- The gradient of the projection's weight. -/
def wpA : Vec Ideal S256x1024 .f32 := fun z => ∑ i : Fin 8192, wpTerm m c (z 0) (z 1) i
/-- The gradient of the gains in front. -/
def dgA : Vec Ideal S1x1024 .f32 := fun z => ∑ i : Fin 8192, dgTerm m c (z 1) i
/-- The gradient of the gains behind. -/
def dpA : Vec Ideal S1x1024 .f32 := fun z => ∑ i : Fin 8192, dpTerm m c (z 1) i

/-- A row of a tile is a row of the array. -/
theorem y_row (t : Fin cfg0.N) (r : Fin 512) : rowOf (y0 m c t) r = yRow m c (row t r) := funext fun j => block0 m c t r j
/-- So it is of the stream. -/
theorem h_row (t : Fin cfg0.N) (r : Fin 512) : rowOf (h0 m c t) r = hRow m c (row t r) := funext fun j => block1 m c t r j
/-- So it is of the gate. -/
theorem q_row (t : Fin cfg0.N) (r : Fin 512) : rowOf (q0 m c t) r = qRow m c (row t r) := funext fun j => block2 m c t r j
/-- So it is of the projection. -/
theorem p_row (t : Fin cfg0.N) (r : Fin 512) : rowOf (p0 m c t) r = pRow m c (row t r) := funext fun j => block3 m c t r j
/-- The gains in front are whole. -/
theorem g_row (t : Fin cfg0.N) : rowOf (g0 m c t) 0 = gRow m c := funext fun j => block5 m c t j
/-- The gains behind are whole. -/
theorem a_row (t : Fin cfg0.N) : rowOf (a0 m c t) 0 = aRow m c := funext fun j => block7 m c t j
/-- The weight is whole. -/
theorem w_rows (t : Fin cfg0.N) : rowOf (w0 m c t) = rowOf (wA m c) := funext fun k => funext fun j => block6 m c t k j

/-- What a point leaves of the stream's gradient. -/
theorem after8 (t : Fin cfg0.N) : (outsAt0 m c t.val t.isLt).1 = dxT (y0 m c t) (h0 m c t) (q0 m c t) (p0 m c t) (g0 m c t) (w0 m c t) (a0 m c t) := by
  by_cases h : t.val % 16 = 0
  · rw [outsAt0_A m c t h]; dsimp only; exact (out_A ..).1
  · rw [outsAt0_B m c t h]; dsimp only; exact (out_B ..).1

/-- What the first point leaves of the gradient of the gate's weight. -/
def first9 (n : ℕ) (h : n < cfg0.N) : Vec Ideal S1024x1024 .f32 := k0_pay6 (wgT (y0 m c ⟨n, h⟩) (h0 m c ⟨n, h⟩) (q0 m c ⟨n, h⟩) (p0 m c ⟨n, h⟩) (g0 m c ⟨n, h⟩) (a0 m c ⟨n, h⟩)) (k0_pay2 (F := Ideal))
/-- What a later point leaves of it. -/
def next9 (n : ℕ) (h : n < cfg0.N) (acc : Vec Ideal S1024x1024 .f32) : Vec Ideal S1024x1024 .f32 := k0_pay6 (wgT (y0 m c ⟨n, h⟩) (h0 m c ⟨n, h⟩) (q0 m c ⟨n, h⟩) (p0 m c ⟨n, h⟩) (g0 m c ⟨n, h⟩) (a0 m c ⟨n, h⟩)) acc

/-- What a point leaves of the gradient of the gate's weight. -/
theorem after9 (t : Fin cfg0.N) : (outsAt0 m c t.val t.isLt).2.1 = Pipeline.accAt (first9 m c) (next9 m c) (16 * (t.val / 16)) (t.val % 16)
    (by have h1 := t.isLt; have h2 := Nat.div_add_mod t.val 16; omega) :=
  Pipeline.eq_accAt_of_mod (fun n h => (outsAt0 m c n h).2.1) 16 (first9 m c) (next9 m c)
    (fun n h hn => by rw [outsAt0_A m c ⟨n, h⟩ hn]; dsimp only; exact (out_A ..).2.1)
    (fun n h hn => by rw [outsAt0_B m c ⟨n + 1, h⟩ hn]; dsimp only; exact (out_B ..).2.1)
    (by decide) t.val t.isLt _

/-- One point adds its tile's rows. -/
theorem adds9 (t : Fin cfg0.N) (acc : FVec Ideal S1024x1024 .f32) (k j : Fin 1024) :
    (k0_pay6 (F := Ideal) (wgT (y0 m c t) (h0 m c t) (q0 m c t) (p0 m c t) (g0 m c t) (a0 m c t)) acc (ix2 k j) : EReal) = (acc (ix2 k j) : EReal) + ∑ r : Fin 512, ext (wgTerm m c k j) (512 * t.val + r.val) := by
  unfold k0_pay6
  simp only [shapeCast_self]
  rw [addf_apply]
  refine congrArg ((acc (ix2 k j) : EReal) + ·) ((wgate_tile (y0 m c t) (h0 m c t) (q0 m c t) (p0 m c t) (g0 m c t) (a0 m c t) k j).trans (Finset.sum_congr rfl fun r _ => ?_))
  rw [y_row, h_row, q_row, p_row, g_row, a_row]
  exact (ext_of (wgTerm m c k j) (row t r).val (row t r).isLt).symm

/-- What the run leaves of an element. -/
theorem sum9 (t : Fin cfg0.N) (ht : t.val % 16 = 15) (k j : Fin 1024) : ((outsAt0 m c t.val t.isLt).2.1 (ix2 k j) : EReal) = ∑ i : Fin 8192, wgTerm m c k j i := by
  have hl := point_lt t
  rw [after9]
  have p : ∀ (b n : ℕ) (h : b + n < cfg0.N), b = 0 → n = 15 → (Pipeline.accAt (first9 m c) (next9 m c) b n h (ix2 k j) : EReal) = ∑ i : Fin 8192, wgTerm m c k j i := by
    intro b n h hb hn
    subst hb hn
    refine run_sum_of (first9 m c) (next9 m c) (ix2 k j) _ 0 512 15 rfl (fun h => ?_) (fun s h acc => ?_) h
    · unfold first9
      refine (adds9 m c ⟨0, h⟩ _ k j).trans ?_
      rw [show (k0_pay2 (F := Ideal) (ix2 k j) : EReal) = 0 from zero_bits, zero_add]
    · unfold next9
      refine (adds9 m c ⟨0 + s.val, h⟩ _ k j).trans ?_
      simp only [Nat.zero_add]
  exact p _ _ _ (by omega) ht

/-- What the first point leaves of the gradient of the projection's weight. -/
def first10 (n : ℕ) (h : n < cfg0.N) : Vec Ideal S256x1024 .f32 := k0_pay7 (wpT (y0 m c ⟨n, h⟩) (q0 m c ⟨n, h⟩) (p0 m c ⟨n, h⟩) (e0 m c ⟨n, h⟩) (a0 m c ⟨n, h⟩)) (k0_pay3 (F := Ideal))
/-- What a later point leaves of it. -/
def next10 (n : ℕ) (h : n < cfg0.N) (acc : Vec Ideal S256x1024 .f32) : Vec Ideal S256x1024 .f32 := k0_pay7 (wpT (y0 m c ⟨n, h⟩) (q0 m c ⟨n, h⟩) (p0 m c ⟨n, h⟩) (e0 m c ⟨n, h⟩) (a0 m c ⟨n, h⟩)) acc

/-- What a point leaves of the gradient of the projection's weight. -/
theorem after10 (t : Fin cfg0.N) : (outsAt0 m c t.val t.isLt).2.2.1 = Pipeline.accAt (first10 m c) (next10 m c) (16 * (t.val / 16)) (t.val % 16)
    (by have h1 := t.isLt; have h2 := Nat.div_add_mod t.val 16; omega) :=
  Pipeline.eq_accAt_of_mod (fun n h => (outsAt0 m c n h).2.2.1) 16 (first10 m c) (next10 m c)
    (fun n h hn => by rw [outsAt0_A m c ⟨n, h⟩ hn]; dsimp only; exact (out_A ..).2.2.1)
    (fun n h hn => by rw [outsAt0_B m c ⟨n + 1, h⟩ hn]; dsimp only; exact (out_B ..).2.2.1)
    (by decide) t.val t.isLt _

/-- One point adds its tile's rows. -/
theorem adds10 (t : Fin cfg0.N) (acc : FVec Ideal S256x1024 .f32) (k : Fin 256) (j : Fin 1024) :
    (k0_pay7 (F := Ideal) (wpT (y0 m c t) (q0 m c t) (p0 m c t) (e0 m c t) (a0 m c t)) acc (ix2 k j) : EReal) = (acc (ix2 k j) : EReal) + ∑ r : Fin 512, ext (wpTerm m c k j) (512 * t.val + r.val) := by
  unfold k0_pay7
  simp only [shapeCast_self]
  rw [addf_apply]
  refine congrArg ((acc (ix2 k j) : EReal) + ·) ((wproj_tile (y0 m c t) (q0 m c t) (p0 m c t) (e0 m c t) (a0 m c t) k j).trans (Finset.sum_congr rfl fun r _ => ?_))
  rw [y_row, q_row, p_row, a_row, block4]
  exact (ext_of (wpTerm m c k j) (row t r).val (row t r).isLt).symm

/-- What the run leaves of an element. -/
theorem sum10 (t : Fin cfg0.N) (ht : t.val % 16 = 15) (k : Fin 256) (j : Fin 1024) : ((outsAt0 m c t.val t.isLt).2.2.1 (ix2 k j) : EReal) = ∑ i : Fin 8192, wpTerm m c k j i := by
  have hl := point_lt t
  rw [after10]
  have p : ∀ (b n : ℕ) (h : b + n < cfg0.N), b = 0 → n = 15 → (Pipeline.accAt (first10 m c) (next10 m c) b n h (ix2 k j) : EReal) = ∑ i : Fin 8192, wpTerm m c k j i := by
    intro b n h hb hn
    subst hb hn
    refine run_sum_of (first10 m c) (next10 m c) (ix2 k j) _ 0 512 15 rfl (fun h => ?_) (fun s h acc => ?_) h
    · unfold first10
      refine (adds10 m c ⟨0, h⟩ _ k j).trans ?_
      rw [show (k0_pay3 (F := Ideal) (ix2 k j) : EReal) = 0 from zero_bits, zero_add]
    · unfold next10
      refine (adds10 m c ⟨0 + s.val, h⟩ _ k j).trans ?_
      simp only [Nat.zero_add]
  exact p _ _ _ (by omega) ht

/-- What the first point leaves of the gradient of the gains in front. -/
def first11 (n : ℕ) (h : n < cfg0.N) : Vec Ideal S1x1024 .f32 := k0_pay8 (dgT (y0 m c ⟨n, h⟩) (h0 m c ⟨n, h⟩) (q0 m c ⟨n, h⟩) (p0 m c ⟨n, h⟩) (w0 m c ⟨n, h⟩) (a0 m c ⟨n, h⟩)) (k0_pay4 (F := Ideal))
/-- What a later point leaves of it. -/
def next11 (n : ℕ) (h : n < cfg0.N) (acc : Vec Ideal S1x1024 .f32) : Vec Ideal S1x1024 .f32 := k0_pay8 (dgT (y0 m c ⟨n, h⟩) (h0 m c ⟨n, h⟩) (q0 m c ⟨n, h⟩) (p0 m c ⟨n, h⟩) (w0 m c ⟨n, h⟩) (a0 m c ⟨n, h⟩)) acc

/-- What a point leaves of the gradient of the gains in front. -/
theorem after11 (t : Fin cfg0.N) : (outsAt0 m c t.val t.isLt).2.2.2.1 = Pipeline.accAt (first11 m c) (next11 m c) (16 * (t.val / 16)) (t.val % 16)
    (by have h1 := t.isLt; have h2 := Nat.div_add_mod t.val 16; omega) :=
  Pipeline.eq_accAt_of_mod (fun n h => (outsAt0 m c n h).2.2.2.1) 16 (first11 m c) (next11 m c)
    (fun n h hn => by rw [outsAt0_A m c ⟨n, h⟩ hn]; dsimp only; exact (out_A ..).2.2.2.1)
    (fun n h hn => by rw [outsAt0_B m c ⟨n + 1, h⟩ hn]; dsimp only; exact (out_B ..).2.2.2.1)
    (by decide) t.val t.isLt _

/-- One point adds its tile's rows. -/
theorem adds11 (t : Fin cfg0.N) (acc : FVec Ideal S1x1024 .f32) (j : Fin 1024) :
    (k0_pay8 (F := Ideal) (dgT (y0 m c t) (h0 m c t) (q0 m c t) (p0 m c t) (w0 m c t) (a0 m c t)) acc (ix2 0 j) : EReal) = (acc (ix2 0 j) : EReal) + ∑ r : Fin 512, ext (dgTerm m c j) (512 * t.val + r.val) := by
  unfold k0_pay8
  simp only [shapeCast_self]
  rw [addf_apply]
  refine congrArg ((acc (ix2 0 j) : EReal) + ·) ((gain_tile (y0 m c t) (h0 m c t) (q0 m c t) (p0 m c t) (a0 m c t) (w0 m c t) j).trans (Finset.sum_congr rfl fun r _ => ?_))
  rw [y_row, h_row, q_row, p_row, a_row, w_rows]
  exact (ext_of (dgTerm m c j) (row t r).val (row t r).isLt).symm

/-- What the run leaves of an element. -/
theorem sum11 (t : Fin cfg0.N) (ht : t.val % 16 = 15) (j : Fin 1024) : ((outsAt0 m c t.val t.isLt).2.2.2.1 (ix2 0 j) : EReal) = ∑ i : Fin 8192, dgTerm m c j i := by
  have hl := point_lt t
  rw [after11]
  have p : ∀ (b n : ℕ) (h : b + n < cfg0.N), b = 0 → n = 15 → (Pipeline.accAt (first11 m c) (next11 m c) b n h (ix2 0 j) : EReal) = ∑ i : Fin 8192, dgTerm m c j i := by
    intro b n h hb hn
    subst hb hn
    refine run_sum_of (first11 m c) (next11 m c) (ix2 0 j) _ 0 512 15 rfl (fun h => ?_) (fun s h acc => ?_) h
    · unfold first11
      refine (adds11 m c ⟨0, h⟩ _ j).trans ?_
      rw [show (k0_pay4 (F := Ideal) (ix2 0 j) : EReal) = 0 from zero_bits, zero_add]
    · unfold next11
      refine (adds11 m c ⟨0 + s.val, h⟩ _ j).trans ?_
      simp only [Nat.zero_add]
  exact p _ _ _ (by omega) ht

/-- What the first point leaves of the gradient of the gains behind. -/
def first12 (n : ℕ) (h : n < cfg0.N) : Vec Ideal S1x1024 .f32 := k0_pay9 (dpT (y0 m c ⟨n, h⟩) (q0 m c ⟨n, h⟩) (p0 m c ⟨n, h⟩)) (k0_pay5 (F := Ideal))
/-- What a later point leaves of it. -/
def next12 (n : ℕ) (h : n < cfg0.N) (acc : Vec Ideal S1x1024 .f32) : Vec Ideal S1x1024 .f32 := k0_pay9 (dpT (y0 m c ⟨n, h⟩) (q0 m c ⟨n, h⟩) (p0 m c ⟨n, h⟩)) acc

/-- What a point leaves of the gradient of the gains behind. -/
theorem after12 (t : Fin cfg0.N) : (outsAt0 m c t.val t.isLt).2.2.2.2 = Pipeline.accAt (first12 m c) (next12 m c) (16 * (t.val / 16)) (t.val % 16)
    (by have h1 := t.isLt; have h2 := Nat.div_add_mod t.val 16; omega) :=
  Pipeline.eq_accAt_of_mod (fun n h => (outsAt0 m c n h).2.2.2.2) 16 (first12 m c) (next12 m c)
    (fun n h hn => by rw [outsAt0_A m c ⟨n, h⟩ hn]; dsimp only; exact (out_A ..).2.2.2.2)
    (fun n h hn => by rw [outsAt0_B m c ⟨n + 1, h⟩ hn]; dsimp only; exact (out_B ..).2.2.2.2)
    (by decide) t.val t.isLt _

/-- One point adds its tile's rows. -/
theorem adds12 (t : Fin cfg0.N) (acc : FVec Ideal S1x1024 .f32) (j : Fin 1024) :
    (k0_pay9 (F := Ideal) (dpT (y0 m c t) (q0 m c t) (p0 m c t)) acc (ix2 0 j) : EReal) = (acc (ix2 0 j) : EReal) + ∑ r : Fin 512, ext (dpTerm m c j) (512 * t.val + r.val) := by
  unfold k0_pay9
  simp only [shapeCast_self]
  rw [addf_apply]
  refine congrArg ((acc (ix2 0 j) : EReal) + ·) ((gain_gated (y0 m c t) (q0 m c t) (p0 m c t) j).trans (Finset.sum_congr rfl fun r _ => ?_))
  rw [y_row, q_row, p_row]
  exact (ext_of (dpTerm m c j) (row t r).val (row t r).isLt).symm

/-- What the run leaves of an element. -/
theorem sum12 (t : Fin cfg0.N) (ht : t.val % 16 = 15) (j : Fin 1024) : ((outsAt0 m c t.val t.isLt).2.2.2.2 (ix2 0 j) : EReal) = ∑ i : Fin 8192, dpTerm m c j i := by
  have hl := point_lt t
  rw [after12]
  have p : ∀ (b n : ℕ) (h : b + n < cfg0.N), b = 0 → n = 15 → (Pipeline.accAt (first12 m c) (next12 m c) b n h (ix2 0 j) : EReal) = ∑ i : Fin 8192, dpTerm m c j i := by
    intro b n h hb hn
    subst hb hn
    refine run_sum_of (first12 m c) (next12 m c) (ix2 0 j) _ 0 512 15 rfl (fun h => ?_) (fun s h acc => ?_) h
    · unfold first12
      refine (adds12 m c ⟨0, h⟩ _ j).trans ?_
      rw [show (k0_pay5 (F := Ideal) (ix2 0 j) : EReal) = 0 from zero_bits, zero_add]
    · unfold next12
      refine (adds12 m c ⟨0 + s.val, h⟩ _ j).trans ?_
      simp only [Nat.zero_add]
  exact p _ _ _ (by omega) ht

/-- The stream's gradient after the grid. -/
theorem final8 : (dats m 0 c).arrAt 8 cfg0.N = dxA m c := by
  refine Dat.arrAt_eq_of_cover (dats m 0 c) 8 (dxA m c) (fun t _ => ?_) (fun y => ?_)
  · rw [flushed8, after8]
    refine ext_mat (e := .f32) _ _ fun r j => ?_
    refine (pull_tile (y0 m c t) (h0 m c t) (q0 m c t) (p0 m c t) (g0 m c t) (a0 m c t) (w0 m c t) r j).trans ?_
    rw [y_row, h_row, q_row, p_row, g_row, a_row, w_rows]
    exact (congrArg (dxA m c) (emb8 t r j)).symm
  · rw [eq_ix2 y]
    generalize y 0 = i
    generalize y 1 = j
    have hi : i.val < 8192 := i.isLt
    let t : Fin cfg0.N := ⟨i.val / 512, by rw [show cfg0.N = 16 from N_0]; exact (by omega : i.val / 512 < 16)⟩
    refine ⟨t, flush0_8 t, ?_⟩
    have e : ((cfg0.win 8).blk t).view.emb (ix2 ⟨i.val % 512, Nat.mod_lt _ (by decide)⟩ j) = ix2 i j :=
      (emb8 t _ j).trans (congrArg (ix2 · j) (Fin.ext (show 512 * (i.val / 512) + i.val % 512 = i.val by omega)))
    have hm := ((cfg0.win 8).blk t).view.emb_mem_set (ix2 ⟨i.val % 512, Nat.mod_lt _ (by decide)⟩ j)
    rwa [e] at hm

/-- The one row of a one-row matrix. -/
theorem one_row (i : Fin 1) : i = 0 := Subsingleton.elim _ _

/-- The last grid point. -/
def lastPoint : Fin cfg0.N := ⟨15, by rw [show cfg0.N = 16 from N_0]; decide⟩

/-- The gradient of the gate's weight after the grid. -/
theorem final9 : (dats m 0 c).arrAt 9 cfg0.N = wgA m c := by
  refine Dat.arrAt_eq_of_cover (dats m 0 c) 9 (wgA m c) (fun t hf => ?_) (fun y => ?_)
  · rw [flushed9]
    refine ext_mat (e := .f32) _ _ fun k j => ?_
    exact (sum9 m c t ((flush0_9 t).mp hf) k j).trans (congrArg (wgA m c) (emb9 t k j)).symm
  · rw [eq_ix2 y]
    generalize y 0 = k
    generalize y 1 = j
    refine ⟨lastPoint, (flush0_9 lastPoint).mpr rfl, ?_⟩
    have hm := ((cfg0.win 9).blk lastPoint).view.emb_mem_set (ix2 k j)
    rwa [show ((cfg0.win 9).blk lastPoint).view.emb (ix2 k j) = ix2 k j from emb9 lastPoint k j] at hm

/-- The gradient of the projection's weight after the grid. -/
theorem final10 : (dats m 0 c).arrAt 10 cfg0.N = wpA m c := by
  refine Dat.arrAt_eq_of_cover (dats m 0 c) 10 (wpA m c) (fun t hf => ?_) (fun y => ?_)
  · rw [flushed10]
    refine ext_mat (e := .f32) _ _ fun k j => ?_
    exact (sum10 m c t ((flush0_10 t).mp hf) k j).trans (congrArg (wpA m c) (emb10 t k j)).symm
  · rw [eq_ix2 y]
    generalize y 0 = k
    generalize y 1 = j
    refine ⟨lastPoint, (flush0_10 lastPoint).mpr rfl, ?_⟩
    have hm := ((cfg0.win 10).blk lastPoint).view.emb_mem_set (ix2 k j)
    rwa [show ((cfg0.win 10).blk lastPoint).view.emb (ix2 k j) = ix2 k j from emb10 lastPoint k j] at hm

/-- The gradient of the gains in front after the grid. -/
theorem final11 : (dats m 0 c).arrAt 11 cfg0.N = dgA m c := by
  refine Dat.arrAt_eq_of_cover (dats m 0 c) 11 (dgA m c) (fun t hf => ?_) (fun y => ?_)
  · rw [flushed11]
    refine ext_mat (e := .f32) _ _ fun r j => ?_
    obtain rfl := one_row r
    exact (sum11 m c t ((flush0_11 t).mp hf) j).trans (congrArg (dgA m c) (emb11 t j)).symm
  · rw [eq_ix2 y, one_row (y 0)]
    generalize y 1 = j
    refine ⟨lastPoint, (flush0_11 lastPoint).mpr rfl, ?_⟩
    have hm := ((cfg0.win 11).blk lastPoint).view.emb_mem_set (ix2 0 j)
    rwa [show ((cfg0.win 11).blk lastPoint).view.emb (ix2 0 j) = ix2 0 j from emb11 lastPoint j] at hm

/-- The gradient of the gains behind after the grid. -/
theorem final12 : (dats m 0 c).arrAt 12 cfg0.N = dpA m c := by
  refine Dat.arrAt_eq_of_cover (dats m 0 c) 12 (dpA m c) (fun t hf => ?_) (fun y => ?_)
  · rw [flushed12]
    refine ext_mat (e := .f32) _ _ fun r j => ?_
    obtain rfl := one_row r
    exact (sum12 m c t ((flush0_12 t).mp hf) j).trans (congrArg (dpA m c) (emb12 t j)).symm
  · rw [eq_ix2 y, one_row (y 0)]
    generalize y 1 = j
    refine ⟨lastPoint, (flush0_12 lastPoint).mpr rfl, ?_⟩
    have hm := ((cfg0.win 12).blk lastPoint).view.emb_mem_set (ix2 0 j)
    rwa [show ((cfg0.win 12).blk lastPoint).view.emb (ix2 0 j) = ix2 0 j from emb12 lastPoint j] at hm

end Cert.Ple.Bwd

end
-- ==== Proof.Ple.BwdReference.lean ====
module

public import proofs.«01_k».proof.Proof.Ple.Gate
public import proofs.«01_k».proof.Proof.Gen.PleBwdReferenceIdeal.Run
public import proofs.«01_k».proof.Proof.Gen.PleBwdReferenceIdeal.Read

@[expose] public section

set_option maxRecDepth 16384

noncomputable section

/-! # The reference's backward pass of the per-layer embedding, element by element -/

namespace Cert.Ple.BwdRef

open Idealize.ShloMosaic Idealize.ShloMosaic.TcCoe Idealize.ShloMosaic.StableHlo Idealize.ShloMosaic.ValueIdx
open Cert.Mlp Cert.Ple Cert.PleBwdReferenceIdeal Cert.PleBwdReferenceIdeal.Read

variable (h : FVec Ideal S8192x1024 .f32) (e : FVec Ideal S8192x256 .f32) (g : FVec Ideal S1024 .f32) (w : FVec Ideal S1024x1024 .f32) (v : FVec Ideal S256x1024 .f32) (a : FVec Ideal S1024 .f32) (y : FVec Ideal S8192x1024 .f32)

/-- A vector by its number. -/
def vecOf (a : FVec Ideal S1024 .f32) (j : Fin 1024) : EReal := a (ix1 j)
/-- One row of the gate. -/
def gateRow (i : Fin 8192) : Fin 1024 → EReal := rowOf (val_main_v16 (F := Ideal) h g w) i
/-- One row of the projection. -/
def projRow (i : Fin 8192) : Fin 1024 → EReal := rowOf (val_main_v26 (F := Ideal) e v) i
/-- One gated row. -/
def gatedRow (i : Fin 8192) : Fin 1024 → EReal := gated (projRow e v i) (gateRow h g w i)
/-- The incoming gradient of one row behind the gate. -/
def backRow (i : Fin 8192) (j : Fin 1024) : EReal := rowOf y i j * vecOf a j
/-- The gradient of one normalised row. -/
def dnRow (i : Fin 8192) : Fin 1024 → EReal := dNormed (rowOf y i) (projRow e v i) (gateRow h g w i) (vecOf a) (rowOf w)
/-- The incoming gradient of one normalised row. -/
def frontRow (i : Fin 8192) (j : Fin 1024) : EReal := dnRow h e g w v a y i j * vecOf g j

/-- The logistic of the gate. -/
theorem ref_sg (i : Fin 8192) (j : Fin 1024) : (val_main_v22 (F := Ideal) h g w (ix2 i j) : EReal) = Ideal.logistic (gateRow h g w i j) := by
  rw [val_main_v22_apply (F := Ideal), val_main_v21_apply (F := Ideal), val_main_cst_4_apply (F := Ideal), val_main_v20_apply (F := Ideal), val_main_v19_apply (F := Ideal), val_main_cst_3_apply (F := Ideal), val_main_v18_apply (F := Ideal), val_main_v17_apply (F := Ideal)]
  exact logistic_eq _

/-- The gated row. -/
theorem ref_gated (i : Fin 8192) (j : Fin 1024) : (val_main_v27 (F := Ideal) h e g w v (ix2 i j) : EReal) = gatedRow h e g w v i j := by
  rw [val_main_v27_apply (F := Ideal), ref_sg]
  rfl

/-- The mean square of a gated row, with the small number added. -/
theorem ref_mean (i : Fin 8192) : (val_main_v34 (F := Ideal) h e g w v (ix2 i 0) : EReal) = meanSq (gatedRow h e g w v i) := by
  rw [val_main_v34_apply (F := Ideal), val_main_v32_apply (F := Ideal), val_main_v30_apply (F := Ideal), val_main_v31_apply (F := Ideal), val_main_v33_apply (F := Ideal), val_main_v29_apply, val_main_cst_6_apply (F := Ideal), val_main_cst_7_apply (F := Ideal), val_main_cst_8_apply (F := Ideal)]
  show Ideal.div (Ideal.ofBits .f32 0x00000000#32 + _) (Ideal.ofBits .f32 0x44800000#32) + Ideal.ofBits .f32 0x358637BD#32 = _
  rw [zero_bits, zero_add]
  unfold meanSq
  refine congrArg (fun z : EReal => Ideal.div z _ + _) (Finset.sum_congr rfl fun k _ => ?_)
  rw [show idx_main_v29 (idx_main_v30 (ix2 i 0)) k = ix2 i k from Shape.idx_ext₂ (y := ix2 i k) rfl rfl, val_main_v28_apply (F := Ideal), ref_gated]
  rfl

/-- The reciprocal of a gated row's size. -/
theorem ref_size (i : Fin 8192) : (val_main_v35 (F := Ideal) h e g w v (ix2 i 0) : EReal) = size (gatedRow h e g w v i) := by
  rw [val_main_v35_apply (F := Ideal), ref_mean]
  rfl

/-- The gated row over its size. -/
theorem ref_unit (i : Fin 8192) (j : Fin 1024) : (val_main_v40 (F := Ideal) h e g w v (ix2 i j) : EReal) = gatedRow h e g w v i j * size (gatedRow h e g w v i) := by
  rw [val_main_v40_apply (F := Ideal), val_main_v39_apply (F := Ideal), show idx_main_v39 (ix2 i j) = ix2 i 0 from Shape.idx_ext₂ (y := ix2 i 0) rfl rfl, ref_gated, ref_size]
  rfl

/-- Minus one half of the third power of its size. -/
theorem ref_cube (i : Fin 8192) : (val_main_v38 (F := Ideal) h e g w v (ix2 i 0) : EReal)
    = Ideal.ofBits .f32 0xBF000000#32 * Ideal.div (size (gatedRow h e g w v i)) (meanSq (gatedRow h e g w v i)) := by
  rw [val_main_v38_apply (F := Ideal), val_main_v37_apply (F := Ideal), val_main_cst_9_apply (F := Ideal), val_main_v36_apply (F := Ideal), ref_mean, ref_size]
  rfl

/-- The stream's gradient, cast to its own shape. -/
theorem ref_cast (i : Fin 8192) (j : Fin 1024) : (val_main_v45 (F := Ideal) y (ix2 i j) : EReal) = rowOf y i j := by
  rw [val_main_v45_apply (F := Ideal), show idx_main_v45 (ix2 i j) = ix2 i j from funext fun a => Fin.ext (match a with
    | ⟨0, _⟩ => show (i.val * 1024 + j.val) / 1024 = i.val by have := j.isLt; omega
    | ⟨1, _⟩ => show (i.val * 1024 + j.val) % 1024 = j.val by have := j.isLt; omega)]
  rfl

/-- The stream's gradient times the gains. -/
theorem ref_back (i : Fin 8192) (j : Fin 1024) : (val_main_v50 (F := Ideal) a y (ix2 i j) : EReal) = backRow a y i j := by
  rw [val_main_v50_apply (F := Ideal), val_main_v49_apply (F := Ideal), val_main_v41_apply (F := Ideal), ref_cast, show idx_main_v41 (idx_main_v49 (ix2 i j)) = ix1 j from funext fun a => Fin.ext (match a with | ⟨0, _⟩ => rfl)]
  rfl

/-- The part of the gradient that runs through a gated row's size. -/
theorem ref_through (i : Fin 8192) : (val_main_v60 (F := Ideal) h e g w v a y (ix1 i) : EReal) = through (gatedRow h e g w v i) (backRow a y i) := by
  rw [val_main_v60_apply, val_main_cst_14_apply (F := Ideal)]
  show Ideal.ofBits .f32 0x00000000#32 + _ = _
  rw [zero_bits, zero_add, Fin.sum_univ_one, show idx_main_v60 (ix1 i) 0 = ix2 i 0 from Shape.idx_ext₂ (y := ix2 i 0) rfl rfl,
    val_main_v59_apply (F := Ideal), val_main_v58_apply (F := Ideal), val_main_cst_13_apply (F := Ideal), val_main_v57_apply (F := Ideal), ref_cube, val_main_v54_apply (F := Ideal),
    show idx_main_v54 (ix2 i 0) = ix1 i from funext fun a => Fin.ext (match a with | ⟨0, _⟩ => show i.val * 1 + 0 = i.val by omega), val_main_v53_apply, val_main_cst_12_apply (F := Ideal)]
  show Ideal.div ((Ideal.ofBits .f32 0x00000000#32 + _) * _) (Ideal.ofBits .f32 0x44800000#32) = _
  rw [zero_bits, zero_add]
  unfold through
  refine congrArg (fun z : EReal => Ideal.div (z * _) _) (Finset.sum_congr rfl fun k _ => ?_)
  rw [show idx_main_v53 (ix1 i) k = ix2 i k from Shape.idx_ext₂ (y := ix2 i k) rfl rfl, val_main_v52_apply (F := Ideal), ref_back, ref_gated]
  rfl

/-- The gradient of the gated row. -/
theorem ref_dGated (i : Fin 8192) (j : Fin 1024) : (val_main_v65 (F := Ideal) h e g w v a y (ix2 i j) : EReal)
    = dGated (rowOf y i) (projRow e v i) (gateRow h g w i) (vecOf a) j := by
  refine Eq.trans ?_ (pull_eq (gatedRow h e g w v i) (backRow a y i) j).symm
  rw [val_main_v65_apply (F := Ideal), val_main_v64_apply (F := Ideal), val_main_v63_apply (F := Ideal), val_main_v62_apply (F := Ideal), val_main_v61_apply (F := Ideal), val_main_v56_apply (F := Ideal), val_main_v55_apply (F := Ideal), show idx_main_v61 (ix2 i j) = ix1 i from funext fun a => Fin.ext (match a with | ⟨0, _⟩ => rfl), show idx_main_v55 (ix2 i j) = ix2 i 0 from Shape.idx_ext₂ (y := ix2 i 0) rfl rfl,
    ref_through, ref_back, ref_gated, ref_size]
  rfl

/-- The gradient of the projection. -/
theorem ref_dProj (i : Fin 8192) (j : Fin 1024) : (val_main_v67 (F := Ideal) h e g w v a y (ix2 i j) : EReal)
    = dProj (rowOf y i) (projRow e v i) (gateRow h g w i) (vecOf a) j := by
  rw [val_main_v67_apply (F := Ideal), ref_dGated, ref_sg]
  rfl

/-- The gradient of the gate. -/
theorem ref_dGate (i : Fin 8192) (j : Fin 1024) : (val_main_v70 (F := Ideal) h e g w v a y (ix2 i j) : EReal)
    = dGate (rowOf y i) (projRow e v i) (gateRow h g w i) (vecOf a) j := by
  rw [val_main_v70_apply (F := Ideal), val_main_v66_apply (F := Ideal), val_main_v25_apply (F := Ideal), val_main_v24_apply (F := Ideal), val_main_v23_apply (F := Ideal), val_main_cst_5_apply (F := Ideal), ref_dGated, ref_sg]
  refine Eq.trans ?_ (dGate_eq (rowOf y i) (projRow e v i) (gateRow h g w i) (vecOf a) j)
  show _ * (_ * (Ideal.ofBits .f32 0x3F800000#32 - _)) = _
  rw [one_bits]
  rfl

/-- The gradient of the projection's weight. -/
theorem ref_wproj (k : Fin 256) (j : Fin 1024) : (val_main_v69 (F := Ideal) h e g w v a y (ix2 k j) : EReal)
    = ∑ i : Fin 8192, (e (ix2 i k) : EReal) * dProj (rowOf y i) (projRow e v i) (gateRow h g w i) (vecOf a) j := by
  rw [val_main_v69_apply (F := Ideal), show idx_main_v69 (ix2 k j) = ix2 j k from Shape.idx_ext₂ (y := ix2 j k) rfl rfl, val_main_v68_apply]
  refine Finset.sum_congr rfl fun i _ => ?_
  rw [show lidx_main_v68 (ix2 j k) i = ix2 i j from Shape.idx_ext₂ (y := ix2 i j) rfl rfl, show ridx_main_v68 (ix2 j k) i = ix2 i k from Shape.idx_ext₂ (y := ix2 i k) rfl rfl, ref_dProj]
  exact mul_comm _ _

/-- The mean square of a row of the stream, with the small number added. -/
theorem ref_mean_front (i : Fin 8192) : (val_main_v6 (F := Ideal) h (ix2 i 0) : EReal) = meanSq (rowOf h i) := by
  rw [val_main_v6_apply (F := Ideal), val_main_v4_apply (F := Ideal), val_main_v2_apply (F := Ideal), val_main_v3_apply (F := Ideal), val_main_v5_apply (F := Ideal), val_main_v1_apply, val_main_cst_apply (F := Ideal), val_main_cst_0_apply (F := Ideal), val_main_cst_1_apply (F := Ideal)]
  show Ideal.div (Ideal.ofBits .f32 0x00000000#32 + _) (Ideal.ofBits .f32 0x44800000#32) + Ideal.ofBits .f32 0x358637BD#32 = _
  rw [zero_bits, zero_add]
  unfold meanSq
  refine congrArg (fun z : EReal => Ideal.div z _ + _) (Finset.sum_congr rfl fun k _ => ?_)
  rw [show idx_main_v1 (idx_main_v2 (ix2 i 0)) k = ix2 i k from Shape.idx_ext₂ (y := ix2 i k) rfl rfl, val_main_v0_apply (F := Ideal)]
  rfl

/-- The reciprocal of its size. -/
theorem ref_size_front (i : Fin 8192) : (val_main_v7 (F := Ideal) h (ix2 i 0) : EReal) = size (rowOf h i) := by
  rw [val_main_v7_apply (F := Ideal), ref_mean_front]
  rfl

/-- Minus one half of its third power. -/
theorem ref_cube_front (i : Fin 8192) : (val_main_v10 (F := Ideal) h (ix2 i 0) : EReal)
    = Ideal.ofBits .f32 0xBF000000#32 * Ideal.div (size (rowOf h i)) (meanSq (rowOf h i)) := by
  rw [val_main_v10_apply (F := Ideal), val_main_v9_apply (F := Ideal), val_main_cst_2_apply (F := Ideal), val_main_v8_apply (F := Ideal), ref_mean_front, ref_size_front]
  rfl

/-- The stream's rows over their sizes. -/
theorem ref_unit_front (i : Fin 8192) (j : Fin 1024) : (val_main_v12 (F := Ideal) h (ix2 i j) : EReal) = rowOf h i j * size (rowOf h i) := by
  rw [val_main_v12_apply (F := Ideal), val_main_v11_apply (F := Ideal), show idx_main_v11 (ix2 i j) = ix2 i 0 from Shape.idx_ext₂ (y := ix2 i 0) rfl rfl, ref_size_front]
  rfl

/-- The normalised rows. -/
theorem ref_normed (i : Fin 8192) (j : Fin 1024) : (val_main_v15 (F := Ideal) h g (ix2 i j) : EReal) = normed (rowOf h i) (vecOf g) j := by
  rw [val_main_v15_apply (F := Ideal), val_main_v14_apply (F := Ideal), val_main_v13_apply (F := Ideal), show idx_main_v13 (idx_main_v14 (ix2 i j)) = ix1 j from funext fun a => Fin.ext (match a with | ⟨0, _⟩ => rfl), ref_unit_front]
  rfl

/-- The gradient of the gate's weight. -/
theorem ref_wgate (k j : Fin 1024) : (val_main_v72 (F := Ideal) h e g w v a y (ix2 k j) : EReal)
    = ∑ i : Fin 8192, normed (rowOf h i) (vecOf g) k * dGate (rowOf y i) (projRow e v i) (gateRow h g w i) (vecOf a) j := by
  rw [val_main_v72_apply (F := Ideal), show idx_main_v72 (ix2 k j) = ix2 j k from Shape.idx_ext₂ (y := ix2 j k) rfl rfl, val_main_v71_apply]
  refine Finset.sum_congr rfl fun i _ => ?_
  rw [show lidx_main_v71 (ix2 j k) i = ix2 i j from Shape.idx_ext₂ (y := ix2 i j) rfl rfl, show ridx_main_v71 (ix2 j k) i = ix2 i k from Shape.idx_ext₂ (y := ix2 i k) rfl rfl, ref_dGate, ref_normed]
  exact mul_comm _ _

/-- The gradient of the normalised rows. -/
theorem ref_dNormed (i : Fin 8192) (j : Fin 1024) : (val_main_v73 (F := Ideal) h e g w v a y (ix2 i j) : EReal) = dnRow h e g w v a y i j := by
  rw [val_main_v73_apply]
  unfold dnRow dNormed
  refine Finset.sum_congr rfl fun k _ => ?_
  rw [show lidx_main_v73 (ix2 i j) k = ix2 i k from Shape.idx_ext₂ (y := ix2 i k) rfl rfl, show ridx_main_v73 (ix2 i j) k = ix2 j k from Shape.idx_ext₂ (y := ix2 j k) rfl rfl, ref_dGate]
  rfl

/-- With the gains. -/
theorem ref_front (i : Fin 8192) (j : Fin 1024) : (val_main_v78 (F := Ideal) h e g w v a y (ix2 i j) : EReal) = frontRow h e g w v a y i j := by
  rw [val_main_v78_apply (F := Ideal), val_main_v77_apply (F := Ideal), val_main_v13_apply (F := Ideal), show idx_main_v13 (idx_main_v77 (ix2 i j)) = ix1 j from funext fun a => Fin.ext (match a with | ⟨0, _⟩ => rfl), ref_dNormed]
  rfl

/-- The part of the gradient that runs through the size of a row of the stream. -/
theorem ref_through_front (i : Fin 8192) : (val_main_v89 (F := Ideal) h e g w v a y (ix1 i) : EReal) = through (rowOf h i) (frontRow h e g w v a y i) := by
  rw [val_main_v89_apply, val_main_cst_19_apply (F := Ideal)]
  show Ideal.ofBits .f32 0x00000000#32 + _ = _
  rw [zero_bits, zero_add, Fin.sum_univ_one, show idx_main_v89 (ix1 i) 0 = ix2 i 0 from Shape.idx_ext₂ (y := ix2 i 0) rfl rfl,
    val_main_v88_apply (F := Ideal), val_main_v87_apply (F := Ideal), val_main_cst_18_apply (F := Ideal), val_main_v86_apply (F := Ideal), ref_cube_front, val_main_v82_apply (F := Ideal),
    show idx_main_v82 (ix2 i 0) = ix1 i from funext fun a => Fin.ext (match a with | ⟨0, _⟩ => show i.val * 1 + 0 = i.val by omega), val_main_v81_apply, val_main_cst_17_apply (F := Ideal)]
  show Ideal.div ((Ideal.ofBits .f32 0x00000000#32 + _) * _) (Ideal.ofBits .f32 0x44800000#32) = _
  rw [zero_bits, zero_add]
  unfold through
  refine congrArg (fun z : EReal => Ideal.div (z * _) _) (Finset.sum_congr rfl fun k _ => ?_)
  rw [show idx_main_v81 (ix1 i) k = ix2 i k from Shape.idx_ext₂ (y := ix2 i k) rfl rfl, val_main_v80_apply (F := Ideal), ref_front]
  rfl

/-- The gradient of the stream. -/
theorem ref_dx (i : Fin 8192) (j : Fin 1024) : (val_main_v94 (F := Ideal) h e g w v a y (ix2 i j) : EReal)
    = rowOf y i j + pull (rowOf h i) (frontRow h e g w v a y i) j := by
  rw [pull_eq, val_main_v94_apply (F := Ideal), val_main_v93_apply (F := Ideal), val_main_v92_apply (F := Ideal), val_main_v91_apply (F := Ideal), val_main_v90_apply (F := Ideal), val_main_v85_apply (F := Ideal), val_main_v84_apply (F := Ideal), val_main_v83_apply (F := Ideal), show idx_main_v90 (ix2 i j) = ix1 i from funext fun a => Fin.ext (match a with | ⟨0, _⟩ => rfl), show idx_main_v83 (ix2 i j) = ix2 i 0 from Shape.idx_ext₂ (y := ix2 i 0) rfl rfl,
    ref_through_front, ref_front, ref_size_front, ← add_assoc, ← add_assoc]
  rfl

/-- The gradient of a gain in front. -/
theorem ref_dg (j : Fin 1024) : (val_main_v95 (F := Ideal) h e g w v a y (ix2 0 j) : EReal)
    = ∑ i : Fin 8192, dnRow h e g w v a y i j * (rowOf h i j * size (rowOf h i)) := by
  rw [val_main_v95_apply (F := Ideal), show idx_main_v95 (ix2 0 j) = ix1 j from funext fun a => Fin.ext (match a with | ⟨0, _⟩ => rfl), val_main_v79_apply, val_main_cst_16_apply (F := Ideal)]
  show Ideal.ofBits .f32 0x00000000#32 + _ = _
  rw [zero_bits, zero_add, Fin.sum_univ_one, show idx_main_v79 (ix1 j) 0 = ix2 0 j from Shape.idx_ext₂ (y := ix2 0 j) rfl rfl, val_main_v76_apply (F := Ideal),
    show idx_main_v76 (ix2 0 j) = ix1 j from funext fun a => Fin.ext (match a with | ⟨0, _⟩ => show 0 * 1024 + j.val = j.val by omega), val_main_v75_apply, val_main_cst_15_apply (F := Ideal)]
  show Ideal.ofBits .f32 0x00000000#32 + _ = _
  rw [zero_bits, zero_add]
  refine Finset.sum_congr rfl fun i _ => ?_
  rw [show idx_main_v75 (ix1 j) i = ix2 i j from Shape.idx_ext₂ (y := ix2 i j) rfl rfl, val_main_v74_apply (F := Ideal), ref_unit_front, ref_dNormed]
  exact mul_comm _ _

/-- The gradient of a gain behind. -/
theorem ref_dp (j : Fin 1024) : (val_main_v96 (F := Ideal) h e g w v y (ix2 0 j) : EReal)
    = ∑ i : Fin 8192, rowOf y i j * (gatedRow h e g w v i j * size (gatedRow h e g w v i)) := by
  rw [val_main_v96_apply (F := Ideal), show idx_main_v96 (ix2 0 j) = ix1 j from funext fun a => Fin.ext (match a with | ⟨0, _⟩ => rfl), val_main_v51_apply, val_main_cst_11_apply (F := Ideal)]
  show Ideal.ofBits .f32 0x00000000#32 + _ = _
  rw [zero_bits, zero_add, Fin.sum_univ_one, show idx_main_v51 (ix1 j) 0 = ix2 0 j from Shape.idx_ext₂ (y := ix2 0 j) rfl rfl, val_main_v48_apply (F := Ideal),
    show idx_main_v48 (ix2 0 j) = ix1 j from funext fun a => Fin.ext (match a with | ⟨0, _⟩ => show 0 * 1024 + j.val = j.val by omega), val_main_v47_apply, val_main_cst_10_apply (F := Ideal)]
  show Ideal.ofBits .f32 0x00000000#32 + _ = _
  rw [zero_bits, zero_add]
  refine Finset.sum_congr rfl fun i _ => ?_
  rw [show idx_main_v47 (ix1 j) i = ix2 i j from Shape.idx_ext₂ (y := ix2 i j) rfl rfl, val_main_v46_apply (F := Ideal), ref_unit, ref_cast]
  exact mul_comm _ _

end Cert.Ple.BwdRef

end
-- ==== Proof.Ple.Bwd.lean ====
module

public import proofs.«01_k».proof.Proof.Ple.BwdGrid
public import proofs.«01_k».proof.Proof.Ple.BwdReference

@[expose] public section

set_option maxRecDepth 16384

noncomputable section

/-! # The backward pass of the per-layer embedding: kernel and reference agree -/

namespace Cert.Ple.Bwd

open Idealize.ShloMosaic Idealize.ShloMosaic.TcCoe Idealize.ShloMosaic.StableHlo Idealize.ShloMosaic.Tactic Idealize.ShloMosaic.ValueIdx Idealize.SL.Sem
open Cert.Mlp Cert.Ple
open Cert.PleBwdIdeal Cert.PleBwdIdeal.Gen Cert.PleBwdIdeal.Value

variable (m : (ℓ : Loc nD τ sig) → Buf (Elt Ideal) ℓ) (c : Dev nD)

/-- The stream's gradient is the argument's. -/
theorem dh_read : dhA m c = m ((c : Thread nD τ).loc main_arg6) := V_main_arg6 m c
/-- The stream is the argument's. -/
theorem h_read : hA m c = m ((c : Thread nD τ).loc main_arg0) := V_main_arg0 m c
/-- The embeddings are the argument's. -/
theorem e_read : eA m c = m ((c : Thread nD τ).loc main_arg1) := V_main_arg1 m c

/-- The gate is the reference's. -/
theorem q_read : qA m c = Cert.PleBwdReferenceIdeal.Read.val_main_v16 (F := Ideal) (m ((c : Thread nD τ).loc main_arg0)) (m ((c : Thread nD τ).loc main_arg2)) (m ((c : Thread nD τ).loc main_arg3)) := by
  unfold qA
  show StableHlo.after (List.flatten [hostOps0]) (fun b => m (c, b)) (Proc.devRef .tc main_v13) = _
  simp only [hostOps0, List.flatten_cons, List.flatten_nil, List.append_nil, cast_eq]
  after_results_simp
  rfl

/-- The projection is the reference's. -/
theorem p_read : pA m c = Cert.PleBwdReferenceIdeal.Read.val_main_v26 (F := Ideal) (m ((c : Thread nD τ).loc main_arg1)) (m ((c : Thread nD τ).loc main_arg4)) := by
  unfold pA
  show StableHlo.after (List.flatten [hostOps0]) (fun b => m (c, b)) (Proc.devRef .tc main_v14) = _
  simp only [hostOps0, List.flatten_cons, List.flatten_nil, List.append_nil, cast_eq]
  after_results_simp
  rfl

/-- The gate's weight is the argument's. -/
theorem w_read : wA m c = m ((c : Thread nD τ).loc main_arg3) := by
  unfold wA
  show StableHlo.after (List.flatten [hostOps0]) (fun b => m (c, b)) (Proc.devRef .tc main_v16) = _
  simp only [hostOps0, List.flatten_cons, List.flatten_nil, List.append_nil, cast_eq]
  after_results_simp
  rfl

/-- The gains in front are the argument's. -/
theorem g_read : gRow m c = BwdRef.vecOf (m ((c : Thread nD τ).loc main_arg2)) := funext fun j => by
  have e : gA m c = Cert.PleBwdReferenceIdeal.Read.val_main_v13 (F := Ideal) (m ((c : Thread nD τ).loc main_arg2)) := by
    unfold gA
    show StableHlo.after (List.flatten [hostOps0]) (fun b => m (c, b)) (Proc.devRef .tc main_v15) = _
    simp only [hostOps0, List.flatten_cons, List.flatten_nil, List.append_nil, cast_eq]
    after_results_simp
    rfl
  unfold gRow
  rw [e]
  unfold rowOf
  rw [Cert.PleBwdReferenceIdeal.Read.val_main_v13_apply (F := Ideal)]
  exact congrArg _ (funext fun a => Fin.ext (match a with | ⟨0, _⟩ => rfl))

/-- The gains behind are the argument's. -/
theorem a_read : aRow m c = BwdRef.vecOf (m ((c : Thread nD τ).loc main_arg5)) := funext fun j => by
  have e : aA m c = Cert.PleBwdReferenceIdeal.Read.val_main_v41 (F := Ideal) (m ((c : Thread nD τ).loc main_arg5)) := by
    unfold aA
    show StableHlo.after (List.flatten [hostOps0]) (fun b => m (c, b)) (Proc.devRef .tc main_v17) = _
    simp only [hostOps0, List.flatten_cons, List.flatten_nil, List.append_nil, cast_eq]
    after_results_simp
    rfl
  unfold aRow
  rw [e]
  unfold rowOf
  rw [Cert.PleBwdReferenceIdeal.Read.val_main_v41_apply (F := Ideal)]
  exact congrArg _ (funext fun a => Fin.ext (match a with | ⟨0, _⟩ => rfl))

/-- The rows of the stream's gradient. -/
theorem y_same (i : Fin 8192) : yRow m c i = rowOf (m ((c : Thread nD τ).loc main_arg6)) i := funext fun j => congrFun (dh_read m c) (ix2 i j)
/-- The rows of the stream. -/
theorem h_same (i : Fin 8192) : hRow m c i = rowOf (m ((c : Thread nD τ).loc main_arg0)) i := funext fun j => congrFun (h_read m c) (ix2 i j)
/-- The rows of the gate. -/
theorem q_same (i : Fin 8192) : qRow m c i = BwdRef.gateRow (m ((c : Thread nD τ).loc main_arg0)) (m ((c : Thread nD τ).loc main_arg2)) (m ((c : Thread nD τ).loc main_arg3)) i := funext fun j => congrFun (q_read m c) (ix2 i j)
/-- The rows of the projection. -/
theorem p_same (i : Fin 8192) : pRow m c i = BwdRef.projRow (m ((c : Thread nD τ).loc main_arg1)) (m ((c : Thread nD τ).loc main_arg4)) i := funext fun j => congrFun (p_read m c) (ix2 i j)
/-- The rows of the gate's weight. -/
theorem w_same : rowOf (wA m c) = rowOf (m ((c : Thread nD τ).loc main_arg3)) := funext fun k => funext fun j => congrFun (w_read m c) (ix2 k j)
/-- The gradients of the normalised rows. -/
theorem dn_same (i : Fin 8192) : dnRow m c i = BwdRef.dnRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  unfold dnRow BwdRef.dnRow
  rw [y_same, q_same, p_same, a_read, w_same]

/-- The stream's gradient is the reference's. -/
theorem same8 : dxA m c = Cert.PleBwdReferenceIdeal.Read.val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_mat (e := .f32) _ _ fun i j => by
    refine Eq.trans ?_ (BwdRef.ref_dx _ _ _ _ _ _ _ i j).symm
    show yRow m c i j + pull (hRow m c i) (fun l => dnRow m c i l * gRow m c l) j = _
    rw [y_same, h_same, dn_same, g_read]
    rfl

/-- The gradient of the gate's weight is the reference's. -/
theorem same9 : wgA m c = Cert.PleBwdReferenceIdeal.Read.val_main_v72 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_mat (e := .f32) _ _ fun k j => by
    refine Eq.trans ?_ (BwdRef.ref_wgate _ _ _ _ _ _ _ k j).symm
    show ∑ i : Fin 8192, normed (hRow m c i) (gRow m c) k * dGate (yRow m c i) (pRow m c i) (qRow m c i) (aRow m c) j = _
    refine Finset.sum_congr rfl fun i _ => ?_
    rw [y_same, h_same, q_same, p_same, a_read, g_read]

/-- The gradient of the projection's weight is the reference's. -/
theorem same10 : wpA m c = Cert.PleBwdReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_mat (e := .f32) _ _ fun k j => by
    refine Eq.trans ?_ (BwdRef.ref_wproj _ _ _ _ _ _ _ k j).symm
    show ∑ i : Fin 8192, (eA m c (ix2 i k) : EReal) * dProj (yRow m c i) (pRow m c i) (qRow m c i) (aRow m c) j = _
    refine Finset.sum_congr rfl fun i _ => ?_
    rw [y_same, q_same, p_same, a_read, e_read]

/-- The gradient of the gains in front is the reference's. -/
theorem same11 : dgA m c = Cert.PleBwdReferenceIdeal.Read.val_main_v95 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  ext_mat (e := .f32) _ _ fun r j => by
    obtain rfl := one_row r
    refine Eq.trans ?_ (BwdRef.ref_dg _ _ _ _ _ _ _ j).symm
    show ∑ i : Fin 8192, dnRow m c i j * (hRow m c i j * size (hRow m c i)) = _
    refine Finset.sum_congr rfl fun i _ => ?_
    rw [h_same, dn_same]

/-- The gradient of the gains behind is the reference's. -/
theorem same12 : dpA m c = Cert.PleBwdReferenceIdeal.Read.val_main_v96 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) :=
  ext_mat (e := .f32) _ _ fun r j => by
    obtain rfl := one_row r
    refine Eq.trans ?_ (BwdRef.ref_dp _ _ _ _ _ _ j).symm
    show ∑ i : Fin 8192, yRow m c i j * (gated (pRow m c i) (qRow m c i) j * size (gated (pRow m c i) (qRow m c i))) = _
    refine Finset.sum_congr rfl fun i _ => ?_
    rw [y_same, q_same, p_same]
    rfl

end Cert.Ple.Bwd

end
-- ==== Proof.Ple.Fwd.lean ====
module

public import proofs.«01_k».proof.Proof.Ple.Gate
public import proofs.«01_k».proof.Proof.Gen.PleFwd
public import proofs.«01_k».proof.Proof.Gen.PleFwdIdeal.Value
public import proofs.«01_k».proof.Proof.Gen.PleFwdReferenceIdeal.Run
public import proofs.«01_k».proof.Proof.Gen.PleFwdReferenceIdeal.Read

@[expose] public section

set_option maxRecDepth 16384

noncomputable section

/-! # The forward pass of the per-layer embedding

One tile of 512 rows at a time the kernel normalises the stream and multiplies it by the gate's weight, multiplies the
embeddings by theirs, multiplies the second product by the logistic of the first, normalises and adds to the stream.
-/

namespace Cert.Ple.Fwd

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.Mlp Cert.Ple
open Cert.PleFwdIdeal Cert.PleFwdIdeal.Gen Cert.PleFwdIdeal.Value

/-- A row times a matrix. -/
def times {n : ℕ} (x : Fin n → EReal) (w : (⟨2, ![n, 1024]⟩ : Shape).Idx → EReal) (j : Fin 1024) : EReal := ∑ k : Fin n, x k * w (ix2 k j)
/-- One row of the embeddings. -/
def embRow {R : ℕ} (x : (⟨2, ![R, 256]⟩ : Shape).Idx → EReal) (r : Fin R) (k : Fin 256) : EReal := x (ix2 r k)

section tile

variable (h : FVec Ideal S512x1024 .f32) (e : FVec Ideal S512x256 .f32) (g : FVec Ideal S1x1024 .f32) (w : FVec Ideal S1024x1024 .bf16) (v : FVec Ideal S256x1024 .bf16) (a : FVec Ideal S1x1024 .f32)

/-- One row of a tile of the gate. -/
def gateOf (r : Fin 512) : Fin 1024 → EReal := times (normed (rowOf h r) (rowOf g 0)) w
/-- One row of a tile of the projection. -/
def projOf (r : Fin 512) : Fin 1024 → EReal := times (embRow e r) v
/-- One row of a tile of the stream. -/
def nextOf (r : Fin 512) (j : Fin 1024) : EReal := rowOf h r j + normed (gated (projOf e v r) (gateOf h g w r)) (rowOf a 0) j

/-- One tile of the gate. -/
theorem gate_tile (r : Fin 512) (j : Fin 1024) : (k0_pay2 (F := Ideal) h g w (ix2 r j) : EReal) = gateOf h g w r j := by
  unfold k0_pay2 gateOf times
  simp only [shapeCast_self]
  refine (product_at dot_S512x1024_S1024x1024_S512x1024_1_0_0_1_n_n 1024 rfl rfl _ _ (ix2 r j) (fun q => ix2 r q) (fun q => ix2 q j) (fun q => ?_) (fun q => ?_)).trans
    (Finset.sum_congr rfl fun k _ => ?_)
  · exact funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans (contrEquiv1_symm_val _ 1024 rfl rfl q))
  · exact funext fun z => Fin.ext (match z with
      | ⟨0, _⟩ => (DotDims.rhsIdx_val_of_single _ rfl _ _).trans (contrEquiv1_symm_val _ 1024 rfl rfl q)
      | ⟨1, _⟩ => by unfold DotDims.rhsIdx; rw [dif_neg (by decide +revert), dif_pos (by decide +revert)]; rfl)
  · rw [truncf_apply]
    exact congrArg (fun z : EReal => z * w (ix2 k j)) (normed_at h g _ _ _ _ _ _ (by decide) r k)

/-- One tile of the projection. -/
theorem proj_tile (r : Fin 512) (j : Fin 1024) : (k0_pay3 (F := Ideal) e v (ix2 r j) : EReal) = projOf e v r j := by
  unfold k0_pay3 projOf times
  simp only [shapeCast_self]
  refine (product_at dot_S512x256_S256x1024_S512x1024_1_0_0_1_n_n 256 rfl rfl _ _ (ix2 r j) (fun q => ix2 r q) (fun q => ix2 q j) (fun q => ?_) (fun q => ?_)).trans
    (Finset.sum_congr rfl fun k _ => ?_)
  · exact funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans (contrEquiv1_symm_val _ 256 rfl rfl q))
  · exact funext fun z => Fin.ext (match z with
      | ⟨0, _⟩ => (DotDims.rhsIdx_val_of_single _ rfl _ _).trans (contrEquiv1_symm_val _ 256 rfl rfl q)
      | ⟨1, _⟩ => by unfold DotDims.rhsIdx; rw [dif_neg (by decide +revert), dif_pos (by decide +revert)]; rfl)
  · rw [truncf_apply]
    rfl

/-- One tile of the gated rows. -/
theorem both_tile (r : Fin 512) (j : Fin 1024) : (mulf (k0_pay3 (F := Ideal) e v) (logistic (k0_pay2 (F := Ideal) h g w)) (ix2 r j) : EReal) = gated (projOf e v r) (gateOf h g w r) j := by
  rw [mulf_apply, proj_tile]
  exact congrArg (fun z : EReal => projOf e v r j * Ideal.logistic z) (gate_tile h g w r j)

/-- One tile of the gated rows over their sizes. -/
theorem unit_tile (r : Fin 512) (j : Fin 1024) : (k0_pay4 (F := Ideal) h e g w v (ix2 r j) : EReal)
    = gated (projOf e v r) (gateOf h g w r) j * size (gated (projOf e v r) (gateOf h g w r)) := by
  unfold k0_pay4
  rw [mulf_apply, spread_col _ _ (by decide), both_tile]
  refine congrArg (fun z : EReal => gated (projOf e v r) (gateOf h g w r) j * z) ?_
  refine (size_at (mulf (k0_pay3 (F := Ideal) e v) (logistic (k0_pay2 (F := Ideal) h g w))) _ _ _ _ r).trans ?_
  simp only [both_tile]

/-- One tile of the stream. -/
theorem next_tile (r : Fin 512) (j : Fin 1024) : (k0_pay1 (F := Ideal) h (k0_pay4 h e g w v) (k0_pay5 a) (ix2 r j) : EReal) = nextOf h e g w v a r j := by
  unfold k0_pay1 k0_pay5
  simp only [shapeCast_self]
  rw [addf_apply, mulf_apply, spread_row _ _ (by decide), unit_tile]
  rfl

end tile

section body

variable (h : Vec Ideal S512x1024 .f32) (e : Vec Ideal S512x256 .f32) (g : Vec Ideal S1x1024 .f32) (w : Vec Ideal S1024x1024 .bf16) (v : Vec Ideal S256x1024 .bf16) (a : Vec Ideal S1x1024 .f32)

/-- What the body leaves of the gate. -/
theorem out_gate : out0_6 (F := Ideal) h e g w v a = k0_pay2 h g w := by
  unfold out0_6
  rw [View.canon_unit_zero zero2]
  simp only [View.ld_unit_zero (S := S512x1024) zero2, View.ld_unit_zero (S := S1x1024) zero2, View.ld_unit_zero (S := S1024x1024) zero2]

/-- What the body leaves of the projection. -/
theorem out_proj : out0_7 (F := Ideal) h e g w v a = k0_pay3 e v := by
  unfold out0_7
  rw [View.canon_unit_zero zero2]
  simp only [View.ld_unit_zero (S := S512x256) zero2, View.ld_unit_zero (S := S256x1024) zero2]

/-- What the body leaves of the stream. -/
theorem out_next : out0_8 (F := Ideal) h e g w v a = k0_pay1 h (k0_pay4 h e g w v) (k0_pay5 a) := by
  unfold out0_8
  rw [View.canon_unit_zero zero2]
  simp only [View.ld_unit_zero (S := S512x1024) zero2, View.ld_unit_zero (S := S512x256) zero2, View.ld_unit_zero (S := S1x1024) zero2, View.ld_unit_zero (S := S1024x1024) zero2, View.ld_unit_zero (S := S256x1024) zero2]

end body

/-- Where the tiles of the stream lie. -/
theorem index0 : ∀ t : Fin cfg0.N, win0_0.index t 0 = t.val ∧ win0_0.index t 1 = 0 := by decide +kernel
/-- Where the tiles of the embeddings lie. -/
theorem index1 : ∀ t : Fin cfg0.N, win0_1.index t 0 = t.val ∧ win0_1.index t 1 = 0 := by decide +kernel
/-- Where the front gains lie. -/
theorem index2 : ∀ t : Fin cfg0.N, win0_2.index t 0 = 0 ∧ win0_2.index t 1 = 0 := by decide +kernel
/-- Where the gate's weight lies. -/
theorem index3 : ∀ t : Fin cfg0.N, win0_3.index t 0 = 0 ∧ win0_3.index t 1 = 0 := by decide +kernel
/-- Where the projection's weight lies. -/
theorem index4 : ∀ t : Fin cfg0.N, win0_4.index t 0 = 0 ∧ win0_4.index t 1 = 0 := by decide +kernel
/-- Where the gains behind lie. -/
theorem index5 : ∀ t : Fin cfg0.N, win0_5.index t 0 = 0 ∧ win0_5.index t 1 = 0 := by decide +kernel
/-- Where the tiles of the gate lie. -/
theorem index6 : ∀ t : Fin cfg0.N, win0_6.index t 0 = t.val ∧ win0_6.index t 1 = 0 := by decide +kernel
/-- Where the tiles of the projection lie. -/
theorem index7 : ∀ t : Fin cfg0.N, win0_7.index t 0 = t.val ∧ win0_7.index t 1 = 0 := by decide +kernel
/-- Where the tiles of the new stream lie. -/
theorem index8 : ∀ t : Fin cfg0.N, win0_8.index t 0 = t.val ∧ win0_8.index t 1 = 0 := by decide +kernel

/-- A grid point is one of sixteen. -/
theorem point_lt (t : Fin cfg0.N) : t.val < 16 := Nat.lt_of_lt_of_eq t.isLt N_0

/-- The row of the arrays in row `r` of a point's tiles. -/
def row (t : Fin cfg0.N) (r : Fin 512) : Fin 8192 := ⟨512 * t.val + r.val, by have := r.isLt; have := point_lt t; omega⟩

variable (m : (ℓ : Loc nD τ sig) → Buf (Elt Ideal) ℓ) (c : Dev nD)

/-- The stream as the region finds it. -/
def hA : Vec Ideal S8192x1024 .f32 := V m c main_arg0
/-- A tile of the stream. -/
def h0 (t : Fin cfg0.N) : Vec Ideal S512x1024 .f32 := iblk m c 0 t
/-- The embeddings as the region finds them. -/
def eA : Vec Ideal S8192x256 .f32 := V m c main_arg1
/-- A tile of the embeddings. -/
def e0 (t : Fin cfg0.N) : Vec Ideal S512x256 .f32 := iblk m c 1 t
/-- The gains in front as the region finds them. -/
def gA : Vec Ideal S1x1024 .f32 := V m c main_v0
/-- Their block. -/
def g0 (t : Fin cfg0.N) : Vec Ideal S1x1024 .f32 := iblk m c 2 t
/-- The gate's weight as the region finds it. -/
def wA : Vec Ideal S1024x1024 .bf16 := V m c main_v1
/-- Its block. -/
def w0 (t : Fin cfg0.N) : Vec Ideal S1024x1024 .bf16 := iblk m c 3 t
/-- The projection's weight as the region finds it. -/
def vA : Vec Ideal S256x1024 .bf16 := V m c main_v2
/-- Its block. -/
def v0 (t : Fin cfg0.N) : Vec Ideal S256x1024 .bf16 := iblk m c 4 t
/-- The gains behind as the region finds them. -/
def aA : Vec Ideal S1x1024 .f32 := V m c main_v3
/-- Their block. -/
def a0 (t : Fin cfg0.N) : Vec Ideal S1x1024 .f32 := iblk m c 5 t

/-- What a tile of the stream holds. -/
theorem block0 (t : Fin cfg0.N) (r : Fin 512) (j : Fin 1024) : h0 m c t (ix2 r j) = hA m c (ix2 (row t r) j) :=
  congrArg (hA m c) (show (win0_0.rect t).emb (ix2 r j) = ix2 (row t r) j from funext fun a => Fin.ext (match a with
    | ⟨0, _⟩ => (Window.rect_emb_val win0_0 t (ix2 r j) 0).trans (by rw [(index0 t).1]; show t.val * 512 + r.val = 512 * t.val + r.val; omega)
    | ⟨1, _⟩ => (Window.rect_emb_val win0_0 t (ix2 r j) 1).trans (by rw [(index0 t).2]; show 0 * 1024 + j.val = j.val; omega)))

/-- What a tile of the embeddings holds. -/
theorem block1 (t : Fin cfg0.N) (r : Fin 512) (j : Fin 256) : e0 m c t (ix2 r j) = eA m c (ix2 (row t r) j) :=
  congrArg (eA m c) (show (win0_1.rect t).emb (ix2 r j) = ix2 (row t r) j from funext fun a => Fin.ext (match a with
    | ⟨0, _⟩ => (Window.rect_emb_val win0_1 t (ix2 r j) 0).trans (by rw [(index1 t).1]; show t.val * 512 + r.val = 512 * t.val + r.val; omega)
    | ⟨1, _⟩ => (Window.rect_emb_val win0_1 t (ix2 r j) 1).trans (by rw [(index1 t).2]; show 0 * 256 + j.val = j.val; omega)))

/-- What the front gains' block holds. -/
theorem block2 (t : Fin cfg0.N) (j : Fin 1024) : g0 m c t (ix2 0 j) = gA m c (ix2 0 j) :=
  congrArg (gA m c) (show (win0_2.rect t).emb (ix2 0 j) = ix2 0 j from funext fun a => Fin.ext (match a with
    | ⟨0, _⟩ => (Window.rect_emb_val win0_2 t (ix2 0 j) 0).trans (by rw [(index2 t).1]; rfl)
    | ⟨1, _⟩ => (Window.rect_emb_val win0_2 t (ix2 0 j) 1).trans (by rw [(index2 t).2]; show 0 * 1024 + j.val = j.val; omega)))

/-- What the gate's weight's block holds. -/
theorem block3 (t : Fin cfg0.N) (k : Fin 1024) (j : Fin 1024) : w0 m c t (ix2 k j) = wA m c (ix2 k j) :=
  congrArg (wA m c) (show (win0_3.rect t).emb (ix2 k j) = ix2 k j from funext fun a => Fin.ext (match a with
    | ⟨0, _⟩ => (Window.rect_emb_val win0_3 t (ix2 k j) 0).trans (by rw [(index3 t).1]; show 0 * 1024 + k.val = k.val; omega)
    | ⟨1, _⟩ => (Window.rect_emb_val win0_3 t (ix2 k j) 1).trans (by rw [(index3 t).2]; show 0 * 1024 + j.val = j.val; omega)))

/-- What the projection's weight's block holds. -/
theorem block4 (t : Fin cfg0.N) (k : Fin 256) (j : Fin 1024) : v0 m c t (ix2 k j) = vA m c (ix2 k j) :=
  congrArg (vA m c) (show (win0_4.rect t).emb (ix2 k j) = ix2 k j from funext fun a => Fin.ext (match a with
    | ⟨0, _⟩ => (Window.rect_emb_val win0_4 t (ix2 k j) 0).trans (by rw [(index4 t).1]; show 0 * 256 + k.val = k.val; omega)
    | ⟨1, _⟩ => (Window.rect_emb_val win0_4 t (ix2 k j) 1).trans (by rw [(index4 t).2]; show 0 * 1024 + j.val = j.val; omega)))

/-- What the block of the gains behind holds. -/
theorem block5 (t : Fin cfg0.N) (j : Fin 1024) : a0 m c t (ix2 0 j) = aA m c (ix2 0 j) :=
  congrArg (aA m c) (show (win0_5.rect t).emb (ix2 0 j) = ix2 0 j from funext fun a => Fin.ext (match a with
    | ⟨0, _⟩ => (Window.rect_emb_val win0_5 t (ix2 0 j) 0).trans (by rw [(index5 t).1]; rfl)
    | ⟨1, _⟩ => (Window.rect_emb_val win0_5 t (ix2 0 j) 1).trans (by rw [(index5 t).2]; show 0 * 1024 + j.val = j.val; omega)))

/-- Where a point writes its tile of the gate. -/
theorem emb6 (t : Fin cfg0.N) (r : Fin 512) (j : Fin 1024) : (win0_6.rect t).emb (ix2 r j) = ix2 (row t r) j := funext fun a => Fin.ext (match a with
    | ⟨0, _⟩ => (Window.rect_emb_val win0_6 t (ix2 r j) 0).trans (by rw [(index6 t).1]; show t.val * 512 + r.val = 512 * t.val + r.val; omega)
    | ⟨1, _⟩ => (Window.rect_emb_val win0_6 t (ix2 r j) 1).trans (by rw [(index6 t).2]; show 0 * 1024 + j.val = j.val; omega))

/-- Where a point writes its tile of the projection. -/
theorem emb7 (t : Fin cfg0.N) (r : Fin 512) (j : Fin 1024) : (win0_7.rect t).emb (ix2 r j) = ix2 (row t r) j := funext fun a => Fin.ext (match a with
    | ⟨0, _⟩ => (Window.rect_emb_val win0_7 t (ix2 r j) 0).trans (by rw [(index7 t).1]; show t.val * 512 + r.val = 512 * t.val + r.val; omega)
    | ⟨1, _⟩ => (Window.rect_emb_val win0_7 t (ix2 r j) 1).trans (by rw [(index7 t).2]; show 0 * 1024 + j.val = j.val; omega))

/-- Where a point writes its tile of the stream. -/
theorem emb8 (t : Fin cfg0.N) (r : Fin 512) (j : Fin 1024) : (win0_8.rect t).emb (ix2 r j) = ix2 (row t r) j := funext fun a => Fin.ext (match a with
    | ⟨0, _⟩ => (Window.rect_emb_val win0_8 t (ix2 r j) 0).trans (by rw [(index8 t).1]; show t.val * 512 + r.val = 512 * t.val + r.val; omega)
    | ⟨1, _⟩ => (Window.rect_emb_val win0_8 t (ix2 r j) 1).trans (by rw [(index8 t).2]; show 0 * 1024 + j.val = j.val; omega))

/-- One row of the gate. -/
def gateRow (i : Fin 8192) : Fin 1024 → EReal := times (normed (rowOf (hA m c) i) (rowOf (gA m c) 0)) (wA m c)
/-- One row of the projection. -/
def projRow (i : Fin 8192) : Fin 1024 → EReal := times (embRow (eA m c) i) (vA m c)
/-- One row of the stream behind the embedding. -/
def nextRow (i : Fin 8192) (j : Fin 1024) : EReal := rowOf (hA m c) i j + normed (gated (projRow m c i) (gateRow m c i)) (rowOf (aA m c) 0) j

/-- The gate. -/
def gateA : Vec Ideal S8192x1024 .f32 := fun z => gateRow m c (z 0) (z 1)
/-- The projection. -/
def projA : Vec Ideal S8192x1024 .f32 := fun z => projRow m c (z 0) (z 1)
/-- The stream behind the embedding. -/
def nextA : Vec Ideal S8192x1024 .f32 := fun z => nextRow m c (z 0) (z 1)

/-- A tile's row of the stream is the stream's row. -/
theorem h_row (t : Fin cfg0.N) (r : Fin 512) : rowOf (h0 m c t) r = rowOf (hA m c) (row t r) := funext fun j => block0 m c t r j
/-- A tile's row of the embeddings is the embeddings' row. -/
theorem e_row (t : Fin cfg0.N) (r : Fin 512) : embRow (e0 m c t) r = embRow (eA m c) (row t r) := funext fun j => block1 m c t r j
/-- Each point reads the same gains in front. -/
theorem g_row (t : Fin cfg0.N) : rowOf (g0 m c t) 0 = rowOf (gA m c) 0 := funext fun j => block2 m c t j
/-- Each point reads the same gains behind. -/
theorem a_row (t : Fin cfg0.N) : rowOf (a0 m c t) 0 = rowOf (aA m c) 0 := funext fun j => block5 m c t j
/-- Each point reads the whole weight of the gate. -/
theorem w_whole (t : Fin cfg0.N) : w0 m c t = wA m c := ext_mat (e := .bf16) _ _ fun k j => block3 m c t k j
/-- Each point reads the whole weight of the projection. -/
theorem v_whole (t : Fin cfg0.N) : v0 m c t = vA m c := ext_mat (e := .bf16) _ _ fun k j => block4 m c t k j

/-- A tile's row of the gate is the gate's row. -/
theorem gate_row (t : Fin cfg0.N) (r : Fin 512) : gateOf (h0 m c t) (g0 m c t) (w0 m c t) r = gateRow m c (row t r) := by
  unfold gateOf gateRow
  rw [h_row, g_row, w_whole]
/-- A tile's row of the projection is the projection's row. -/
theorem proj_row (t : Fin cfg0.N) (r : Fin 512) : projOf (e0 m c t) (v0 m c t) r = projRow m c (row t r) := by
  unfold projOf projRow
  rw [e_row, v_whole]
/-- A tile's row of the new stream is the new stream's row. -/
theorem next_row (t : Fin cfg0.N) (r : Fin 512) : nextOf (h0 m c t) (e0 m c t) (g0 m c t) (w0 m c t) (v0 m c t) (a0 m c t) r = nextRow m c (row t r) := by
  unfold nextOf nextRow
  rw [gate_row, proj_row, h_row, a_row]

/-- The point whose tile holds a row. -/
def pointOf (i : Fin 8192) : Fin cfg0.N := ⟨i.val / 512, by have := i.isLt; rw [show cfg0.N = 16 from N_0]; exact (by omega : i.val / 512 < 16)⟩
/-- The row inside that tile. -/
def inTile (i : Fin 8192) : Fin 512 := ⟨i.val % 512, Nat.mod_lt _ (by decide)⟩
/-- Together they give the row back. -/
theorem row_pointOf (i : Fin 8192) : row (pointOf i) (inTile i) = i := Fin.ext (show 512 * (i.val / 512) + i.val % 512 = i.val by omega)

/-- The array of the gate after the grid. -/
theorem final6 : (dats m 0 c).arrAt 6 cfg0.N = gateA m c := by
  refine Dat.arrAt_eq_of_cover (dats m 0 c) 6 (gateA m c) (fun t _ => ?_) (fun y => ?_)
  · rw [flushed6]
    refine ext_mat (e := .f32) _ _ fun r j => ?_
    refine (congrFun (out_gate (h0 m c t) (e0 m c t) (g0 m c t) (w0 m c t) (v0 m c t) (a0 m c t)) (ix2 r j)).trans ?_
    refine (gate_tile (h0 m c t) (g0 m c t) (w0 m c t) r j).trans ?_
    rw [gate_row]
    exact (congrArg (gateA m c) (emb6 t r j)).symm
  · rw [eq_ix2 y]
    generalize y 0 = i
    generalize y 1 = j
    refine ⟨pointOf i, flush0_6 (pointOf i), ?_⟩
    have hm := ((cfg0.win 6).blk (pointOf i)).view.emb_mem_set (ix2 (inTile i) j)
    rwa [show ((cfg0.win 6).blk (pointOf i)).view.emb (ix2 (inTile i) j) = ix2 i j from (emb6 (pointOf i) (inTile i) j).trans (congrArg (ix2 · j) (row_pointOf i))] at hm

/-- The array of the projection after the grid. -/
theorem final7 : (dats m 0 c).arrAt 7 cfg0.N = projA m c := by
  refine Dat.arrAt_eq_of_cover (dats m 0 c) 7 (projA m c) (fun t _ => ?_) (fun y => ?_)
  · rw [flushed7]
    refine ext_mat (e := .f32) _ _ fun r j => ?_
    refine (congrFun (out_proj (h0 m c t) (e0 m c t) (g0 m c t) (w0 m c t) (v0 m c t) (a0 m c t)) (ix2 r j)).trans ?_
    refine (proj_tile (e0 m c t) (v0 m c t) r j).trans ?_
    rw [proj_row]
    exact (congrArg (projA m c) (emb7 t r j)).symm
  · rw [eq_ix2 y]
    generalize y 0 = i
    generalize y 1 = j
    refine ⟨pointOf i, flush0_7 (pointOf i), ?_⟩
    have hm := ((cfg0.win 7).blk (pointOf i)).view.emb_mem_set (ix2 (inTile i) j)
    rwa [show ((cfg0.win 7).blk (pointOf i)).view.emb (ix2 (inTile i) j) = ix2 i j from (emb7 (pointOf i) (inTile i) j).trans (congrArg (ix2 · j) (row_pointOf i))] at hm

/-- The array of the new stream after the grid. -/
theorem final8 : (dats m 0 c).arrAt 8 cfg0.N = nextA m c := by
  refine Dat.arrAt_eq_of_cover (dats m 0 c) 8 (nextA m c) (fun t _ => ?_) (fun y => ?_)
  · rw [flushed8]
    refine ext_mat (e := .f32) _ _ fun r j => ?_
    refine (congrFun (out_next (h0 m c t) (e0 m c t) (g0 m c t) (w0 m c t) (v0 m c t) (a0 m c t)) (ix2 r j)).trans ?_
    refine (next_tile (h0 m c t) (e0 m c t) (g0 m c t) (w0 m c t) (v0 m c t) (a0 m c t) r j).trans ?_
    rw [next_row]
    exact (congrArg (nextA m c) (emb8 t r j)).symm
  · rw [eq_ix2 y]
    generalize y 0 = i
    generalize y 1 = j
    refine ⟨pointOf i, flush0_8 (pointOf i), ?_⟩
    have hm := ((cfg0.win 8).blk (pointOf i)).view.emb_mem_set (ix2 (inTile i) j)
    rwa [show ((cfg0.win 8).blk (pointOf i)).view.emb (ix2 (inTile i) j) = ix2 i j from (emb8 (pointOf i) (inTile i) j).trans (congrArg (ix2 · j) (row_pointOf i))] at hm

/-- The stream is the argument's. -/
theorem h_read : hA m c = m ((c : Thread nD τ).loc main_arg0) := V_main_arg0 m c
/-- The embeddings are the argument's. -/
theorem e_read : eA m c = m ((c : Thread nD τ).loc main_arg1) := V_main_arg1 m c

/-- The gate's weight is the argument's. -/
theorem w_read : wA m c = m ((c : Thread nD τ).loc main_arg3) := by
  unfold wA
  show StableHlo.after (List.flatten [hostOps0]) (fun b => m (c, b)) (Proc.devRef .tc main_v1) = _
  simp only [hostOps0, List.flatten_cons, List.flatten_nil, List.append_nil, cast_eq]
  after_results_simp
  rfl

/-- The projection's weight is the argument's. -/
theorem v_read : vA m c = m ((c : Thread nD τ).loc main_arg4) := by
  unfold vA
  show StableHlo.after (List.flatten [hostOps0]) (fun b => m (c, b)) (Proc.devRef .tc main_v2) = _
  simp only [hostOps0, List.flatten_cons, List.flatten_nil, List.append_nil, cast_eq]
  after_results_simp
  rfl

/-- The gains in front are the argument's, as a row. -/
theorem g_read : gA m c = Cert.PleFwdReferenceIdeal.Read.val_main_v10 (F := Ideal) (m ((c : Thread nD τ).loc main_arg2)) := by
  unfold gA
  show StableHlo.after (List.flatten [hostOps0]) (fun b => m (c, b)) (Proc.devRef .tc main_v0) = _
  simp only [hostOps0, List.flatten_cons, List.flatten_nil, List.append_nil, cast_eq]
  after_results_simp
  rfl

/-- The gains behind are the argument's, as a row. -/
theorem a_read : aA m c = Cert.PleFwdReferenceIdeal.Read.val_main_v32 (F := Ideal) (m ((c : Thread nD τ).loc main_arg5)) := by
  unfold aA
  show StableHlo.after (List.flatten [hostOps0]) (fun b => m (c, b)) (Proc.devRef .tc main_v3) = _
  simp only [hostOps0, List.flatten_cons, List.flatten_nil, List.append_nil, cast_eq]
  after_results_simp
  rfl

section reference

open Cert.PleFwdReferenceIdeal.Read

variable (h : FVec Ideal S8192x1024 .f32) (e : FVec Ideal S8192x256 .f32) (g : FVec Ideal S1024 .f32) (w : FVec Ideal S1024x1024 .f32) (v : FVec Ideal S256x1024 .f32) (a : FVec Ideal S1024 .f32)

/-- The reference's gains in front, as a row. -/
def frontGains : Fin 1024 → EReal := rowOf (val_main_v10 (F := Ideal) g) 0
/-- The reference's gains behind, as a row. -/
def backGains : Fin 1024 → EReal := rowOf (val_main_v32 (F := Ideal) a) 0
/-- One row of the reference's gate. -/
def refGate (i : Fin 8192) : Fin 1024 → EReal := times (normed (rowOf h i) (frontGains g)) w
/-- One row of the reference's projection. -/
def refProj (i : Fin 8192) : Fin 1024 → EReal := times (embRow e i) v

/-- The reference's normalised rows. -/
theorem ref_normed (i : Fin 8192) (j : Fin 1024) : (val_main_v12 (F := Ideal) h g (ix2 i j) : EReal) = normed (rowOf h i) (frontGains g) j := by
  rw [val_main_v12_apply (F := Ideal), val_main_v9_apply (F := Ideal), val_main_v8_apply (F := Ideal), val_main_v7_apply (F := Ideal), val_main_v6_apply (F := Ideal), val_main_v4_apply (F := Ideal), val_main_v2_apply (F := Ideal),
    val_main_v3_apply (F := Ideal), val_main_v5_apply (F := Ideal), val_main_v1_apply, val_main_cst_apply (F := Ideal), val_main_cst_0_apply (F := Ideal), val_main_cst_1_apply (F := Ideal), val_main_v11_apply (F := Ideal),
    show idx_main_v11 (ix2 i j) = ix2 0 j from Shape.idx_ext₂ (y := ix2 0 j) rfl rfl]
  show (h (ix2 i j) : EReal) * Ideal.rsqrt (Ideal.div (Ideal.ofBits .f32 0x00000000#32 + _) (Ideal.ofBits .f32 0x44800000#32) + Ideal.ofBits .f32 0x358637BD#32) * frontGains g j = _
  rw [zero_bits, zero_add]
  unfold normed size meanSq
  refine congrArg (fun z : EReal => (h (ix2 i j) : EReal) * Ideal.rsqrt (Ideal.div z _ + _) * frontGains g j) (Finset.sum_congr rfl fun l _ => ?_)
  rw [show idx_main_v1 (idx_main_v2 (idx_main_v8 (ix2 i j))) l = ix2 i l from Shape.idx_ext₂ (y := ix2 i l) rfl rfl, val_main_v0_apply (F := Ideal)]
  rfl

/-- The reference's gate. -/
theorem ref_gate (i : Fin 8192) (j : Fin 1024) : (val_main_v13 (F := Ideal) h g w (ix2 i j) : EReal) = refGate h g w i j := by
  rw [val_main_v13_apply]
  unfold refGate times
  refine Finset.sum_congr rfl fun k _ => ?_
  rw [show lidx_main_v13 (ix2 i j) k = ix2 i k from Shape.idx_ext₂ (y := ix2 i k) rfl rfl, show ridx_main_v13 (ix2 i j) k = ix2 k j from Shape.idx_ext₂ (y := ix2 k j) rfl rfl, ref_normed]

/-- The reference's projection. -/
theorem ref_proj (i : Fin 8192) (j : Fin 1024) : (val_main_v14 (F := Ideal) e v (ix2 i j) : EReal) = refProj e v i j := by
  rw [val_main_v14_apply]
  unfold refProj times
  refine Finset.sum_congr rfl fun k _ => ?_
  rw [show lidx_main_v14 (ix2 i j) k = ix2 i k from Shape.idx_ext₂ (y := ix2 i k) rfl rfl, show ridx_main_v14 (ix2 i j) k = ix2 k j from Shape.idx_ext₂ (y := ix2 k j) rfl rfl]
  rfl

/-- The reference's gated rows. -/
theorem ref_gated (i : Fin 8192) (j : Fin 1024) : (val_main_v21 (F := Ideal) h e g w v (ix2 i j) : EReal) = gated (refProj e v i) (refGate h g w i) j := by
  rw [val_main_v21_apply (F := Ideal), val_main_v20_apply (F := Ideal), val_main_v19_apply (F := Ideal), val_main_cst_3_apply (F := Ideal), val_main_v18_apply (F := Ideal), val_main_v17_apply (F := Ideal), val_main_cst_2_apply (F := Ideal),
    val_main_v16_apply (F := Ideal), val_main_v15_apply (F := Ideal), ref_proj, ref_gate]
  exact congrArg (fun z : EReal => refProj e v i j * z) (logistic_eq _)

/-- The reference's stream. -/
theorem ref_next (i : Fin 8192) (j : Fin 1024) : (val_main_v35 (F := Ideal) h e g w v a (ix2 i j) : EReal)
    = rowOf h i j + normed (gated (refProj e v i) (refGate h g w i)) (backGains a) j := by
  rw [val_main_v35_apply (F := Ideal), val_main_v34_apply (F := Ideal), val_main_v31_apply (F := Ideal), val_main_v30_apply (F := Ideal), val_main_v29_apply (F := Ideal), val_main_v28_apply (F := Ideal), val_main_v26_apply (F := Ideal),
    val_main_v24_apply (F := Ideal), val_main_v25_apply (F := Ideal), val_main_v27_apply (F := Ideal), val_main_v23_apply, val_main_cst_4_apply (F := Ideal), val_main_cst_5_apply (F := Ideal), val_main_cst_6_apply (F := Ideal),
    val_main_v33_apply (F := Ideal), show idx_main_v33 (ix2 i j) = ix2 0 j from Shape.idx_ext₂ (y := ix2 0 j) rfl rfl]
  show rowOf h i j + (val_main_v21 (F := Ideal) h e g w v (ix2 i j) : EReal) * Ideal.rsqrt (Ideal.div (Ideal.ofBits .f32 0x00000000#32 + _) (Ideal.ofBits .f32 0x44800000#32) + Ideal.ofBits .f32 0x358637BD#32) * backGains a j = _
  rw [zero_bits, zero_add, ref_gated]
  unfold normed size meanSq
  refine congrArg (fun z : EReal => rowOf h i j + gated (refProj e v i) (refGate h g w i) j * Ideal.rsqrt (Ideal.div z _ + _) * backGains a j) (Finset.sum_congr rfl fun l _ => ?_)
  rw [show idx_main_v23 (idx_main_v24 (idx_main_v30 (ix2 i j))) l = ix2 i l from Shape.idx_ext₂ (y := ix2 i l) rfl rfl, val_main_v22_apply (F := Ideal), ref_gated]
  rfl

end reference

/-- The rows of the gate are the reference's. -/
theorem gate_same (i : Fin 8192) : gateRow m c i = refGate (m ((c : Thread nD τ).loc main_arg0)) (m ((c : Thread nD τ).loc main_arg2)) (m ((c : Thread nD τ).loc main_arg3)) i := by
  unfold gateRow refGate frontGains
  rw [h_read, g_read, w_read]
/-- The rows of the projection are the reference's. -/
theorem proj_same (i : Fin 8192) : projRow m c i = refProj (m ((c : Thread nD τ).loc main_arg1)) (m ((c : Thread nD τ).loc main_arg4)) i := by
  unfold projRow refProj
  rw [e_read, v_read]

/-- The gate is the reference's. -/
theorem same6 : gateA m c = Cert.PleFwdReferenceIdeal.Read.val_main_v13 (F := Ideal) (m ((c : Thread nD τ).loc main_arg0)) (m ((c : Thread nD τ).loc main_arg2)) (m ((c : Thread nD τ).loc main_arg3)) :=
  ext_mat (e := .f32) _ _ fun i j => (congrFun (gate_same m c i) j).trans (ref_gate _ _ _ i j).symm

/-- The projection is the reference's. -/
theorem same7 : projA m c = Cert.PleFwdReferenceIdeal.Read.val_main_v14 (F := Ideal) (m ((c : Thread nD τ).loc main_arg1)) (m ((c : Thread nD τ).loc main_arg4)) :=
  ext_mat (e := .f32) _ _ fun i j => (congrFun (proj_same m c i) j).trans (ref_proj _ _ i j).symm

/-- The stream is the reference's. -/
theorem same8 : nextA m c = Cert.PleFwdReferenceIdeal.Read.val_main_v35 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ext_mat (e := .f32) _ _ fun i j => by
    refine Eq.trans ?_ (ref_next _ _ _ _ _ _ i j).symm
    show nextRow m c i j = _
    unfold nextRow backGains
    rw [gate_same, proj_same, h_read, a_read]

end Cert.Ple.Fwd

end
-- ==== Proof.Ple.Claims.lean ====
module

public import proofs.«01_k».proof.Defs
public import proofs.«01_k».proof.Proof.Ple.Bwd
public import proofs.«01_k».proof.Proof.Ple.Fwd

@[expose] public section

noncomputable section

/-! # The claims of the per-layer embedding's two passes -/

namespace Cert.Ple

open Idealize.ShloMosaic Idealize.SL.Sem

set_option maxHeartbeats 1000000 in
/-- The two printed texts of the embedding's backward pass have the same functions. -/
theorem backward_defs : (Cert.PleBwd.defs (F := Bits)) = Cert.PleBwdIdeal.defs (F := Bits) := by
  unfold Cert.PleBwd.defs Cert.PleBwdIdeal.defs
  refine congrArg (Pipeline.defs (Cert.PleBwdIdeal.pcfgs (F := Bits))) ?_
  unfold Cert.PleBwd.defs₀ Cert.PleBwdIdeal.defs₀
  refine congrArg _ ?_
  funext l a
  match l, a with
  | 0, (t, s) => rfl

set_option maxHeartbeats 1000000 in
/-- The embedding's backward pass, as printed, ends with its arguments unchanged and its counters at zero. -/
theorem backward_frame : @Cert.quiescent_PleBwd Cert.PleBwd.Gen.facts := fun m ρ _ => by
  rw [backward_defs, show (Cert.PleBwd.main (F := Bits)) = Cert.PleBwdIdeal.main (F := Bits) from rfl]
  exact Cert.PleBwdIdeal.Gen.frame (F := Bits) m ρ

/-- So does it over the extended reals. -/
theorem backward_frame_ideal : @Cert.quiescent_PleBwdIdeal Cert.PleBwdIdeal.Gen.facts := fun m ρ _ => Cert.PleBwdIdeal.Gen.frame m ρ

/-- So does its reference. -/
theorem backward_frame_reference : @Cert.quiescent_PleBwdReferenceIdeal Cert.PleBwdReferenceIdeal.Gen.facts :=
  fun m ρ _ => (θ_run Cert.PleBwdReferenceIdeal.defs _ _).mono (fun _ h => ⟨fun c => (h c).2.2.2.2.2, sem_eq_zero_of_no_sems (by decide) _⟩) (Cert.PleBwdReferenceIdeal.Value.run (F := Ideal) m ρ)

/-- The kernel and the reference of the embedding's backward pass end with the same five gradients. -/
theorem backward_results : @Cert.algebraic_PleBwdIdeal_PleBwdReferenceIdeal Cert.PleBwdIdeal.Gen.facts Cert.PleBwdReferenceIdeal.Gen.facts := by
  intro m g m' g' _ hargs
  refine ⟨fun c => Bwd.dxA m c, fun c => Bwd.wgA m c, fun c => Bwd.wpA m c, fun c => Bwd.dgA m c, fun c => Bwd.dpA m c, ?_, ?_⟩
  · refine (θ_run Cert.PleBwdIdeal.defs _ _).mono (fun _ h c => ?_) (Cert.PleBwdIdeal.Value.run_blocks m g)
    obtain ⟨h8, h9, h10, h11, h12, hk⟩ := h c
    exact ⟨h8.trans (Bwd.final8 m c), h9.trans (Bwd.final9 m c), h10.trans (Bwd.final10 m c), h11.trans (Bwd.final11 m c), h12.trans (Bwd.final12 m c), hk⟩
  · refine (θ_run Cert.PleBwdReferenceIdeal.defs _ _).mono (fun _ h c => ?_) (Cert.PleBwdReferenceIdeal.Value.run (F := Ideal) m' g')
    obtain ⟨a0, a1, a2, a3, a4, a5, a6⟩ := hargs c
    obtain ⟨h8, h9, h10, h11, h12, hk⟩ := h c
    refine ⟨h8.trans ?_, h9.trans ?_, h10.trans ?_, h11.trans ?_, h12.trans ?_, hk⟩
    · rw [Cert.PleBwdReferenceIdeal.Read.val_main_v94_eq, a0, a1, a2, a3, a4, a5, a6]
      exact (Bwd.same8 m c).symm
    · rw [Cert.PleBwdReferenceIdeal.Read.val_main_v72_eq, a0, a1, a2, a3, a4, a5, a6]
      exact (Bwd.same9 m c).symm
    · rw [Cert.PleBwdReferenceIdeal.Read.val_main_v69_eq, a0, a1, a2, a3, a4, a5, a6]
      exact (Bwd.same10 m c).symm
    · rw [Cert.PleBwdReferenceIdeal.Read.val_main_v95_eq, a0, a1, a2, a3, a4, a5, a6]
      exact (Bwd.same11 m c).symm
    · rw [Cert.PleBwdReferenceIdeal.Read.val_main_v96_eq, a0, a1, a2, a3, a4, a6]
      exact (Bwd.same12 m c).symm

set_option maxHeartbeats 1000000 in
/-- The two printed texts of the embedding's forward pass have the same functions. -/
theorem forward_defs : (Cert.PleFwd.defs (F := Bits)) = Cert.PleFwdIdeal.defs (F := Bits) := by
  unfold Cert.PleFwd.defs Cert.PleFwdIdeal.defs
  refine congrArg (Pipeline.defs (Cert.PleFwdIdeal.pcfgs (F := Bits))) ?_
  unfold Cert.PleFwd.defs₀ Cert.PleFwdIdeal.defs₀
  refine congrArg _ ?_
  funext l a
  match l, a with
  | 0, (t, s) => rfl

set_option maxHeartbeats 1000000 in
/-- The embedding's forward pass, as printed, ends with its arguments unchanged and its counters at zero. -/
theorem forward_frame : @Cert.quiescent_PleFwd Cert.PleFwd.Gen.facts := fun m ρ _ => by
  rw [forward_defs, show (Cert.PleFwd.main (F := Bits)) = Cert.PleFwdIdeal.main (F := Bits) from rfl]
  exact Cert.PleFwdIdeal.Gen.frame (F := Bits) m ρ

/-- So does it over the extended reals. -/
theorem forward_frame_ideal : @Cert.quiescent_PleFwdIdeal Cert.PleFwdIdeal.Gen.facts := fun m ρ _ => Cert.PleFwdIdeal.Gen.frame m ρ

/-- So does its reference. -/
theorem forward_frame_reference : @Cert.quiescent_PleFwdReferenceIdeal Cert.PleFwdReferenceIdeal.Gen.facts :=
  fun m ρ _ => (θ_run Cert.PleFwdReferenceIdeal.defs _ _).mono (fun _ h => ⟨fun c => (h c).2.2.2, sem_eq_zero_of_no_sems (by decide) _⟩) (Cert.PleFwdReferenceIdeal.Value.run (F := Ideal) m ρ)

/-- The kernel and the reference of the embedding's forward pass end with the same gate, projection and stream. -/
theorem forward_results : @Cert.algebraic_PleFwdIdeal_PleFwdReferenceIdeal Cert.PleFwdIdeal.Gen.facts Cert.PleFwdReferenceIdeal.Gen.facts := by
  intro m g m' g' _ hargs
  refine ⟨fun c => Fwd.gateA m c, fun c => Fwd.projA m c, fun c => Fwd.nextA m c, ?_, ?_⟩
  · refine (θ_run Cert.PleFwdIdeal.defs _ _).mono (fun _ h c => ?_) (Cert.PleFwdIdeal.Value.run_blocks m g)
    obtain ⟨h6, h7, h8, hk⟩ := h c
    exact ⟨h6.trans (Fwd.final6 m c), h7.trans (Fwd.final7 m c), h8.trans (Fwd.final8 m c), hk⟩
  · refine (θ_run Cert.PleFwdReferenceIdeal.defs _ _).mono (fun _ h c => ?_) (Cert.PleFwdReferenceIdeal.Value.run (F := Ideal) m' g')
    obtain ⟨a0, a1, a2, a3, a4, a5⟩ := hargs c
    obtain ⟨h6, h7, h8, hk⟩ := h c
    refine ⟨h6.trans ?_, h7.trans ?_, h8.trans ?_, hk⟩
    · rw [Cert.PleFwdReferenceIdeal.Read.val_main_v13_eq, a0, a2, a3]
      exact (Fwd.same6 m c).symm
    · rw [Cert.PleFwdReferenceIdeal.Read.val_main_v14_eq, a1, a4]
      exact (Fwd.same7 m c).symm
    · rw [Cert.PleFwdReferenceIdeal.Read.val_main_v35_eq, a0, a1, a2, a3, a4, a5]
      exact (Fwd.same8 m c).symm

end Cert.Ple

end
-- ==== Proof.Mix.Columns.lean ====
module

public import proofs.«01_k».proof.Proof.Mlp.Normed

@[expose] public section

noncomputable section

/-! # The column order of the input projection

The kernel keeps the columns of the four forget gates behind all the others, and pads with zeros to 2432 columns.
-/

namespace Cert.Mix

open Idealize.ShloMosaic Idealize.ShloMosaic.ValueIdx Cert.Mlp

/-- Where the kernel's column `n` comes from. -/
def place (n : ℕ) : ℕ := if n < 1280 then n else if n < 2304 then n + 4 else n - 1024

/-- It comes from one of the projection's columns, unless it is padding. -/
theorem place_lt {n : ℕ} (h : n < 2308) : place n < 2308 := by
  unfold place
  split_ifs <;> omega

/-- A matrix in the kernel's column order, with its padding. -/
def inOrder {R : ℕ} (x : (⟨2, ![R, 2308]⟩ : Shape).Idx → EReal) (i : Fin R) (n : Fin 2432) : EReal :=
  if h : n.val < 2308 then x (ix2 i ⟨place n.val, place_lt h⟩) else 0

/-- One piece of a concatenation along the columns, at an index. -/
theorem piece_at {R C n : ℕ} (xs : List ((s : Shape) × (s.Idx → EReal))) (hc : Shape.Concatenates (xs.map (·.1)) ⟨2, ![R, C]⟩ 1) (i : Fin R) (a : Fin C)
    (k : ℕ) (hk : k < xs.length) (x : (⟨2, ![R, n]⟩ : Shape).Idx → EReal) (hx : xs[k] = ⟨⟨2, ![R, n]⟩, x⟩) (pre : ℕ)
    (hpre : (((xs.take k).map (·.1)).map fun s => if h : s.rank = (⟨2, ![R, C]⟩ : Shape).rank then s.size ((1 : Fin 2).cast h.symm) else 0).sum = pre)
    (z : Fin n) (ha : pre + z.val = a.val) : concatenate ⟨2, ![R, C]⟩ 1 xs hc (ix2 i a) = x (ix2 i z) :=
  concatenate_apply_piece (t := ⟨2, ![R, C]⟩) (1 : Fin 2) xs hc (ix2 i a) k hk ⟨2, ![R, n]⟩ x hx rfl pre hpre (ix2 i z)
    (fun b hb => match b, hb with
      | ⟨0, _⟩, _ => rfl
      | ⟨1, _⟩, hb => absurd rfl hb) ha

/-- Some of a matrix's columns, at an index. -/
theorem columns_at {R C n : ℕ} (x : (⟨2, ![R, C]⟩ : Shape).Idx → EReal) (o : ℕ) (h : (⟨2, ![R, C]⟩ : Shape).Slices ![0, o] ⟨2, ![R, n]⟩) (i : Fin R) (z : Fin n) (a : Fin C) (ha : o + z.val = a.val) :
    extractStridedSlice ⟨2, ![R, n]⟩ ![0, o] x h (ix2 i z) = x (ix2 i a) :=
  extractStridedSlice_apply ![0, o] x h (ix2 i z) (ix2 i a) (fun b => match b with
    | ⟨0, _⟩ => (Nat.zero_add i.val).symm
    | ⟨1, _⟩ => ha.symm)

/-- The four pieces side by side are the matrix in the kernel's column order. -/
theorem inOrder_at {R : ℕ} (x : (⟨2, ![R, 2308]⟩ : Shape).Idx → EReal) (h0 : (⟨2, ![R, 2308]⟩ : Shape).Slices ![0, 0] ⟨2, ![R, 1280]⟩) (h1 : (⟨2, ![R, 2308]⟩ : Shape).Slices ![0, 1284] ⟨2, ![R, 1024]⟩)
    (h2 : (⟨2, ![R, 2308]⟩ : Shape).Slices ![0, 1280] ⟨2, ![R, 4]⟩) (z : (⟨2, ![R, 124]⟩ : Shape).Idx → EReal) (hz : ∀ y, z y = 0)
    (hc : Shape.Concatenates [⟨2, ![R, 1280]⟩, ⟨2, ![R, 1024]⟩, ⟨2, ![R, 4]⟩, ⟨2, ![R, 124]⟩] ⟨2, ![R, 2432]⟩ 1) (i : Fin R) (n : Fin 2432) :
    concatenate ⟨2, ![R, 2432]⟩ 1 [⟨⟨2, ![R, 1280]⟩, extractStridedSlice ⟨2, ![R, 1280]⟩ ![0, 0] x h0⟩, ⟨⟨2, ![R, 1024]⟩, extractStridedSlice ⟨2, ![R, 1024]⟩ ![0, 1284] x h1⟩,
      ⟨⟨2, ![R, 4]⟩, extractStridedSlice ⟨2, ![R, 4]⟩ ![0, 1280] x h2⟩, ⟨⟨2, ![R, 124]⟩, z⟩] hc (ix2 i n) = inOrder x i n := by
  have hn := n.isLt
  unfold inOrder place
  by_cases a : n.val < 1280
  · rw [dif_pos (by omega)]
    refine (piece_at _ _ i n 0 (by simp) _ (by rfl) 0 (by rfl) ⟨n.val, a⟩ (Nat.zero_add _)).trans (columns_at x 0 h0 i _ _ ?_)
    show 0 + n.val = if _ then _ else _
    rw [if_pos a]; omega
  by_cases b : n.val < 2304
  · rw [dif_pos (by omega)]
    refine (piece_at _ _ i n 1 (by simp) _ (by rfl) 1280 (by rfl) ⟨n.val - 1280, by omega⟩ (show 1280 + (n.val - 1280) = n.val by omega)).trans (columns_at x 1284 h1 i _ _ ?_)
    show 1284 + (n.val - 1280) = if _ then _ else _
    rw [if_neg a, if_pos b]; omega
  by_cases d : n.val < 2308
  · rw [dif_pos d]
    refine (piece_at _ _ i n 2 (by simp) _ (by rfl) 2304 (by rfl) ⟨n.val - 2304, by omega⟩ (show 2304 + (n.val - 2304) = n.val by omega)).trans (columns_at x 1280 h2 i _ _ ?_)
    show 1280 + (n.val - 2304) = if _ then _ else _
    rw [if_neg a, if_neg b]; omega
  · rw [dif_neg d]
    exact (piece_at _ _ i n 3 (by simp) z (by rfl) 2308 (by rfl) ⟨n.val - 2308, by omega⟩ (show 2308 + (n.val - 2308) = n.val by omega)).trans (hz _)

/-- A sum over the kernel's columns is the sum over the projection's. -/
theorem sum_inOrder {R R' : ℕ} (x : (⟨2, ![R, 2308]⟩ : Shape).Idx → EReal) (y : (⟨2, ![R', 2308]⟩ : Shape).Idx → EReal) (i : Fin R) (j : Fin R') :
    (∑ n : Fin 2432, inOrder x i n * inOrder y j n) = ∑ k : Fin 2308, x (ix2 i k) * y (ix2 j k) := by
  refine (Fin.sum_univ_add (a := 2308) (b := 124) fun n : Fin (2308 + 124) => inOrder x i n * inOrder y j n).trans ?_
  have e : (∑ n : Fin 124, inOrder x i (Fin.natAdd 2308 n) * inOrder y j (Fin.natAdd 2308 n)) = 0 :=
    Finset.sum_eq_zero fun n _ => by
      unfold inOrder
      have h : ¬ (Fin.natAdd 2308 n).val < 2308 := by simp
      rw [dif_neg h, zero_mul]
  refine (congrArg (_ + ·) e).trans ((add_zero _).trans ?_)
  have b : Function.Bijective fun n : Fin 2308 => (⟨place n.val, place_lt n.isLt⟩ : Fin 2308) :=
    (Finite.injective_iff_bijective).mp fun a a' h => by
      have h' : place a.val = place a'.val := congrArg Fin.val h
      have ha := a.isLt
      have ha' := a'.isLt
      refine Fin.ext ?_
      unfold place at h'
      split_ifs at h' <;> omega
  refine Eq.trans (Finset.sum_congr rfl fun n _ => ?_) (b.sum_comp fun k => x (ix2 i k) * y (ix2 j k))
  unfold inOrder
  have h : (Fin.castAdd 124 n).val < 2308 := n.isLt
  rw [dif_pos h, dif_pos h]
  rfl

end Cert.Mix

end
-- ==== Proof.Mix.DwIn.lean ====
module

public import proofs.«01_k».proof.Defs
public import proofs.«01_k».proof.Proof.Mlp.Sums
public import proofs.«01_k».proof.Proof.Mix.Columns
public import proofs.«01_k».proof.Proof.Gen.DwIn
public import proofs.«01_k».proof.Proof.Gen.DwInIdeal.Value
public import proofs.«01_k».proof.Proof.Gen.DwInReferenceIdeal.Run
public import proofs.«01_k».proof.Proof.Gen.DwInReferenceIdeal.Read

@[expose] public section

set_option maxRecDepth 16384

noncomputable section

/-! # The gradient of the mixer's input projection

The kernel adds up eight products over 1024 rows, with the columns of the incoming gradient in its own order. The
reference is one product over all the rows, whose columns are put into that order afterwards.
-/

namespace Cert.Mix

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.Mlp
open Cert.DwInIdeal Cert.DwInIdeal.Gen Cert.DwInIdeal.Value

/-- Columns against columns, at an index. -/
theorem dot_at {φ : FTy} (x : FVec Ideal S1024x1024 φ) (y : FVec Ideal S1024x2432 φ) (k : Fin 1024) (n : Fin 2432) :
    matmul (F := Ideal) dot_S1024x1024_S1024x2432_S1024x2432_0_0_1_1_n_n none x y (constant S1024x2432 .f32 0x00000000#32) (ix2 k n)
      = ∑ r : Fin 1024, (x (ix2 r k) : EReal) * y (ix2 r n) := by
  simp only [matmul]
  rw [Ideal.matmul_constant_zero_apply, ← Equiv.sum_comp (contrEquiv1 dot_S1024x1024_S1024x2432_S1024x2432_0_0_1_1_n_n 1024 rfl rfl).symm]
  refine Finset.sum_congr rfl fun q _ => ?_
  have hq := contrEquiv1_symm_val dot_S1024x1024_S1024x2432_S1024x2432_0_0_1_1_n_n 1024 rfl rfl q
  have el : dot_S1024x1024_S1024x2432_S1024x2432_0_0_1_1_n_n.lhsIdx (ix2 k n) ((contrEquiv1 dot_S1024x1024_S1024x2432_S1024x2432_0_0_1_1_n_n 1024 rfl rfl).symm q) = ix2 q k :=
    funext fun z => Fin.ext (match z with
      | ⟨0, _⟩ => (DotDims.lhsIdx_val_of_single _ rfl _ _).trans hq
      | ⟨1, _⟩ => by unfold DotDims.lhsIdx; rw [dif_neg (by decide +revert), dif_pos (by decide +revert)]; rfl)
  have er : dot_S1024x1024_S1024x2432_S1024x2432_0_0_1_1_n_n.rhsIdx (ix2 k n) ((contrEquiv1 dot_S1024x1024_S1024x2432_S1024x2432_0_0_1_1_n_n 1024 rfl rfl).symm q) = ix2 q n :=
    funext fun z => Fin.ext (match z with
      | ⟨0, _⟩ => (DotDims.rhsIdx_val_of_single _ rfl _ _).trans hq
      | ⟨1, _⟩ => by unfold DotDims.rhsIdx; rw [dif_neg (by decide +revert), dif_pos (by decide +revert)]; rfl)
  rw [el, er]

/-- One step adds the product of the step's blocks. -/
theorem step_at (x : FVec Ideal S1024x1024 .bf16) (acc : FVec Ideal S1024x2432 .f32) (y : FVec Ideal S1024x2432 .bf16) (k : Fin 1024) (n : Fin 2432) :
    k0_pay2 (F := Ideal) x acc y (ix2 k n) = (acc (ix2 k n) : EReal) + ∑ r : Fin 1024, (x (ix2 r k) : EReal) * y (ix2 r n) := by
  unfold k0_pay2
  simp only [shapeCast_self]
  rw [addf_apply, dot_at]

/-- A run starts from zero. -/
theorem start_at (k : Fin 1024) (n : Fin 2432) : (k0_pay1 (F := Ideal) (ix2 k n) : EReal) = 0 := by
  show Ideal.ofBits .f32 0x00000000#32 = 0
  simp [Ideal.ofBits, Ideal.ieee]

/-- Where the blocks of a grid point lie. -/
theorem index0 : ∀ t : Fin cfg0.N, win0_0.index t 0 = t.val ∧ win0_0.index t 1 = 0 := by decide +kernel
/-- Where the blocks of a grid point lie. -/
theorem index1 : ∀ t : Fin cfg0.N, win0_1.index t 0 = t.val ∧ win0_1.index t 1 = 0 := by decide +kernel

variable (m : (ℓ : Loc nD τ sig) → Buf (Elt Ideal) ℓ) (c : Dev nD)

/-- The normalised input as the region finds it. -/
def hnA : Vec Ideal S8192x1024 .bf16 := V m c main_v13
/-- The gradient in the kernel's column order as the region finds it. -/
def dzA : Vec Ideal S8192x2432 .bf16 := V m c main_v19

/-- A grid point is one of eight. -/
theorem point_lt (t : Fin cfg0.N) : t.val < 8 := Nat.lt_of_lt_of_eq t.isLt N_0

/-- The rows of a grid point's tile. -/
def row (t : Fin cfg0.N) (r : Fin 1024) : Fin 8192 := ⟨1024 * t.val + r.val, by have := r.isLt; have := point_lt t; omega⟩

/-- The first block of a grid point. -/
def x0 (t : Fin cfg0.N) : Vec Ideal S1024x1024 .bf16 := iblk m c 0 t
/-- The second block of a grid point. -/
def x1 (t : Fin cfg0.N) : Vec Ideal S1024x2432 .bf16 := iblk m c 1 t

/-- Where the first block lies. -/
theorem block0 (t : Fin cfg0.N) (r k : Fin 1024) : x0 m c t (ix2 r k) = hnA m c (ix2 (row t r) k) :=
  congrArg (hnA m c) (show (win0_0.rect t).emb (ix2 r k) = ix2 (row t r) k from funext fun a => Fin.ext (match a with
    | ⟨0, _⟩ => (Window.rect_emb_val win0_0 t (ix2 r k) 0).trans (by rw [(index0 t).1]; show t.val * 1024 + r.val = 1024 * t.val + r.val; omega)
    | ⟨1, _⟩ => (Window.rect_emb_val win0_0 t (ix2 r k) 1).trans (by rw [(index0 t).2]; show 0 * 1024 + k.val = k.val; omega)))

/-- Where the second block lies. -/
theorem block1 (t : Fin cfg0.N) (r : Fin 1024) (n : Fin 2432) : x1 m c t (ix2 r n) = dzA m c (ix2 (row t r) n) :=
  congrArg (dzA m c) (show (win0_1.rect t).emb (ix2 r n) = ix2 (row t r) n from funext fun a => Fin.ext (match a with
    | ⟨0, _⟩ => (Window.rect_emb_val win0_1 t (ix2 r n) 0).trans (by rw [(index1 t).1]; show t.val * 1024 + r.val = 1024 * t.val + r.val; omega)
    | ⟨1, _⟩ => (Window.rect_emb_val win0_1 t (ix2 r n) 1).trans (by rw [(index1 t).2]; show 0 * 2432 + n.val = n.val; omega)))

/-- The addend of one row to the gradient of weight `k`, `n`. -/
def term (k : Fin 1024) (n : Fin 2432) (i : Fin 8192) : EReal := (hnA m c (ix2 i k) : EReal) * dzA m c (ix2 i n)

/-- What a grid point adds. -/
theorem adds (s : ℕ) (h : s < cfg0.N) (k : Fin 1024) (n : Fin 2432) :
    (∑ r : Fin 1024, (x0 m c ⟨s, h⟩ (ix2 r k) : EReal) * x1 m c ⟨s, h⟩ (ix2 r n)) = ∑ r : Fin 1024, ext (term m c k n) (1024 * s + r.val) := by
  refine Finset.sum_congr rfl fun r _ => ?_
  have hs := point_lt ⟨s, h⟩
  have hr := r.isLt
  rw [ext_of _ _ (show 1024 * s + r.val < 8192 by simp only at hs; omega), block0, block1]
  rfl

/-- What the kernel leaves: the sum over all the rows. -/
theorem result_at (k : Fin 1024) (n : Fin 2432) : (G2 m c (ix2 k n) : EReal) = ∑ i : Fin 8192, term m c k n i := by
  have hk := k.isLt
  have hn := n.isLt
  have e : run2Of (ix2 k n) = 0 := show 1 * (k.val / 1024 - 0) + 1 * (n.val / 2432 - 0) = 0 by omega
  have hb : 8 * run2Of (ix2 k n) + 7 < cfg0.N := by rw [e, show cfg0.N = 8 from N_0]; omega
  have hl : loc2Of (ix2 k n) = ix2 k n := funext fun a => Fin.ext (match a with
    | ⟨0, _⟩ => show k.val % 1024 = k.val by omega
    | ⟨1, _⟩ => show n.val % 2432 = n.val by omega)
  unfold G2
  rw [dif_pos hb, hl]
  have p : ∀ (b : ℕ) (h : b + 7 < cfg0.N), b = 0 →
      (Pipeline.accAt (reset2 m c) (step2 m c) b 7 h (ix2 k n) : EReal) = ∑ i : Fin 8192, term m c k n i := by
    intro b h e
    subst e
    refine run_sum _ _ _ _ _ (fun h => ?_) (fun s h acc => ?_) h
    · unfold reset2
      refine (step_at _ _ _ _ _).trans ?_
      rw [start_at, zero_add]
      exact adds m c 0 h k n
    · unfold step2
      refine (step_at _ _ _ _ _).trans (congrArg (_ + ·) ((adds m c _ h k n).trans ?_))
      rw [Nat.zero_add]
  exact p _ hb (by rw [e])

open Cert.DwInReferenceIdeal.Read in
/-- The normalised input is the reference's. -/
theorem hn_read : hnA m c = val_main_v12 (F := Ideal) (m ((c : Thread nD τ).loc main_arg0)) (m ((c : Thread nD τ).loc main_arg1)) := by
  unfold hnA
  show StableHlo.after (List.flatten [hostOps0]) (fun b => m (c, b)) (Proc.devRef .tc main_v13) = _
  simp only [hostOps0, List.flatten_cons, List.flatten_nil, List.append_nil, cast_eq]
  after_results_simp
  rfl

/-- The padding is zero. -/
theorem pad_zero (y : S8192x124.Idx) : (broadcastInDim S8192x124 ![] bcast_S_S8192x124 (constant (F := Ideal) S_ .f32 0x00000000#32) y : EReal) = 0 := by
  show Ideal.ofBits .f32 0x00000000#32 = 0
  simp [Ideal.ofBits, Ideal.ieee]

/-- The gradient's columns are the argument's, in the kernel's order. -/
theorem dz_read (i : Fin 8192) (n : Fin 2432) : (dzA m c (ix2 i n) : EReal) = inOrder (m ((c : Thread nD τ).loc main_arg3)) i n := by
  have e : dzA m c = truncf .bf16 (concatenate S8192x2432 1 [⟨S8192x1280, extractStridedSlice S8192x1280 ![0, 0] (m ((c : Thread nD τ).loc main_arg3)) slices_S8192x2308_S8192x1280_0_0⟩, ⟨S8192x1024, extractStridedSlice S8192x1024 ![0, 1284] (m ((c : Thread nD τ).loc main_arg3)) slices_S8192x2308_S8192x1024_0_1284⟩,
      ⟨S8192x4, extractStridedSlice S8192x4 ![0, 1280] (m ((c : Thread nD τ).loc main_arg3)) slices_S8192x2308_S8192x4_0_1280⟩, ⟨S8192x124, broadcastInDim S8192x124 ![] bcast_S_S8192x124 (constant (F := Ideal) S_ .f32 0x00000000#32)⟩] concatenates_S8192x1280_S8192x1024_S8192x4_S8192x124_S8192x2432_d1) bitsLt_bf16_f32 := by
    unfold dzA
    show StableHlo.after (List.flatten [hostOps0]) (fun b => m (c, b)) (Proc.devRef .tc main_v19) = _
    simp only [hostOps0, List.flatten_cons, List.flatten_nil, List.append_nil, cast_eq]
    after_results_simp
    rfl
  rw [e]
  exact inOrder_at (m ((c : Thread nD τ).loc main_arg3)) _ _ _ _ pad_zero concatenates_S8192x1280_S8192x1024_S8192x4_S8192x124_S8192x2432_d1 i n

open Cert.DwInReferenceIdeal.Read in
/-- The reference's gradient, before its columns are put in order. -/
theorem plain_at (x : Vec Ideal S8192x1024 .f32) (g : Vec Ideal S1024 .f32) (dz : Vec Ideal S8192x2308 .f32) (k : Fin 1024) (n : Fin 2308) :
    (val_main_v15 (F := Ideal) x g dz (ix2 k n) : EReal) = ∑ i : Fin 8192, (dz (ix2 i n) : EReal) * val_main_v12 (F := Ideal) x g (ix2 i k) := by
  rw [val_main_v15_apply (F := Ideal), val_main_v14_apply]
  refine Finset.sum_congr rfl fun i _ => ?_
  have el : lidx_main_v14 (idx_main_v15 (ix2 k n)) i = ix2 i n := Shape.idx_ext₂ (y := ix2 i n) rfl rfl
  have er : ridx_main_v14 (idx_main_v15 (ix2 k n)) i = ix2 i k := Shape.idx_ext₂ (y := ix2 i k) rfl rfl
  rw [el, er]

open Cert.DwInReferenceIdeal.Read in
/-- The kernel's gradient is the reference's. -/
theorem same : G2 m c = val_main_v20 (F := Ideal) (m ((c : Thread nD τ).loc main_arg0)) (m ((c : Thread nD τ).loc main_arg1)) (m ((c : Thread nD τ).loc main_arg3)) :=
  ext_mat (e := .f32) _ _ fun k n => by
    refine @Eq.trans EReal _ _ _ (result_at m c k n) (@Eq.trans EReal _ _ _ ?_ (inOrder_at (val_main_v15 (F := Ideal) (m ((c : Thread nD τ).loc main_arg0)) (m ((c : Thread nD τ).loc main_arg1)) (m ((c : Thread nD τ).loc main_arg3))) _ _ _ _
      (fun y => (show (val_main_v19 (F := Ideal) y : EReal) = 0 from by show Ideal.ofBits .f32 0x00000000#32 = 0; simp [Ideal.ofBits, Ideal.ieee])) Cert.DwInReferenceIdeal.Facts₀.concatenates_S1024x1280_S1024x1024_S1024x4_S1024x124_S1024x2432_d1 k n).symm)
    unfold term
    simp only [dz_read]
    unfold inOrder
    by_cases h : n.val < 2308
    · rw [dif_pos h, plain_at]
      refine Finset.sum_congr rfl fun i _ => ?_
      rw [dif_pos h, hn_read]
      exact mul_comm _ _
    · rw [dif_neg h]
      refine Finset.sum_eq_zero fun i _ => ?_
      rw [dif_neg h, mul_zero]

end Cert.Mix

end
-- ==== Proof.Mix.Heads.lean ====
module

public import proofs.«01_k».proof.Proof.Mix.Columns
public import Idealize.ShloMosaic.Lib.WordCmp
public import Idealize.ShloMosaic.Lib.KernelVsHost

@[expose] public section

noncomputable section

/-! # Four heads of 64 columns, spread over 128 lanes each

The kernel keeps each head in 128 lanes, of which the first 64 hold the head's columns. Packing puts the heads side by
side again.
-/

namespace Cert.Mix

open Idealize.ShloMosaic Idealize.ShloMosaic.ValueIdx Cert.Mlp

/-- The lane in which the kernel keeps one of the heads' columns. -/
def spot (z : Fin 256) : Fin 512 := ⟨128 * (z.val / 64) + z.val % 64, by have := z.isLt; omega⟩

/-- Which lanes of a head are its first half. -/
theorem low_at {R : ℕ} (hi : (⟨2, ![R, 128]⟩ : Shape).Iotas .tc 32 [1]) (r : Fin R) (l : Fin 128) :
    cmpi .slt (iota .tc ⟨2, ![R, 128]⟩ 32 [1] hi) (broadcast ⟨2, ![R, 128]⟩ 64#32) (ix2 r l) = BitVec.ofBool (decide (l.val < 64)) := by
  show IntOp.cmpi .slt (iota .tc ⟨2, ![R, 128]⟩ 32 [1] hi (ix2 r l)) (BitVec.ofNat 32 64) = _
  rw [iota_single_apply]
  have hl : l.val < 2 ^ (32 - 1) := by have := l.isLt; omega
  exact WordCmp.cmpi_slt_ofNat hl (by omega)

/-- Lanes turned by half a head, at an index. -/
theorem turn_at {R : ℕ} (x : (⟨2, ![R, 128]⟩ : Shape).Idx → EReal) (h : (⟨2, ![R, 128]⟩ : Shape).Rotates 1 none) (r : Fin R) (l a : Fin 128) (ha : a.val = (l.val + 128 - 64) % 128) :
    dynamicRotate 1 64#32 none x h (ix2 r l) = x (ix2 r a) :=
  dynamicRotate_apply (s := ⟨2, ![R, 128]⟩) (1 : Fin 2) 64#32 x h (ix2 r l) (ix2 r a) (fun b => match b with
    | ⟨0, _⟩ => rfl
    | ⟨1, _⟩ => ha)

/-- Two heads packed into one block of 128 lanes. -/
theorem pair_at {R : ℕ} (x : (⟨2, ![R, 512]⟩ : Shape).Idx → EReal) (o o' : ℕ) (hi : (⟨2, ![R, 128]⟩ : Shape).Iotas .tc 32 [1])
    (h0 : (⟨2, ![R, 512]⟩ : Shape).Slices ![0, o] ⟨2, ![R, 128]⟩) (h1 : (⟨2, ![R, 512]⟩ : Shape).Slices ![0, o'] ⟨2, ![R, 128]⟩) (hr : (⟨2, ![R, 128]⟩ : Shape).Rotates 1 none)
    (r : Fin R) (l : Fin 128) (a : Fin 512) (ho : o' = o + 128) (ha : a.val = if l.val < 64 then o + l.val else o + 64 + l.val) :
    select (cmpi .slt (iota .tc ⟨2, ![R, 128]⟩ 32 [1] hi) (broadcast ⟨2, ![R, 128]⟩ 64#32)) (extractStridedSlice ⟨2, ![R, 128]⟩ ![0, o] x h0)
      (dynamicRotate 1 64#32 none (extractStridedSlice ⟨2, ![R, 128]⟩ ![0, o'] x h1) hr) (ix2 r l) = x (ix2 r a) := by
  have hl := l.isLt
  rw [select_apply, low_at, WordCmp.select_decide]
  split_ifs at ha ⊢ with h
  · exact columns_at x o h0 r l a ha.symm
  · refine (turn_at _ hr r l ⟨l.val - 64, by omega⟩ (show l.val - 64 = (l.val + 128 - 64) % 128 by omega)).trans (columns_at x o' h1 r _ a ?_)
    show o' + (l.val - 64) = a.val
    omega

/-- The four heads packed. -/
theorem packed_at {R : ℕ} (x : (⟨2, ![R, 512]⟩ : Shape).Idx → EReal) (hi : (⟨2, ![R, 128]⟩ : Shape).Iotas .tc 32 [1])
    (h0 : (⟨2, ![R, 512]⟩ : Shape).Slices ![0, 0] ⟨2, ![R, 128]⟩) (h1 : (⟨2, ![R, 512]⟩ : Shape).Slices ![0, 128] ⟨2, ![R, 128]⟩)
    (h2 : (⟨2, ![R, 512]⟩ : Shape).Slices ![0, 256] ⟨2, ![R, 128]⟩) (h3 : (⟨2, ![R, 512]⟩ : Shape).Slices ![0, 384] ⟨2, ![R, 128]⟩)
    (hr : (⟨2, ![R, 128]⟩ : Shape).Rotates 1 none) (hc : Shape.Concatenates [⟨2, ![R, 128]⟩, ⟨2, ![R, 128]⟩] ⟨2, ![R, 256]⟩ 1) (r : Fin R) (z : Fin 256) :
    concatenate ⟨2, ![R, 256]⟩ 1
      [⟨⟨2, ![R, 128]⟩, select (cmpi .slt (iota .tc ⟨2, ![R, 128]⟩ 32 [1] hi) (broadcast ⟨2, ![R, 128]⟩ 64#32)) (extractStridedSlice ⟨2, ![R, 128]⟩ ![0, 0] x h0)
          (dynamicRotate 1 64#32 none (extractStridedSlice ⟨2, ![R, 128]⟩ ![0, 128] x h1) hr)⟩,
        ⟨⟨2, ![R, 128]⟩, select (cmpi .slt (iota .tc ⟨2, ![R, 128]⟩ 32 [1] hi) (broadcast ⟨2, ![R, 128]⟩ 64#32)) (extractStridedSlice ⟨2, ![R, 128]⟩ ![0, 256] x h2)
          (dynamicRotate 1 64#32 none (extractStridedSlice ⟨2, ![R, 128]⟩ ![0, 384] x h3) hr)⟩] hc (ix2 r z) = x (ix2 r (spot z)) := by
  have hz := z.isLt
  by_cases h : z.val < 128
  · refine (piece_at _ _ r z 0 (by simp) _ (by rfl) 0 (by rfl) (⟨z.val, h⟩ : Fin 128) (Nat.zero_add _)).trans (pair_at x 0 128 hi h0 h1 hr r _ _ rfl ?_)
    show 128 * (z.val / 64) + z.val % 64 = if z.val < 64 then 0 + z.val else 0 + 64 + z.val
    split_ifs <;> omega
  · refine (piece_at _ _ r z 1 (by simp) _ (by rfl) 128 (by rfl) (⟨z.val - 128, by omega⟩ : Fin 128) (show 128 + (z.val - 128) = z.val by omega)).trans (pair_at x 256 384 hi h2 h3 hr r _ _ rfl ?_)
    show 128 * (z.val / 64) + z.val % 64 = if z.val - 128 < 64 then 256 + (z.val - 128) else 256 + 64 + (z.val - 128)
    split_ifs <;> omega

/-- Heads spread over their lanes on the host, at a lane that holds a column. -/
theorem spread_at {R : ℕ} (x : (⟨2, ![R, 256]⟩ : Shape).Idx → EReal) (y : (⟨3, ![R, 4, 64]⟩ : Shape).Idx → EReal) (h0 : (⟨2, ![R, 256]⟩ : Shape).ShapeCasts ⟨3, ![R, 4, 64]⟩)
    (hc : Shape.Concatenates [⟨3, ![R, 4, 64]⟩, ⟨3, ![R, 4, 64]⟩] ⟨3, ![R, 4, 128]⟩ 2) (h1 : (⟨3, ![R, 4, 128]⟩ : Shape).ShapeCasts ⟨2, ![R, 512]⟩) (r : Fin R) (z : Fin 256) :
    shapeCast ⟨2, ![R, 512]⟩ (concatenate ⟨3, ![R, 4, 128]⟩ 2 [⟨⟨3, ![R, 4, 64]⟩, shapeCast ⟨3, ![R, 4, 64]⟩ x h0⟩, ⟨⟨3, ![R, 4, 64]⟩, y⟩] hc) h1 (ix2 r (spot z)) = x (ix2 r z) := by
  have hz := z.isLt
  let h : Fin 4 := ⟨z.val / 64, by omega⟩
  let l : Fin 64 := ⟨z.val % 64, Nat.mod_lt _ (by decide)⟩
  refine (shapeCast_apply _ h1 (ix2 r (spot z)) (ix3 r h (⟨z.val % 64, by omega⟩ : Fin 128)) (by
    rewrite [Shape.rowMajor_val_two, Shape.rowMajor_val_three]
    show (r.val * 4 + z.val / 64) * 128 + z.val % 64 = r.val * 512 + (128 * (z.val / 64) + z.val % 64)
    omega)).trans ?_
  refine (concatenate_apply_piece (t := ⟨3, ![R, 4, 128]⟩) (2 : Fin 3) _ _ (ix3 r h (⟨z.val % 64, by omega⟩ : Fin 128)) 0 (by simp) ⟨3, ![R, 4, 64]⟩ _ (by rfl) rfl 0 (by rfl) (ix3 r h l)
    (fun b hb => match b, hb with
      | ⟨0, _⟩, _ => rfl
      | ⟨1, _⟩, _ => rfl
      | ⟨2, _⟩, hb => absurd rfl hb) (Nat.zero_add _)).trans ?_
  exact shapeCast_apply x h0 (ix3 r h l) (ix2 r z) (by
    rewrite [Shape.rowMajor_val_two, Shape.rowMajor_val_three]
    show r.val * 256 + z.val = (r.val * 4 + z.val / 64) * 64 + z.val % 64
    omega)

end Cert.Mix

end
-- ==== Proof.Mix.In.lean ====
module

public import proofs.«01_k».proof.Proof.Mlp.Rows
public import proofs.«01_k».proof.Proof.Mix.Heads
public import proofs.«01_k».proof.Proof.Gen.MixIn
public import proofs.«01_k».proof.Proof.Gen.MixInIdeal.Value
public import proofs.«01_k».proof.Proof.Gen.MixInReferenceIdeal.Run
public import proofs.«01_k».proof.Proof.Gen.MixInReferenceIdeal.Read

@[expose] public section

set_option maxRecDepth 16384

noncomputable section

/-! # The input projection's backward pass

One tile of 512 rows at a time the kernel puts the gradient of the projection together from the seven gradients of the
mixers, multiplies it by the weight, takes it through the normalisation before the mixers and adds it to the stream's
gradient. It also hands on the normalised rows and the gradient it put together, and adds up the normalisation's own
gradient.
-/

namespace Cert.Mix.In

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.Mlp
open Cert.MixInIdeal Cert.MixInIdeal.Gen Cert.MixInIdeal.Value

/-! ## The gradient put together -/

/-- Seven pieces side by side, in the kernel's order. -/
def joined (zc : Fin 512 → EReal) (zq zk zv : Fin 256 → EReal) (zs : Fin 768 → EReal) (zp : Fin 256 → EReal) (zf : Fin 128 → EReal) (n : Fin 2432) : EReal :=
  if h : n.val < 512 then zc ⟨n.val, h⟩
  else if h : n.val < 768 then zq ⟨n.val - 512, by omega⟩
  else if h : n.val < 1024 then zk ⟨n.val - 768, by omega⟩
  else if h : n.val < 1280 then zv ⟨n.val - 1024, by omega⟩
  else if h : n.val < 2048 then zs ⟨n.val - 1280, by omega⟩
  else if h : n.val < 2304 then zp ⟨n.val - 2048, by omega⟩
  else zf ⟨n.val - 2304, by have := n.isLt; omega⟩

/-- Rounding changes nothing. -/
theorem rounded_at {s : Shape} (x : FVec Ideal s .f32) (h : FTy.bits .bf16 < FTy.bits .f32) (y : s.Idx) : (truncf .bf16 x h y : EReal) = x y := rfl

/-- Equal pieces give equal rows. -/
theorem joined_same {a a' : Fin 512 → EReal} {b b' c c' d d' : Fin 256 → EReal} {e e' : Fin 768 → EReal} {f f' : Fin 256 → EReal} {g g' : Fin 128 → EReal} (ha : ∀ z, a z = a' z) (hb : ∀ z, b z = b' z)
    (hc : ∀ z, c z = c' z) (hd : ∀ z, d z = d' z) (he : ∀ z, e z = e' z) (hf : ∀ z, f z = f' z) (hg : ∀ z, g z = g' z) (n : Fin 2432) : joined a b c d e f g n = joined a' b' c' d' e' f' g' n := by
  rw [funext ha, funext hb, funext hc, funext hd, funext he, funext hf, funext hg]

/-- The gradient a point puts together. -/
def dzT (zc : FVec Ideal S512x512 .bf16) (zq zk zv : FVec Ideal S512x512 .f32) (zs : FVec Ideal S512x768 .bf16) (zp : FVec Ideal S512x256 .bf16) (zf : FVec Ideal S512x128 .bf16) : FVec Ideal S512x2432 .bf16 :=
  k0_pay15 (k0_pay5 zc) (k0_pay6 zk) (k0_pay7 zv) (k0_pay8 zs) (k0_pay9 zp) (k0_pay10 zf) (k0_pay11 zq) k0_pay12 (k0_pay13 zk) (k0_pay14 zk)

/-- Its columns. -/
theorem dz_tile (zc : FVec Ideal S512x512 .bf16) (zq zk zv : FVec Ideal S512x512 .f32) (zs : FVec Ideal S512x768 .bf16) (zp : FVec Ideal S512x256 .bf16) (zf : FVec Ideal S512x128 .bf16) (r : Fin 512) (n : Fin 2432) :
    (dzT zc zq zk zv zs zp zf (ix2 r n) : EReal) = joined (fun z => zc (ix2 r z)) (fun z => zq (ix2 r (spot z))) (fun z => zk (ix2 r (spot z))) (fun z => zv (ix2 r (spot z)))
      (fun z => zs (ix2 r z)) (fun z => zp (ix2 r z)) (fun z => zf (ix2 r z)) n := by
  have hn := n.isLt
  unfold dzT k0_pay15 k0_pay5 k0_pay8 k0_pay9 k0_pay10 k0_pay11 k0_pay12 k0_pay13 k0_pay14 k0_pay12 k0_pay6 k0_pay7 joined
  simp only [shapeCast_self]
  split_ifs with h1 h2 h3 h4 h5 h6
  · exact piece_at _ _ r n 0 (by simp) _ (by rfl) 0 (by rfl) (⟨n.val, h1⟩ : Fin 512) (Nat.zero_add _)
  · refine (piece_at _ _ r n 1 (by simp) _ (by rfl) 512 (by rfl) (⟨n.val - 512, by omega⟩ : Fin 768) (show 512 + (n.val - 512) = n.val by omega)).trans ?_
    refine (rounded_at _ _ _).trans ?_
    refine Eq.trans (piece_at _ _ r _ 0 (by simp) _ (by rfl) 0 (by rfl) (⟨n.val - 512, by omega⟩ : Fin 256) (Nat.zero_add _)) ?_
    exact (packed_at (shapeCast S512x512 zq shapeCasts_S512x512_S512x512) _ _ _ _ _ _ _ r _).trans (congrFun (shapeCast_self zq _) _)
  · refine (piece_at _ _ r n 1 (by simp) _ (by rfl) 512 (by rfl) (⟨n.val - 512, by omega⟩ : Fin 768) (show 512 + (n.val - 512) = n.val by omega)).trans ?_
    refine (rounded_at _ _ _).trans ?_
    refine (piece_at _ _ r _ 1 (by simp) _ (by rfl) 256 (by rfl) (⟨n.val - 768, by omega⟩ : Fin 256) (show 256 + (n.val - 768) = n.val - 512 by omega)).trans ?_
    exact (packed_at (shapeCast S512x512 zk shapeCasts_S512x512_S512x512) _ _ _ _ _ _ _ r _).trans (congrFun (shapeCast_self zk _) _)
  · refine (piece_at _ _ r n 1 (by simp) _ (by rfl) 512 (by rfl) (⟨n.val - 512, by omega⟩ : Fin 768) (show 512 + (n.val - 512) = n.val by omega)).trans ?_
    refine (rounded_at _ _ _).trans ?_
    refine (piece_at _ _ r _ 2 (by simp) _ (by rfl) 512 (by rfl) (⟨n.val - 1024, by omega⟩ : Fin 256) (show 512 + (n.val - 1024) = n.val - 512 by omega)).trans ?_
    exact (packed_at (shapeCast S512x512 zv shapeCasts_S512x512_S512x512) _ _ _ _ _ _ _ r _).trans (congrFun (shapeCast_self zv _) _)
  · exact piece_at _ _ r n 2 (by simp) _ (by rfl) 1280 (by rfl) (⟨n.val - 1280, by omega⟩ : Fin 768) (show 1280 + (n.val - 1280) = n.val by omega)
  · exact piece_at _ _ r n 3 (by simp) _ (by rfl) 2048 (by rfl) (⟨n.val - 2048, by omega⟩ : Fin 256) (show 2048 + (n.val - 2048) = n.val by omega)
  · exact piece_at _ _ r n 4 (by simp) _ (by rfl) 2304 (by rfl) (⟨n.val - 2304, by omega⟩ : Fin 128) (show 2304 + (n.val - 2304) = n.val by omega)

/-! ## What the kernel computes of one tile -/

/-- Rows against rows, at an index. -/
theorem dot_at (x : FVec Ideal S512x2432 .bf16) (y : FVec Ideal S1024x2432 .bf16) (r : Fin 512) (k : Fin 1024) :
    matmul (F := Ideal) dot_S512x2432_S1024x2432_S512x1024_1_1_0_0_n_n none x y (constant S512x1024 .f32 0x00000000#32) (ix2 r k)
      = ∑ j : Fin 2432, (x (ix2 r j) : EReal) * y (ix2 k j) := by
  simp only [matmul]
  rw [Ideal.matmul_constant_zero_apply, ← Equiv.sum_comp (contrEquiv1 dot_S512x2432_S1024x2432_S512x1024_1_1_0_0_n_n 2432 rfl rfl).symm]
  refine Finset.sum_congr rfl fun q _ => ?_
  have hq := contrEquiv1_symm_val dot_S512x2432_S1024x2432_S512x1024_1_1_0_0_n_n 2432 rfl rfl q
  have el : dot_S512x2432_S1024x2432_S512x1024_1_1_0_0_n_n.lhsIdx (ix2 r k) ((contrEquiv1 dot_S512x2432_S1024x2432_S512x1024_1_1_0_0_n_n 2432 rfl rfl).symm q) = ix2 r q :=
    funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans hq)
  have er : dot_S512x2432_S1024x2432_S512x1024_1_1_0_0_n_n.rhsIdx (ix2 r k) ((contrEquiv1 dot_S512x2432_S1024x2432_S512x1024_1_1_0_0_n_n 2432 rfl rfl).symm q) = ix2 k q :=
    funext fun z => Fin.ext (match z with
      | ⟨0, _⟩ => by unfold DotDims.rhsIdx; rw [dif_neg (by decide +revert), dif_pos (by decide +revert)]; rfl
      | ⟨1, _⟩ => (DotDims.rhsIdx_val_of_single _ rfl _ _).trans hq)
  rw [el, er]

/-- The gradient of the normalised rows. -/
theorem prod_tile (v3 : FVec Ideal S512x512 .bf16) (v7 v9 : FVec Ideal S512x512 .f32) (v11 : FVec Ideal S512x768 .bf16) (v13 : FVec Ideal S512x256 .bf16) (v15 : FVec Ideal S512x128 .bf16) (v27 : FVec Ideal S512x256 .f32) (v30 : IVec S512x128 1) (v34 v35 : FVec Ideal S512x128 .f32) (w : FVec Ideal S1024x2432 .bf16) (r : Fin 512) (j : Fin 1024) :
    (k0_pay16 (F := Ideal) v3 v7 v9 v11 v13 v15 v27 v30 v34 v35 w (ix2 r j) : EReal) = ∑ k : Fin 2432, (k0_pay15 (F := Ideal) v3 v7 v9 v11 v13 v15 v27 v30 v34 v35 (ix2 r k) : EReal) * w (ix2 j k) := by
  unfold k0_pay16
  simp only [shapeCast_self]
  exact dot_at _ w r j

/-- The size of each row. -/
theorem size_tile (x : FVec Ideal S512x1024 .f32) (r : Fin 512) : (k0_pay17 (F := Ideal) x (ix2 r 0) : EReal) = size fun i => x (ix2 r i) := by
  unfold k0_pay17
  exact size_at x _ _ _ _ r

/-- The normalised rows. -/
theorem norm_tile (x : FVec Ideal S512x1024 .f32) (r : Fin 512) (j : Fin 1024) :
    (k0_pay18 (F := Ideal) x (ix2 r j) : EReal) = (x (ix2 r j) : EReal) * size fun i => x (ix2 r i) := by
  unfold k0_pay18
  rw [mulf_apply, spread_col _ _ (by decide), size_tile]

/-- The normalised rows times the gains. -/
theorem hand_tile (x : FVec Ideal S512x1024 .f32) (g : FVec Ideal S1x1024 .f32) (r : Fin 512) (j : Fin 1024) :
    (k0_pay2 (F := Ideal) x g (ix2 r j) : EReal) = ((x (ix2 r j) : EReal) * size fun i => x (ix2 r i)) * g (ix2 0 j) := by
  unfold k0_pay2
  simp only [shapeCast_self]
  rw [truncf_apply, mulf_apply, mulf_apply, spread_row _ _ (by decide), spread_col _ _ (by decide)]
  exact congrArg (fun z : EReal => ((x (ix2 r j) : EReal) * z) * g (ix2 0 j)) (size_at x _ _ _ _ r)

/-- The tile's part of the normalisation's own gradient. -/
theorem scale_tile (x : FVec Ideal S512x1024 .f32) (v3 : FVec Ideal S512x512 .bf16) (v7 v9 : FVec Ideal S512x512 .f32) (v11 : FVec Ideal S512x768 .bf16) (v13 : FVec Ideal S512x256 .bf16) (v15 : FVec Ideal S512x128 .bf16) (v27 : FVec Ideal S512x256 .f32) (v30 : IVec S512x128 1) (v34 v35 : FVec Ideal S512x128 .f32) (w : FVec Ideal S1024x2432 .bf16) (j : Fin 1024) :
    (k0_pay19 (F := Ideal) x v3 v7 v9 v11 v13 v15 v27 v30 v34 v35 w (ix2 0 j) : EReal)
      = ∑ r : Fin 512, (∑ k : Fin 2432, (k0_pay15 (F := Ideal) v3 v7 v9 v11 v13 v15 v27 v30 v34 v35 (ix2 r k) : EReal) * w (ix2 j k)) * ((x (ix2 r j) : EReal) * size fun i => x (ix2 r i)) := by
  unfold k0_pay19
  refine (as_row _ _ j).trans ((col_sum _ _ _ _ j).trans (Finset.sum_congr rfl fun r _ => ?_))
  rw [mulf_apply, norm_tile, prod_tile]

/-- The incoming gradient of a normalised row. -/
theorem in_at (v3 : FVec Ideal S512x512 .bf16) (v7 v9 : FVec Ideal S512x512 .f32) (v11 : FVec Ideal S512x768 .bf16) (v13 : FVec Ideal S512x256 .bf16) (v15 : FVec Ideal S512x128 .bf16) (v27 : FVec Ideal S512x256 .f32) (v30 : IVec S512x128 1) (v34 v35 : FVec Ideal S512x128 .f32) (w : FVec Ideal S1024x2432 .bf16) (g : FVec Ideal S1x1024 .f32) (r : Fin 512) (j : Fin 1024) :
    (k0_pay20 (F := Ideal) v3 v7 v9 v11 v13 v15 v27 v30 v34 v35 w g (ix2 r j) : EReal) = (∑ k : Fin 2432, (k0_pay15 (F := Ideal) v3 v7 v9 v11 v13 v15 v27 v30 v34 v35 (ix2 r k) : EReal) * w (ix2 j k)) * g (ix2 0 j) := by
  unfold k0_pay20
  simp only [shapeCast_self]
  rw [mulf_apply, spread_row _ _ (by decide), prod_tile]

/-- The mean of its products with the normalised row. -/
theorem mean_tile (x : FVec Ideal S512x1024 .f32) (v3 : FVec Ideal S512x512 .bf16) (v7 v9 : FVec Ideal S512x512 .f32) (v11 : FVec Ideal S512x768 .bf16) (v13 : FVec Ideal S512x256 .bf16) (v15 : FVec Ideal S512x128 .bf16) (v27 : FVec Ideal S512x256 .f32) (v30 : IVec S512x128 1) (v34 v35 : FVec Ideal S512x128 .f32) (w : FVec Ideal S1024x2432 .bf16) (g : FVec Ideal S1x1024 .f32) (r : Fin 512) (j : Fin 1024) :
    (k0_pay21 (F := Ideal) x v3 v7 v9 v11 v13 v15 v27 v30 v34 v35 w g (ix2 r j) : EReal)
      = Ideal.div (∑ i : Fin 1024, ((∑ k : Fin 2432, (k0_pay15 (F := Ideal) v3 v7 v9 v11 v13 v15 v27 v30 v34 v35 (ix2 r k) : EReal) * w (ix2 i k)) * g (ix2 0 i)) * ((x (ix2 r i) : EReal) * size fun i => x (ix2 r i))) (Ideal.ofBits .f32 0x44800000#32) := by
  unfold k0_pay21
  rw [spread_col _ _ (by decide)]
  refine congrArg (fun z : EReal => Ideal.div z (Ideal.ofBits .f32 0x44800000#32)) ((as_col _ _ r).trans ((row_sum _ _ _ _ r).trans (Finset.sum_congr rfl fun i _ => ?_)))
  rw [mulf_apply, norm_tile, in_at]

/-- The gradient of the stream. -/
theorem pull_tile (y x : FVec Ideal S512x1024 .f32) (v3 : FVec Ideal S512x512 .bf16) (v7 v9 : FVec Ideal S512x512 .f32) (v11 : FVec Ideal S512x768 .bf16) (v13 : FVec Ideal S512x256 .bf16) (v15 : FVec Ideal S512x128 .bf16) (v27 : FVec Ideal S512x256 .f32) (v30 : IVec S512x128 1) (v34 v35 : FVec Ideal S512x128 .f32) (w : FVec Ideal S1024x2432 .bf16) (g : FVec Ideal S1x1024 .f32) (r : Fin 512) (j : Fin 1024) :
    (k0_pay1 (F := Ideal) y (k0_pay17 x) (k0_pay18 x) (k0_pay20 v3 v7 v9 v11 v13 v15 v27 v30 v34 v35 w g) (k0_pay21 x v3 v7 v9 v11 v13 v15 v27 v30 v34 v35 w g) (ix2 r j) : EReal)
      = (y (ix2 r j) : EReal) + pull (fun i => x (ix2 r i)) (fun i => (∑ k : Fin 2432, (k0_pay15 (F := Ideal) v3 v7 v9 v11 v13 v15 v27 v30 v34 v35 (ix2 r k) : EReal) * w (ix2 i k)) * g (ix2 0 i)) j := by
  unfold k0_pay1
  rw [addf_apply, mulf_apply, spread_col _ _ (by decide), size_tile, subf_apply, mulf_apply, norm_tile, in_at, mean_tile]
  rfl

/-- What a point leaves of the stream's gradient. -/
def dxT (y x : FVec Ideal S512x1024 .f32) (zc : FVec Ideal S512x512 .bf16) (zq zk zv : FVec Ideal S512x512 .f32) (zs : FVec Ideal S512x768 .bf16) (zp : FVec Ideal S512x256 .bf16) (zf : FVec Ideal S512x128 .bf16) (g : FVec Ideal S1x1024 .f32) (w : FVec Ideal S1024x2432 .bf16) : FVec Ideal S512x1024 .f32 :=
  k0_pay1 y (k0_pay17 x) (k0_pay18 x) (k0_pay20 (k0_pay5 zc) (k0_pay6 zk) (k0_pay7 zv) (k0_pay8 zs) (k0_pay9 zp) (k0_pay10 zf) (k0_pay11 zq) k0_pay12 (k0_pay13 zk) (k0_pay14 zk) w g) (k0_pay21 x (k0_pay5 zc) (k0_pay6 zk) (k0_pay7 zv) (k0_pay8 zs) (k0_pay9 zp) (k0_pay10 zf) (k0_pay11 zq) k0_pay12 (k0_pay13 zk) (k0_pay14 zk) w g)

/-- What a point adds to the normalisation's own gradient. -/
def dgT (x : FVec Ideal S512x1024 .f32) (zc : FVec Ideal S512x512 .bf16) (zq zk zv : FVec Ideal S512x512 .f32) (zs : FVec Ideal S512x768 .bf16) (zp : FVec Ideal S512x256 .bf16) (zf : FVec Ideal S512x128 .bf16) (w : FVec Ideal S1024x2432 .bf16) : FVec Ideal S1x1024 .f32 :=
  k0_pay19 x (k0_pay5 zc) (k0_pay6 zk) (k0_pay7 zv) (k0_pay8 zs) (k0_pay9 zp) (k0_pay10 zf) (k0_pay11 zq) k0_pay12 (k0_pay13 zk) (k0_pay14 zk) w

/-! ## What the body leaves -/

section

variable (c : Dev nD) (i : grid0.Coords) (a1 : Memref sig .tc .vmem S512x1024 .f32) (h1 : a1.IsWhole) (a2 : Memref sig .tc .vmem S512x1024 .f32) (h2 : a2.IsWhole) (a3 : Memref sig .tc .vmem S512x512 .bf16) (h3 : a3.IsWhole) (a4 : Memref sig .tc .vmem S512x512 .f32) (h4 : a4.IsWhole) (a5 : Memref sig .tc .vmem S512x512 .f32) (h5 : a5.IsWhole) (a6 : Memref sig .tc .vmem S512x512 .f32) (h6 : a6.IsWhole) (a7 : Memref sig .tc .vmem S512x768 .bf16) (h7 : a7.IsWhole) (a8 : Memref sig .tc .vmem S512x256 .bf16) (h8 : a8.IsWhole) (a9 : Memref sig .tc .vmem S512x128 .bf16) (h9 : a9.IsWhole) (a10 : Memref sig .tc .vmem S1x1024 .f32) (h10 : a10.IsWhole) (a11 : Memref sig .tc .vmem S1024x2432 .bf16) (h11 : a11.IsWhole) (a12 : Memref sig .tc .vmem S512x1024 .f32) (h12 : a12.IsWhole) (a13 : Memref sig .tc .vmem S512x1024 .bf16) (h13 : a13.IsWhole) (a14 : Memref sig .tc .vmem S512x2432 .bf16) (h14 : a14.IsWhole) (a15 : Memref sig .tc .vmem S1x1024 .f32) (h15 : a15.IsWhole)

/-- What the first point leaves. -/
theorem out_A (hc : cond0_0 i)
    (y x : Vec Ideal S512x1024 .f32) (zc : Vec Ideal S512x512 .bf16) (zq zk zv : Vec Ideal S512x512 .f32) (zs : Vec Ideal S512x768 .bf16) (zp : Vec Ideal S512x256 .bf16) (zf : Vec Ideal S512x128 .bf16) (g : Vec Ideal S1x1024 .f32) (w : Vec Ideal S1024x2432 .bf16) :
    out0_A_11 (F := Ideal) c i a1 h1 a2 h2 a3 h3 a4 h4 a5 h5 a6 h6 a7 h7 a8 h8 a9 h9 a10 h10 a11 h11 a12 h12 a13 h13 a14 h14 a15 h15 hc y x zc zq zk zv zs zp zf g w = dxT y x zc zq zk zv zs zp zf g w
    ∧ out0_A_12 (F := Ideal) c i a1 h1 a2 h2 a3 h3 a4 h4 a5 h5 a6 h6 a7 h7 a8 h8 a9 h9 a10 h10 a11 h11 a12 h12 a13 h13 a14 h14 a15 h15 hc y x zc zq zk zv zs zp zf g w = k0_pay2 x g
    ∧ out0_A_13 (F := Ideal) c i a1 h1 a2 h2 a3 h3 a4 h4 a5 h5 a6 h6 a7 h7 a8 h8 a9 h9 a10 h10 a11 h11 a12 h12 a13 h13 a14 h14 a15 h15 hc y x zc zq zk zv zs zp zf g w = dzT zc zq zk zv zs zp zf
    ∧ out0_A_14 (F := Ideal) c i a1 h1 a2 h2 a3 h3 a4 h4 a5 h5 a6 h6 a7 h7 a8 h8 a9 h9 a10 h10 a11 h11 a12 h12 a13 h13 a14 h14 a15 h15 hc y x zc zq zk zv zs zp zf g w = k0_pay4 (dgT x zc zq zk zv zs zp zf w) (k0_pay3 (F := Ideal)) := by
  unfold dxT dzT dgT
  refine ⟨?_, ?_, ?_, ?_⟩
  on_goal 1 => unfold out0_A_11; rw [View.read_writes_eq_canon _ _ _ (cover0_A_11 c i a1 h1 a2 h2 a3 h3 a4 h4 a5 h5 a6 h6 a7 h7 a8 h8 a9 h9 a10 h10 a11 h11 a12 h12 a13 h13 a14 h14 a15 h15 hc y x zc zq zk zv zs zp zf g w)]
  on_goal 2 => unfold out0_A_12; rw [View.read_writes_eq_canon _ _ _ (cover0_A_12 c i a1 h1 a2 h2 a3 h3 a4 h4 a5 h5 a6 h6 a7 h7 a8 h8 a9 h9 a10 h10 a11 h11 a12 h12 a13 h13 a14 h14 a15 h15 hc y x zc zq zk zv zs zp zf g w)]
  on_goal 3 => unfold out0_A_13; rw [View.read_writes_eq_canon _ _ _ (cover0_A_13 c i a1 h1 a2 h2 a3 h3 a4 h4 a5 h5 a6 h6 a7 h7 a8 h8 a9 h9 a10 h10 a11 h11 a12 h12 a13 h13 a14 h14 a15 h15 hc y x zc zq zk zv zs zp zf g w)]
  on_goal 4 => unfold out0_A_14; rw [View.read_writes_eq_canon _ _ _ (cover0_A_14 c i a1 h1 a2 h2 a3 h3 a4 h4 a5 h5 a6 h6 a7 h7 a8 h8 a9 h9 a10 h10 a11 h11 a12 h12 a13 h13 a14 h14 a15 h15 hc y x zc zq zk zv zs zp zf g w)]
  all_goals unfold kernelRun0_A; dsimp only; try sl_unfold_words
  all_goals first | rw [View.canon_unit_zero zero2] | rw [View.canon_cons_unit_zero (S := S1x1024) zero2, View.readCov_unit_zero (S := S1x1024) _ zero2]
  all_goals simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S512x1024) zero2, View.ld_unit_zero (S := S512x512) zero2, View.ld_unit_zero (S := S512x768) zero2, View.ld_unit_zero (S := S512x256) zero2, View.ld_unit_zero (S := S512x128) zero2, View.ld_unit_zero (S := S1x1024) zero2, View.ld_unit_zero (S := S1024x2432) zero2, shapeCast_self]

/-- What a later point leaves. -/
theorem out_B (hc : ¬cond0_0 i)
    (y x : Vec Ideal S512x1024 .f32) (zc : Vec Ideal S512x512 .bf16) (zq zk zv : Vec Ideal S512x512 .f32) (zs : Vec Ideal S512x768 .bf16) (zp : Vec Ideal S512x256 .bf16) (zf : Vec Ideal S512x128 .bf16) (g : Vec Ideal S1x1024 .f32) (w : Vec Ideal S1024x2432 .bf16) (acc : Vec Ideal S1x1024 .f32) :
    out0_B_11 (F := Ideal) c i a1 h1 a2 h2 a3 h3 a4 h4 a5 h5 a6 h6 a7 h7 a8 h8 a9 h9 a10 h10 a11 h11 a12 h12 a13 h13 a14 h14 a15 h15 hc y x zc zq zk zv zs zp zf g w acc = dxT y x zc zq zk zv zs zp zf g w
    ∧ out0_B_12 (F := Ideal) c i a1 h1 a2 h2 a3 h3 a4 h4 a5 h5 a6 h6 a7 h7 a8 h8 a9 h9 a10 h10 a11 h11 a12 h12 a13 h13 a14 h14 a15 h15 hc y x zc zq zk zv zs zp zf g w acc = k0_pay2 x g
    ∧ out0_B_13 (F := Ideal) c i a1 h1 a2 h2 a3 h3 a4 h4 a5 h5 a6 h6 a7 h7 a8 h8 a9 h9 a10 h10 a11 h11 a12 h12 a13 h13 a14 h14 a15 h15 hc y x zc zq zk zv zs zp zf g w acc = dzT zc zq zk zv zs zp zf
    ∧ out0_B_14 (F := Ideal) c i a1 h1 a2 h2 a3 h3 a4 h4 a5 h5 a6 h6 a7 h7 a8 h8 a9 h9 a10 h10 a11 h11 a12 h12 a13 h13 a14 h14 a15 h15 hc y x zc zq zk zv zs zp zf g w acc = k0_pay4 (dgT x zc zq zk zv zs zp zf w) acc := by
  unfold dxT dzT dgT
  refine ⟨?_, ?_, ?_, ?_⟩
  on_goal 1 => unfold out0_B_11; rw [View.read_writes_eq_canon _ _ _ (cover0_B_11 c i a1 h1 a2 h2 a3 h3 a4 h4 a5 h5 a6 h6 a7 h7 a8 h8 a9 h9 a10 h10 a11 h11 a12 h12 a13 h13 a14 h14 a15 h15 hc y x zc zq zk zv zs zp zf g w acc)]
  on_goal 2 => unfold out0_B_12; rw [View.read_writes_eq_canon _ _ _ (cover0_B_12 c i a1 h1 a2 h2 a3 h3 a4 h4 a5 h5 a6 h6 a7 h7 a8 h8 a9 h9 a10 h10 a11 h11 a12 h12 a13 h13 a14 h14 a15 h15 hc y x zc zq zk zv zs zp zf g w acc)]
  on_goal 3 => unfold out0_B_13; rw [View.read_writes_eq_canon _ _ _ (cover0_B_13 c i a1 h1 a2 h2 a3 h3 a4 h4 a5 h5 a6 h6 a7 h7 a8 h8 a9 h9 a10 h10 a11 h11 a12 h12 a13 h13 a14 h14 a15 h15 hc y x zc zq zk zv zs zp zf g w acc)]
  on_goal 4 => unfold out0_B_14; rw [View.read_writes_eq_canon _ _ _ (cover0_B_14 c i a1 h1 a2 h2 a3 h3 a4 h4 a5 h5 a6 h6 a7 h7 a8 h8 a9 h9 a10 h10 a11 h11 a12 h12 a13 h13 a14 h14 a15 h15 hc y x zc zq zk zv zs zp zf g w acc)]
  all_goals unfold kernelRun0_B; dsimp only; try sl_unfold_words
  all_goals rw [View.canon_unit_zero zero2]
  all_goals simp only [View.readAt_eq_ld, h1.read_unread, h2.read_unread, h3.read_unread, h4.read_unread, h5.read_unread, h6.read_unread, h7.read_unread, h8.read_unread, h9.read_unread, h10.read_unread, h11.read_unread, h15.read_unread, View.ld_unit_zero (S := S512x1024) zero2, View.ld_unit_zero (S := S512x512) zero2, View.ld_unit_zero (S := S512x768) zero2, View.ld_unit_zero (S := S512x256) zero2, View.ld_unit_zero (S := S512x128) zero2, View.ld_unit_zero (S := S1x1024) zero2, View.ld_unit_zero (S := S1024x2432) zero2, shapeCast_self]

end

/-! ## The grid -/

/-- Where the blocks of the stream's gradient lie. -/
theorem index0 : ∀ t : Fin cfg0.N, win0_0.index t 0 = t.val ∧ win0_0.index t 1 = 0 := by decide +kernel
/-- Where the blocks of the rows lie. -/
theorem index1 : ∀ t : Fin cfg0.N, win0_1.index t 0 = t.val ∧ win0_1.index t 1 = 0 := by decide +kernel
/-- Where the blocks of the first mixer's gradient lie. -/
theorem index2 : ∀ t : Fin cfg0.N, win0_2.index t 0 = t.val ∧ win0_2.index t 1 = 0 := by decide +kernel
/-- Where the blocks of the queries' gradient lie. -/
theorem index3 : ∀ t : Fin cfg0.N, win0_3.index t 0 = t.val ∧ win0_3.index t 1 = 0 := by decide +kernel
/-- Where the blocks of the keys' gradient lie. -/
theorem index4 : ∀ t : Fin cfg0.N, win0_4.index t 0 = t.val ∧ win0_4.index t 1 = 0 := by decide +kernel
/-- Where the blocks of the values' gradient lie. -/
theorem index5 : ∀ t : Fin cfg0.N, win0_5.index t 0 = t.val ∧ win0_5.index t 1 = 0 := by decide +kernel
/-- Where the blocks of the scans' gradient lie. -/
theorem index6 : ∀ t : Fin cfg0.N, win0_6.index t 0 = t.val ∧ win0_6.index t 1 = 0 := by decide +kernel
/-- Where the blocks of the pooling's gradient lie. -/
theorem index7 : ∀ t : Fin cfg0.N, win0_7.index t 0 = t.val ∧ win0_7.index t 1 = 0 := by decide +kernel
/-- Where the blocks of the gates' gradient lie. -/
theorem index8 : ∀ t : Fin cfg0.N, win0_8.index t 0 = t.val ∧ win0_8.index t 1 = 0 := by decide +kernel
/-- Where the blocks of the gains lie. -/
theorem index9 : ∀ t : Fin cfg0.N, win0_9.index t 0 = 0 ∧ win0_9.index t 1 = 0 := by decide +kernel
/-- Where the blocks of the weight lie. -/
theorem index10 : ∀ t : Fin cfg0.N, win0_10.index t 0 = 0 ∧ win0_10.index t 1 = 0 := by decide +kernel
/-- Where the blocks of the first result lie. -/
theorem index11 : ∀ t : Fin cfg0.N, win0_11.index t 0 = t.val ∧ win0_11.index t 1 = 0 := by decide +kernel
/-- Where the blocks of the second result lie. -/
theorem index12 : ∀ t : Fin cfg0.N, win0_12.index t 0 = t.val ∧ win0_12.index t 1 = 0 := by decide +kernel
/-- Where the blocks of the third result lie. -/
theorem index13 : ∀ t : Fin cfg0.N, win0_13.index t 0 = t.val ∧ win0_13.index t 1 = 0 := by decide +kernel
/-- Where the blocks of the fourth result lie. -/
theorem index14 : ∀ t : Fin cfg0.N, win0_14.index t 0 = 0 ∧ win0_14.index t 1 = 0 := by decide +kernel

/-- A grid point is one of sixteen. -/
theorem point_lt (t : Fin cfg0.N) : t.val < 16 := Nat.lt_of_lt_of_eq t.isLt N_0

/-- The row of the arrays in row `r` of a point's tiles. -/
def row (t : Fin cfg0.N) (r : Fin 512) : Fin 8192 := ⟨512 * t.val + r.val, by have := r.isLt; have := point_lt t; omega⟩

/-- Every row is in some point's tile. -/
theorem reached (i : Fin 8192) : ∃ (t : Fin cfg0.N) (r : Fin 512), row t r = i := by
  have hi := i.isLt
  exact ⟨⟨i.val / 512, by rw [show cfg0.N = 16 from N_0]; omega⟩, ⟨i.val % 512, Nat.mod_lt _ (by decide)⟩, Fin.ext (show 512 * (i.val / 512) + i.val % 512 = i.val by omega)⟩

/-- A tile's index, from its two coordinates. -/
theorem place_of {C : ℕ} {y : (⟨2, ![8192, C]⟩ : Shape).Idx} {a b : ℕ} (t : Fin cfg0.N) (r : Fin 512) (k : Fin C) (h0 : (y 0).val = a * 512 + r.val) (h1 : (y 1).val = b * C + k.val) (h : a = t.val ∧ b = 0) :
    y = ix2 (row t r) k := funext fun z => Fin.ext (match z with
    | ⟨0, _⟩ => h0.trans (by rw [h.1]; exact (by omega : t.val * 512 + r.val = 512 * t.val + r.val))
    | ⟨1, _⟩ => h1.trans (by rw [h.2, Nat.zero_mul, Nat.zero_add]))

variable (m : (ℓ : Loc nD τ sig) → Buf (Elt Ideal) ℓ) (c : Dev nD)

/-- The stream's gradient as the region finds it. -/
def dhA : Vec Ideal S8192x1024 .f32 := V m c main_arg10
/-- The rows as the region finds them. -/
def hA : Vec Ideal S8192x1024 .f32 := V m c main_arg0
/-- The first mixer's gradient as the region finds it. -/
def zcA : Vec Ideal S8192x512 .bf16 := V m c main_v3
/-- The queries' gradient as the region finds it. -/
def zqA : Vec Ideal S8192x512 .f32 := V m c main_v7
/-- The keys' gradient as the region finds it. -/
def zkA : Vec Ideal S8192x512 .f32 := V m c main_v11
/-- The values' gradient as the region finds it. -/
def zvA : Vec Ideal S8192x512 .f32 := V m c main_v15
/-- The scans' gradient as the region finds it. -/
def zsA : Vec Ideal S8192x768 .bf16 := V m c main_v16
/-- The pooling's gradient as the region finds it. -/
def zpA : Vec Ideal S8192x256 .bf16 := V m c main_v17
/-- The gates' gradient as the region finds it. -/
def zfA : Vec Ideal S8192x128 .bf16 := V m c main_v2
/-- The gains as the region finds them. -/
def gA : Vec Ideal S1x1024 .f32 := V m c main_v18
/-- The weight as the region finds it. -/
def wA : Vec Ideal S1024x2432 .bf16 := V m c main_v24

/-- The block of the stream's gradient. -/
def y0 (t : Fin cfg0.N) : Vec Ideal S512x1024 .f32 := iblk m c 0 t
/-- The block of the rows. -/
def x0 (t : Fin cfg0.N) : Vec Ideal S512x1024 .f32 := iblk m c 1 t
/-- The block of the first mixer's gradient. -/
def zc0 (t : Fin cfg0.N) : Vec Ideal S512x512 .bf16 := iblk m c 2 t
/-- The block of the queries' gradient. -/
def zq0 (t : Fin cfg0.N) : Vec Ideal S512x512 .f32 := iblk m c 3 t
/-- The block of the keys' gradient. -/
def zk0 (t : Fin cfg0.N) : Vec Ideal S512x512 .f32 := iblk m c 4 t
/-- The block of the values' gradient. -/
def zv0 (t : Fin cfg0.N) : Vec Ideal S512x512 .f32 := iblk m c 5 t
/-- The block of the scans' gradient. -/
def zs0 (t : Fin cfg0.N) : Vec Ideal S512x768 .bf16 := iblk m c 6 t
/-- The block of the pooling's gradient. -/
def zp0 (t : Fin cfg0.N) : Vec Ideal S512x256 .bf16 := iblk m c 7 t
/-- The block of the gates' gradient. -/
def zf0 (t : Fin cfg0.N) : Vec Ideal S512x128 .bf16 := iblk m c 8 t
/-- The block of the gains. -/
def g0 (t : Fin cfg0.N) : Vec Ideal S1x1024 .f32 := iblk m c 9 t
/-- The block of the weight. -/
def w0 (t : Fin cfg0.N) : Vec Ideal S1024x2432 .bf16 := iblk m c 10 t

/-- What a block of the stream's gradient holds. -/
theorem block0 (t : Fin cfg0.N) (r : Fin 512) (j : Fin 1024) : y0 m c t (ix2 r j) = dhA m c (ix2 (row t r) j) :=
  congrArg (dhA m c) (show (win0_0.rect t).emb (ix2 r j) = ix2 (row t r) j from place_of t r j (Window.rect_emb_val win0_0 t (ix2 r j) 0) (Window.rect_emb_val win0_0 t (ix2 r j) 1) (index0 t))

/-- What a block of the rows holds. -/
theorem block1 (t : Fin cfg0.N) (r : Fin 512) (j : Fin 1024) : x0 m c t (ix2 r j) = hA m c (ix2 (row t r) j) :=
  congrArg (hA m c) (show (win0_1.rect t).emb (ix2 r j) = ix2 (row t r) j from place_of t r j (Window.rect_emb_val win0_1 t (ix2 r j) 0) (Window.rect_emb_val win0_1 t (ix2 r j) 1) (index1 t))

/-- What a block of the first mixer's gradient holds. -/
theorem block2 (t : Fin cfg0.N) (r : Fin 512) (j : Fin 512) : zc0 m c t (ix2 r j) = zcA m c (ix2 (row t r) j) :=
  congrArg (zcA m c) (show (win0_2.rect t).emb (ix2 r j) = ix2 (row t r) j from place_of t r j (Window.rect_emb_val win0_2 t (ix2 r j) 0) (Window.rect_emb_val win0_2 t (ix2 r j) 1) (index2 t))

/-- What a block of the queries' gradient holds. -/
theorem block3 (t : Fin cfg0.N) (r : Fin 512) (j : Fin 512) : zq0 m c t (ix2 r j) = zqA m c (ix2 (row t r) j) :=
  congrArg (zqA m c) (show (win0_3.rect t).emb (ix2 r j) = ix2 (row t r) j from place_of t r j (Window.rect_emb_val win0_3 t (ix2 r j) 0) (Window.rect_emb_val win0_3 t (ix2 r j) 1) (index3 t))

/-- What a block of the keys' gradient holds. -/
theorem block4 (t : Fin cfg0.N) (r : Fin 512) (j : Fin 512) : zk0 m c t (ix2 r j) = zkA m c (ix2 (row t r) j) :=
  congrArg (zkA m c) (show (win0_4.rect t).emb (ix2 r j) = ix2 (row t r) j from place_of t r j (Window.rect_emb_val win0_4 t (ix2 r j) 0) (Window.rect_emb_val win0_4 t (ix2 r j) 1) (index4 t))

/-- What a block of the values' gradient holds. -/
theorem block5 (t : Fin cfg0.N) (r : Fin 512) (j : Fin 512) : zv0 m c t (ix2 r j) = zvA m c (ix2 (row t r) j) :=
  congrArg (zvA m c) (show (win0_5.rect t).emb (ix2 r j) = ix2 (row t r) j from place_of t r j (Window.rect_emb_val win0_5 t (ix2 r j) 0) (Window.rect_emb_val win0_5 t (ix2 r j) 1) (index5 t))

/-- What a block of the scans' gradient holds. -/
theorem block6 (t : Fin cfg0.N) (r : Fin 512) (j : Fin 768) : zs0 m c t (ix2 r j) = zsA m c (ix2 (row t r) j) :=
  congrArg (zsA m c) (show (win0_6.rect t).emb (ix2 r j) = ix2 (row t r) j from place_of t r j (Window.rect_emb_val win0_6 t (ix2 r j) 0) (Window.rect_emb_val win0_6 t (ix2 r j) 1) (index6 t))

/-- What a block of the pooling's gradient holds. -/
theorem block7 (t : Fin cfg0.N) (r : Fin 512) (j : Fin 256) : zp0 m c t (ix2 r j) = zpA m c (ix2 (row t r) j) :=
  congrArg (zpA m c) (show (win0_7.rect t).emb (ix2 r j) = ix2 (row t r) j from place_of t r j (Window.rect_emb_val win0_7 t (ix2 r j) 0) (Window.rect_emb_val win0_7 t (ix2 r j) 1) (index7 t))

/-- What a block of the gates' gradient holds. -/
theorem block8 (t : Fin cfg0.N) (r : Fin 512) (j : Fin 128) : zf0 m c t (ix2 r j) = zfA m c (ix2 (row t r) j) :=
  congrArg (zfA m c) (show (win0_8.rect t).emb (ix2 r j) = ix2 (row t r) j from place_of t r j (Window.rect_emb_val win0_8 t (ix2 r j) 0) (Window.rect_emb_val win0_8 t (ix2 r j) 1) (index8 t))

/-- What the block of the gains holds. -/
theorem block9 (t : Fin cfg0.N) (r : Fin 1) (j : Fin 1024) : g0 m c t (ix2 r j) = gA m c (ix2 r j) :=
  congrArg (gA m c) (show (win0_9.rect t).emb (ix2 r j) = ix2 r j from funext fun a => Fin.ext (match a with
    | ⟨0, _⟩ => (Window.rect_emb_val win0_9 t (ix2 r j) 0).trans (by rw [(index9 t).1]; show 0 * 1 + r.val = r.val; omega)
    | ⟨1, _⟩ => (Window.rect_emb_val win0_9 t (ix2 r j) 1).trans (by rw [(index9 t).2]; show 0 * 1024 + j.val = j.val; omega)))

/-- What the block of the weight holds. -/
theorem block10 (t : Fin cfg0.N) (r : Fin 1024) (j : Fin 2432) : w0 m c t (ix2 r j) = wA m c (ix2 r j) :=
  congrArg (wA m c) (show (win0_10.rect t).emb (ix2 r j) = ix2 r j from funext fun a => Fin.ext (match a with
    | ⟨0, _⟩ => (Window.rect_emb_val win0_10 t (ix2 r j) 0).trans (by rw [(index10 t).1]; show 0 * 1024 + r.val = r.val; omega)
    | ⟨1, _⟩ => (Window.rect_emb_val win0_10 t (ix2 r j) 1).trans (by rw [(index10 t).2]; show 0 * 2432 + j.val = j.val; omega)))

/-- Where a point writes its tile of the first result. -/
theorem emb11 (t : Fin cfg0.N) (r : Fin 512) (j : Fin 1024) : (win0_11.rect t).emb (ix2 r j) = ix2 (row t r) j := place_of t r j (Window.rect_emb_val win0_11 t (ix2 r j) 0) (Window.rect_emb_val win0_11 t (ix2 r j) 1) (index11 t)

/-- Where a point writes its tile of the second result. -/
theorem emb12 (t : Fin cfg0.N) (r : Fin 512) (j : Fin 1024) : (win0_12.rect t).emb (ix2 r j) = ix2 (row t r) j := place_of t r j (Window.rect_emb_val win0_12 t (ix2 r j) 0) (Window.rect_emb_val win0_12 t (ix2 r j) 1) (index12 t)

/-- Where a point writes its tile of the third result. -/
theorem emb13 (t : Fin cfg0.N) (r : Fin 512) (j : Fin 2432) : (win0_13.rect t).emb (ix2 r j) = ix2 (row t r) j := place_of t r j (Window.rect_emb_val win0_13 t (ix2 r j) 0) (Window.rect_emb_val win0_13 t (ix2 r j) 1) (index13 t)

/-- Where the fourth result is written. -/
theorem emb14 (t : Fin cfg0.N) (j : Fin 1024) : (win0_14.rect t).emb (ix2 0 j) = ix2 0 j := funext fun a => Fin.ext (match a with
    | ⟨0, _⟩ => (Window.rect_emb_val win0_14 t (ix2 0 j) 0).trans (by rw [(index14 t).1]; rfl)
    | ⟨1, _⟩ => (Window.rect_emb_val win0_14 t (ix2 0 j) 1).trans (by rw [(index14 t).2]; show 0 * 1024 + j.val = j.val; omega))

/-! ## The four results -/

/-- One row of the stream. -/
def hRow (i : Fin 8192) (j : Fin 1024) : EReal := hA m c (ix2 i j)
/-- One element of the gradient put together. -/
def dzAt (i : Fin 8192) (n : Fin 2432) : EReal :=
  joined (fun z => zcA m c (ix2 i z)) (fun z => zqA m c (ix2 i (spot z))) (fun z => zkA m c (ix2 i (spot z))) (fun z => zvA m c (ix2 i (spot z)))
    (fun z => zsA m c (ix2 i z)) (fun z => zpA m c (ix2 i z)) (fun z => zfA m c (ix2 i z)) n
/-- The gradient of one element of the normalised rows. -/
def prodAt (i : Fin 8192) (j : Fin 1024) : EReal := ∑ n : Fin 2432, dzAt m c i n * (wA m c (ix2 j n) : EReal)

/-- The incoming gradient of one normalised row. -/
def inRow (i : Fin 8192) (j : Fin 1024) : EReal := prodAt m c i j * gA m c (ix2 0 j)
/-- One row's part of the gradient of a gain. -/
def dgTerm (j : Fin 1024) (i : Fin 8192) : EReal := prodAt m c i j * (hRow m c i j * size (hRow m c i))

/-- One element of the first result. -/
def dxAt (i : Fin 8192) (j : Fin 1024) : EReal := (dhA m c (ix2 i j) : EReal) + pull (hRow m c i) (inRow m c i) j
/-- One element of the second result. -/
def hnAt (i : Fin 8192) (j : Fin 1024) : EReal := (hRow m c i j * size (hRow m c i)) * gA m c (ix2 0 j)

/-- The first result. -/
def dxA : Vec Ideal S8192x1024 .f32 := fun z => dxAt m c (z 0) (z 1)
/-- The second result. -/
def hnA : Vec Ideal S8192x1024 .bf16 := fun z => hnAt m c (z 0) (z 1)
/-- The third result. -/
def dzA : Vec Ideal S8192x2432 .bf16 := fun z => dzAt m c (z 0) (z 1)
/-- The fourth result. -/
def dgA : Vec Ideal S1x1024 .f32 := fun z => ∑ i : Fin 8192, dgTerm m c (z 1) i

/-- A row of a tile is a row of the array. -/
theorem row_tile (t : Fin cfg0.N) (r : Fin 512) : (fun i => (x0 m c t (ix2 r i) : EReal)) = hRow m c (row t r) := funext fun i => block1 m c t r i
/-- So is a row of the gradient put together. -/
theorem dz_row (t : Fin cfg0.N) (r : Fin 512) (n : Fin 2432) : (dzT (zc0 m c t) (zq0 m c t) (zk0 m c t) (zv0 m c t) (zs0 m c t) (zp0 m c t) (zf0 m c t) (ix2 r n) : EReal) = dzAt m c (row t r) n := by
  rw [dz_tile]
  simp only [block2, block3, block4, block5, block6, block7, block8]
  rfl
/-- So is the gradient of the normalised rows. -/
theorem prod_row (t : Fin cfg0.N) (r : Fin 512) (j : Fin 1024) : (∑ k : Fin 2432, (dzT (zc0 m c t) (zq0 m c t) (zk0 m c t) (zv0 m c t) (zs0 m c t) (zp0 m c t) (zf0 m c t) (ix2 r k) : EReal) * w0 m c t (ix2 j k)) = prodAt m c (row t r) j :=
  Finset.sum_congr rfl fun k _ => by rw [dz_row, block10]
/-- And so is the incoming gradient's. -/
theorem in_tile (t : Fin cfg0.N) (r : Fin 512) : (fun i => (∑ k : Fin 2432, (dzT (zc0 m c t) (zq0 m c t) (zk0 m c t) (zv0 m c t) (zs0 m c t) (zp0 m c t) (zf0 m c t) (ix2 r k) : EReal) * w0 m c t (ix2 i k)) * g0 m c t (ix2 0 i)) = inRow m c (row t r) :=
  funext fun i => by rw [prod_row, block9]; rfl

/-- What a point leaves of the first result. -/
theorem after11 (t : Fin cfg0.N) : (outsAt0 m c t.val t.isLt).1 = dxT (y0 m c t) (x0 m c t) (zc0 m c t) (zq0 m c t) (zk0 m c t) (zv0 m c t) (zs0 m c t) (zp0 m c t) (zf0 m c t) (g0 m c t) (w0 m c t) := by
  by_cases h : t.val % 16 = 0
  · rw [outsAt0_A m c t h]; dsimp only; exact (out_A ..).1
  · rw [outsAt0_B m c t h]; dsimp only; exact (out_B ..).1

/-- What a point leaves of the second result. -/
theorem after12 (t : Fin cfg0.N) : (outsAt0 m c t.val t.isLt).2.1 = k0_pay2 (x0 m c t) (g0 m c t) := by
  by_cases h : t.val % 16 = 0
  · rw [outsAt0_A m c t h]; dsimp only; exact (out_A ..).2.1
  · rw [outsAt0_B m c t h]; dsimp only; exact (out_B ..).2.1

/-- What a point leaves of the third result. -/
theorem after13 (t : Fin cfg0.N) : (outsAt0 m c t.val t.isLt).2.2.1 = dzT (zc0 m c t) (zq0 m c t) (zk0 m c t) (zv0 m c t) (zs0 m c t) (zp0 m c t) (zf0 m c t) := by
  by_cases h : t.val % 16 = 0
  · rw [outsAt0_A m c t h]; dsimp only; exact (out_A ..).2.2.1
  · rw [outsAt0_B m c t h]; dsimp only; exact (out_B ..).2.2.1

/-- What a point adds to the fourth result. -/
def dg0 (t : Fin cfg0.N) : FVec Ideal S1x1024 .f32 := dgT (x0 m c t) (zc0 m c t) (zq0 m c t) (zk0 m c t) (zv0 m c t) (zs0 m c t) (zp0 m c t) (zf0 m c t) (w0 m c t)
/-- What the first point leaves of the fourth result. -/
def first14 (n : ℕ) (h : n < cfg0.N) : Vec Ideal S1x1024 .f32 := k0_pay4 (dg0 m c ⟨n, h⟩) (k0_pay3 (F := Ideal))
/-- What a later point leaves of the fourth result. -/
def next14 (n : ℕ) (h : n < cfg0.N) (acc : Vec Ideal S1x1024 .f32) : Vec Ideal S1x1024 .f32 := k0_pay4 (dg0 m c ⟨n, h⟩) acc

/-- What a point leaves of the fourth result. -/
theorem after14 (t : Fin cfg0.N) : (outsAt0 m c t.val t.isLt).2.2.2 = Pipeline.accAt (first14 m c) (next14 m c) (16 * (t.val / 16)) (t.val % 16)
    (by have h1 := t.isLt; have h2 := Nat.div_add_mod t.val 16; omega) :=
  Pipeline.eq_accAt_of_mod (fun n h => (outsAt0 m c n h).2.2.2) 16 (first14 m c) (next14 m c)
    (fun n h hn => by rw [outsAt0_A m c ⟨n, h⟩ hn]; dsimp only; exact (out_A ..).2.2.2)
    (fun n h hn => by rw [outsAt0_B m c ⟨n + 1, h⟩ hn]; dsimp only; exact (out_B ..).2.2.2)
    (by decide) t.val t.isLt _

/-- One point adds its tile's rows. -/
theorem adds (t : Fin cfg0.N) (acc : FVec Ideal S1x1024 .f32) (j : Fin 1024) :
    (k0_pay4 (F := Ideal) (dg0 m c t) acc (ix2 0 j) : EReal) = (acc (ix2 0 j) : EReal) + ∑ r : Fin 512, ext (dgTerm m c j) (512 * t.val + r.val) := by
  unfold k0_pay4
  simp only [shapeCast_self]
  rw [addf_apply]
  refine congrArg ((acc (ix2 0 j) : EReal) + ·) ((scale_tile (x0 m c t) _ _ _ _ _ _ _ _ _ _ (w0 m c t) j).trans (Finset.sum_congr rfl fun r _ => ?_))
  rw [row_tile, block1]
  exact (congrArg (· * (hA m c (ix2 (row t r) j) * size (hRow m c (row t r)))) (prod_row m c t r j)).trans (ext_of (dgTerm m c j) (row t r).val (row t r).isLt).symm

/-- What the run leaves of a gain's gradient. -/
theorem gain_at (t : Fin cfg0.N) (ht : t.val % 16 = 15) (j : Fin 1024) : ((outsAt0 m c t.val t.isLt).2.2.2 (ix2 0 j) : EReal) = ∑ i : Fin 8192, dgTerm m c j i := by
  have hl := point_lt t
  rw [after14]
  have p : ∀ (b n : ℕ) (h : b + n < cfg0.N), b = 0 → n = 15 → (Pipeline.accAt (first14 m c) (next14 m c) b n h (ix2 0 j) : EReal) = ∑ i : Fin 8192, dgTerm m c j i := by
    intro b n h hb hn
    subst hb hn
    refine run_sum_of (first14 m c) (next14 m c) (ix2 0 j) _ 0 512 15 rfl (fun h => ?_) (fun s h acc => ?_) h
    · unfold first14
      refine (adds m c ⟨0, h⟩ _ j).trans ?_
      rw [show (k0_pay3 (F := Ideal) (ix2 0 j) : EReal) = 0 from zero_bits, zero_add]
    · unfold next14
      refine (adds m c ⟨0 + s.val, h⟩ _ j).trans ?_
      simp only [Nat.zero_add]
  exact p _ _ _ (by omega) ht

/-- The first result array after the grid. -/
theorem final11 : (dats m 0 c).arrAt 11 cfg0.N = dxA m c := by
  refine Dat.arrAt_eq_of_cover (dats m 0 c) 11 (dxA m c) (fun t _ => ?_) (fun y => ?_)
  · rw [flushed11, after11]
    refine ext_mat (e := .f32) _ _ fun r j => ?_
    refine (pull_tile (y0 m c t) (x0 m c t) _ _ _ _ _ _ _ _ _ _ (w0 m c t) (g0 m c t) r j).trans ?_
    rw [row_tile, block0]
    exact (congrArg (fun z => (dhA m c (ix2 (row t r) j) : EReal) + pull (hRow m c (row t r)) z j) (in_tile m c t r)).trans (congrArg (dxA m c) (emb11 t r j)).symm
  · obtain ⟨t, r, e⟩ := reached (y 0)
    refine ⟨t, flush0_11 t, ?_⟩
    have hm := ((cfg0.win 11).blk t).view.emb_mem_set (ix2 r (y 1))
    rwa [show ((cfg0.win 11).blk t).view.emb (ix2 r (y 1)) = y from (emb11 t r (y 1)).trans ((congrArg (fun i => ix2 i (y 1)) e).trans (eq_ix2 y).symm)] at hm

/-- The second result array after the grid. -/
theorem final12 : (dats m 0 c).arrAt 12 cfg0.N = hnA m c := by
  refine Dat.arrAt_eq_of_cover (dats m 0 c) 12 (hnA m c) (fun t _ => ?_) (fun y => ?_)
  · rw [flushed12, after12]
    refine ext_mat (e := .bf16) _ _ fun r k => ?_
    refine (hand_tile (x0 m c t) (g0 m c t) r k).trans ?_
    rw [row_tile, block1, block9]
    exact (congrArg (hnA m c) (emb12 t r k)).symm
  · obtain ⟨t, r, e⟩ := reached (y 0)
    refine ⟨t, flush0_12 t, ?_⟩
    have hm := ((cfg0.win 12).blk t).view.emb_mem_set (ix2 r (y 1))
    rwa [show ((cfg0.win 12).blk t).view.emb (ix2 r (y 1)) = y from (emb12 t r (y 1)).trans ((congrArg (fun i => ix2 i (y 1)) e).trans (eq_ix2 y).symm)] at hm

/-- The third result array after the grid. -/
theorem final13 : (dats m 0 c).arrAt 13 cfg0.N = dzA m c := by
  refine Dat.arrAt_eq_of_cover (dats m 0 c) 13 (dzA m c) (fun t _ => ?_) (fun y => ?_)
  · rw [flushed13, after13]
    refine ext_mat (e := .bf16) _ _ fun r k => ?_
    refine (dz_row m c t r k).trans ?_
    exact (congrArg (dzA m c) (emb13 t r k)).symm
  · obtain ⟨t, r, e⟩ := reached (y 0)
    refine ⟨t, flush0_13 t, ?_⟩
    have hm := ((cfg0.win 13).blk t).view.emb_mem_set (ix2 r (y 1))
    rwa [show ((cfg0.win 13).blk t).view.emb (ix2 r (y 1)) = y from (emb13 t r (y 1)).trans ((congrArg (fun i => ix2 i (y 1)) e).trans (eq_ix2 y).symm)] at hm

/-- The one row of a one-row matrix. -/
theorem one_row (i : Fin 1) : i = 0 := Subsingleton.elim _ _

/-- The fourth result array after the grid. -/
theorem final14 : (dats m 0 c).arrAt 14 cfg0.N = dgA m c := by
  refine Dat.arrAt_eq_of_cover (dats m 0 c) 14 (dgA m c) (fun t hf => ?_) (fun y => ?_)
  · rw [flushed14]
    refine ext_mat (e := .f32) _ _ fun r j => ?_
    obtain rfl := one_row r
    exact (gain_at m c t ((flush0_14 t).mp hf) j).trans (congrArg (dgA m c) (emb14 t j)).symm
  · rw [eq_ix2 y, one_row (y 0)]
    generalize y 1 = j
    let t : Fin cfg0.N := ⟨15, by rw [show cfg0.N = 16 from N_0]; decide⟩
    refine ⟨t, (flush0_14 t).mpr rfl, ?_⟩
    have hm := ((cfg0.win 14).blk t).view.emb_mem_set (ix2 0 j)
    rwa [show ((cfg0.win 14).blk t).view.emb (ix2 0 j) = ix2 0 j from emb14 t j] at hm

/-! ## What the region finds -/

/-- The stream's gradient is the argument's. -/
theorem dh_read : dhA m c = m ((c : Thread nD τ).loc main_arg10) := V_main_arg10 m c

/-- The stream is the argument's. -/
theorem h_read : hA m c = m ((c : Thread nD τ).loc main_arg0) := V_main_arg0 m c

/-- The first mixer's gradient is the argument's. -/
theorem zc_read : zcA m c = m ((c : Thread nD τ).loc main_arg3) := by
  unfold zcA
  show StableHlo.after (List.flatten [hostOps0]) (fun b => m (c, b)) (Proc.devRef .tc main_v3) = _
  simp only [hostOps0, List.flatten_cons, List.flatten_nil, List.append_nil, cast_eq]
  after_results_simp
  rfl

/-- The scans' gradient is the argument's. -/
theorem zs_read : zsA m c = m ((c : Thread nD τ).loc main_arg8) := by
  unfold zsA
  show StableHlo.after (List.flatten [hostOps0]) (fun b => m (c, b)) (Proc.devRef .tc main_v16) = _
  simp only [hostOps0, List.flatten_cons, List.flatten_nil, List.append_nil, cast_eq]
  after_results_simp
  rfl

/-- The pooling's gradient is the argument's. -/
theorem zp_read : zpA m c = m ((c : Thread nD τ).loc main_arg9) := by
  unfold zpA
  show StableHlo.after (List.flatten [hostOps0]) (fun b => m (c, b)) (Proc.devRef .tc main_v17) = _
  simp only [hostOps0, List.flatten_cons, List.flatten_nil, List.append_nil, cast_eq]
  after_results_simp
  rfl

/-- The queries' gradient is the argument's, each head in its lanes. -/
theorem zq_read (i : Fin 8192) (z : Fin 256) : (zqA m c (ix2 i (spot z)) : EReal) = (m ((c : Thread nD τ).loc main_arg4) : FVec Ideal S8192x256 .f32) (ix2 i z) := by
  have e : zqA m c = shapeCast S8192x512 (concatenate S8192x4x128 2 [⟨S8192x4x64, shapeCast S8192x4x64 (m ((c : Thread nD τ).loc main_arg4) : FVec Ideal S8192x256 .f32) shapeCasts_S8192x256_S8192x4x64⟩,
      ⟨S8192x4x64, broadcastInDim S8192x4x64 ![] bcast_S_S8192x4x64 (constant (F := Ideal) S_ .f32 0x00000000#32)⟩] concatenates_S8192x4x64_S8192x4x64_S8192x4x128_d2) shapeCasts_S8192x4x128_S8192x512 := by
    unfold zqA
    show StableHlo.after (List.flatten [hostOps0]) (fun b => m (c, b)) (Proc.devRef .tc main_v7) = _
    simp only [hostOps0, List.flatten_cons, List.flatten_nil, List.append_nil, cast_eq]
    after_results_simp
    rfl
  rw [e]
  exact spread_at (m ((c : Thread nD τ).loc main_arg4) : FVec Ideal S8192x256 .f32) _ _ _ _ i z

/-- The keys' gradient is the argument's, each head in its lanes. -/
theorem zk_read (i : Fin 8192) (z : Fin 256) : (zkA m c (ix2 i (spot z)) : EReal) = (m ((c : Thread nD τ).loc main_arg5) : FVec Ideal S8192x256 .f32) (ix2 i z) := by
  have e : zkA m c = shapeCast S8192x512 (concatenate S8192x4x128 2 [⟨S8192x4x64, shapeCast S8192x4x64 (m ((c : Thread nD τ).loc main_arg5) : FVec Ideal S8192x256 .f32) shapeCasts_S8192x256_S8192x4x64⟩,
      ⟨S8192x4x64, broadcastInDim S8192x4x64 ![] bcast_S_S8192x4x64 (constant (F := Ideal) S_ .f32 0x00000000#32)⟩] concatenates_S8192x4x64_S8192x4x64_S8192x4x128_d2) shapeCasts_S8192x4x128_S8192x512 := by
    unfold zkA
    show StableHlo.after (List.flatten [hostOps0]) (fun b => m (c, b)) (Proc.devRef .tc main_v11) = _
    simp only [hostOps0, List.flatten_cons, List.flatten_nil, List.append_nil, cast_eq]
    after_results_simp
    rfl
  rw [e]
  exact spread_at (m ((c : Thread nD τ).loc main_arg5) : FVec Ideal S8192x256 .f32) _ _ _ _ i z

/-- The values' gradient is the argument's, each head in its lanes. -/
theorem zv_read (i : Fin 8192) (z : Fin 256) : (zvA m c (ix2 i (spot z)) : EReal) = (m ((c : Thread nD τ).loc main_arg6) : FVec Ideal S8192x256 .f32) (ix2 i z) := by
  have e : zvA m c = shapeCast S8192x512 (concatenate S8192x4x128 2 [⟨S8192x4x64, shapeCast S8192x4x64 (m ((c : Thread nD τ).loc main_arg6) : FVec Ideal S8192x256 .f32) shapeCasts_S8192x256_S8192x4x64⟩,
      ⟨S8192x4x64, broadcastInDim S8192x4x64 ![] bcast_S_S8192x4x64 (constant (F := Ideal) S_ .f32 0x00000000#32)⟩] concatenates_S8192x4x64_S8192x4x64_S8192x4x128_d2) shapeCasts_S8192x4x128_S8192x512 := by
    unfold zvA
    show StableHlo.after (List.flatten [hostOps0]) (fun b => m (c, b)) (Proc.devRef .tc main_v15) = _
    simp only [hostOps0, List.flatten_cons, List.flatten_nil, List.append_nil, cast_eq]
    after_results_simp
    rfl
  rw [e]
  exact spread_at (m ((c : Thread nD τ).loc main_arg6) : FVec Ideal S8192x256 .f32) _ _ _ _ i z

/-- The gates' gradient is the argument's, with zeros behind it. -/
theorem zf_read (i : Fin 8192) (z : Fin 128) : (zfA m c (ix2 i z) : EReal) = dite (α := EReal) (z.val < 4) (fun h => (m ((c : Thread nD τ).loc main_arg7) : FVec Ideal S8192x4 .f32) (ix2 i ⟨z.val, h⟩)) (fun _ => 0) := by
  have e : zfA m c = concatenate S8192x128 1 [⟨S8192x4, (m ((c : Thread nD τ).loc main_arg7) : FVec Ideal S8192x4 .f32)⟩,
      ⟨S8192x124, broadcastInDim S8192x124 ![] bcast_S_S8192x124 (constant (F := Ideal) S_ .f32 0x00000000#32)⟩] concatenates_S8192x4_S8192x124_S8192x128_d1 := by
    unfold zfA
    show StableHlo.after (List.flatten [hostOps0]) (fun b => m (c, b)) (Proc.devRef .tc main_v2) = _
    simp only [hostOps0, List.flatten_cons, List.flatten_nil, List.append_nil, cast_eq]
    after_results_simp
    rfl
  have hz := z.isLt
  rw [e]
  split_ifs with h
  · exact piece_at _ _ i z 0 (by simp) _ (by rfl) 0 (by rfl) (⟨z.val, h⟩ : Fin 4) (Nat.zero_add _)
  · exact (piece_at _ _ i z 1 (by simp) _ (by rfl) 4 (by rfl) (⟨z.val - 4, by omega⟩ : Fin 124) (show 4 + (z.val - 4) = z.val by omega)).trans zero_bits

/-- The weight's columns are the argument's, in the kernel's order. -/
theorem w_read (j : Fin 1024) (n : Fin 2432) : (wA m c (ix2 j n) : EReal) = inOrder (m ((c : Thread nD τ).loc main_arg2)) j n := by
  have e : wA m c = truncf .bf16 (concatenate S1024x2432 1 [⟨S1024x1280, extractStridedSlice S1024x1280 ![0, 0] (m ((c : Thread nD τ).loc main_arg2)) slices_S1024x2308_S1024x1280_0_0⟩, ⟨S1024x1024, extractStridedSlice S1024x1024 ![0, 1284] (m ((c : Thread nD τ).loc main_arg2)) slices_S1024x2308_S1024x1024_0_1284⟩,
      ⟨S1024x4, extractStridedSlice S1024x4 ![0, 1280] (m ((c : Thread nD τ).loc main_arg2)) slices_S1024x2308_S1024x4_0_1280⟩, ⟨S1024x124, broadcastInDim S1024x124 ![] bcast_S_S1024x124 (constant (F := Ideal) S_ .f32 0x00000000#32)⟩] concatenates_S1024x1280_S1024x1024_S1024x4_S1024x124_S1024x2432_d1) bitsLt_bf16_f32 := by
    unfold wA
    show StableHlo.after (List.flatten [hostOps0]) (fun b => m (c, b)) (Proc.devRef .tc main_v24) = _
    simp only [hostOps0, List.flatten_cons, List.flatten_nil, List.append_nil, cast_eq]
    after_results_simp
    rfl
  rw [e]
  exact inOrder_at (m ((c : Thread nD τ).loc main_arg2)) _ _ _ _ (fun y => zero_bits) concatenates_S1024x1280_S1024x1024_S1024x4_S1024x124_S1024x2432_d1 j n

/-- The gains are the argument's. -/
theorem g_read (j : Fin 1024) : (gA m c (ix2 0 j) : EReal) = (m ((c : Thread nD τ).loc main_arg1) : FVec Ideal S1024 .f32) (ix1 j) := by
  have e : gA m c = Cert.MixInReferenceIdeal.Read.val_main_v14 (F := Ideal) (m ((c : Thread nD τ).loc main_arg1)) := by
    unfold gA
    show StableHlo.after (List.flatten [hostOps0]) (fun b => m (c, b)) (Proc.devRef .tc main_v18) = _
    simp only [hostOps0, List.flatten_cons, List.flatten_nil, List.append_nil, cast_eq]
    after_results_simp
    rfl
  rw [e, Cert.MixInReferenceIdeal.Read.val_main_v14_apply (F := Ideal)]
  exact congrArg _ (funext fun a => Fin.ext (match a with | ⟨0, _⟩ => rfl))

/-! ## The reference -/

section reference

open Cert.MixInReferenceIdeal.Read

variable (h : FVec Ideal S8192x1024 .f32) (g : FVec Ideal S1024 .f32) (w : FVec Ideal S1024x2308 .f32) (zc : FVec Ideal S8192x512 .f32) (zq zk zv : FVec Ideal S8192x256 .f32) (zf : FVec Ideal S8192x4 .f32) (zs : FVec Ideal S8192x768 .f32) (zp : FVec Ideal S8192x256 .f32) (y : FVec Ideal S8192x1024 .f32)

/-- One row of the stream. -/
def refRow (i : Fin 8192) (j : Fin 1024) : EReal := h (ix2 i j)
/-- The gradient of one element of the normalised rows. -/
def refProd (i : Fin 8192) (j : Fin 1024) : EReal := ∑ k : Fin 2308, (val_main_v0 (F := Ideal) zc zq zk zv zf zs zp (ix2 i k) : EReal) * w (ix2 j k)
/-- The incoming gradient of one normalised row. -/
def refIn (i : Fin 8192) (j : Fin 1024) : EReal := refProd w zc zq zk zv zf zs zp i j * g (ix1 j)

/-- The mean square of a row, with the small number added. -/
theorem ref_mean (i : Fin 8192) : (val_main_v7 (F := Ideal) h (ix2 i 0) : EReal) = meanSq (refRow h i) := by
  rw [val_main_v7_apply (F := Ideal), val_main_v5_apply (F := Ideal), val_main_v3_apply (F := Ideal), val_main_v4_apply (F := Ideal), val_main_v6_apply (F := Ideal),
    val_main_v2_apply, val_main_cst_apply (F := Ideal), val_main_cst_0_apply (F := Ideal), val_main_cst_1_apply (F := Ideal)]
  show Ideal.div (Ideal.ofBits .f32 0x00000000#32 + _) (Ideal.ofBits .f32 0x44800000#32) + Ideal.ofBits .f32 0x358637BD#32 = _
  rw [zero_bits, zero_add]
  unfold meanSq
  refine congrArg (fun z : EReal => Ideal.div z _ + _) (Finset.sum_congr rfl fun k _ => ?_)
  rw [show idx_main_v2 (idx_main_v3 (ix2 i 0)) k = ix2 i k from Shape.idx_ext₂ (y := ix2 i k) rfl rfl, val_main_v1_apply (F := Ideal)]
  rfl

/-- The reciprocal of a row's size. -/
theorem ref_size (i : Fin 8192) : (val_main_v8 (F := Ideal) h (ix2 i 0) : EReal) = size (refRow h i) := by
  rw [val_main_v8_apply (F := Ideal), ref_mean]
  rfl

/-- The reciprocal of a row's size, computed a second time. -/
theorem ref_size_again : val_main_v52 (F := Ideal) h = val_main_v8 (F := Ideal) h := rfl

/-- Minus one half of its third power. -/
theorem ref_cube (i : Fin 8192) : (val_main_v11 (F := Ideal) h (ix2 i 0) : EReal)
    = Ideal.ofBits .f32 0xBF000000#32 * Ideal.div (size (refRow h i)) (meanSq (refRow h i)) := by
  rw [val_main_v11_apply (F := Ideal), val_main_v10_apply (F := Ideal), val_main_cst_2_apply (F := Ideal), val_main_v9_apply (F := Ideal), ref_mean, ref_size]
  rfl

/-- The gradient of the normalised rows. -/
theorem ref_prod (i : Fin 8192) (j : Fin 1024) : (val_main_v18 (F := Ideal) w zc zq zk zv zf zs zp (ix2 i j) : EReal) = refProd w zc zq zk zv zf zs zp i j := by
  rw [val_main_v18_apply]
  refine Finset.sum_congr rfl fun k _ => ?_
  rw [show lidx_main_v18 (ix2 i j) k = ix2 i k from Shape.idx_ext₂ (y := ix2 i k) rfl rfl, show ridx_main_v18 (ix2 i j) k = ix2 j k from Shape.idx_ext₂ (y := ix2 j k) rfl rfl]

/-- The gradient of the normalised rows times the gains. -/
theorem ref_in (i : Fin 8192) (j : Fin 1024) : (val_main_v23 (F := Ideal) g w zc zq zk zv zf zs zp (ix2 i j) : EReal) = refIn g w zc zq zk zv zf zs zp i j := by
  rw [val_main_v23_apply (F := Ideal), val_main_v22_apply (F := Ideal), val_main_v14_apply (F := Ideal), ref_prod,
    show idx_main_v14 (idx_main_v22 (ix2 i j)) = ix1 j from funext fun a => Fin.ext (match a with | ⟨0, _⟩ => rfl)]
  rfl

/-- The part of the gradient that runs through a row's size. -/
theorem ref_through (i : Fin 8192) : (val_main_v33 (F := Ideal) h g w zc zq zk zv zf zs zp (ix1 i) : EReal) = through (refRow h i) (refIn g w zc zq zk zv zf zs zp i) := by
  rw [val_main_v33_apply, val_main_cst_7_apply (F := Ideal)]
  show Ideal.ofBits .f32 0x00000000#32 + _ = _
  rw [zero_bits, zero_add, Fin.sum_univ_one, show idx_main_v33 (ix1 i) 0 = ix2 i 0 from Shape.idx_ext₂ (y := ix2 i 0) rfl rfl,
    val_main_v32_apply (F := Ideal), val_main_v31_apply (F := Ideal), val_main_cst_6_apply (F := Ideal), val_main_v30_apply (F := Ideal), ref_cube,
    val_main_v27_apply (F := Ideal), show idx_main_v27 (ix2 i 0) = ix1 i from funext fun a => Fin.ext (match a with | ⟨0, _⟩ => show i.val * 1 + 0 = i.val by omega),
    val_main_v26_apply, val_main_cst_5_apply (F := Ideal)]
  show Ideal.div ((Ideal.ofBits .f32 0x00000000#32 + _) * _) (Ideal.ofBits .f32 0x44800000#32) = _
  rw [zero_bits, zero_add]
  unfold through
  refine congrArg (fun z : EReal => Ideal.div (z * _) _) (Finset.sum_congr rfl fun k _ => ?_)
  rw [show idx_main_v26 (ix1 i) k = ix2 i k from Shape.idx_ext₂ (y := ix2 i k) rfl rfl, val_main_v25_apply (F := Ideal), ref_in]
  rfl

/-- The gradient of the stream. -/
theorem ref_pull (i : Fin 8192) (j : Fin 1024) : (val_main_v44 (F := Ideal) h g w zc zq zk zv zf zs zp y (ix2 i j) : EReal) = (y (ix2 i j) : EReal) + pull (refRow h i) (refIn g w zc zq zk zv zf zs zp i) j := by
  rw [pull_eq, val_main_v44_apply (F := Ideal), val_main_v38_apply (F := Ideal), val_main_v37_apply (F := Ideal), val_main_v36_apply (F := Ideal), val_main_v35_apply (F := Ideal),
    val_main_v34_apply (F := Ideal), val_main_v29_apply (F := Ideal), val_main_v28_apply (F := Ideal), ref_in,
    show idx_main_v34 (ix2 i j) = ix1 i from funext fun a => Fin.ext (match a with | ⟨0, _⟩ => rfl),
    show idx_main_v28 (ix2 i j) = ix2 i 0 from Shape.idx_ext₂ (y := ix2 i 0) rfl rfl, ref_through, ref_size]
  rfl

/-- The normalised rows times the gains. -/
theorem ref_hand (i : Fin 8192) (j : Fin 1024) : (val_main_v57 (F := Ideal) h g (ix2 i j) : EReal) = (refRow h i j * size (refRow h i)) * g (ix1 j) := by
  rw [val_main_v57_apply (F := Ideal), val_main_v54_apply (F := Ideal), val_main_v53_apply (F := Ideal), val_main_v56_apply (F := Ideal), val_main_v55_apply (F := Ideal),
    show idx_main_v55 (idx_main_v56 (ix2 i j)) = ix1 j from funext fun a => Fin.ext (match a with | ⟨0, _⟩ => rfl),
    show idx_main_v53 (ix2 i j) = ix2 i 0 from Shape.idx_ext₂ (y := ix2 i 0) rfl rfl, ref_size_again, ref_size]
  rfl

/-- The gradient of a gain. -/
theorem ref_gain (j : Fin 1024) : (val_main_v60 (F := Ideal) h w zc zq zk zv zf zs zp (ix2 0 j) : EReal)
    = ∑ i : Fin 8192, refProd w zc zq zk zv zf zs zp i j * (refRow h i j * size (refRow h i)) := by
  rw [val_main_v60_apply (F := Ideal), show idx_main_v60 (ix2 0 j) = ix1 j from funext fun a => Fin.ext (match a with | ⟨0, _⟩ => rfl), val_main_v24_apply, val_main_cst_4_apply (F := Ideal)]
  show Ideal.ofBits .f32 0x00000000#32 + _ = _
  rw [zero_bits, zero_add, Fin.sum_univ_one, show idx_main_v24 (ix1 j) 0 = ix2 0 j from Shape.idx_ext₂ (y := ix2 0 j) rfl rfl, val_main_v21_apply (F := Ideal),
    show idx_main_v21 (ix2 0 j) = ix1 j from funext fun a => Fin.ext (match a with | ⟨0, _⟩ => show 0 * 1024 + j.val = j.val by omega), val_main_v20_apply, val_main_cst_3_apply (F := Ideal)]
  show Ideal.ofBits .f32 0x00000000#32 + _ = _
  rw [zero_bits, zero_add]
  refine Finset.sum_congr rfl fun i _ => ?_
  rw [show idx_main_v20 (ix1 j) i = ix2 i j from Shape.idx_ext₂ (y := ix2 i j) rfl rfl, val_main_v19_apply (F := Ideal), val_main_v13_apply (F := Ideal), val_main_v12_apply (F := Ideal),
    show idx_main_v12 (ix2 i j) = ix2 i 0 from Shape.idx_ext₂ (y := ix2 i 0) rfl rfl, ref_size, ref_prod]
  exact mul_comm _ _

/-- The reference's gradient in the kernel's column order is the seven pieces side by side. -/
theorem ref_joined (i : Fin 8192) (n : Fin 2432) : inOrder (val_main_v0 (F := Ideal) zc zq zk zv zf zs zp) i n
    = joined (fun z => zc (ix2 i z)) (fun z => zq (ix2 i z)) (fun z => zk (ix2 i z)) (fun z => zv (ix2 i z)) (fun z => zs (ix2 i z)) (fun z => zp (ix2 i z))
      (fun z => if h : z.val < 4 then zf (ix2 i ⟨z.val, h⟩) else 0) n := by
  have hn := n.isLt
  unfold inOrder joined val_main_v0
  by_cases h : n.val < 2308
  · have e : ∀ v : ℕ, place n.val = v → (hv : v < 2308) → (⟨place n.val, place_lt h⟩ : Fin 2308) = ⟨v, hv⟩ := fun v e hv => Fin.ext e
    rw [dif_pos h]
    split_ifs with h1 h2 h3 h4 h5 h6
    · rw [e n.val (by unfold place; split_ifs <;> omega) (by omega)]
      exact piece_at _ _ i _ 0 (by simp) _ (by rfl) 0 (by rfl) (⟨n.val, h1⟩ : Fin 512) (Nat.zero_add _)
    · rw [e n.val (by unfold place; split_ifs <;> omega) (by omega)]
      exact piece_at _ _ i _ 1 (by simp) _ (by rfl) 512 (by rfl) (⟨n.val - 512, by omega⟩ : Fin 256) (show 512 + (n.val - 512) = n.val by omega)
    · rw [e n.val (by unfold place; split_ifs <;> omega) (by omega)]
      exact piece_at _ _ i _ 2 (by simp) _ (by rfl) 768 (by rfl) (⟨n.val - 768, by omega⟩ : Fin 256) (show 768 + (n.val - 768) = n.val by omega)
    · rw [e n.val (by unfold place; split_ifs <;> omega) (by omega)]
      exact piece_at _ _ i _ 3 (by simp) _ (by rfl) 1024 (by rfl) (⟨n.val - 1024, by omega⟩ : Fin 256) (show 1024 + (n.val - 1024) = n.val by omega)
    · rw [e (n.val + 4) (by unfold place; split_ifs <;> omega) (by omega)]
      exact piece_at _ _ i _ 5 (by simp) _ (by rfl) 1284 (by rfl) (⟨n.val - 1280, by omega⟩ : Fin 768) (show 1284 + (n.val - 1280) = n.val + 4 by omega)
    · rw [e (n.val + 4) (by unfold place; split_ifs <;> omega) (by omega)]
      exact piece_at _ _ i _ 6 (by simp) _ (by rfl) 2052 (by rfl) (⟨n.val - 2048, by omega⟩ : Fin 256) (show 2052 + (n.val - 2048) = n.val + 4 by omega)
    · rw [e (n.val - 1024) (by unfold place; split_ifs <;> omega) (by omega)]
      show _ = dite (α := EReal) (n.val - 2304 < 4) (fun h => zf (ix2 i ⟨n.val - 2304, h⟩)) (fun _ => 0)
      rw [dif_pos (show n.val - 2304 < 4 by omega)]
      exact piece_at _ _ i _ 4 (by simp) _ (by rfl) 1280 (by rfl) (⟨n.val - 2304, by omega⟩ : Fin 4) (show 1280 + (n.val - 2304) = n.val - 1024 by omega)
  · rw [dif_neg h, dif_neg (by omega), dif_neg (by omega), dif_neg (by omega), dif_neg (by omega), dif_neg (by omega), dif_neg (by omega)]
    show _ = dite (α := EReal) (n.val - 2304 < 4) (fun h => zf (ix2 i ⟨n.val - 2304, h⟩)) (fun _ => 0)
    rw [dif_neg (show ¬ (n.val - 2304 < 4) by omega)]

/-- A sum over the kernel's columns is the reference's. -/
theorem ref_sum (i : Fin 8192) (j : Fin 1024) : (∑ n : Fin 2432, inOrder (val_main_v0 (F := Ideal) zc zq zk zv zf zs zp) i n * inOrder w j n) = refProd w zc zq zk zv zf zs zp i j :=
  sum_inOrder (val_main_v0 (F := Ideal) zc zq zk zv zf zs zp) w i j

/-- The reference's gradient as it is handed on. -/
theorem ref_order (i : Fin 8192) (n : Fin 2432) : (val_main_v59 (F := Ideal) zc zq zk zv zf zs zp (ix2 i n) : EReal) = inOrder (val_main_v0 (F := Ideal) zc zq zk zv zf zs zp) i n := by
  rw [val_main_v59_apply (F := Ideal)]
  exact inOrder_at (val_main_v0 (F := Ideal) zc zq zk zv zf zs zp) _ _ _ _ (fun y => zero_bits) Cert.MixInReferenceIdeal.Facts₀.concatenates_S8192x1280_S8192x1024_S8192x4_S8192x124_S8192x2432_d1 i n

end reference

/-! ## Kernel and reference agree -/

/-- The rows are the reference's. -/
theorem row_same (i : Fin 8192) : hRow m c i = refRow (m ((c : Thread nD τ).loc main_arg0)) i :=
  funext fun j => congrFun (h_read m c) (ix2 i j)

/-- The gradient put together is the reference's. -/
theorem dz_same (i : Fin 8192) (n : Fin 2432) : dzAt m c i n = inOrder (Cert.MixInReferenceIdeal.Read.val_main_v0 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))) i n := by
  refine Eq.trans ?_ (ref_joined _ _ _ _ _ _ _ i n).symm
  exact joined_same (fun z => congrFun (zc_read m c) (ix2 i z)) (zq_read m c i) (zk_read m c i) (zv_read m c i) (fun z => congrFun (zs_read m c) (ix2 i z)) (fun z => congrFun (zp_read m c) (ix2 i z)) (zf_read m c i) n

/-- The gradients of the normalised rows are the reference's. -/
theorem prod_same (i : Fin 8192) (j : Fin 1024) : prodAt m c i j = refProd (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i j := by
  unfold prodAt
  simp only [dz_same, w_read]
  exact ref_sum _ _ _ _ _ _ _ _ i j

/-- With the gains they are the reference's too. -/
theorem in_same (i : Fin 8192) : inRow m c i = refIn (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) i :=
  funext fun j => by
    unfold inRow refIn
    rw [prod_same, g_read]

/-- The first result is the reference's. -/
theorem same11 : dxA m c = Cert.MixInReferenceIdeal.Read.val_main_v44 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  ext_mat (e := .f32) _ _ fun i j => by
    refine Eq.trans ?_ (ref_pull _ _ _ _ _ _ _ _ _ _ _ i j).symm
    show (dhA m c (ix2 i j) : EReal) + pull (hRow m c i) (inRow m c i) j = _
    rw [row_same, in_same, dh_read]

/-- The second result is the reference's. -/
theorem same12 : hnA m c = Cert.MixInReferenceIdeal.Read.val_main_v58 (F := Ideal) (m ((c : Thread nD τ).loc main_arg0)) (m ((c : Thread nD τ).loc main_arg1)) :=
  ext_mat (e := .bf16) _ _ fun i j => by
    rw [Cert.MixInReferenceIdeal.Read.val_main_v58_apply (F := Ideal)]
    refine Eq.trans ?_ (ref_hand _ _ i j).symm
    show (hRow m c i j * size (hRow m c i)) * gA m c (ix2 0 j) = _
    rw [row_same, g_read]

/-- The third result is the reference's. -/
theorem same13 : dzA m c = Cert.MixInReferenceIdeal.Read.val_main_v59 (F := Ideal) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ext_mat (e := .bf16) _ _ fun i n => (dz_same m c i n).trans (ref_order _ _ _ _ _ _ _ i n).symm

/-- The fourth result is the reference's. -/
theorem same14 : dgA m c = Cert.MixInReferenceIdeal.Read.val_main_v60 (F := Ideal) (m ((c : Thread nD τ).loc main_arg0)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) :=
  ext_mat (e := .f32) _ _ fun r j => by
    obtain rfl := one_row r
    refine Eq.trans ?_ (ref_gain _ _ _ _ _ _ _ _ _ j).symm
    show ∑ i : Fin 8192, prodAt m c i j * (hRow m c i j * size (hRow m c i)) = _
    exact Finset.sum_congr rfl fun i _ => by rw [prod_same, row_same]

end Cert.Mix.In

end
-- ==== Proof.Mix.Claims.lean ====
module

public import proofs.«01_k».proof.Defs
public import proofs.«01_k».proof.Proof.Mix.DwIn
public import proofs.«01_k».proof.Proof.Mix.In
public import proofs.«01_k».proof.Proof.Gen.MixIn

@[expose] public section

noncomputable section

/-! # The claims of the mixer's input projection's backward pass -/

namespace Cert.Mix

open Idealize.ShloMosaic Idealize.SL.Sem

set_option maxHeartbeats 1000000 in
/-- The two printed texts of the weight's gradient have the same functions. -/
theorem weight_defs : (Cert.DwIn.defs (F := Bits)) = Cert.DwInIdeal.defs (F := Bits) := by
  unfold Cert.DwIn.defs Cert.DwInIdeal.defs
  refine congrArg (Pipeline.defs (Cert.DwInIdeal.pcfgs (F := Bits))) ?_
  unfold Cert.DwIn.defs₀ Cert.DwInIdeal.defs₀
  refine congrArg _ ?_
  funext l a
  match l, a with
  | 0, (t, s) => rfl

set_option maxHeartbeats 1000000 in
/-- As printed it ends, with its arguments unchanged and its counters at zero. -/
theorem weight_frame : @Cert.quiescent_DwIn Cert.DwIn.Gen.facts := fun m ρ _ => by
  rw [weight_defs, show (Cert.DwIn.main (F := Bits)) = Cert.DwInIdeal.main (F := Bits) from rfl]
  exact Cert.DwInIdeal.Gen.frame (F := Bits) m ρ

/-- So does it over the extended reals. -/
theorem weight_frame_ideal : @Cert.quiescent_DwInIdeal Cert.DwInIdeal.Gen.facts := fun m ρ _ => Cert.DwInIdeal.Gen.frame m ρ

/-- So does its reference. -/
theorem weight_frame_reference : @Cert.quiescent_DwInReferenceIdeal Cert.DwInReferenceIdeal.Gen.facts :=
  fun m ρ _ => (θ_run Cert.DwInReferenceIdeal.defs _ _).mono (fun _ h => ⟨fun c => (h c).2, sem_eq_zero_of_no_sems (by decide) _⟩) (Cert.DwInReferenceIdeal.Value.run (F := Ideal) m ρ)

/-- The kernel and the reference end with the same gradient of the weight. -/
theorem weight_results : @Cert.algebraic_DwInIdeal_DwInReferenceIdeal Cert.DwInIdeal.Gen.facts Cert.DwInReferenceIdeal.Gen.facts := by
  intro m g m' g' _ hargs
  refine ⟨fun c => Cert.DwInIdeal.Value.G2 m c, Cert.DwInIdeal.Value.run m g, ?_⟩
  refine (θ_run Cert.DwInReferenceIdeal.defs _ _).mono (fun _ h c => ?_) (Cert.DwInReferenceIdeal.Value.run (F := Ideal) m' g')
  obtain ⟨a0, a1, a2, a3⟩ := hargs c
  refine ⟨(h c).1.trans ?_, (h c).2⟩
  rw [Cert.DwInReferenceIdeal.Read.val_main_v20_eq, a0, a1, a3]
  exact (same m c).symm

set_option maxHeartbeats 1000000 in
/-- The two printed texts of the rest of the backward pass have the same functions. -/
theorem rows_defs : (Cert.MixIn.defs (F := Bits)) = Cert.MixInIdeal.defs (F := Bits) := by
  unfold Cert.MixIn.defs Cert.MixInIdeal.defs
  refine congrArg (Pipeline.defs (Cert.MixInIdeal.pcfgs (F := Bits))) ?_
  unfold Cert.MixIn.defs₀ Cert.MixInIdeal.defs₀
  refine congrArg _ ?_
  funext l a
  match l, a with
  | 0, (t, s) => rfl

set_option maxHeartbeats 1000000 in
/-- As printed it ends, with its arguments unchanged and its counters at zero. -/
theorem rows_frame : @Cert.quiescent_MixIn Cert.MixIn.Gen.facts := fun m ρ _ => by
  rw [rows_defs, show (Cert.MixIn.main (F := Bits)) = Cert.MixInIdeal.main (F := Bits) from rfl]
  exact Cert.MixInIdeal.Gen.frame (F := Bits) m ρ

/-- So does it over the extended reals. -/
theorem rows_frame_ideal : @Cert.quiescent_MixInIdeal Cert.MixInIdeal.Gen.facts := fun m ρ _ => Cert.MixInIdeal.Gen.frame m ρ

/-- So does its reference. -/
theorem rows_frame_reference : @Cert.quiescent_MixInReferenceIdeal Cert.MixInReferenceIdeal.Gen.facts :=
  fun m ρ _ => (θ_run Cert.MixInReferenceIdeal.defs _ _).mono (fun _ h => ⟨fun c => (h c).2.2.2.2, sem_eq_zero_of_no_sems (by decide) _⟩) (Cert.MixInReferenceIdeal.Value.run (F := Ideal) m ρ)

/-- The kernel and the reference end with the same four results. -/
theorem rows_results : @Cert.algebraic_MixInIdeal_MixInReferenceIdeal Cert.MixInIdeal.Gen.facts Cert.MixInReferenceIdeal.Gen.facts := by
  intro m g m' g' _ hargs
  refine ⟨fun c => In.dxA m c, fun c => In.hnA m c, fun c => In.dzA m c, fun c => In.dgA m c, ?_, ?_⟩
  · refine (θ_run Cert.MixInIdeal.defs _ _).mono (fun _ h c => ?_) (Cert.MixInIdeal.Value.run_blocks m g)
    obtain ⟨h1, h2, h3, h4, hk⟩ := h c
    exact ⟨h1.trans (In.final11 m c), h2.trans (In.final12 m c), h3.trans (In.final13 m c), h4.trans (In.final14 m c), hk⟩
  · refine (θ_run Cert.MixInReferenceIdeal.defs _ _).mono (fun _ h c => ?_) (Cert.MixInReferenceIdeal.Value.run (F := Ideal) m' g')
    obtain ⟨a0, a1, a2, a3, a4, a5, a6, a7, a8, a9, a10⟩ := hargs c
    obtain ⟨h1, h2, h3, h4, hk⟩ := h c
    refine ⟨h1.trans ?_, h2.trans ?_, h3.trans ?_, h4.trans ?_, hk⟩
    · rw [Cert.MixInReferenceIdeal.Read.val_main_v44_eq, a0, a1, a2, a3, a4, a5, a6, a7, a8, a9, a10]
      exact (In.same11 m c).symm
    · rw [Cert.MixInReferenceIdeal.Read.val_main_v58_eq, a0, a1]
      exact (In.same12 m c).symm
    · rw [Cert.MixInReferenceIdeal.Read.val_main_v59_eq, a3, a4, a5, a6, a7, a8, a9]
      exact (In.same13 m c).symm
    · rw [Cert.MixInReferenceIdeal.Read.val_main_v60_eq, a0, a2, a3, a4, a5, a6, a7, a8, a9]
      exact (In.same14 m c).symm

end Cert.Mix

end
-- ==== Proof.Mix.InFwd.lean ====
module

public import proofs.«01_k».proof.Proof.Mix.Heads
public import proofs.«01_k».proof.Proof.Gen.MixInFwd
public import proofs.«01_k».proof.Proof.Gen.MixInFwdIdeal.Value
public import proofs.«01_k».proof.Proof.Gen.MixInFwdReferenceIdeal.Run
public import proofs.«01_k».proof.Proof.Gen.MixInFwdReferenceIdeal.Read

@[expose] public section

set_option maxRecDepth 16384

noncomputable section

/-! # The input projection's forward pass

One tile of 512 rows at a time the kernel normalises the rows, multiplies them by the weight in its own column order and
hands the columns on: the queries scaled and spread over 128 lanes a head with three ones behind them, the rest as it is.
-/

namespace Cert.Mix.InFwd

open Idealize.ShloMosaic Idealize.ShloMosaic.TcCoe Idealize.ShloMosaic.StableHlo Idealize.ShloMosaic.Tactic Idealize.ShloMosaic.ValueIdx Idealize.SL.Sem
open Idealize.ShloMosaic.Pipeline (Dat Cfg Window)
open Cert.Mlp
open Cert.MixInFwdIdeal Cert.MixInFwdIdeal.Gen Cert.MixInFwdIdeal.Value

/-! ## One head's lanes -/

/-- The 128 lanes of one head: its 64 columns scaled, three ones, and zeros. -/
def headLane (f : Fin 64 → EReal) (l : Fin 128) : EReal :=
  if h : l.val < 64 then f ⟨l.val, h⟩ * Ideal.ofBits .f32 0x3E000000#32
  else if l.val < 67 then Ideal.ofBits .f32 0x3F800000#32 else Ideal.ofBits .f32 0x00000000#32

/-- The 512 lanes of the four heads. -/
def qLane (f : Fin 256 → EReal) (l : Fin 512) : EReal :=
  headLane (fun z => f ⟨64 * (l.val / 128) + z.val, by have := l.isLt; have := z.isLt; omega⟩) ⟨l.val % 128, Nat.mod_lt _ (by decide)⟩

/-- Which lanes of a head hold a column or a one. -/
theorem ones_at {R : ℕ} (hi : (⟨2, ![R, 128]⟩ : Shape).Iotas .tc 32 [1]) (r : Fin R) (l : Fin 128) :
    cmpi .slt (iota .tc ⟨2, ![R, 128]⟩ 32 [1] hi) (broadcast ⟨2, ![R, 128]⟩ 67#32) (ix2 r l) = BitVec.ofBool (decide (l.val < 67)) := by
  show IntOp.cmpi .slt (iota .tc ⟨2, ![R, 128]⟩ 32 [1] hi (ix2 r l)) (BitVec.ofNat 32 67) = _
  rw [iota_single_apply]
  have hl : l.val < 2 ^ (32 - 1) := by have := l.isLt; omega
  exact WordCmp.cmpi_slt_ofNat hl (by omega)

/-- A head's lanes as the kernel chooses them. -/
theorem lanes_at {R : ℕ} (hi : (⟨2, ![R, 128]⟩ : Shape).Iotas .tc 32 [1]) (y : FVec Ideal ⟨2, ![R, 128]⟩ .f32) (f : Fin 64 → EReal) (r : Fin R) (l : Fin 128)
    (hy : ∀ h : l.val < 64, (y (ix2 r l) : EReal) = f ⟨l.val, h⟩) :
    (select (cmpi .slt (iota .tc ⟨2, ![R, 128]⟩ 32 [1] hi) (broadcast ⟨2, ![R, 128]⟩ 64#32)) (mulf y (broadcast ⟨2, ![R, 128]⟩ (Scalar.ofBits (F := Ideal) .f32 0x3E000000#32)))
      (select (cmpi .slt (iota .tc ⟨2, ![R, 128]⟩ 32 [1] hi) (broadcast ⟨2, ![R, 128]⟩ 67#32)) (broadcast ⟨2, ![R, 128]⟩ (Scalar.ofBits (F := Ideal) .f32 0x3F800000#32))
        (broadcast ⟨2, ![R, 128]⟩ (Scalar.ofBits (F := Ideal) .f32 0x00000000#32))) (ix2 r l) : EReal) = headLane f l := by
  unfold headLane
  rw [select_apply, low_at, WordCmp.select_decide, select_apply, ones_at, WordCmp.select_decide]
  split_ifs with h h'
  · exact congrArg (fun z : EReal => z * Ideal.ofBits .f32 0x3E000000#32) (hy h)
  · rfl
  · rfl

/-- A head in the first half of its pair. -/
theorem even_at {R : ℕ} (x : FVec Ideal ⟨2, ![R, 256]⟩ .f32) (hi : (⟨2, ![R, 128]⟩ : Shape).Iotas .tc 32 [1]) (o : ℕ) (hs : (⟨2, ![R, 256]⟩ : Shape).Slices ![0, o] ⟨2, ![R, 128]⟩) (r : Fin R) (l l' : Fin 128)
    (a : Fin 64 → Fin 256) (ha : ∀ z, o + z.val = (a z).val) (hl : l.val = l'.val) :
    (select (cmpi .slt (iota .tc ⟨2, ![R, 128]⟩ 32 [1] hi) (broadcast ⟨2, ![R, 128]⟩ 64#32)) (mulf (extractStridedSlice ⟨2, ![R, 128]⟩ ![0, o] x hs) (broadcast ⟨2, ![R, 128]⟩ (Scalar.ofBits (F := Ideal) .f32 0x3E000000#32)))
      (select (cmpi .slt (iota .tc ⟨2, ![R, 128]⟩ 32 [1] hi) (broadcast ⟨2, ![R, 128]⟩ 67#32)) (broadcast ⟨2, ![R, 128]⟩ (Scalar.ofBits (F := Ideal) .f32 0x3F800000#32))
        (broadcast ⟨2, ![R, 128]⟩ (Scalar.ofBits (F := Ideal) .f32 0x00000000#32))) (ix2 r l) : EReal) = headLane (fun z => x (ix2 r (a z))) l' := by
  rw [← Fin.ext hl]
  exact lanes_at hi _ (fun z => x (ix2 r (a z))) r l fun h => columns_at x o hs r l _ (ha ⟨l.val, h⟩)

/-- A head in the second half of its pair, turned into the first. -/
theorem odd_at {R : ℕ} (x : FVec Ideal ⟨2, ![R, 256]⟩ .f32) (hi : (⟨2, ![R, 128]⟩ : Shape).Iotas .tc 32 [1]) (o : ℕ) (hs : (⟨2, ![R, 256]⟩ : Shape).Slices ![0, o] ⟨2, ![R, 128]⟩) (hr : (⟨2, ![R, 128]⟩ : Shape).Rotates 1 none) (r : Fin R) (l l' : Fin 128)
    (a : Fin 64 → Fin 256) (ha : ∀ z, o + (64 + z.val) = (a z).val) (hl : l.val = l'.val) :
    (select (cmpi .slt (iota .tc ⟨2, ![R, 128]⟩ 32 [1] hi) (broadcast ⟨2, ![R, 128]⟩ 64#32)) (mulf (dynamicRotate 1 64#32 none (extractStridedSlice ⟨2, ![R, 128]⟩ ![0, o] x hs) hr) (broadcast ⟨2, ![R, 128]⟩ (Scalar.ofBits (F := Ideal) .f32 0x3E000000#32)))
      (select (cmpi .slt (iota .tc ⟨2, ![R, 128]⟩ 32 [1] hi) (broadcast ⟨2, ![R, 128]⟩ 67#32)) (broadcast ⟨2, ![R, 128]⟩ (Scalar.ofBits (F := Ideal) .f32 0x3F800000#32))
        (broadcast ⟨2, ![R, 128]⟩ (Scalar.ofBits (F := Ideal) .f32 0x00000000#32))) (ix2 r l) : EReal) = headLane (fun z => x (ix2 r (a z))) l' := by
  rw [← Fin.ext hl]
  exact lanes_at hi _ (fun z => x (ix2 r (a z))) r l fun h => (turn_at _ hr r l ⟨64 + l.val, by omega⟩ (show 64 + l.val = (l.val + 128 - 64) % 128 by omega)).trans (columns_at x o hs r _ _ (ha ⟨l.val, h⟩))

/-! ## What the kernel computes of one tile -/

/-- The product's tile. -/
theorem z_tile (x : FVec Ideal S512x1024 .f32) (g : FVec Ideal S1x1024 .f32) (w : FVec Ideal S1024x2432 .bf16) (r : Fin 512) (k : Fin 2432) :
    (k0_pay7 (F := Ideal) x g w (ix2 r k) : EReal) = ∑ j : Fin 1024, normed (fun i => x (ix2 r i)) (fun i => g (ix2 0 i)) j * w (ix2 j k) := by
  unfold k0_pay7
  simp only [shapeCast_self]
  refine (product_at dot_S512x1024_S1024x2432_S512x2432_1_0_0_1_n_n 1024 rfl rfl _ _ (ix2 r k) (fun q => ix2 r q) (fun q => ix2 q k) (fun q => ?_) (fun q => ?_)).trans
    (Finset.sum_congr rfl fun j _ => ?_)
  · exact funext fun z => Fin.ext (match z with
      | ⟨0, _⟩ => by unfold DotDims.lhsIdx; rw [dif_neg (by decide +revert), dif_pos (by decide +revert)]; rfl
      | ⟨1, _⟩ => (DotDims.lhsIdx_val_of_single _ rfl _ _).trans (contrEquiv1_symm_val _ 1024 rfl rfl q))
  · exact funext fun z => Fin.ext (match z with
      | ⟨0, _⟩ => (DotDims.rhsIdx_val_of_single _ rfl _ _).trans (contrEquiv1_symm_val _ 1024 rfl rfl q)
      | ⟨1, _⟩ => by unfold DotDims.rhsIdx; rw [dif_neg (by decide +revert), dif_pos (by decide +revert)]; rfl)
  · rw [truncf_apply]
    exact congrArg (fun z : EReal => z * w (ix2 j k)) (normed_at x g _ _ _ _ _ _ (by decide) r j)

/-- The queries' tile. -/
def qT (x : FVec Ideal S512x1024 .f32) (g : FVec Ideal S1x1024 .f32) (w : FVec Ideal S1024x2432 .bf16) : FVec Ideal S512x512 .bf16 :=
  k0_pay5 (iota .tc S512x128 32 [1] iota_S512x128_d1_w32) (k0_pay8 (F := Ideal)) (k0_pay9 x g w) (k0_pay10 x g w) (k0_pay11 x g w) k0_pay12

/-- Rounding changes nothing. -/
theorem rounded_at {s : Shape} (x : FVec Ideal s .f32) (h : FTy.bits .bf16 < FTy.bits .f32) (y : s.Idx) : (truncf .bf16 x h y : EReal) = x y := rfl

/-- Its lanes. -/
theorem q_tile (x : FVec Ideal S512x1024 .f32) (g : FVec Ideal S1x1024 .f32) (w : FVec Ideal S1024x2432 .bf16) (r : Fin 512) (l : Fin 512) :
    (qT x g w (ix2 r l) : EReal) = qLane (fun z => k0_pay7 (F := Ideal) x g w (ix2 r ⟨512 + z.val, by have := z.isLt; omega⟩)) l := by
  have hl := l.isLt
  have e (z : Fin 256) : (k0_pay9 (F := Ideal) x g w (ix2 r z) : EReal) = k0_pay7 (F := Ideal) x g w (ix2 r ⟨512 + z.val, by have := z.isLt; omega⟩) := by
    unfold k0_pay9
    exact columns_at _ 512 _ r z _ rfl
  simp only [← e]
  unfold qT k0_pay5 k0_pay10 k0_pay11 k0_pay8 k0_pay12 qLane
  refine (rounded_at _ _ _).trans ?_
  by_cases h1 : l.val < 128
  · refine Eq.trans (piece_at _ _ r l 0 (by simp) _ (by rfl) 0 (by rfl) (⟨l.val, h1⟩ : Fin 128) (Nat.zero_add _)) ?_
    exact even_at (k0_pay9 (F := Ideal) x g w) _ 0 _ r _ _ _ (fun z => (by omega : 0 + z.val = 64 * (l.val / 128) + z.val)) (by omega : l.val = l.val % 128)
  by_cases h2 : l.val < 256
  · refine Eq.trans (piece_at _ _ r l 1 (by simp) _ (by rfl) 128 (by rfl) (⟨l.val - 128, by omega⟩ : Fin 128) (show 128 + (l.val - 128) = l.val by omega)) ?_
    exact odd_at (k0_pay9 (F := Ideal) x g w) _ 0 _ _ r _ _ _ (fun z => (by omega : 0 + (64 + z.val) = 64 * (l.val / 128) + z.val)) (by omega : l.val - 128 = l.val % 128)
  by_cases h3 : l.val < 384
  · refine Eq.trans (piece_at _ _ r l 2 (by simp) _ (by rfl) 256 (by rfl) (⟨l.val - 256, by omega⟩ : Fin 128) (show 256 + (l.val - 256) = l.val by omega)) ?_
    exact even_at (k0_pay9 (F := Ideal) x g w) _ 128 _ r _ _ _ (fun z => (by omega : 128 + z.val = 64 * (l.val / 128) + z.val)) (by omega : l.val - 256 = l.val % 128)
  · refine Eq.trans (piece_at _ _ r l 3 (by simp) _ (by rfl) 384 (by rfl) (⟨l.val - 384, by omega⟩ : Fin 128) (show 384 + (l.val - 384) = l.val by omega)) ?_
    exact odd_at (k0_pay9 (F := Ideal) x g w) _ 128 _ _ r _ _ _ (fun z => (by omega : 128 + (64 + z.val) = 64 * (l.val / 128) + z.val)) (by omega : l.val - 384 = l.val % 128)

/-! ## What the body leaves -/

/-- Each of the six results of a point. -/
theorem outs (x : Vec Ideal S512x1024 .f32) (g : Vec Ideal S1x1024 .f32) (w : Vec Ideal S1024x2432 .bf16) :
    out0_3 (F := Ideal) x g w = k0_pay1 (k0_pay7 x g w) ∧ out0_4 (F := Ideal) x g w = qT x g w ∧ out0_5 (F := Ideal) x g w = k0_pay6 (k0_pay7 x g w)
    ∧ out0_6 (F := Ideal) x g w = k0_pay2 (k0_pay7 x g w) ∧ out0_7 (F := Ideal) x g w = k0_pay3 (k0_pay7 x g w) ∧ out0_8 (F := Ideal) x g w = k0_pay4 (k0_pay7 x g w) := by
  unfold out0_3 out0_4 out0_5 out0_6 out0_7 out0_8 k0_pay13 qT
  simp only [View.ld_unit_zero (S := S512x1024) zero2, View.ld_unit_zero (S := S1x1024) zero2, View.ld_unit_zero (S := S1024x2432) zero2]
  refine ⟨?_, ?_, ?_, ?_, ?_, ?_⟩ <;> rw [View.canon_unit_zero zero2]

/-! ## The grid -/

/-- Where the tiles of the rows lie. -/
theorem index0 : ∀ t : Fin cfg0.N, win0_0.index t 0 = t.val ∧ win0_0.index t 1 = 0 := by decide +kernel
/-- The gains are one block. -/
theorem index1 : ∀ t : Fin cfg0.N, win0_1.index t 0 = 0 ∧ win0_1.index t 1 = 0 := by decide +kernel
/-- The weight is one block. -/
theorem index2 : ∀ t : Fin cfg0.N, win0_2.index t 0 = 0 ∧ win0_2.index t 1 = 0 := by decide +kernel
/-- Where the tiles of the first mixer's columns lie. -/
theorem index3 : ∀ t : Fin cfg0.N, win0_3.index t 0 = t.val ∧ win0_3.index t 1 = 0 := by decide +kernel
/-- Where the tiles of the queries lie. -/
theorem index4 : ∀ t : Fin cfg0.N, win0_4.index t 0 = t.val ∧ win0_4.index t 1 = 0 := by decide +kernel
/-- Where the tiles of the keys and values lie. -/
theorem index5 : ∀ t : Fin cfg0.N, win0_5.index t 0 = t.val ∧ win0_5.index t 1 = 0 := by decide +kernel
/-- Where the tiles of the short convolution's columns lie. -/
theorem index6 : ∀ t : Fin cfg0.N, win0_6.index t 0 = t.val ∧ win0_6.index t 1 = 0 := by decide +kernel
/-- Where the tiles of the pooling's columns lie. -/
theorem index7 : ∀ t : Fin cfg0.N, win0_7.index t 0 = t.val ∧ win0_7.index t 1 = 0 := by decide +kernel
/-- Where the tiles of the gates lie. -/
theorem index8 : ∀ t : Fin cfg0.N, win0_8.index t 0 = t.val ∧ win0_8.index t 1 = 0 := by decide +kernel

/-- A grid point is one of sixteen. -/
theorem point_lt (t : Fin cfg0.N) : t.val < 16 := Nat.lt_of_lt_of_eq t.isLt N_0

/-- The row of the arrays in row `r` of a point's tiles. -/
def row (t : Fin cfg0.N) (r : Fin 512) : Fin 8192 := ⟨512 * t.val + r.val, by have := r.isLt; have := point_lt t; omega⟩

/-- Every row is in some point's tile. -/
theorem reached (i : Fin 8192) : ∃ (t : Fin cfg0.N) (r : Fin 512), row t r = i := by
  have hi := i.isLt
  exact ⟨⟨i.val / 512, by rw [show cfg0.N = 16 from N_0]; omega⟩, ⟨i.val % 512, Nat.mod_lt _ (by decide)⟩, Fin.ext (show 512 * (i.val / 512) + i.val % 512 = i.val by omega)⟩

/-- A tile's index, from its two coordinates. -/
theorem place_of {C : ℕ} {y : (⟨2, ![8192, C]⟩ : Shape).Idx} {a b : ℕ} (t : Fin cfg0.N) (r : Fin 512) (k : Fin C) (h0 : (y 0).val = a * 512 + r.val) (h1 : (y 1).val = b * C + k.val) (h : a = t.val ∧ b = 0) :
    y = ix2 (row t r) k := funext fun z => Fin.ext (match z with
    | ⟨0, _⟩ => h0.trans (by rw [h.1]; exact (by omega : t.val * 512 + r.val = 512 * t.val + r.val))
    | ⟨1, _⟩ => h1.trans (by rw [h.2, Nat.zero_mul, Nat.zero_add]))

/-- Where a point's tile of the rows lies. -/
theorem emb0 (t : Fin cfg0.N) (r : Fin 512) (k : Fin 1024) : (win0_0.rect t).emb (ix2 r k) = ix2 (row t r) k := place_of t r k (Window.rect_emb_val win0_0 t (ix2 r k) 0) (Window.rect_emb_val win0_0 t (ix2 r k) 1) (index0 t)
/-- Where a point writes the first mixer's columns. -/
theorem emb3 (t : Fin cfg0.N) (r : Fin 512) (k : Fin 512) : (win0_3.rect t).emb (ix2 r k) = ix2 (row t r) k := place_of t r k (Window.rect_emb_val win0_3 t (ix2 r k) 0) (Window.rect_emb_val win0_3 t (ix2 r k) 1) (index3 t)
/-- Where it writes the queries. -/
theorem emb4 (t : Fin cfg0.N) (r : Fin 512) (k : Fin 512) : (win0_4.rect t).emb (ix2 r k) = ix2 (row t r) k := place_of t r k (Window.rect_emb_val win0_4 t (ix2 r k) 0) (Window.rect_emb_val win0_4 t (ix2 r k) 1) (index4 t)
/-- Where it writes the keys and values. -/
theorem emb5 (t : Fin cfg0.N) (r : Fin 512) (k : Fin 512) : (win0_5.rect t).emb (ix2 r k) = ix2 (row t r) k := place_of t r k (Window.rect_emb_val win0_5 t (ix2 r k) 0) (Window.rect_emb_val win0_5 t (ix2 r k) 1) (index5 t)
/-- Where it writes the short convolution's columns. -/
theorem emb6 (t : Fin cfg0.N) (r : Fin 512) (k : Fin 768) : (win0_6.rect t).emb (ix2 r k) = ix2 (row t r) k := place_of t r k (Window.rect_emb_val win0_6 t (ix2 r k) 0) (Window.rect_emb_val win0_6 t (ix2 r k) 1) (index6 t)
/-- Where it writes the pooling's columns. -/
theorem emb7 (t : Fin cfg0.N) (r : Fin 512) (k : Fin 256) : (win0_7.rect t).emb (ix2 r k) = ix2 (row t r) k := place_of t r k (Window.rect_emb_val win0_7 t (ix2 r k) 0) (Window.rect_emb_val win0_7 t (ix2 r k) 1) (index7 t)
/-- Where it writes the gates. -/
theorem emb8 (t : Fin cfg0.N) (r : Fin 512) (k : Fin 128) : (win0_8.rect t).emb (ix2 r k) = ix2 (row t r) k := place_of t r k (Window.rect_emb_val win0_8 t (ix2 r k) 0) (Window.rect_emb_val win0_8 t (ix2 r k) 1) (index8 t)

variable (m : (ℓ : Loc nD τ sig) → Buf (Elt Ideal) ℓ) (c : Dev nD)

/-- The rows as the region finds them. -/
def hA : Vec Ideal S8192x1024 .f32 := V m c main_arg0
/-- The gains as the region finds them. -/
def gA : Vec Ideal S1x1024 .f32 := V m c main_v0
/-- The weight as the region finds it. -/
def wA : Vec Ideal S1024x2432 .bf16 := V m c main_v6

/-- A tile of the rows. -/
def x0 (t : Fin cfg0.N) : Vec Ideal S512x1024 .f32 := iblk m c 0 t
/-- The gains' block. -/
def g0 (t : Fin cfg0.N) : Vec Ideal S1x1024 .f32 := iblk m c 1 t
/-- The weight's block. -/
def w0 (t : Fin cfg0.N) : Vec Ideal S1024x2432 .bf16 := iblk m c 2 t

/-- What a tile of the rows holds. -/
theorem block0 (t : Fin cfg0.N) (r : Fin 512) (j : Fin 1024) : x0 m c t (ix2 r j) = hA m c (ix2 (row t r) j) := congrArg (hA m c) (emb0 t r j)

/-- What the gains' block holds. -/
theorem block1 (t : Fin cfg0.N) (j : Fin 1024) : g0 m c t (ix2 0 j) = gA m c (ix2 0 j) :=
  congrArg (gA m c) (show (win0_1.rect t).emb (ix2 0 j) = ix2 0 j from funext fun a => Fin.ext (match a with
    | ⟨0, _⟩ => (Window.rect_emb_val win0_1 t (ix2 0 j) 0).trans (by rw [(index1 t).1]; rfl)
    | ⟨1, _⟩ => (Window.rect_emb_val win0_1 t (ix2 0 j) 1).trans (by rw [(index1 t).2]; show 0 * 1024 + j.val = j.val; omega)))

/-- What the weight's block holds. -/
theorem block2 (t : Fin cfg0.N) (j : Fin 1024) (k : Fin 2432) : w0 m c t (ix2 j k) = wA m c (ix2 j k) :=
  congrArg (wA m c) (show (win0_2.rect t).emb (ix2 j k) = ix2 j k from funext fun a => Fin.ext (match a with
    | ⟨0, _⟩ => (Window.rect_emb_val win0_2 t (ix2 j k) 0).trans (by rw [(index2 t).1]; show 0 * 1024 + j.val = j.val; omega)
    | ⟨1, _⟩ => (Window.rect_emb_val win0_2 t (ix2 j k) 1).trans (by rw [(index2 t).2]; show 0 * 2432 + k.val = k.val; omega)))

/-- The projection. -/
def zA (i : Fin 8192) (n : Fin 2432) : EReal := ∑ j : Fin 1024, normed (fun i' => hA m c (ix2 i i')) (fun i' => gA m c (ix2 0 i')) j * wA m c (ix2 j n)

/-- A point's tile of the projection. -/
theorem z_at (t : Fin cfg0.N) (r : Fin 512) (n : Fin 2432) : (k0_pay7 (F := Ideal) (x0 m c t) (g0 m c t) (w0 m c t) (ix2 r n) : EReal) = zA m c (row t r) n := by
  refine (z_tile (x0 m c t) (g0 m c t) (w0 m c t) r n).trans ?_
  simp only [block0, block1, block2]
  rfl

/-- Some of the projection's columns. -/
def cols (o C : ℕ) (h : o + C ≤ 2432) : (⟨2, ![8192, C]⟩ : Shape).Idx → EReal := fun y => zA m c (y 0) ⟨o + (y 1).val, by have : (y 1).val < C := (y 1).isLt; omega⟩

/-- A point's tile of some of the columns. -/
theorem cols_at (o C : ℕ) (h : o + C ≤ 2432) (hs : (⟨2, ![512, 2432]⟩ : Shape).Slices ![0, o] ⟨2, ![512, C]⟩) (t : Fin cfg0.N) (r : Fin 512) (k : Fin C) (y : (⟨2, ![8192, C]⟩ : Shape).Idx) (hy : y = ix2 (row t r) k) :
    extractStridedSlice ⟨2, ![512, C]⟩ ![0, o] (k0_pay7 (F := Ideal) (x0 m c t) (g0 m c t) (w0 m c t)) hs (ix2 r k) = cols m c o C h y := by
  have hk := k.isLt
  rw [hy]
  exact (columns_at _ o hs r k ⟨o + k.val, by omega⟩ rfl).trans (z_at m c t r _)

/-- The queries. -/
def qA : Vec Ideal S8192x512 .bf16 := fun y => qLane (fun z => zA m c (y 0) ⟨512 + z.val, by have := z.isLt; omega⟩) (y 1)

/-- The first mixer's columns after the grid. -/
theorem final3 : (dats m 0 c).arrAt 3 cfg0.N = cols m c 0 512 (by decide) := by
  refine Dat.arrAt_eq_of_cover (dats m 0 c) 3 (cols m c 0 512 (by decide)) (fun t _ => ?_) (fun y => ?_)
  · rw [flushed3]
    refine ext_mat (e := .f32) _ _ fun r k => ?_
    exact (congrFun (outs (x0 m c t) (g0 m c t) (w0 m c t)).1 (ix2 r k)).trans (cols_at m c 0 512 (by decide) slices_S512x2432_o0_0_S512x512 t r k _ (emb3 t r k))
  · obtain ⟨t, r, e⟩ := reached (y 0)
    refine ⟨t, flush0_3 t, ?_⟩
    have hm := ((cfg0.win 3).blk t).view.emb_mem_set (ix2 r (y 1))
    rwa [show ((cfg0.win 3).blk t).view.emb (ix2 r (y 1)) = y from (emb3 t r (y 1)).trans ((congrArg (fun i => ix2 i (y 1)) e).trans (eq_ix2 y).symm)] at hm

/-- The queries after the grid. -/
theorem final4 : (dats m 0 c).arrAt 4 cfg0.N = qA m c := by
  refine Dat.arrAt_eq_of_cover (dats m 0 c) 4 (qA m c) (fun t _ => ?_) (fun y => ?_)
  · rw [flushed4]
    refine ext_mat (e := .bf16) _ _ fun r k => ?_
    refine (congrFun (outs (x0 m c t) (g0 m c t) (w0 m c t)).2.1 (ix2 r k)).trans ?_
    refine (q_tile (x0 m c t) (g0 m c t) (w0 m c t) r k).trans ?_
    simp only [z_at]
    exact (congrArg (qA m c) (emb4 t r k)).symm
  · obtain ⟨t, r, e⟩ := reached (y 0)
    refine ⟨t, flush0_4 t, ?_⟩
    have hm := ((cfg0.win 4).blk t).view.emb_mem_set (ix2 r (y 1))
    rwa [show ((cfg0.win 4).blk t).view.emb (ix2 r (y 1)) = y from (emb4 t r (y 1)).trans ((congrArg (fun i => ix2 i (y 1)) e).trans (eq_ix2 y).symm)] at hm

/-- The keys and values after the grid. -/
theorem final5 : (dats m 0 c).arrAt 5 cfg0.N = cols m c 768 512 (by decide) := by
  refine Dat.arrAt_eq_of_cover (dats m 0 c) 5 (cols m c 768 512 (by decide)) (fun t _ => ?_) (fun y => ?_)
  · rw [flushed5]
    refine ext_mat (e := .bf16) _ _ fun r k => ?_
    exact (congrFun (outs (x0 m c t) (g0 m c t) (w0 m c t)).2.2.1 (ix2 r k)).trans (cols_at m c 768 512 (by decide) slices_S512x2432_o0_768_S512x512 t r k _ (emb5 t r k))
  · obtain ⟨t, r, e⟩ := reached (y 0)
    refine ⟨t, flush0_5 t, ?_⟩
    have hm := ((cfg0.win 5).blk t).view.emb_mem_set (ix2 r (y 1))
    rwa [show ((cfg0.win 5).blk t).view.emb (ix2 r (y 1)) = y from (emb5 t r (y 1)).trans ((congrArg (fun i => ix2 i (y 1)) e).trans (eq_ix2 y).symm)] at hm

/-- The short convolution's columns after the grid. -/
theorem final6 : (dats m 0 c).arrAt 6 cfg0.N = cols m c 1280 768 (by decide) := by
  refine Dat.arrAt_eq_of_cover (dats m 0 c) 6 (cols m c 1280 768 (by decide)) (fun t _ => ?_) (fun y => ?_)
  · rw [flushed6]
    refine ext_mat (e := .f32) _ _ fun r k => ?_
    exact (congrFun (outs (x0 m c t) (g0 m c t) (w0 m c t)).2.2.2.1 (ix2 r k)).trans (cols_at m c 1280 768 (by decide) slices_S512x2432_o0_1280_S512x768 t r k _ (emb6 t r k))
  · obtain ⟨t, r, e⟩ := reached (y 0)
    refine ⟨t, flush0_6 t, ?_⟩
    have hm := ((cfg0.win 6).blk t).view.emb_mem_set (ix2 r (y 1))
    rwa [show ((cfg0.win 6).blk t).view.emb (ix2 r (y 1)) = y from (emb6 t r (y 1)).trans ((congrArg (fun i => ix2 i (y 1)) e).trans (eq_ix2 y).symm)] at hm

/-- The pooling's columns after the grid. -/
theorem final7 : (dats m 0 c).arrAt 7 cfg0.N = cols m c 2048 256 (by decide) := by
  refine Dat.arrAt_eq_of_cover (dats m 0 c) 7 (cols m c 2048 256 (by decide)) (fun t _ => ?_) (fun y => ?_)
  · rw [flushed7]
    refine ext_mat (e := .f32) _ _ fun r k => ?_
    exact (congrFun (outs (x0 m c t) (g0 m c t) (w0 m c t)).2.2.2.2.1 (ix2 r k)).trans (cols_at m c 2048 256 (by decide) slices_S512x2432_o0_2048_S512x256 t r k _ (emb7 t r k))
  · obtain ⟨t, r, e⟩ := reached (y 0)
    refine ⟨t, flush0_7 t, ?_⟩
    have hm := ((cfg0.win 7).blk t).view.emb_mem_set (ix2 r (y 1))
    rwa [show ((cfg0.win 7).blk t).view.emb (ix2 r (y 1)) = y from (emb7 t r (y 1)).trans ((congrArg (fun i => ix2 i (y 1)) e).trans (eq_ix2 y).symm)] at hm

/-- The gates after the grid. -/
theorem final8 : (dats m 0 c).arrAt 8 cfg0.N = cols m c 2304 128 (by decide) := by
  refine Dat.arrAt_eq_of_cover (dats m 0 c) 8 (cols m c 2304 128 (by decide)) (fun t _ => ?_) (fun y => ?_)
  · rw [flushed8]
    refine ext_mat (e := .f32) _ _ fun r k => ?_
    exact (congrFun (outs (x0 m c t) (g0 m c t) (w0 m c t)).2.2.2.2.2 (ix2 r k)).trans (cols_at m c 2304 128 (by decide) slices_S512x2432_o0_2304_S512x128 t r k _ (emb8 t r k))
  · obtain ⟨t, r, e⟩ := reached (y 0)
    refine ⟨t, flush0_8 t, ?_⟩
    have hm := ((cfg0.win 8).blk t).view.emb_mem_set (ix2 r (y 1))
    rwa [show ((cfg0.win 8).blk t).view.emb (ix2 r (y 1)) = y from (emb8 t r (y 1)).trans ((congrArg (fun i => ix2 i (y 1)) e).trans (eq_ix2 y).symm)] at hm

/-! ## What the host hands over -/

/-- The rows are the argument's. -/
theorem h_read : hA m c = m ((c : Thread nD τ).loc main_arg0) := V_main_arg0 m c

/-- The gains are the argument's. -/
theorem g_read (j : Fin 1024) : (gA m c (ix2 0 j) : EReal) = (m ((c : Thread nD τ).loc main_arg1) : FVec Ideal S1024 .f32) (ix1 j) := by
  have e : gA m c = Cert.MixInFwdReferenceIdeal.Read.val_main_v10 (F := Ideal) (m ((c : Thread nD τ).loc main_arg1)) := by
    unfold gA
    show StableHlo.after (List.flatten [hostOps0]) (fun b => m (c, b)) (Proc.devRef .tc main_v0) = _
    simp only [hostOps0, List.flatten_cons, List.flatten_nil, List.append_nil, cast_eq]
    after_results_simp
    rfl
  rw [e, Cert.MixInFwdReferenceIdeal.Read.val_main_v10_apply (F := Ideal)]
  exact congrArg _ (funext fun a => Fin.ext (match a with | ⟨0, _⟩ => rfl))

/-- The weight is the argument's, in the kernel's order. -/
theorem w_read (j : Fin 1024) (n : Fin 2432) : (wA m c (ix2 j n) : EReal) = inOrder (m ((c : Thread nD τ).loc main_arg2)) j n := by
  have e : wA m c = truncf .bf16 (concatenate S1024x2432 1 [⟨S1024x1280, extractStridedSlice S1024x1280 ![0, 0] (m ((c : Thread nD τ).loc main_arg2)) slices_S1024x2308_S1024x1280_0_0⟩, ⟨S1024x1024, extractStridedSlice S1024x1024 ![0, 1284] (m ((c : Thread nD τ).loc main_arg2)) slices_S1024x2308_S1024x1024_0_1284⟩,
      ⟨S1024x4, extractStridedSlice S1024x4 ![0, 1280] (m ((c : Thread nD τ).loc main_arg2)) slices_S1024x2308_S1024x4_0_1280⟩, ⟨S1024x124, broadcastInDim S1024x124 ![] bcast_S_S1024x124 (constant (F := Ideal) S_ .f32 0x00000000#32)⟩] concatenates_S1024x1280_S1024x1024_S1024x4_S1024x124_S1024x2432_d1) bitsLt_bf16_f32 := by
    unfold wA
    show StableHlo.after (List.flatten [hostOps0]) (fun b => m (c, b)) (Proc.devRef .tc main_v6) = _
    simp only [hostOps0, List.flatten_cons, List.flatten_nil, List.append_nil, cast_eq]
    after_results_simp
    rfl
  rw [e]
  exact inOrder_at (m ((c : Thread nD τ).loc main_arg2)) _ _ _ _ (fun y => zero_bits) concatenates_S1024x1280_S1024x1024_S1024x4_S1024x124_S1024x2432_d1 j n

/-! ## The reference -/

section reference

open Cert.MixInFwdReferenceIdeal.Read

variable (h : FVec Ideal S8192x1024 .f32) (g : FVec Ideal S1024 .f32) (w : FVec Ideal S1024x2308 .f32)

/-- The reference's normalised rows. -/
theorem ref_normed (i : Fin 8192) (j : Fin 1024) : (val_main_v12 (F := Ideal) h g (ix2 i j) : EReal) = normed (fun k => h (ix2 i k)) (fun k => g (ix1 k)) j := by
  rw [val_main_v12_apply (F := Ideal), val_main_v9_apply (F := Ideal), val_main_v8_apply (F := Ideal), val_main_v7_apply (F := Ideal), val_main_v6_apply (F := Ideal), val_main_v4_apply (F := Ideal),
    val_main_v2_apply (F := Ideal), val_main_v3_apply (F := Ideal), val_main_v5_apply (F := Ideal), val_main_v1_apply, val_main_cst_apply (F := Ideal), val_main_cst_0_apply (F := Ideal), val_main_cst_1_apply (F := Ideal),
    val_main_v11_apply (F := Ideal), val_main_v10_apply (F := Ideal), show idx_main_v10 (idx_main_v11 (ix2 i j)) = ix1 j from funext fun a => Fin.ext (match a with | ⟨0, _⟩ => rfl)]
  show (h (ix2 i j) : EReal) * Ideal.rsqrt (Ideal.div (Ideal.ofBits .f32 0x00000000#32 + _) (Ideal.ofBits .f32 0x44800000#32) + Ideal.ofBits .f32 0x358637BD#32) * g (ix1 j) = _
  rw [zero_bits, zero_add]
  unfold normed size meanSq
  refine congrArg (fun z : EReal => h (ix2 i j) * Ideal.rsqrt (Ideal.div z _ + _) * g (ix1 j)) (Finset.sum_congr rfl fun k _ => ?_)
  rw [show idx_main_v1 (idx_main_v2 (idx_main_v8 (ix2 i j))) k = ix2 i k from Shape.idx_ext₂ (y := ix2 i k) rfl rfl, val_main_v0_apply (F := Ideal)]
  rfl

/-- The reference's projection. -/
theorem ref_z (i : Fin 8192) (k : Fin 2308) : (val_main_v13 (F := Ideal) h g w (ix2 i k) : EReal) = ∑ j : Fin 1024, normed (fun l => h (ix2 i l)) (fun l => g (ix1 l)) j * w (ix2 j k) := by
  rw [val_main_v13_apply]
  refine Finset.sum_congr rfl fun j _ => ?_
  rw [show lidx_main_v13 (ix2 i k) j = ix2 i j from Shape.idx_ext₂ (y := ix2 i j) rfl rfl, show ridx_main_v13 (ix2 i k) j = ix2 j k from Shape.idx_ext₂ (y := ix2 j k) rfl rfl, ref_normed]

/-- One piece of a concatenation along the lanes of the heads, at an index. -/
theorem lane_piece {R n : ℕ} (xs : List ((s : Shape) × (s.Idx → EReal))) (hc : Shape.Concatenates (xs.map (·.1)) ⟨3, ![R, 4, 128]⟩ 2) (i : Fin R) (a : Fin 4) (l : Fin 128)
    (p : ℕ) (hp : p < xs.length) (x : (⟨3, ![R, 4, n]⟩ : Shape).Idx → EReal) (hx : xs[p] = ⟨⟨3, ![R, 4, n]⟩, x⟩) (pre : ℕ)
    (hpre : (((xs.take p).map (·.1)).map fun s => if h : s.rank = (⟨3, ![R, 4, 128]⟩ : Shape).rank then s.size ((2 : Fin 3).cast h.symm) else 0).sum = pre)
    (z : Fin n) (ha : pre + z.val = l.val) : concatenate ⟨3, ![R, 4, 128]⟩ 2 xs hc (ix3 i a l) = x (ix3 i a z) :=
  concatenate_apply_piece (t := ⟨3, ![R, 4, 128]⟩) (2 : Fin 3) xs hc (ix3 i a l) p hp ⟨3, ![R, 4, n]⟩ x hx rfl pre hpre (ix3 i a z)
    (fun b hb => match b, hb with
      | ⟨0, _⟩, _ => rfl
      | ⟨1, _⟩, _ => rfl
      | ⟨2, _⟩, hb => absurd rfl hb) ha

/-- The reference's queries. -/
theorem ref_q (i : Fin 8192) (l : Fin 512) : (val_main_v29 (F := Ideal) h g w (ix2 i l) : EReal) = qLane (fun z => val_main_v13 (F := Ideal) h g w (ix2 i ⟨512 + z.val, by have := z.isLt; omega⟩)) l := by
  have hi := i.isLt
  have hl := l.isLt
  let a : Fin 4 := ⟨l.val / 128, by omega⟩
  rw [val_main_v29_apply (F := Ideal)]
  show (val_main_v26 (F := Ideal) h g w (ix2 i l) : EReal) = _
  rw [val_main_v26_apply (F := Ideal), show idx_main_v26 (ix2 i l) = ix3 i a ⟨l.val % 128, Nat.mod_lt _ (by decide)⟩ from funext fun b => Fin.ext (match b with
    | ⟨0, _⟩ => show (i.val * 512 + l.val) / 512 = i.val by omega
    | ⟨1, _⟩ => show (i.val * 512 + l.val) / 128 % 4 = l.val / 128 by omega
    | ⟨2, _⟩ => show (i.val * 512 + l.val) % 128 = l.val % 128 by omega)]
  unfold qLane headLane val_main_v25
  split_ifs with h1 h2
  · have h1' : l.val % 128 < 64 := h1
    refine Eq.trans (lane_piece _ _ i a _ 0 (by simp) _ (by rfl) 0 (by rfl) (⟨l.val % 128, h1⟩ : Fin 64) (Nat.zero_add _)) ?_
    rw [val_main_v22_apply (F := Ideal), val_main_v21_apply (F := Ideal), val_main_v15_apply (F := Ideal), val_main_v20_apply (F := Ideal), val_main_cst_2_apply (F := Ideal)]
    refine congrArg (fun y => (val_main_v13 (F := Ideal) h g w y : EReal) * Ideal.ofBits .f32 0x3E000000#32) (funext fun b => Fin.ext (match b with
      | ⟨0, _⟩ => show ((i.val * 4 + l.val / 128) * 64 + l.val % 128) / 256 = i.val by omega
      | ⟨1, _⟩ => show 512 + ((i.val * 4 + l.val / 128) * 64 + l.val % 128) % 256 = 512 + (64 * (l.val / 128) + l.val % 128) by omega))
  · have h1' : ¬ l.val % 128 < 64 := h1
    have h2' : l.val % 128 < 67 := h2
    refine (lane_piece _ _ i a _ 1 (by simp) _ (by rfl) 64 (by rfl) (⟨l.val % 128 - 64, by omega⟩ : Fin 3) (show 64 + (l.val % 128 - 64) = l.val % 128 by omega)).trans ?_
    rw [val_main_v23_apply (F := Ideal), val_main_cst_3_apply (F := Ideal)]
    rfl
  · have h2' : ¬ l.val % 128 < 67 := h2
    refine (lane_piece _ _ i a _ 2 (by simp) _ (by rfl) 67 (by rfl) (⟨l.val % 128 - 67, by omega⟩ : Fin 61) (show 67 + (l.val % 128 - 67) = l.val % 128 by omega)).trans ?_
    rw [val_main_v24_apply (F := Ideal), val_main_cst_4_apply (F := Ideal)]
    rfl

end reference

open Cert.MixInFwdReferenceIdeal.Read in
/-- The kernel's projection is the reference's, in the kernel's order. -/
theorem z_same (i : Fin 8192) (n : Fin 2432) : zA m c i n = inOrder (val_main_v13 (F := Ideal) (m ((c : Thread nD τ).loc main_arg0)) (m ((c : Thread nD τ).loc main_arg1)) (m ((c : Thread nD τ).loc main_arg2))) i n := by
  unfold zA
  simp only [w_read, h_read, g_read]
  unfold inOrder
  split_ifs with h
  · exact (ref_z _ _ _ i _).symm
  · exact Finset.sum_eq_zero fun j _ => mul_zero _

open Cert.MixInFwdReferenceIdeal.Read in
/-- One of its columns. -/
theorem z_column (i : Fin 8192) (n k : ℕ) (hn : n < 2308) (hk : place n = k) (hk' : k < 2308) (y : (⟨2, ![8192, 2308]⟩ : Shape).Idx) (hy : y = ix2 i ⟨k, hk'⟩) :
    zA m c i ⟨n, by omega⟩ = val_main_v13 (F := Ideal) (m ((c : Thread nD τ).loc main_arg0)) (m ((c : Thread nD τ).loc main_arg1)) (m ((c : Thread nD τ).loc main_arg2)) y := by
  subst hk
  rw [z_same, hy]
  unfold inOrder
  exact dif_pos hn

/-- The first mixer's columns are the reference's. -/
theorem same3 : cols m c 0 512 (by decide) = Cert.MixInFwdReferenceIdeal.Read.val_main_v14 (F := Ideal) (m ((c : Thread nD τ).loc main_arg0)) (m ((c : Thread nD τ).loc main_arg1)) (m ((c : Thread nD τ).loc main_arg2)) :=
  ext_mat (e := .f32) _ _ fun i j => by
    have hj := j.isLt
    rw [Cert.MixInFwdReferenceIdeal.Read.val_main_v14_apply (F := Ideal)]
    exact z_column m c i (0 + j.val) (j.val) (by omega) (by unfold place; split_ifs <;> omega) (by omega) _ (Shape.idx_ext₂ rfl rfl)

/-- The queries are the reference's. -/
theorem same4 : qA m c = Cert.MixInFwdReferenceIdeal.Read.val_main_v29 (F := Ideal) (m ((c : Thread nD τ).loc main_arg0)) (m ((c : Thread nD τ).loc main_arg1)) (m ((c : Thread nD τ).loc main_arg2)) :=
  ext_mat (e := .bf16) _ _ fun i l => by
    refine Eq.trans ?_ (ref_q _ _ _ i l).symm
    refine congrArg (fun f : Fin 256 → EReal => qLane f l) (funext fun z => ?_)
    have hz := z.isLt
    exact z_column m c i (512 + z.val) (512 + z.val) (by omega) (by unfold place; split_ifs <;> omega) (by omega) _ rfl

/-- The keys and values are the reference's. -/
theorem same5 : cols m c 768 512 (by decide) = Cert.MixInFwdReferenceIdeal.Read.val_main_v30 (F := Ideal) (m ((c : Thread nD τ).loc main_arg0)) (m ((c : Thread nD τ).loc main_arg1)) (m ((c : Thread nD τ).loc main_arg2)) :=
  ext_mat (e := .bf16) _ _ fun i j => by
    have hj := j.isLt
    rw [Cert.MixInFwdReferenceIdeal.Read.val_main_v30_apply (F := Ideal)]
    refine Eq.trans ?_ (Cert.MixInFwdReferenceIdeal.Read.val_main_v16_apply (F := Ideal) _ _ _ (ix2 i j)).symm
    exact z_column m c i (768 + j.val) (768 + j.val) (by omega) (by unfold place; split_ifs <;> omega) (by omega) _ (Shape.idx_ext₂ rfl rfl)

/-- The short convolution's columns are the reference's. -/
theorem same6 : cols m c 1280 768 (by decide) = Cert.MixInFwdReferenceIdeal.Read.val_main_v18 (F := Ideal) (m ((c : Thread nD τ).loc main_arg0)) (m ((c : Thread nD τ).loc main_arg1)) (m ((c : Thread nD τ).loc main_arg2)) :=
  ext_mat (e := .f32) _ _ fun i j => by
    have hj := j.isLt
    rw [Cert.MixInFwdReferenceIdeal.Read.val_main_v18_apply (F := Ideal)]
    exact z_column m c i (1280 + j.val) (1284 + j.val) (by omega) (by unfold place; split_ifs <;> omega) (by omega) _ (Shape.idx_ext₂ rfl rfl)

/-- The pooling's columns are the reference's. -/
theorem same7 : cols m c 2048 256 (by decide) = Cert.MixInFwdReferenceIdeal.Read.val_main_v19 (F := Ideal) (m ((c : Thread nD τ).loc main_arg0)) (m ((c : Thread nD τ).loc main_arg1)) (m ((c : Thread nD τ).loc main_arg2)) :=
  ext_mat (e := .f32) _ _ fun i j => by
    have hj := j.isLt
    rw [Cert.MixInFwdReferenceIdeal.Read.val_main_v19_apply (F := Ideal)]
    exact z_column m c i (2048 + j.val) (2052 + j.val) (by omega) (by unfold place; split_ifs <;> omega) (by omega) _ (Shape.idx_ext₂ rfl rfl)

/-- The gates are the reference's. -/
theorem same8 : cols m c 2304 128 (by decide) = Cert.MixInFwdReferenceIdeal.Read.val_main_v28 (F := Ideal) (m ((c : Thread nD τ).loc main_arg0)) (m ((c : Thread nD τ).loc main_arg1)) (m ((c : Thread nD τ).loc main_arg2)) :=
  ext_mat (e := .f32) _ _ fun i j => by
    have hj := j.isLt
    unfold Cert.MixInFwdReferenceIdeal.Read.val_main_v28
    by_cases h : j.val < 4
    · refine Eq.trans ?_ (piece_at _ _ i j 0 (by simp) _ (by rfl) 0 (by rfl) (⟨j.val, h⟩ : Fin 4) (Nat.zero_add _)).symm
      rw [Cert.MixInFwdReferenceIdeal.Read.val_main_v17_apply (F := Ideal)]
      exact z_column m c i (2304 + j.val) (1280 + j.val) (by omega) (by unfold place; split_ifs <;> omega) (by omega) _ (Shape.idx_ext₂ rfl rfl)
    · refine Eq.trans ?_ (piece_at _ _ i j 1 (by simp) _ (by rfl) 4 (by rfl) (⟨j.val - 4, by omega⟩ : Fin 124) (show 4 + (j.val - 4) = j.val by omega)).symm
      refine (z_same m c i _).trans ?_
      unfold inOrder
      exact (dif_neg (show ¬ 2304 + j.val < 2308 by omega)).trans zero_bits.symm

end Cert.Mix.InFwd

end
-- ==== Proof.Mix.Forward.lean ====
module

public import proofs.«01_k».proof.Defs
public import proofs.«01_k».proof.Proof.Mix.InFwd
public import proofs.«01_k».proof.Proof.Gen.MixInFwd

@[expose] public section

noncomputable section

/-! # The claims of the mixer's input projection -/

namespace Cert.Mix

open Idealize.ShloMosaic Idealize.SL.Sem

set_option maxHeartbeats 1000000 in
/-- The two printed texts of the input projection have the same functions. -/
theorem project_defs : (Cert.MixInFwd.defs (F := Bits)) = Cert.MixInFwdIdeal.defs (F := Bits) := by
  unfold Cert.MixInFwd.defs Cert.MixInFwdIdeal.defs
  refine congrArg (Pipeline.defs (Cert.MixInFwdIdeal.pcfgs (F := Bits))) ?_
  unfold Cert.MixInFwd.defs₀ Cert.MixInFwdIdeal.defs₀
  refine congrArg _ ?_
  funext l a
  match l, a with
  | 0, (t, s) => rfl

set_option maxHeartbeats 1000000 in
/-- The input projection, as printed, ends with its arguments unchanged and its counters at zero. -/
theorem project_frame : @Cert.quiescent_MixInFwd Cert.MixInFwd.Gen.facts := fun m ρ _ => by
  rw [project_defs, show (Cert.MixInFwd.main (F := Bits)) = Cert.MixInFwdIdeal.main (F := Bits) from rfl]
  exact Cert.MixInFwdIdeal.Gen.frame (F := Bits) m ρ

/-- So does it over the extended reals. -/
theorem project_frame_ideal : @Cert.quiescent_MixInFwdIdeal Cert.MixInFwdIdeal.Gen.facts := fun m ρ _ => Cert.MixInFwdIdeal.Gen.frame m ρ

/-- So does its reference. -/
theorem project_frame_reference : @Cert.quiescent_MixInFwdReferenceIdeal Cert.MixInFwdReferenceIdeal.Gen.facts :=
  fun m ρ _ => (θ_run Cert.MixInFwdReferenceIdeal.defs _ _).mono (fun _ h => ⟨fun c => (h c).2.2.2.2.2.2, sem_eq_zero_of_no_sems (by decide) _⟩) (Cert.MixInFwdReferenceIdeal.Value.run (F := Ideal) m ρ)

/-- The kernel and the reference end with the same six arrays. -/
theorem project_results : @Cert.algebraic_MixInFwdIdeal_MixInFwdReferenceIdeal Cert.MixInFwdIdeal.Gen.facts Cert.MixInFwdReferenceIdeal.Gen.facts := by
  intro m g m' g' _ hargs
  refine ⟨fun c => InFwd.cols m c 0 512 (by decide), fun c => InFwd.qA m c, fun c => InFwd.cols m c 768 512 (by decide), fun c => InFwd.cols m c 1280 768 (by decide),
    fun c => InFwd.cols m c 2048 256 (by decide), fun c => InFwd.cols m c 2304 128 (by decide), ?_, ?_⟩
  · refine (θ_run Cert.MixInFwdIdeal.defs _ _).mono (fun _ h c => ?_) (Cert.MixInFwdIdeal.Value.run_blocks m g)
    obtain ⟨h3, h4, h5, h6, h7, h8, hk⟩ := h c
    exact ⟨h3.trans (InFwd.final3 m c), h4.trans (InFwd.final4 m c), h5.trans (InFwd.final5 m c), h6.trans (InFwd.final6 m c), h7.trans (InFwd.final7 m c), h8.trans (InFwd.final8 m c), hk⟩
  · refine (θ_run Cert.MixInFwdReferenceIdeal.defs _ _).mono (fun _ h c => ?_) (Cert.MixInFwdReferenceIdeal.Value.run (F := Ideal) m' g')
    obtain ⟨a0, a1, a2⟩ := hargs c
    obtain ⟨h3, h4, h5, h6, h7, h8, hk⟩ := h c
    refine ⟨h3.trans ?_, h4.trans ?_, h5.trans ?_, h6.trans ?_, h7.trans ?_, h8.trans ?_, hk⟩
    · rw [Cert.MixInFwdReferenceIdeal.Read.val_main_v14_eq, a0, a1, a2]
      exact (InFwd.same3 m c).symm
    · rw [Cert.MixInFwdReferenceIdeal.Read.val_main_v29_eq, a0, a1, a2]
      exact (InFwd.same4 m c).symm
    · rw [Cert.MixInFwdReferenceIdeal.Read.val_main_v30_eq, a0, a1, a2]
      exact (InFwd.same5 m c).symm
    · rw [Cert.MixInFwdReferenceIdeal.Read.val_main_v18_eq, a0, a1, a2]
      exact (InFwd.same6 m c).symm
    · rw [Cert.MixInFwdReferenceIdeal.Read.val_main_v19_eq, a0, a1, a2]
      exact (InFwd.same7 m c).symm
    · rw [Cert.MixInFwdReferenceIdeal.Read.val_main_v28_eq, a0, a1, a2]
      exact (InFwd.same8 m c).symm

end Cert.Mix

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Fox.Frames
public import proofs.«01_k».proof.Proof.Fox.Algebraic
public import proofs.«01_k».proof.Proof.Mlp.Weights
public import proofs.«01_k».proof.Proof.Mlp.Backward
public import proofs.«01_k».proof.Proof.Mlp.Forward
public import proofs.«01_k».proof.Proof.Ple.Claims
public import proofs.«01_k».proof.Proof.Mix.Claims
public import proofs.«01_k».proof.Proof.Mix.Forward
public import proofs.«01_k».proof.Proof.Gen.Pre_finite
public import Idealize.ShloMosaic.Adequacy
public import Idealize.ShloMosaic.Init

@[expose] public section

noncomputable section

namespace Cert.Proof

open Idealize.ShloMosaic Idealize.SL.Sem Cert.Kernel

/-- The claims: each program's frame, and each kernel's results against its reference's. -/
theorem claim : Cert.Claim := ⟨Cert.Kernel.Gen.facts, Cert.KernelIdeal.Gen.facts, Cert.ReferenceIdeal.Gen.facts,
  Cert.DwUp.Gen.facts, Cert.DwUpIdeal.Gen.facts, Cert.DwUpReferenceIdeal.Gen.facts, Cert.DwDown.Gen.facts, Cert.DwDownIdeal.Gen.facts, Cert.DwDownReferenceIdeal.Gen.facts,
  Cert.MlpDown.Gen.facts, Cert.MlpDownIdeal.Gen.facts, Cert.MlpDownReferenceIdeal.Gen.facts, Cert.MlpUp.Gen.facts, Cert.MlpUpIdeal.Gen.facts, Cert.MlpUpReferenceIdeal.Gen.facts,
  Cert.MlpUpFwd.Gen.facts, Cert.MlpUpFwdIdeal.Gen.facts, Cert.MlpUpFwdReferenceIdeal.Gen.facts, Cert.MlpDownFwd.Gen.facts, Cert.MlpDownFwdIdeal.Gen.facts, Cert.MlpDownFwdReferenceIdeal.Gen.facts,
  Cert.PleBwd.Gen.facts, Cert.PleBwdIdeal.Gen.facts, Cert.PleBwdReferenceIdeal.Gen.facts, Cert.PleFwd.Gen.facts, Cert.PleFwdIdeal.Gen.facts, Cert.PleFwdReferenceIdeal.Gen.facts,
  Cert.DwIn.Gen.facts, Cert.DwInIdeal.Gen.facts, Cert.DwInReferenceIdeal.Gen.facts, Cert.MixIn.Gen.facts, Cert.MixInIdeal.Gen.facts, Cert.MixInReferenceIdeal.Gen.facts,
  Cert.MixInFwd.Gen.facts, Cert.MixInFwdIdeal.Gen.facts, Cert.MixInFwdReferenceIdeal.Gen.facts,
  Cert.Pre_finite.Gen.facts,
  frame_kernel, frame_ideal, frame_ideal_finite, frame_reference, frame_reference_finite,
  Cert.Mlp.frame_up, Cert.Mlp.frame_up_ideal, Cert.Mlp.frame_up_reference, Cert.Mlp.frame_down, Cert.Mlp.frame_down_ideal, Cert.Mlp.frame_down_reference,
  Cert.Mlp.first_frame, Cert.Mlp.first_frame_ideal, Cert.Mlp.first_frame_reference, Cert.Mlp.second_frame, Cert.Mlp.second_frame_ideal, Cert.Mlp.second_frame_reference,
  Cert.Mlp.up_forward_frame, Cert.Mlp.up_forward_frame_ideal, Cert.Mlp.up_forward_frame_reference, Cert.Mlp.down_forward_frame, Cert.Mlp.down_forward_frame_ideal, Cert.Mlp.down_forward_frame_reference,
  Cert.Ple.backward_frame, Cert.Ple.backward_frame_ideal, Cert.Ple.backward_frame_reference, Cert.Ple.forward_frame, Cert.Ple.forward_frame_ideal, Cert.Ple.forward_frame_reference,
  Cert.Mix.weight_frame, Cert.Mix.weight_frame_ideal, Cert.Mix.weight_frame_reference, Cert.Mix.rows_frame, Cert.Mix.rows_frame_ideal, Cert.Mix.rows_frame_reference,
  Cert.Mix.project_frame, Cert.Mix.project_frame_ideal, Cert.Mix.project_frame_reference,
  trivial, Cert.Fox.gradients, trivial, Cert.Mlp.gradient_up, trivial, Cert.Mlp.gradient_down, trivial, Cert.Mlp.first_results, trivial, Cert.Mlp.second_results,
  trivial, Cert.Mlp.up_forward_results, trivial, Cert.Mlp.down_forward_results,
  trivial, Cert.Ple.backward_results, trivial, Cert.Ple.forward_results,
  trivial, Cert.Mix.weight_results, trivial, Cert.Mix.rows_results, trivial, Cert.Mix.project_results⟩

end Cert.Proof

end
